-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite [hPre_finite : Cert.Pre_finite.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).1 = (fun _ => 1#1)
    ∧ (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.1 = (fun _ => 1#1)
    ∧ (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.2.1 = (fun _ => 1#1)
    ∧ (Cert.Pre_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))).2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite [hPre_finite : Cert.Pre_finite.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).1 = (fun _ => 1#1)
    ∧ (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.1 = (fun _ => 1#1)
    ∧ (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.2.1 = (fun _ => 1#1)
    ∧ (Cert.Pre_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))).2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Kernel17Ideal_pre_finite [hKernel17Ideal : Cert.Kernel17Ideal.Facts] [hPre_finite : Cert.Pre_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_finite [hReference17Ideal : Cert.Reference17Ideal.Facts] [hPre_finite : Cert.Pre_finite.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v16_0)) (v1 : (c : Dev Cert.Kernel12Ideal.nD) → Buf (Elt Ideal) ((c.tc : Thread Cert.Kernel12Ideal.nD Cert.Kernel12Ideal.τ).loc Cert.Kernel12Ideal.main_v16_1)) (v2 : (c : Dev Cert.Kernel12Ideal.nD) → Buf (Elt Ideal) ((c.tc : Thread Cert.Kernel12Ideal.nD Cert.Kernel12Ideal.τ).loc Cert.Kernel12Ideal.main_v16_2)) (v3 : (c : Dev Cert.Kernel12Ideal.nD) → Buf (Elt Ideal) ((c.tc : Thread Cert.Kernel12Ideal.nD Cert.Kernel12Ideal.τ).loc Cert.Kernel12Ideal.main_v16_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v16_0) = v0 c
          ∧ r.2.mem ((c.tc : Thread Cert.Kernel12Ideal.nD Cert.Kernel12Ideal.τ).loc Cert.Kernel12Ideal.main_v16_1) = v1 c
          ∧ r.2.mem ((c.tc : Thread Cert.Kernel12Ideal.nD Cert.Kernel12Ideal.τ).loc Cert.Kernel12Ideal.main_v16_2) = v2 c
          ∧ r.2.mem ((c.tc : Thread Cert.Kernel12Ideal.nD Cert.Kernel12Ideal.τ).loc Cert.Kernel12Ideal.main_v16_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v35) = v0 c
          ∧ r.2.mem ((c.tc : Thread Cert.Reference12Ideal.nD Cert.Reference12Ideal.τ).loc Cert.Reference12Ideal.main_v36) = v1 c
          ∧ r.2.mem ((c.tc : Thread Cert.Reference12Ideal.nD Cert.Reference12Ideal.τ).loc Cert.Reference12Ideal.main_v37) = v2 c
          ∧ r.2.mem ((c.tc : Thread Cert.Reference12Ideal.nD Cert.Reference12Ideal.τ).loc Cert.Reference12Ideal.main_v38) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  IdealRules.named_const.Statement Cert.Kernel17Ideal.κ "mask" .f32 0xF149F2CA#32 ⊥

def algebraic_Kernel17Ideal_Reference17Ideal_pre_finite [hKernel17Ideal : Cert.Kernel17Ideal.Facts] [hReference17Ideal : Cert.Reference17Ideal.Facts] [hPre_finite : Cert.Pre_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v35)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v35) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v68) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "mask" .f32 0xF149F2CA#32 ⊥

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v29) = v0 c
          ∧ r.2.mem ((c.tc : Thread Cert.Reference18Ideal.nD Cert.Reference18Ideal.τ).loc Cert.Reference18Ideal.main_v46) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v11) = v0 c
          ∧ r.2.mem ((c.tc : Thread Cert.Reference19Ideal.nD Cert.Reference19Ideal.τ).loc Cert.Reference19Ideal.main_v12) = v1 c
          ∧ r.2.mem ((c.tc : Thread Cert.Reference19Ideal.nD Cert.Reference19Ideal.τ).loc Cert.Reference19Ideal.main_v13) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v30) = v0 c
          ∧ r.2.mem ((c.tc : Thread Cert.Reference25Ideal.nD Cert.Reference25Ideal.τ).loc Cert.Reference25Ideal.main_v34) = v1 c
          ∧ r.2.mem ((c.tc : Thread Cert.Reference25Ideal.nD Cert.Reference25Ideal.τ).loc Cert.Reference25Ideal.main_v35) = v2 c
          ∧ r.2.mem ((c.tc : Thread Cert.Reference25Ideal.nD Cert.Reference25Ideal.τ).loc Cert.Reference25Ideal.main_v47) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v4) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_finite2 : Cert.Pre_finite2.Facts) (hPre_finite18 : Cert.Pre_finite18.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite (hKernel17Ideal := hKernel17Ideal) (hPre_finite := hPre_finite)
    ∧ quiescent_Reference17Ideal (hReference17Ideal := hReference17Ideal)
    ∧ quiescent_Reference17Ideal_pre_finite (hReference17Ideal := hReference17Ideal) (hPre_finite := hPre_finite)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite (hKernel17Ideal := hKernel17Ideal) (hReference17Ideal := hReference17Ideal) (hPre_finite := hPre_finite)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S8192x2048 : Shape := ⟨2, ![8192, 2048]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  bcast_S_S8192x1024 : S_.BroadcastsInDim S8192x1024 (![] : Fin 0 → Fin S8192x1024.rank)

variable [Facts]

def fn {F : FTy → Type} [FloatOps F] (main_arg0 : FVec F S8192x2048 .bf16) (main_arg1 : FVec F S8192x2048 .bf16) (main_arg2 : FVec F S8192x1024 .bf16) (main_arg3 : FVec F S8192x1024 .bf16) : IVec S8192x2048 1 × IVec S8192x2048 1 × IVec S8192x1024 1 × IVec S8192x1024 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8192x2048 .bf16 := Host.absf main_arg1
  let main_cst_0 : FVec F S_ .bf16 := constant S_ .bf16 0x7F80#16
  let main_v4 : FVec F S8192x2048 .bf16 := broadcastInDim S8192x2048 ![] bcast_S_S8192x2048 main_cst_0
  let main_v5 : IVec S8192x2048 1 := cmpf .olt main_v3 main_v4
  let main_v6 : FVec F S8192x1024 .bf16 := Host.absf main_arg2
  let main_cst_1 : FVec F S_ .bf16 := constant S_ .bf16 0x7F80#16
  let main_v7 : FVec F S8192x1024 .bf16 := broadcastInDim S8192x1024 ![] bcast_S_S8192x1024 main_cst_1
  let main_v8 : IVec S8192x1024 1 := cmpf .olt main_v6 main_v7
  let main_v9 : FVec F S8192x1024 .bf16 := Host.absf main_arg3
  let main_cst_2 : FVec F S_ .bf16 := constant S_ .bf16 0x7F80#16
  let main_v10 : FVec F S8192x1024 .bf16 := broadcastInDim S8192x1024 ![] bcast_S_S8192x1024 main_cst_2
  let main_v11 : IVec S8192x1024 1 := cmpf .olt main_v9 main_v10
  (main_v2, main_v5, main_v8, main_v11)
-- ==== Pre_finite18.lean ====
abbrev S8192x2048 : Shape := ⟨2, ![8192, 2048]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .bf16) (main_arg1 : FVec F S8192x2048 .bf16) (main_arg2 : FVec F S8192x1024 .bf16) : IVec S8192x2048 1 × IVec S8192x2048 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8192x2048 .bf16 := Host.absf main_arg1
  let main_cst_0 : FVec F S_ .bf16 := constant S_ .bf16 0x7F80#16
  let main_v4 : FVec F S8192x2048 .bf16 := broadcastInDim S8192x2048 ![] bcast_S_S8192x2048 main_cst_0
  let main_v5 : IVec S8192x2048 1 := cmpf .olt main_v3 main_v4
  (main_v2, main_v5)
-- ==== Pre_finite2.lean ====
abbrev S8192x2048 : Shape := ⟨2, ![8192, 2048]⟩
abbrev S8x704x2048 : Shape := ⟨3, ![8, 704, 2048]⟩
abbrev S8x8192x704 : Shape := ⟨3, ![8, 8192, 704]⟩
abbrev S_ : Shape := ⟨0, ![]⟩

class Facts : Prop where
  bcast_S_S8192x2048 : S_.BroadcastsInDim S8192x2048 (![] : Fin 0 → Fin S8192x2048.rank)
  bcast_S_S8x704x2048 : S_.BroadcastsInDim S8x704x2048 (![] : Fin 0 → Fin S8x704x2048.rank)
  bcast_S_S8x8192x704 : S_.BroadcastsInDim S8x8192x704 (![] : Fin 0 → Fin S8x8192x704.rank)

variable [Facts]

def fn {F : FTy → Type} [FloatOps F] (main_arg0 : FVec F S8192x2048 .bf16) (main_arg1 : FVec F S8x704x2048 .bf16) (main_arg2 : FVec F S8x8192x704 .bf16) (main_arg3 : FVec F S8x8192x704 .bf16) : IVec S8192x2048 1 × IVec S8x704x2048 1 × IVec S8x8192x704 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8x704x2048 .bf16 := Host.absf main_arg1
  let main_cst_0 : FVec F S_ .bf16 := constant S_ .bf16 0x7F80#16
  let main_v4 : FVec F S8x704x2048 .bf16 := broadcastInDim S8x704x2048 ![] bcast_S_S8x704x2048 main_cst_0
  let main_v5 : IVec S8x704x2048 1 := cmpf .olt main_v3 main_v4
  let main_v6 : FVec F S8x8192x704 .bf16 := Host.absf main_arg3
  let main_cst_1 : FVec F S_ .bf16 := constant S_ .bf16 0x7F80#16
  let main_v7 : FVec F S8x8192x704 .bf16 := broadcastInDim S8x8192x704 ![] bcast_S_S8x8192x704 main_cst_1
  let main_v8 : IVec S8x8192x704 1 := cmpf .olt main_v6 main_v7
  (main_v2, main_v5, main_v8)
-- ==== Kernel.lean ====
abbrev S8192x2048 : Shape := ⟨2, ![8192, 2048]⟩
abbrev S8192x1024 : Shape := ⟨2, ![8192, 1024]⟩
abbrev S8192x8x256 : Shape := ⟨3, ![8192, 8, 256]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8x128x8192 : Shape := ⟨3, ![8, 128, 8192]⟩
abbrev S8x1x8192 : Shape := ⟨3, ![8, 1, 8192]⟩
abbrev S8192x8 : Shape := ⟨2, ![8192, 8]⟩
abbrev S2048x256 : Shape := ⟨2, ![2048, 256]⟩
abbrev S2048x128 : Shape := ⟨2, ![2048, 128]⟩
abbrev S1x1x2048 : Shape := ⟨3, ![1, 1, 2048]⟩
abbrev S256x256 : Shape := ⟨2, ![256, 256]⟩
abbrev S256x2048 : Shape := ⟨2, ![256, 2048]⟩
abbrev S1x2048 : Shape := ⟨2, ![1, 2048]⟩
abbrev S256x128 : Shape := ⟨2, ![256, 128]⟩
abbrev S1792x256 : Shape := ⟨2, ![1792, 256]⟩
abbrev S256x1792 : Shape := ⟨2, ![256, 1792]⟩
abbrev S1x1x1792 : Shape := ⟨3, ![1, 1, 1792]⟩
abbrev S1x1792 : Shape := ⟨2, ![1, 1792]⟩
abbrev S1792x128 : Shape := ⟨2, ![1792, 128]⟩
abbrev S1536x256 : Shape := ⟨2, ![1536, 256]⟩
abbrev S256x1536 : Shape := ⟨2, ![256, 1536]⟩
abbrev S1x1x1536 : Shape := ⟨3, ![1, 1, 1536]⟩
abbrev S1x1536 : Shape := ⟨2, ![1, 1536]⟩
abbrev S1536x128 : Shape := ⟨2, ![1536, 128]⟩
abbrev S1280x256 : Shape := ⟨2, ![1280, 256]⟩
abbrev S256x1280 : Shape := ⟨2, ![256, 1280]⟩
abbrev S1x1x1280 : Shape := ⟨3, ![1, 1, 1280]⟩
abbrev S1x1280 : Shape := ⟨2, ![1, 1280]⟩
abbrev S1280x128 : Shape := ⟨2, ![1280, 128]⟩
abbrev S1024x256 : Shape := ⟨2, ![1024, 256]⟩
abbrev S256x1024 : Shape := ⟨2, ![256, 1024]⟩
abbrev S1x1x1024 : Shape := ⟨3, ![1, 1, 1024]⟩
abbrev S1x1024 : Shape := ⟨2, ![1, 1024]⟩
abbrev S1024x128 : Shape := ⟨2, ![1024, 128]⟩
abbrev S768x256 : Shape := ⟨2, ![768, 256]⟩
abbrev S256x768 : Shape := ⟨2, ![256, 768]⟩
abbrev S1x1x768 : Shape := ⟨3, ![1, 1, 768]⟩
abbrev S1x768 : Shape := ⟨2, ![1, 768]⟩
abbrev S768x128 : Shape := ⟨2, ![768, 128]⟩
abbrev S512x256 : Shape := ⟨2, ![512, 256]⟩
abbrev S256x512 : Shape := ⟨2, ![256, 512]⟩
abbrev S1x1x512 : Shape := ⟨3, ![1, 1, 512]⟩
abbrev S1x512 : Shape := ⟨2, ![1, 512]⟩
abbrev S512x128 : Shape := ⟨2, ![512, 128]⟩
abbrev S1x1x256 : Shape := ⟨3, ![1, 1, 256]⟩
abbrev S1x256 : Shape := ⟨2, ![1, 256]⟩

abbrev nBuf : Space → Nat
  | .hbm => 48
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8192x2048, .f32⟩
  | .hbm, ⟨5, _⟩ => ⟨S8192x8x256, .f32⟩
  | .hbm, ⟨6, _⟩ => ⟨S8192x2048, .f32⟩
  | .hbm, ⟨7, _⟩ => ⟨S8192x8x256, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8192x1024, .f32⟩
  | .hbm, ⟨33, _⟩ => ⟨S8192x8x128, .f32⟩
  | .hbm, ⟨34, _⟩ => ⟨S8x128x8192, .f32⟩
  | .hbm, ⟨35, _⟩ => ⟨S8192x8x128, .f32⟩
  | .hbm, ⟨36, _⟩ => ⟨S8x8192, .f32⟩
  | .hbm, ⟨37, _⟩ => ⟨S8x8192, .f32⟩
  | .hbm, ⟨38, _⟩ => ⟨S8x1x8192, .f32⟩
  | .hbm, ⟨39, _⟩ => ⟨S8192x1024, .f32⟩
  | .hbm, ⟨40, _⟩ => ⟨S8192x8x128, .f32⟩
  | .hbm, ⟨41, _⟩ => ⟨S8192x8x128, .f32⟩
  | .hbm, ⟨42, _⟩ => ⟨S_, .f32⟩
  | .hbm, ⟨43, _⟩ => ⟨S8192x8, .f32⟩
  | .hbm, ⟨44, _⟩ => ⟨S8x8192, .f32⟩
  | .hbm, ⟨45, _⟩ => ⟨S8x1x8192, .f32⟩
  | .hbm, ⟨46, _⟩ => ⟨S8192x2048, .f32⟩
  | .hbm, ⟨47, _⟩ => ⟨S8192x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x256, .f32⟩
  | .local _ .vmem, ⟨13, _⟩ => ⟨S2048x256, .f32⟩
  | .local _ .vmem, ⟨14, _⟩ => ⟨S2048x128, .f32⟩
  | .local _ .vmem, ⟨15, _⟩ => ⟨S2048x128, .f32⟩
  | .local _ .vmem, ⟨16, _⟩ => ⟨S2048x256, .f32⟩
  | .local _ .vmem, ⟨17, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 10], ![false, false]⟩

def k0_cond4 (i : grid0.Coords) : BitVec 1 :=
  let arg1 : BitVec 32 := BitVec.ofNat 32 (i 1).val
  let c0_i32 : BitVec 32 := 0#32
  let c1_i32 : BitVec 32 := 1#32
  let v0 : BitVec 1 := Scalar.cmpi .sge arg1 c1_i32
  let v1 : BitVec 32 := Scalar.extui v0
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c2_i32 : BitVec 32 := 2#32
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let v11 : BitVec 32 := Scalar.divsi v10 c2_i32
  let c1_i32_6 : BitVec 32 := 1#32
  let v26 : BitVec 32 := Scalar.subi v11 c1_i32_6
  let v27 : BitVec 32 := Scalar.select v25 v26 v11
  let v28 : BitVec 32 := Scalar.subi arg1 v27
  let v40 : BitVec 1 := Scalar.cmpi .eq v28 v8
  let v41 : BitVec 32 := Scalar.extui v40
  let c0_i32_13 : BitVec 32 := 0#32
  let v42 : BitVec 1 := Scalar.cmpi .ne v41 c0_i32_13
  v42

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c3_i32_7 : BitVec 32 := 3#32
  let v29 : BitVec 32 := Scalar.subi c3_i32_7 v8
  let c1_i32_8 : BitVec 32 := 1#32
  let v30 : BitVec 1 := Scalar.cmpi .sge arg1 c1_i32_8
  let v31 : BitVec 32 := Scalar.extui v30
  let c0_i32_9 : BitVec 32 := 0#32
  let v32 : BitVec 32 := Scalar.addi c0_i32_9 v31
  let c3_i32_10 : BitVec 32 := 3#32
  let v33 : BitVec 1 := Scalar.cmpi .sge arg1 c3_i32_10
  let v34 : BitVec 32 := Scalar.extui v33
  let v35 : BitVec 32 := Scalar.addi v32 v34
  let c6_i32_11 : BitVec 32 := 6#32
  let v36 : BitVec 1 := Scalar.cmpi .sge arg1 c6_i32_11
  let v37 : BitVec 32 := Scalar.extui v36
  let v38 : BitVec 32 := Scalar.addi v35 v37
  let c1_i32_12 : BitVec 32 := 1#32
  let v39 : BitVec 32 := Scalar.addi v38 c1_i32_12
  let v40 : BitVec 32 := Scalar.muli v38 v39
  let c2_i32_13 : BitVec 32 := 2#32
  let v41 : BitVec 32 := Scalar.divsi v40 c2_i32_13
  let c0_i32_14 : BitVec 32 := 0#32
  let v42 : BitVec 1 := Scalar.cmpi .sgt v40 c0_i32_14
  let v43 : BitVec 32 := Scalar.extui v42
  let c0_i32_15 : BitVec 32 := 0#32
  let v44 : BitVec 1 := Scalar.cmpi .slt v40 c0_i32_15
  let v45 : BitVec 32 := Scalar.extui v44
  let v46 : BitVec 32 := Scalar.subi v43 v45
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v40 c2_i32_13
  let c0_i32_18 : BitVec 32 := 0#32
  let v54 : BitVec 1 := Scalar.cmpi .ne v53 c0_i32_18
  let v55 : BitVec 1 := Scalar.andi v52 v54
  let c1_i32_19 : BitVec 32 := 1#32
  let v56 : BitVec 32 := Scalar.subi v41 c1_i32_19
  let v57 : BitVec 32 := Scalar.select v55 v56 v41
  let v58 : BitVec 32 := Scalar.subi arg1 v57
  let v59 : BitVec 32 := Scalar.addi v29 v58
  let c0_i32_20 : BitVec 32 := 0#32
  ![v59.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c3_i32_7 : BitVec 32 := 3#32
  let v29 : BitVec 32 := Scalar.subi c3_i32_7 v8
  let c0_i32_8 : BitVec 32 := 0#32
  ![v29.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c3_i32_7 : BitVec 32 := 3#32
  let v29 : BitVec 32 := Scalar.subi c3_i32_7 v8
  let c0_i32_8 : BitVec 32 := 0#32
  ![v29.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c3_i32_7 : BitVec 32 := 3#32
  let v29 : BitVec 32 := Scalar.subi c3_i32_7 v8
  let c1_i32_8 : BitVec 32 := 1#32
  let v30 : BitVec 1 := Scalar.cmpi .sge arg1 c1_i32_8
  let v31 : BitVec 32 := Scalar.extui v30
  let c0_i32_9 : BitVec 32 := 0#32
  let v32 : BitVec 32 := Scalar.addi c0_i32_9 v31
  let c3_i32_10 : BitVec 32 := 3#32
  let v33 : BitVec 1 := Scalar.cmpi .sge arg1 c3_i32_10
  let v34 : BitVec 32 := Scalar.extui v33
  let v35 : BitVec 32 := Scalar.addi v32 v34
  let c6_i32_11 : BitVec 32 := 6#32
  let v36 : BitVec 1 := Scalar.cmpi .sge arg1 c6_i32_11
  let v37 : BitVec 32 := Scalar.extui v36
  let v38 : BitVec 32 := Scalar.addi v35 v37
  let c1_i32_12 : BitVec 32 := 1#32
  let v39 : BitVec 32 := Scalar.addi v38 c1_i32_12
  let v40 : BitVec 32 := Scalar.muli v38 v39
  let c2_i32_13 : BitVec 32 := 2#32
  let v41 : BitVec 32 := Scalar.divsi v40 c2_i32_13
  let c0_i32_14 : BitVec 32 := 0#32
  let v42 : BitVec 1 := Scalar.cmpi .sgt v40 c0_i32_14
  let v43 : BitVec 32 := Scalar.extui v42
  let c0_i32_15 : BitVec 32 := 0#32
  let v44 : BitVec 1 := Scalar.cmpi .slt v40 c0_i32_15
  let v45 : BitVec 32 := Scalar.extui v44
  let v46 : BitVec 32 := Scalar.subi v43 v45
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v40 c2_i32_13
  let c0_i32_18 : BitVec 32 := 0#32
  let v54 : BitVec 1 := Scalar.cmpi .ne v53 c0_i32_18
  let v55 : BitVec 1 := Scalar.andi v52 v54
  let c1_i32_19 : BitVec 32 := 1#32
  let v56 : BitVec 32 := Scalar.subi v41 c1_i32_19
  let v57 : BitVec 32 := Scalar.select v55 v56 v41
  let v58 : BitVec 32 := Scalar.subi arg1 v57
  let v59 : BitVec 32 := Scalar.addi v29 v58
  let c0_i32_20 : BitVec 32 := 0#32
  ![v59.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c3_i32_7 : BitVec 32 := 3#32
  let v29 : BitVec 32 := Scalar.subi c3_i32_7 v8
  let c1_i32_8 : BitVec 32 := 1#32
  let v30 : BitVec 1 := Scalar.cmpi .sge arg1 c1_i32_8
  let v31 : BitVec 32 := Scalar.extui v30
  let c0_i32_9 : BitVec 32 := 0#32
  let v32 : BitVec 32 := Scalar.addi c0_i32_9 v31
  let c3_i32_10 : BitVec 32 := 3#32
  let v33 : BitVec 1 := Scalar.cmpi .sge arg1 c3_i32_10
  let v34 : BitVec 32 := Scalar.extui v33
  let v35 : BitVec 32 := Scalar.addi v32 v34
  let c6_i32_11 : BitVec 32 := 6#32
  let v36 : BitVec 1 := Scalar.cmpi .sge arg1 c6_i32_11
  let v37 : BitVec 32 := Scalar.extui v36
  let v38 : BitVec 32 := Scalar.addi v35 v37
  let c1_i32_12 : BitVec 32 := 1#32
  let v39 : BitVec 32 := Scalar.addi v38 c1_i32_12
  let v40 : BitVec 32 := Scalar.muli v38 v39
  let c2_i32_13 : BitVec 32 := 2#32
  let v41 : BitVec 32 := Scalar.divsi v40 c2_i32_13
  let c0_i32_14 : BitVec 32 := 0#32
  let v42 : BitVec 1 := Scalar.cmpi .sgt v40 c0_i32_14
  let v43 : BitVec 32 := Scalar.extui v42
  let c0_i32_15 : BitVec 32 := 0#32
  let v44 : BitVec 1 := Scalar.cmpi .slt v40 c0_i32_15
  let v45 : BitVec 32 := Scalar.extui v44
  let v46 : BitVec 32 := Scalar.subi v43 v45
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v40 c2_i32_13
  let c0_i32_18 : BitVec 32 := 0#32
  let v54 : BitVec 1 := Scalar.cmpi .ne v53 c0_i32_18
  let v55 : BitVec 1 := Scalar.andi v52 v54
  let c1_i32_19 : BitVec 32 := 1#32
  let v56 : BitVec 32 := Scalar.subi v41 c1_i32_19
  let v57 : BitVec 32 := Scalar.select v55 v56 v41
  let v58 : BitVec 32 := Scalar.subi arg1 v57
  let v59 : BitVec 32 := Scalar.addi v29 v58
  let c0_i32_20 : BitVec 32 := 0#32
  let c0_i32_21 : BitVec 32 := 0#32
  ![arg0.toNat, c0_i32_20.toNat, v59.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c3_i32_7 : BitVec 32 := 3#32
  let v29 : BitVec 32 := Scalar.subi c3_i32_7 v8
  let c1_i32_8 : BitVec 32 := 1#32
  let v30 : BitVec 1 := Scalar.cmpi .sge arg1 c1_i32_8
  let v31 : BitVec 32 := Scalar.extui v30
  let c0_i32_9 : BitVec 32 := 0#32
  let v32 : BitVec 32 := Scalar.addi c0_i32_9 v31
  let c3_i32_10 : BitVec 32 := 3#32
  let v33 : BitVec 1 := Scalar.cmpi .sge arg1 c3_i32_10
  let v34 : BitVec 32 := Scalar.extui v33
  let v35 : BitVec 32 := Scalar.addi v32 v34
  let c6_i32_11 : BitVec 32 := 6#32
  let v36 : BitVec 1 := Scalar.cmpi .sge arg1 c6_i32_11
  let v37 : BitVec 32 := Scalar.extui v36
  let v38 : BitVec 32 := Scalar.addi v35 v37
  let c1_i32_12 : BitVec 32 := 1#32
  let v39 : BitVec 32 := Scalar.addi v38 c1_i32_12
  let v40 : BitVec 32 := Scalar.muli v38 v39
  let c2_i32_13 : BitVec 32 := 2#32
  let v41 : BitVec 32 := Scalar.divsi v40 c2_i32_13
  let c0_i32_14 : BitVec 32 := 0#32
  let v42 : BitVec 1 := Scalar.cmpi .sgt v40 c0_i32_14
  let v43 : BitVec 32 := Scalar.extui v42
  let c0_i32_15 : BitVec 32 := 0#32
  let v44 : BitVec 1 := Scalar.cmpi .slt v40 c0_i32_15
  let v45 : BitVec 32 := Scalar.extui v44
  let v46 : BitVec 32 := Scalar.subi v43 v45
  let c0_i32_16 : BitVec 32 := 0#32
  let v47 : BitVec 1 := Scalar.cmpi .sgt c2_i32_13 c0_i32_16
  let v48 : BitVec 32 := Scalar.extui v47
  let c0_i32_17 : BitVec 32 := 0#32
  let v49 : BitVec 1 := Scalar.cmpi .slt c2_i32_13 c0_i32_17
  let v50 : BitVec 32 := Scalar.extui v49
  let v51 : BitVec 32 := Scalar.subi v48 v50
  let v52 : BitVec 1 := Scalar.cmpi .ne v46 v51
  let v53 : BitVec 32 := Scalar.remsi v40 c2_i32_13
  let c0_i32_18 : BitVec 32 := 0#32
  let v54 : BitVec 1 := Scalar.cmpi .ne v53 c0_i32_18
  let v55 : BitVec 1 := Scalar.andi v52 v54
  let c1_i32_19 : BitVec 32 := 1#32
  let v56 : BitVec 32 := Scalar.subi v41 c1_i32_19
  let v57 : BitVec 32 := Scalar.select v55 v56 v41
  let v58 : BitVec 32 := Scalar.subi arg1 v57
  let v59 : BitVec 32 := Scalar.addi v29 v58
  let c0_i32_20 : BitVec 32 := 0#32
  let c0_i32_21 : BitVec 32 := 0#32
  ![arg0.toNat, c0_i32_20.toNat, v59.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c3_i32_7 : BitVec 32 := 3#32
  let v29 : BitVec 32 := Scalar.subi c3_i32_7 v8
  let c0_i32_8 : BitVec 32 := 0#32
  ![v29.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c3_i32_7 : BitVec 32 := 3#32
  let v29 : BitVec 32 := Scalar.subi c3_i32_7 v8
  let c0_i32_8 : BitVec 32 := 0#32
  ![v29.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x1024 : Shape := ⟨2, ![8192, 1024]⟩
abbrev S8192x8x256 : Shape := ⟨3, ![8192, 8, 256]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x256 : Shape := ⟨3, ![8, 8192, 256]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8192x2048, .f32⟩
  | .hbm, ⟨5, _⟩ => ⟨S8192x8x256, .f32⟩
  | .hbm, ⟨6, _⟩ => ⟨S8192x2048, .f32⟩
  | .hbm, ⟨7, _⟩ => ⟨S8192x8x256, .f32⟩
  | .hbm, ⟨8, _⟩ => ⟨S8192x1024, .f32⟩
  | .hbm, ⟨9, _⟩ => ⟨S8192x8x128, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .f32⟩
  | .hbm, ⟨49, _⟩ => ⟨S8x8192, .f32⟩
  | .hbm, ⟨50, _⟩ => ⟨S8x8192x1, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S8x8192x8192, .f32⟩
  | .hbm, ⟨58, _⟩ => ⟨S8x8192x8192, .f32⟩
  | .hbm, ⟨59, _⟩ => ⟨S8x8192x1, .f32⟩
  | .hbm, ⟨60, _⟩ => ⟨S_, .f32⟩
  | .hbm, ⟨61, _⟩ => ⟨S8x8192x1, .f32⟩
  | .hbm, ⟨62, _⟩ => ⟨S8x8192x1, .f32⟩
  | .hbm, ⟨63, _⟩ => ⟨S8x128x8192, .f32⟩
  | .hbm, ⟨64, _⟩ => ⟨S8192x8x128, .f32⟩
  | .hbm, ⟨65, _⟩ => ⟨S8192x1024, .f32⟩
  | .hbm, ⟨66, _⟩ => ⟨S8192x8x128, .f32⟩
  | .hbm, ⟨67, _⟩ => ⟨S8x128x8192, .f32⟩
  | .hbm, ⟨68, _⟩ => ⟨S8x8192x8192, .f32⟩
  | .hbm, ⟨69, _⟩ => ⟨S8x128x8192, .f32⟩
  | .hbm, ⟨70, _⟩ => ⟨S8192x8x128, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192, .f32⟩
  | .hbm, ⟨76, _⟩ => ⟨S8x8192x1, .f32⟩
  | .hbm, ⟨77, _⟩ => ⟨S8x8192x1, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192x8192, .f32⟩
  | .hbm, ⟨87, _⟩ => ⟨S8x8192x8192, .f32⟩
  | .hbm, ⟨88, _⟩ => ⟨S8x8192x256, .f32⟩
  | .hbm, ⟨89, _⟩ => ⟨S8192x8x256, .f32⟩
  | .hbm, ⟨90, _⟩ => ⟨S8x8192x256, .f32⟩
  | .hbm, ⟨91, _⟩ => ⟨S8192x8x256, .f32⟩
  | .hbm, ⟨92, _⟩ => ⟨S8192x2048, .f32⟩
  | .hbm, ⟨93, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_call0_v0 : Ref sig .tc := ⟨.hbm, 19, rfl⟩
abbrev main_v14_1 : Ref sig .tc := ⟨.hbm, 20, rfl⟩
abbrev main_call0_v2 : Ref sig .tc := ⟨.hbm, 21, rfl⟩
abbrev main_v14_0 : Ref sig .tc := ⟨.hbm, 22, rfl⟩
abbrev main_call0_cst : Ref sig .tc := ⟨.hbm, 23, rfl⟩
abbrev main_v14_2 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call1_cst : Ref sig .tc := ⟨.hbm, 85, rfl⟩
abbrev main_call1_v0 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Kernel2.lean ====
abbrev S8192x2048 : Shape := ⟨2, ![8192, 2048]⟩
abbrev S8x704x2048 : Shape := ⟨3, ![8, 704, 2048]⟩
abbrev S8x8192x704 : Shape := ⟨3, ![8, 8192, 704]⟩
abbrev S8x2048x704 : Shape := ⟨3, ![8, 2048, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x704x2048, .bf16⟩
  | .hbm, ⟨2, _⟩ => ⟨S8x8192x704, .bf16⟩
  | .hbm, ⟨3, _⟩ => ⟨S8x8192x704, .bf16⟩
  | .hbm, ⟨4, _⟩ => ⟨S8x2048x704, .bf16⟩
  | .hbm, ⟨5, _⟩ => ⟨S8x8192x704, .bf16⟩
  | .hbm, ⟨6, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S8x704x2048 : Shape := ⟨3, ![8, 704, 2048]⟩
abbrev S8x8192x704 : Shape := ⟨3, ![8, 8192, 704]⟩
abbrev S5632x2048 : Shape := ⟨2, ![5632, 2048]⟩
abbrev S8192x8x704 : Shape := ⟨3, ![8192, 8, 704]⟩
abbrev S8192x5632 : Shape := ⟨2, ![8192, 5632]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x704x2048, .bf16⟩
  | .hbm, ⟨2, _⟩ => ⟨S8x8192x704, .bf16⟩
  | .hbm, ⟨3, _⟩ => ⟨S8x8192x704, .bf16⟩
  | .hbm, ⟨4, _⟩ => ⟨S8x704x2048, .f32⟩
  | .hbm, ⟨5, _⟩ => ⟨S5632x2048, .f32⟩
  | .hbm, ⟨6, _⟩ => ⟨S8x8192x704, .f32⟩
  | .hbm, ⟨7, _⟩ => ⟨S8192x8x704, .f32⟩
  | .hbm, ⟨8, _⟩ => ⟨S8192x5632, .f32⟩
  | .hbm, ⟨9, _⟩ => ⟨S8x8192x704, .f32⟩
  | .hbm, ⟨10, _⟩ => ⟨S8192x8x704, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x8x704, .f32⟩
  | .hbm, ⟨42, _⟩ => ⟨S8x8192x704, .f32⟩
  | .hbm, ⟨43, _⟩ => ⟨S8x8192x704, .bf16⟩
  | .hbm, ⟨44, _⟩ => ⟨S8192x8x704, .f32⟩
  | .hbm, ⟨45, _⟩ => ⟨S8x8192x704, .f32⟩
  | .hbm, ⟨46, _⟩ => ⟨S8x8192x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Kernel3.lean ====
abbrev S8192x2048 : Shape := ⟨2, ![8192, 2048]⟩
abbrev S8x8192x704 : Shape := ⟨3, ![8, 8192, 704]⟩
abbrev S8x2048x704 : Shape := ⟨3, ![8, 2048, 704]⟩
abbrev S2048x2048 : Shape := ⟨2, ![2048, 2048]⟩
abbrev S1x2048x704 : Shape := ⟨3, ![1, 2048, 704]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8x8192x704, .bf16⟩
  | .hbm, ⟨2, _⟩ => ⟨S8x2048x704, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x704, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2048 : Shape := ⟨2, ![8192, 2048]⟩
abbrev S8x8192x704 : Shape := ⟨3, ![8, 8192, 704]⟩
abbrev S_ : Shape := ⟨0, ![]⟩
abbrev S2048x5632 : Shape := ⟨2, ![2048, 5632]⟩
abbrev S8192x5632 : Shape := ⟨2, ![8192, 5632]⟩
abbrev S8192x8x704 : Shape := ⟨3, ![8192, 8, 704]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x8192x704, .bf16⟩
  | .hbm, ⟨2, _⟩ => ⟨S8192x2048, .f32⟩
  | .hbm, ⟨3, _⟩ => ⟨S_, .f32⟩
  | .hbm, ⟨4, _⟩ => ⟨S2048x5632, .f32⟩
  | .hbm, ⟨5, _⟩ => ⟨S8192x5632, .f32⟩
  | .hbm, ⟨6, _⟩ => ⟨S8x8192x704, .f32⟩
  | .hbm, ⟨7, _⟩ => ⟨S8192x8x704, .f32⟩
  | .hbm, ⟨8, _⟩ => ⟨S8192x5632, .f32⟩
  | .hbm, ⟨9, _⟩ => ⟨S5632x2048, .f32⟩
  | .hbm, ⟨10, _⟩ => ⟨S2048x5632, .f32⟩
  | .hbm, ⟨11, _⟩ => ⟨S2048x8x704, .f32⟩
  | .hbm, ⟨12, _⟩ => ⟨S8x2048x704, .f32⟩
  | .hbm, ⟨13, _⟩ => ⟨S8x2048x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8x8192x704 : Shape := ⟨3, ![8, 8192, 704]⟩
abbrev S8192x2048 : Shape := ⟨2, ![8192, 2048]⟩
abbrev S8x704x2048 : Shape := ⟨3, ![8, 704, 2048]⟩
abbrev S1x2048x704 : Shape := ⟨3, ![1, 2048, 704]⟩
abbrev S2048x2048 : Shape := ⟨2, ![2048, 2048]⟩
abbrev S1x704x2048 : Shape := ⟨3, ![1, 704, 2048]⟩
abbrev S704x2048 : Shape := ⟨2, ![704, 2048]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x8192x704, .bf16⟩
  | .hbm, ⟨1, _⟩ => ⟨S8192x2048, .bf16⟩
  | .hbm, ⟨2, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S2048x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8x8192x704 : Shape := ⟨3, ![8, 8192, 704]⟩
abbrev S8192x2048 : Shape := ⟨2, ![8192, 2048]⟩
abbrev S8192x8x704 : Shape := ⟨3, ![8192, 8, 704]⟩
abbrev S8192x5632 : Shape := ⟨2, ![8192, 5632]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8192x2048, .bf16⟩
  | .hbm, ⟨2, _⟩ => ⟨S8x8192x704, .f32⟩
  | .hbm, ⟨3, _⟩ => ⟨S8192x8x704, .f32⟩
  | .hbm, ⟨4, _⟩ => ⟨S8192x5632, .f32⟩
  | .hbm, ⟨5, _⟩ => ⟨S_, .f32⟩
  | .hbm, ⟨6, _⟩ => ⟨S5632x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S2048x5632, .f32⟩
  | .hbm, ⟨16, _⟩ => ⟨S5632x2048, .f32⟩
  | .hbm, ⟨17, _⟩ => ⟨S8x704x2048, .f32⟩
  | .hbm, ⟨18, _⟩ => ⟨S8x704x2048, .bf16⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S8x8192x704 : Shape := ⟨3, ![8, 8192, 704]⟩
abbrev S8x2048x704 : Shape := ⟨3, ![8, 2048, 704]⟩
abbrev S8192x2048 : Shape := ⟨2, ![8192, 2048]⟩
abbrev S8x512x704 : Shape := ⟨3, ![8, 512, 704]⟩
abbrev S8x256x704 : Shape := ⟨3, ![8, 256, 704]⟩
abbrev S512x256 : Shape := ⟨2, ![512, 256]⟩
abbrev S1x512x704 : Shape := ⟨3, ![1, 512, 704]⟩
abbrev S512x704 : Shape := ⟨2, ![512, 704]⟩
abbrev S1x256x704 : Shape := ⟨3, ![1, 256, 704]⟩
abbrev S256x704 : Shape := ⟨2, ![256, 704]⟩

abbrev nBuf : Space → Nat
  | .hbm => 5
  | .vmem => 10
  | .smem => 0
  | _ => 0

abbrev bufTy : (tb : Table) → Fin (tcTables nBuf tb) → BufTy
  | .hbm, ⟨0, _⟩ => ⟨S8x8192x704, .bf16⟩
  | .hbm, ⟨1, _⟩ => ⟨S8x8192x704, .bf16⟩
  | .hbm, ⟨2, _⟩ => ⟨S8x2048x704, .bf16⟩
  | .hbm, ⟨3, _⟩ => ⟨S8x2048x704, .bf16⟩
  | .hbm, ⟨4, _⟩ => ⟨S8192x2048, .f32⟩
  | .local _ .vmem, ⟨0, _⟩ => ⟨S8x512x704, .bf16⟩
  | .local _ .vmem, ⟨1, _⟩ => ⟨S8x512x704, .bf16⟩
  | .local _ .vmem, ⟨2, _⟩ => ⟨S8x512x704, .bf16⟩
  | .local _ .vmem, ⟨3, _⟩ => ⟨S8x512x704, .bf16⟩
  | .local _ .vmem, ⟨4, _⟩ => ⟨S8x256x704, .bf16⟩
  | .local _ .vmem, ⟨5, _⟩ => ⟨S8x256x704, .bf16⟩
  | .local _ .vmem, ⟨6, _⟩ => ⟨S8x256x704, .bf16⟩
  | .local _ .vmem, ⟨7, _⟩ => ⟨S8x256x704, .bf16⟩
  | .local _ .vmem, ⟨8, _⟩ => ⟨S512x256, .f32⟩
  | .local _ .vmem, ⟨9, _⟩ => ⟨S512x256, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8x8192x704 : Shape := ⟨3, ![8, 8192, 704]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩
abbrev S8192x2048 : Shape := ⟨2, ![8192, 2048]⟩
abbrev S8192x5632 : Shape := ⟨2, ![8192, 5632]⟩
abbrev S8192x8x704 : Shape := ⟨3, ![8192, 8, 704]⟩

abbrev nBuf : Space → Nat
  | .hbm => 23
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x8192x704, .bf16⟩
  | .hbm, ⟨2, _⟩ => ⟨S8x2048x704, .bf16⟩
  | .hbm, ⟨3, _⟩ => ⟨S8x2048x704, .bf16⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S8x2048x704, .f32⟩
  | .hbm, ⟨8, _⟩ => ⟨S2048x8x704, .f32⟩
  | .hbm, ⟨9, _⟩ => ⟨S2048x5632, .f32⟩
  | .hbm, ⟨10, _⟩ => ⟨S_, .f32⟩
  | .hbm, ⟨11, _⟩ => ⟨S8192x2048, .f32⟩
  | .hbm, ⟨12, _⟩ => ⟨S8192x5632, .f32⟩
  | .hbm, ⟨13, _⟩ => ⟨S8192x5632, .f32⟩
  | .hbm, ⟨14, _⟩ => ⟨S8x8192x704, .f32⟩
  | .hbm, ⟨15, _⟩ => ⟨S8192x8x704, .f32⟩
  | .hbm, ⟨16, _⟩ => ⟨S8192x5632, .f32⟩
  | .hbm, ⟨17, _⟩ => ⟨S8x8192x704, .f32⟩
  | .hbm, ⟨18, _⟩ => ⟨S8192x8x704, .f32⟩
  | .hbm, ⟨19, _⟩ => ⟨S8192x5632, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel6.lean ====
abbrev S8192x2048 : Shape := ⟨2, ![8192, 2048]⟩
abbrev S8x2048x704 : Shape := ⟨3, ![8, 2048, 704]⟩
abbrev S8x8192x704 : Shape := ⟨3, ![8, 8192, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x2048x704, .bf16⟩
  | .hbm, ⟨2, _⟩ => ⟨S8x2048x704, .bf16⟩
  | .hbm, ⟨3, _⟩ => ⟨S8x8192x704, .bf16⟩
  | .hbm, ⟨4, _⟩ => ⟨S8x8192x704, .bf16⟩
  | .hbm, ⟨5, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x2048 : Shape := ⟨2, ![8192, 2048]⟩
abbrev S8x2048x704 : Shape := ⟨3, ![8, 2048, 704]⟩
abbrev S2048x8x704 : Shape := ⟨3, ![2048, 8, 704]⟩
abbrev S2048x5632 : Shape := ⟨2, ![2048, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x704, .bf16⟩
  | .hbm, ⟨2, _⟩ => ⟨S8x2048x704, .bf16⟩
  | .hbm, ⟨3, _⟩ => ⟨S8192x2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S8192x5632, .f32⟩
  | .hbm, ⟨8, _⟩ => ⟨S8x2048x704, .f32⟩
  | .hbm, ⟨9, _⟩ => ⟨S2048x8x704, .f32⟩
  | .hbm, ⟨10, _⟩ => ⟨S2048x5632, .f32⟩
  | .hbm, ⟨11, _⟩ => ⟨S8192x5632, .f32⟩
  | .hbm, ⟨12, _⟩ => ⟨S8192x8x704, .f32⟩
  | .hbm, ⟨13, _⟩ => ⟨S8x8192x704, .f32⟩
  | .hbm, ⟨14, _⟩ => ⟨S8x8192x704, .bf16⟩
  | .hbm, ⟨15, _⟩ => ⟨S8192x8x704, .f32⟩
  | .hbm, ⟨16, _⟩ => ⟨S8x8192x704, .f32⟩
  | .hbm, ⟨17, _⟩ => ⟨S8x8192x704, .bf16⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S_, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x8x704, .f32⟩
  | .hbm, ⟨29, _⟩ => ⟨S8x8192x704, .f32⟩
  | .hbm, ⟨30, _⟩ => ⟨S8x8192x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel7.lean ====
abbrev S8x8192x704 : Shape := ⟨3, ![8, 8192, 704]⟩
abbrev S8x704x2048 : Shape := ⟨3, ![8, 704, 2048]⟩
abbrev S8192x2048 : Shape := ⟨2, ![8192, 2048]⟩
abbrev S8x512x704 : Shape := ⟨3, ![8, 512, 704]⟩
abbrev S8x704x512 : Shape := ⟨3, ![8, 704, 512]⟩
abbrev S512x512 : Shape := ⟨2, ![512, 512]⟩
abbrev S1x512x704 : Shape := ⟨3, ![1, 512, 704]⟩
abbrev S512x704 : Shape := ⟨2, ![512, 704]⟩
abbrev S1x704x512 : Shape := ⟨3, ![1, 704, 512]⟩
abbrev S704x512 : Shape := ⟨2, ![704, 512]⟩

abbrev nBuf : Space → Nat
  | .hbm => 4
  | .vmem => 8
  | .smem => 0
  | _ => 0

abbrev bufTy : (tb : Table) → Fin (tcTables nBuf tb) → BufTy
  | .hbm, ⟨0, _⟩ => ⟨S8x8192x704, .bf16⟩
  | .hbm, ⟨1, _⟩ => ⟨S8x704x2048, .bf16⟩
  | .hbm, ⟨2, _⟩ => ⟨S8192x2048, .f32⟩
  | .hbm, ⟨3, _⟩ => ⟨S8192x2048, .f32⟩
  | .local _ .vmem, ⟨0, _⟩ => ⟨S8x512x704, .bf16⟩
  | .local _ .vmem, ⟨1, _⟩ => ⟨S8x512x704, .bf16⟩
  | .local _ .vmem, ⟨2, _⟩ => ⟨S8x704x512, .bf16⟩
  | .local _ .vmem, ⟨3, _⟩ => ⟨S8x704x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x8192x704 : Shape := ⟨3, ![8, 8192, 704]⟩
abbrev S8x704x2048 : Shape := ⟨3, ![8, 704, 2048]⟩
abbrev S8192x2048 : Shape := ⟨2, ![8192, 2048]⟩
abbrev S8192x8x704 : Shape := ⟨3, ![8192, 8, 704]⟩
abbrev S8192x5632 : Shape := ⟨2, ![8192, 5632]⟩
abbrev S5632x2048 : Shape := ⟨2, ![5632, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x704x2048, .bf16⟩
  | .hbm, ⟨2, _⟩ => ⟨S8192x2048, .f32⟩
  | .hbm, ⟨3, _⟩ => ⟨S8x8192x704, .f32⟩
  | .hbm, ⟨4, _⟩ => ⟨S8192x8x704, .f32⟩
  | .hbm, ⟨5, _⟩ => ⟨S8192x5632, .f32⟩
  | .hbm, ⟨6, _⟩ => ⟨S8x704x2048, .f32⟩
  | .hbm, ⟨7, _⟩ => ⟨S5632x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel8.lean ====
abbrev S8192x2048 : Shape := ⟨2, ![8192, 2048]⟩
abbrev S8192x3072 : Shape := ⟨2, ![8192, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S8192x2048, .f32⟩
  | .hbm, ⟨3, _⟩ => ⟨S_, .f32⟩
  | .hbm, ⟨4, _⟩ => ⟨S2048x3072, .f32⟩
  | .hbm, ⟨5, _⟩ => ⟨S8192x3072, .f32⟩
  | .hbm, ⟨6, _⟩ => ⟨S8192x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x3072 : Shape := ⟨2, ![8192, 3072]⟩
abbrev S2048x3072 : Shape := ⟨2, ![2048, 3072]⟩
abbrev S8192x2048 : Shape := ⟨2, ![8192, 2048]⟩
abbrev S512x3072 : Shape := ⟨2, ![512, 3072]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x3072, .bf16⟩
  | .hbm, ⟨3, _⟩ => ⟨S2048x3072, .bf16⟩
  | .hbm, ⟨4, _⟩ => ⟨S2048x3072, .bf16⟩
  | .hbm, ⟨5, _⟩ => ⟨S2048x3072, .bf16⟩
  | .hbm, ⟨6, _⟩ => ⟨S8192x2048, .f32⟩
  | .hbm, ⟨7, _⟩ => ⟨S8192x2048, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | .local _ .vmem, ⟨11, _⟩ => ⟨S512x3072, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S8192x3072 : Shape := ⟨2, ![8192, 3072]⟩
abbrev S2048x3072 : Shape := ⟨2, ![2048, 3072]⟩
abbrev S8192x2048 : Shape := ⟨2, ![8192, 2048]⟩
abbrev S2048x9216 : Shape := ⟨2, ![2048, 9216]⟩
abbrev S8192x9216 : Shape := ⟨2, ![8192, 9216]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x3072, .bf16⟩
  | .hbm, ⟨3, _⟩ => ⟨S2048x3072, .bf16⟩
  | .hbm, ⟨4, _⟩ => ⟨S2048x3072, .bf16⟩
  | .hbm, ⟨5, _⟩ => ⟨S2048x3072, .bf16⟩
  | .hbm, ⟨6, _⟩ => ⟨S8192x2048, .f32⟩
  | .hbm, ⟨7, _⟩ => ⟨S2048x9216, .bf16⟩
  | .hbm, ⟨8, _⟩ => ⟨S2048x9216, .f32⟩
  | .hbm, ⟨9, _⟩ => ⟨S8192x9216, .bf16⟩
  | .hbm, ⟨10, _⟩ => ⟨S8192x9216, .f32⟩
  | .hbm, ⟨11, _⟩ => ⟨S_, .f32⟩
  | .hbm, ⟨12, _⟩ => ⟨S8192x2048, .f32⟩
  | .hbm, ⟨13, _⟩ => ⟨S8192x9216, .f32⟩
  | .hbm, ⟨14, _⟩ => ⟨S8192x2048, .f32⟩
  | .hbm, ⟨15, _⟩ => ⟨S8192x2048, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .hbm, ⟨3, _⟩ => ⟨S2048x2048, .bf16⟩
  | .hbm, ⟨4, _⟩ => ⟨S8192x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x2048, .bf16⟩
  | .local _ .vmem, ⟨7, _⟩ => ⟨S1024x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S8192x2048 : Shape := ⟨2, ![8192, 2048]⟩
abbrev S2048x2048 : Shape := ⟨2, ![2048, 2048]⟩
abbrev S2048x4096 : Shape := ⟨2, ![2048, 4096]⟩
abbrev S8192x4096 : Shape := ⟨2, ![8192, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .hbm, ⟨3, _⟩ => ⟨S2048x2048, .bf16⟩
  | .hbm, ⟨4, _⟩ => ⟨S8192x2048, .f32⟩
  | .hbm, ⟨5, _⟩ => ⟨S2048x4096, .bf16⟩
  | .hbm, ⟨6, _⟩ => ⟨S2048x4096, .f32⟩
  | .hbm, ⟨7, _⟩ => ⟨S8192x4096, .bf16⟩
  | .hbm, ⟨8, _⟩ => ⟨S8192x4096, .f32⟩
  | .hbm, ⟨9, _⟩ => ⟨S_, .f32⟩
  | .hbm, ⟨10, _⟩ => ⟨S8192x2048, .f32⟩
  | .hbm, ⟨11, _⟩ => ⟨S8192x4096, .f32⟩
  | .hbm, ⟨12, _⟩ => ⟨S8192x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S_ : Shape := ⟨0, ![]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 30
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .bf16⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .bf16⟩
  | .hbm, ⟨26, _⟩ => ⟨S8192x2048, .bf16⟩
  | .hbm, ⟨27, _⟩ => ⟨S8192x2048, .bf16⟩
  | .hbm, ⟨28, _⟩ => ⟨S8192x2048, .bf16⟩
  | .hbm, ⟨29, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference12Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | .hbm, ⟨48, _⟩ => ⟨S8192x2048, .bf16⟩
  | .hbm, ⟨49, _⟩ => ⟨S8192x2048, .bf16⟩
  | .hbm, ⟨50, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x2048, .f32⟩
  | .hbm, ⟨3, _⟩ => ⟨S2048x3072, .f32⟩
  | .hbm, ⟨4, _⟩ => ⟨S8192x3072, .f32⟩
  | .hbm, ⟨5, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x2048 : Shape := ⟨2, ![8192, 2048]⟩
abbrev S8192x1024 : Shape := ⟨2, ![8192, 1024]⟩
abbrev S8192x8x256 : Shape := ⟨3, ![8192, 8, 256]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8x128x8192 : Shape := ⟨3, ![8, 128, 8192]⟩
abbrev S8192x8 : Shape := ⟨2, ![8192, 8]⟩
abbrev S2048x256 : Shape := ⟨2, ![2048, 256]⟩
abbrev S2048x128 : Shape := ⟨2, ![2048, 128]⟩
abbrev S1x2048x1 : Shape := ⟨3, ![1, 2048, 1]⟩
abbrev S256x256 : Shape := ⟨2, ![256, 256]⟩
abbrev S1x256x1 : Shape := ⟨3, ![1, 256, 1]⟩
abbrev S256x1 : Shape := ⟨2, ![256, 1]⟩
abbrev S256x128 : Shape := ⟨2, ![256, 128]⟩
abbrev S512x256 : Shape := ⟨2, ![512, 256]⟩
abbrev S256x512 : Shape := ⟨2, ![256, 512]⟩
abbrev S512x128 : Shape := ⟨2, ![512, 128]⟩
abbrev S768x256 : Shape := ⟨2, ![768, 256]⟩
abbrev S256x768 : Shape := ⟨2, ![256, 768]⟩
abbrev S768x128 : Shape := ⟨2, ![768, 128]⟩
abbrev S1024x256 : Shape := ⟨2, ![1024, 256]⟩
abbrev S256x1024 : Shape := ⟨2, ![256, 1024]⟩
abbrev S1024x128 : Shape := ⟨2, ![1024, 128]⟩
abbrev S1280x256 : Shape := ⟨2, ![1280, 256]⟩
abbrev S256x1280 : Shape := ⟨2, ![256, 1280]⟩
abbrev S1280x128 : Shape := ⟨2, ![1280, 128]⟩
abbrev S1536x256 : Shape := ⟨2, ![1536, 256]⟩
abbrev S256x1536 : Shape := ⟨2, ![256, 1536]⟩
abbrev S1536x128 : Shape := ⟨2, ![1536, 128]⟩
abbrev S1792x256 : Shape := ⟨2, ![1792, 256]⟩
abbrev S256x1792 : Shape := ⟨2, ![256, 1792]⟩
abbrev S1792x128 : Shape := ⟨2, ![1792, 128]⟩
abbrev S256x2048 : Shape := ⟨2, ![256, 2048]⟩

abbrev nBuf : Space → Nat
  | .hbm => 47
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8192x2048, .f32⟩
  | .hbm, ⟨5, _⟩ => ⟨S8192x8x256, .f32⟩
  | .hbm, ⟨6, _⟩ => ⟨S8192x2048, .f32⟩
  | .hbm, ⟨7, _⟩ => ⟨S8192x8x256, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8192x1024, .f32⟩
  | .hbm, ⟨33, _⟩ => ⟨S8192x8x128, .f32⟩
  | .hbm, ⟨34, _⟩ => ⟨S8x128x8192, .f32⟩
  | .hbm, ⟨35, _⟩ => ⟨S8192x8x128, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8192x1024, .f32⟩
  | .hbm, ⟨40, _⟩ => ⟨S8192x8x128, .f32⟩
  | .hbm, ⟨41, _⟩ => ⟨S8192x8x128, .f32⟩
  | .hbm, ⟨42, _⟩ => ⟨S_, .f32⟩
  | .hbm, ⟨43, _⟩ => ⟨S8192x8, .f32⟩
  | .hbm, ⟨44, _⟩ => ⟨S8x8192, .f32⟩
  | .hbm, ⟨45, _⟩ => ⟨S8x8192x1, .f32⟩
  | .hbm, ⟨46, _⟩ => ⟨S8192x2048, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S1x2048x1, .f32⟩
  | .local _ .vmem, ⟨11, _⟩ => ⟨S1x2048x1, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 10], ![false, false]⟩

def k0_cond4 (i : grid0.Coords) : BitVec 1 :=
  let arg1 : BitVec 32 := BitVec.ofNat 32 (i 1).val
  let c0_i32 : BitVec 32 := 0#32
  let c1_i32 : BitVec 32 := 1#32
  let v0 : BitVec 1 := Scalar.cmpi .sge arg1 c1_i32
  let v1 : BitVec 32 := Scalar.extui v0
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c2_i32 : BitVec 32 := 2#32
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let v11 : BitVec 32 := Scalar.divsi v10 c2_i32
  let c1_i32_6 : BitVec 32 := 1#32
  let v26 : BitVec 32 := Scalar.subi v11 c1_i32_6
  let v27 : BitVec 32 := Scalar.select v25 v26 v11
  let v28 : BitVec 32 := Scalar.subi arg1 v27
  let v41 : BitVec 1 := Scalar.cmpi .eq v28 v8
  let v42 : BitVec 32 := Scalar.extui v41
  let c0_i32_14 : BitVec 32 := 0#32
  let v43 : BitVec 1 := Scalar.cmpi .ne v42 c0_i32_14
  v43

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  ![v8.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c1_i32_7 : BitVec 32 := 1#32
  let v29 : BitVec 1 := Scalar.cmpi .sge arg1 c1_i32_7
  let v30 : BitVec 32 := Scalar.extui v29
  let c0_i32_8 : BitVec 32 := 0#32
  let v31 : BitVec 32 := Scalar.addi c0_i32_8 v30
  let c3_i32_9 : BitVec 32 := 3#32
  let v32 : BitVec 1 := Scalar.cmpi .sge arg1 c3_i32_9
  let v33 : BitVec 32 := Scalar.extui v32
  let v34 : BitVec 32 := Scalar.addi v31 v33
  let c6_i32_10 : BitVec 32 := 6#32
  let v35 : BitVec 1 := Scalar.cmpi .sge arg1 c6_i32_10
  let v36 : BitVec 32 := Scalar.extui v35
  let v37 : BitVec 32 := Scalar.addi v34 v36
  let c1_i32_11 : BitVec 32 := 1#32
  let v38 : BitVec 32 := Scalar.addi v37 c1_i32_11
  let v39 : BitVec 32 := Scalar.muli v37 v38
  let c2_i32_12 : BitVec 32 := 2#32
  let v40 : BitVec 32 := Scalar.divsi v39 c2_i32_12
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c0_i32_15 : BitVec 32 := 0#32
  let v46 : BitVec 1 := Scalar.cmpi .sgt c2_i32_12 c0_i32_15
  let v47 : BitVec 32 := Scalar.extui v46
  let c0_i32_16 : BitVec 32 := 0#32
  let v48 : BitVec 1 := Scalar.cmpi .slt c2_i32_12 c0_i32_16
  let v49 : BitVec 32 := Scalar.extui v48
  let v50 : BitVec 32 := Scalar.subi v47 v49
  let v51 : BitVec 1 := Scalar.cmpi .ne v45 v50
  let v52 : BitVec 32 := Scalar.remsi v39 c2_i32_12
  let c0_i32_17 : BitVec 32 := 0#32
  let v53 : BitVec 1 := Scalar.cmpi .ne v52 c0_i32_17
  let v54 : BitVec 1 := Scalar.andi v51 v53
  let c1_i32_18 : BitVec 32 := 1#32
  let v55 : BitVec 32 := Scalar.subi v40 c1_i32_18
  let v56 : BitVec 32 := Scalar.select v54 v55 v40
  let v57 : BitVec 32 := Scalar.subi arg1 v56
  let v58 : BitVec 32 := Scalar.subi v8 v57
  let c0_i32_19 : BitVec 32 := 0#32
  ![v58.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c1_i32_7 : BitVec 32 := 1#32
  let v29 : BitVec 1 := Scalar.cmpi .sge arg1 c1_i32_7
  let v30 : BitVec 32 := Scalar.extui v29
  let c0_i32_8 : BitVec 32 := 0#32
  let v31 : BitVec 32 := Scalar.addi c0_i32_8 v30
  let c3_i32_9 : BitVec 32 := 3#32
  let v32 : BitVec 1 := Scalar.cmpi .sge arg1 c3_i32_9
  let v33 : BitVec 32 := Scalar.extui v32
  let v34 : BitVec 32 := Scalar.addi v31 v33
  let c6_i32_10 : BitVec 32 := 6#32
  let v35 : BitVec 1 := Scalar.cmpi .sge arg1 c6_i32_10
  let v36 : BitVec 32 := Scalar.extui v35
  let v37 : BitVec 32 := Scalar.addi v34 v36
  let c1_i32_11 : BitVec 32 := 1#32
  let v38 : BitVec 32 := Scalar.addi v37 c1_i32_11
  let v39 : BitVec 32 := Scalar.muli v37 v38
  let c2_i32_12 : BitVec 32 := 2#32
  let v40 : BitVec 32 := Scalar.divsi v39 c2_i32_12
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c0_i32_15 : BitVec 32 := 0#32
  let v46 : BitVec 1 := Scalar.cmpi .sgt c2_i32_12 c0_i32_15
  let v47 : BitVec 32 := Scalar.extui v46
  let c0_i32_16 : BitVec 32 := 0#32
  let v48 : BitVec 1 := Scalar.cmpi .slt c2_i32_12 c0_i32_16
  let v49 : BitVec 32 := Scalar.extui v48
  let v50 : BitVec 32 := Scalar.subi v47 v49
  let v51 : BitVec 1 := Scalar.cmpi .ne v45 v50
  let v52 : BitVec 32 := Scalar.remsi v39 c2_i32_12
  let c0_i32_17 : BitVec 32 := 0#32
  let v53 : BitVec 1 := Scalar.cmpi .ne v52 c0_i32_17
  let v54 : BitVec 1 := Scalar.andi v51 v53
  let c1_i32_18 : BitVec 32 := 1#32
  let v55 : BitVec 32 := Scalar.subi v40 c1_i32_18
  let v56 : BitVec 32 := Scalar.select v54 v55 v40
  let v57 : BitVec 32 := Scalar.subi arg1 v56
  let v58 : BitVec 32 := Scalar.subi v8 v57
  let c0_i32_19 : BitVec 32 := 0#32
  ![v58.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  ![v8.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  let c0_i32_8 : BitVec 32 := 0#32
  ![arg0.toNat, v8.toNat, c0_i32_7.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  let c0_i32_8 : BitVec 32 := 0#32
  ![arg0.toNat, v8.toNat, c0_i32_7.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  ![v8.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel17Ideal.lean ====
variable {F : FTy → Type} [FloatOps F] [Named F]
def κ : String → Option EReal := fun
  | "mask" => some ⊥
  | _ => none
-- ==== Reference17Ideal.lean ====
abbrev S8192x2048 : Shape := ⟨2, ![8192, 2048]⟩
abbrev S8192x1024 : Shape := ⟨2, ![8192, 1024]⟩
abbrev S8192x8x256 : Shape := ⟨3, ![8192, 8, 256]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩
abbrev S8x8192x256 : Shape := ⟨3, ![8, 8192, 256]⟩

abbrev nBuf : Space → Nat
  | .hbm => 93
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8192x2048, .f32⟩
  | .hbm, ⟨5, _⟩ => ⟨S8192x8x256, .f32⟩
  | .hbm, ⟨6, _⟩ => ⟨S8192x2048, .f32⟩
  | .hbm, ⟨7, _⟩ => ⟨S8192x8x256, .f32⟩
  | .hbm, ⟨8, _⟩ => ⟨S8192x1024, .f32⟩
  | .hbm, ⟨9, _⟩ => ⟨S8192x8x128, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .f32⟩
  | .hbm, ⟨49, _⟩ => ⟨S8x8192, .f32⟩
  | .hbm, ⟨50, _⟩ => ⟨S8x8192x1, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S8x8192x8192, .f32⟩
  | .hbm, ⟨58, _⟩ => ⟨S8x8192x8192, .f32⟩
  | .hbm, ⟨59, _⟩ => ⟨S8x8192x1, .f32⟩
  | .hbm, ⟨60, _⟩ => ⟨S_, .f32⟩
  | .hbm, ⟨61, _⟩ => ⟨S8x8192x1, .f32⟩
  | .hbm, ⟨62, _⟩ => ⟨S8x8192x1, .f32⟩
  | .hbm, ⟨63, _⟩ => ⟨S8x128x8192, .f32⟩
  | .hbm, ⟨64, _⟩ => ⟨S8192x8x128, .f32⟩
  | .hbm, ⟨65, _⟩ => ⟨S8192x1024, .f32⟩
  | .hbm, ⟨66, _⟩ => ⟨S8192x8x128, .f32⟩
  | .hbm, ⟨67, _⟩ => ⟨S8x128x8192, .f32⟩
  | .hbm, ⟨68, _⟩ => ⟨S8x8192x8192, .f32⟩
  | .hbm, ⟨69, _⟩ => ⟨S8x128x8192, .f32⟩
  | .hbm, ⟨70, _⟩ => ⟨S8192x8x128, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192, .f32⟩
  | .hbm, ⟨76, _⟩ => ⟨S8x8192x1, .f32⟩
  | .hbm, ⟨77, _⟩ => ⟨S8x8192x1, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192x8192, .f32⟩
  | .hbm, ⟨87, _⟩ => ⟨S8x8192x8192, .f32⟩
  | .hbm, ⟨88, _⟩ => ⟨S8x8192x256, .f32⟩
  | .hbm, ⟨89, _⟩ => ⟨S8192x8x256, .f32⟩
  | .hbm, ⟨90, _⟩ => ⟨S8x8192x256, .f32⟩
  | .hbm, ⟨91, _⟩ => ⟨S8192x8x256, .f32⟩
  | .hbm, ⟨92, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_call0_v0 : Ref sig .tc := ⟨.hbm, 19, rfl⟩
abbrev main_v14_1 : Ref sig .tc := ⟨.hbm, 20, rfl⟩
abbrev main_call0_v2 : Ref sig .tc := ⟨.hbm, 21, rfl⟩
abbrev main_v14_0 : Ref sig .tc := ⟨.hbm, 22, rfl⟩
abbrev main_call0_cst : Ref sig .tc := ⟨.hbm, 23, rfl⟩
abbrev main_v14_2 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call1_cst : Ref sig .tc := ⟨.hbm, 85, rfl⟩
abbrev main_call1_v0 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel18.lean ====
abbrev S8192x2048 : Shape := ⟨2, ![8192, 2048]⟩
abbrev S8192x1024 : Shape := ⟨2, ![8192, 1024]⟩
abbrev S8x8192x1 : Shape := ⟨3, ![8, 8192, 1]⟩
abbrev S2048x256 : Shape := ⟨2, ![2048, 256]⟩
abbrev S2048x128 : Shape := ⟨2, ![2048, 128]⟩
abbrev S1x2048x1 : Shape := ⟨3, ![1, 2048, 1]⟩
abbrev S2048x1 : Shape := ⟨2, ![2048, 1]⟩
abbrev S256x256 : Shape := ⟨2, ![256, 256]⟩
abbrev S256x1 : Shape := ⟨2, ![256, 1]⟩
abbrev S256 : Shape := ⟨1, ![256]⟩
abbrev S256x128 : Shape := ⟨2, ![256, 128]⟩
abbrev S512x256 : Shape := ⟨2, ![512, 256]⟩
abbrev S256x512 : Shape := ⟨2, ![256, 512]⟩
abbrev S512x128 : Shape := ⟨2, ![512, 128]⟩
abbrev S768x256 : Shape := ⟨2, ![768, 256]⟩
abbrev S256x768 : Shape := ⟨2, ![256, 768]⟩
abbrev S768x128 : Shape := ⟨2, ![768, 128]⟩
abbrev S1024x256 : Shape := ⟨2, ![1024, 256]⟩
abbrev S256x1024 : Shape := ⟨2, ![256, 1024]⟩
abbrev S1024x128 : Shape := ⟨2, ![1024, 128]⟩
abbrev S1280x256 : Shape := ⟨2, ![1280, 256]⟩
abbrev S256x1280 : Shape := ⟨2, ![256, 1280]⟩
abbrev S1280x128 : Shape := ⟨2, ![1280, 128]⟩
abbrev S1536x256 : Shape := ⟨2, ![1536, 256]⟩
abbrev S256x1536 : Shape := ⟨2, ![256, 1536]⟩
abbrev S1536x128 : Shape := ⟨2, ![1536, 128]⟩
abbrev S1792x256 : Shape := ⟨2, ![1792, 256]⟩
abbrev S256x1792 : Shape := ⟨2, ![256, 1792]⟩
abbrev S1792x128 : Shape := ⟨2, ![1792, 128]⟩
abbrev S256x2048 : Shape := ⟨2, ![256, 2048]⟩

abbrev nBuf : Space → Nat
  | .hbm => 5
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8x8192x1, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S2048x1, .f32⟩
  | .local _ .vmem, ⟨11, _⟩ => ⟨S2048x1, .f32⟩
  | .local _ .vmem, ⟨12, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 10], ![false, false]⟩

def k0_cond4 (i : grid0.Coords) : BitVec 1 :=
  let arg1 : BitVec 32 := BitVec.ofNat 32 (i 1).val
  let c0_i32 : BitVec 32 := 0#32
  let c1_i32 : BitVec 32 := 1#32
  let v0 : BitVec 1 := Scalar.cmpi .sge arg1 c1_i32
  let v1 : BitVec 32 := Scalar.extui v0
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c2_i32 : BitVec 32 := 2#32
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let v11 : BitVec 32 := Scalar.divsi v10 c2_i32
  let c1_i32_6 : BitVec 32 := 1#32
  let v26 : BitVec 32 := Scalar.subi v11 c1_i32_6
  let v27 : BitVec 32 := Scalar.select v25 v26 v11
  let v28 : BitVec 32 := Scalar.subi arg1 v27
  let v41 : BitVec 1 := Scalar.cmpi .eq v28 v8
  let v42 : BitVec 32 := Scalar.extui v41
  let c0_i32_14 : BitVec 32 := 0#32
  let v43 : BitVec 1 := Scalar.cmpi .ne v42 c0_i32_14
  v43

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  ![v8.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c1_i32_7 : BitVec 32 := 1#32
  let v29 : BitVec 1 := Scalar.cmpi .sge arg1 c1_i32_7
  let v30 : BitVec 32 := Scalar.extui v29
  let c0_i32_8 : BitVec 32 := 0#32
  let v31 : BitVec 32 := Scalar.addi c0_i32_8 v30
  let c3_i32_9 : BitVec 32 := 3#32
  let v32 : BitVec 1 := Scalar.cmpi .sge arg1 c3_i32_9
  let v33 : BitVec 32 := Scalar.extui v32
  let v34 : BitVec 32 := Scalar.addi v31 v33
  let c6_i32_10 : BitVec 32 := 6#32
  let v35 : BitVec 1 := Scalar.cmpi .sge arg1 c6_i32_10
  let v36 : BitVec 32 := Scalar.extui v35
  let v37 : BitVec 32 := Scalar.addi v34 v36
  let c1_i32_11 : BitVec 32 := 1#32
  let v38 : BitVec 32 := Scalar.addi v37 c1_i32_11
  let v39 : BitVec 32 := Scalar.muli v37 v38
  let c2_i32_12 : BitVec 32 := 2#32
  let v40 : BitVec 32 := Scalar.divsi v39 c2_i32_12
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c0_i32_15 : BitVec 32 := 0#32
  let v46 : BitVec 1 := Scalar.cmpi .sgt c2_i32_12 c0_i32_15
  let v47 : BitVec 32 := Scalar.extui v46
  let c0_i32_16 : BitVec 32 := 0#32
  let v48 : BitVec 1 := Scalar.cmpi .slt c2_i32_12 c0_i32_16
  let v49 : BitVec 32 := Scalar.extui v48
  let v50 : BitVec 32 := Scalar.subi v47 v49
  let v51 : BitVec 1 := Scalar.cmpi .ne v45 v50
  let v52 : BitVec 32 := Scalar.remsi v39 c2_i32_12
  let c0_i32_17 : BitVec 32 := 0#32
  let v53 : BitVec 1 := Scalar.cmpi .ne v52 c0_i32_17
  let v54 : BitVec 1 := Scalar.andi v51 v53
  let c1_i32_18 : BitVec 32 := 1#32
  let v55 : BitVec 32 := Scalar.subi v40 c1_i32_18
  let v56 : BitVec 32 := Scalar.select v54 v55 v40
  let v57 : BitVec 32 := Scalar.subi arg1 v56
  let v58 : BitVec 32 := Scalar.subi v8 v57
  let c0_i32_19 : BitVec 32 := 0#32
  ![v58.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c1_i32_7 : BitVec 32 := 1#32
  let v29 : BitVec 1 := Scalar.cmpi .sge arg1 c1_i32_7
  let v30 : BitVec 32 := Scalar.extui v29
  let c0_i32_8 : BitVec 32 := 0#32
  let v31 : BitVec 32 := Scalar.addi c0_i32_8 v30
  let c3_i32_9 : BitVec 32 := 3#32
  let v32 : BitVec 1 := Scalar.cmpi .sge arg1 c3_i32_9
  let v33 : BitVec 32 := Scalar.extui v32
  let v34 : BitVec 32 := Scalar.addi v31 v33
  let c6_i32_10 : BitVec 32 := 6#32
  let v35 : BitVec 1 := Scalar.cmpi .sge arg1 c6_i32_10
  let v36 : BitVec 32 := Scalar.extui v35
  let v37 : BitVec 32 := Scalar.addi v34 v36
  let c1_i32_11 : BitVec 32 := 1#32
  let v38 : BitVec 32 := Scalar.addi v37 c1_i32_11
  let v39 : BitVec 32 := Scalar.muli v37 v38
  let c2_i32_12 : BitVec 32 := 2#32
  let v40 : BitVec 32 := Scalar.divsi v39 c2_i32_12
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c0_i32_15 : BitVec 32 := 0#32
  let v46 : BitVec 1 := Scalar.cmpi .sgt c2_i32_12 c0_i32_15
  let v47 : BitVec 32 := Scalar.extui v46
  let c0_i32_16 : BitVec 32 := 0#32
  let v48 : BitVec 1 := Scalar.cmpi .slt c2_i32_12 c0_i32_16
  let v49 : BitVec 32 := Scalar.extui v48
  let v50 : BitVec 32 := Scalar.subi v47 v49
  let v51 : BitVec 1 := Scalar.cmpi .ne v45 v50
  let v52 : BitVec 32 := Scalar.remsi v39 c2_i32_12
  let c0_i32_17 : BitVec 32 := 0#32
  let v53 : BitVec 1 := Scalar.cmpi .ne v52 c0_i32_17
  let v54 : BitVec 1 := Scalar.andi v51 v53
  let c1_i32_18 : BitVec 32 := 1#32
  let v55 : BitVec 32 := Scalar.subi v40 c1_i32_18
  let v56 : BitVec 32 := Scalar.select v54 v55 v40
  let v57 : BitVec 32 := Scalar.subi arg1 v56
  let v58 : BitVec 32 := Scalar.subi v8 v57
  let c0_i32_19 : BitVec 32 := 0#32
  ![v58.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  ![v8.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg1 c3_i32
  let v4 : BitVec 32 := Scalar.extui v3
  let v5 : BitVec 32 := Scalar.addi v2 v4
  let c6_i32 : BitVec 32 := 6#32
  let v6 : BitVec 1 := Scalar.cmpi .sge arg1 c6_i32
  let v7 : BitVec 32 := Scalar.extui v6
  let v8 : BitVec 32 := Scalar.addi v5 v7
  let c1_i32_0 : BitVec 32 := 1#32
  let v9 : BitVec 32 := Scalar.addi v8 c1_i32_0
  let v10 : BitVec 32 := Scalar.muli v8 v9
  let c2_i32 : BitVec 32 := 2#32
  let v11 : BitVec 32 := Scalar.divsi v10 c2_i32
  let c0_i32_1 : BitVec 32 := 0#32
  let v12 : BitVec 1 := Scalar.cmpi .sgt v10 c0_i32_1
  let v13 : BitVec 32 := Scalar.extui v12
  let c0_i32_2 : BitVec 32 := 0#32
  let v14 : BitVec 1 := Scalar.cmpi .slt v10 c0_i32_2
  let v15 : BitVec 32 := Scalar.extui v14
  let v16 : BitVec 32 := Scalar.subi v13 v15
  let c0_i32_3 : BitVec 32 := 0#32
  let v17 : BitVec 1 := Scalar.cmpi .sgt c2_i32 c0_i32_3
  let v18 : BitVec 32 := Scalar.extui v17
  let c0_i32_4 : BitVec 32 := 0#32
  let v19 : BitVec 1 := Scalar.cmpi .slt c2_i32 c0_i32_4
  let v20 : BitVec 32 := Scalar.extui v19
  let v21 : BitVec 32 := Scalar.subi v18 v20
  let v22 : BitVec 1 := Scalar.cmpi .ne v16 v21
  let v23 : BitVec 32 := Scalar.remsi v10 c2_i32
  let c0_i32_5 : BitVec 32 := 0#32
  let v24 : BitVec 1 := Scalar.cmpi .ne v23 c0_i32_5
  let v25 : BitVec 1 := Scalar.andi v22 v24
  let c1_i32_6 : BitVec 32 := 1#32
  let v26 : BitVec 32 := Scalar.subi v11 c1_i32_6
  let v27 : BitVec 32 := Scalar.select v25 v26 v11
  let v28 : BitVec 32 := Scalar.subi arg1 v27
  let c0_i32_7 : BitVec 32 := 0#32
  let c0_i32_8 : BitVec 32 := 0#32
  ![arg0.toNat, v8.toNat, c0_i32_7.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel18Ideal.lean ====
variable {F : FTy → Type} [FloatOps F] [Named F]
def κ : String → Option EReal := fun
  | "mask" => some ⊥
  | _ => none
-- ==== Reference18Ideal.lean ====
abbrev S8192x2048 : Shape := ⟨2, ![8192, 2048]⟩
abbrev S8192x1024 : Shape := ⟨2, ![8192, 1024]⟩
abbrev S8192x8x256 : Shape := ⟨3, ![8192, 8, 256]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x2048, .f32⟩
  | .hbm, ⟨4, _⟩ => ⟨S8192x8x256, .f32⟩
  | .hbm, ⟨5, _⟩ => ⟨S8192x2048, .f32⟩
  | .hbm, ⟨6, _⟩ => ⟨S8192x8x256, .f32⟩
  | .hbm, ⟨7, _⟩ => ⟨S8192x1024, .f32⟩
  | .hbm, ⟨8, _⟩ => ⟨S8192x8x128, .f32⟩
  | .hbm, ⟨9, _⟩ => ⟨S8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x8192x8192, .i1⟩
  | .hbm, ⟨17, _⟩ => ⟨S_, .f32⟩
  | .hbm, ⟨18, _⟩ => ⟨S_, .f32⟩
  | .hbm, ⟨19, _⟩ => ⟨S8x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S_, .f32⟩
  | .hbm, ⟨25, _⟩ => ⟨S8x8192, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x128x8192, .f32⟩
  | .hbm, ⟨37, _⟩ => ⟨S8192x8x128, .f32⟩
  | .hbm, ⟨38, _⟩ => ⟨S8192x1024, .f32⟩
  | .hbm, ⟨39, _⟩ => ⟨S8192x1024, .bf16⟩
  | .hbm, ⟨40, _⟩ => ⟨S8192x2048, .f32⟩
  | .hbm, ⟨41, _⟩ => ⟨S8192x8x256, .f32⟩
  | .hbm, ⟨42, _⟩ => ⟨S8192x2048, .f32⟩
  | .hbm, ⟨43, _⟩ => ⟨S8192x8x256, .f32⟩
  | .hbm, ⟨44, _⟩ => ⟨S8x8192x8192, .f32⟩
  | .hbm, ⟨45, _⟩ => ⟨S8192, .i32⟩
  | .hbm, ⟨46, _⟩ => ⟨S1x8192, .i32⟩
  | .hbm, ⟨47, _⟩ => ⟨S8192x1, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S1x8192x8192, .i1⟩
  | .hbm, ⟨52, _⟩ => ⟨S_, .f32⟩
  | .hbm, ⟨53, _⟩ => ⟨S_, .f32⟩
  | .hbm, ⟨54, _⟩ => ⟨S8x8192x8192, .i1⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S8x8192x1, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel19.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S1024x2048, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S1024x2048, .bf16⟩
  | .hbm, ⟨4, _⟩ => ⟨S8192x2048, .bf16⟩
  | .hbm, ⟨5, _⟩ => ⟨S8192x2048, .bf16⟩
  | .hbm, ⟨6, _⟩ => ⟨S8192x1024, .f32⟩
  | .hbm, ⟨7, _⟩ => ⟨S1024x2048, .f32⟩
  | .hbm, ⟨8, _⟩ => ⟨S8192x2048, .f32⟩
  | .hbm, ⟨9, _⟩ => ⟨S8192x1024, .f32⟩
  | .hbm, ⟨10, _⟩ => ⟨S1024x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | .hbm, ⟨18, _⟩ => ⟨S8192x2048, .bf16⟩
  | .hbm, ⟨19, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel20.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S8192x2048 : Shape := ⟨2, ![8192, 2048]⟩
abbrev S2048x896 : Shape := ⟨2, ![2048, 896]⟩
abbrev S8192x896 : Shape := ⟨2, ![8192, 896]⟩
abbrev S512x2048 : Shape := ⟨2, ![512, 2048]⟩
abbrev S512x896 : Shape := ⟨2, ![512, 896]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x896, .bf16⟩
  | .hbm, ⟨2, _⟩ => ⟨S8192x896, .f32⟩
  | .local _ .vmem, ⟨0, _⟩ => ⟨S512x2048, .bf16⟩
  | .local _ .vmem, ⟨1, _⟩ => ⟨S512x2048, .bf16⟩
  | .local _ .vmem, ⟨2, _⟩ => ⟨S2048x896, .bf16⟩
  | .local _ .vmem, ⟨3, _⟩ => ⟨S512x896, .f32⟩
  | .local _ .vmem, ⟨4, _⟩ => ⟨S512x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x2048 : Shape := ⟨2, ![8192, 2048]⟩
abbrev S2048x896 : Shape := ⟨2, ![2048, 896]⟩
abbrev S8192x896 : Shape := ⟨2, ![8192, 896]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x896, .bf16⟩
  | .hbm, ⟨2, _⟩ => ⟨S8192x2048, .f32⟩
  | .hbm, ⟨3, _⟩ => ⟨S2048x896, .f32⟩
  | .hbm, ⟨4, _⟩ => ⟨S8192x896, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8192x2048 : Shape := ⟨2, ![8192, 2048]⟩
abbrev S8192x896 : Shape := ⟨2, ![8192, 896]⟩
abbrev S2048x896 : Shape := ⟨2, ![2048, 896]⟩
abbrev S2048x1024 : Shape := ⟨2, ![2048, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x896, .bf16⟩
  | .hbm, ⟨2, _⟩ => ⟨S2048x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x2048 : Shape := ⟨2, ![8192, 2048]⟩
abbrev S8192x896 : Shape := ⟨2, ![8192, 896]⟩
abbrev S_ : Shape := ⟨0, ![]⟩
abbrev S2048x896 : Shape := ⟨2, ![2048, 896]⟩
abbrev S896x2048 : Shape := ⟨2, ![896, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x896, .bf16⟩
  | .hbm, ⟨2, _⟩ => ⟨S8192x2048, .f32⟩
  | .hbm, ⟨3, _⟩ => ⟨S_, .f32⟩
  | .hbm, ⟨4, _⟩ => ⟨S2048x896, .f32⟩
  | .hbm, ⟨5, _⟩ => ⟨S8192x896, .f32⟩
  | .hbm, ⟨6, _⟩ => ⟨S8192x896, .f32⟩
  | .hbm, ⟨7, _⟩ => ⟨S896x2048, .f32⟩
  | .hbm, ⟨8, _⟩ => ⟨S2048x896, .f32⟩
  | .hbm, ⟨9, _⟩ => ⟨S2048x896, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S8192x896 : Shape := ⟨2, ![8192, 896]⟩
abbrev S2048x896 : Shape := ⟨2, ![2048, 896]⟩
abbrev S8192x2048 : Shape := ⟨2, ![8192, 2048]⟩
abbrev S512x896 : Shape := ⟨2, ![512, 896]⟩
abbrev S1024x896 : Shape := ⟨2, ![1024, 896]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x896, .bf16⟩
  | .hbm, ⟨1, _⟩ => ⟨S2048x896, .bf16⟩
  | .hbm, ⟨2, _⟩ => ⟨S8192x2048, .f32⟩
  | .local _ .vmem, ⟨0, _⟩ => ⟨S512x896, .bf16⟩
  | .local _ .vmem, ⟨1, _⟩ => ⟨S512x896, .bf16⟩
  | .local _ .vmem, ⟨2, _⟩ => ⟨S1024x896, .bf16⟩
  | .local _ .vmem, ⟨3, _⟩ => ⟨S1024x896, .bf16⟩
  | .local _ .vmem, ⟨4, _⟩ => ⟨S512x1024, .f32⟩
  | .local _ .vmem, ⟨5, _⟩ => ⟨S512x1024, .f32⟩
  | _, _ => ⟨S8192x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x896 : Shape := ⟨2, ![8192, 896]⟩
abbrev S2048x896 : Shape := ⟨2, ![2048, 896]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x896, .bf16⟩
  | .hbm, ⟨1, _⟩ => ⟨S2048x896, .bf16⟩
  | .hbm, ⟨2, _⟩ => ⟨S2048x896, .f32⟩
  | .hbm, ⟨3, _⟩ => ⟨S_, .f32⟩
  | .hbm, ⟨4, _⟩ => ⟨S8192x2048, .f32⟩
  | .hbm, ⟨5, _⟩ => ⟨S8192x896, .f32⟩
  | .hbm, ⟨6, _⟩ => ⟨S8192x896, .f32⟩
  | .hbm, ⟨7, _⟩ => ⟨S8192x2048, .f32⟩
  | _, _ => ⟨S8192x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S8192x2048 : Shape := ⟨2, ![8192, 2048]⟩
abbrev S2048x2048 : Shape := ⟨2, ![2048, 2048]⟩
abbrev S8192x256 : Shape := ⟨2, ![8192, 256]⟩
abbrev S256x2048 : Shape := ⟨2, ![256, 2048]⟩
abbrev S8192x1 : Shape := ⟨2, ![8192, 1]⟩
abbrev S512x2048 : Shape := ⟨2, ![512, 2048]⟩
abbrev S2048x512 : Shape := ⟨2, ![2048, 512]⟩
abbrev S512x256 : Shape := ⟨2, ![512, 256]⟩
abbrev S256x512 : Shape := ⟨2, ![256, 512]⟩
abbrev S512x512 : Shape := ⟨2, ![512, 512]⟩
abbrev S512x1 : Shape := ⟨2, ![512, 1]⟩
abbrev S512 : Shape := ⟨1, ![512]⟩

abbrev nBuf : Space → Nat
  | .hbm => 10
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x256, .f32⟩
  | .hbm, ⟨3, _⟩ => ⟨S256x2048, .bf16⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S8192x2048, .bf16⟩
  | .hbm, ⟨9, _⟩ => ⟨S8192x1, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x256, .f32⟩
  | .local _ .vmem, ⟨5, _⟩ => ⟨S512x256, .f32⟩
  | .local _ .vmem, ⟨6, _⟩ => ⟨S256x512, .bf16⟩
  | .local _ .vmem, ⟨7, _⟩ => ⟨S256x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1, .f32⟩
  | .local _ .vmem, ⟨19, _⟩ => ⟨S512x1, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference25Ideal.lean ====
abbrev S8192x2048 : Shape := ⟨2, ![8192, 2048]⟩
abbrev S2048x2048 : Shape := ⟨2, ![2048, 2048]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x256, .f32⟩
  | .hbm, ⟨3, _⟩ => ⟨S256x2048, .bf16⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S256x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .bf16⟩
  | .hbm, ⟨52, _⟩ => ⟨S8192x2048, .bf16⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Kernel26.lean ====
abbrev S8192x512 : Shape := ⟨2, ![8192, 512]⟩
abbrev S512x2048 : Shape := ⟨2, ![512, 2048]⟩
abbrev S8192x2048 : Shape := ⟨2, ![8192, 2048]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x2048, .bf16⟩
  | .hbm, ⟨2, _⟩ => ⟨S8192x512, .f32⟩
  | .hbm, ⟨3, _⟩ => ⟨S512x2048, .f32⟩
  | .hbm, ⟨4, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel27.lean ====
abbrev S8192x256 : Shape := ⟨2, ![8192, 256]⟩
abbrev S256x2048 : Shape := ⟨2, ![256, 2048]⟩
abbrev S8192x2048 : Shape := ⟨2, ![8192, 2048]⟩
abbrev S512x256 : Shape := ⟨2, ![512, 256]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x2048, .f32⟩
  | .local _ .vmem, ⟨0, _⟩ => ⟨S512x256, .bf16⟩
  | .local _ .vmem, ⟨1, _⟩ => ⟨S512x256, .bf16⟩
  | .local _ .vmem, ⟨2, _⟩ => ⟨S256x2048, .bf16⟩
  | .local _ .vmem, ⟨3, _⟩ => ⟨S512x2048, .f32⟩
  | .local _ .vmem, ⟨4, _⟩ => ⟨S512x2048, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x2048, .bf16⟩
  | .hbm, ⟨2, _⟩ => ⟨S8192x256, .f32⟩
  | .hbm, ⟨3, _⟩ => ⟨S256x2048, .f32⟩
  | .hbm, ⟨4, _⟩ => ⟨S8192x2048, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x512, .f32⟩
  | .hbm, ⟨3, _⟩ => ⟨S_, .f32⟩
  | .hbm, ⟨4, _⟩ => ⟨S512x2048, .f32⟩
  | .hbm, ⟨5, _⟩ => ⟨S8192x2048, .f32⟩
  | .hbm, ⟨6, _⟩ => ⟨S8192x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel29.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x2048, .bf16⟩
  | .hbm, ⟨2, _⟩ => ⟨S8192x256, .f32⟩
  | .hbm, ⟨3, _⟩ => ⟨S_, .f32⟩
  | .hbm, ⟨4, _⟩ => ⟨S256x2048, .f32⟩
  | .hbm, ⟨5, _⟩ => ⟨S8192x2048, .f32⟩
  | .hbm, ⟨6, _⟩ => ⟨S8192x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel30.lean ====
abbrev S8192x2048 : Shape := ⟨2, ![8192, 2048]⟩
abbrev S512x2048 : Shape := ⟨2, ![512, 2048]⟩
abbrev S8192x512 : Shape := ⟨2, ![8192, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x512, .f32⟩
  | .local _ .vmem, ⟨4, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S512x2048, .f32⟩
  | .hbm, ⟨3, _⟩ => ⟨S_, .f32⟩
  | .hbm, ⟨4, _⟩ => ⟨S8192x512, .f32⟩
  | .hbm, ⟨5, _⟩ => ⟨S8192x2048, .f32⟩
  | .hbm, ⟨6, _⟩ => ⟨S8192x2048, .f32⟩
  | .hbm, ⟨7, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel31.lean ====
abbrev S8192x2048 : Shape := ⟨2, ![8192, 2048]⟩
abbrev S256x2048 : Shape := ⟨2, ![256, 2048]⟩
abbrev S8192x256 : Shape := ⟨2, ![8192, 256]⟩
abbrev S512x2048 : Shape := ⟨2, ![512, 2048]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x256, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S512x256, .f32⟩
  | .local _ .vmem, ⟨4, _⟩ => ⟨S512x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S8192x2048 : Shape := ⟨2, ![8192, 2048]⟩
abbrev S256x2048 : Shape := ⟨2, ![256, 2048]⟩
abbrev S_ : Shape := ⟨0, ![]⟩
abbrev S8192x256 : Shape := ⟨2, ![8192, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .f32⟩
  | .hbm, ⟨3, _⟩ => ⟨S_, .f32⟩
  | .hbm, ⟨4, _⟩ => ⟨S8192x256, .f32⟩
  | .hbm, ⟨5, _⟩ => ⟨S8192x2048, .f32⟩
  | .hbm, ⟨6, _⟩ => ⟨S8192x2048, .f32⟩
  | .hbm, ⟨7, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel32.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S256x2048, .bf16⟩
  | .local _ .vmem, ⟨0, _⟩ => ⟨S2048x256, .f32⟩
  | .local _ .vmem, ⟨1, _⟩ => ⟨S2048x256, .f32⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference32Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S8192x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Model.lean ====
/-
The gradient of causal attention's queries, keys and values as one formula over the reals, for one head: the queries, keys, values
and the gradient of the head's output as real arrays indexed by natural numbers, and the identities between the forms
in which the kernel and the textbook's backward pass write the gradient.
-/
module

public import Idealize.ShloMosaic.Lib.ValueIdx
public import Idealize.ShloMosaic.Lib.IdealHost
public import Mathlib.Analysis.SpecialFunctions.Log.Basic

@[expose] public section

noncomputable section

namespace Cert.Dkv

open Finset

/-- A finite sum of reals, summed as extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over `Fin n` of extended reals that are reals is the real sum over `range n`. -/
theorem sum_fin_coe {n : ℕ} (f : Fin n → EReal) (g : ℕ → ℝ) (h : ∀ k, f k = (g k : EReal)) :
    ∑ k, f k = ((∑ k ∈ range n, g k : ℝ) : EReal) := by
  rw [sum_range, coe_sum]; exact sum_congr rfl fun k _ => h k

/-- The columns of head `h`, each head `w` wide. -/
def head (w : ℕ) (A : ℕ → ℕ → ℝ) (h : ℕ) : ℕ → ℕ → ℝ := fun i d => A i (h * w + d)

/-- The score of query `i` and key `j`. -/
def S (Q K : ℕ → ℕ → ℝ) (i j : ℕ) : ℝ := ∑ d ∈ range 256, Q i d * K j d
/-- The product of value `j` and output gradient `i`. -/
def DP (V G : ℕ → ℕ → ℝ) (i j : ℕ) : ℝ := ∑ c ∈ range 128, V j c * G i c
/-- The causal probability of key `j` for query `i`, from the query's saved logarithm `L i` of its sum of exponentials. -/
def P (Q K : ℕ → ℕ → ℝ) (L : ℕ → ℝ) (i j : ℕ) : ℝ := if j ≤ i then Real.exp (S Q K i j - L i) else 0
/-- What query `i` adds to the gradient of value `j` in column `c`. -/
def dvTerm (Q K G : ℕ → ℕ → ℝ) (L : ℕ → ℝ) (j c i : ℕ) : ℝ := P Q K L i j * G i c
/-- What query `i` adds to the gradient of key `j` in column `d`; `D i` is the query's saved delta. -/
def dkTerm (Q K V G : ℕ → ℕ → ℝ) (L D : ℕ → ℝ) (j d i : ℕ) : ℝ := P Q K L i j * (DP V G i j - D i) * Q i d

theorem P_of_lt (Q K : ℕ → ℕ → ℝ) (L : ℕ → ℝ) {i j : ℕ} (h : i < j) : P Q K L i j = 0 := if_neg (by omega)

theorem dvTerm_of_lt (Q K G : ℕ → ℕ → ℝ) (L : ℕ → ℝ) (j c : ℕ) {i : ℕ} (h : i < j) : dvTerm Q K G L j c i = 0 := by
  rw [dvTerm, P_of_lt _ _ _ h, zero_mul]

theorem dkTerm_of_lt (Q K V G : ℕ → ℕ → ℝ) (L D : ℕ → ℝ) (j d : ℕ) {i : ℕ} (h : i < j) : dkTerm Q K V G L D j d i = 0 := by
  rw [dkTerm, P_of_lt _ _ _ h, zero_mul, zero_mul]

/-- A sum of terms that vanish below `o` may start at `o`. -/
theorem sum_range_shift (f : ℕ → ℝ) (o n : ℕ) (h : ∀ i < o, f i = 0) : ∑ x ∈ range n, f (o + x) = ∑ i ∈ range (o + n), f i := by
  rw [sum_range_add, sum_eq_zero fun i hi => h i (mem_range.mp hi), zero_add]

/-! The softmax of the causal scores, and what the forward pass saves of it. -/

/-- A query's largest causal score. -/
def M (Q K : ℕ → ℕ → ℝ) (i : ℕ) : ℝ := (range (i + 1)).sup' ⟨0, by simp⟩ (S Q K i)
/-- The exponential of a causal score over its row's largest, zero where the mask hides the key. -/
def E (Q K : ℕ → ℕ → ℝ) (i j : ℕ) : ℝ := if j ≤ i then Real.exp (S Q K i j - M Q K i) else 0
/-- A query's sum of exponentials. -/
def Z (Q K : ℕ → ℕ → ℝ) (i : ℕ) : ℝ := ∑ j ∈ range 8192, E Q K i j
/-- The logarithm of a query's sum, as the forward pass saves it. -/
def Lse (Q K : ℕ → ℕ → ℝ) (i : ℕ) : ℝ := M Q K i + Real.log (Z Q K i)
/-- The head's output. -/
def O (Q K V : ℕ → ℕ → ℝ) (i c : ℕ) : ℝ := ∑ j ∈ range 8192, V j c * (E Q K i j / Z Q K i)
/-- A query's delta: its output times the output's gradient, summed. -/
def Del (Q K V G : ℕ → ℕ → ℝ) (i : ℕ) : ℝ := ∑ c ∈ range 128, G i c * O Q K V i c

theorem E_nonneg (Q K : ℕ → ℕ → ℝ) (i j : ℕ) : 0 ≤ E Q K i j := by
  unfold E; split_ifs
  · exact (Real.exp_pos _).le
  · exact le_refl _

theorem Z_pos (Q K : ℕ → ℕ → ℝ) {i : ℕ} (hi : i < 8192) : 0 < Z Q K i := by
  refine sum_pos' (fun j _ => E_nonneg Q K i j) ⟨i, mem_range.mpr hi, ?_⟩
  rw [E, if_pos (le_refl i)]; exact Real.exp_pos _

/-- The probability from the saved logarithm is the softmax. -/
theorem P_lse (Q K : ℕ → ℕ → ℝ) {i : ℕ} (hi : i < 8192) (j : ℕ) : P Q K (Lse Q K) i j = E Q K i j / Z Q K i := by
  unfold P E
  split_ifs
  · rw [Lse, ← sub_sub, Real.exp_sub _ (Real.log _), Real.exp_log (Z_pos Q K hi)]
  · rw [zero_div]

/-- The delta is the probabilities' mean of the products of values and output gradient. -/
theorem Del_eq (Q K V G : ℕ → ℕ → ℝ) (i : ℕ) :
    Del Q K V G i = ∑ j ∈ range 8192, E Q K i j / Z Q K i * DP V G i j := by
  unfold Del O DP
  simp_rw [mul_sum]
  rw [sum_comm]
  exact sum_congr rfl fun j _ => sum_congr rfl fun c _ => by ring

/-- The textbook's form of a score's gradient is the kernel's. -/
theorem ds_form (Q K V G : ℕ → ℕ → ℝ) {i : ℕ} (hi : i < 8192) (j : ℕ) :
    (if j ≤ i then (DP V G i j * (1 / Z Q K i) + -∑ k ∈ range 8192, DP V G i k * (1 / (Z Q K i * Z Q K i)) * E Q K i k) * E Q K i j
      else 0)
      = P Q K (Lse Q K) i j * (DP V G i j - Del Q K V G i) := by
  have hz := (Z_pos Q K hi).ne'
  rw [P_lse Q K hi, Del_eq]
  split_ifs with h
  · have e : ∑ k ∈ range 8192, DP V G i k * (1 / (Z Q K i * Z Q K i)) * E Q K i k
        = (1 / Z Q K i) * ∑ k ∈ range 8192, E Q K i k / Z Q K i * DP V G i k := by
      rw [mul_sum]; exact sum_congr rfl fun k _ => by field_simp
    rw [e]
    field_simp
    ring
  · rw [E, if_neg h]; ring

/-- The textbook's form of one query's share of a key's gradient is the kernel's. -/
theorem dk_form (Q K V G : ℕ → ℕ → ℝ) {i : ℕ} (hi : i < 8192) (j d : ℕ) :
    (if j ≤ i then (DP V G i j * (1 / Z Q K i) + -∑ k ∈ range 8192, DP V G i k * (1 / (Z Q K i * Z Q K i)) * E Q K i k) * E Q K i j
      else 0) * Q i d
      = dkTerm Q K V G (Lse Q K) (Del Q K V G) j d i := by
  rw [ds_form Q K V G hi, dkTerm]

/-- What key `j` adds to the gradient of query `i` in column `d`; `D i` is the query's saved delta. -/
def dqTerm (Q K V G : ℕ → ℕ → ℝ) (L D : ℕ → ℝ) (i d j : ℕ) : ℝ := P Q K L i j * (DP V G i j - D i) * K j d

theorem dqTerm_of_lt (Q K V G : ℕ → ℕ → ℝ) (L D : ℕ → ℝ) (d : ℕ) {i j : ℕ} (h : i < j) : dqTerm Q K V G L D i d j = 0 := by
  rw [dqTerm, P_of_lt _ _ _ h, zero_mul, zero_mul]

/-- The textbook's form of one key's share of a query's gradient is the kernel's. -/
theorem dq_form (Q K V G : ℕ → ℕ → ℝ) {i : ℕ} (hi : i < 8192) (d j : ℕ) :
    (if j ≤ i then (DP V G i j * (1 / Z Q K i) + -∑ k ∈ range 8192, DP V G i k * (1 / (Z Q K i * Z Q K i)) * E Q K i k) * E Q K i j
      else 0) * K j d
      = dqTerm Q K V G (Lse Q K) (Del Q K V G) i d j := by
  rw [ds_form Q K V G hi, dqTerm]

end Cert.Dkv

end
-- ==== Proof.Tile.lean ====
/-
One sub-step of the kernel's body over the extended reals: 256 rows of a key block against `n` rows of a query block. The
operations the body prints for it, at a variable number of query rows, and what they leave when their operands are real.
-/
module

public import proofs.«01_k».proof.Proof.Model
public import proofs.«01_k».proof.Proof.Gen.KernelIdeal.Frame
public import Idealize.ShloMosaic.Lib.MatmulPlain
public import Idealize.ShloMosaic.Lib.ValueLayout
public import Idealize.ShloMosaic.Lib.WordCmp
public import Idealize.ShloMosaic.Lib.Pipeline.Value

@[expose] public section

set_option maxRecDepth 16384

noncomputable section

namespace Cert.Dkv

open Finset Idealize.ShloMosaic Idealize.ShloMosaic.ValueIdx

section Ops

variable {n : ℕ}

/-- `n` query rows' shapes: a [1, 1, n] row as the kernel loads it, the same as [1, n], and a [256, n] block of keys by queries. -/
abbrev Row3 (n : ℕ) : Shape := ⟨3, ![1, 1, n]⟩
abbrev Row2 (n : ℕ) : Shape := ⟨2, ![1, n]⟩
abbrev Blk (a b : ℕ) : Shape := ⟨2, ![a, b]⟩

/-- A saved row spread over the 256 key rows. -/
def spread (hc : (Row3 n).ShapeCasts (Row2 n)) (hb : (Row2 n).Broadcasts (Blk 256 n)) (l : Vec Ideal (Row3 n) .f32) :
    FVec Ideal (Blk 256 n) .f32 :=
  broadcastTo (Blk 256 n) (shapeCast (Row2 n) l hc) hb

/-- The scores, keys by queries. -/
def scoresT (k : Vec Ideal (Blk 256 256) .bf16) (q : Vec Ideal (Blk n 256) .bf16) : FVec Ideal (Blk 256 n) .f32 :=
  matmul (φ₁ := .bf16) (φ₂ := .bf16) (DotDims.transposedRhs 256 256 n) none k q (constant (Blk 256 n) .f32 0x00000000#32)

/-- Where a query is not before the key, both numbered from `w`. -/
def causal (w : ℕ) (h0 : (Blk 256 n).Iotas .tc 32 [0]) (h1 : (Blk 256 n).Iotas .tc 32 [1]) : IVec (Blk 256 n) 1 :=
  cmpi .sge (addi (iota .tc (Blk 256 n) 32 [1] h1) (broadcast (Blk 256 n) (BitVec.ofNat 32 w)))
    (addi (iota .tc (Blk 256 n) 32 [0] h0) (broadcast (Blk 256 n) (BitVec.ofNat 32 w)))

/-- The probabilities of a block below the diagonal. -/
def probs (hc : (Row3 n).ShapeCasts (Row2 n)) (hb : (Row2 n).Broadcasts (Blk 256 n)) (k : Vec Ideal (Blk 256 256) .bf16)
    (q : Vec Ideal (Blk n 256) .bf16) (l : Vec Ideal (Row3 n) .f32) : FVec Ideal (Blk 256 n) .f32 :=
  exp (subf (scoresT k q) (spread hc hb l))

/-- The probabilities of a block on the diagonal. -/
def probsMasked (w : ℕ) (h0 : (Blk 256 n).Iotas .tc 32 [0]) (h1 : (Blk 256 n).Iotas .tc 32 [1])
    (hc : (Row3 n).ShapeCasts (Row2 n)) (hb : (Row2 n).Broadcasts (Blk 256 n)) (k : Vec Ideal (Blk 256 256) .bf16)
    (q : Vec Ideal (Blk n 256) .bf16) (l : Vec Ideal (Row3 n) .f32) : FVec Ideal (Blk 256 n) .f32 :=
  exp (subf (select (causal w h0 h1) (scoresT k q)
    (broadcast (Blk 256 n) (Named.named Cert.KernelIdeal.κ "mask" 0xF149F2CA#32 : Ideal .f32))) (spread hc hb l))

/-- The values' gradient after the sub-step. -/
def dvTile (hs : (Blk 256 128).ShapeCasts (Blk 256 128)) (hw : FTy.bf16.bits < FTy.f32.bits) (p : FVec Ideal (Blk 256 n) .f32)
    (acc : Vec Ideal (Blk 256 128) .f32) (g : Vec Ideal (Blk n 128) .bf16) : FVec Ideal (Blk 256 128) .f32 :=
  shapeCast (Blk 256 128) (addf acc (matmul (φ₁ := .bf16) (φ₂ := .bf16) (DotDims.plain 256 n 128) none (truncf .bf16 p hw) g
    (constant (Blk 256 128) .f32 0x00000000#32))) hs

/-- The keys' gradient after the sub-step. -/
def dkTile (hs : (Blk 256 256).ShapeCasts (Blk 256 256)) (hw : FTy.bf16.bits < FTy.f32.bits) (hc : (Row3 n).ShapeCasts (Row2 n))
    (hb : (Row2 n).Broadcasts (Blk 256 n)) (p : FVec Ideal (Blk 256 n) .f32) (v : Vec Ideal (Blk 256 128) .bf16)
    (g : Vec Ideal (Blk n 128) .bf16) (acc : Vec Ideal (Blk 256 256) .f32) (dl : Vec Ideal (Row3 n) .f32)
    (q : Vec Ideal (Blk n 256) .bf16) : FVec Ideal (Blk 256 256) .f32 :=
  shapeCast (Blk 256 256) (addf acc (matmul (φ₁ := .bf16) (φ₂ := .bf16) (DotDims.plain 256 n 256) none (truncf .bf16 (mulf p (subf
    (matmul (φ₁ := .bf16) (φ₂ := .bf16) (DotDims.transposedRhs 256 128 n) none v g (constant (Blk 256 n) .f32 0x00000000#32)) (spread hc hb dl))) hw) q
    (constant (Blk 256 256) .f32 0x00000000#32))) hs

end Ops

section Values

variable {n : ℕ} {Q K V G : ℕ → ℕ → ℝ} {L D : ℕ → ℝ} {i0 j0 : ℕ}

theorem spread_apply (hc : (Row3 n).ShapeCasts (Row2 n)) (hb : (Row2 n).Broadcasts (Blk 256 n)) (l : Vec Ideal (Row3 n) .f32)
    (hl : ∀ x : Fin n, l (ix3 (0 : Fin 1) (0 : Fin 1) x) = (L (i0 + x) : EReal)) (r : Fin 256) (x : Fin n) :
    spread hc hb l (ix2 r x) = (L (i0 + x) : EReal) := by
  rw [spread, broadcastTo_1b_ab_apply, shapeCast_1ab_ab_apply, hl]

theorem scoresT_apply (k : Vec Ideal (Blk 256 256) .bf16) (q : Vec Ideal (Blk n 256) .bf16)
    (hk : ∀ (r d : Fin 256), k (ix2 r d) = (K (j0 + r) d : EReal))
    (hq : ∀ (x : Fin n) (d : Fin 256), q (ix2 x d) = (Q (i0 + x) d : EReal)) (r : Fin 256) (x : Fin n) :
    scoresT k q (ix2 r x) = (S Q K (i0 + x) (j0 + r) : EReal) := by
  rw [scoresT, matmul, Ideal.matmul_transposedRhs_apply, constant_apply, Ideal.ofBits_zero_f32, zero_add,
    sum_fin_coe _ (fun d => Q (i0 + x) d * K (j0 + r) d), S]
  intro d
  rw [hk, hq, ← EReal.coe_mul, mul_comm]

theorem causal_apply (w : ℕ) (hw : w + n < 2 ^ 31) (hw' : w + 256 < 2 ^ 31) (h0 : (Blk 256 n).Iotas .tc 32 [0])
    (h1 : (Blk 256 n).Iotas .tc 32 [1]) (r : Fin 256) (x : Fin n) :
    causal w h0 h1 (ix2 r x) = BitVec.ofBool (decide (r.val ≤ x.val)) := by
  show IntOp.cmpi .sge (iota .tc (Blk 256 n) 32 [1] h1 (ix2 r x) + BitVec.ofNat 32 w)
    (iota .tc (Blk 256 n) 32 [0] h0 (ix2 r x) + BitVec.ofNat 32 w) = _
  rw [iota_single_apply, iota_single_apply]
  show IntOp.cmpi .sge (BitVec.ofNat 32 x.val + BitVec.ofNat 32 w) (BitVec.ofNat 32 r.val + BitVec.ofNat 32 w) = _
  rw [← BitVec.ofNat_add, ← BitVec.ofNat_add, WordCmp.cmpi_sge_ofNat (by have := x.2; omega) (by have := r.2; omega)]
  simp

theorem probs_apply (hc : (Row3 n).ShapeCasts (Row2 n)) (hb : (Row2 n).Broadcasts (Blk 256 n)) (k : Vec Ideal (Blk 256 256) .bf16)
    (q : Vec Ideal (Blk n 256) .bf16) (l : Vec Ideal (Row3 n) .f32) (hk : ∀ (r d : Fin 256), k (ix2 r d) = (K (j0 + r) d : EReal))
    (hq : ∀ (x : Fin n) (d : Fin 256), q (ix2 x d) = (Q (i0 + x) d : EReal))
    (hl : ∀ x : Fin n, l (ix3 (0 : Fin 1) (0 : Fin 1) x) = (L (i0 + x) : EReal)) (hij : j0 + 256 ≤ i0 + 1) (r : Fin 256) (x : Fin n) :
    probs hc hb k q l (ix2 r x) = (P Q K L (i0 + x) (j0 + r) : EReal) := by
  show Ideal.exp (scoresT k q (ix2 r x) - spread hc hb l (ix2 r x)) = _
  rw [scoresT_apply k q hk hq, spread_apply hc hb l hl, ← EReal.coe_sub, Ideal.exp_coe, P, if_pos (by have := r.2; omega)]

theorem probsMasked_apply (w : ℕ) (hw : w + n < 2 ^ 31) (hw' : w + 256 < 2 ^ 31) (h0 : (Blk 256 n).Iotas .tc 32 [0])
    (h1 : (Blk 256 n).Iotas .tc 32 [1]) (hc : (Row3 n).ShapeCasts (Row2 n)) (hb : (Row2 n).Broadcasts (Blk 256 n))
    (k : Vec Ideal (Blk 256 256) .bf16) (q : Vec Ideal (Blk n 256) .bf16) (l : Vec Ideal (Row3 n) .f32)
    (hk : ∀ (r d : Fin 256), k (ix2 r d) = (K (j0 + r) d : EReal))
    (hq : ∀ (x : Fin n) (d : Fin 256), q (ix2 x d) = (Q (i0 + x) d : EReal))
    (hl : ∀ x : Fin n, l (ix3 (0 : Fin 1) (0 : Fin 1) x) = (L (i0 + x) : EReal)) (hij : i0 = j0) (r : Fin 256) (x : Fin n) :
    probsMasked w h0 h1 hc hb k q l (ix2 r x) = (P Q K L (i0 + x) (j0 + r) : EReal) := by
  show Ideal.exp (Scalar.select (causal w h0 h1 (ix2 r x)) (scoresT k q (ix2 r x))
    (Named.named Cert.KernelIdeal.κ "mask" 0xF149F2CA#32 : Ideal .f32) - spread hc hb l (ix2 r x)) = _
  rw [causal_apply w hw hw', scoresT_apply k q hk hq, spread_apply hc hb l hl, P]
  have hm : (Named.named Cert.KernelIdeal.κ "mask" 0xF149F2CA#32 : Ideal .f32) = (⊥ : EReal) := rfl
  rw [hm]
  by_cases h : r.val ≤ x.val
  · rw [if_pos (by omega), decide_eq_true h]
    show Ideal.exp ((S Q K (i0 + x) (j0 + r) : EReal) - (L (i0 + x) : EReal)) = _
    rw [← EReal.coe_sub, Ideal.exp_coe]
  · rw [if_neg (by omega), decide_eq_false h]
    show Ideal.exp ((⊥ : EReal) - (L (i0 + x) : EReal)) = _
    rw [EReal.bot_sub, Ideal.exp_bot, EReal.coe_zero]

theorem dvTile_apply (hs : (Blk 256 128).ShapeCasts (Blk 256 128)) (hw : FTy.bf16.bits < FTy.f32.bits)
    (p : FVec Ideal (Blk 256 n) .f32) (acc : Vec Ideal (Blk 256 128) .f32) (g : Vec Ideal (Blk n 128) .bf16) {A : ℝ}
    (hp : ∀ (r : Fin 256) (x : Fin n), p (ix2 r x) = (P Q K L (i0 + x) (j0 + r) : EReal))
    (hg : ∀ (x : Fin n) (c : Fin 128), g (ix2 x c) = (G (i0 + x) c : EReal)) (r : Fin 256) (c : Fin 128)
    (ha : acc (ix2 r c) = (A : EReal)) :
    dvTile hs hw p acc g (ix2 r c) = ((A + ∑ x ∈ range n, dvTerm Q K G L (j0 + r) c (i0 + x) : ℝ) : EReal) := by
  rw [dvTile, shapeCast_self, addf_apply, matmul, Ideal.matmul_plain_apply, constant_apply, Ideal.ofBits_zero_f32, zero_add, ha,
    EReal.coe_add, sum_fin_coe _ (fun x => dvTerm Q K G L (j0 + r) c (i0 + x))]
  intro x
  rw [truncf_apply, hp, hg, ← EReal.coe_mul, dvTerm]

theorem dkTile_apply (hs : (Blk 256 256).ShapeCasts (Blk 256 256)) (hw : FTy.bf16.bits < FTy.f32.bits)
    (hc : (Row3 n).ShapeCasts (Row2 n)) (hb : (Row2 n).Broadcasts (Blk 256 n)) (p : FVec Ideal (Blk 256 n) .f32)
    (v : Vec Ideal (Blk 256 128) .bf16) (g : Vec Ideal (Blk n 128) .bf16) (acc : Vec Ideal (Blk 256 256) .f32)
    (dl : Vec Ideal (Row3 n) .f32) (q : Vec Ideal (Blk n 256) .bf16) {A : ℝ}
    (hp : ∀ (r : Fin 256) (x : Fin n), p (ix2 r x) = (P Q K L (i0 + x) (j0 + r) : EReal))
    (hv : ∀ (r : Fin 256) (c : Fin 128), v (ix2 r c) = (V (j0 + r) c : EReal))
    (hg : ∀ (x : Fin n) (c : Fin 128), g (ix2 x c) = (G (i0 + x) c : EReal))
    (hd : ∀ x : Fin n, dl (ix3 (0 : Fin 1) (0 : Fin 1) x) = (D (i0 + x) : EReal))
    (hq : ∀ (x : Fin n) (d : Fin 256), q (ix2 x d) = (Q (i0 + x) d : EReal)) (r d : Fin 256)
    (ha : acc (ix2 r d) = (A : EReal)) :
    dkTile hs hw hc hb p v g acc dl q (ix2 r d)
      = ((A + ∑ x ∈ range n, dkTerm Q K V G L D (j0 + r) d (i0 + x) : ℝ) : EReal) := by
  rw [dkTile, shapeCast_self, addf_apply, matmul, Ideal.matmul_plain_apply, constant_apply, Ideal.ofBits_zero_f32, zero_add, ha,
    EReal.coe_add, sum_fin_coe _ (fun x => dkTerm Q K V G L D (j0 + r) d (i0 + x))]
  intro x
  rw [truncf_apply, mulf_apply, subf_apply, hp, matmul, Ideal.matmul_transposedRhs_apply, constant_apply, Ideal.ofBits_zero_f32,
    zero_add, spread_apply hc hb dl hd, hq, sum_fin_coe _ (fun c => V (j0 + r) c * G (i0 + x) c) (fun c => by
      rw [hv, hg, ← EReal.coe_mul]), ← EReal.coe_sub, ← EReal.coe_mul, ← EReal.coe_mul, dkTerm, DP]

end Values

end Cert.Dkv

end
-- ==== Proof.Piece.lean ====
/-
One sub-step of the kernel's body as a piece of an accumulator: at every row of the 256 it covers, what it stores.
-/
module

public import proofs.«01_k».proof.Proof.Tile
public import Idealize.ShloMosaic.Lib.Pipeline.ValueKit.Tiles
public import Idealize.ShloMosaic.Lib.Pipeline.ReadBack
public import Idealize.ShloMosaic.Lib.WholeRead

@[expose] public section

set_option maxRecDepth 16384

noncomputable section

namespace Cert.Dkv

open Finset Idealize.ShloMosaic Idealize.ShloMosaic.ValueIdx Idealize.ShloMosaic.TcCoe Idealize.ShloMosaic.Tactic
open Cert.KernelIdeal Cert.KernelIdeal.Gen

/-- A load of a whole memref's rectangle is the rectangle of its contents. -/
theorem readAt_unread_eq {κ : Kind} {sp : Space} {s : Shape} {e : EltTy} {m : Memref KernelIdeal.sig κ sp s e} (h : m.IsWhole)
    (X : s.Idx → Elt Ideal e) (R : Rect s) :
    View.readAt (Elt Ideal) m.view R.toLoadRect (h.unread X) = View.ld X R :=
  funext fun x => h.readAt_unread X R.toLoadRect x

/-- A load of `a` rows from row `o` on, all columns, read at an index. -/
theorem ld_rows {M N a o : ℕ} {e : EltTy} (X : Vec Ideal ⟨2, ![M, N]⟩ e)
    (inb : ∀ ax, (![o, 0] : Fin 2 → ℕ) ax + (![a, N] : Fin 2 → ℕ) ax ≤ (⟨2, ![M, N]⟩ : Shape).size ax) (r : Fin a) (c : Fin N)
    (h : o + r < M) :
    View.ld (Val := Elt Ideal) (S := ⟨2, ![M, N]⟩) X (Rect.unit ![o, 0] ![a, N] inb) (ix2 r c) = X (ix2 ⟨o + r, h⟩ c) := by
  refine View.ld_unit_apply_of _ _ _ _ _ _ fun ax => ?_
  match ax with
  | ⟨0, _⟩ => rfl
  | ⟨1, _⟩ => exact (Nat.zero_add _).symm

/-- A load of `a` entries of a saved row from entry `o` on, read at an index. -/
theorem ld_row {M a o : ℕ} {e : EltTy} (X : Vec Ideal ⟨3, ![1, 1, M]⟩ e)
    (inb : ∀ ax, (![0, 0, o] : Fin 3 → ℕ) ax + (![1, 1, a] : Fin 3 → ℕ) ax ≤ (⟨3, ![1, 1, M]⟩ : Shape).size ax) (x : Fin a)
    (h : o + x < M) :
    View.ld (Val := Elt Ideal) (S := ⟨3, ![1, 1, M]⟩) X (Rect.unit ![0, 0, o] ![1, 1, a] inb) (ix3 (0 : Fin 1) (0 : Fin 1) x)
      = X (ix3 (0 : Fin 1) (0 : Fin 1) ⟨o + x, h⟩) := by
  refine View.ld_unit_apply_of _ _ _ _ _ _ fun ax => ?_
  match ax with
  | ⟨0, _⟩ => rfl
  | ⟨1, _⟩ => rfl
  | ⟨2, _⟩ => rfl

/-- Every index of a two-axis shape is its two coordinates. -/
theorem eq_ix2 {a b : ℕ} (x : (⟨2, ![a, b]⟩ : Shape).Idx) : x = ix2 (x 0) (x 1) := by
  funext ax
  match ax with
  | ⟨0, _⟩ => rfl
  | ⟨1, _⟩ => rfl

/-- A piece of `a` whole rows from row `o` on has the value `v` at `(y, c)` when it has it at the row `r` with `y = o + r`. -/
theorem tileAt_rows {M N a o : ℕ} {e : EltTy} (w : Vec Ideal ⟨2, ![a, N]⟩ e) (v : Elt Ideal e) (y : Fin M) (c : Fin N)
    (h : ∀ r : Fin a, y.val = o + r → w (ix2 r c) = v) :
    View.TileAt (Val := Elt Ideal) (S := ⟨2, ![M, N]⟩) (e := e) (ix2 y c) ![o, 0] ![a, N] w v := by
  intro x hx
  have e0 : y.val = o + (x 0).val := hx 0
  have e1 : c.val = 0 + (x 1).val := hx 1
  have key : ∀ (r : Fin a) (c' : Fin N), y.val = o + r.val → c.val = 0 + c'.val → w (ix2 r c') = v := fun r c' hr hc' => by
    rw [show c' = c from Fin.ext (by omega)]; exact h r hr
  have hx' := eq_ix2 (a := a) (b := N) x
  exact (congrArg w hx').trans (key (x 0) (x 1) e0 e1)

/-- Row blocks stored one under the other, the lowest last, read at `(y, c)`: the last store that reaches as far down as `y`. -/
theorem canon_rows {M N a o : ℕ} {e : EltTy} (inb : ∀ ax, (![o, 0] : Fin 2 → ℕ) ax + (![a, N] : Fin 2 → ℕ) ax ≤ (⟨2, ![M, N]⟩ : Shape).size ax)
    (w : Vec Ideal ⟨2, ![a, N]⟩ e) (Ls : List (View.Piece (Elt Ideal) ⟨2, ![M, N]⟩ e)) (v : Elt Ideal e) (y : Fin M) (c : Fin N)
    (hy : y.val < o + a) (hw : View.TileAt (Val := Elt Ideal) (S := ⟨2, ![M, N]⟩) (e := e) (ix2 y c) ![o, 0] ![a, N] w v)
    (hL : y.val < o → View.canon Ls (ix2 y c) = v) :
    View.canon ((⟨Rect.unit ![o, 0] ![a, N] inb, w⟩ : View.Piece (Elt Ideal) ⟨2, ![M, N]⟩ e) :: Ls) (ix2 y c) = v := by
  by_cases h : o ≤ y.val
  · have hr : y.val - o < a := by omega
    have he : (Rect.unit (s := ⟨2, ![M, N]⟩) ![o, 0] ![a, N] inb).emb (ix2 ⟨y.val - o, hr⟩ c) = ix2 y c := by
      funext ax
      refine Fin.ext ?_
      rw [Rect.emb_apply]
      match ax with
      | ⟨0, _⟩ => show o + 1 * (y.val - o) = y.val; omega
      | ⟨1, _⟩ => show 0 + 1 * c.val = c.val; omega
    have hk := View.canon_cons_emb (Val := Elt Ideal) (Rect.unit (s := ⟨2, ![M, N]⟩) ![o, 0] ![a, N] inb) w Ls (ix2 ⟨y.val - o, hr⟩ c)
    rw [he] at hk
    refine hk.trans (hw _ fun ax => ?_)
    match ax with
    | ⟨0, _⟩ => show y.val = o + (y.val - o); omega
    | ⟨1, _⟩ => show c.val = 0 + c.val; omega
  · refine (View.canon_cons_of_not_mem _ Ls ?_).trans (hL (by omega))
    intro hm
    obtain ⟨x, hx⟩ := (Rect.unit (s := ⟨2, ![M, N]⟩) ![o, 0] ![a, N] inb).exists_idx_of_mem hm
    have h0 : o + 1 * (x 0).val = y.val := congrArg Fin.val (congrFun hx 0)
    omega

section

variable {n : ℕ} {Q K V G : ℕ → ℕ → ℝ} {L D : ℕ → ℝ} {i0 j0 o : ℕ}

/-- The rows of a sub-step's loads. -/
abbrev InbRows (M N a o : ℕ) : Prop := ∀ ax, (![o, 0] : Fin 2 → ℕ) ax + (![a, N] : Fin 2 → ℕ) ax ≤ (⟨2, ![M, N]⟩ : Shape).size ax
/-- The entries of a sub-step's load of a saved row. -/
abbrev InbRow (M a o : ℕ) : Prop := ∀ ax, (![0, 0, o] : Fin 3 → ℕ) ax + (![1, 1, a] : Fin 3 → ℕ) ax ≤ (⟨3, ![1, 1, M]⟩ : Shape).size ax

theorem dvPiece (hs : (Blk 256 128).ShapeCasts (Blk 256 128)) (hw : FTy.bf16.bits < FTy.f32.bits)
    (p : FVec Ideal (Blk 256 n) .f32) (acc : Vec Ideal (Blk 256 128) .f32) (g : Vec Ideal (Blk n 128) .bf16) {A B : ℝ}
    (y : Fin 2048) (cc : Fin 128) (oq : ℕ)
    (hp : ∀ (r : Fin 256) (x : Fin n), p (ix2 r x) = (P Q K L (oq + x) (j0 + o + r) : EReal))
    (hg : ∀ (x : Fin n) (c : Fin 128), g (ix2 x c) = (G (oq + x) c : EReal))
    (ha : ∀ r : Fin 256, y.val = o + r → acc (ix2 r cc) = (A : EReal))
    (hB : ∀ r : Fin 256, y.val = o + r → ∑ x ∈ range n, dvTerm Q K G L (j0 + y) cc (oq + x) = B) :
    View.TileAt (Val := Elt Ideal) (S := S2048x128) (e := .f32) (ix2 y cc) ![o, 0] ![256, 128] (dvTile hs hw p acc g) ((A + B : ℝ) : EReal) := by
  refine tileAt_rows _ _ y cc fun r hr => ?_
  rw [dvTile_apply hs hw p acc g hp hg r cc (ha r hr), ← hB r hr, hr, Nat.add_assoc]

theorem dkPiece (hs : (Blk 256 256).ShapeCasts (Blk 256 256)) (hw : FTy.bf16.bits < FTy.f32.bits)
    (hc : (Row3 n).ShapeCasts (Row2 n)) (hb : (Row2 n).Broadcasts (Blk 256 n)) (p : FVec Ideal (Blk 256 n) .f32)
    (v : Vec Ideal (Blk 256 128) .bf16) (g : Vec Ideal (Blk n 128) .bf16) (acc : Vec Ideal (Blk 256 256) .f32)
    (dl : Vec Ideal (Row3 n) .f32) (q : Vec Ideal (Blk n 256) .bf16) {A B : ℝ} (y : Fin 2048) (d : Fin 256) (oq : ℕ)
    (hp : ∀ (r : Fin 256) (x : Fin n), p (ix2 r x) = (P Q K L (oq + x) (j0 + o + r) : EReal))
    (hv : ∀ (r : Fin 256) (c : Fin 128), v (ix2 r c) = (V (j0 + o + r) c : EReal))
    (hg : ∀ (x : Fin n) (c : Fin 128), g (ix2 x c) = (G (oq + x) c : EReal))
    (hd : ∀ x : Fin n, dl (ix3 (0 : Fin 1) (0 : Fin 1) x) = (D (oq + x) : EReal))
    (hq : ∀ (x : Fin n) (d : Fin 256), q (ix2 x d) = (Q (oq + x) d : EReal))
    (ha : ∀ r : Fin 256, y.val = o + r → acc (ix2 r d) = (A : EReal))
    (hB : ∀ r : Fin 256, y.val = o + r → ∑ x ∈ range n, dkTerm Q K V G L D (j0 + y) d (oq + x) = B) :
    View.TileAt (Val := Elt Ideal) (S := S2048x256) (e := .f32) (ix2 y d) ![o, 0] ![256, 256] (dkTile hs hw hc hb p v g acc dl q)
      ((A + B : ℝ) : EReal) := by
  refine tileAt_rows _ _ y d fun r hr => ?_
  rw [dkTile_apply hs hw hc hb p v g acc dl q hp hv hg hd hq r d (ha r hr), ← hB r hr, hr, Nat.add_assoc]

variable (x0 x1 : Vec Ideal S2048x256 .bf16) (x2 x3 : Vec Ideal S2048x128 .bf16) (x4 x5 : Vec Ideal S1x1x2048 .f32)

/-- A sub-step below the diagonal: key rows from `o` on against the whole query block. -/
theorem dvPieceU (ho : o + 256 ≤ 2048) (hs : (Blk 256 128).ShapeCasts (Blk 256 128)) (hw : FTy.bf16.bits < FTy.f32.bits)
    (hc : (Row3 2048).ShapeCasts (Row2 2048)) (hb : (Row2 2048).Broadcasts (Blk 256 2048))
    (b0 : InbRows 2048 256 2048 0) (b1 : InbRows 2048 256 256 o) (b3 : InbRows 2048 128 2048 0) (b4 : InbRow 2048 2048 0)
    (acc : Vec Ideal (Blk 256 128) .f32)
    (h0 : ∀ (x : Fin 2048) (d : Fin 256), x0 (ix2 x d) = (Q (i0 + x) d : EReal))
    (h1 : ∀ (r : Fin 2048) (d : Fin 256), x1 (ix2 r d) = (K (j0 + r) d : EReal))
    (h3 : ∀ (x : Fin 2048) (c : Fin 128), x3 (ix2 x c) = (G (i0 + x) c : EReal))
    (h4 : ∀ x : Fin 2048, x4 (ix3 (0 : Fin 1) (0 : Fin 1) x) = (L (i0 + x) : EReal)) (hij : j0 + 2048 ≤ i0) (y : Fin 2048)
    (cc : Fin 128) {A : ℝ} (ha : ∀ r : Fin 256, y.val = o + r → acc (ix2 r cc) = (A : EReal)) :
    View.TileAt (Val := Elt Ideal) (S := S2048x128) (e := .f32) (ix2 y cc) ![o, 0] ![256, 128]
      (dvTile hs hw (probs hc hb (View.ld x1 (Rect.unit ![o, 0] ![256, 256] b1)) (View.ld x0 (Rect.unit ![0, 0] ![2048, 256] b0))
        (View.ld x4 (Rect.unit ![0, 0, 0] ![1, 1, 2048] b4))) acc (View.ld x3 (Rect.unit ![0, 0] ![2048, 128] b3)))
      ((A + ∑ x ∈ range 2048, dvTerm Q K G L (j0 + y) cc (i0 + x) : ℝ) : EReal) := by
  refine dvPiece hs hw _ acc _ y cc i0 (probs_apply hc hb _ _ _ (fun r d => ?_) (fun x d => ?_) (fun x => ?_) (by omega)) (fun x c => ?_) ha
    fun _ _ => rfl
  · rw [ld_rows x1 b1 r d (by omega), h1, Nat.add_assoc]
  · rw [ld_rows x0 b0 x d (by omega), h0]; simp
  · rw [ld_row x4 b4 x (by omega), h4]; simp
  · rw [ld_rows x3 b3 x c (by omega), h3]; simp

theorem dkPieceU (ho : o + 256 ≤ 2048) (hs : (Blk 256 256).ShapeCasts (Blk 256 256)) (hw : FTy.bf16.bits < FTy.f32.bits)
    (hc : (Row3 2048).ShapeCasts (Row2 2048)) (hb : (Row2 2048).Broadcasts (Blk 256 2048))
    (b0 : InbRows 2048 256 2048 0) (b1 : InbRows 2048 256 256 o) (b2 : InbRows 2048 128 256 o) (b3 : InbRows 2048 128 2048 0)
    (b4 : InbRow 2048 2048 0) (acc : Vec Ideal (Blk 256 256) .f32)
    (h0 : ∀ (x : Fin 2048) (d : Fin 256), x0 (ix2 x d) = (Q (i0 + x) d : EReal))
    (h1 : ∀ (r : Fin 2048) (d : Fin 256), x1 (ix2 r d) = (K (j0 + r) d : EReal))
    (h2 : ∀ (r : Fin 2048) (c : Fin 128), x2 (ix2 r c) = (V (j0 + r) c : EReal))
    (h3 : ∀ (x : Fin 2048) (c : Fin 128), x3 (ix2 x c) = (G (i0 + x) c : EReal))
    (h4 : ∀ x : Fin 2048, x4 (ix3 (0 : Fin 1) (0 : Fin 1) x) = (L (i0 + x) : EReal))
    (h5 : ∀ x : Fin 2048, x5 (ix3 (0 : Fin 1) (0 : Fin 1) x) = (D (i0 + x) : EReal)) (hij : j0 + 2048 ≤ i0) (y : Fin 2048)
    (d : Fin 256) {A : ℝ} (ha : ∀ r : Fin 256, y.val = o + r → acc (ix2 r d) = (A : EReal)) :
    View.TileAt (Val := Elt Ideal) (S := S2048x256) (e := .f32) (ix2 y d) ![o, 0] ![256, 256]
      (dkTile hs hw hc hb (probs hc hb (View.ld x1 (Rect.unit ![o, 0] ![256, 256] b1)) (View.ld x0 (Rect.unit ![0, 0] ![2048, 256] b0))
        (View.ld x4 (Rect.unit ![0, 0, 0] ![1, 1, 2048] b4))) (View.ld x2 (Rect.unit ![o, 0] ![256, 128] b2))
        (View.ld x3 (Rect.unit ![0, 0] ![2048, 128] b3)) acc (View.ld x5 (Rect.unit ![0, 0, 0] ![1, 1, 2048] b4))
        (View.ld x0 (Rect.unit ![0, 0] ![2048, 256] b0)))
      ((A + ∑ x ∈ range 2048, dkTerm Q K V G L D (j0 + y) d (i0 + x) : ℝ) : EReal) := by
  refine dkPiece hs hw hc hb _ _ _ acc _ _ y d i0 (probs_apply hc hb _ _ _ (fun r d => ?_) (fun x d => ?_) (fun x => ?_) (by omega))
    (fun r c => ?_) (fun x c => ?_) (fun x => ?_) (fun x d => ?_) ha fun _ _ => rfl
  · rw [ld_rows x1 b1 r d (by omega), h1, Nat.add_assoc]
  · rw [ld_rows x0 b0 x d (by omega), h0]; simp
  · rw [ld_row x4 b4 x (by omega), h4]; simp
  · rw [ld_rows x2 b2 r c (by omega), h2, Nat.add_assoc]
  · rw [ld_rows x3 b3 x c (by omega), h3]; simp
  · rw [ld_row x5 b4 x (by omega), h5]; simp
  · rw [ld_rows x0 b0 x d (by omega), h0]; simp

/-- The sum over a diagonal block's queries from `o` on is the sum over all its queries: the earlier ones do not see the keys. -/
theorem sum_from (f : ℕ → ℝ) (o n : ℕ) (hn : o + n = 2048) (h : ∀ x < o, f (j0 + x) = 0) :
    ∑ x ∈ range n, f (j0 + o + x) = ∑ x ∈ range 2048, f (j0 + x) := by
  rw [← hn, ← sum_range_shift (fun x => f (j0 + x)) o n h]
  exact sum_congr rfl fun x _ => by rw [Nat.add_assoc]

/-- A sub-step on the diagonal: key rows from `o` on against the query rows from `o` on. -/
theorem dvPieceM (ho : o + 256 ≤ 2048) (hn : o + n = 2048) (hs : (Blk 256 128).ShapeCasts (Blk 256 128)) (hw : FTy.bf16.bits < FTy.f32.bits)
    (i0' : (Blk 256 n).Iotas .tc 32 [0]) (i1' : (Blk 256 n).Iotas .tc 32 [1])
    (hc : (Row3 n).ShapeCasts (Row2 n)) (hb : (Row2 n).Broadcasts (Blk 256 n))
    (b0 : InbRows 2048 256 n o) (b1 : InbRows 2048 256 256 o) (b3 : InbRows 2048 128 n o) (b4 : InbRow 2048 n o)
    (acc : Vec Ideal (Blk 256 128) .f32)
    (h0 : ∀ (x : Fin 2048) (d : Fin 256), x0 (ix2 x d) = (Q (j0 + x) d : EReal))
    (h1 : ∀ (r : Fin 2048) (d : Fin 256), x1 (ix2 r d) = (K (j0 + r) d : EReal))
    (h3 : ∀ (x : Fin 2048) (c : Fin 128), x3 (ix2 x c) = (G (j0 + x) c : EReal))
    (h4 : ∀ x : Fin 2048, x4 (ix3 (0 : Fin 1) (0 : Fin 1) x) = (L (j0 + x) : EReal)) (y : Fin 2048)
    (cc : Fin 128) {A : ℝ} (ha : ∀ r : Fin 256, y.val = o + r → acc (ix2 r cc) = (A : EReal)) :
    View.TileAt (Val := Elt Ideal) (S := S2048x128) (e := .f32) (ix2 y cc) ![o, 0] ![256, 128]
      (dvTile hs hw (probsMasked o i0' i1' hc hb (View.ld x1 (Rect.unit ![o, 0] ![256, 256] b1)) (View.ld x0 (Rect.unit ![o, 0] ![n, 256] b0))
        (View.ld x4 (Rect.unit ![0, 0, o] ![1, 1, n] b4))) acc (View.ld x3 (Rect.unit ![o, 0] ![n, 128] b3)))
      ((A + ∑ x ∈ range 2048, dvTerm Q K G L (j0 + y) cc (j0 + x) : ℝ) : EReal) := by
  refine dvPiece hs hw _ acc _ y cc (j0 + o)
    (probsMasked_apply o (by omega) (by omega) i0' i1' hc hb _ _ _ (fun r d => ?_) (fun x d => ?_) (fun x => ?_) rfl) (fun x c => ?_) ha
    fun r hr => sum_from _ o n hn fun x hx => dvTerm_of_lt _ _ _ _ _ _ (by omega)
  · rw [ld_rows x1 b1 r d (by omega), h1, Nat.add_assoc]
  · rw [ld_rows x0 b0 x d (by omega), h0, Nat.add_assoc]
  · rw [ld_row x4 b4 x (by omega), h4, Nat.add_assoc]
  · rw [ld_rows x3 b3 x c (by omega), h3, Nat.add_assoc]

theorem dkPieceM (ho : o + 256 ≤ 2048) (hn : o + n = 2048) (hs : (Blk 256 256).ShapeCasts (Blk 256 256)) (hw : FTy.bf16.bits < FTy.f32.bits)
    (i0' : (Blk 256 n).Iotas .tc 32 [0]) (i1' : (Blk 256 n).Iotas .tc 32 [1])
    (hc : (Row3 n).ShapeCasts (Row2 n)) (hb : (Row2 n).Broadcasts (Blk 256 n))
    (b0 : InbRows 2048 256 n o) (b1 : InbRows 2048 256 256 o) (b2 : InbRows 2048 128 256 o) (b3 : InbRows 2048 128 n o)
    (b4 : InbRow 2048 n o) (acc : Vec Ideal (Blk 256 256) .f32)
    (h0 : ∀ (x : Fin 2048) (d : Fin 256), x0 (ix2 x d) = (Q (j0 + x) d : EReal))
    (h1 : ∀ (r : Fin 2048) (d : Fin 256), x1 (ix2 r d) = (K (j0 + r) d : EReal))
    (h2 : ∀ (r : Fin 2048) (c : Fin 128), x2 (ix2 r c) = (V (j0 + r) c : EReal))
    (h3 : ∀ (x : Fin 2048) (c : Fin 128), x3 (ix2 x c) = (G (j0 + x) c : EReal))
    (h4 : ∀ x : Fin 2048, x4 (ix3 (0 : Fin 1) (0 : Fin 1) x) = (L (j0 + x) : EReal))
    (h5 : ∀ x : Fin 2048, x5 (ix3 (0 : Fin 1) (0 : Fin 1) x) = (D (j0 + x) : EReal)) (y : Fin 2048)
    (d : Fin 256) {A : ℝ} (ha : ∀ r : Fin 256, y.val = o + r → acc (ix2 r d) = (A : EReal)) :
    View.TileAt (Val := Elt Ideal) (S := S2048x256) (e := .f32) (ix2 y d) ![o, 0] ![256, 256]
      (dkTile hs hw hc hb (probsMasked o i0' i1' hc hb (View.ld x1 (Rect.unit ![o, 0] ![256, 256] b1))
        (View.ld x0 (Rect.unit ![o, 0] ![n, 256] b0)) (View.ld x4 (Rect.unit ![0, 0, o] ![1, 1, n] b4)))
        (View.ld x2 (Rect.unit ![o, 0] ![256, 128] b2))
        (View.ld x3 (Rect.unit ![o, 0] ![n, 128] b3)) acc (View.ld x5 (Rect.unit ![0, 0, o] ![1, 1, n] b4))
        (View.ld x0 (Rect.unit ![o, 0] ![n, 256] b0)))
      ((A + ∑ x ∈ range 2048, dkTerm Q K V G L D (j0 + y) d (j0 + x) : ℝ) : EReal) := by
  refine dkPiece hs hw hc hb _ _ _ acc _ _ y d (j0 + o)
    (probsMasked_apply o (by omega) (by omega) i0' i1' hc hb _ _ _ (fun r d => ?_) (fun x d => ?_) (fun x => ?_) rfl)
    (fun r c => ?_) (fun x c => ?_) (fun x => ?_) (fun x d => ?_) ha
    fun r hr => sum_from _ o n hn fun x hx => dkTerm_of_lt _ _ _ _ _ _ _ _ (by omega)
  · rw [ld_rows x1 b1 r d (by omega), h1, Nat.add_assoc]
  · rw [ld_rows x0 b0 x d (by omega), h0, Nat.add_assoc]
  · rw [ld_row x4 b4 x (by omega), h4, Nat.add_assoc]
  · rw [ld_rows x2 b2 r c (by omega), h2, Nat.add_assoc]
  · rw [ld_rows x3 b3 x c (by omega), h3, Nat.add_assoc]
  · rw [ld_row x5 b4 x (by omega), h5, Nat.add_assoc]
  · rw [ld_rows x0 b0 x d (by omega), h0, Nat.add_assoc]

end

end Cert.Dkv

end
-- ==== Proof.CaseA.lean ====
/-
What the body leaves at a point whose query block is on the diagonal and is the last of its key block: the accumulators start from zero, and both outputs are stored.
-/
module

public import proofs.«01_k».proof.Proof.Piece

@[expose] public section

set_option maxRecDepth 16384

noncomputable section

namespace Cert.Dkv

open Finset Idealize.ShloMosaic Idealize.ShloMosaic.ValueIdx Idealize.ShloMosaic.TcCoe Idealize.ShloMosaic.Tactic
open Cert.KernelIdeal Cert.KernelIdeal.Gen

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x256 .f32) (harg8 : arg8.IsWhole) (arg9 : Memref sig .tc .vmem S2048x128 .f32) (harg9 : arg9.IsWhole) (arg10 : Memref sig .tc .vmem S2048x256 .f32) (harg10 : arg10.IsWhole) (arg11 : Memref sig .tc .vmem S2048x128 .f32) (harg11 : arg11.IsWhole)
  (x0 : Vec Ideal S2048x256 .bf16) (x1 : Vec Ideal S2048x256 .bf16) (x2 : Vec Ideal S2048x128 .bf16) (x3 : Vec Ideal S2048x128 .bf16) (x4 : Vec Ideal S1x1x2048 .f32) (x5 : Vec Ideal S1x1x2048 .f32)
  {Q K V G : ℕ → ℕ → ℝ} {L D : ℕ → ℝ} {i0 j0 : ℕ}

set_option maxHeartbeats 800000 in
/-- The values' accumulator after the point: the block of queries summed. -/
theorem sout0_A_1_apply (hc0 : cond0_0 i) (hc1 : cond0_1 i) (hc2 : ¬cond0_2 i) (hc3 : cond0_3 i)
    (h0 : ∀ (x : Fin 2048) (d : Fin 256), x0 (ix2 x d) = (Q (j0 + x) d : EReal))
    (h1 : ∀ (r : Fin 2048) (d : Fin 256), x1 (ix2 r d) = (K (j0 + r) d : EReal))
    (h3 : ∀ (x : Fin 2048) (c : Fin 128), x3 (ix2 x c) = (G (j0 + x) c : EReal))
    (h4 : ∀ x : Fin 2048, x4 (ix3 (0 : Fin 1) (0 : Fin 1) x) = (L (j0 + x) : EReal))
    (y : Fin 2048) (cc : Fin 128) :
    sout0_A_1 c i arg2 harg2 arg3 harg3 arg4 harg4 arg5 harg5 arg6 harg6 arg7 harg7 arg8 harg8 arg9 harg9 arg10 harg10 arg11 harg11 hc0 hc1 hc2 hc3 x0 x1 x2 x3 x4 x5 (ix2 y cc)
      = ((0 + ∑ x ∈ range 2048, dvTerm Q K G L (j0 + y) cc (j0 + x) : ℝ) : EReal) := by
  unfold sout0_A_1
  rw [View.read_writes_junk_eq_canon]
  unfold kernelRun0_A
  dsimp only
  sl_unfold_words
  simp only [readAt_unread_eq]
  simp (disch := decide) only [↓View.readCov_skip, View.readCov_fill]
  have ha : ∀ (o : ℕ) (ho : o + 256 ≤ 2048) (b : InbRows 2048 128 256 o) (r : Fin 256), y.val = o + r →
      View.ld (Val := Elt Ideal) (S := S2048x128) (e' := .f32) (k0_pay72 (F := Ideal)) (Rect.unit ![o, 0] ![256, 128] b) (ix2 r cc) = ((0 : ℝ) : EReal) := fun o ho b r hr => by
    rw [ld_rows _ b r cc (by omega), EReal.coe_zero]; exact Ideal.ofBits_zero_f32
  refine canon_rows _ _ _ _ y cc (by omega) (dvPieceM (A := 0) (o := 1792) (n := 256) x0 x1 x3 x4 (by omega) (by omega) shapeCasts_S256x128_S256x128 bitsLt_bf16_f32
    iota_S256x256_d0_w32 iota_S256x256_d1_w32 shapeCasts_S1x1x256_S1x256 broadcasts_S1x256_S256x256
    inb_S2048x256_S256x256_1792_0 inb_S2048x256_S256x256_1792_0 inb_S2048x128_S256x128_1792_0 inb_S1x1x2048_S1x1x256_0_0_1792
    (View.ld (Val := Elt Ideal) (S := S2048x128) (e' := .f32) (k0_pay72 (F := Ideal)) (Rect.unit ![1792, 0] ![256, 128] inb_S2048x128_S256x128_1792_0)) h0 h1 h3 h4 y cc (ha 1792 (by omega) inb_S2048x128_S256x128_1792_0)) fun hy => ?_
  refine canon_rows _ _ _ _ y cc (by omega) (dvPieceM (A := 0) (o := 1536) (n := 512) x0 x1 x3 x4 (by omega) (by omega) shapeCasts_S256x128_S256x128 bitsLt_bf16_f32
    iota_S256x512_d0_w32 iota_S256x512_d1_w32 shapeCasts_S1x1x512_S1x512 broadcasts_S1x512_S256x512
    inb_S2048x256_S512x256_1536_0 inb_S2048x256_S256x256_1536_0 inb_S2048x128_S512x128_1536_0 inb_S1x1x2048_S1x1x512_0_0_1536
    (View.ld (Val := Elt Ideal) (S := S2048x128) (e' := .f32) (k0_pay72 (F := Ideal)) (Rect.unit ![1536, 0] ![256, 128] inb_S2048x128_S256x128_1536_0)) h0 h1 h3 h4 y cc (ha 1536 (by omega) inb_S2048x128_S256x128_1536_0)) fun hy => ?_
  refine canon_rows _ _ _ _ y cc (by omega) (dvPieceM (A := 0) (o := 1280) (n := 768) x0 x1 x3 x4 (by omega) (by omega) shapeCasts_S256x128_S256x128 bitsLt_bf16_f32
    iota_S256x768_d0_w32 iota_S256x768_d1_w32 shapeCasts_S1x1x768_S1x768 broadcasts_S1x768_S256x768
    inb_S2048x256_S768x256_1280_0 inb_S2048x256_S256x256_1280_0 inb_S2048x128_S768x128_1280_0 inb_S1x1x2048_S1x1x768_0_0_1280
    (View.ld (Val := Elt Ideal) (S := S2048x128) (e' := .f32) (k0_pay72 (F := Ideal)) (Rect.unit ![1280, 0] ![256, 128] inb_S2048x128_S256x128_1280_0)) h0 h1 h3 h4 y cc (ha 1280 (by omega) inb_S2048x128_S256x128_1280_0)) fun hy => ?_
  refine canon_rows _ _ _ _ y cc (by omega) (dvPieceM (A := 0) (o := 1024) (n := 1024) x0 x1 x3 x4 (by omega) (by omega) shapeCasts_S256x128_S256x128 bitsLt_bf16_f32
    iota_S256x1024_d0_w32 iota_S256x1024_d1_w32 shapeCasts_S1x1x1024_S1x1024 broadcasts_S1x1024_S256x1024
    inb_S2048x256_S1024x256_1024_0 inb_S2048x256_S256x256_1024_0 inb_S2048x128_S1024x128_1024_0 inb_S1x1x2048_S1x1x1024_0_0_1024
    (View.ld (Val := Elt Ideal) (S := S2048x128) (e' := .f32) (k0_pay72 (F := Ideal)) (Rect.unit ![1024, 0] ![256, 128] inb_S2048x128_S256x128_1024_0)) h0 h1 h3 h4 y cc (ha 1024 (by omega) inb_S2048x128_S256x128_1024_0)) fun hy => ?_
  refine canon_rows _ _ _ _ y cc (by omega) (dvPieceM (A := 0) (o := 768) (n := 1280) x0 x1 x3 x4 (by omega) (by omega) shapeCasts_S256x128_S256x128 bitsLt_bf16_f32
    iota_S256x1280_d0_w32 iota_S256x1280_d1_w32 shapeCasts_S1x1x1280_S1x1280 broadcasts_S1x1280_S256x1280
    inb_S2048x256_S1280x256_768_0 inb_S2048x256_S256x256_768_0 inb_S2048x128_S1280x128_768_0 inb_S1x1x2048_S1x1x1280_0_0_768
    (View.ld (Val := Elt Ideal) (S := S2048x128) (e' := .f32) (k0_pay72 (F := Ideal)) (Rect.unit ![768, 0] ![256, 128] inb_S2048x128_S256x128_768_0)) h0 h1 h3 h4 y cc (ha 768 (by omega) inb_S2048x128_S256x128_768_0)) fun hy => ?_
  refine canon_rows _ _ _ _ y cc (by omega) (dvPieceM (A := 0) (o := 512) (n := 1536) x0 x1 x3 x4 (by omega) (by omega) shapeCasts_S256x128_S256x128 bitsLt_bf16_f32
    iota_S256x1536_d0_w32 iota_S256x1536_d1_w32 shapeCasts_S1x1x1536_S1x1536 broadcasts_S1x1536_S256x1536
    inb_S2048x256_S1536x256_512_0 inb_S2048x256_S256x256_512_0 inb_S2048x128_S1536x128_512_0 inb_S1x1x2048_S1x1x1536_0_0_512
    (View.ld (Val := Elt Ideal) (S := S2048x128) (e' := .f32) (k0_pay72 (F := Ideal)) (Rect.unit ![512, 0] ![256, 128] inb_S2048x128_S256x128_512_0)) h0 h1 h3 h4 y cc (ha 512 (by omega) inb_S2048x128_S256x128_512_0)) fun hy => ?_
  refine canon_rows _ _ _ _ y cc (by omega) (dvPieceM (A := 0) (o := 256) (n := 1792) x0 x1 x3 x4 (by omega) (by omega) shapeCasts_S256x128_S256x128 bitsLt_bf16_f32
    iota_S256x1792_d0_w32 iota_S256x1792_d1_w32 shapeCasts_S1x1x1792_S1x1792 broadcasts_S1x1792_S256x1792
    inb_S2048x256_S1792x256_256_0 inb_S2048x256_S256x256_256_0 inb_S2048x128_S1792x128_256_0 inb_S1x1x2048_S1x1x1792_0_0_256
    (View.ld (Val := Elt Ideal) (S := S2048x128) (e' := .f32) (k0_pay72 (F := Ideal)) (Rect.unit ![256, 0] ![256, 128] inb_S2048x128_S256x128_256_0)) h0 h1 h3 h4 y cc (ha 256 (by omega) inb_S2048x128_S256x128_256_0)) fun hy => ?_
  refine canon_rows _ _ _ _ y cc (by omega) (dvPieceM (A := 0) (o := 0) (n := 2048) x0 x1 x3 x4 (by omega) (by omega) shapeCasts_S256x128_S256x128 bitsLt_bf16_f32
    iota_S256x2048_d0_w32 iota_S256x2048_d1_w32 shapeCasts_S1x1x2048_S1x2048 broadcasts_S1x2048_S256x2048
    inb_S2048x256_S2048x256_0_0 inb_S2048x256_S256x256_0_0 inb_S2048x128_S2048x128_0_0 inb_S1x1x2048_S1x1x2048_0_0_0
    (View.ld (Val := Elt Ideal) (S := S2048x128) (e' := .f32) (k0_pay72 (F := Ideal)) (Rect.unit ![0, 0] ![256, 128] inb_S2048x128_S256x128_0_0)) h0 h1 h3 h4 y cc (ha 0 (by omega) inb_S2048x128_S256x128_0_0)) fun hy => ?_
  exact absurd hy (by omega)

set_option maxHeartbeats 800000 in
/-- The keys' accumulator after the point: the block of queries summed. -/
theorem sout0_A_0_apply (hc0 : cond0_0 i) (hc1 : cond0_1 i) (hc2 : ¬cond0_2 i) (hc3 : cond0_3 i)
    (h0 : ∀ (x : Fin 2048) (d : Fin 256), x0 (ix2 x d) = (Q (j0 + x) d : EReal))
    (h1 : ∀ (r : Fin 2048) (d : Fin 256), x1 (ix2 r d) = (K (j0 + r) d : EReal))
    (h2 : ∀ (r : Fin 2048) (c : Fin 128), x2 (ix2 r c) = (V (j0 + r) c : EReal))
    (h3 : ∀ (x : Fin 2048) (c : Fin 128), x3 (ix2 x c) = (G (j0 + x) c : EReal))
    (h4 : ∀ x : Fin 2048, x4 (ix3 (0 : Fin 1) (0 : Fin 1) x) = (L (j0 + x) : EReal))
    (h5 : ∀ x : Fin 2048, x5 (ix3 (0 : Fin 1) (0 : Fin 1) x) = (D (j0 + x) : EReal))
    (y : Fin 2048) (cc : Fin 256) :
    sout0_A_0 c i arg2 harg2 arg3 harg3 arg4 harg4 arg5 harg5 arg6 harg6 arg7 harg7 arg8 harg8 arg9 harg9 arg10 harg10 arg11 harg11 hc0 hc1 hc2 hc3 x0 x1 x2 x3 x4 x5 (ix2 y cc)
      = ((0 + ∑ x ∈ range 2048, dkTerm Q K V G L D (j0 + y) cc (j0 + x) : ℝ) : EReal) := by
  unfold sout0_A_0
  rw [View.read_writes_junk_eq_canon]
  unfold kernelRun0_A
  dsimp only
  sl_unfold_words
  simp only [readAt_unread_eq]
  simp (disch := decide) only [↓View.readCov_skip, View.readCov_fill]
  have ha : ∀ (o : ℕ) (ho : o + 256 ≤ 2048) (b : InbRows 2048 256 256 o) (r : Fin 256), y.val = o + r →
      View.ld (Val := Elt Ideal) (S := S2048x256) (e' := .f32) (k0_pay71 (F := Ideal)) (Rect.unit ![o, 0] ![256, 256] b) (ix2 r cc) = ((0 : ℝ) : EReal) := fun o ho b r hr => by
    rw [ld_rows _ b r cc (by omega), EReal.coe_zero]; exact Ideal.ofBits_zero_f32
  refine canon_rows _ _ _ _ y cc (by omega) (dkPieceM (A := 0) (o := 1792) (n := 256) x0 x1 x2 x3 x4 x5 (by omega) (by omega) shapeCasts_S256x256_S256x256 bitsLt_bf16_f32
    iota_S256x256_d0_w32 iota_S256x256_d1_w32 shapeCasts_S1x1x256_S1x256 broadcasts_S1x256_S256x256
    inb_S2048x256_S256x256_1792_0 inb_S2048x256_S256x256_1792_0 inb_S2048x128_S256x128_1792_0 inb_S2048x128_S256x128_1792_0 inb_S1x1x2048_S1x1x256_0_0_1792
    (View.ld (Val := Elt Ideal) (S := S2048x256) (e' := .f32) (k0_pay71 (F := Ideal)) (Rect.unit ![1792, 0] ![256, 256] inb_S2048x256_S256x256_1792_0)) h0 h1 h2 h3 h4 h5 y cc (ha 1792 (by omega) inb_S2048x256_S256x256_1792_0)) fun hy => ?_
  refine canon_rows _ _ _ _ y cc (by omega) (dkPieceM (A := 0) (o := 1536) (n := 512) x0 x1 x2 x3 x4 x5 (by omega) (by omega) shapeCasts_S256x256_S256x256 bitsLt_bf16_f32
    iota_S256x512_d0_w32 iota_S256x512_d1_w32 shapeCasts_S1x1x512_S1x512 broadcasts_S1x512_S256x512
    inb_S2048x256_S512x256_1536_0 inb_S2048x256_S256x256_1536_0 inb_S2048x128_S256x128_1536_0 inb_S2048x128_S512x128_1536_0 inb_S1x1x2048_S1x1x512_0_0_1536
    (View.ld (Val := Elt Ideal) (S := S2048x256) (e' := .f32) (k0_pay71 (F := Ideal)) (Rect.unit ![1536, 0] ![256, 256] inb_S2048x256_S256x256_1536_0)) h0 h1 h2 h3 h4 h5 y cc (ha 1536 (by omega) inb_S2048x256_S256x256_1536_0)) fun hy => ?_
  refine canon_rows _ _ _ _ y cc (by omega) (dkPieceM (A := 0) (o := 1280) (n := 768) x0 x1 x2 x3 x4 x5 (by omega) (by omega) shapeCasts_S256x256_S256x256 bitsLt_bf16_f32
    iota_S256x768_d0_w32 iota_S256x768_d1_w32 shapeCasts_S1x1x768_S1x768 broadcasts_S1x768_S256x768
    inb_S2048x256_S768x256_1280_0 inb_S2048x256_S256x256_1280_0 inb_S2048x128_S256x128_1280_0 inb_S2048x128_S768x128_1280_0 inb_S1x1x2048_S1x1x768_0_0_1280
    (View.ld (Val := Elt Ideal) (S := S2048x256) (e' := .f32) (k0_pay71 (F := Ideal)) (Rect.unit ![1280, 0] ![256, 256] inb_S2048x256_S256x256_1280_0)) h0 h1 h2 h3 h4 h5 y cc (ha 1280 (by omega) inb_S2048x256_S256x256_1280_0)) fun hy => ?_
  refine canon_rows _ _ _ _ y cc (by omega) (dkPieceM (A := 0) (o := 1024) (n := 1024) x0 x1 x2 x3 x4 x5 (by omega) (by omega) shapeCasts_S256x256_S256x256 bitsLt_bf16_f32
    iota_S256x1024_d0_w32 iota_S256x1024_d1_w32 shapeCasts_S1x1x1024_S1x1024 broadcasts_S1x1024_S256x1024
    inb_S2048x256_S1024x256_1024_0 inb_S2048x256_S256x256_1024_0 inb_S2048x128_S256x128_1024_0 inb_S2048x128_S1024x128_1024_0 inb_S1x1x2048_S1x1x1024_0_0_1024
    (View.ld (Val := Elt Ideal) (S := S2048x256) (e' := .f32) (k0_pay71 (F := Ideal)) (Rect.unit ![1024, 0] ![256, 256] inb_S2048x256_S256x256_1024_0)) h0 h1 h2 h3 h4 h5 y cc (ha 1024 (by omega) inb_S2048x256_S256x256_1024_0)) fun hy => ?_
  refine canon_rows _ _ _ _ y cc (by omega) (dkPieceM (A := 0) (o := 768) (n := 1280) x0 x1 x2 x3 x4 x5 (by omega) (by omega) shapeCasts_S256x256_S256x256 bitsLt_bf16_f32
    iota_S256x1280_d0_w32 iota_S256x1280_d1_w32 shapeCasts_S1x1x1280_S1x1280 broadcasts_S1x1280_S256x1280
    inb_S2048x256_S1280x256_768_0 inb_S2048x256_S256x256_768_0 inb_S2048x128_S256x128_768_0 inb_S2048x128_S1280x128_768_0 inb_S1x1x2048_S1x1x1280_0_0_768
    (View.ld (Val := Elt Ideal) (S := S2048x256) (e' := .f32) (k0_pay71 (F := Ideal)) (Rect.unit ![768, 0] ![256, 256] inb_S2048x256_S256x256_768_0)) h0 h1 h2 h3 h4 h5 y cc (ha 768 (by omega) inb_S2048x256_S256x256_768_0)) fun hy => ?_
  refine canon_rows _ _ _ _ y cc (by omega) (dkPieceM (A := 0) (o := 512) (n := 1536) x0 x1 x2 x3 x4 x5 (by omega) (by omega) shapeCasts_S256x256_S256x256 bitsLt_bf16_f32
    iota_S256x1536_d0_w32 iota_S256x1536_d1_w32 shapeCasts_S1x1x1536_S1x1536 broadcasts_S1x1536_S256x1536
    inb_S2048x256_S1536x256_512_0 inb_S2048x256_S256x256_512_0 inb_S2048x128_S256x128_512_0 inb_S2048x128_S1536x128_512_0 inb_S1x1x2048_S1x1x1536_0_0_512
    (View.ld (Val := Elt Ideal) (S := S2048x256) (e' := .f32) (k0_pay71 (F := Ideal)) (Rect.unit ![512, 0] ![256, 256] inb_S2048x256_S256x256_512_0)) h0 h1 h2 h3 h4 h5 y cc (ha 512 (by omega) inb_S2048x256_S256x256_512_0)) fun hy => ?_
  refine canon_rows _ _ _ _ y cc (by omega) (dkPieceM (A := 0) (o := 256) (n := 1792) x0 x1 x2 x3 x4 x5 (by omega) (by omega) shapeCasts_S256x256_S256x256 bitsLt_bf16_f32
    iota_S256x1792_d0_w32 iota_S256x1792_d1_w32 shapeCasts_S1x1x1792_S1x1792 broadcasts_S1x1792_S256x1792
    inb_S2048x256_S1792x256_256_0 inb_S2048x256_S256x256_256_0 inb_S2048x128_S256x128_256_0 inb_S2048x128_S1792x128_256_0 inb_S1x1x2048_S1x1x1792_0_0_256
    (View.ld (Val := Elt Ideal) (S := S2048x256) (e' := .f32) (k0_pay71 (F := Ideal)) (Rect.unit ![256, 0] ![256, 256] inb_S2048x256_S256x256_256_0)) h0 h1 h2 h3 h4 h5 y cc (ha 256 (by omega) inb_S2048x256_S256x256_256_0)) fun hy => ?_
  refine canon_rows _ _ _ _ y cc (by omega) (dkPieceM (A := 0) (o := 0) (n := 2048) x0 x1 x2 x3 x4 x5 (by omega) (by omega) shapeCasts_S256x256_S256x256 bitsLt_bf16_f32
    iota_S256x2048_d0_w32 iota_S256x2048_d1_w32 shapeCasts_S1x1x2048_S1x2048 broadcasts_S1x2048_S256x2048
    inb_S2048x256_S2048x256_0_0 inb_S2048x256_S256x256_0_0 inb_S2048x128_S256x128_0_0 inb_S2048x128_S2048x128_0_0 inb_S1x1x2048_S1x1x2048_0_0_0
    (View.ld (Val := Elt Ideal) (S := S2048x256) (e' := .f32) (k0_pay71 (F := Ideal)) (Rect.unit ![0, 0] ![256, 256] inb_S2048x256_S256x256_0_0)) h0 h1 h2 h3 h4 h5 y cc (ha 0 (by omega) inb_S2048x256_S256x256_0_0)) fun hy => ?_
  exact absurd hy (by omega)

end Cert.Dkv

end
-- ==== Proof.CaseB.lean ====
/-
What the body leaves at a point whose query block is on the diagonal and is not the last of its key block: the accumulators start from zero.
-/
module

public import proofs.«01_k».proof.Proof.Piece

@[expose] public section

set_option maxRecDepth 16384

noncomputable section

namespace Cert.Dkv

open Finset Idealize.ShloMosaic Idealize.ShloMosaic.ValueIdx Idealize.ShloMosaic.TcCoe Idealize.ShloMosaic.Tactic
open Cert.KernelIdeal Cert.KernelIdeal.Gen

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x256 .f32) (harg8 : arg8.IsWhole) (arg9 : Memref sig .tc .vmem S2048x128 .f32) (harg9 : arg9.IsWhole) (arg10 : Memref sig .tc .vmem S2048x256 .f32) (harg10 : arg10.IsWhole) (arg11 : Memref sig .tc .vmem S2048x128 .f32) (harg11 : arg11.IsWhole)
  (x0 : Vec Ideal S2048x256 .bf16) (x1 : Vec Ideal S2048x256 .bf16) (x2 : Vec Ideal S2048x128 .bf16) (x3 : Vec Ideal S2048x128 .bf16) (x4 : Vec Ideal S1x1x2048 .f32) (x5 : Vec Ideal S1x1x2048 .f32)
  {Q K V G : ℕ → ℕ → ℝ} {L D : ℕ → ℝ} {i0 j0 : ℕ}

set_option maxHeartbeats 800000 in
/-- The values' accumulator after the point: the block of queries summed. -/
theorem sout0_B_1_apply (hc0 : cond0_0 i) (hc1 : cond0_1 i) (hc2 : ¬cond0_2 i) (hc3 : ¬cond0_3 i)
    (h0 : ∀ (x : Fin 2048) (d : Fin 256), x0 (ix2 x d) = (Q (j0 + x) d : EReal))
    (h1 : ∀ (r : Fin 2048) (d : Fin 256), x1 (ix2 r d) = (K (j0 + r) d : EReal))
    (h3 : ∀ (x : Fin 2048) (c : Fin 128), x3 (ix2 x c) = (G (j0 + x) c : EReal))
    (h4 : ∀ x : Fin 2048, x4 (ix3 (0 : Fin 1) (0 : Fin 1) x) = (L (j0 + x) : EReal))
    (y : Fin 2048) (cc : Fin 128) :
    sout0_B_1 c i arg2 harg2 arg3 harg3 arg4 harg4 arg5 harg5 arg6 harg6 arg7 harg7 arg8 harg8 arg9 harg9 arg10 harg10 arg11 harg11 hc0 hc1 hc2 hc3 x0 x1 x2 x3 x4 x5 (ix2 y cc)
      = ((0 + ∑ x ∈ range 2048, dvTerm Q K G L (j0 + y) cc (j0 + x) : ℝ) : EReal) := by
  unfold sout0_B_1
  rw [View.read_writes_junk_eq_canon]
  unfold kernelRun0_B
  dsimp only
  sl_unfold_words
  simp only [readAt_unread_eq]
  simp (disch := decide) only [↓View.readCov_skip, View.readCov_fill]
  have ha : ∀ (o : ℕ) (ho : o + 256 ≤ 2048) (b : InbRows 2048 128 256 o) (r : Fin 256), y.val = o + r →
      View.ld (Val := Elt Ideal) (S := S2048x128) (e' := .f32) (k0_pay72 (F := Ideal)) (Rect.unit ![o, 0] ![256, 128] b) (ix2 r cc) = ((0 : ℝ) : EReal) := fun o ho b r hr => by
    rw [ld_rows _ b r cc (by omega), EReal.coe_zero]; exact Ideal.ofBits_zero_f32
  refine canon_rows _ _ _ _ y cc (by omega) (dvPieceM (A := 0) (o := 1792) (n := 256) x0 x1 x3 x4 (by omega) (by omega) shapeCasts_S256x128_S256x128 bitsLt_bf16_f32
    iota_S256x256_d0_w32 iota_S256x256_d1_w32 shapeCasts_S1x1x256_S1x256 broadcasts_S1x256_S256x256
    inb_S2048x256_S256x256_1792_0 inb_S2048x256_S256x256_1792_0 inb_S2048x128_S256x128_1792_0 inb_S1x1x2048_S1x1x256_0_0_1792
    (View.ld (Val := Elt Ideal) (S := S2048x128) (e' := .f32) (k0_pay72 (F := Ideal)) (Rect.unit ![1792, 0] ![256, 128] inb_S2048x128_S256x128_1792_0)) h0 h1 h3 h4 y cc (ha 1792 (by omega) inb_S2048x128_S256x128_1792_0)) fun hy => ?_
  refine canon_rows _ _ _ _ y cc (by omega) (dvPieceM (A := 0) (o := 1536) (n := 512) x0 x1 x3 x4 (by omega) (by omega) shapeCasts_S256x128_S256x128 bitsLt_bf16_f32
    iota_S256x512_d0_w32 iota_S256x512_d1_w32 shapeCasts_S1x1x512_S1x512 broadcasts_S1x512_S256x512
    inb_S2048x256_S512x256_1536_0 inb_S2048x256_S256x256_1536_0 inb_S2048x128_S512x128_1536_0 inb_S1x1x2048_S1x1x512_0_0_1536
    (View.ld (Val := Elt Ideal) (S := S2048x128) (e' := .f32) (k0_pay72 (F := Ideal)) (Rect.unit ![1536, 0] ![256, 128] inb_S2048x128_S256x128_1536_0)) h0 h1 h3 h4 y cc (ha 1536 (by omega) inb_S2048x128_S256x128_1536_0)) fun hy => ?_
  refine canon_rows _ _ _ _ y cc (by omega) (dvPieceM (A := 0) (o := 1280) (n := 768) x0 x1 x3 x4 (by omega) (by omega) shapeCasts_S256x128_S256x128 bitsLt_bf16_f32
    iota_S256x768_d0_w32 iota_S256x768_d1_w32 shapeCasts_S1x1x768_S1x768 broadcasts_S1x768_S256x768
    inb_S2048x256_S768x256_1280_0 inb_S2048x256_S256x256_1280_0 inb_S2048x128_S768x128_1280_0 inb_S1x1x2048_S1x1x768_0_0_1280
    (View.ld (Val := Elt Ideal) (S := S2048x128) (e' := .f32) (k0_pay72 (F := Ideal)) (Rect.unit ![1280, 0] ![256, 128] inb_S2048x128_S256x128_1280_0)) h0 h1 h3 h4 y cc (ha 1280 (by omega) inb_S2048x128_S256x128_1280_0)) fun hy => ?_
  refine canon_rows _ _ _ _ y cc (by omega) (dvPieceM (A := 0) (o := 1024) (n := 1024) x0 x1 x3 x4 (by omega) (by omega) shapeCasts_S256x128_S256x128 bitsLt_bf16_f32
    iota_S256x1024_d0_w32 iota_S256x1024_d1_w32 shapeCasts_S1x1x1024_S1x1024 broadcasts_S1x1024_S256x1024
    inb_S2048x256_S1024x256_1024_0 inb_S2048x256_S256x256_1024_0 inb_S2048x128_S1024x128_1024_0 inb_S1x1x2048_S1x1x1024_0_0_1024
    (View.ld (Val := Elt Ideal) (S := S2048x128) (e' := .f32) (k0_pay72 (F := Ideal)) (Rect.unit ![1024, 0] ![256, 128] inb_S2048x128_S256x128_1024_0)) h0 h1 h3 h4 y cc (ha 1024 (by omega) inb_S2048x128_S256x128_1024_0)) fun hy => ?_
  refine canon_rows _ _ _ _ y cc (by omega) (dvPieceM (A := 0) (o := 768) (n := 1280) x0 x1 x3 x4 (by omega) (by omega) shapeCasts_S256x128_S256x128 bitsLt_bf16_f32
    iota_S256x1280_d0_w32 iota_S256x1280_d1_w32 shapeCasts_S1x1x1280_S1x1280 broadcasts_S1x1280_S256x1280
    inb_S2048x256_S1280x256_768_0 inb_S2048x256_S256x256_768_0 inb_S2048x128_S1280x128_768_0 inb_S1x1x2048_S1x1x1280_0_0_768
    (View.ld (Val := Elt Ideal) (S := S2048x128) (e' := .f32) (k0_pay72 (F := Ideal)) (Rect.unit ![768, 0] ![256, 128] inb_S2048x128_S256x128_768_0)) h0 h1 h3 h4 y cc (ha 768 (by omega) inb_S2048x128_S256x128_768_0)) fun hy => ?_
  refine canon_rows _ _ _ _ y cc (by omega) (dvPieceM (A := 0) (o := 512) (n := 1536) x0 x1 x3 x4 (by omega) (by omega) shapeCasts_S256x128_S256x128 bitsLt_bf16_f32
    iota_S256x1536_d0_w32 iota_S256x1536_d1_w32 shapeCasts_S1x1x1536_S1x1536 broadcasts_S1x1536_S256x1536
    inb_S2048x256_S1536x256_512_0 inb_S2048x256_S256x256_512_0 inb_S2048x128_S1536x128_512_0 inb_S1x1x2048_S1x1x1536_0_0_512
    (View.ld (Val := Elt Ideal) (S := S2048x128) (e' := .f32) (k0_pay72 (F := Ideal)) (Rect.unit ![512, 0] ![256, 128] inb_S2048x128_S256x128_512_0)) h0 h1 h3 h4 y cc (ha 512 (by omega) inb_S2048x128_S256x128_512_0)) fun hy => ?_
  refine canon_rows _ _ _ _ y cc (by omega) (dvPieceM (A := 0) (o := 256) (n := 1792) x0 x1 x3 x4 (by omega) (by omega) shapeCasts_S256x128_S256x128 bitsLt_bf16_f32
    iota_S256x1792_d0_w32 iota_S256x1792_d1_w32 shapeCasts_S1x1x1792_S1x1792 broadcasts_S1x1792_S256x1792
    inb_S2048x256_S1792x256_256_0 inb_S2048x256_S256x256_256_0 inb_S2048x128_S1792x128_256_0 inb_S1x1x2048_S1x1x1792_0_0_256
    (View.ld (Val := Elt Ideal) (S := S2048x128) (e' := .f32) (k0_pay72 (F := Ideal)) (Rect.unit ![256, 0] ![256, 128] inb_S2048x128_S256x128_256_0)) h0 h1 h3 h4 y cc (ha 256 (by omega) inb_S2048x128_S256x128_256_0)) fun hy => ?_
  refine canon_rows _ _ _ _ y cc (by omega) (dvPieceM (A := 0) (o := 0) (n := 2048) x0 x1 x3 x4 (by omega) (by omega) shapeCasts_S256x128_S256x128 bitsLt_bf16_f32
    iota_S256x2048_d0_w32 iota_S256x2048_d1_w32 shapeCasts_S1x1x2048_S1x2048 broadcasts_S1x2048_S256x2048
    inb_S2048x256_S2048x256_0_0 inb_S2048x256_S256x256_0_0 inb_S2048x128_S2048x128_0_0 inb_S1x1x2048_S1x1x2048_0_0_0
    (View.ld (Val := Elt Ideal) (S := S2048x128) (e' := .f32) (k0_pay72 (F := Ideal)) (Rect.unit ![0, 0] ![256, 128] inb_S2048x128_S256x128_0_0)) h0 h1 h3 h4 y cc (ha 0 (by omega) inb_S2048x128_S256x128_0_0)) fun hy => ?_
  exact absurd hy (by omega)

set_option maxHeartbeats 800000 in
/-- The keys' accumulator after the point: the block of queries summed. -/
theorem sout0_B_0_apply (hc0 : cond0_0 i) (hc1 : cond0_1 i) (hc2 : ¬cond0_2 i) (hc3 : ¬cond0_3 i)
    (h0 : ∀ (x : Fin 2048) (d : Fin 256), x0 (ix2 x d) = (Q (j0 + x) d : EReal))
    (h1 : ∀ (r : Fin 2048) (d : Fin 256), x1 (ix2 r d) = (K (j0 + r) d : EReal))
    (h2 : ∀ (r : Fin 2048) (c : Fin 128), x2 (ix2 r c) = (V (j0 + r) c : EReal))
    (h3 : ∀ (x : Fin 2048) (c : Fin 128), x3 (ix2 x c) = (G (j0 + x) c : EReal))
    (h4 : ∀ x : Fin 2048, x4 (ix3 (0 : Fin 1) (0 : Fin 1) x) = (L (j0 + x) : EReal))
    (h5 : ∀ x : Fin 2048, x5 (ix3 (0 : Fin 1) (0 : Fin 1) x) = (D (j0 + x) : EReal))
    (y : Fin 2048) (cc : Fin 256) :
    sout0_B_0 c i arg2 harg2 arg3 harg3 arg4 harg4 arg5 harg5 arg6 harg6 arg7 harg7 arg8 harg8 arg9 harg9 arg10 harg10 arg11 harg11 hc0 hc1 hc2 hc3 x0 x1 x2 x3 x4 x5 (ix2 y cc)
      = ((0 + ∑ x ∈ range 2048, dkTerm Q K V G L D (j0 + y) cc (j0 + x) : ℝ) : EReal) := by
  unfold sout0_B_0
  rw [View.read_writes_junk_eq_canon]
  unfold kernelRun0_B
  dsimp only
  sl_unfold_words
  simp only [readAt_unread_eq]
  simp (disch := decide) only [↓View.readCov_skip, View.readCov_fill]
  have ha : ∀ (o : ℕ) (ho : o + 256 ≤ 2048) (b : InbRows 2048 256 256 o) (r : Fin 256), y.val = o + r →
      View.ld (Val := Elt Ideal) (S := S2048x256) (e' := .f32) (k0_pay71 (F := Ideal)) (Rect.unit ![o, 0] ![256, 256] b) (ix2 r cc) = ((0 : ℝ) : EReal) := fun o ho b r hr => by
    rw [ld_rows _ b r cc (by omega), EReal.coe_zero]; exact Ideal.ofBits_zero_f32
  refine canon_rows _ _ _ _ y cc (by omega) (dkPieceM (A := 0) (o := 1792) (n := 256) x0 x1 x2 x3 x4 x5 (by omega) (by omega) shapeCasts_S256x256_S256x256 bitsLt_bf16_f32
    iota_S256x256_d0_w32 iota_S256x256_d1_w32 shapeCasts_S1x1x256_S1x256 broadcasts_S1x256_S256x256
    inb_S2048x256_S256x256_1792_0 inb_S2048x256_S256x256_1792_0 inb_S2048x128_S256x128_1792_0 inb_S2048x128_S256x128_1792_0 inb_S1x1x2048_S1x1x256_0_0_1792
    (View.ld (Val := Elt Ideal) (S := S2048x256) (e' := .f32) (k0_pay71 (F := Ideal)) (Rect.unit ![1792, 0] ![256, 256] inb_S2048x256_S256x256_1792_0)) h0 h1 h2 h3 h4 h5 y cc (ha 1792 (by omega) inb_S2048x256_S256x256_1792_0)) fun hy => ?_
  refine canon_rows _ _ _ _ y cc (by omega) (dkPieceM (A := 0) (o := 1536) (n := 512) x0 x1 x2 x3 x4 x5 (by omega) (by omega) shapeCasts_S256x256_S256x256 bitsLt_bf16_f32
    iota_S256x512_d0_w32 iota_S256x512_d1_w32 shapeCasts_S1x1x512_S1x512 broadcasts_S1x512_S256x512
    inb_S2048x256_S512x256_1536_0 inb_S2048x256_S256x256_1536_0 inb_S2048x128_S256x128_1536_0 inb_S2048x128_S512x128_1536_0 inb_S1x1x2048_S1x1x512_0_0_1536
    (View.ld (Val := Elt Ideal) (S := S2048x256) (e' := .f32) (k0_pay71 (F := Ideal)) (Rect.unit ![1536, 0] ![256, 256] inb_S2048x256_S256x256_1536_0)) h0 h1 h2 h3 h4 h5 y cc (ha 1536 (by omega) inb_S2048x256_S256x256_1536_0)) fun hy => ?_
  refine canon_rows _ _ _ _ y cc (by omega) (dkPieceM (A := 0) (o := 1280) (n := 768) x0 x1 x2 x3 x4 x5 (by omega) (by omega) shapeCasts_S256x256_S256x256 bitsLt_bf16_f32
    iota_S256x768_d0_w32 iota_S256x768_d1_w32 shapeCasts_S1x1x768_S1x768 broadcasts_S1x768_S256x768
    inb_S2048x256_S768x256_1280_0 inb_S2048x256_S256x256_1280_0 inb_S2048x128_S256x128_1280_0 inb_S2048x128_S768x128_1280_0 inb_S1x1x2048_S1x1x768_0_0_1280
    (View.ld (Val := Elt Ideal) (S := S2048x256) (e' := .f32) (k0_pay71 (F := Ideal)) (Rect.unit ![1280, 0] ![256, 256] inb_S2048x256_S256x256_1280_0)) h0 h1 h2 h3 h4 h5 y cc (ha 1280 (by omega) inb_S2048x256_S256x256_1280_0)) fun hy => ?_
  refine canon_rows _ _ _ _ y cc (by omega) (dkPieceM (A := 0) (o := 1024) (n := 1024) x0 x1 x2 x3 x4 x5 (by omega) (by omega) shapeCasts_S256x256_S256x256 bitsLt_bf16_f32
    iota_S256x1024_d0_w32 iota_S256x1024_d1_w32 shapeCasts_S1x1x1024_S1x1024 broadcasts_S1x1024_S256x1024
    inb_S2048x256_S1024x256_1024_0 inb_S2048x256_S256x256_1024_0 inb_S2048x128_S256x128_1024_0 inb_S2048x128_S1024x128_1024_0 inb_S1x1x2048_S1x1x1024_0_0_1024
    (View.ld (Val := Elt Ideal) (S := S2048x256) (e' := .f32) (k0_pay71 (F := Ideal)) (Rect.unit ![1024, 0] ![256, 256] inb_S2048x256_S256x256_1024_0)) h0 h1 h2 h3 h4 h5 y cc (ha 1024 (by omega) inb_S2048x256_S256x256_1024_0)) fun hy => ?_
  refine canon_rows _ _ _ _ y cc (by omega) (dkPieceM (A := 0) (o := 768) (n := 1280) x0 x1 x2 x3 x4 x5 (by omega) (by omega) shapeCasts_S256x256_S256x256 bitsLt_bf16_f32
    iota_S256x1280_d0_w32 iota_S256x1280_d1_w32 shapeCasts_S1x1x1280_S1x1280 broadcasts_S1x1280_S256x1280
    inb_S2048x256_S1280x256_768_0 inb_S2048x256_S256x256_768_0 inb_S2048x128_S256x128_768_0 inb_S2048x128_S1280x128_768_0 inb_S1x1x2048_S1x1x1280_0_0_768
    (View.ld (Val := Elt Ideal) (S := S2048x256) (e' := .f32) (k0_pay71 (F := Ideal)) (Rect.unit ![768, 0] ![256, 256] inb_S2048x256_S256x256_768_0)) h0 h1 h2 h3 h4 h5 y cc (ha 768 (by omega) inb_S2048x256_S256x256_768_0)) fun hy => ?_
  refine canon_rows _ _ _ _ y cc (by omega) (dkPieceM (A := 0) (o := 512) (n := 1536) x0 x1 x2 x3 x4 x5 (by omega) (by omega) shapeCasts_S256x256_S256x256 bitsLt_bf16_f32
    iota_S256x1536_d0_w32 iota_S256x1536_d1_w32 shapeCasts_S1x1x1536_S1x1536 broadcasts_S1x1536_S256x1536
    inb_S2048x256_S1536x256_512_0 inb_S2048x256_S256x256_512_0 inb_S2048x128_S256x128_512_0 inb_S2048x128_S1536x128_512_0 inb_S1x1x2048_S1x1x1536_0_0_512
    (View.ld (Val := Elt Ideal) (S := S2048x256) (e' := .f32) (k0_pay71 (F := Ideal)) (Rect.unit ![512, 0] ![256, 256] inb_S2048x256_S256x256_512_0)) h0 h1 h2 h3 h4 h5 y cc (ha 512 (by omega) inb_S2048x256_S256x256_512_0)) fun hy => ?_
  refine canon_rows _ _ _ _ y cc (by omega) (dkPieceM (A := 0) (o := 256) (n := 1792) x0 x1 x2 x3 x4 x5 (by omega) (by omega) shapeCasts_S256x256_S256x256 bitsLt_bf16_f32
    iota_S256x1792_d0_w32 iota_S256x1792_d1_w32 shapeCasts_S1x1x1792_S1x1792 broadcasts_S1x1792_S256x1792
    inb_S2048x256_S1792x256_256_0 inb_S2048x256_S256x256_256_0 inb_S2048x128_S256x128_256_0 inb_S2048x128_S1792x128_256_0 inb_S1x1x2048_S1x1x1792_0_0_256
    (View.ld (Val := Elt Ideal) (S := S2048x256) (e' := .f32) (k0_pay71 (F := Ideal)) (Rect.unit ![256, 0] ![256, 256] inb_S2048x256_S256x256_256_0)) h0 h1 h2 h3 h4 h5 y cc (ha 256 (by omega) inb_S2048x256_S256x256_256_0)) fun hy => ?_
  refine canon_rows _ _ _ _ y cc (by omega) (dkPieceM (A := 0) (o := 0) (n := 2048) x0 x1 x2 x3 x4 x5 (by omega) (by omega) shapeCasts_S256x256_S256x256 bitsLt_bf16_f32
    iota_S256x2048_d0_w32 iota_S256x2048_d1_w32 shapeCasts_S1x1x2048_S1x2048 broadcasts_S1x2048_S256x2048
    inb_S2048x256_S2048x256_0_0 inb_S2048x256_S256x256_0_0 inb_S2048x128_S256x128_0_0 inb_S2048x128_S2048x128_0_0 inb_S1x1x2048_S1x1x2048_0_0_0
    (View.ld (Val := Elt Ideal) (S := S2048x256) (e' := .f32) (k0_pay71 (F := Ideal)) (Rect.unit ![0, 0] ![256, 256] inb_S2048x256_S256x256_0_0)) h0 h1 h2 h3 h4 h5 y cc (ha 0 (by omega) inb_S2048x256_S256x256_0_0)) fun hy => ?_
  exact absurd hy (by omega)

end Cert.Dkv

end
-- ==== Proof.CaseC.lean ====
/-
What the body leaves at a point whose query block lies below the diagonal and is the last of its key block: both outputs are stored.
-/
module

public import proofs.«01_k».proof.Proof.Piece

@[expose] public section

set_option maxRecDepth 16384

noncomputable section

namespace Cert.Dkv

open Finset Idealize.ShloMosaic Idealize.ShloMosaic.ValueIdx Idealize.ShloMosaic.TcCoe Idealize.ShloMosaic.Tactic
open Cert.KernelIdeal Cert.KernelIdeal.Gen

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x256 .f32) (harg8 : arg8.IsWhole) (arg9 : Memref sig .tc .vmem S2048x128 .f32) (harg9 : arg9.IsWhole) (arg10 : Memref sig .tc .vmem S2048x256 .f32) (harg10 : arg10.IsWhole) (arg11 : Memref sig .tc .vmem S2048x128 .f32) (harg11 : arg11.IsWhole)
  (x0 : Vec Ideal S2048x256 .bf16) (x1 : Vec Ideal S2048x256 .bf16) (x2 : Vec Ideal S2048x128 .bf16) (x3 : Vec Ideal S2048x128 .bf16) (x4 : Vec Ideal S1x1x2048 .f32) (x5 : Vec Ideal S1x1x2048 .f32) (xs0 : Vec Ideal S2048x256 .f32) (xs1 : Vec Ideal S2048x128 .f32)
  {Q K V G : ℕ → ℕ → ℝ} {L D : ℕ → ℝ} {i0 j0 : ℕ}

set_option maxHeartbeats 800000 in
/-- The values' accumulator after the point: what it held and the block of queries. -/
theorem sout0_C_1_apply (hc0 : ¬cond0_0 i) (hc1 : ¬cond0_1 i) (hc2 : cond0_2 i) (hc3 : cond0_3 i)
    (h0 : ∀ (x : Fin 2048) (d : Fin 256), x0 (ix2 x d) = (Q (i0 + x) d : EReal))
    (h1 : ∀ (r : Fin 2048) (d : Fin 256), x1 (ix2 r d) = (K (j0 + r) d : EReal))
    (h3 : ∀ (x : Fin 2048) (c : Fin 128), x3 (ix2 x c) = (G (i0 + x) c : EReal))
    (h4 : ∀ x : Fin 2048, x4 (ix3 (0 : Fin 1) (0 : Fin 1) x) = (L (i0 + x) : EReal))
    (hij : j0 + 2048 ≤ i0)
    (y : Fin 2048) (cc : Fin 128) {A : ℝ} (ha : xs1 (ix2 y cc) = (A : EReal)) :
    sout0_C_1 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 (ix2 y cc)
      = ((A + ∑ x ∈ range 2048, dvTerm Q K G L (j0 + y) cc (i0 + x) : ℝ) : EReal) := by
  unfold sout0_C_1
  rw [View.read_writes_junk_eq_canon]
  unfold kernelRun0_C
  dsimp only
  sl_unfold_words
  simp only [readAt_unread_eq]
  have ha' : ∀ (o : ℕ) (ho : o + 256 ≤ 2048) (b : InbRows 2048 128 256 o) (r : Fin 256), y.val = o + r →
      View.ld (Val := Elt Ideal) xs1 (Rect.unit ![o, 0] ![256, 128] b) (ix2 r cc) = (A : EReal) := fun o ho b r hr => by
    rw [ld_rows xs1 b r cc (by omega), ← ha]; exact congrArg xs1 (congrArg (ix2 · cc) (Fin.ext hr.symm))
  refine canon_rows _ _ _ _ y cc (by omega) (dvPieceU (o := 1792) x0 x1 x3 x4 (by omega) shapeCasts_S256x128_S256x128 bitsLt_bf16_f32 shapeCasts_S1x1x2048_S1x2048 broadcasts_S1x2048_S256x2048
    inb_S2048x256_S2048x256_0_0 inb_S2048x256_S256x256_1792_0 inb_S2048x128_S2048x128_0_0 inb_S1x1x2048_S1x1x2048_0_0_0
    (View.ld xs1 (Rect.unit ![1792, 0] ![256, 128] inb_S2048x128_S256x128_1792_0)) h0 h1 h3 h4 hij y cc (ha' 1792 (by omega) _)) fun hy => ?_
  refine canon_rows _ _ _ _ y cc (by omega) (dvPieceU (o := 1536) x0 x1 x3 x4 (by omega) shapeCasts_S256x128_S256x128 bitsLt_bf16_f32 shapeCasts_S1x1x2048_S1x2048 broadcasts_S1x2048_S256x2048
    inb_S2048x256_S2048x256_0_0 inb_S2048x256_S256x256_1536_0 inb_S2048x128_S2048x128_0_0 inb_S1x1x2048_S1x1x2048_0_0_0
    (View.ld xs1 (Rect.unit ![1536, 0] ![256, 128] inb_S2048x128_S256x128_1536_0)) h0 h1 h3 h4 hij y cc (ha' 1536 (by omega) _)) fun hy => ?_
  refine canon_rows _ _ _ _ y cc (by omega) (dvPieceU (o := 1280) x0 x1 x3 x4 (by omega) shapeCasts_S256x128_S256x128 bitsLt_bf16_f32 shapeCasts_S1x1x2048_S1x2048 broadcasts_S1x2048_S256x2048
    inb_S2048x256_S2048x256_0_0 inb_S2048x256_S256x256_1280_0 inb_S2048x128_S2048x128_0_0 inb_S1x1x2048_S1x1x2048_0_0_0
    (View.ld xs1 (Rect.unit ![1280, 0] ![256, 128] inb_S2048x128_S256x128_1280_0)) h0 h1 h3 h4 hij y cc (ha' 1280 (by omega) _)) fun hy => ?_
  refine canon_rows _ _ _ _ y cc (by omega) (dvPieceU (o := 1024) x0 x1 x3 x4 (by omega) shapeCasts_S256x128_S256x128 bitsLt_bf16_f32 shapeCasts_S1x1x2048_S1x2048 broadcasts_S1x2048_S256x2048
    inb_S2048x256_S2048x256_0_0 inb_S2048x256_S256x256_1024_0 inb_S2048x128_S2048x128_0_0 inb_S1x1x2048_S1x1x2048_0_0_0
    (View.ld xs1 (Rect.unit ![1024, 0] ![256, 128] inb_S2048x128_S256x128_1024_0)) h0 h1 h3 h4 hij y cc (ha' 1024 (by omega) _)) fun hy => ?_
  refine canon_rows _ _ _ _ y cc (by omega) (dvPieceU (o := 768) x0 x1 x3 x4 (by omega) shapeCasts_S256x128_S256x128 bitsLt_bf16_f32 shapeCasts_S1x1x2048_S1x2048 broadcasts_S1x2048_S256x2048
    inb_S2048x256_S2048x256_0_0 inb_S2048x256_S256x256_768_0 inb_S2048x128_S2048x128_0_0 inb_S1x1x2048_S1x1x2048_0_0_0
    (View.ld xs1 (Rect.unit ![768, 0] ![256, 128] inb_S2048x128_S256x128_768_0)) h0 h1 h3 h4 hij y cc (ha' 768 (by omega) _)) fun hy => ?_
  refine canon_rows _ _ _ _ y cc (by omega) (dvPieceU (o := 512) x0 x1 x3 x4 (by omega) shapeCasts_S256x128_S256x128 bitsLt_bf16_f32 shapeCasts_S1x1x2048_S1x2048 broadcasts_S1x2048_S256x2048
    inb_S2048x256_S2048x256_0_0 inb_S2048x256_S256x256_512_0 inb_S2048x128_S2048x128_0_0 inb_S1x1x2048_S1x1x2048_0_0_0
    (View.ld xs1 (Rect.unit ![512, 0] ![256, 128] inb_S2048x128_S256x128_512_0)) h0 h1 h3 h4 hij y cc (ha' 512 (by omega) _)) fun hy => ?_
  refine canon_rows _ _ _ _ y cc (by omega) (dvPieceU (o := 256) x0 x1 x3 x4 (by omega) shapeCasts_S256x128_S256x128 bitsLt_bf16_f32 shapeCasts_S1x1x2048_S1x2048 broadcasts_S1x2048_S256x2048
    inb_S2048x256_S2048x256_0_0 inb_S2048x256_S256x256_256_0 inb_S2048x128_S2048x128_0_0 inb_S1x1x2048_S1x1x2048_0_0_0
    (View.ld xs1 (Rect.unit ![256, 0] ![256, 128] inb_S2048x128_S256x128_256_0)) h0 h1 h3 h4 hij y cc (ha' 256 (by omega) _)) fun hy => ?_
  refine canon_rows _ _ _ _ y cc (by omega) (dvPieceU (o := 0) x0 x1 x3 x4 (by omega) shapeCasts_S256x128_S256x128 bitsLt_bf16_f32 shapeCasts_S1x1x2048_S1x2048 broadcasts_S1x2048_S256x2048
    inb_S2048x256_S2048x256_0_0 inb_S2048x256_S256x256_0_0 inb_S2048x128_S2048x128_0_0 inb_S1x1x2048_S1x1x2048_0_0_0
    (View.ld xs1 (Rect.unit ![0, 0] ![256, 128] inb_S2048x128_S256x128_0_0)) h0 h1 h3 h4 hij y cc (ha' 0 (by omega) _)) fun hy => ?_
  exact absurd hy (by omega)

set_option maxHeartbeats 800000 in
/-- The keys' accumulator after the point: what it held and the block of queries. -/
theorem sout0_C_0_apply (hc0 : ¬cond0_0 i) (hc1 : ¬cond0_1 i) (hc2 : cond0_2 i) (hc3 : cond0_3 i)
    (h0 : ∀ (x : Fin 2048) (d : Fin 256), x0 (ix2 x d) = (Q (i0 + x) d : EReal))
    (h1 : ∀ (r : Fin 2048) (d : Fin 256), x1 (ix2 r d) = (K (j0 + r) d : EReal))
    (h2 : ∀ (r : Fin 2048) (c : Fin 128), x2 (ix2 r c) = (V (j0 + r) c : EReal))
    (h3 : ∀ (x : Fin 2048) (c : Fin 128), x3 (ix2 x c) = (G (i0 + x) c : EReal))
    (h4 : ∀ x : Fin 2048, x4 (ix3 (0 : Fin 1) (0 : Fin 1) x) = (L (i0 + x) : EReal))
    (h5 : ∀ x : Fin 2048, x5 (ix3 (0 : Fin 1) (0 : Fin 1) x) = (D (i0 + x) : EReal))
    (hij : j0 + 2048 ≤ i0)
    (y : Fin 2048) (cc : Fin 256) {A : ℝ} (ha : xs0 (ix2 y cc) = (A : EReal)) :
    sout0_C_0 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 (ix2 y cc)
      = ((A + ∑ x ∈ range 2048, dkTerm Q K V G L D (j0 + y) cc (i0 + x) : ℝ) : EReal) := by
  unfold sout0_C_0
  rw [View.read_writes_junk_eq_canon]
  unfold kernelRun0_C
  dsimp only
  sl_unfold_words
  simp only [readAt_unread_eq]
  have ha' : ∀ (o : ℕ) (ho : o + 256 ≤ 2048) (b : InbRows 2048 256 256 o) (r : Fin 256), y.val = o + r →
      View.ld (Val := Elt Ideal) xs0 (Rect.unit ![o, 0] ![256, 256] b) (ix2 r cc) = (A : EReal) := fun o ho b r hr => by
    rw [ld_rows xs0 b r cc (by omega), ← ha]; exact congrArg xs0 (congrArg (ix2 · cc) (Fin.ext hr.symm))
  refine canon_rows _ _ _ _ y cc (by omega) (dkPieceU (o := 1792) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_1792_0 inb_S2048x128_S256x128_1792_0 inb_S2048x128_S2048x128_0_0 inb_S1x1x2048_S1x1x2048_0_0_0
    (View.ld xs0 (Rect.unit ![1792, 0] ![256, 256] inb_S2048x256_S256x256_1792_0)) h0 h1 h2 h3 h4 h5 hij y cc (ha' 1792 (by omega) _)) fun hy => ?_
  refine canon_rows _ _ _ _ y cc (by omega) (dkPieceU (o := 1536) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_1536_0 inb_S2048x128_S256x128_1536_0 inb_S2048x128_S2048x128_0_0 inb_S1x1x2048_S1x1x2048_0_0_0
    (View.ld xs0 (Rect.unit ![1536, 0] ![256, 256] inb_S2048x256_S256x256_1536_0)) h0 h1 h2 h3 h4 h5 hij y cc (ha' 1536 (by omega) _)) fun hy => ?_
  refine canon_rows _ _ _ _ y cc (by omega) (dkPieceU (o := 1280) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_1280_0 inb_S2048x128_S256x128_1280_0 inb_S2048x128_S2048x128_0_0 inb_S1x1x2048_S1x1x2048_0_0_0
    (View.ld xs0 (Rect.unit ![1280, 0] ![256, 256] inb_S2048x256_S256x256_1280_0)) h0 h1 h2 h3 h4 h5 hij y cc (ha' 1280 (by omega) _)) fun hy => ?_
  refine canon_rows _ _ _ _ y cc (by omega) (dkPieceU (o := 1024) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_1024_0 inb_S2048x128_S256x128_1024_0 inb_S2048x128_S2048x128_0_0 inb_S1x1x2048_S1x1x2048_0_0_0
    (View.ld xs0 (Rect.unit ![1024, 0] ![256, 256] inb_S2048x256_S256x256_1024_0)) h0 h1 h2 h3 h4 h5 hij y cc (ha' 1024 (by omega) _)) fun hy => ?_
  refine canon_rows _ _ _ _ y cc (by omega) (dkPieceU (o := 768) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_768_0 inb_S2048x128_S256x128_768_0 inb_S2048x128_S2048x128_0_0 inb_S1x1x2048_S1x1x2048_0_0_0
    (View.ld xs0 (Rect.unit ![768, 0] ![256, 256] inb_S2048x256_S256x256_768_0)) h0 h1 h2 h3 h4 h5 hij y cc (ha' 768 (by omega) _)) fun hy => ?_
  refine canon_rows _ _ _ _ y cc (by omega) (dkPieceU (o := 512) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_512_0 inb_S2048x128_S256x128_512_0 inb_S2048x128_S2048x128_0_0 inb_S1x1x2048_S1x1x2048_0_0_0
    (View.ld xs0 (Rect.unit ![512, 0] ![256, 256] inb_S2048x256_S256x256_512_0)) h0 h1 h2 h3 h4 h5 hij y cc (ha' 512 (by omega) _)) fun hy => ?_
  refine canon_rows _ _ _ _ y cc (by omega) (dkPieceU (o := 256) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_256_0 inb_S2048x128_S256x128_256_0 inb_S2048x128_S2048x128_0_0 inb_S1x1x2048_S1x1x2048_0_0_0
    (View.ld xs0 (Rect.unit ![256, 0] ![256, 256] inb_S2048x256_S256x256_256_0)) h0 h1 h2 h3 h4 h5 hij y cc (ha' 256 (by omega) _)) fun hy => ?_
  refine canon_rows _ _ _ _ y cc (by omega) (dkPieceU (o := 0) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_0_0 inb_S2048x128_S256x128_0_0 inb_S2048x128_S2048x128_0_0 inb_S1x1x2048_S1x1x2048_0_0_0
    (View.ld xs0 (Rect.unit ![0, 0] ![256, 256] inb_S2048x256_S256x256_0_0)) h0 h1 h2 h3 h4 h5 hij y cc (ha' 0 (by omega) _)) fun hy => ?_
  exact absurd hy (by omega)

end Cert.Dkv

end
-- ==== Proof.CaseD.lean ====
/-
What the body leaves at a point whose query block lies below the diagonal and is not the last of its key block.
-/
module

public import proofs.«01_k».proof.Proof.Piece

@[expose] public section

set_option maxRecDepth 16384

noncomputable section

namespace Cert.Dkv

open Finset Idealize.ShloMosaic Idealize.ShloMosaic.ValueIdx Idealize.ShloMosaic.TcCoe Idealize.ShloMosaic.Tactic
open Cert.KernelIdeal Cert.KernelIdeal.Gen

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x256 .f32) (harg8 : arg8.IsWhole) (arg9 : Memref sig .tc .vmem S2048x128 .f32) (harg9 : arg9.IsWhole) (arg10 : Memref sig .tc .vmem S2048x256 .f32) (harg10 : arg10.IsWhole) (arg11 : Memref sig .tc .vmem S2048x128 .f32) (harg11 : arg11.IsWhole)
  (x0 : Vec Ideal S2048x256 .bf16) (x1 : Vec Ideal S2048x256 .bf16) (x2 : Vec Ideal S2048x128 .bf16) (x3 : Vec Ideal S2048x128 .bf16) (x4 : Vec Ideal S1x1x2048 .f32) (x5 : Vec Ideal S1x1x2048 .f32) (xs0 : Vec Ideal S2048x256 .f32) (xs1 : Vec Ideal S2048x128 .f32)
  {Q K V G : ℕ → ℕ → ℝ} {L D : ℕ → ℝ} {i0 j0 : ℕ}

set_option maxHeartbeats 800000 in
/-- The values' accumulator after the point: what it held and the block of queries. -/
theorem sout0_D_1_apply (hc0 : ¬cond0_0 i) (hc1 : ¬cond0_1 i) (hc2 : cond0_2 i) (hc3 : ¬cond0_3 i)
    (h0 : ∀ (x : Fin 2048) (d : Fin 256), x0 (ix2 x d) = (Q (i0 + x) d : EReal))
    (h1 : ∀ (r : Fin 2048) (d : Fin 256), x1 (ix2 r d) = (K (j0 + r) d : EReal))
    (h3 : ∀ (x : Fin 2048) (c : Fin 128), x3 (ix2 x c) = (G (i0 + x) c : EReal))
    (h4 : ∀ x : Fin 2048, x4 (ix3 (0 : Fin 1) (0 : Fin 1) x) = (L (i0 + x) : EReal))
    (hij : j0 + 2048 ≤ i0)
    (y : Fin 2048) (cc : Fin 128) {A : ℝ} (ha : xs1 (ix2 y cc) = (A : EReal)) :
    sout0_D_1 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 (ix2 y cc)
      = ((A + ∑ x ∈ range 2048, dvTerm Q K G L (j0 + y) cc (i0 + x) : ℝ) : EReal) := by
  unfold sout0_D_1
  rw [View.read_writes_junk_eq_canon]
  unfold kernelRun0_D
  dsimp only
  sl_unfold_words
  simp only [readAt_unread_eq]
  have ha' : ∀ (o : ℕ) (ho : o + 256 ≤ 2048) (b : InbRows 2048 128 256 o) (r : Fin 256), y.val = o + r →
      View.ld (Val := Elt Ideal) xs1 (Rect.unit ![o, 0] ![256, 128] b) (ix2 r cc) = (A : EReal) := fun o ho b r hr => by
    rw [ld_rows xs1 b r cc (by omega), ← ha]; exact congrArg xs1 (congrArg (ix2 · cc) (Fin.ext hr.symm))
  refine canon_rows _ _ _ _ y cc (by omega) (dvPieceU (o := 1792) x0 x1 x3 x4 (by omega) shapeCasts_S256x128_S256x128 bitsLt_bf16_f32 shapeCasts_S1x1x2048_S1x2048 broadcasts_S1x2048_S256x2048
    inb_S2048x256_S2048x256_0_0 inb_S2048x256_S256x256_1792_0 inb_S2048x128_S2048x128_0_0 inb_S1x1x2048_S1x1x2048_0_0_0
    (View.ld xs1 (Rect.unit ![1792, 0] ![256, 128] inb_S2048x128_S256x128_1792_0)) h0 h1 h3 h4 hij y cc (ha' 1792 (by omega) _)) fun hy => ?_
  refine canon_rows _ _ _ _ y cc (by omega) (dvPieceU (o := 1536) x0 x1 x3 x4 (by omega) shapeCasts_S256x128_S256x128 bitsLt_bf16_f32 shapeCasts_S1x1x2048_S1x2048 broadcasts_S1x2048_S256x2048
    inb_S2048x256_S2048x256_0_0 inb_S2048x256_S256x256_1536_0 inb_S2048x128_S2048x128_0_0 inb_S1x1x2048_S1x1x2048_0_0_0
    (View.ld xs1 (Rect.unit ![1536, 0] ![256, 128] inb_S2048x128_S256x128_1536_0)) h0 h1 h3 h4 hij y cc (ha' 1536 (by omega) _)) fun hy => ?_
  refine canon_rows _ _ _ _ y cc (by omega) (dvPieceU (o := 1280) x0 x1 x3 x4 (by omega) shapeCasts_S256x128_S256x128 bitsLt_bf16_f32 shapeCasts_S1x1x2048_S1x2048 broadcasts_S1x2048_S256x2048
    inb_S2048x256_S2048x256_0_0 inb_S2048x256_S256x256_1280_0 inb_S2048x128_S2048x128_0_0 inb_S1x1x2048_S1x1x2048_0_0_0
    (View.ld xs1 (Rect.unit ![1280, 0] ![256, 128] inb_S2048x128_S256x128_1280_0)) h0 h1 h3 h4 hij y cc (ha' 1280 (by omega) _)) fun hy => ?_
  refine canon_rows _ _ _ _ y cc (by omega) (dvPieceU (o := 1024) x0 x1 x3 x4 (by omega) shapeCasts_S256x128_S256x128 bitsLt_bf16_f32 shapeCasts_S1x1x2048_S1x2048 broadcasts_S1x2048_S256x2048
    inb_S2048x256_S2048x256_0_0 inb_S2048x256_S256x256_1024_0 inb_S2048x128_S2048x128_0_0 inb_S1x1x2048_S1x1x2048_0_0_0
    (View.ld xs1 (Rect.unit ![1024, 0] ![256, 128] inb_S2048x128_S256x128_1024_0)) h0 h1 h3 h4 hij y cc (ha' 1024 (by omega) _)) fun hy => ?_
  refine canon_rows _ _ _ _ y cc (by omega) (dvPieceU (o := 768) x0 x1 x3 x4 (by omega) shapeCasts_S256x128_S256x128 bitsLt_bf16_f32 shapeCasts_S1x1x2048_S1x2048 broadcasts_S1x2048_S256x2048
    inb_S2048x256_S2048x256_0_0 inb_S2048x256_S256x256_768_0 inb_S2048x128_S2048x128_0_0 inb_S1x1x2048_S1x1x2048_0_0_0
    (View.ld xs1 (Rect.unit ![768, 0] ![256, 128] inb_S2048x128_S256x128_768_0)) h0 h1 h3 h4 hij y cc (ha' 768 (by omega) _)) fun hy => ?_
  refine canon_rows _ _ _ _ y cc (by omega) (dvPieceU (o := 512) x0 x1 x3 x4 (by omega) shapeCasts_S256x128_S256x128 bitsLt_bf16_f32 shapeCasts_S1x1x2048_S1x2048 broadcasts_S1x2048_S256x2048
    inb_S2048x256_S2048x256_0_0 inb_S2048x256_S256x256_512_0 inb_S2048x128_S2048x128_0_0 inb_S1x1x2048_S1x1x2048_0_0_0
    (View.ld xs1 (Rect.unit ![512, 0] ![256, 128] inb_S2048x128_S256x128_512_0)) h0 h1 h3 h4 hij y cc (ha' 512 (by omega) _)) fun hy => ?_
  refine canon_rows _ _ _ _ y cc (by omega) (dvPieceU (o := 256) x0 x1 x3 x4 (by omega) shapeCasts_S256x128_S256x128 bitsLt_bf16_f32 shapeCasts_S1x1x2048_S1x2048 broadcasts_S1x2048_S256x2048
    inb_S2048x256_S2048x256_0_0 inb_S2048x256_S256x256_256_0 inb_S2048x128_S2048x128_0_0 inb_S1x1x2048_S1x1x2048_0_0_0
    (View.ld xs1 (Rect.unit ![256, 0] ![256, 128] inb_S2048x128_S256x128_256_0)) h0 h1 h3 h4 hij y cc (ha' 256 (by omega) _)) fun hy => ?_
  refine canon_rows _ _ _ _ y cc (by omega) (dvPieceU (o := 0) x0 x1 x3 x4 (by omega) shapeCasts_S256x128_S256x128 bitsLt_bf16_f32 shapeCasts_S1x1x2048_S1x2048 broadcasts_S1x2048_S256x2048
    inb_S2048x256_S2048x256_0_0 inb_S2048x256_S256x256_0_0 inb_S2048x128_S2048x128_0_0 inb_S1x1x2048_S1x1x2048_0_0_0
    (View.ld xs1 (Rect.unit ![0, 0] ![256, 128] inb_S2048x128_S256x128_0_0)) h0 h1 h3 h4 hij y cc (ha' 0 (by omega) _)) fun hy => ?_
  exact absurd hy (by omega)

set_option maxHeartbeats 800000 in
/-- The keys' accumulator after the point: what it held and the block of queries. -/
theorem sout0_D_0_apply (hc0 : ¬cond0_0 i) (hc1 : ¬cond0_1 i) (hc2 : cond0_2 i) (hc3 : ¬cond0_3 i)
    (h0 : ∀ (x : Fin 2048) (d : Fin 256), x0 (ix2 x d) = (Q (i0 + x) d : EReal))
    (h1 : ∀ (r : Fin 2048) (d : Fin 256), x1 (ix2 r d) = (K (j0 + r) d : EReal))
    (h2 : ∀ (r : Fin 2048) (c : Fin 128), x2 (ix2 r c) = (V (j0 + r) c : EReal))
    (h3 : ∀ (x : Fin 2048) (c : Fin 128), x3 (ix2 x c) = (G (i0 + x) c : EReal))
    (h4 : ∀ x : Fin 2048, x4 (ix3 (0 : Fin 1) (0 : Fin 1) x) = (L (i0 + x) : EReal))
    (h5 : ∀ x : Fin 2048, x5 (ix3 (0 : Fin 1) (0 : Fin 1) x) = (D (i0 + x) : EReal))
    (hij : j0 + 2048 ≤ i0)
    (y : Fin 2048) (cc : Fin 256) {A : ℝ} (ha : xs0 (ix2 y cc) = (A : EReal)) :
    sout0_D_0 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 (ix2 y cc)
      = ((A + ∑ x ∈ range 2048, dkTerm Q K V G L D (j0 + y) cc (i0 + x) : ℝ) : EReal) := by
  unfold sout0_D_0
  rw [View.read_writes_junk_eq_canon]
  unfold kernelRun0_D
  dsimp only
  sl_unfold_words
  simp only [readAt_unread_eq]
  have ha' : ∀ (o : ℕ) (ho : o + 256 ≤ 2048) (b : InbRows 2048 256 256 o) (r : Fin 256), y.val = o + r →
      View.ld (Val := Elt Ideal) xs0 (Rect.unit ![o, 0] ![256, 256] b) (ix2 r cc) = (A : EReal) := fun o ho b r hr => by
    rw [ld_rows xs0 b r cc (by omega), ← ha]; exact congrArg xs0 (congrArg (ix2 · cc) (Fin.ext hr.symm))
  refine canon_rows _ _ _ _ y cc (by omega) (dkPieceU (o := 1792) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_1792_0 inb_S2048x128_S256x128_1792_0 inb_S2048x128_S2048x128_0_0 inb_S1x1x2048_S1x1x2048_0_0_0
    (View.ld xs0 (Rect.unit ![1792, 0] ![256, 256] inb_S2048x256_S256x256_1792_0)) h0 h1 h2 h3 h4 h5 hij y cc (ha' 1792 (by omega) _)) fun hy => ?_
  refine canon_rows _ _ _ _ y cc (by omega) (dkPieceU (o := 1536) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_1536_0 inb_S2048x128_S256x128_1536_0 inb_S2048x128_S2048x128_0_0 inb_S1x1x2048_S1x1x2048_0_0_0
    (View.ld xs0 (Rect.unit ![1536, 0] ![256, 256] inb_S2048x256_S256x256_1536_0)) h0 h1 h2 h3 h4 h5 hij y cc (ha' 1536 (by omega) _)) fun hy => ?_
  refine canon_rows _ _ _ _ y cc (by omega) (dkPieceU (o := 1280) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_1280_0 inb_S2048x128_S256x128_1280_0 inb_S2048x128_S2048x128_0_0 inb_S1x1x2048_S1x1x2048_0_0_0
    (View.ld xs0 (Rect.unit ![1280, 0] ![256, 256] inb_S2048x256_S256x256_1280_0)) h0 h1 h2 h3 h4 h5 hij y cc (ha' 1280 (by omega) _)) fun hy => ?_
  refine canon_rows _ _ _ _ y cc (by omega) (dkPieceU (o := 1024) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_1024_0 inb_S2048x128_S256x128_1024_0 inb_S2048x128_S2048x128_0_0 inb_S1x1x2048_S1x1x2048_0_0_0
    (View.ld xs0 (Rect.unit ![1024, 0] ![256, 256] inb_S2048x256_S256x256_1024_0)) h0 h1 h2 h3 h4 h5 hij y cc (ha' 1024 (by omega) _)) fun hy => ?_
  refine canon_rows _ _ _ _ y cc (by omega) (dkPieceU (o := 768) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_768_0 inb_S2048x128_S256x128_768_0 inb_S2048x128_S2048x128_0_0 inb_S1x1x2048_S1x1x2048_0_0_0
    (View.ld xs0 (Rect.unit ![768, 0] ![256, 256] inb_S2048x256_S256x256_768_0)) h0 h1 h2 h3 h4 h5 hij y cc (ha' 768 (by omega) _)) fun hy => ?_
  refine canon_rows _ _ _ _ y cc (by omega) (dkPieceU (o := 512) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_512_0 inb_S2048x128_S256x128_512_0 inb_S2048x128_S2048x128_0_0 inb_S1x1x2048_S1x1x2048_0_0_0
    (View.ld xs0 (Rect.unit ![512, 0] ![256, 256] inb_S2048x256_S256x256_512_0)) h0 h1 h2 h3 h4 h5 hij y cc (ha' 512 (by omega) _)) fun hy => ?_
  refine canon_rows _ _ _ _ y cc (by omega) (dkPieceU (o := 256) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_256_0 inb_S2048x128_S256x128_256_0 inb_S2048x128_S2048x128_0_0 inb_S1x1x2048_S1x1x2048_0_0_0
    (View.ld xs0 (Rect.unit ![256, 0] ![256, 256] inb_S2048x256_S256x256_256_0)) h0 h1 h2 h3 h4 h5 hij y cc (ha' 256 (by omega) _)) fun hy => ?_
  refine canon_rows _ _ _ _ y cc (by omega) (dkPieceU (o := 0) x0 x1 x2 x3 x4 x5 (by omega) shapeCasts_S256x256_S256x256 bitsLt_bf16_f32 shapeCasts_S1x1x2048_S1x2048 broadcasts_S1x2048_S256x2048
    inb_S2048x256_S2048x256_0_0 inb_S2048x256_S256x256_0_0 inb_S2048x128_S256x128_0_0 inb_S2048x128_S2048x128_0_0 inb_S1x1x2048_S1x1x2048_0_0_0
    (View.ld xs0 (Rect.unit ![0, 0] ![256, 256] inb_S2048x256_S256x256_0_0)) h0 h1 h2 h3 h4 h5 hij y cc (ha' 0 (by omega) _)) fun hy => ?_
  exact absurd hy (by omega)

end Cert.Dkv

end
-- ==== Proof.Outs.lean ====
/-
What a key block's last point stores in the two outputs: the accumulators as the point left them.
-/
module

public import proofs.«01_k».proof.Proof.Piece

@[expose] public section

set_option maxRecDepth 16384

noncomputable section

namespace Cert.Dkv

open Finset Idealize.ShloMosaic Idealize.ShloMosaic.ValueIdx Idealize.ShloMosaic.TcCoe Idealize.ShloMosaic.Tactic
open Cert.KernelIdeal Cert.KernelIdeal.Gen

/-- A load of the whole buffer, read back over junk, is what the stores left. -/
theorem readCov_whole {sp : Space} {M N : ℕ} {e : EltTy} {κ : Kind} (v : View KernelIdeal.sig κ sp ⟨2, ![M, N]⟩ e)
    (Ls : List (View.Piece (Elt Ideal) ⟨2, ![M, N]⟩ e))
    (inb : ∀ ax, (![0, 0] : Fin 2 → ℕ) ax + (![M, N] : Fin 2 → ℕ) ax ≤ (⟨2, ![M, N]⟩ : Shape).size ax) :
    v.readCov Ls (Rect.unit (s := ⟨2, ![M, N]⟩) ![0, 0] ![M, N] inb).toLoadRect = View.canon Ls := by
  rw [View.readCov_eq_canon']
  funext x
  refine congrArg (View.canon Ls) (funext fun ax => Fin.ext ?_)
  match ax with
  | ⟨0, _⟩ => show 0 + 1 * (x 0).val = (x 0).val; omega
  | ⟨1, _⟩ => show 0 + 1 * (x 1).val = (x 1).val; omega

/-- A store of the whole buffer, last, leaves what it stores. -/
theorem canon_whole {M N : ℕ} {e : EltTy} (w : Vec Ideal ⟨2, ![M, N]⟩ e) (Ls : List (View.Piece (Elt Ideal) ⟨2, ![M, N]⟩ e))
    (inb : ∀ ax, (![0, 0] : Fin 2 → ℕ) ax + (![M, N] : Fin 2 → ℕ) ax ≤ (⟨2, ![M, N]⟩ : Shape).size ax) :
    View.canon ((⟨Rect.unit ![0, 0] ![M, N] inb, w⟩ : View.Piece (Elt Ideal) ⟨2, ![M, N]⟩ e) :: Ls) = w :=
  View.canon_cons_unit_lit (S := ⟨2, ![M, N]⟩) inb w Ls (fun ax => by match ax with | ⟨0, _⟩ => rfl | ⟨1, _⟩ => rfl)

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x256 .f32) (harg8 : arg8.IsWhole) (arg9 : Memref sig .tc .vmem S2048x128 .f32) (harg9 : arg9.IsWhole) (arg10 : Memref sig .tc .vmem S2048x256 .f32) (harg10 : arg10.IsWhole) (arg11 : Memref sig .tc .vmem S2048x128 .f32) (harg11 : arg11.IsWhole)
  (x0 : Vec Ideal S2048x256 .bf16) (x1 : Vec Ideal S2048x256 .bf16) (x2 : Vec Ideal S2048x128 .bf16) (x3 : Vec Ideal S2048x128 .bf16) (x4 : Vec Ideal S1x1x2048 .f32) (x5 : Vec Ideal S1x1x2048 .f32)

theorem out0_A_6_eq (hc0 : cond0_0 i) (hc1 : cond0_1 i) (hc2 : ¬cond0_2 i) (hc3 : cond0_3 i) :
    out0_A_6 c i arg2 harg2 arg3 harg3 arg4 harg4 arg5 harg5 arg6 harg6 arg7 harg7 arg8 harg8 arg9 harg9 arg10 harg10 arg11 harg11 hc0 hc1 hc2 hc3 x0 x1 x2 x3 x4 x5 = sout0_A_0 c i arg2 harg2 arg3 harg3 arg4 harg4 arg5 harg5 arg6 harg6 arg7 harg7 arg8 harg8 arg9 harg9 arg10 harg10 arg11 harg11 hc0 hc1 hc2 hc3 x0 x1 x2 x3 x4 x5 := by
  unfold out0_A_6 sout0_A_0
  rw [View.read_writes_junk_eq_canon, View.read_writes_junk_eq_canon]
  unfold kernelRun0_A
  dsimp only
  sl_unfold_words
  rw [canon_whole, readCov_whole]

theorem out0_A_7_eq (hc0 : cond0_0 i) (hc1 : cond0_1 i) (hc2 : ¬cond0_2 i) (hc3 : cond0_3 i) :
    out0_A_7 c i arg2 harg2 arg3 harg3 arg4 harg4 arg5 harg5 arg6 harg6 arg7 harg7 arg8 harg8 arg9 harg9 arg10 harg10 arg11 harg11 hc0 hc1 hc2 hc3 x0 x1 x2 x3 x4 x5 = sout0_A_1 c i arg2 harg2 arg3 harg3 arg4 harg4 arg5 harg5 arg6 harg6 arg7 harg7 arg8 harg8 arg9 harg9 arg10 harg10 arg11 harg11 hc0 hc1 hc2 hc3 x0 x1 x2 x3 x4 x5 := by
  unfold out0_A_7 sout0_A_1
  rw [View.read_writes_junk_eq_canon, View.read_writes_junk_eq_canon]
  unfold kernelRun0_A
  dsimp only
  sl_unfold_words
  rw [canon_whole, readCov_whole]

theorem out0_C_6_eq (hc0 : ¬cond0_0 i) (hc1 : ¬cond0_1 i) (hc2 : cond0_2 i) (hc3 : cond0_3 i) (xs0 : Vec Ideal S2048x256 .f32) (xs1 : Vec Ideal S2048x128 .f32) :
    out0_C_6 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 = sout0_C_0 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 := by
  unfold out0_C_6 sout0_C_0
  rw [View.read_writes_junk_eq_canon, View.read_writes_junk_eq_canon]
  unfold kernelRun0_C
  dsimp only
  sl_unfold_words
  rw [canon_whole, readCov_whole]

theorem out0_C_7_eq (hc0 : ¬cond0_0 i) (hc1 : ¬cond0_1 i) (hc2 : cond0_2 i) (hc3 : cond0_3 i) (xs0 : Vec Ideal S2048x256 .f32) (xs1 : Vec Ideal S2048x128 .f32) :
    out0_C_7 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 = sout0_C_1 c i arg2 harg2 arg3 harg3 arg4 harg4 arg5 harg5 arg6 harg6 arg7 harg7 arg8 harg8 arg9 harg9 arg10 harg10 arg11 harg11 hc0 hc1 hc2 hc3 x0 x1 x2 x3 x4 x5 xs0 xs1 := by
  unfold out0_C_7 sout0_C_1
  rw [View.read_writes_junk_eq_canon, View.read_writes_junk_eq_canon]
  unfold kernelRun0_C
  dsimp only
  sl_unfold_words
  rw [canon_whole, readCov_whole]

end Cert.Dkv

end
-- ==== Proof.Blocks.lean ====
/-
What the pipeline brings in at every grid point: each input's block as entries of its array.
-/
module

public import proofs.«01_k».proof.Proof.Model
public import proofs.«01_k».proof.Proof.Gen.KernelIdeal.Value
public import Idealize.ShloMosaic.Lib.Pipeline.ValueKit

@[expose] public section

set_option maxRecDepth 16384

noncomputable section

namespace Cert.Dkv

open Idealize.ShloMosaic hiding ix0 ix1 ix2 ix3 ix4 ix5
open Finset Idealize.ShloMosaic.ValueIdx Idealize.ShloMosaic.TcCoe Idealize.ShloMosaic.Tactic
open Cert.KernelIdeal Cert.KernelIdeal.Gen

/-- The key block of a point. -/
def kj (t : ℕ) : ℕ := if t % 10 = 0 then 3 else if t % 10 < 3 then 2 else if t % 10 < 6 then 1 else 0
/-- The query block of a point. -/
def qi (t : ℕ) : ℕ := if t % 10 = 0 then 3 else if t % 10 < 3 then t % 10 + 1 else if t % 10 < 6 then t % 10 - 2 else t % 10 - 6

theorem idx0 : ∀ t : Fin cfg0.N, win0_0.index t = ![qi t.val, t.val / 10] :=
  (by decide +kernel : ∀ t : Fin grid0.N, win0_0.index t = ![qi t.val, t.val / 10])
theorem idx1 : ∀ t : Fin cfg0.N, win0_1.index t = ![kj t.val, t.val / 10] :=
  (by decide +kernel : ∀ t : Fin grid0.N, win0_1.index t = ![kj t.val, t.val / 10])
theorem idx2 : ∀ t : Fin cfg0.N, win0_2.index t = ![kj t.val, t.val / 10] :=
  (by decide +kernel : ∀ t : Fin grid0.N, win0_2.index t = ![kj t.val, t.val / 10])
theorem idx3 : ∀ t : Fin cfg0.N, win0_3.index t = ![qi t.val, t.val / 10] :=
  (by decide +kernel : ∀ t : Fin grid0.N, win0_3.index t = ![qi t.val, t.val / 10])
theorem idx4 : ∀ t : Fin cfg0.N, win0_4.index t = ![t.val / 10, 0, qi t.val] :=
  (by decide +kernel : ∀ t : Fin grid0.N, win0_4.index t = ![t.val / 10, 0, qi t.val])
theorem idx5 : ∀ t : Fin cfg0.N, win0_5.index t = ![t.val / 10, 0, qi t.val] :=
  (by decide +kernel : ∀ t : Fin grid0.N, win0_5.index t = ![t.val / 10, 0, qi t.val])
theorem idx6 : ∀ t : Fin cfg0.N, win0_6.index t = ![kj t.val, t.val / 10] :=
  (by decide +kernel : ∀ t : Fin grid0.N, win0_6.index t = ![kj t.val, t.val / 10])
theorem idx7 : ∀ t : Fin cfg0.N, win0_7.index t = ![kj t.val, t.val / 10] :=
  (by decide +kernel : ∀ t : Fin grid0.N, win0_7.index t = ![kj t.val, t.val / 10])

theorem kj_lt (t : ℕ) : kj t < 4 := by unfold kj; split_ifs <;> omega
theorem qi_lt (t : ℕ) : qi t < 4 := by unfold qi; split_ifs <;> omega
theorem pt_lt (t : Fin cfg0.N) : t.val < 80 := lt_of_lt_of_eq t.isLt (show cfg0.N = 80 from N_0)

variable (m : (ℓ : Loc nD τ sig) → Buf (Elt Ideal) ℓ) (c : Dev nD)
  {Qa Ka Va Ga : ℕ → ℕ → ℝ} {La Da : ℕ → ℕ → ℝ}

/-- What the launch finds in the six input arrays, as real numbers. -/
structure Ins (Qa Ka Va Ga La Da : ℕ → ℕ → ℝ) : Prop where
  q : ∀ (i : Fin 8192) (e : Fin 2048), V m c main_arg0 (ix2 i e) = (Qa i e : EReal)
  k : ∀ (i : Fin 8192) (e : Fin 2048), V m c main_arg1 (ix2 i e) = (Ka i e : EReal)
  v : ∀ (i : Fin 8192) (e : Fin 1024), V m c main_arg2 (ix2 i e) = (Va i e : EReal)
  g : ∀ (i : Fin 8192) (e : Fin 1024), V m c main_arg3 (ix2 i e) = (Ga i e : EReal)
  l : ∀ (h : Fin 8) (i : Fin 8192), V m c main_v28 (ix3 h (0 : Fin 1) i) = (La h i : EReal)
  d : ∀ (h : Fin 8) (i : Fin 8192), V m c main_v34 (ix3 h (0 : Fin 1) i) = (Da h i : EReal)

theorem blk0 (I : Ins m c Qa Ka Va Ga La Da) (t : Fin cfg0.N) (x : Fin 2048) (d : Fin 256) :
    iblk m c 0 t (ix2 x d) = (head 256 Qa (t.val / 10) (qi t.val * 2048 + x) d : EReal) := by
  have ht := pt_lt t
  have hq := qi_lt t.val
  refine Eq.trans ?_ (I.q ⟨qi t.val * 2048 + x, by omega⟩ ⟨t.val / 10 * 256 + d, by omega⟩)
  unfold iblk
  generalize V m c = W
  blk_simp
  refine congrArg (W main_arg0) ?_
  funext ax
  match ax with
  | ⟨0, _⟩ => exact Fin.ext (by blk_simp [idx0])
  | ⟨1, _⟩ => exact Fin.ext (by blk_simp [idx0])

theorem blk1 (I : Ins m c Qa Ka Va Ga La Da) (t : Fin cfg0.N) (x : Fin 2048) (d : Fin 256) :
    iblk m c 1 t (ix2 x d) = (head 256 Ka (t.val / 10) (kj t.val * 2048 + x) d : EReal) := by
  have ht := pt_lt t
  have hq := kj_lt t.val
  refine Eq.trans ?_ (I.k ⟨kj t.val * 2048 + x, by omega⟩ ⟨t.val / 10 * 256 + d, by omega⟩)
  unfold iblk
  generalize V m c = W
  blk_simp
  refine congrArg (W main_arg1) ?_
  funext ax
  match ax with
  | ⟨0, _⟩ => exact Fin.ext (by blk_simp [idx1])
  | ⟨1, _⟩ => exact Fin.ext (by blk_simp [idx1])

theorem blk2 (I : Ins m c Qa Ka Va Ga La Da) (t : Fin cfg0.N) (x : Fin 2048) (d : Fin 128) :
    iblk m c 2 t (ix2 x d) = (head 128 Va (t.val / 10) (kj t.val * 2048 + x) d : EReal) := by
  have ht := pt_lt t
  have hq := kj_lt t.val
  refine Eq.trans ?_ (I.v ⟨kj t.val * 2048 + x, by omega⟩ ⟨t.val / 10 * 128 + d, by omega⟩)
  unfold iblk
  generalize V m c = W
  blk_simp
  refine congrArg (W main_arg2) ?_
  funext ax
  match ax with
  | ⟨0, _⟩ => exact Fin.ext (by blk_simp [idx2])
  | ⟨1, _⟩ => exact Fin.ext (by blk_simp [idx2])

theorem blk3 (I : Ins m c Qa Ka Va Ga La Da) (t : Fin cfg0.N) (x : Fin 2048) (d : Fin 128) :
    iblk m c 3 t (ix2 x d) = (head 128 Ga (t.val / 10) (qi t.val * 2048 + x) d : EReal) := by
  have ht := pt_lt t
  have hq := qi_lt t.val
  refine Eq.trans ?_ (I.g ⟨qi t.val * 2048 + x, by omega⟩ ⟨t.val / 10 * 128 + d, by omega⟩)
  unfold iblk
  generalize V m c = W
  blk_simp
  refine congrArg (W main_arg3) ?_
  funext ax
  match ax with
  | ⟨0, _⟩ => exact Fin.ext (by blk_simp [idx3])
  | ⟨1, _⟩ => exact Fin.ext (by blk_simp [idx3])

theorem row4 (W : (b : Ref sig .tc) → b.ty.Contents (Elt Ideal)) (t : Fin cfg0.N) (x : Fin 2048) (h1 : t.val / 10 < 8)
    (h2 : qi t.val * 2048 + x.val < 8192) :
    ((cfg0.win 4).blk t).view.read (Elt Ideal) (W (Pipeline.arrRef spec0 4)) (ix3 (0 : Fin 1) (0 : Fin 1) x)
      = W main_v28 (ix3 ⟨t.val / 10, h1⟩ (0 : Fin 1) ⟨qi t.val * 2048 + x.val, h2⟩) := by
  blk_simp
  refine congrArg (W main_v28) ?_
  funext ax
  match ax with
  | ⟨0, _⟩ => exact Fin.ext (by blk_simp [idx4])
  | ⟨1, _⟩ => exact Fin.ext (by blk_simp [idx4])
  | ⟨2, _⟩ => exact Fin.ext (by blk_simp [idx4])

theorem blk4 (I : Ins m c Qa Ka Va Ga La Da) (t : Fin cfg0.N) (x : Fin 2048) :
    iblk m c 4 t (ix3 (0 : Fin 1) (0 : Fin 1) x) = (La (t.val / 10) (qi t.val * 2048 + x) : EReal) := by
  have ht := pt_lt t
  have hq := qi_lt t.val
  exact (row4 (V m c) t x (by omega) (by omega)).trans (I.l ⟨t.val / 10, by omega⟩ ⟨qi t.val * 2048 + x, by omega⟩)

theorem row5 (W : (b : Ref sig .tc) → b.ty.Contents (Elt Ideal)) (t : Fin cfg0.N) (x : Fin 2048) (h1 : t.val / 10 < 8)
    (h2 : qi t.val * 2048 + x.val < 8192) :
    ((cfg0.win 5).blk t).view.read (Elt Ideal) (W (Pipeline.arrRef spec0 5)) (ix3 (0 : Fin 1) (0 : Fin 1) x)
      = W main_v34 (ix3 ⟨t.val / 10, h1⟩ (0 : Fin 1) ⟨qi t.val * 2048 + x.val, h2⟩) := by
  blk_simp
  refine congrArg (W main_v34) ?_
  funext ax
  match ax with
  | ⟨0, _⟩ => exact Fin.ext (by blk_simp [idx5])
  | ⟨1, _⟩ => exact Fin.ext (by blk_simp [idx5])
  | ⟨2, _⟩ => exact Fin.ext (by blk_simp [idx5])

theorem blk5 (I : Ins m c Qa Ka Va Ga La Da) (t : Fin cfg0.N) (x : Fin 2048) :
    iblk m c 5 t (ix3 (0 : Fin 1) (0 : Fin 1) x) = (Da (t.val / 10) (qi t.val * 2048 + x) : EReal) := by
  have ht := pt_lt t
  have hq := qi_lt t.val
  exact (row5 (V m c) t x (by omega) (by omega)).trans (I.d ⟨t.val / 10, by omega⟩ ⟨qi t.val * 2048 + x, by omega⟩)

end Cert.Dkv

end
-- ==== Proof.Fold.lean ====
/-
The two accumulators after every grid point, and the two output arrays after the run: at key block `kj t` and query block
`qi t` the accumulators hold the sums over every query up to the end of the query block.
-/
module

public import proofs.«01_k».proof.Proof.CaseA
public import proofs.«01_k».proof.Proof.CaseB
public import proofs.«01_k».proof.Proof.CaseC
public import proofs.«01_k».proof.Proof.CaseD
public import proofs.«01_k».proof.Proof.Outs
public import proofs.«01_k».proof.Proof.Blocks

@[expose] public section

set_option maxRecDepth 16384

noncomputable section

namespace Cert.Dkv

open Idealize.ShloMosaic hiding ix0 ix1 ix2 ix3 ix4 ix5
open Finset Idealize.ShloMosaic.ValueIdx Idealize.ShloMosaic.TcCoe Idealize.ShloMosaic.Tactic
open Cert.KernelIdeal Cert.KernelIdeal.Gen

variable (m : (ℓ : Loc nD τ sig) → Buf (Elt Ideal) ℓ) (c : Dev nD)
  {Qa Ka Va Ga : ℕ → ℕ → ℝ} {La Da : ℕ → ℕ → ℝ}

theorem parts_dk {α β : Type} {p : α × β × α × β} {a a' : α} {b b' : β} (h : p = (a, b, a', b')) (e : a = a') : p.1 = p.2.2.1 := by
  subst h; exact e

theorem parts_dv {α β : Type} {p : α × β × α × β} {a a' : α} {b b' : β} (h : p = (a, b, a', b')) (e : b = b') : p.2.1 = p.2.2.2 := by
  subst h; exact e

/-- The gradient of value `j`, column `cc`, of head `h`, over the queries below `n`. -/
def dvUpTo (Qa Ka Ga La : ℕ → ℕ → ℝ) (h n j cc : ℕ) : ℝ :=
  ∑ i ∈ range n, dvTerm (head 256 Qa h) (head 256 Ka h) (head 128 Ga h) (La h) j cc i

/-- The gradient of key `j`, column `d`, of head `h`, over the queries below `n`. -/
def dkUpTo (Qa Ka Va Ga La Da : ℕ → ℕ → ℝ) (h n j d : ℕ) : ℝ :=
  ∑ i ∈ range n, dkTerm (head 256 Qa h) (head 256 Ka h) (head 128 Va h) (head 128 Ga h) (La h) (Da h) j d i

set_option maxHeartbeats 3000000 in
/-- A point that starts a key block leaves in the values' accumulator the sums up to the end of its query block. -/
theorem dv_first (I : Ins m c Qa Ka Va Ga La Da) (t : Fin cfg0.N) (h0 : t.val % 10 = 0 ∨ t.val % 10 = 1 ∨ t.val % 10 = 3 ∨ t.val % 10 = 6)
    (y : Fin 2048) (cc : Fin 128) :
    (outsAt0 m c t.val t.isLt).2.2.2 (ix2 y cc)
      = (dvUpTo Qa Ka Ga La (t.val / 10) (qi t.val * 2048 + 2048) (kj t.val * 2048 + y) cc : EReal) := by
  have hqk : qi t.val = kj t.val := by unfold qi kj; split_ifs <;> omega
  have h1 := h0
  have h2 : ¬¬(t.val % 10 = 0 ∨ t.val % 10 = 1 ∨ t.val % 10 = 3 ∨ t.val % 10 = 6) := not_not_intro h0
  rw [hqk, dvUpTo, ← sum_range_shift _ _ _ (fun i hi => dvTerm_of_lt _ _ _ _ _ _ (by omega))]
  have b0 : ∀ (x : Fin 2048) (d : Fin 256), iblk m c 0 t (ix2 x d) = (head 256 Qa (t.val / 10) (kj t.val * 2048 + x) d : EReal) :=
    fun x d => by rw [← hqk]; exact blk0 m c I t x d
  have b3 : ∀ (x : Fin 2048) (d : Fin 128), iblk m c 3 t (ix2 x d) = (head 128 Ga (t.val / 10) (kj t.val * 2048 + x) d : EReal) :=
    fun x d => by rw [← hqk]; exact blk3 m c I t x d
  have b4 : ∀ x : Fin 2048, iblk m c 4 t (ix3 (0 : Fin 1) (0 : Fin 1) x) = (La (t.val / 10) (kj t.val * 2048 + x) : EReal) :=
    fun x => by rw [← hqk]; exact blk4 m c I t x
  have b5 : ∀ x : Fin 2048, iblk m c 5 t (ix3 (0 : Fin 1) (0 : Fin 1) x) = (Da (t.val / 10) (kj t.val * 2048 + x) : EReal) :=
    fun x => by rw [← hqk]; exact blk5 m c I t x
  by_cases h3 : t.val % 10 = 0 ∨ t.val % 10 = 2 ∨ t.val % 10 = 5 ∨ t.val % 10 = 9
  · rw [outsAt0_A m c t h0 h1 h2 h3]
    refine (sout0_A_1_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t)
      ((hcond0_0 t).mpr h0) ((hcond0_1 t).mpr h1) (fun h => h2 ((hcond0_2 t).mp h)) ((hcond0_3 t).mpr h3)
      b0 (fun x d => blk1 m c I t x d) b3 b4 y cc).trans ?_
    rw [zero_add]
  · rw [outsAt0_B m c t h0 h1 h2 h3]
    refine (sout0_B_1_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t)
      ((hcond0_0 t).mpr h0) ((hcond0_1 t).mpr h1) (fun h => h2 ((hcond0_2 t).mp h)) (fun h => h3 ((hcond0_3 t).mp h))
      b0 (fun x d => blk1 m c I t x d) b3 b4 y cc).trans ?_
    rw [zero_add]

set_option maxHeartbeats 3000000 in
/-- A later point of a key block adds its query block to the values' accumulator. -/
theorem dv_next (I : Ins m c Qa Ka Va Ga La Da) (t : Fin cfg0.N) (h0 : ¬(t.val % 10 = 0 ∨ t.val % 10 = 1 ∨ t.val % 10 = 3 ∨ t.val % 10 = 6))
    (y : Fin 2048) (cc : Fin 128)
    (ha : (outsAt0 m c (t.val - 1) (by have := t.isLt; omega)).2.2.2 (ix2 y cc)
      = (dvUpTo Qa Ka Ga La (t.val / 10) (qi t.val * 2048) (kj t.val * 2048 + y) cc : EReal)) :
    (outsAt0 m c t.val t.isLt).2.2.2 (ix2 y cc)
      = (dvUpTo Qa Ka Ga La (t.val / 10) (qi t.val * 2048 + 2048) (kj t.val * 2048 + y) cc : EReal) := by
  have hqk : kj t.val + 1 ≤ qi t.val := by unfold qi kj; split_ifs <;> omega
  have h1 := h0
  have h2 := h0
  unfold dvUpTo at ha ⊢
  rw [sum_range_add]
  by_cases h3 : t.val % 10 = 0 ∨ t.val % 10 = 2 ∨ t.val % 10 = 5 ∨ t.val % 10 = 9
  · rw [outsAt0_C m c t h0 h1 h2 h3]
    exact sout0_C_1_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t) (outsAt0 m c (t.val - 1) (by omega)).2.2.1 (outsAt0 m c (t.val - 1) (by omega)).2.2.2
      (fun h => h0 ((hcond0_0 t).mp h)) (fun h => h1 ((hcond0_1 t).mp h)) ((hcond0_2 t).mpr h2) ((hcond0_3 t).mpr h3)
      (fun x d => blk0 m c I t x d) (fun x d => blk1 m c I t x d) (fun x d => blk3 m c I t x d) (fun x => blk4 m c I t x) (by omega) y cc ha
  · rw [outsAt0_D m c t h0 h1 h2 h3]
    exact sout0_D_1_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t) (outsAt0 m c (t.val - 1) (by omega)).2.2.1 (outsAt0 m c (t.val - 1) (by omega)).2.2.2
      (fun h => h0 ((hcond0_0 t).mp h)) (fun h => h1 ((hcond0_1 t).mp h)) ((hcond0_2 t).mpr h2) (fun h => h3 ((hcond0_3 t).mp h))
      (fun x d => blk0 m c I t x d) (fun x d => blk1 m c I t x d) (fun x d => blk3 m c I t x d) (fun x => blk4 m c I t x) (by omega) y cc ha

/-- The values' accumulator after every point. -/
theorem dv_at (I : Ins m c Qa Ka Va Ga La Da) : ∀ (n : ℕ) (hn : n < cfg0.N) (y : Fin 2048) (cc : Fin 128),
    (outsAt0 m c n hn).2.2.2 (ix2 y cc) = (dvUpTo Qa Ka Ga La (n / 10) (qi n * 2048 + 2048) (kj n * 2048 + y) cc : EReal) := by
  intro n
  induction n with
  | zero => exact fun hn y cc => dv_first m c I ⟨0, hn⟩ (Or.inl rfl) y cc
  | succ n ih =>
    intro hn y cc
    by_cases h0 : (n + 1) % 10 = 0 ∨ (n + 1) % 10 = 1 ∨ (n + 1) % 10 = 3 ∨ (n + 1) % 10 = 6
    · exact dv_first m c I ⟨n + 1, hn⟩ h0 y cc
    · refine dv_next m c I ⟨n + 1, hn⟩ h0 y cc ?_
      have e1 : (n + 1) / 10 = n / 10 := by omega
      have e2 : kj (n + 1) = kj n := by unfold kj; split_ifs <;> omega
      have e3 : qi (n + 1) * 2048 = qi n * 2048 + 2048 := by unfold qi; split_ifs <;> omega
      have := ih (by omega) y cc
      show (outsAt0 m c (n + 1 - 1) _).2.2.2 (ix2 y cc) = (dvUpTo Qa Ka Ga La ((n + 1) / 10) (qi (n + 1) * 2048) (kj (n + 1) * 2048 + y) cc : EReal)
      rw [e1, e2, e3]
      exact this

set_option maxHeartbeats 3000000 in
/-- A point that starts a key block leaves in the keys' accumulator the sums up to the end of its query block. -/
theorem dk_first (I : Ins m c Qa Ka Va Ga La Da) (t : Fin cfg0.N) (h0 : t.val % 10 = 0 ∨ t.val % 10 = 1 ∨ t.val % 10 = 3 ∨ t.val % 10 = 6)
    (y : Fin 2048) (cc : Fin 256) :
    (outsAt0 m c t.val t.isLt).2.2.1 (ix2 y cc)
      = (dkUpTo Qa Ka Va Ga La Da (t.val / 10) (qi t.val * 2048 + 2048) (kj t.val * 2048 + y) cc : EReal) := by
  have hqk : qi t.val = kj t.val := by unfold qi kj; split_ifs <;> omega
  have h1 := h0
  have h2 : ¬¬(t.val % 10 = 0 ∨ t.val % 10 = 1 ∨ t.val % 10 = 3 ∨ t.val % 10 = 6) := not_not_intro h0
  rw [hqk, dkUpTo, ← sum_range_shift _ _ _ (fun i hi => dkTerm_of_lt _ _ _ _ _ _ _ _ (by omega))]
  have b0 : ∀ (x : Fin 2048) (d : Fin 256), iblk m c 0 t (ix2 x d) = (head 256 Qa (t.val / 10) (kj t.val * 2048 + x) d : EReal) :=
    fun x d => by rw [← hqk]; exact blk0 m c I t x d
  have b3 : ∀ (x : Fin 2048) (d : Fin 128), iblk m c 3 t (ix2 x d) = (head 128 Ga (t.val / 10) (kj t.val * 2048 + x) d : EReal) :=
    fun x d => by rw [← hqk]; exact blk3 m c I t x d
  have b4 : ∀ x : Fin 2048, iblk m c 4 t (ix3 (0 : Fin 1) (0 : Fin 1) x) = (La (t.val / 10) (kj t.val * 2048 + x) : EReal) :=
    fun x => by rw [← hqk]; exact blk4 m c I t x
  have b5 : ∀ x : Fin 2048, iblk m c 5 t (ix3 (0 : Fin 1) (0 : Fin 1) x) = (Da (t.val / 10) (kj t.val * 2048 + x) : EReal) :=
    fun x => by rw [← hqk]; exact blk5 m c I t x
  by_cases h3 : t.val % 10 = 0 ∨ t.val % 10 = 2 ∨ t.val % 10 = 5 ∨ t.val % 10 = 9
  · rw [outsAt0_A m c t h0 h1 h2 h3]
    refine (sout0_A_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t)
      ((hcond0_0 t).mpr h0) ((hcond0_1 t).mpr h1) (fun h => h2 ((hcond0_2 t).mp h)) ((hcond0_3 t).mpr h3)
      b0 (fun x d => blk1 m c I t x d) (fun x d => blk2 m c I t x d) b3 b4 b5 y cc).trans ?_
    rw [zero_add]
  · rw [outsAt0_B m c t h0 h1 h2 h3]
    refine (sout0_B_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t)
      ((hcond0_0 t).mpr h0) ((hcond0_1 t).mpr h1) (fun h => h2 ((hcond0_2 t).mp h)) (fun h => h3 ((hcond0_3 t).mp h))
      b0 (fun x d => blk1 m c I t x d) (fun x d => blk2 m c I t x d) b3 b4 b5 y cc).trans ?_
    rw [zero_add]

set_option maxHeartbeats 3000000 in
/-- A later point of a key block adds its query block to the keys' accumulator. -/
theorem dk_next (I : Ins m c Qa Ka Va Ga La Da) (t : Fin cfg0.N) (h0 : ¬(t.val % 10 = 0 ∨ t.val % 10 = 1 ∨ t.val % 10 = 3 ∨ t.val % 10 = 6))
    (y : Fin 2048) (cc : Fin 256)
    (ha : (outsAt0 m c (t.val - 1) (by have := t.isLt; omega)).2.2.1 (ix2 y cc)
      = (dkUpTo Qa Ka Va Ga La Da (t.val / 10) (qi t.val * 2048) (kj t.val * 2048 + y) cc : EReal)) :
    (outsAt0 m c t.val t.isLt).2.2.1 (ix2 y cc)
      = (dkUpTo Qa Ka Va Ga La Da (t.val / 10) (qi t.val * 2048 + 2048) (kj t.val * 2048 + y) cc : EReal) := by
  have hqk : kj t.val + 1 ≤ qi t.val := by unfold qi kj; split_ifs <;> omega
  have h1 := h0
  have h2 := h0
  unfold dkUpTo at ha ⊢
  rw [sum_range_add]
  by_cases h3 : t.val % 10 = 0 ∨ t.val % 10 = 2 ∨ t.val % 10 = 5 ∨ t.val % 10 = 9
  · rw [outsAt0_C m c t h0 h1 h2 h3]
    exact sout0_C_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t) (outsAt0 m c (t.val - 1) (by omega)).2.2.1 (outsAt0 m c (t.val - 1) (by omega)).2.2.2
      (fun h => h0 ((hcond0_0 t).mp h)) (fun h => h1 ((hcond0_1 t).mp h)) ((hcond0_2 t).mpr h2) ((hcond0_3 t).mpr h3)
      (fun x d => blk0 m c I t x d) (fun x d => blk1 m c I t x d) (fun x d => blk2 m c I t x d) (fun x d => blk3 m c I t x d) (fun x => blk4 m c I t x) (fun x => blk5 m c I t x) (by omega) y cc ha
  · rw [outsAt0_D m c t h0 h1 h2 h3]
    exact sout0_D_0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
      (iblk m c 0 t) (iblk m c 1 t) (iblk m c 2 t) (iblk m c 3 t) (iblk m c 4 t) (iblk m c 5 t) (outsAt0 m c (t.val - 1) (by omega)).2.2.1 (outsAt0 m c (t.val - 1) (by omega)).2.2.2
      (fun h => h0 ((hcond0_0 t).mp h)) (fun h => h1 ((hcond0_1 t).mp h)) ((hcond0_2 t).mpr h2) (fun h => h3 ((hcond0_3 t).mp h))
      (fun x d => blk0 m c I t x d) (fun x d => blk1 m c I t x d) (fun x d => blk2 m c I t x d) (fun x d => blk3 m c I t x d) (fun x => blk4 m c I t x) (fun x => blk5 m c I t x) (by omega) y cc ha

/-- The keys' accumulator after every point. -/
theorem dk_at (I : Ins m c Qa Ka Va Ga La Da) : ∀ (n : ℕ) (hn : n < cfg0.N) (y : Fin 2048) (cc : Fin 256),
    (outsAt0 m c n hn).2.2.1 (ix2 y cc) = (dkUpTo Qa Ka Va Ga La Da (n / 10) (qi n * 2048 + 2048) (kj n * 2048 + y) cc : EReal) := by
  intro n
  induction n with
  | zero => exact fun hn y cc => dk_first m c I ⟨0, hn⟩ (Or.inl rfl) y cc
  | succ n ih =>
    intro hn y cc
    by_cases h0 : (n + 1) % 10 = 0 ∨ (n + 1) % 10 = 1 ∨ (n + 1) % 10 = 3 ∨ (n + 1) % 10 = 6
    · exact dk_first m c I ⟨n + 1, hn⟩ h0 y cc
    · refine dk_next m c I ⟨n + 1, hn⟩ h0 y cc ?_
      have e1 : (n + 1) / 10 = n / 10 := by omega
      have e2 : kj (n + 1) = kj n := by unfold kj; split_ifs <;> omega
      have e3 : qi (n + 1) * 2048 = qi n * 2048 + 2048 := by unfold qi; split_ifs <;> omega
      have := ih (by omega) y cc
      show (outsAt0 m c (n + 1 - 1) _).2.2.1 (ix2 y cc) = (dkUpTo Qa Ka Va Ga La Da ((n + 1) / 10) (qi (n + 1) * 2048) (kj (n + 1) * 2048 + y) cc : EReal)
      rw [e1, e2, e3]
      exact this

/-- At a key block's last point the keys' output block holds what the accumulator holds. -/
theorem out_dk (t : Fin cfg0.N) (h3 : t.val % 10 = 0 ∨ t.val % 10 = 2 ∨ t.val % 10 = 5 ∨ t.val % 10 = 9) :
    (outsAt0 m c t.val t.isLt).1 = (outsAt0 m c t.val t.isLt).2.2.1 := by
  by_cases h0 : t.val % 10 = 0 ∨ t.val % 10 = 1 ∨ t.val % 10 = 3 ∨ t.val % 10 = 6
  · have h1 := h0
    have h2 : ¬¬(t.val % 10 = 0 ∨ t.val % 10 = 1 ∨ t.val % 10 = 3 ∨ t.val % 10 = 6) := not_not_intro h0
    have e := outsAt0_A m c t h0 h1 h2 h3
    exact parts_dk e (out0_A_6_eq ..)
  · have h1 := h0
    have h2 := h0
    have e := outsAt0_C m c t h0 h1 h2 h3
    exact parts_dk e (out0_C_6_eq ..)

/-- The points at which the keys' block is written back: the last of every key block. -/
theorem flush_dk : ∀ t : Fin cfg0.N, (cfg0.win 6).flush t = true →
    (t.val % 10 = 0 ∨ t.val % 10 = 2 ∨ t.val % 10 = 5 ∨ t.val % 10 = 9) :=
  (by decide +kernel : ∀ t : Fin grid0.N, win0_6.flush t = true →
    (t.val % 10 = 0 ∨ t.val % 10 = 2 ∨ t.val % 10 = 5 ∨ t.val % 10 = 9))

/-- The keys' gradient as one array: every query summed, for every head. -/
def dkArr (Qa Ka Va Ga La Da : ℕ → ℕ → ℝ) : S8192x2048.Idx → EReal := fun i =>
  (dkUpTo Qa Ka Va Ga La Da ((i 1).val / 256) 8192 (i 0).val ((i 1).val % 256) : ℝ)

/-- The keys' gradient array after the run. -/
theorem final_dk (I : Ins m c Qa Ka Va Ga La Da) : (dats m 0 c).arrAt 6 cfg0.N = dkArr Qa Ka Va Ga La Da := by
  refine (dats m 0 c).arrAt_eq_of_covers 6 (dkArr Qa Ka Va Ga La Da) (by decide +kernel) fun t hf y => ?_
  have h3 := flush_dk t hf
  have ht := pt_lt t
  blk_simp
  rw [after0_6, out_dk m c t h3]
  obtain ⟨a, b, rfl⟩ : ∃ (a : Fin 2048) (b : Fin 256), y = ix2 a b := ⟨y 0, y 1, eq_ix2 y⟩
  refine (dk_at m c I t.val t.isLt a b).trans ?_
  have e0 : ((((win0_6.blk t).view.emb (ix2 a b)) 0 : Fin _) : ℕ) = kj t.val * 2048 + a := by blk_simp [idx6]; rfl
  have e1 : ((((win0_6.blk t).view.emb (ix2 a b)) 1 : Fin _) : ℕ) = t.val / 10 * 256 + b := by blk_simp [idx6]; rfl
  have e2 : qi t.val * 2048 + 2048 = 8192 := by unfold qi; split_ifs <;> omega
  have e3 : (t.val / 10 * 256 + b.val) / 256 = t.val / 10 := by omega
  have e4 : (t.val / 10 * 256 + b.val) % 256 = b := by omega
  unfold dkArr
  rw [e0, e1, e2, e3, e4]

/-- At a key block's last point the values' output block holds what the accumulator holds. -/
theorem out_dv (t : Fin cfg0.N) (h3 : t.val % 10 = 0 ∨ t.val % 10 = 2 ∨ t.val % 10 = 5 ∨ t.val % 10 = 9) :
    (outsAt0 m c t.val t.isLt).2.1 = (outsAt0 m c t.val t.isLt).2.2.2 := by
  by_cases h0 : t.val % 10 = 0 ∨ t.val % 10 = 1 ∨ t.val % 10 = 3 ∨ t.val % 10 = 6
  · have h1 := h0
    have h2 : ¬¬(t.val % 10 = 0 ∨ t.val % 10 = 1 ∨ t.val % 10 = 3 ∨ t.val % 10 = 6) := not_not_intro h0
    have e := outsAt0_A m c t h0 h1 h2 h3
    exact parts_dv e (out0_A_7_eq ..)
  · have h1 := h0
    have h2 := h0
    have e := outsAt0_C m c t h0 h1 h2 h3
    exact parts_dv e (out0_C_7_eq ..)

/-- The points at which the values' block is written back: the last of every key block. -/
theorem flush_dv : ∀ t : Fin cfg0.N, (cfg0.win 7).flush t = true →
    (t.val % 10 = 0 ∨ t.val % 10 = 2 ∨ t.val % 10 = 5 ∨ t.val % 10 = 9) :=
  (by decide +kernel : ∀ t : Fin grid0.N, win0_7.flush t = true →
    (t.val % 10 = 0 ∨ t.val % 10 = 2 ∨ t.val % 10 = 5 ∨ t.val % 10 = 9))

/-- The values' gradient as one array: every query summed, for every head. -/
def dvArr (Qa Ka Ga La : ℕ → ℕ → ℝ) : S8192x1024.Idx → EReal := fun i =>
  (dvUpTo Qa Ka Ga La ((i 1).val / 128) 8192 (i 0).val ((i 1).val % 128) : ℝ)

/-- The values' gradient array after the run. -/
theorem final_dv (I : Ins m c Qa Ka Va Ga La Da) : (dats m 0 c).arrAt 7 cfg0.N = dvArr Qa Ka Ga La := by
  refine (dats m 0 c).arrAt_eq_of_covers 7 (dvArr Qa Ka Ga La) (by decide +kernel) fun t hf y => ?_
  have h3 := flush_dv t hf
  have ht := pt_lt t
  blk_simp
  rw [after0_7, out_dv m c t h3]
  obtain ⟨a, b, rfl⟩ : ∃ (a : Fin 2048) (b : Fin 128), y = ix2 a b := ⟨y 0, y 1, eq_ix2 y⟩
  refine (dv_at m c I t.val t.isLt a b).trans ?_
  have e0 : ((((win0_7.blk t).view.emb (ix2 a b)) 0 : Fin _) : ℕ) = kj t.val * 2048 + a := by blk_simp [idx7]; rfl
  have e1 : ((((win0_7.blk t).view.emb (ix2 a b)) 1 : Fin _) : ℕ) = t.val / 10 * 128 + b := by blk_simp [idx7]; rfl
  have e2 : qi t.val * 2048 + 2048 = 8192 := by unfold qi; split_ifs <;> omega
  have e3 : (t.val / 10 * 128 + b.val) / 128 = t.val / 10 := by omega
  have e4 : (t.val / 10 * 128 + b.val) % 128 = b := by omega
  unfold dvArr
  rw [e0, e1, e2, e3, e4]

end Cert.Dkv

end
-- ==== Proof.RefVal.lean ====
/-
  The textbook attention and its gradient, read one operation at a time over real entries: each operation's element as a
  real number of the model.
-/
module

public import proofs.«01_k».proof.Proof.Model
public import proofs.«01_k».proof.Proof.Gen.ReferenceIdeal.Read
public import Idealize.ShloMosaic.Lib.WordCmp
public import Idealize.ShloMosaic.Lib.IdealHost

@[expose] public section

set_option maxRecDepth 16384

noncomputable section

namespace Cert.Dkv

open Finset Idealize.ShloMosaic
open Cert.ReferenceIdeal Cert.ReferenceIdeal.Gen Cert.ReferenceIdeal.Read

theorem ofBits_neg_inf : Ideal.ofBits .f32 0xFF800000#32 = ⊥ := by simp [Ideal.ofBits, Ideal.ieee]

theorem neg_inf_f32 : (FloatOps.ofBits (F := Ideal) .f32 0xFF800000#32) = (⊥ : EReal) := ofBits_neg_inf

theorem zero_f32 : (FloatOps.ofBits (F := Ideal) .f32 0x00000000#32) = (0 : EReal) := Ideal.ofBits_zero_f32

/-- The quotient of two reals, the divisor not zero. -/
theorem div_real {a b : ℝ} (hb : b ≠ 0) : Ideal.div (a : EReal) (b : EReal) = ((a / b : ℝ) : EReal) := by
  rw [Ideal.div_coe hb, ← EReal.coe_mul, mul_one_div]

/-- A flat index split into row, head and column is the head's entry. -/
theorem head_split (w : ℕ) (A : ℕ → ℕ → ℝ) {i h d : ℕ} (hh : h < 8) (hd : d < w) :
    A (((i * 8 + h) * w + d) / (8 * w)) (((i * 8 + h) * w + d) % (8 * w)) = head w A h i d := by
  have e : (i * 8 + h) * w + d = (h * w + d) + (8 * w) * i := by ring
  have l : h * w + d < 8 * w := by nlinarith
  rw [e, Nat.add_mul_div_left _ _ (by omega), Nat.add_mul_mod_self_left, Nat.div_eq_of_lt l, Nat.mod_eq_of_lt l, Nat.zero_add]
  rfl

variable {Qa Ka Va Ga : ℕ → ℕ → ℝ}
variable {x0 x1 : (⟨S8192x2048, .bf16⟩ : BufTy).Contents (Elt Ideal)} {x2 x3 : (⟨S8192x1024, .bf16⟩ : BufTy).Contents (Elt Ideal)}

section Entries
variable (hq : ∀ i, x0 i = ((Qa (i 0).val (i 1).val : ℝ) : EReal)) (hk : ∀ i, x1 i = ((Ka (i 0).val (i 1).val : ℝ) : EReal))
variable (hv : ∀ i, x2 i = ((Va (i 0).val (i 1).val : ℝ) : EReal)) (hg : ∀ i, x3 i = ((Ga (i 0).val (i 1).val : ℝ) : EReal))

include hq in
theorem rv_q (i : S8192x8x256.Idx) : val_main_v1 (F := Ideal) x0 i = ((head 256 Qa (i 1).val (i 0).val (i 2).val : ℝ) : EReal) := by
  rw [val_main_v1_apply, val_main_v0_apply]
  exact (hq _).trans (congrArg _ (head_split 256 Qa (i 1).isLt (i 2).isLt))

include hk in
theorem rv_k (i : S8192x8x256.Idx) : val_main_v3 (F := Ideal) x1 i = ((head 256 Ka (i 1).val (i 0).val (i 2).val : ℝ) : EReal) := by
  rw [val_main_v3_apply, val_main_v2_apply]
  exact (hk _).trans (congrArg _ (head_split 256 Ka (i 1).isLt (i 2).isLt))

include hv in
theorem rv_v (i : S8192x8x128.Idx) : val_main_v5 (F := Ideal) x2 i = ((head 128 Va (i 1).val (i 0).val (i 2).val : ℝ) : EReal) := by
  rw [val_main_v5_apply, val_main_v4_apply]
  exact (hv _).trans (congrArg _ (head_split 128 Va (i 1).isLt (i 2).isLt))

include hg in
theorem rv_g (i : S8192x8x128.Idx) : val_main_v46 (F := Ideal) x3 i = ((head 128 Ga (i 1).val (i 0).val (i 2).val : ℝ) : EReal) := by
  rw [val_main_v46_apply, val_main_v45_apply]
  exact (hg _).trans (congrArg _ (head_split 128 Ga (i 1).isLt (i 2).isLt))

include hq hk in
/-- The scores. -/
theorem rv_s (i : S8x8192x8192.Idx) :
    val_main_v6 (F := Ideal) x0 x1 i = ((S (head 256 Qa (i 0).val) (head 256 Ka (i 0).val) (i 1).val (i 2).val : ℝ) : EReal) := by
  rw [val_main_v6_apply]
  refine sum_fin_coe _ (fun d => head 256 Qa (i 0).val (i 1).val d * head 256 Ka (i 0).val (i 2).val d) fun k => ?_
  rw [rv_q hq, rv_k hk, EReal.coe_mul]

/-- The causal mask. -/
theorem rv_mask (i : S8x8192x8192.Idx) : val_main_v14_1 (F := Ideal) i = BitVec.ofBool (decide ((i 2).val ≤ (i 1).val)) := by
  have h1 : (i 1).val < 8192 := (i 1).isLt
  have h2 : (i 2).val < 8192 := (i 2).isLt
  rw [val_main_v14_1_apply, val_main_v13_apply, val_main_v12_apply, val_main_v10_apply, val_main_v8_apply, val_main_v7_apply,
    val_main_v11_apply, val_main_v9_apply, val_main_v7_apply]
  exact WordCmp.cmpi_sle_ofNat (lt_of_lt_of_le h2 (by norm_num)) (lt_of_lt_of_le h1 (by norm_num))

theorem select_ofBool {α : Type} (p : Prop) [Decidable p] (a b : α) :
    Scalar.select (BitVec.ofBool (decide p)) a b = if p then a else b := by
  by_cases h : p
  · rw [decide_eq_true h, if_pos h]; rfl
  · rw [decide_eq_false h, if_neg h]; rfl

include hq hk in
/-- The masked scores. -/
theorem rv_ms (i : S8x8192x8192.Idx) :
    val_main_v14_0 (F := Ideal) x0 x1 i
      = if (i 2).val ≤ (i 1).val then ((S (head 256 Qa (i 0).val) (head 256 Ka (i 0).val) (i 1).val (i 2).val : ℝ) : EReal) else ⊥ := by
  rw [val_main_v14_0_apply, rv_mask, select_ofBool, rv_s hq hk, val_main_call0_v2_apply]
  exact congrArg (fun z => ite _ _ z) ofBits_neg_inf

/-- The largest of the scores the mask leaves, over all keys. -/
theorem fold_max (s : ℕ → ℝ) (i : Fin 8192) :
    (Finset.univ : Finset (Fin 8192)).fold max (⊥ : EReal) (fun k => if k.val ≤ i.val then ((s k.val : ℝ) : EReal) else ⊥)
      = (((range (i.val + 1)).sup' ⟨0, by simp⟩ s : ℝ) : EReal) := by
  refine le_antisymm ((Finset.fold_max_le _).mpr ⟨bot_le, fun k _ => ?_⟩) (Finset.le_fold_max _ |>.mpr (Or.inr ?_))
  · split_ifs with h
    · exact EReal.coe_le_coe_iff.mpr (Finset.le_sup' s (mem_range.mpr (by omega)))
    · exact bot_le
  · obtain ⟨j, hj, e⟩ := Finset.exists_mem_eq_sup' (s := range (i.val + 1)) ⟨0, by simp⟩ s
    have hj' := mem_range.mp hj
    have hi := i.isLt
    refine ⟨⟨j, by omega⟩, Finset.mem_univ _, ?_⟩
    rw [e, if_pos (show j ≤ i.val by omega)]

include hq hk in
/-- The rows' largest scores. -/
theorem rv_m (i : S8x8192.Idx) :
    val_main_v15 (F := Ideal) x0 x1 i = ((M (head 256 Qa (i 0).val) (head 256 Ka (i 0).val) (i 1).val : ℝ) : EReal) := by
  unfold val_main_v15
  rw [Host.reduce_eq_fold_single FloatOps.maximumf _ _ reducesTo_S8x8192x8192_S8x8192_d2 (by decide) h_S_]
  refine Eq.trans ?_ (fold_max (S (head 256 Qa (i 0).val) (head 256 Ka (i 0).val) (i 1).val) ⟨(i 1).val, (i 1).isLt⟩)
  rw [val_main_cst_0_apply]
  refine (congrArg (fun z => Finset.fold _ z _ _) ofBits_neg_inf).trans ?_
  refine Finset.fold_congr fun k _ => ?_
  rw [Function.comp_apply, rv_ms hq hk]
  rfl

/-- The larger of a row's largest score and minus infinity is the row's largest. -/
theorem rv_m_max : val_main_v22 (F := Ideal) x0 x1 = val_main_v15 (F := Ideal) x0 x1 := by
  funext i
  rw [val_main_v22_apply, val_main_v21_apply, val_main_cst_2_apply, neg_inf_f32, Ideal.maximumf_def]
  exact max_eq_right bot_le

include hq hk in
/-- The exponentials. -/
theorem rv_e (i : S8x8192x8192.Idx) :
    val_main_v35 (F := Ideal) x0 x1 i = ((E (head 256 Qa (i 0).val) (head 256 Ka (i 0).val) (i 1).val (i 2).val : ℝ) : EReal) := by
  rw [val_main_v35_apply, val_main_v34_apply, val_main_v33_apply, val_main_v32_apply, rv_m_max, rv_m hq hk, rv_ms hq hk,
    Ideal.hostUnary_exp_def]
  unfold E
  split_ifs with h
  · exact (congrArg Ideal.exp (EReal.coe_sub _ _).symm).trans (Ideal.exp_coe _)
  · rw [EReal.coe_zero]
    exact (congrArg Ideal.exp (EReal.bot_sub _)).trans Ideal.exp_bot

include hq hk in
/-- The rows' sums. -/
theorem rv_z (i : S8x8192.Idx) :
    val_main_v36 (F := Ideal) x0 x1 i = ((Z (head 256 Qa (i 0).val) (head 256 Ka (i 0).val) (i 1).val : ℝ) : EReal) := by
  rw [val_main_v36_apply, val_main_cst_8_apply, zero_f32]
  refine (zero_add _).trans ?_
  exact sum_fin_coe _ (fun j => E (head 256 Qa (i 0).val) (head 256 Ka (i 0).val) (i 1).val j) fun k => rv_e hq hk _

include hq hk in
/-- The probabilities. -/
theorem rv_p (i : S8x8192x8192.Idx) :
    val_main_v39 (F := Ideal) x0 x1 i
      = ((E (head 256 Qa (i 0).val) (head 256 Ka (i 0).val) (i 1).val (i 2).val
          / Z (head 256 Qa (i 0).val) (head 256 Ka (i 0).val) (i 1).val : ℝ) : EReal) := by
  rw [val_main_v39_apply, val_main_v38_apply, val_main_v37_apply, rv_z hq hk, rv_e hq hk, Ideal.hostDivf_def]
  exact div_real (Z_pos _ _ (i 1).isLt).ne'

include hq hk hv in
/-- The output. -/
theorem rv_o (i : S8192x8x128.Idx) :
    val_main_v44 (F := Ideal) x0 x1 x2 i
      = ((O (head 256 Qa (i 1).val) (head 256 Ka (i 1).val) (head 128 Va (i 1).val) (i 0).val (i 2).val : ℝ) : EReal) := by
  rw [val_main_v44_apply, val_main_v43_apply]
  refine sum_fin_coe _ (fun j => head 128 Va (i 1).val j (i 2).val
    * (E (head 256 Qa (i 1).val) (head 256 Ka (i 1).val) (i 0).val j / Z (head 256 Qa (i 1).val) (head 256 Ka (i 1).val) (i 0).val))
    fun k => ?_
  rw [rv_v hv, rv_p hq hk, EReal.coe_mul]

include hv hg in
/-- The products of values and the output's gradient. -/
theorem rv_dp (i : S8x8192x8192.Idx) :
    val_main_v48 (F := Ideal) x2 x3 i = ((DP (head 128 Va (i 0).val) (head 128 Ga (i 0).val) (i 1).val (i 2).val : ℝ) : EReal) := by
  rw [val_main_v48_apply]
  refine sum_fin_coe _ (fun c => head 128 Va (i 0).val (i 2).val c * head 128 Ga (i 0).val (i 1).val c) fun k => ?_
  rw [val_main_v47_apply, rv_g hg, rv_v hv, mul_comm, EReal.coe_mul]

include hq hk hg in
/-- The value gradient. -/
theorem rv_dv (i : S8192x8x128.Idx) :
    val_main_v50 (F := Ideal) x0 x1 x3 i
      = ((∑ r ∈ range 8192, dvTerm (head 256 Qa (i 1).val) (head 256 Ka (i 1).val) (head 128 Ga (i 1).val)
          (Lse (head 256 Qa (i 1).val) (head 256 Ka (i 1).val)) (i 0).val (i 2).val r : ℝ) : EReal) := by
  rw [val_main_v50_apply, val_main_v49_apply]
  refine sum_fin_coe _ _ fun k => ?_
  rw [val_main_v47_apply, rv_g hg, rv_p hq hk, mul_comm, dvTerm, P_lse _ _ k.isLt, EReal.coe_mul]

include hq hk hv hg in
/-- The softmax's correction of a row. -/
theorem rv_corr (i : S8x8192.Idx) :
    val_main_v54 (F := Ideal) x0 x1 x2 x3 i
      = ((∑ j ∈ range 8192, DP (head 128 Va (i 0).val) (head 128 Ga (i 0).val) (i 1).val j
          * (1 / (Z (head 256 Qa (i 0).val) (head 256 Ka (i 0).val) (i 1).val * Z (head 256 Qa (i 0).val) (head 256 Ka (i 0).val) (i 1).val))
          * E (head 256 Qa (i 0).val) (head 256 Ka (i 0).val) (i 1).val j : ℝ) : EReal) := by
  have hz := (Z_pos (head 256 Qa (i 0).val) (head 256 Ka (i 0).val) (i 1).isLt).ne'
  rw [val_main_v54_apply, val_main_cst_10_apply, zero_f32]
  refine (zero_add _).trans (sum_fin_coe _ _ fun k => ?_)
  rw [val_main_v53_apply, val_main_v52_apply, rv_dp hv hg, rv_e hq hk, val_main_v51_apply, val_main_v42_apply, val_main_v41_apply,
    val_main_cst_9_apply, val_main_v40_apply, val_main_v37_apply, rv_z hq hk, Ideal.hostDivf_def, EReal.coe_mul, EReal.coe_mul]
  refine congrArg (fun z : EReal => _ * z * _) ?_
  refine Eq.trans ?_ (div_real (a := 1) (mul_ne_zero hz hz))
  refine congrArg₂ Ideal.div (Ideal.ofBits_one_f32.trans EReal.coe_one.symm) (EReal.coe_mul _ _).symm

include hq hk hv hg in
/-- The correction, negated. -/
theorem rv_ncorr (i : S8x8192.Idx) :
    val_main_v59 (F := Ideal) x0 x1 x2 x3 i
      = ((-∑ j ∈ range 8192, DP (head 128 Va (i 0).val) (head 128 Ga (i 0).val) (i 1).val j
          * (1 / (Z (head 256 Qa (i 0).val) (head 256 Ka (i 0).val) (i 1).val * Z (head 256 Qa (i 0).val) (head 256 Ka (i 0).val) (i 1).val))
          * E (head 256 Qa (i 0).val) (head 256 Ka (i 0).val) (i 1).val j : ℝ) : EReal) := by
  have a0 : (i 0).val < 8 := (i 0).isLt
  have a1 : (i 1).val < 8192 := (i 1).isLt
  have e : ∀ k : Fin 1, idx_main_v55 (idx_main_v59 i k) = i := fun k => by
    have hk : k.val = 0 := by omega
    funext a
    refine Fin.ext ?_
    match a with
    | ⟨0, _⟩ => show (((i 0).val * 8192 + (i 1).val) * 1 + k.val) / 8192 = (i 0).val; omega
    | ⟨1, _⟩ => show (((i 0).val * 8192 + (i 1).val) * 1 + k.val) % 8192 = (i 1).val; omega
  rw [val_main_v59_apply, val_main_cst_11_apply, zero_f32, Fin.sum_univ_one, val_main_v56_apply, val_main_v55_apply, e,
    rv_corr hq hk hv hg, Ideal.hostNegf_def]
  exact (zero_add _).trans (EReal.coe_neg _).symm

include hq hk hv hg in
/-- The gradient of a score. -/
theorem rv_ds (i : S8x8192x8192.Idx) :
    val_main_v63 (F := Ideal) x0 x1 x2 x3 i
      = ((if (i 2).val ≤ (i 1).val then
          (DP (head 128 Va (i 0).val) (head 128 Ga (i 0).val) (i 1).val (i 2).val
              * (1 / Z (head 256 Qa (i 0).val) (head 256 Ka (i 0).val) (i 1).val)
            + -∑ j ∈ range 8192, DP (head 128 Va (i 0).val) (head 128 Ga (i 0).val) (i 1).val j
              * (1 / (Z (head 256 Qa (i 0).val) (head 256 Ka (i 0).val) (i 1).val * Z (head 256 Qa (i 0).val) (head 256 Ka (i 0).val) (i 1).val))
              * E (head 256 Qa (i 0).val) (head 256 Ka (i 0).val) (i 1).val j)
            * E (head 256 Qa (i 0).val) (head 256 Ka (i 0).val) (i 1).val (i 2).val else 0 : ℝ) : EReal) := by
  have hz := (Z_pos (head 256 Qa (i 0).val) (head 256 Ka (i 0).val) (i 1).isLt).ne'
  rw [val_main_v63_apply, rv_mask, select_ofBool]
  split_ifs with h
  · rw [val_main_v62_apply, val_main_v61_apply, rv_e hq hk, val_main_v58_apply, rv_dp hv hg, val_main_v57_apply, val_main_v37_apply,
      rv_z hq hk, val_main_v60_apply, rv_ncorr hq hk hv hg, Ideal.hostDivf_def, EReal.coe_mul,
      EReal.coe_add]
    exact congrArg (fun z : EReal => z * _) (congrArg₂ (· + ·) (Ideal.div_coe hz _) rfl)
  · exact zero_f32

include hq hk hv hg in
/-- The key gradient. -/
theorem rv_dk (i : S8192x8x256.Idx) :
    val_main_v65 (F := Ideal) x0 x1 x2 x3 i
      = ((∑ r ∈ range 8192, dkTerm (head 256 Qa (i 1).val) (head 256 Ka (i 1).val) (head 128 Va (i 1).val) (head 128 Ga (i 1).val)
          (Lse (head 256 Qa (i 1).val) (head 256 Ka (i 1).val))
          (Del (head 256 Qa (i 1).val) (head 256 Ka (i 1).val) (head 128 Va (i 1).val) (head 128 Ga (i 1).val))
          (i 0).val (i 2).val r : ℝ) : EReal) := by
  rw [val_main_v65_apply, val_main_v64_apply]
  refine sum_fin_coe _ _ fun k => ?_
  rw [rv_ds hq hk hv hg, rv_q hq, ← dk_form _ _ _ _ k.isLt, EReal.coe_mul]

end Entries

end Cert.Dkv
end
-- ==== Proof.HostVal.lean ====
/-
  What the host computes for the kernel from the arguments: the saved logarithm and the delta, in the textbook's own
  operations, and their values over real entries.
-/
module

public import proofs.«01_k».proof.Proof.RefVal
public import proofs.«01_k».proof.Proof.Blocks

@[expose] public section

set_option maxRecDepth 16384

noncomputable section

namespace Cert.Dkv

open Idealize.ShloMosaic hiding ix0 ix1 ix2 ix3 ix4 ix5
open Finset Idealize.ShloMosaic.ValueIdx Idealize.ShloMosaic.TcCoe Idealize.ShloMosaic.Tactic
open Cert.KernelIdeal Cert.KernelIdeal.Gen
open Cert.ReferenceIdeal.Read

variable (x0 x1 : (⟨S8192x2048, .bf16⟩ : BufTy).Contents (Elt Ideal)) (x2 x3 : (⟨S8192x1024, .bf16⟩ : BufTy).Contents (Elt Ideal))
variable (s : FVec Ideal S8x8192x8192 .f32)

/-- The largest score of each row. -/
def hostM : FVec Ideal S8x8192 .f32 :=
  Host.reduce (FloatOps.maximumf (F := Ideal) (φ := .f32)) s (constant (F := Ideal) S_ .f32 0xFF800000#32) reducesTo_S8x8192x8192_S8x8192_d2 h_S_

/-- The exponentials of the masked scores over their rows' largest. -/
def hostE : FVec Ideal S8x8192x8192 .f32 :=
  Host.exp (F := Ideal) (φ := .f32) (subf (F := Ideal) (φ := .f32) s
    (broadcastInDim S8x8192x8192 ![0, 1, 2] bcast_S8x8192x1_S8x8192x8192_0_1_2
      (broadcastInDim S8x8192x1 ![0, 1] bcast_S8x8192_S8x8192x1_0_1 (hostM s))))

theorem hostM_eq : hostM (val_main_v14_0 (F := Ideal) x0 x1) = val_main_v15 (F := Ideal) x0 x1 := by
  unfold val_main_v15
  rfl

theorem hostE_eq : hostE (val_main_v14_0 (F := Ideal) x0 x1) = val_main_v35 (F := Ideal) x0 x1 := by
  unfold val_main_v35 val_main_v34 val_main_v33 val_main_v32
  rw [rv_m_max]
  rfl

/-- Their rows' sums. -/
def hostZ : FVec Ideal S8x8192 .f32 :=
  Host.reduceAdd (F := Ideal) (φ := .f32) (hostE s) (constant S_ .f32 0x00000000#32) reducesTo_S8x8192x8192_S8x8192_d2 h_S_

theorem hostZ_eq : hostZ (val_main_v14_0 (F := Ideal) x0 x1) = val_main_v36 (F := Ideal) x0 x1 := by
  unfold val_main_v36 hostZ
  rw [hostE_eq]
  rfl

/-- The attention's output. -/
def hostO : FVec Ideal S8192x8x128 .f32 :=
  transpose S8192x8x128 [2, 0, 1]
    (Host.dotGeneral (F := Ideal) (φ₁ := .f32) (φ₂ := .f32) dot_S8192x8x128_S8x8192x8192_S8x128x8192_0_2_2_1_1_0 none (val_main_v5 (F := Ideal) x2)
      (Host.divf (F := Ideal) (φ := .f32) (hostE s)
        (broadcastInDim S8x8192x8192 ![0, 1, 2] bcast_S8x8192x1_S8x8192x8192_0_1_2
          (broadcastInDim S8x8192x1 ![0, 1] bcast_S8x8192_S8x8192x1_0_1 (hostZ s)))))
    transposes_S8x128x8192_S8192x8x128_2_0_1

theorem hostO_eq : hostO x2 (val_main_v14_0 (F := Ideal) x0 x1) = val_main_v44 (F := Ideal) x0 x1 x2 := by
  unfold val_main_v44 val_main_v43 val_main_v39 val_main_v38 val_main_v37 hostO
  rw [hostE_eq, hostZ_eq]
  rfl

theorem add_log_apply (a b : FVec Ideal S8x8192 .f32) (i : S8x8192.Idx) :
    addf (F := Ideal) (φ := .f32) a (Host.log (F := Ideal) (φ := .f32) b) i = a i + Ideal.log (b i) := rfl

theorem mul_apply (a b : FVec Ideal S8192x8x128 .f32) (i : S8192x8x128.Idx) : mulf (F := Ideal) (φ := .f32) a b i = a i * b i := rfl

theorem after_app (a b : List (HloOp τ sig (Elt Ideal))) (W : Valuation τ sig (Elt Ideal)) :
    StableHlo.after (a ++ b) W = StableHlo.after b (StableHlo.after a W) := by
  induction a generalizing W with
  | nil => rfl
  | cons op t ih => exact ih _

theorem V_split (m : (ℓ : Loc nD τ sig) → Buf (Elt Ideal) ℓ) (c : Dev nD) (b : Ref sig .tc) :
    V m c b = StableHlo.after hostOps0_2 (StableHlo.after (hostOps0 ++ hostOps0_1) fun b => m (c, b)) b := by
  unfold V
  rw [← after_app, List.flatten_cons, List.flatten_cons, List.flatten_cons, List.flatten_nil, List.append_nil, List.append_assoc]

end Cert.Dkv
end
-- ==== Proof.HostRun.lean ====
/-
  The host's operations before the kernel, run: the masked scores, then the saved logarithm and the delta from them.
-/
module

public import proofs.«01_k».proof.Proof.HostVal

@[expose] public section

set_option maxRecDepth 16384

noncomputable section

namespace Cert.Dkv

open Idealize.ShloMosaic hiding ix0 ix1 ix2 ix3 ix4 ix5
open Finset Idealize.ShloMosaic.ValueIdx Idealize.ShloMosaic.TcCoe Idealize.ShloMosaic.Tactic
open Cert.KernelIdeal Cert.KernelIdeal.Gen
open Cert.ReferenceIdeal.Read

section Last
variable (W : Valuation τ sig (Elt Ideal))

set_option maxHeartbeats 3000000 in
/-- The saved logarithm from the masked scores. -/
theorem last_lse : (StableHlo.after hostOps0_2 W main_v28 : (⟨S8x1x8192, .f32⟩ : BufTy).Contents (Elt Ideal))
    = shapeCast S8x1x8192 (addf (F := Ideal) (φ := .f32) (hostM (W main_v12)) (Host.log (F := Ideal) (φ := .f32) (hostZ (W main_v12)))) shapeCasts_S8x8192_S8x1x8192 := by
  after_results_simp
  unfold hostZ hostE hostM
  rfl

set_option maxHeartbeats 3000000 in
/-- The delta from the masked scores, the values and the output's gradient. -/
theorem last_dl : (StableHlo.after hostOps0_2 W main_v34 : (⟨S8x1x8192, .f32⟩ : BufTy).Contents (Elt Ideal))
    = shapeCast S8x1x8192 (transpose S8x8192 [1, 0]
        (Host.reduceAdd (F := Ideal) (φ := .f32) (mulf (F := Ideal) (φ := .f32) (val_main_v46 (F := Ideal) (W main_arg3)) (hostO (W main_arg2) (W main_v12)))
          (constant S_ .f32 0x00000000#32) reducesTo_S8192x8x128_S8192x8_d2 h_S_) transposes_S8192x8_S8x8192_1_0)
        shapeCasts_S8x8192_S8x1x8192 := by
  after_results_simp
  unfold hostO hostZ hostE hostM
  rfl

end Last

variable (m : (ℓ : Loc nD τ sig) → Buf (Elt Ideal) ℓ) (c : Dev nD)

/-- The masked scores the host computes are the textbook's. -/
theorem first_s : (StableHlo.after (hostOps0 ++ hostOps0_1) (fun b => m (c, b)) main_v12 : (⟨S8x8192x8192, .f32⟩ : BufTy).Contents (Elt Ideal))
    = val_main_v14_0 (F := Ideal) (m ((c : Thread nD τ).loc main_arg0)) (m ((c : Thread nD τ).loc main_arg1)) := by
  simp only [hostOps0, hostOps0_1, List.cons_append, List.nil_append, StableHlo.TRef.nullary, StableHlo.TRef.ternary, StableHlo.TRef.unary,
    StableHlo.TRef.toBuf, StableHlo.TRef.ofBuf, cast_eq]
  after_results_simp <;> rfl

theorem first_arg2 : StableHlo.after (hostOps0 ++ hostOps0_1) (fun b => m (c, b)) main_arg2 = m ((c : Thread nD τ).loc main_arg2) := by
  simp only [hostOps0, hostOps0_1, List.cons_append, List.nil_append, StableHlo.TRef.nullary, StableHlo.TRef.ternary, StableHlo.TRef.unary,
    StableHlo.TRef.toBuf, StableHlo.TRef.ofBuf, cast_eq]
  after_results_simp <;> rfl

theorem first_arg3 : StableHlo.after (hostOps0 ++ hostOps0_1) (fun b => m (c, b)) main_arg3 = m ((c : Thread nD τ).loc main_arg3) := by
  simp only [hostOps0, hostOps0_1, List.cons_append, List.nil_append, StableHlo.TRef.nullary, StableHlo.TRef.ternary, StableHlo.TRef.unary,
    StableHlo.TRef.toBuf, StableHlo.TRef.ofBuf, cast_eq]
  after_results_simp <;> rfl

end Cert.Dkv
end
-- ==== Proof.HostIns.lean ====
/-
  What the kernel finds when its region starts, over real arguments.
-/
module

public import proofs.«01_k».proof.Proof.HostRun

@[expose] public section

set_option maxRecDepth 16384

noncomputable section

namespace Cert.Dkv

open Idealize.ShloMosaic hiding ix0 ix1 ix2 ix3 ix4 ix5
open Finset Idealize.ShloMosaic.ValueIdx Idealize.ShloMosaic.TcCoe Idealize.ShloMosaic.Tactic
open Cert.KernelIdeal Cert.KernelIdeal.Gen
open Cert.ReferenceIdeal.Read

variable (x0 x1 : (⟨S8192x2048, .bf16⟩ : BufTy).Contents (Elt Ideal)) (x2 x3 : (⟨S8192x1024, .bf16⟩ : BufTy).Contents (Elt Ideal))

section Entries
variable {Qa Ka Va Ga : ℕ → ℕ → ℝ} {x0 x1 x2 x3} {W : Valuation τ sig (Elt Ideal)}

/-- The saved logarithm, at a head and a query, where the masked scores are the textbook's. -/
theorem last_l (hq : ∀ i, x0 i = ((Qa (i 0).val (i 1).val : ℝ) : EReal)) (hk : ∀ i, x1 i = ((Ka (i 0).val (i 1).val : ℝ) : EReal))
    (hs : W main_v12 = val_main_v14_0 (F := Ideal) x0 x1) (h : Fin 8) (i : Fin 8192) :
    (StableHlo.after hostOps0_2 W main_v28 : S8x1x8192.Idx → EReal) (ix3 h (0 : Fin 1) i)
      = ((Lse (head 256 Qa h.val) (head 256 Ka h.val) i.val : ℝ) : EReal) := by
  rw [last_lse, hs, hostZ_eq, hostM_eq]
  refine (shapeCast_apply _ shapeCasts_S8x8192_S8x1x8192 (ix3 h (0 : Fin 1) i) (ix2 h i) ?_).trans ?_
  · rewrite [Shape.rowMajor_val_two, Shape.rowMajor_val_three]
    show h.val * 8192 + i.val = (h.val * 1 + 0) * 8192 + i.val
    omega
  · rw [add_log_apply, rv_m hq hk, rv_z hq hk]
    have hz := Z_pos (head 256 Qa h.val) (head 256 Ka h.val) i.isLt
    exact (congrArg (fun z : EReal => _ + z) ((Ideal.log_coe _).trans (if_neg hz.not_ge))).trans (EReal.coe_add _ _).symm

/-- The delta, at a head and a query, where the masked scores are the textbook's. -/
theorem last_d (hq : ∀ i, x0 i = ((Qa (i 0).val (i 1).val : ℝ) : EReal)) (hk : ∀ i, x1 i = ((Ka (i 0).val (i 1).val : ℝ) : EReal))
    (hv : ∀ i, x2 i = ((Va (i 0).val (i 1).val : ℝ) : EReal)) (hg : ∀ i, x3 i = ((Ga (i 0).val (i 1).val : ℝ) : EReal))
    (hs : W main_v12 = val_main_v14_0 (F := Ideal) x0 x1) (h2 : W main_arg2 = x2) (h3 : W main_arg3 = x3) (h : Fin 8) (i : Fin 8192) :
    (StableHlo.after hostOps0_2 W main_v34 : S8x1x8192.Idx → EReal) (ix3 h (0 : Fin 1) i)
      = ((Del (head 256 Qa h.val) (head 256 Ka h.val) (head 128 Va h.val) (head 128 Ga h.val) i.val : ℝ) : EReal) := by
  rw [last_dl, hs, h2, h3, hostO_eq]
  refine (shapeCast_apply _ shapeCasts_S8x8192_S8x1x8192 (ix3 h (0 : Fin 1) i) (ix2 h i) ?_).trans ?_
  · rewrite [Shape.rowMajor_val_two, Shape.rowMajor_val_three]
    show h.val * 8192 + i.val = (h.val * 1 + 0) * 8192 + i.val
    omega
  · refine (transpose_apply [1, 0] _ transposes_S8192x8_S8x8192_1_0 (ix2 h i) (ix2 i h) (fun b => match b with
      | ⟨0, _⟩ => rfl
      | ⟨1, _⟩ => rfl)).trans ?_
    rw [Host.reduceAdd, Ideal.hostReduceAdd_def, Ideal.hostReduceAdd_single reducesTo_S8192x8x128_S8192x8_d2 (by decide)]
    refine (congrArg (fun z : EReal => z + _) zero_f32).trans ?_
    rw [zero_add]
    refine sum_fin_coe _ (fun x => head 128 Ga h.val i.val x * O (head 256 Qa h.val) (head 256 Ka h.val) (head 128 Va h.val) i.val x) fun k => ?_
    rw [mul_apply, rv_g hg, rv_o hq hk hv, EReal.coe_mul]
    rfl

/-- What the kernel's region finds, over real arguments. -/
theorem ins {m : (ℓ : Loc nD τ sig) → Buf (Elt Ideal) ℓ} {c : Dev nD}
    (hq : ∀ i : S8192x2048.Idx, (m ((c : Thread nD τ).loc main_arg0) : S8192x2048.Idx → EReal) i = ((Qa (i 0).val (i 1).val : ℝ) : EReal))
    (hk : ∀ i : S8192x2048.Idx, (m ((c : Thread nD τ).loc main_arg1) : S8192x2048.Idx → EReal) i = ((Ka (i 0).val (i 1).val : ℝ) : EReal))
    (hv : ∀ i : S8192x1024.Idx, (m ((c : Thread nD τ).loc main_arg2) : S8192x1024.Idx → EReal) i = ((Va (i 0).val (i 1).val : ℝ) : EReal))
    (hg : ∀ i : S8192x1024.Idx, (m ((c : Thread nD τ).loc main_arg3) : S8192x1024.Idx → EReal) i = ((Ga (i 0).val (i 1).val : ℝ) : EReal)) :
    Ins m c Qa Ka Va Ga (fun h => Lse (head 256 Qa h) (head 256 Ka h))
      (fun h => Del (head 256 Qa h) (head 256 Ka h) (head 128 Va h) (head 128 Ga h)) where
  q i e := by rw [V_main_arg0]; exact hq (ix2 i e)
  k i e := by rw [V_main_arg1]; exact hk (ix2 i e)
  v i e := by rw [V_main_arg2]; exact hv (ix2 i e)
  g i e := by rw [V_main_arg3]; exact hg (ix2 i e)
  l h i := by rw [V_split]; exact last_l hq hk (first_s m c) h i
  d h i := by rw [V_split]; exact last_d hq hk hv hg (first_s m c) (first_arg2 m c) (first_arg3 m c) h i

end Entries

end Cert.Dkv
end
-- ==== Proof.Equal.lean ====
/-
  The kernel's two results are the textbook's, over real arguments.
-/
module

public import proofs.«01_k».proof.Proof.Fold
public import proofs.«01_k».proof.Proof.HostIns

@[expose] public section

set_option maxRecDepth 16384

noncomputable section

namespace Cert.Dkv

open Idealize.ShloMosaic hiding ix0 ix1 ix2 ix3 ix4 ix5
open Finset Idealize.ShloMosaic.ValueIdx Idealize.ShloMosaic.TcCoe
open Cert.KernelIdeal Cert.KernelIdeal.Gen
open Cert.ReferenceIdeal.Read

variable {Qa Ka Va Ga : ℕ → ℕ → ℝ}
variable {x0 x1 : (⟨S8192x2048, .bf16⟩ : BufTy).Contents (Elt Ideal)} {x2 x3 : (⟨S8192x1024, .bf16⟩ : BufTy).Contents (Elt Ideal)}
variable (hq : ∀ i, x0 i = ((Qa (i 0).val (i 1).val : ℝ) : EReal)) (hk : ∀ i, x1 i = ((Ka (i 0).val (i 1).val : ℝ) : EReal))
variable (hv : ∀ i, x2 i = ((Va (i 0).val (i 1).val : ℝ) : EReal)) (hg : ∀ i, x3 i = ((Ga (i 0).val (i 1).val : ℝ) : EReal))

include hq hk hv hg in
/-- The key gradient: the kernel's array is the textbook's. -/
theorem dk_eq : dkArr Qa Ka Va Ga (fun h => Lse (head 256 Qa h) (head 256 Ka h))
      (fun h => Del (head 256 Qa h) (head 256 Ka h) (head 128 Va h) (head 128 Ga h))
    = val_main_v68 (F := Ideal) x0 x1 x2 x3 := by
  funext i
  have a0 : (i 0).val < 8192 := (i 0).isLt
  have a1 : (i 1).val < 2048 := (i 1).isLt
  have e0 : ((i 0).val * 2048 + (i 1).val) / 2048 = (i 0).val := by omega
  have e1 : ((i 0).val * 2048 + (i 1).val) / 256 % 8 = (i 1).val / 256 := by omega
  have e2 : ((i 0).val * 2048 + (i 1).val) % 256 = (i 1).val % 256 := by omega
  rw [val_main_v68_apply, rv_dk hq hk hv hg]
  show _ = ((∑ r ∈ range 8192, dkTerm (head 256 Qa (((i 0).val * 2048 + (i 1).val) / 256 % 8)) (head 256 Ka (((i 0).val * 2048 + (i 1).val) / 256 % 8))
    (head 128 Va (((i 0).val * 2048 + (i 1).val) / 256 % 8)) (head 128 Ga (((i 0).val * 2048 + (i 1).val) / 256 % 8))
    (Lse (head 256 Qa (((i 0).val * 2048 + (i 1).val) / 256 % 8)) (head 256 Ka (((i 0).val * 2048 + (i 1).val) / 256 % 8)))
    (Del (head 256 Qa (((i 0).val * 2048 + (i 1).val) / 256 % 8)) (head 256 Ka (((i 0).val * 2048 + (i 1).val) / 256 % 8))
      (head 128 Va (((i 0).val * 2048 + (i 1).val) / 256 % 8)) (head 128 Ga (((i 0).val * 2048 + (i 1).val) / 256 % 8)))
    (((i 0).val * 2048 + (i 1).val) / 2048) (((i 0).val * 2048 + (i 1).val) % 256) r : ℝ) : EReal)
  rw [e0, e1, e2]
  rfl

include hq hk hg in
/-- The value gradient: the kernel's array is the textbook's. -/
theorem dv_eq : dvArr Qa Ka Ga (fun h => Lse (head 256 Qa h) (head 256 Ka h)) = val_main_v69 (F := Ideal) x0 x1 x3 := by
  funext i
  have a0 : (i 0).val < 8192 := (i 0).isLt
  have a1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [val_main_v69_apply, rv_dv hq hk hg]
  show _ = ((∑ r ∈ range 8192, dvTerm (head 256 Qa (((i 0).val * 1024 + (i 1).val) / 128 % 8)) (head 256 Ka (((i 0).val * 1024 + (i 1).val) / 128 % 8))
    (head 128 Ga (((i 0).val * 1024 + (i 1).val) / 128 % 8))
    (Lse (head 256 Qa (((i 0).val * 1024 + (i 1).val) / 128 % 8)) (head 256 Ka (((i 0).val * 1024 + (i 1).val) / 128 % 8)))
    (((i 0).val * 1024 + (i 1).val) / 1024) (((i 0).val * 1024 + (i 1).val) % 128) r : ℝ) : EReal)
  rw [e0, e1, e2]
  rfl

end Cert.Dkv
end
-- ==== Proof.DqTile.lean ====
/-
One strip of the query gradient's body over the extended reals: 256 rows of a query block against the first `n` rows of a
key block. The operations the body prints for it, at a variable number of key rows, what they leave when their operands are
real, and the strip as a piece of the accumulator.
-/
module

public import proofs.«01_k».proof.Proof.Piece
public import proofs.«01_k».proof.Proof.Gen.Kernel17Ideal.Frame

@[expose] public section

set_option maxRecDepth 16384

noncomputable section

namespace Cert.Dq

open Finset Idealize.ShloMosaic Idealize.ShloMosaic.ValueIdx Idealize.ShloMosaic.TcCoe Idealize.ShloMosaic.Tactic
open Cert.Dkv (Blk S DP P dqTerm dqTerm_of_lt sum_fin_coe ld_rows tileAt_rows InbRows)

section Ops

variable {n : ℕ}

/-- A strip's saved column as the kernel loads it, [1, 256, 1], and the same as [256, 1]. -/
abbrev Col3 : Shape := ⟨3, ![1, 256, 1]⟩
abbrev Col2 : Shape := ⟨2, ![256, 1]⟩

/-- A saved column spread over the `n` keys. -/
def spread (hc : Col3.ShapeCasts Col2) (hb : Col2.Broadcasts (Blk 256 n)) (l : Vec Ideal Col3 .f32) : FVec Ideal (Blk 256 n) .f32 :=
  broadcastTo (Blk 256 n) (shapeCast Col2 l hc) hb

/-- The scores, queries by keys. -/
def scores (q : Vec Ideal (Blk 256 256) .bf16) (k : Vec Ideal (Blk n 256) .bf16) : FVec Ideal (Blk 256 n) .f32 :=
  matmul (φ₁ := .bf16) (φ₂ := .bf16) (DotDims.transposedRhs 256 256 n) none q k (constant (Blk 256 n) .f32 0x00000000#32)

/-- Where a query, numbered from `w`, is not before the key. -/
def seen (w : ℕ) (h0 : (Blk 256 n).Iotas .tc 32 [0]) (h1 : (Blk 256 n).Iotas .tc 32 [1]) : IVec (Blk 256 n) 1 :=
  cmpi .sge (addi (iota .tc (Blk 256 n) 32 [0] h0) (broadcast (Blk 256 n) (BitVec.ofNat 32 w)))
    (addi (iota .tc (Blk 256 n) 32 [1] h1) (broadcast (Blk 256 n) (BitVec.ofNat 32 0)))

/-- The probabilities of a block below the diagonal. -/
def probs (hc : Col3.ShapeCasts Col2) (hb : Col2.Broadcasts (Blk 256 n)) (q : Vec Ideal (Blk 256 256) .bf16)
    (k : Vec Ideal (Blk n 256) .bf16) (l : Vec Ideal Col3 .f32) : FVec Ideal (Blk 256 n) .f32 :=
  exp (subf (scores q k) (spread hc hb l))

/-- The probabilities of a block on the diagonal. -/
def probsMasked (w : ℕ) (h0 : (Blk 256 n).Iotas .tc 32 [0]) (h1 : (Blk 256 n).Iotas .tc 32 [1]) (hc : Col3.ShapeCasts Col2)
    (hb : Col2.Broadcasts (Blk 256 n)) (q : Vec Ideal (Blk 256 256) .bf16) (k : Vec Ideal (Blk n 256) .bf16)
    (l : Vec Ideal Col3 .f32) : FVec Ideal (Blk 256 n) .f32 :=
  exp (subf (select (seen w h0 h1) (scores q k)
    (broadcast (Blk 256 n) (Named.named Cert.Kernel17Ideal.κ "mask" 0xF149F2CA#32 : Ideal .f32))) (spread hc hb l))

/-- The queries' gradient after the strip. -/
def dqTile (hs : (Blk 256 256).ShapeCasts (Blk 256 256)) (hw : FTy.bf16.bits < FTy.f32.bits) (hc : Col3.ShapeCasts Col2)
    (hb : Col2.Broadcasts (Blk 256 n)) (p : FVec Ideal (Blk 256 n) .f32) (g : Vec Ideal (Blk 256 128) .bf16)
    (v : Vec Ideal (Blk n 128) .bf16) (acc : Vec Ideal (Blk 256 256) .f32) (dl : Vec Ideal Col3 .f32)
    (k : Vec Ideal (Blk n 256) .bf16) : FVec Ideal (Blk 256 256) .f32 :=
  shapeCast (Blk 256 256) (addf acc (matmul (φ₁ := .bf16) (φ₂ := .bf16) (DotDims.plain 256 n 256) none (truncf .bf16 (mulf p (subf
    (matmul (φ₁ := .bf16) (φ₂ := .bf16) (DotDims.transposedRhs 256 128 n) none g v (constant (Blk 256 n) .f32 0x00000000#32)) (spread hc hb dl))) hw) k
    (constant (Blk 256 256) .f32 0x00000000#32))) hs

end Ops

section Values

variable {n : ℕ} {Q K V G : ℕ → ℕ → ℝ} {L D : ℕ → ℝ} {i0 j0 : ℕ}

theorem spread_apply (hc : Col3.ShapeCasts Col2) (hb : Col2.Broadcasts (Blk 256 n)) (l : Vec Ideal Col3 .f32)
    (hl : ∀ r : Fin 256, l (ix3 (0 : Fin 1) r (0 : Fin 1)) = (L (i0 + r) : EReal)) (r : Fin 256) (x : Fin n) :
    spread hc hb l (ix2 r x) = (L (i0 + r) : EReal) := by
  refine (broadcastTo_apply _ hb (ix2 r x) (ix2 r (0 : Fin 1)) fun a => ?_).trans ?_
  · match a with
    | ⟨0, _⟩ => exact (if_neg (show ¬(256 = 1) by decide)).symm
    | ⟨1, _⟩ => exact (if_pos (show 1 = 1 from rfl)).symm
  · rw [shapeCast_1ab_ab_apply, hl]

theorem scores_apply (q : Vec Ideal (Blk 256 256) .bf16) (k : Vec Ideal (Blk n 256) .bf16)
    (hq : ∀ (r d : Fin 256), q (ix2 r d) = (Q (i0 + r) d : EReal))
    (hk : ∀ (x : Fin n) (d : Fin 256), k (ix2 x d) = (K (j0 + x) d : EReal)) (r : Fin 256) (x : Fin n) :
    scores q k (ix2 r x) = (S Q K (i0 + r) (j0 + x) : EReal) := by
  rw [scores, matmul, Ideal.matmul_transposedRhs_apply, constant_apply, Ideal.ofBits_zero_f32, zero_add,
    sum_fin_coe _ (fun d => Q (i0 + r) d * K (j0 + x) d), S]
  intro d
  rw [hk, hq, ← EReal.coe_mul]

theorem seen_apply (w : ℕ) (hw : w + 256 < 2 ^ 31) (hn : n < 2 ^ 31) (h0 : (Blk 256 n).Iotas .tc 32 [0])
    (h1 : (Blk 256 n).Iotas .tc 32 [1]) (r : Fin 256) (x : Fin n) :
    seen w h0 h1 (ix2 r x) = BitVec.ofBool (decide (x.val ≤ w + r.val)) := by
  show IntOp.cmpi .sge (iota .tc (Blk 256 n) 32 [0] h0 (ix2 r x) + BitVec.ofNat 32 w)
    (iota .tc (Blk 256 n) 32 [1] h1 (ix2 r x) + BitVec.ofNat 32 0) = _
  rw [iota_single_apply, iota_single_apply]
  show IntOp.cmpi .sge (BitVec.ofNat 32 r.val + BitVec.ofNat 32 w) (BitVec.ofNat 32 x.val + BitVec.ofNat 32 0) = _
  rw [← BitVec.ofNat_add, ← BitVec.ofNat_add, WordCmp.cmpi_sge_ofNat (by have := r.2; omega) (by have := x.2; omega), Nat.add_zero,
    Nat.add_comm]

theorem probs_apply (hc : Col3.ShapeCasts Col2) (hb : Col2.Broadcasts (Blk 256 n)) (q : Vec Ideal (Blk 256 256) .bf16)
    (k : Vec Ideal (Blk n 256) .bf16) (l : Vec Ideal Col3 .f32) (hq : ∀ (r d : Fin 256), q (ix2 r d) = (Q (i0 + r) d : EReal))
    (hk : ∀ (x : Fin n) (d : Fin 256), k (ix2 x d) = (K (j0 + x) d : EReal))
    (hl : ∀ r : Fin 256, l (ix3 (0 : Fin 1) r (0 : Fin 1)) = (L (i0 + r) : EReal)) (hij : j0 + n ≤ i0 + 1) (r : Fin 256) (x : Fin n) :
    probs hc hb q k l (ix2 r x) = (P Q K L (i0 + r) (j0 + x) : EReal) := by
  show Ideal.exp (scores q k (ix2 r x) - spread hc hb l (ix2 r x)) = _
  rw [scores_apply q k hq hk, spread_apply hc hb l hl, ← EReal.coe_sub, Ideal.exp_coe, P, if_pos (by have := x.2; omega)]

theorem probsMasked_apply (w : ℕ) (hw : w + 256 < 2 ^ 31) (hn : n < 2 ^ 31) (h0 : (Blk 256 n).Iotas .tc 32 [0])
    (h1 : (Blk 256 n).Iotas .tc 32 [1]) (hc : Col3.ShapeCasts Col2) (hb : Col2.Broadcasts (Blk 256 n))
    (q : Vec Ideal (Blk 256 256) .bf16) (k : Vec Ideal (Blk n 256) .bf16) (l : Vec Ideal Col3 .f32)
    (hq : ∀ (r d : Fin 256), q (ix2 r d) = (Q (i0 + r) d : EReal))
    (hk : ∀ (x : Fin n) (d : Fin 256), k (ix2 x d) = (K (j0 + x) d : EReal))
    (hl : ∀ r : Fin 256, l (ix3 (0 : Fin 1) r (0 : Fin 1)) = (L (i0 + r) : EReal)) (hij : i0 = j0 + w) (r : Fin 256) (x : Fin n) :
    probsMasked w h0 h1 hc hb q k l (ix2 r x) = (P Q K L (i0 + r) (j0 + x) : EReal) := by
  show Ideal.exp (Scalar.select (seen w h0 h1 (ix2 r x)) (scores q k (ix2 r x))
    (Named.named Cert.Kernel17Ideal.κ "mask" 0xF149F2CA#32 : Ideal .f32) - spread hc hb l (ix2 r x)) = _
  rw [seen_apply w hw hn, scores_apply q k hq hk, spread_apply hc hb l hl, P]
  have hm : (Named.named Cert.Kernel17Ideal.κ "mask" 0xF149F2CA#32 : Ideal .f32) = (⊥ : EReal) := rfl
  rw [hm]
  by_cases h : x.val ≤ w + r.val
  · rw [if_pos (by omega), decide_eq_true h]
    show Ideal.exp ((S Q K (i0 + r) (j0 + x) : EReal) - (L (i0 + r) : EReal)) = _
    rw [← EReal.coe_sub, Ideal.exp_coe]
  · rw [if_neg (by omega), decide_eq_false h]
    show Ideal.exp ((⊥ : EReal) - (L (i0 + r) : EReal)) = _
    rw [EReal.bot_sub, Ideal.exp_bot, EReal.coe_zero]

theorem dqTile_apply (hs : (Blk 256 256).ShapeCasts (Blk 256 256)) (hw : FTy.bf16.bits < FTy.f32.bits) (hc : Col3.ShapeCasts Col2)
    (hb : Col2.Broadcasts (Blk 256 n)) (p : FVec Ideal (Blk 256 n) .f32) (g : Vec Ideal (Blk 256 128) .bf16)
    (v : Vec Ideal (Blk n 128) .bf16) (acc : Vec Ideal (Blk 256 256) .f32) (dl : Vec Ideal Col3 .f32)
    (k : Vec Ideal (Blk n 256) .bf16) {A : ℝ}
    (hp : ∀ (r : Fin 256) (x : Fin n), p (ix2 r x) = (P Q K L (i0 + r) (j0 + x) : EReal))
    (hg : ∀ (r : Fin 256) (c : Fin 128), g (ix2 r c) = (G (i0 + r) c : EReal))
    (hv : ∀ (x : Fin n) (c : Fin 128), v (ix2 x c) = (V (j0 + x) c : EReal))
    (hd : ∀ r : Fin 256, dl (ix3 (0 : Fin 1) r (0 : Fin 1)) = (D (i0 + r) : EReal))
    (hk : ∀ (x : Fin n) (d : Fin 256), k (ix2 x d) = (K (j0 + x) d : EReal)) (r d : Fin 256)
    (ha : acc (ix2 r d) = (A : EReal)) :
    dqTile hs hw hc hb p g v acc dl k (ix2 r d)
      = ((A + ∑ x ∈ range n, dqTerm Q K V G L D (i0 + r) d (j0 + x) : ℝ) : EReal) := by
  rw [dqTile, shapeCast_self, addf_apply, matmul, Ideal.matmul_plain_apply, constant_apply, Ideal.ofBits_zero_f32, zero_add, ha,
    EReal.coe_add, sum_fin_coe _ (fun x => dqTerm Q K V G L D (i0 + r) d (j0 + x))]
  intro x
  rw [truncf_apply, mulf_apply, subf_apply, hp, matmul, Ideal.matmul_transposedRhs_apply, constant_apply, Ideal.ofBits_zero_f32,
    zero_add, spread_apply hc hb dl hd, hk, sum_fin_coe _ (fun c => V (j0 + x) c * G (i0 + r) c) (fun c => by
      rw [hv, hg, ← EReal.coe_mul, mul_comm]), ← EReal.coe_sub, ← EReal.coe_mul, ← EReal.coe_mul, dqTerm, DP]

end Values

section Pieces

variable {n : ℕ} {Q K V G : ℕ → ℕ → ℝ} {L D : ℕ → ℝ} {i0 j0 o : ℕ}

/-- The entries of a strip's load of a saved column. -/
abbrev InbCol (o : ℕ) : Prop := ∀ ax, (![0, o, 0] : Fin 3 → ℕ) ax + (![1, 256, 1] : Fin 3 → ℕ) ax ≤ (⟨3, ![1, 2048, 1]⟩ : Shape).size ax

/-- A load of 256 entries of a saved column from entry `o` on, read at an index. -/
theorem ld_col {e : EltTy} (X : Vec Ideal ⟨3, ![1, 2048, 1]⟩ e) (inb : InbCol o) (r : Fin 256) (h : o + r < 2048) :
    View.ld (Val := Elt Ideal) (S := ⟨3, ![1, 2048, 1]⟩) X (Rect.unit ![0, o, 0] ![1, 256, 1] inb) (ix3 (0 : Fin 1) r (0 : Fin 1))
      = X (ix3 (0 : Fin 1) ⟨o + r, h⟩ (0 : Fin 1)) := by
  refine View.ld_unit_apply_of _ _ _ _ _ _ fun ax => ?_
  match ax with
  | ⟨0, _⟩ => rfl
  | ⟨1, _⟩ => rfl
  | ⟨2, _⟩ => rfl

variable (x0 x1 : Vec Ideal (Blk 2048 256) .bf16) (x2 x3 : Vec Ideal (Blk 2048 128) .bf16)
  (x4 x5 : Vec Ideal (⟨3, ![1, 2048, 1]⟩ : Shape) .f32)

/-- What a point brings in: the block of queries from `i0` on and the block of keys from `j0` on, as real numbers. -/
structure Pt (Q K V G : ℕ → ℕ → ℝ) (L D : ℕ → ℝ) (i0 j0 : ℕ) : Prop where
  q : ∀ (r : Fin 2048) (d : Fin 256), x0 (ix2 r d) = (Q (i0 + r) d : EReal)
  k : ∀ (x : Fin 2048) (d : Fin 256), x1 (ix2 x d) = (K (j0 + x) d : EReal)
  v : ∀ (x : Fin 2048) (c : Fin 128), x2 (ix2 x c) = (V (j0 + x) c : EReal)
  g : ∀ (r : Fin 2048) (c : Fin 128), x3 (ix2 r c) = (G (i0 + r) c : EReal)
  l : ∀ r : Fin 2048, x4 (ix3 (0 : Fin 1) r (0 : Fin 1)) = (L (i0 + r) : EReal)
  d : ∀ r : Fin 2048, x5 (ix3 (0 : Fin 1) r (0 : Fin 1)) = (D (i0 + r) : EReal)

variable {x0 x1 x2 x3 x4 x5}

/-- A strip with the probabilities `p`: what it adds to the accumulator's rows from `o` on. -/
theorem dqPiece (I : Pt x0 x1 x2 x3 x4 x5 Q K V G L D i0 j0) (ho : o + 256 ≤ 2048) (hn : n ≤ 2048)
    (hs : (Blk 256 256).ShapeCasts (Blk 256 256)) (hw : FTy.bf16.bits < FTy.f32.bits) (hc : Col3.ShapeCasts Col2)
    (hb : Col2.Broadcasts (Blk 256 n)) (b1 : InbRows 2048 256 n 0) (b2 : InbRows 2048 128 n 0) (b3 : InbRows 2048 128 256 o)
    (b5 : InbCol o) (p : FVec Ideal (Blk 256 n) .f32) (acc : Vec Ideal (Blk 256 256) .f32)
    (hp : ∀ (r : Fin 256) (x : Fin n), p (ix2 r x) = (P Q K L (i0 + o + r) (j0 + x) : EReal)) (y : Fin 2048) (d : Fin 256) {A B : ℝ}
    (ha : ∀ r : Fin 256, y.val = o + r → acc (ix2 r d) = (A : EReal))
    (hB : ∀ r : Fin 256, y.val = o + r → ∑ x ∈ range n, dqTerm Q K V G L D (i0 + y) d (j0 + x) = B) :
    View.TileAt (Val := Elt Ideal) (S := Blk 2048 256) (e := .f32) (ix2 y d) ![o, 0] ![256, 256]
      (dqTile hs hw hc hb p (View.ld x3 (Rect.unit ![o, 0] ![256, 128] b3)) (View.ld x2 (Rect.unit ![0, 0] ![n, 128] b2)) acc
        (View.ld x5 (Rect.unit ![0, o, 0] ![1, 256, 1] b5)) (View.ld x1 (Rect.unit ![0, 0] ![n, 256] b1))) ((A + B : ℝ) : EReal) := by
  refine tileAt_rows _ _ y d fun r hr => ?_
  rw [dqTile_apply (i0 := i0 + o) (j0 := j0) (Q := Q) (K := K) (V := V) (G := G) (L := L) (D := D) hs hw hc hb p _ _ acc _ _ hp
    (fun r c => ?_) (fun x c => ?_) (fun r => ?_) (fun x d => ?_) r d (ha r hr), ← hB r hr, hr, Nat.add_assoc]
  · rw [ld_rows x3 b3 r c (by omega), I.g, Nat.add_assoc]
  · rw [ld_rows x2 b2 x c (by omega), I.v]; simp
  · rw [ld_col x5 b5 r (by omega), I.d, Nat.add_assoc]
  · rw [ld_rows x1 b1 x d (by omega), I.k]; simp

/-- A strip below the diagonal: its rows against the whole key block. -/
theorem dqPieceU (I : Pt x0 x1 x2 x3 x4 x5 Q K V G L D i0 j0) (hij : j0 + 2048 ≤ i0) (ho : o + 256 ≤ 2048)
    (hs : (Blk 256 256).ShapeCasts (Blk 256 256)) (hw : FTy.bf16.bits < FTy.f32.bits) (hc : Col3.ShapeCasts Col2)
    (hb : Col2.Broadcasts (Blk 256 2048)) (b0 : InbRows 2048 256 256 o) (b1 : InbRows 2048 256 2048 0) (b2 : InbRows 2048 128 2048 0)
    (b3 : InbRows 2048 128 256 o) (b5 : InbCol o) (acc : Vec Ideal (Blk 256 256) .f32) (y : Fin 2048) (d : Fin 256) {A : ℝ}
    (ha : ∀ r : Fin 256, y.val = o + r → acc (ix2 r d) = (A : EReal)) :
    View.TileAt (Val := Elt Ideal) (S := Blk 2048 256) (e := .f32) (ix2 y d) ![o, 0] ![256, 256]
      (dqTile hs hw hc hb (probs hc hb (View.ld x0 (Rect.unit ![o, 0] ![256, 256] b0)) (View.ld x1 (Rect.unit ![0, 0] ![2048, 256] b1))
          (View.ld x4 (Rect.unit ![0, o, 0] ![1, 256, 1] b5)))
        (View.ld x3 (Rect.unit ![o, 0] ![256, 128] b3)) (View.ld x2 (Rect.unit ![0, 0] ![2048, 128] b2)) acc
        (View.ld x5 (Rect.unit ![0, o, 0] ![1, 256, 1] b5)) (View.ld x1 (Rect.unit ![0, 0] ![2048, 256] b1)))
      ((A + ∑ x ∈ range 2048, dqTerm Q K V G L D (i0 + y) d (j0 + x) : ℝ) : EReal) := by
  refine dqPiece I ho le_rfl hs hw hc hb b1 b2 b3 b5 _ acc
    (probs_apply hc hb _ _ _ (fun r d => ?_) (fun x d => ?_) (fun r => ?_) (by omega)) y d ha fun _ _ => rfl
  · rw [ld_rows x0 b0 r d (by omega), I.q, Nat.add_assoc]
  · rw [ld_rows x1 b1 x d (by omega), I.k]; simp
  · rw [ld_col x4 b5 r (by omega), I.l, Nat.add_assoc]

/-- A strip on the diagonal: its rows against the keys up to its last row. -/
theorem dqPieceM (I : Pt x0 x1 x2 x3 x4 x5 Q K V G L D j0 j0) (ho : o + 256 ≤ 2048) (hn : n = o + 256)
    (hs : (Blk 256 256).ShapeCasts (Blk 256 256)) (hw : FTy.bf16.bits < FTy.f32.bits)
    (i0' : (Blk 256 n).Iotas .tc 32 [0]) (i1' : (Blk 256 n).Iotas .tc 32 [1]) (hc : Col3.ShapeCasts Col2)
    (hb : Col2.Broadcasts (Blk 256 n)) (b0 : InbRows 2048 256 256 o) (b1 : InbRows 2048 256 n 0) (b2 : InbRows 2048 128 n 0)
    (b3 : InbRows 2048 128 256 o) (b5 : InbCol o) (acc : Vec Ideal (Blk 256 256) .f32) (y : Fin 2048) (d : Fin 256) {A : ℝ}
    (ha : ∀ r : Fin 256, y.val = o + r → acc (ix2 r d) = (A : EReal)) :
    View.TileAt (Val := Elt Ideal) (S := Blk 2048 256) (e := .f32) (ix2 y d) ![o, 0] ![256, 256]
      (dqTile hs hw hc hb (probsMasked o i0' i1' hc hb (View.ld x0 (Rect.unit ![o, 0] ![256, 256] b0))
          (View.ld x1 (Rect.unit ![0, 0] ![n, 256] b1)) (View.ld x4 (Rect.unit ![0, o, 0] ![1, 256, 1] b5)))
        (View.ld x3 (Rect.unit ![o, 0] ![256, 128] b3)) (View.ld x2 (Rect.unit ![0, 0] ![n, 128] b2)) acc
        (View.ld x5 (Rect.unit ![0, o, 0] ![1, 256, 1] b5)) (View.ld x1 (Rect.unit ![0, 0] ![n, 256] b1)))
      ((A + ∑ x ∈ range 2048, dqTerm Q K V G L D (j0 + y) d (j0 + x) : ℝ) : EReal) := by
  refine dqPiece I ho (by omega) hs hw hc hb b1 b2 b3 b5 _ acc
    (probsMasked_apply o (by omega) (by omega) i0' i1' hc hb _ _ _ (fun r d => ?_) (fun x d => ?_) (fun r => ?_) rfl) y d ha
    fun r hr => sum_subset (fun x hx => mem_range.mpr (by have := mem_range.mp hx; omega)) fun x _ hx =>
      dqTerm_of_lt _ _ _ _ _ _ _ (by have : ¬x < n := fun h => hx (mem_range.mpr h); omega)
  · rw [ld_rows x0 b0 r d (by omega), I.q, Nat.add_assoc]
  · rw [ld_rows x1 b1 x d (by omega), I.k]; simp
  · rw [ld_col x4 b5 r (by omega), I.l, Nat.add_assoc]

end Pieces

end Cert.Dq

end
-- ==== Proof.DqStrips.lean ====
/-
What the query gradient's body leaves at every point: eight strips of 256 rows, stored one under the other. On the diagonal
the accumulator starts from zero; below it, from what the point before left.
-/
module

public import proofs.«01_k».proof.Proof.DqTile

@[expose] public section

set_option maxRecDepth 16384

noncomputable section

namespace Cert.Dq

open Finset Idealize.ShloMosaic Idealize.ShloMosaic.ValueIdx Idealize.ShloMosaic.TcCoe Idealize.ShloMosaic.Tactic
open Cert.Dkv (Blk dqTerm ld_rows canon_rows InbRows)
open Cert.Kernel17Ideal Cert.Kernel17Ideal.Gen

/-- A load of a whole memref's rectangle is the rectangle of its contents. -/
theorem readAt_unread_eq {κ : Kind} {sp : Space} {s : Shape} {e : EltTy} {m : Memref Kernel17Ideal.sig κ sp s e} (h : m.IsWhole)
    (X : s.Idx → Elt Ideal e) (R : Rect s) :
    View.readAt (Elt Ideal) m.view R.toLoadRect (h.unread X) = View.ld X R :=
  funext fun x => h.readAt_unread X R.toLoadRect x

/-- A load of the whole buffer, read back over junk, is what the stores left. -/
theorem readCov_whole {sp : Space} {M N : ℕ} {e : EltTy} {κ : Kind} (v : View Kernel17Ideal.sig κ sp ⟨2, ![M, N]⟩ e)
    (Ls : List (View.Piece (Elt Ideal) ⟨2, ![M, N]⟩ e))
    (inb : ∀ ax, (![0, 0] : Fin 2 → ℕ) ax + (![M, N] : Fin 2 → ℕ) ax ≤ (⟨2, ![M, N]⟩ : Shape).size ax) :
    v.readCov Ls (Rect.unit (s := ⟨2, ![M, N]⟩) ![0, 0] ![M, N] inb).toLoadRect = View.canon Ls := by
  rw [View.readCov_eq_canon']
  funext x
  refine congrArg (View.canon Ls) (funext fun ax => Fin.ext ?_)
  match ax with
  | ⟨0, _⟩ => show 0 + 1 * (x 0).val = (x 0).val; omega
  | ⟨1, _⟩ => show 0 + 1 * (x 1).val = (x 1).val; omega

variable (x0 x1 : Vec Ideal S2048x256 .bf16) (x2 x3 : Vec Ideal S2048x128 .bf16) (x4 x5 : Vec Ideal S1x2048x1 .f32)
  (a0 : Vec Ideal S2048x256 .f32) {Q K V G : ℕ → ℕ → ℝ} {L D : ℕ → ℝ} {i0 j0 : ℕ}

/-- The strip of rows from `o` on against the first `n` keys of a block on the diagonal, over the accumulator `a0`, as it is
    stored. -/
def stripM (o n : ℕ) (i0' : (Blk 256 n).Iotas .tc 32 [0]) (i1' : (Blk 256 n).Iotas .tc 32 [1]) (hb : Col2.Broadcasts (Blk 256 n))
    (b0 : InbRows 2048 256 256 o) (b1 : InbRows 2048 256 n 0) (b2 : InbRows 2048 128 n 0) (b3 : InbRows 2048 128 256 o)
    (b5 : InbCol o) : View.Piece (Elt Ideal) (Blk 2048 256) .f32 :=
  ⟨Rect.unit ![o, 0] ![256, 256] b0, dqTile shapeCasts_S256x256_S256x256 bitsLt_bf16_f32 shapeCasts_S1x256x1_S256x1 hb
    (probsMasked o i0' i1' shapeCasts_S1x256x1_S256x1 hb (View.ld x0 (Rect.unit ![o, 0] ![256, 256] b0))
      (View.ld x1 (Rect.unit ![0, 0] ![n, 256] b1)) (View.ld x4 (Rect.unit ![0, o, 0] ![1, 256, 1] b5)))
    (View.ld x3 (Rect.unit ![o, 0] ![256, 128] b3)) (View.ld x2 (Rect.unit ![0, 0] ![n, 128] b2))
    (View.ld a0 (Rect.unit ![o, 0] ![256, 256] b0))
    (View.ld x5 (Rect.unit ![0, o, 0] ![1, 256, 1] b5)) (View.ld x1 (Rect.unit ![0, 0] ![n, 256] b1))⟩

/-- The strip of rows from `o` on against a key block below the diagonal, over the accumulator `a0`, as it is stored. -/
def stripU (o : ℕ) (b0 : InbRows 2048 256 256 o) (b3 : InbRows 2048 128 256 o) (b5 : InbCol o) :
    View.Piece (Elt Ideal) (Blk 2048 256) .f32 :=
  ⟨Rect.unit ![o, 0] ![256, 256] b0, dqTile shapeCasts_S256x256_S256x256 bitsLt_bf16_f32 shapeCasts_S1x256x1_S256x1
    broadcasts_S256x1_S256x2048
    (probs shapeCasts_S1x256x1_S256x1 broadcasts_S256x1_S256x2048 (View.ld x0 (Rect.unit ![o, 0] ![256, 256] b0))
      (View.ld x1 (Rect.unit ![0, 0] ![2048, 256] inb_S2048x256_S2048x256_0_0)) (View.ld x4 (Rect.unit ![0, o, 0] ![1, 256, 1] b5)))
    (View.ld x3 (Rect.unit ![o, 0] ![256, 128] b3)) (View.ld x2 (Rect.unit ![0, 0] ![2048, 128] inb_S2048x128_S2048x128_0_0))
    (View.ld a0 (Rect.unit ![o, 0] ![256, 256] b0))
    (View.ld x5 (Rect.unit ![0, o, 0] ![1, 256, 1] b5)) (View.ld x1 (Rect.unit ![0, 0] ![2048, 256] inb_S2048x256_S2048x256_0_0))⟩

variable {x0 x1 x2 x3 x4 x5 a0}

/-- The accumulator's rows of a strip, read at its own row. -/
theorem ld_acc {o : ℕ} (b0 : InbRows 2048 256 256 o) (y : Fin 2048) (d : Fin 256) {A : ℝ} (ha : a0 (ix2 y d) = (A : EReal))
    (r : Fin 256) (hr : y.val = o + r) : View.ld (Val := Elt Ideal) a0 (Rect.unit ![o, 0] ![256, 256] b0) (ix2 r d) = (A : EReal) := by
  rw [ld_rows a0 b0 r d (by omega), ← ha]; exact congrArg a0 (congrArg (ix2 · d) (Fin.ext hr.symm))

theorem canon_stripM (I : Pt x0 x1 x2 x3 x4 x5 Q K V G L D j0 j0) (y : Fin 2048) (d : Fin 256) {A : ℝ} (ha : a0 (ix2 y d) = (A : EReal))
    (Ls : List (View.Piece (Elt Ideal) (Blk 2048 256) .f32)) (o n : ℕ) (ho : o + 256 ≤ 2048) (hn : n = o + 256)
    (i0' : (Blk 256 n).Iotas .tc 32 [0]) (i1' : (Blk 256 n).Iotas .tc 32 [1]) (hb : Col2.Broadcasts (Blk 256 n))
    (b0 : InbRows 2048 256 256 o) (b1 : InbRows 2048 256 n 0) (b2 : InbRows 2048 128 n 0) (b3 : InbRows 2048 128 256 o)
    (b5 : InbCol o) (hy : y.val < o + 256)
    (hL : y.val < o → View.canon Ls (ix2 y d) = ((A + ∑ x ∈ range 2048, dqTerm Q K V G L D (j0 + y) d (j0 + x) : ℝ) : EReal)) :
    View.canon (stripM x0 x1 x2 x3 x4 x5 a0 o n i0' i1' hb b0 b1 b2 b3 b5 :: Ls) (ix2 y d)
      = ((A + ∑ x ∈ range 2048, dqTerm Q K V G L D (j0 + y) d (j0 + x) : ℝ) : EReal) :=
  canon_rows b0 _ _ _ y d hy (dqPieceM I ho hn shapeCasts_S256x256_S256x256 bitsLt_bf16_f32 i0' i1' shapeCasts_S1x256x1_S256x1 hb
    b0 b1 b2 b3 b5 _ y d (ld_acc b0 y d ha)) hL

theorem canon_stripU (I : Pt x0 x1 x2 x3 x4 x5 Q K V G L D i0 j0) (hij : j0 + 2048 ≤ i0) (y : Fin 2048) (d : Fin 256) {A : ℝ}
    (ha : a0 (ix2 y d) = (A : EReal)) (Ls : List (View.Piece (Elt Ideal) (Blk 2048 256) .f32)) (o : ℕ) (ho : o + 256 ≤ 2048)
    (b0 : InbRows 2048 256 256 o) (b3 : InbRows 2048 128 256 o) (b5 : InbCol o) (hy : y.val < o + 256)
    (hL : y.val < o → View.canon Ls (ix2 y d) = ((A + ∑ x ∈ range 2048, dqTerm Q K V G L D (i0 + y) d (j0 + x) : ℝ) : EReal)) :
    View.canon (stripU x0 x1 x2 x3 x4 x5 a0 o b0 b3 b5 :: Ls) (ix2 y d)
      = ((A + ∑ x ∈ range 2048, dqTerm Q K V G L D (i0 + y) d (j0 + x) : ℝ) : EReal) :=
  canon_rows b0 _ _ _ y d hy (dqPieceU I hij ho shapeCasts_S256x256_S256x256 bitsLt_bf16_f32 shapeCasts_S1x256x1_S256x1
    broadcasts_S256x1_S256x2048 b0 inb_S2048x256_S2048x256_0_0 inb_S2048x128_S2048x128_0_0 b3 b5 _ y d (ld_acc b0 y d ha)) hL

variable (x0 x1 x2 x3 x4 x5 a0)

/-- The eight strips of a block on the diagonal, the last stored first, over whatever was stored before. -/
def stripsM (Ls : List (View.Piece (Elt Ideal) (Blk 2048 256) .f32)) : List (View.Piece (Elt Ideal) (Blk 2048 256) .f32) :=
  stripM x0 x1 x2 x3 x4 x5 a0 1792 2048 iota_S256x2048_d0_w32 iota_S256x2048_d1_w32 broadcasts_S256x1_S256x2048
      inb_S2048x256_S256x256_1792_0 inb_S2048x256_S2048x256_0_0 inb_S2048x128_S2048x128_0_0 inb_S2048x128_S256x128_1792_0 inb_S1x2048x1_S1x256x1_0_1792_0 ::
    stripM x0 x1 x2 x3 x4 x5 a0 1536 1792 iota_S256x1792_d0_w32 iota_S256x1792_d1_w32 broadcasts_S256x1_S256x1792
      inb_S2048x256_S256x256_1536_0 inb_S2048x256_S1792x256_0_0 inb_S2048x128_S1792x128_0_0 inb_S2048x128_S256x128_1536_0 inb_S1x2048x1_S1x256x1_0_1536_0 ::
    stripM x0 x1 x2 x3 x4 x5 a0 1280 1536 iota_S256x1536_d0_w32 iota_S256x1536_d1_w32 broadcasts_S256x1_S256x1536
      inb_S2048x256_S256x256_1280_0 inb_S2048x256_S1536x256_0_0 inb_S2048x128_S1536x128_0_0 inb_S2048x128_S256x128_1280_0 inb_S1x2048x1_S1x256x1_0_1280_0 ::
    stripM x0 x1 x2 x3 x4 x5 a0 1024 1280 iota_S256x1280_d0_w32 iota_S256x1280_d1_w32 broadcasts_S256x1_S256x1280
      inb_S2048x256_S256x256_1024_0 inb_S2048x256_S1280x256_0_0 inb_S2048x128_S1280x128_0_0 inb_S2048x128_S256x128_1024_0 inb_S1x2048x1_S1x256x1_0_1024_0 ::
    stripM x0 x1 x2 x3 x4 x5 a0 768 1024 iota_S256x1024_d0_w32 iota_S256x1024_d1_w32 broadcasts_S256x1_S256x1024
      inb_S2048x256_S256x256_768_0 inb_S2048x256_S1024x256_0_0 inb_S2048x128_S1024x128_0_0 inb_S2048x128_S256x128_768_0 inb_S1x2048x1_S1x256x1_0_768_0 ::
    stripM x0 x1 x2 x3 x4 x5 a0 512 768 iota_S256x768_d0_w32 iota_S256x768_d1_w32 broadcasts_S256x1_S256x768
      inb_S2048x256_S256x256_512_0 inb_S2048x256_S768x256_0_0 inb_S2048x128_S768x128_0_0 inb_S2048x128_S256x128_512_0 inb_S1x2048x1_S1x256x1_0_512_0 ::
    stripM x0 x1 x2 x3 x4 x5 a0 256 512 iota_S256x512_d0_w32 iota_S256x512_d1_w32 broadcasts_S256x1_S256x512
      inb_S2048x256_S256x256_256_0 inb_S2048x256_S512x256_0_0 inb_S2048x128_S512x128_0_0 inb_S2048x128_S256x128_256_0 inb_S1x2048x1_S1x256x1_0_256_0 ::
    stripM x0 x1 x2 x3 x4 x5 a0 0 256 iota_S256x256_d0_w32 iota_S256x256_d1_w32 broadcasts_S256x1_S256x256
      inb_S2048x256_S256x256_0_0 inb_S2048x256_S256x256_0_0 inb_S2048x128_S256x128_0_0 inb_S2048x128_S256x128_0_0 inb_S1x2048x1_S1x256x1_0_0_0 ::
    Ls

/-- The eight strips of a block below the diagonal. -/
def stripsU : List (View.Piece (Elt Ideal) (Blk 2048 256) .f32) :=
  [stripU x0 x1 x2 x3 x4 x5 a0 1792 inb_S2048x256_S256x256_1792_0 inb_S2048x128_S256x128_1792_0 inb_S1x2048x1_S1x256x1_0_1792_0,
    stripU x0 x1 x2 x3 x4 x5 a0 1536 inb_S2048x256_S256x256_1536_0 inb_S2048x128_S256x128_1536_0 inb_S1x2048x1_S1x256x1_0_1536_0,
    stripU x0 x1 x2 x3 x4 x5 a0 1280 inb_S2048x256_S256x256_1280_0 inb_S2048x128_S256x128_1280_0 inb_S1x2048x1_S1x256x1_0_1280_0,
    stripU x0 x1 x2 x3 x4 x5 a0 1024 inb_S2048x256_S256x256_1024_0 inb_S2048x128_S256x128_1024_0 inb_S1x2048x1_S1x256x1_0_1024_0,
    stripU x0 x1 x2 x3 x4 x5 a0 768 inb_S2048x256_S256x256_768_0 inb_S2048x128_S256x128_768_0 inb_S1x2048x1_S1x256x1_0_768_0,
    stripU x0 x1 x2 x3 x4 x5 a0 512 inb_S2048x256_S256x256_512_0 inb_S2048x128_S256x128_512_0 inb_S1x2048x1_S1x256x1_0_512_0,
    stripU x0 x1 x2 x3 x4 x5 a0 256 inb_S2048x256_S256x256_256_0 inb_S2048x128_S256x128_256_0 inb_S1x2048x1_S1x256x1_0_256_0,
    stripU x0 x1 x2 x3 x4 x5 a0 0 inb_S2048x256_S256x256_0_0 inb_S2048x128_S256x128_0_0 inb_S1x2048x1_S1x256x1_0_0_0]

variable {x0 x1 x2 x3 x4 x5 a0}

/-- The strips on the diagonal leave the accumulator with the block of keys added. -/
theorem canon_stripsM (I : Pt x0 x1 x2 x3 x4 x5 Q K V G L D j0 j0) (y : Fin 2048) (d : Fin 256) {A : ℝ} (ha : a0 (ix2 y d) = (A : EReal))
    (Ls : List (View.Piece (Elt Ideal) (Blk 2048 256) .f32)) :
    View.canon (stripsM x0 x1 x2 x3 x4 x5 a0 Ls) (ix2 y d)
      = ((A + ∑ x ∈ range 2048, dqTerm Q K V G L D (j0 + y) d (j0 + x) : ℝ) : EReal) := by
  unfold stripsM
  refine canon_stripM I y d ha _ _ _ (by omega) rfl _ _ _ _ _ _ _ _ (by omega) fun hy => ?_
  refine canon_stripM I y d ha _ _ _ (by omega) rfl _ _ _ _ _ _ _ _ (by omega) fun hy => ?_
  refine canon_stripM I y d ha _ _ _ (by omega) rfl _ _ _ _ _ _ _ _ (by omega) fun hy => ?_
  refine canon_stripM I y d ha _ _ _ (by omega) rfl _ _ _ _ _ _ _ _ (by omega) fun hy => ?_
  refine canon_stripM I y d ha _ _ _ (by omega) rfl _ _ _ _ _ _ _ _ (by omega) fun hy => ?_
  refine canon_stripM I y d ha _ _ _ (by omega) rfl _ _ _ _ _ _ _ _ (by omega) fun hy => ?_
  refine canon_stripM I y d ha _ _ _ (by omega) rfl _ _ _ _ _ _ _ _ (by omega) fun hy => ?_
  refine canon_stripM I y d ha _ _ _ (by omega) rfl _ _ _ _ _ _ _ _ (by omega) fun hy => ?_
  omega

/-- The strips below the diagonal leave the accumulator with the block of keys added. -/
theorem canon_stripsU (I : Pt x0 x1 x2 x3 x4 x5 Q K V G L D i0 j0) (hij : j0 + 2048 ≤ i0) (y : Fin 2048) (d : Fin 256) {A : ℝ}
    (ha : a0 (ix2 y d) = (A : EReal)) :
    View.canon (stripsU x0 x1 x2 x3 x4 x5 a0) (ix2 y d)
      = ((A + ∑ x ∈ range 2048, dqTerm Q K V G L D (i0 + y) d (j0 + x) : ℝ) : EReal) := by
  unfold stripsU
  refine canon_stripU I hij y d ha _ _ (by omega) _ _ _ (by omega) fun hy => ?_
  refine canon_stripU I hij y d ha _ _ (by omega) _ _ _ (by omega) fun hy => ?_
  refine canon_stripU I hij y d ha _ _ (by omega) _ _ _ (by omega) fun hy => ?_
  refine canon_stripU I hij y d ha _ _ (by omega) _ _ _ (by omega) fun hy => ?_
  refine canon_stripU I hij y d ha _ _ (by omega) _ _ _ (by omega) fun hy => ?_
  refine canon_stripU I hij y d ha _ _ (by omega) _ _ _ (by omega) fun hy => ?_
  refine canon_stripU I hij y d ha _ _ (by omega) _ _ _ (by omega) fun hy => ?_
  refine canon_stripU I hij y d ha _ _ (by omega) _ _ _ (by omega) fun hy => ?_
  omega

end Cert.Dq

end
-- ==== Proof.DqCase.lean ====
/-
What the query gradient's accumulator holds after a point, in each of the four cases of the body, and what a query block's
last point stores in the output: the accumulator as the point left it.
-/
module

public import proofs.«01_k».proof.Proof.DqStrips
public import proofs.«01_k».proof.Proof.Outs

@[expose] public section

set_option maxRecDepth 16384

noncomputable section

namespace Cert.Dq

open Finset Idealize.ShloMosaic Idealize.ShloMosaic.ValueIdx Idealize.ShloMosaic.TcCoe Idealize.ShloMosaic.Tactic
open Cert.Dkv (Blk dqTerm ld_rows canon_rows InbRows canon_whole)
open Cert.Kernel17Ideal Cert.Kernel17Ideal.Gen

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x2048x1 .f32) (harg6 : arg6.IsWhole) (arg7 : Memref sig .tc .vmem S1x2048x1 .f32) (harg7 : arg7.IsWhole) (arg8 : Memref sig .tc .vmem S2048x256 .f32) (harg8 : arg8.IsWhole) (arg9 : Memref sig .tc .vmem S2048x256 .f32) (harg9 : arg9.IsWhole)
  (x0 : Vec Ideal S2048x256 .bf16) (x1 : Vec Ideal S2048x256 .bf16) (x2 : Vec Ideal S2048x128 .bf16) (x3 : Vec Ideal S2048x128 .bf16) (x4 : Vec Ideal S1x2048x1 .f32) (x5 : Vec Ideal S1x2048x1 .f32) (xs0 : Vec Ideal S2048x256 .f32)
  {Q K V G : ℕ → ℕ → ℝ} {L D : ℕ → ℝ} {i0 j0 : ℕ}

/-- The zeros the accumulator starts from. -/
theorem zeros_apply (y : Fin 2048) (d : Fin 256) : k0_pay24 (F := Ideal) (ix2 y d) = ((0 : ℝ) : EReal) :=
  Ideal.ofBits_zero_f32.trans EReal.coe_zero.symm

set_option maxHeartbeats 1600000 in
theorem sout0_A_apply (hc0 : cond0_0 i) (hc1 : cond0_1 i) (hc2 : ¬cond0_2 i) (hc3 : cond0_3 i) (I : Pt x0 x1 x2 x3 x4 x5 Q K V G L D j0 j0) (y : Fin 2048) (d : Fin 256) :
    sout0_A_0 c i arg2 harg2 arg3 harg3 arg4 harg4 arg5 harg5 arg6 harg6 arg7 harg7 arg8 harg8 arg9 harg9 hc0 hc1 hc2 hc3 x0 x1 x2 x3 x4 x5 (ix2 y d)
      = ((0 + ∑ x ∈ range 2048, dqTerm Q K V G L D (j0 + y) d (j0 + x) : ℝ) : EReal) := by
  unfold sout0_A_0
  rw [View.read_writes_junk_eq_canon]
  unfold kernelRun0_A
  dsimp only
  sl_unfold_words
  simp only [readAt_unread_eq]
  simp (disch := decide) only [↓View.readCov_skip, View.readCov_fill]
  exact canon_stripsM (a0 := k0_pay24 (F := Ideal)) I y d (zeros_apply y d) _

set_option maxHeartbeats 1600000 in
theorem sout0_B_apply (hc0 : cond0_0 i) (hc1 : cond0_1 i) (hc2 : ¬cond0_2 i) (hc3 : ¬cond0_3 i) (I : Pt x0 x1 x2 x3 x4 x5 Q K V G L D j0 j0) (y : Fin 2048) (d : Fin 256) :
    sout0_B_0 c i arg2 harg2 arg3 harg3 arg4 harg4 arg5 harg5 arg6 harg6 arg7 harg7 arg8 harg8 arg9 harg9 hc0 hc1 hc2 hc3 x0 x1 x2 x3 x4 x5 (ix2 y d)
      = ((0 + ∑ x ∈ range 2048, dqTerm Q K V G L D (j0 + y) d (j0 + x) : ℝ) : EReal) := by
  unfold sout0_B_0
  rw [View.read_writes_junk_eq_canon]
  unfold kernelRun0_B
  dsimp only
  sl_unfold_words
  simp only [readAt_unread_eq]
  simp (disch := decide) only [↓View.readCov_skip, View.readCov_fill]
  exact canon_stripsM (a0 := k0_pay24 (F := Ideal)) I y d (zeros_apply y d) _

set_option maxHeartbeats 1600000 in
theorem sout0_C_apply (hc0 : ¬cond0_0 i) (hc1 : ¬cond0_1 i) (hc2 : cond0_2 i) (hc3 : cond0_3 i) (I : Pt x0 x1 x2 x3 x4 x5 Q K V G L D i0 j0) (hij : j0 + 2048 ≤ i0)
    (y : Fin 2048) (d : Fin 256) {A : ℝ} (ha : xs0 (ix2 y d) = (A : EReal)) :
    sout0_C_0 c i arg2 harg2 arg3 harg3 arg4 harg4 arg5 harg5 arg6 harg6 arg7 harg7 arg8 harg8 arg9 harg9 hc0 hc1 hc2 hc3 x0 x1 x2 x3 x4 x5 xs0 (ix2 y d)
      = ((A + ∑ x ∈ range 2048, dqTerm Q K V G L D (i0 + y) d (j0 + x) : ℝ) : EReal) := by
  unfold sout0_C_0
  rw [View.read_writes_junk_eq_canon]
  unfold kernelRun0_C
  dsimp only
  sl_unfold_words
  simp only [readAt_unread_eq]
  exact canon_stripsU (a0 := xs0) I hij y d ha

set_option maxHeartbeats 1600000 in
theorem sout0_D_apply (hc0 : ¬cond0_0 i) (hc1 : ¬cond0_1 i) (hc2 : cond0_2 i) (hc3 : ¬cond0_3 i) (I : Pt x0 x1 x2 x3 x4 x5 Q K V G L D i0 j0) (hij : j0 + 2048 ≤ i0)
    (y : Fin 2048) (d : Fin 256) {A : ℝ} (ha : xs0 (ix2 y d) = (A : EReal)) :
    sout0_D_0 c i arg2 harg2 arg3 harg3 arg4 harg4 arg5 harg5 arg6 harg6 arg7 harg7 arg8 harg8 arg9 harg9 hc0 hc1 hc2 hc3 x0 x1 x2 x3 x4 x5 xs0 (ix2 y d)
      = ((A + ∑ x ∈ range 2048, dqTerm Q K V G L D (i0 + y) d (j0 + x) : ℝ) : EReal) := by
  unfold sout0_D_0
  rw [View.read_writes_junk_eq_canon]
  unfold kernelRun0_D
  dsimp only
  sl_unfold_words
  simp only [readAt_unread_eq]
  exact canon_stripsU (a0 := xs0) I hij y d ha

theorem out0_A_eq (hc0 : cond0_0 i) (hc1 : cond0_1 i) (hc2 : ¬cond0_2 i) (hc3 : cond0_3 i) :
    out0_A_6 c i arg2 harg2 arg3 harg3 arg4 harg4 arg5 harg5 arg6 harg6 arg7 harg7 arg8 harg8 arg9 harg9 hc0 hc1 hc2 hc3 x0 x1 x2 x3 x4 x5 = sout0_A_0 c i arg2 harg2 arg3 harg3 arg4 harg4 arg5 harg5 arg6 harg6 arg7 harg7 arg8 harg8 arg9 harg9 hc0 hc1 hc2 hc3 x0 x1 x2 x3 x4 x5 := by
  unfold out0_A_6 sout0_A_0
  rw [View.read_writes_junk_eq_canon, View.read_writes_junk_eq_canon]
  unfold kernelRun0_A
  dsimp only
  sl_unfold_words
  rw [canon_whole, readCov_whole]

theorem out0_C_eq (hc0 : ¬cond0_0 i) (hc1 : ¬cond0_1 i) (hc2 : cond0_2 i) (hc3 : cond0_3 i) :
    out0_C_6 c i arg2 harg2 arg3 harg3 arg4 harg4 arg5 harg5 arg6 harg6 arg7 harg7 arg8 harg8 arg9 harg9 hc0 hc1 hc2 hc3 x0 x1 x2 x3 x4 x5 xs0 = sout0_C_0 c i arg2 harg2 arg3 harg3 arg4 harg4 arg5 harg5 arg6 harg6 arg7 harg7 arg8 harg8 arg9 harg9 hc0 hc1 hc2 hc3 x0 x1 x2 x3 x4 x5 xs0 := by
  unfold out0_C_6 sout0_C_0
  rw [View.read_writes_junk_eq_canon, View.read_writes_junk_eq_canon]
  unfold kernelRun0_C
  dsimp only
  sl_unfold_words
  rw [canon_whole, readCov_whole]

end Cert.Dq

end
-- ==== Proof.DqFold.lean ====
/-
The query gradient's accumulator after every grid point, and its output array after the run: a query block meets the key
blocks from its own down to the first, so at query block `qi t` and key block `kj t` the accumulator holds the sums over the
keys from the start of the key block to the end of the query block.
-/
module

public import proofs.«01_k».proof.Proof.DqCase
public import proofs.«01_k».proof.Proof.Gen.Kernel17Ideal.Value
public import Idealize.ShloMosaic.Lib.Pipeline.ValueKit

@[expose] public section

set_option maxRecDepth 16384

noncomputable section

namespace Cert.Dq

open Idealize.ShloMosaic hiding ix0 ix1 ix2 ix3 ix4 ix5
open Finset Idealize.ShloMosaic.ValueIdx Idealize.ShloMosaic.TcCoe Idealize.ShloMosaic.Tactic
open Cert.Dkv (head dqTerm dqTerm_of_lt)
open Cert.Kernel17Ideal Cert.Kernel17Ideal.Gen

/-- The query block of a point. -/
def qi (t : ℕ) : ℕ := if t % 10 = 0 then 0 else if t % 10 < 3 then 1 else if t % 10 < 6 then 2 else 3
/-- The key block of a point. -/
def kj (t : ℕ) : ℕ := if t % 10 = 0 then 0 else if t % 10 < 3 then 2 - t % 10 else if t % 10 < 6 then 5 - t % 10 else 9 - t % 10

theorem idx0 : ∀ t : Fin cfg0.N, win0_0.index t = ![qi t.val, t.val / 10] :=
  (by decide +kernel : ∀ t : Fin grid0.N, win0_0.index t = ![qi t.val, t.val / 10])
theorem idx1 : ∀ t : Fin cfg0.N, win0_1.index t = ![kj t.val, t.val / 10] :=
  (by decide +kernel : ∀ t : Fin grid0.N, win0_1.index t = ![kj t.val, t.val / 10])
theorem idx2 : ∀ t : Fin cfg0.N, win0_2.index t = ![kj t.val, t.val / 10] :=
  (by decide +kernel : ∀ t : Fin grid0.N, win0_2.index t = ![kj t.val, t.val / 10])
theorem idx3 : ∀ t : Fin cfg0.N, win0_3.index t = ![qi t.val, t.val / 10] :=
  (by decide +kernel : ∀ t : Fin grid0.N, win0_3.index t = ![qi t.val, t.val / 10])
theorem idx4 : ∀ t : Fin cfg0.N, win0_4.index t = ![t.val / 10, qi t.val, 0] :=
  (by decide +kernel : ∀ t : Fin grid0.N, win0_4.index t = ![t.val / 10, qi t.val, 0])
theorem idx5 : ∀ t : Fin cfg0.N, win0_5.index t = ![t.val / 10, qi t.val, 0] :=
  (by decide +kernel : ∀ t : Fin grid0.N, win0_5.index t = ![t.val / 10, qi t.val, 0])
theorem idx6 : ∀ t : Fin cfg0.N, win0_6.index t = ![qi t.val, t.val / 10] :=
  (by decide +kernel : ∀ t : Fin grid0.N, win0_6.index t = ![qi t.val, t.val / 10])

theorem kj_lt (t : ℕ) : kj t < 4 := by unfold kj; split_ifs <;> omega
theorem qi_lt (t : ℕ) : qi t < 4 := by unfold qi; split_ifs <;> omega
theorem pt_lt (t : Fin cfg0.N) : t.val < 80 := lt_of_lt_of_eq t.isLt (show cfg0.N = 80 from N_0)

variable (m : (ℓ : Loc nD τ sig) → Buf (Elt Ideal) ℓ) (c : Dev nD)
  {Qa Ka Va Ga : ℕ → ℕ → ℝ} {La Da : ℕ → ℕ → ℝ}

/-- What the launch finds in the six input arrays, as real numbers. -/
structure Ins (Qa Ka Va Ga La Da : ℕ → ℕ → ℝ) : Prop where
  q : ∀ (i : Fin 8192) (e : Fin 2048), V m c main_arg0 (ix2 i e) = (Qa i e : EReal)
  k : ∀ (i : Fin 8192) (e : Fin 2048), V m c main_arg1 (ix2 i e) = (Ka i e : EReal)
  v : ∀ (i : Fin 8192) (e : Fin 1024), V m c main_arg2 (ix2 i e) = (Va i e : EReal)
  g : ∀ (i : Fin 8192) (e : Fin 1024), V m c main_arg3 (ix2 i e) = (Ga i e : EReal)
  l : ∀ (h : Fin 8) (i : Fin 8192), V m c main_v28 (ix3 h i (0 : Fin 1)) = (La h i : EReal)
  d : ∀ (h : Fin 8) (i : Fin 8192), V m c main_v34 (ix3 h i (0 : Fin 1)) = (Da h i : EReal)

theorem col4 (W : (b : Ref sig .tc) → b.ty.Contents (Elt Ideal)) (t : Fin cfg0.N) (x : Fin 2048) (h1 : t.val / 10 < 8)
    (h2 : qi t.val * 2048 + x.val < 8192) :
    ((cfg0.win 4).blk t).view.read (Elt Ideal) (W (Pipeline.arrRef spec0 4)) (ix3 (0 : Fin 1) x (0 : Fin 1))
      = W main_v28 (ix3 ⟨t.val / 10, h1⟩ ⟨qi t.val * 2048 + x.val, h2⟩ (0 : Fin 1)) := by
  blk_simp
  refine congrArg (W main_v28) ?_
  funext ax
  match ax with
  | ⟨0, _⟩ => exact Fin.ext (by blk_simp [idx4])
  | ⟨1, _⟩ => exact Fin.ext (by blk_simp [idx4])
  | ⟨2, _⟩ => exact Fin.ext (by blk_simp [idx4])

theorem col5 (W : (b : Ref sig .tc) → b.ty.Contents (Elt Ideal)) (t : Fin cfg0.N) (x : Fin 2048) (h1 : t.val / 10 < 8)
    (h2 : qi t.val * 2048 + x.val < 8192) :
    ((cfg0.win 5).blk t).view.read (Elt Ideal) (W (Pipeline.arrRef spec0 5)) (ix3 (0 : Fin 1) x (0 : Fin 1))
      = W main_v34 (ix3 ⟨t.val / 10, h1⟩ ⟨qi t.val * 2048 + x.val, h2⟩ (0 : Fin 1)) := by
  blk_simp
  refine congrArg (W main_v34) ?_
  funext ax
  match ax with
  | ⟨0, _⟩ => exact Fin.ext (by blk_simp [idx5])
  | ⟨1, _⟩ => exact Fin.ext (by blk_simp [idx5])
  | ⟨2, _⟩ => exact Fin.ext (by blk_simp [idx5])

/-- Every point's blocks: the queries of block `qi t` and the keys of block `kj t` of head `t / 10`. -/
theorem pt (I : Ins m c Qa Ka Va Ga La Da) (t : Fin cfg0.N) :
    Pt (iblk m c 0 t) (iblk m c 1 t) (iblk m c 2 t) (iblk m c 3 t) (iblk m c 4 t) (iblk m c 5 t)
      (head 256 Qa (t.val / 10)) (head 256 Ka (t.val / 10)) (head 128 Va (t.val / 10)) (head 128 Ga (t.val / 10))
      (La (t.val / 10)) (Da (t.val / 10)) (qi t.val * 2048) (kj t.val * 2048) := by
  have ht := pt_lt t
  have hq := qi_lt t.val
  have hk := kj_lt t.val
  refine ⟨fun x d => ?_, fun x d => ?_, fun x d => ?_, fun x d => ?_, fun x => ?_, fun x => ?_⟩
  · refine Eq.trans ?_ (I.q ⟨qi t.val * 2048 + x, by omega⟩ ⟨t.val / 10 * 256 + d, by omega⟩)
    unfold iblk
    generalize V m c = W
    blk_simp
    refine congrArg (W main_arg0) ?_
    funext ax
    match ax with
    | ⟨0, _⟩ => exact Fin.ext (by blk_simp [idx0])
    | ⟨1, _⟩ => exact Fin.ext (by blk_simp [idx0])
  · refine Eq.trans ?_ (I.k ⟨kj t.val * 2048 + x, by omega⟩ ⟨t.val / 10 * 256 + d, by omega⟩)
    unfold iblk
    generalize V m c = W
    blk_simp
    refine congrArg (W main_arg1) ?_
    funext ax
    match ax with
    | ⟨0, _⟩ => exact Fin.ext (by blk_simp [idx1])
    | ⟨1, _⟩ => exact Fin.ext (by blk_simp [idx1])
  · refine Eq.trans ?_ (I.v ⟨kj t.val * 2048 + x, by omega⟩ ⟨t.val / 10 * 128 + d, by omega⟩)
    unfold iblk
    generalize V m c = W
    blk_simp
    refine congrArg (W main_arg2) ?_
    funext ax
    match ax with
    | ⟨0, _⟩ => exact Fin.ext (by blk_simp [idx2])
    | ⟨1, _⟩ => exact Fin.ext (by blk_simp [idx2])
  · refine Eq.trans ?_ (I.g ⟨qi t.val * 2048 + x, by omega⟩ ⟨t.val / 10 * 128 + d, by omega⟩)
    unfold iblk
    generalize V m c = W
    blk_simp
    refine congrArg (W main_arg3) ?_
    funext ax
    match ax with
    | ⟨0, _⟩ => exact Fin.ext (by blk_simp [idx3])
    | ⟨1, _⟩ => exact Fin.ext (by blk_simp [idx3])
  · exact (col4 (V m c) t x (by omega) (by omega)).trans (I.l ⟨t.val / 10, by omega⟩ ⟨qi t.val * 2048 + x, by omega⟩)
  · exact (col5 (V m c) t x (by omega) (by omega)).trans (I.d ⟨t.val / 10, by omega⟩ ⟨qi t.val * 2048 + x, by omega⟩)

/-- The gradient of query `i`, column `d`, of head `h`, over `n` keys from `a` on. -/
def dqFrom (Qa Ka Va Ga La Da : ℕ → ℕ → ℝ) (h a n i d : ℕ) : ℝ :=
  ∑ x ∈ range n, dqTerm (head 256 Qa h) (head 256 Ka h) (head 128 Va h) (head 128 Ga h) (La h) (Da h) i d (a + x)

set_option maxHeartbeats 3000000 in
/-- A point that starts a query block leaves the sums over the key block on the diagonal. -/
theorem dq_first (I : Ins m c Qa Ka Va Ga La Da) (t : Fin cfg0.N) (h0 : t.val % 10 = 0 ∨ t.val % 10 = 1 ∨ t.val % 10 = 3 ∨ t.val % 10 = 6)
    (y : Fin 2048) (d : Fin 256) :
    (outsAt0 m c t.val t.isLt).2 (ix2 y d)
      = (dqFrom Qa Ka Va Ga La Da (t.val / 10) (kj t.val * 2048) 2048 (qi t.val * 2048 + y) d : EReal) := by
  have hqk : qi t.val = kj t.val := by unfold qi kj; split_ifs <;> omega
  have h1 := h0
  have h2 : ¬¬(t.val % 10 = 0 ∨ t.val % 10 = 1 ∨ t.val % 10 = 3 ∨ t.val % 10 = 6) := not_not_intro h0
  have p := pt m c I t
  rw [hqk] at p ⊢
  by_cases h3 : t.val % 10 = 0 ∨ t.val % 10 = 2 ∨ t.val % 10 = 5 ∨ t.val % 10 = 9
  · rw [outsAt0_A m c t h0 h1 h2 h3]
    refine (sout0_A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t)
      ((hcond0_0 t).mpr h0) ((hcond0_1 t).mpr h1) (fun h => h2 ((hcond0_2 t).mp h)) ((hcond0_3 t).mpr h3) p y d).trans ?_
    rw [zero_add]
    rfl
  · rw [outsAt0_B m c t h0 h1 h2 h3]
    refine (sout0_B_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t)
      ((hcond0_0 t).mpr h0) ((hcond0_1 t).mpr h1) (fun h => h2 ((hcond0_2 t).mp h)) (fun h => h3 ((hcond0_3 t).mp h)) p y d).trans ?_
    rw [zero_add]
    rfl

set_option maxHeartbeats 3000000 in
/-- A later point of a query block adds its key block. -/
theorem dq_next (I : Ins m c Qa Ka Va Ga La Da) (t : Fin cfg0.N) (h0 : ¬(t.val % 10 = 0 ∨ t.val % 10 = 1 ∨ t.val % 10 = 3 ∨ t.val % 10 = 6))
    (y : Fin 2048) (d : Fin 256) {A : ℝ}
    (ha : (outsAt0 m c (t.val - 1) (by have := t.isLt; omega)).2 (ix2 y d) = (A : EReal)) :
    (outsAt0 m c t.val t.isLt).2 (ix2 y d)
      = ((A + dqFrom Qa Ka Va Ga La Da (t.val / 10) (kj t.val * 2048) 2048 (qi t.val * 2048 + y) d : ℝ) : EReal) := by
  have hqk : kj t.val * 2048 + 2048 ≤ qi t.val * 2048 := by unfold qi kj; split_ifs <;> omega
  have h1 := h0
  have h2 := h0
  by_cases h3 : t.val % 10 = 0 ∨ t.val % 10 = 2 ∨ t.val % 10 = 5 ∨ t.val % 10 = 9
  · rw [outsAt0_C m c t h0 h1 h2 h3]
    exact sout0_C_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t) _
      (fun h => h0 ((hcond0_0 t).mp h)) (fun h => h1 ((hcond0_1 t).mp h)) ((hcond0_2 t).mpr h2) ((hcond0_3 t).mpr h3) (pt m c I t) hqk y d ha
  · rw [outsAt0_D m c t h0 h1 h2 h3]
    exact sout0_D_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t) _
      (fun h => h0 ((hcond0_0 t).mp h)) (fun h => h1 ((hcond0_1 t).mp h)) ((hcond0_2 t).mpr h2) (fun h => h3 ((hcond0_3 t).mp h)) (pt m c I t) hqk y d ha

/-- The accumulator after every point. -/
theorem dq_at (I : Ins m c Qa Ka Va Ga La Da) : ∀ (n : ℕ) (hn : n < cfg0.N) (y : Fin 2048) (d : Fin 256),
    (outsAt0 m c n hn).2 (ix2 y d)
      = (dqFrom Qa Ka Va Ga La Da (n / 10) (kj n * 2048) ((qi n + 1 - kj n) * 2048) (qi n * 2048 + y) d : EReal) := by
  intro n
  induction n with
  | zero => exact fun hn y d => dq_first m c I ⟨0, hn⟩ (Or.inl rfl) y d
  | succ n ih =>
    intro hn y d
    by_cases h0 : (n + 1) % 10 = 0 ∨ (n + 1) % 10 = 1 ∨ (n + 1) % 10 = 3 ∨ (n + 1) % 10 = 6
    · have hqk : qi (n + 1) + 1 - kj (n + 1) = 1 := by unfold qi kj; split_ifs <;> omega
      rw [hqk, one_mul]
      exact dq_first m c I ⟨n + 1, hn⟩ h0 y d
    · refine (dq_next m c I ⟨n + 1, hn⟩ h0 y d (ih (by omega) y d)).trans ?_
      have e1 : (n + 1) / 10 = n / 10 := by omega
      have e2 : qi (n + 1) = qi n := by unfold qi; split_ifs <;> omega
      have e3 : kj n = kj (n + 1) + 1 := by unfold kj; split_ifs <;> omega
      have e4 : kj n ≤ qi n := by unfold qi kj; split_ifs <;> omega
      have e5 : (qi n + 1 - kj (n + 1)) * 2048 = 2048 + (qi n + 1 - kj n) * 2048 := by omega
      refine congrArg _ ?_
      show _ + dqFrom Qa Ka Va Ga La Da ((n + 1) / 10) (kj (n + 1) * 2048) 2048 (qi (n + 1) * 2048 + y) d = _
      rw [e1, e2, e5, e3]
      unfold dqFrom
      rw [sum_range_add, add_comm]
      refine congrArg _ (sum_congr rfl fun x _ => congrArg _ ?_)
      omega

theorem parts {α : Type} {p : α × α} {a a' : α} (h : p = (a, a')) (e : a = a') : p.1 = p.2 := by subst h; exact e

/-- At a query block's last point the output block holds what the accumulator holds. -/
theorem out_dq (t : Fin cfg0.N) (h3 : t.val % 10 = 0 ∨ t.val % 10 = 2 ∨ t.val % 10 = 5 ∨ t.val % 10 = 9) :
    (outsAt0 m c t.val t.isLt).1 = (outsAt0 m c t.val t.isLt).2 := by
  by_cases h0 : t.val % 10 = 0 ∨ t.val % 10 = 1 ∨ t.val % 10 = 3 ∨ t.val % 10 = 6
  · have h1 := h0
    have h2 : ¬¬(t.val % 10 = 0 ∨ t.val % 10 = 1 ∨ t.val % 10 = 3 ∨ t.val % 10 = 6) := not_not_intro h0
    have e := outsAt0_A m c t h0 h1 h2 h3
    exact parts e (out0_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t)
      ((hcond0_0 t).mpr h0) ((hcond0_1 t).mpr h1) (fun h => h2 ((hcond0_2 t).mp h)) ((hcond0_3 t).mpr h3))
  · have h1 := h0
    have h2 := h0
    have e := outsAt0_C m c t h0 h1 h2 h3
    exact parts e (out0_C_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t) _
      (fun h => h0 ((hcond0_0 t).mp h)) (fun h => h1 ((hcond0_1 t).mp h)) ((hcond0_2 t).mpr h2) ((hcond0_3 t).mpr h3))

/-- The points at which the output block is written back: the last of every query block. -/
theorem flush_dq : ∀ t : Fin cfg0.N, (cfg0.win 6).flush t = true →
    (t.val % 10 = 0 ∨ t.val % 10 = 2 ∨ t.val % 10 = 5 ∨ t.val % 10 = 9) :=
  (by decide +kernel : ∀ t : Fin grid0.N, win0_6.flush t = true →
    (t.val % 10 = 0 ∨ t.val % 10 = 2 ∨ t.val % 10 = 5 ∨ t.val % 10 = 9))

/-- The queries' gradient as one array: every key summed, for every head. -/
def dqArr (Qa Ka Va Ga La Da : ℕ → ℕ → ℝ) : S8192x2048.Idx → EReal := fun i =>
  (dqFrom Qa Ka Va Ga La Da ((i 1).val / 256) 0 8192 (i 0).val ((i 1).val % 256) : ℝ)

/-- The queries' gradient array after the run. -/
theorem final_dq (I : Ins m c Qa Ka Va Ga La Da) : (dats m 0 c).arrAt 6 cfg0.N = dqArr Qa Ka Va Ga La Da := by
  refine (dats m 0 c).arrAt_eq_of_covers 6 (dqArr Qa Ka Va Ga La Da) (by decide +kernel) fun t hf y => ?_
  have h3 := flush_dq t hf
  have ht := pt_lt t
  blk_simp
  rw [after0_6, out_dq m c t h3]
  obtain ⟨a, b, rfl⟩ : ∃ (a : Fin 2048) (b : Fin 256), y = ix2 a b := ⟨y 0, y 1, Cert.Dkv.eq_ix2 y⟩
  refine (dq_at m c I t.val t.isLt a b).trans ?_
  have e0 : ((((win0_6.blk t).view.emb (ix2 a b)) 0 : Fin _) : ℕ) = qi t.val * 2048 + a := by blk_simp [idx6]; rfl
  have e1 : ((((win0_6.blk t).view.emb (ix2 a b)) 1 : Fin _) : ℕ) = t.val / 10 * 256 + b := by blk_simp [idx6]; rfl
  have e2 : kj t.val = 0 := by unfold kj; split_ifs <;> omega
  have e3 : (t.val / 10 * 256 + b.val) / 256 = t.val / 10 := by omega
  have e4 : (t.val / 10 * 256 + b.val) % 256 = b := by omega
  have hq := qi_lt t.val
  unfold dqArr
  rw [e0, e1, e2, e3, e4, Nat.zero_mul]
  refine congrArg _ (sum_subset (fun x hx => mem_range.mpr (by have := mem_range.mp hx; omega)) fun x _ hx => ?_)
  exact dqTerm_of_lt _ _ _ _ _ _ _ (by
    have : ¬x < (qi t.val + 1 - 0) * 2048 := fun h => hx (mem_range.mpr h)
    have := a.isLt
    omega)

end Cert.Dq

end
-- ==== Proof.DqRef.lean ====
/-
The textbook's query gradient, over real arguments, and the kernel's array as that gradient.
-/
module

public import proofs.«01_k».proof.Proof.RefVal
public import proofs.«01_k».proof.Proof.DqFold
public import proofs.«01_k».proof.Proof.Gen.Reference17Ideal.Read

@[expose] public section

set_option maxRecDepth 16384

noncomputable section

namespace Cert.Dq

open Idealize.ShloMosaic hiding ix0 ix1 ix2 ix3 ix4 ix5
open Finset Idealize.ShloMosaic.ValueIdx Idealize.ShloMosaic.TcCoe
open Cert.Dkv (head dqTerm Lse Del sum_fin_coe rv_ds rv_k dq_form)
open Cert.ReferenceIdeal Cert.ReferenceIdeal.Gen

variable {Qa Ka Va Ga : ℕ → ℕ → ℝ}
variable {x0 x1 : (⟨S8192x2048, .bf16⟩ : BufTy).Contents (Elt Ideal)} {x2 x3 : (⟨S8192x1024, .bf16⟩ : BufTy).Contents (Elt Ideal)}
variable (hq : ∀ i, x0 i = ((Qa (i 0).val (i 1).val : ℝ) : EReal)) (hk : ∀ i, x1 i = ((Ka (i 0).val (i 1).val : ℝ) : EReal))
variable (hv : ∀ i, x2 i = ((Va (i 0).val (i 1).val : ℝ) : EReal)) (hg : ∀ i, x3 i = ((Ga (i 0).val (i 1).val : ℝ) : EReal))

/-- The gradient of every score is the same in the two references. -/
theorem ds_same : Cert.Reference17Ideal.Read.val_main_v63 (F := Ideal) x0 x1 x2 x3 = Cert.ReferenceIdeal.Read.val_main_v63 (F := Ideal) x0 x1 x2 x3 := rfl

include hq hk hv hg in
/-- The query gradient, by head. -/
theorem rv_dq (i : S8192x8x256.Idx) :
    Cert.Reference17Ideal.Read.val_main_v67 (F := Ideal) x0 x1 x2 x3 i
      = ((∑ r ∈ range 8192, dqTerm (head 256 Qa (i 1).val) (head 256 Ka (i 1).val) (head 128 Va (i 1).val) (head 128 Ga (i 1).val)
          (Lse (head 256 Qa (i 1).val) (head 256 Ka (i 1).val))
          (Del (head 256 Qa (i 1).val) (head 256 Ka (i 1).val) (head 128 Va (i 1).val) (head 128 Ga (i 1).val))
          (i 0).val (i 2).val r : ℝ) : EReal) := by
  rw [Cert.Reference17Ideal.Read.val_main_v67_apply, Cert.Reference17Ideal.Read.val_main_v66_apply]
  refine sum_fin_coe _ _ fun k => ?_
  rw [ds_same, rv_ds hq hk hv hg]
  refine (congrArg (fun z : EReal => _ * z) (rv_k hk _)).trans ?_
  rw [← dq_form _ _ _ _ (i 0).isLt, EReal.coe_mul]

include hq hk hv hg in
/-- The query gradient: the kernel's array is the textbook's. -/
theorem dq_eq : dqArr Qa Ka Va Ga (fun h => Lse (head 256 Qa h) (head 256 Ka h))
      (fun h => Del (head 256 Qa h) (head 256 Ka h) (head 128 Va h) (head 128 Ga h))
    = Cert.Reference17Ideal.Read.val_main_v68 (F := Ideal) x0 x1 x2 x3 := by
  funext i
  have a0 : (i 0).val < 8192 := (i 0).isLt
  have a1 : (i 1).val < 2048 := (i 1).isLt
  have e0 : ((i 0).val * 2048 + (i 1).val) / 2048 = (i 0).val := by omega
  have e1 : ((i 0).val * 2048 + (i 1).val) / 256 % 8 = (i 1).val / 256 := by omega
  have e2 : ((i 0).val * 2048 + (i 1).val) % 256 = (i 1).val % 256 := by omega
  rw [Cert.Reference17Ideal.Read.val_main_v68_apply, rv_dq hq hk hv hg]
  show _ = ((∑ r ∈ range 8192, dqTerm (head 256 Qa (((i 0).val * 2048 + (i 1).val) / 256 % 8)) (head 256 Ka (((i 0).val * 2048 + (i 1).val) / 256 % 8))
    (head 128 Va (((i 0).val * 2048 + (i 1).val) / 256 % 8)) (head 128 Ga (((i 0).val * 2048 + (i 1).val) / 256 % 8))
    (Lse (head 256 Qa (((i 0).val * 2048 + (i 1).val) / 256 % 8)) (head 256 Ka (((i 0).val * 2048 + (i 1).val) / 256 % 8)))
    (Del (head 256 Qa (((i 0).val * 2048 + (i 1).val) / 256 % 8)) (head 256 Ka (((i 0).val * 2048 + (i 1).val) / 256 % 8))
      (head 128 Va (((i 0).val * 2048 + (i 1).val) / 256 % 8)) (head 128 Ga (((i 0).val * 2048 + (i 1).val) / 256 % 8)))
    (((i 0).val * 2048 + (i 1).val) / 2048) (((i 0).val * 2048 + (i 1).val) % 256) r : ℝ) : EReal)
  rw [e0, e1, e2]
  unfold dqArr dqFrom
  simp only [zero_add]

end Cert.Dq
end
-- ==== Proof.DqHost.lean ====
/-
What the query-gradient kernel finds when its region starts: the host's masked scores, then the saved logarithm and the
delta from them, over real arguments.
-/
module

public import proofs.«01_k».proof.Proof.HostVal
public import proofs.«01_k».proof.Proof.DqFold

@[expose] public section

set_option maxRecDepth 16384

noncomputable section

namespace Cert.Dq

open Idealize.ShloMosaic hiding ix0 ix1 ix2 ix3 ix4 ix5
open Finset Idealize.ShloMosaic.ValueIdx Idealize.ShloMosaic.TcCoe Idealize.ShloMosaic.Tactic
open Cert.Dkv (head Lse Del O hostM hostE hostZ hostO hostM_eq hostZ_eq hostO_eq add_log_apply mul_apply rv_m rv_z rv_o rv_g Z_pos sum_fin_coe zero_f32)
open Cert.Kernel17Ideal Cert.Kernel17Ideal.Gen
open Cert.ReferenceIdeal.Read

section Last
variable (W : Valuation τ sig (Elt Ideal))

set_option maxHeartbeats 3000000 in
/-- The saved logarithm from the masked scores. -/
theorem last_lse : (StableHlo.after hostOps0_2 W main_v28 : (⟨S8x8192x1, .f32⟩ : BufTy).Contents (Elt Ideal))
    = shapeCast S8x8192x1 (addf (F := Ideal) (φ := .f32) (hostM (W main_v12)) (Host.log (F := Ideal) (φ := .f32) (hostZ (W main_v12)))) shapeCasts_S8x8192_S8x8192x1 := by
  after_results_simp
  unfold hostZ hostE hostM
  rfl

set_option maxHeartbeats 3000000 in
/-- The delta from the masked scores, the values and the output's gradient. -/
theorem last_dl : (StableHlo.after hostOps0_2 W main_v34 : (⟨S8x8192x1, .f32⟩ : BufTy).Contents (Elt Ideal))
    = shapeCast S8x8192x1 (transpose S8x8192 [1, 0]
        (Host.reduceAdd (F := Ideal) (φ := .f32) (mulf (F := Ideal) (φ := .f32) (val_main_v46 (F := Ideal) (W main_arg3)) (hostO (W main_arg2) (W main_v12)))
          (constant S_ .f32 0x00000000#32) reducesTo_S8192x8x128_S8192x8_d2 h_S_) transposes_S8192x8_S8x8192_1_0)
        shapeCasts_S8x8192_S8x8192x1 := by
  after_results_simp
  unfold hostO hostZ hostE hostM
  rfl

end Last

variable (m : (ℓ : Loc nD τ sig) → Buf (Elt Ideal) ℓ) (c : Dev nD)

/-- The masked scores the host computes are the textbook's. -/
theorem first_s : (StableHlo.after (hostOps0 ++ hostOps0_1) (fun b => m (c, b)) main_v12 : (⟨S8x8192x8192, .f32⟩ : BufTy).Contents (Elt Ideal))
    = val_main_v14_0 (F := Ideal) (m ((c : Thread nD τ).loc main_arg0)) (m ((c : Thread nD τ).loc main_arg1)) := by
  simp only [hostOps0, hostOps0_1, List.cons_append, List.nil_append, StableHlo.TRef.nullary, StableHlo.TRef.ternary, StableHlo.TRef.unary,
    StableHlo.TRef.toBuf, StableHlo.TRef.ofBuf, cast_eq]
  after_results_simp <;> rfl

theorem first_arg2 : StableHlo.after (hostOps0 ++ hostOps0_1) (fun b => m (c, b)) main_arg2 = m ((c : Thread nD τ).loc main_arg2) := by
  simp only [hostOps0, hostOps0_1, List.cons_append, List.nil_append, StableHlo.TRef.nullary, StableHlo.TRef.ternary, StableHlo.TRef.unary,
    StableHlo.TRef.toBuf, StableHlo.TRef.ofBuf, cast_eq]
  after_results_simp <;> rfl

theorem first_arg3 : StableHlo.after (hostOps0 ++ hostOps0_1) (fun b => m (c, b)) main_arg3 = m ((c : Thread nD τ).loc main_arg3) := by
  simp only [hostOps0, hostOps0_1, List.cons_append, List.nil_append, StableHlo.TRef.nullary, StableHlo.TRef.ternary, StableHlo.TRef.unary,
    StableHlo.TRef.toBuf, StableHlo.TRef.ofBuf, cast_eq]
  after_results_simp <;> rfl

theorem after_app (a b : List (HloOp τ sig (Elt Ideal))) (W : Valuation τ sig (Elt Ideal)) :
    StableHlo.after (a ++ b) W = StableHlo.after b (StableHlo.after a W) := by
  induction a generalizing W with
  | nil => rfl
  | cons op t ih => exact ih _

theorem V_split (b : Ref sig .tc) :
    V m c b = StableHlo.after hostOps0_2 (StableHlo.after (hostOps0 ++ hostOps0_1) fun b => m (c, b)) b := by
  unfold V
  rw [← after_app, List.flatten_cons, List.flatten_cons, List.flatten_cons, List.flatten_nil, List.append_nil, List.append_assoc]

variable (x0 x1 : (⟨S8192x2048, .bf16⟩ : BufTy).Contents (Elt Ideal)) (x2 x3 : (⟨S8192x1024, .bf16⟩ : BufTy).Contents (Elt Ideal))

section Entries
variable {Qa Ka Va Ga : ℕ → ℕ → ℝ} {x0 x1 x2 x3} {W : Valuation τ sig (Elt Ideal)}

/-- The saved logarithm, at a head and a query, where the masked scores are the textbook's. -/
theorem last_l (hq : ∀ i, x0 i = ((Qa (i 0).val (i 1).val : ℝ) : EReal)) (hk : ∀ i, x1 i = ((Ka (i 0).val (i 1).val : ℝ) : EReal))
    (hs : W main_v12 = val_main_v14_0 (F := Ideal) x0 x1) (h : Fin 8) (i : Fin 8192) :
    (StableHlo.after hostOps0_2 W main_v28 : S8x8192x1.Idx → EReal) (ix3 h i (0 : Fin 1))
      = ((Lse (head 256 Qa h.val) (head 256 Ka h.val) i.val : ℝ) : EReal) := by
  rw [last_lse, hs, hostZ_eq, hostM_eq]
  refine (shapeCast_apply _ shapeCasts_S8x8192_S8x8192x1 (ix3 h i (0 : Fin 1)) (ix2 h i) ?_).trans ?_
  · rewrite [Shape.rowMajor_val_two, Shape.rowMajor_val_three]
    show h.val * 8192 + i.val = (h.val * 8192 + i.val) * 1 + 0
    omega
  · rw [add_log_apply, rv_m hq hk, rv_z hq hk]
    have hz := Z_pos (head 256 Qa h.val) (head 256 Ka h.val) i.isLt
    exact (congrArg (fun z : EReal => _ + z) ((Ideal.log_coe _).trans (if_neg hz.not_ge))).trans (EReal.coe_add _ _).symm

/-- The delta, at a head and a query, where the masked scores are the textbook's. -/
theorem last_d (hq : ∀ i, x0 i = ((Qa (i 0).val (i 1).val : ℝ) : EReal)) (hk : ∀ i, x1 i = ((Ka (i 0).val (i 1).val : ℝ) : EReal))
    (hv : ∀ i, x2 i = ((Va (i 0).val (i 1).val : ℝ) : EReal)) (hg : ∀ i, x3 i = ((Ga (i 0).val (i 1).val : ℝ) : EReal))
    (hs : W main_v12 = val_main_v14_0 (F := Ideal) x0 x1) (h2 : W main_arg2 = x2) (h3 : W main_arg3 = x3) (h : Fin 8) (i : Fin 8192) :
    (StableHlo.after hostOps0_2 W main_v34 : S8x8192x1.Idx → EReal) (ix3 h i (0 : Fin 1))
      = ((Del (head 256 Qa h.val) (head 256 Ka h.val) (head 128 Va h.val) (head 128 Ga h.val) i.val : ℝ) : EReal) := by
  rw [last_dl, hs, h2, h3, hostO_eq]
  refine (shapeCast_apply _ shapeCasts_S8x8192_S8x8192x1 (ix3 h i (0 : Fin 1)) (ix2 h i) ?_).trans ?_
  · rewrite [Shape.rowMajor_val_two, Shape.rowMajor_val_three]
    show h.val * 8192 + i.val = (h.val * 8192 + i.val) * 1 + 0
    omega
  · refine (transpose_apply [1, 0] _ transposes_S8192x8_S8x8192_1_0 (ix2 h i) (ix2 i h) (fun b => match b with
      | ⟨0, _⟩ => rfl
      | ⟨1, _⟩ => rfl)).trans ?_
    rw [Host.reduceAdd, Ideal.hostReduceAdd_def, Ideal.hostReduceAdd_single reducesTo_S8192x8x128_S8192x8_d2 (by decide)]
    refine (congrArg (fun z : EReal => z + _) zero_f32).trans ?_
    rw [zero_add]
    refine sum_fin_coe _ (fun x => head 128 Ga h.val i.val x * O (head 256 Qa h.val) (head 256 Ka h.val) (head 128 Va h.val) i.val x) fun k => ?_
    rw [mul_apply, rv_g hg, rv_o hq hk hv, EReal.coe_mul]
    rfl

/-- What the kernel's region finds, over real arguments. -/
theorem ins {m : (ℓ : Loc nD τ sig) → Buf (Elt Ideal) ℓ} {c : Dev nD}
    (hq : ∀ i : S8192x2048.Idx, (m ((c : Thread nD τ).loc main_arg0) : S8192x2048.Idx → EReal) i = ((Qa (i 0).val (i 1).val : ℝ) : EReal))
    (hk : ∀ i : S8192x2048.Idx, (m ((c : Thread nD τ).loc main_arg1) : S8192x2048.Idx → EReal) i = ((Ka (i 0).val (i 1).val : ℝ) : EReal))
    (hv : ∀ i : S8192x1024.Idx, (m ((c : Thread nD τ).loc main_arg2) : S8192x1024.Idx → EReal) i = ((Va (i 0).val (i 1).val : ℝ) : EReal))
    (hg : ∀ i : S8192x1024.Idx, (m ((c : Thread nD τ).loc main_arg3) : S8192x1024.Idx → EReal) i = ((Ga (i 0).val (i 1).val : ℝ) : EReal)) :
    Ins m c Qa Ka Va Ga (fun h => Lse (head 256 Qa h) (head 256 Ka h))
      (fun h => Del (head 256 Qa h) (head 256 Ka h) (head 128 Va h) (head 128 Ga h)) where
  q i e := by rw [V_main_arg0]; exact hq (ix2 i e)
  k i e := by rw [V_main_arg1]; exact hk (ix2 i e)
  v i e := by rw [V_main_arg2]; exact hv (ix2 i e)
  g i e := by rw [V_main_arg3]; exact hg (ix2 i e)
  l h i := by rw [V_split]; exact last_l hq hk (first_s m c) h i
  d h i := by rw [V_split]; exact last_d hq hk hv hg (first_s m c) (first_arg2 m c) (first_arg3 m c) h i

end Entries

end Cert.Dq
end
-- ==== Proof.FwdModel.lean ====
/-
Causal attention's forward pass as the kernel computes it, over real scores and extended real values, for one query: its keys are taken block by block,
the block of the query's own position first and earlier blocks after it, and after every block three numbers are kept: the
largest score so far, the sum of the exponentials over it, and the sum of the values weighted by them. A new block moves the
two sums to the new largest score; after the last block they give the head's output and the logarithm of the query's sum.
-/
module

public import proofs.«01_k».proof.Proof.Model

@[expose] public section

noncomputable section

namespace Cert.Fwd

open Finset
open Cert.Dkv (S M E E_nonneg Z Z_pos Lse)

/-- The largest of the scores of the keys from `a` to `a + n`. -/
def mx (s : ℕ → ℝ) (a n : ℕ) : ℝ := (range (n + 1)).sup' ⟨0, by simp⟩ fun x => s (a + x)
/-- The exponential of a score over the largest. -/
def ex (s : ℕ → ℝ) (a n x : ℕ) : ℝ := Real.exp (s (a + x) - mx s a n)
/-- The sum of the exponentials. -/
def zs (s : ℕ → ℝ) (a n : ℕ) : ℝ := ∑ x ∈ range (n + 1), ex s a n x
/-- The sum of the values, weighted by the exponentials. -/
def av (s : ℕ → ℝ) (v : ℕ → EReal) (a n : ℕ) : EReal := ∑ x ∈ range (n + 1), (ex s a n x : EReal) * v (a + x)
/-- The head's output. -/
def Out (Q K : ℕ → ℕ → ℝ) (V : ℕ → ℕ → EReal) (i c : ℕ) : EReal := ∑ j ∈ range 8192, V j c * ((E Q K i j / Z Q K i : ℝ) : EReal)
/-- The columns of head `h` of the values, 128 wide. -/
def headV (A : ℕ → ℕ → EReal) (h : ℕ) : ℕ → ℕ → EReal := fun j d => A j (h * 128 + d)

/-- A real that is not negative times a sum is the sum of the products, infinite terms or not. -/
theorem mul_sum_coe {c : ℝ} (hc : 0 ≤ c) (t : Finset ℕ) (f : ℕ → EReal) : (c : EReal) * ∑ x ∈ t, f x = ∑ x ∈ t, (c : EReal) * f x := by
  classical
  induction t using Finset.induction_on with
  | empty => rw [sum_empty, sum_empty, mul_zero]
  | insert a t ha ih =>
    rw [sum_insert ha, sum_insert ha, EReal.left_distrib_of_nonneg_of_ne_top (EReal.coe_nonneg.mpr hc) (EReal.coe_ne_top c), ih]

theorem le_mx (s : ℕ → ℝ) (a : ℕ) {n x : ℕ} (h : x ≤ n) : s (a + x) ≤ mx s a n :=
  le_sup' (fun x => s (a + x)) (mem_range.mpr (by omega))

theorem exists_mx (s : ℕ → ℝ) (a n : ℕ) : ∃ x ≤ n, mx s a n = s (a + x) := by
  obtain ⟨x, hx, e⟩ := exists_mem_eq_sup' (s := range (n + 1)) ⟨0, by simp⟩ fun x => s (a + x)
  exact ⟨x, by have := mem_range.mp hx; omega, e⟩

/-- The largest of a row in which the mask leaves the keys up to `y`. -/
theorem fold_masked (s : ℕ → ℝ) (a y : ℕ) {n : ℕ} (hy : y < n) :
    max (⊥ : EReal) ((univ : Finset (Fin n)).fold max (⊥ : EReal) fun x => if x.val ≤ y then ((s (a + x.val) : ℝ) : EReal) else ⊥)
      = ((mx s a y : ℝ) : EReal) := by
  rw [max_eq_right bot_le]
  refine le_antisymm ((fold_max_le _).mpr ⟨bot_le, fun k _ => ?_⟩) ((le_fold_max _).mpr (Or.inr ?_))
  · split_ifs with h
    · exact EReal.coe_le_coe_iff.mpr (le_mx s a h)
    · exact bot_le
  · obtain ⟨x, hx, e⟩ := exists_mx s a y
    refine ⟨⟨x, by omega⟩, mem_univ _, ?_⟩
    rw [e, if_pos hx]

/-- The larger of the largest of later keys and a block's scores is the largest of them all. -/
theorem fold_block (s : ℕ → ℝ) (a n k : ℕ) :
    max ((mx s (a + n) k : ℝ) : EReal) ((univ : Finset (Fin n)).fold max (⊥ : EReal) fun x => ((s (a + x.val) : ℝ) : EReal))
      = ((mx s a (n + k) : ℝ) : EReal) := by
  refine le_antisymm (max_le ?_ ((fold_max_le _).mpr ⟨bot_le, fun x _ => ?_⟩)) ?_
  · obtain ⟨x, hx, e⟩ := exists_mx s (a + n) k
    rw [e, Nat.add_assoc]
    exact EReal.coe_le_coe_iff.mpr (le_mx s a (by omega))
  · exact EReal.coe_le_coe_iff.mpr (le_mx s a (by have := x.2; omega))
  · obtain ⟨x, hx, e⟩ := exists_mx s a (n + k)
    rw [e]
    by_cases h : x < n
    · exact le_max_of_le_right ((le_fold_max _).mpr (Or.inr ⟨⟨x, h⟩, mem_univ _, le_refl _⟩))
    · refine le_max_of_le_left (EReal.coe_le_coe_iff.mpr ?_)
      have := le_mx s (a + n) (n := k) (x := x - n) (by omega)
      rwa [show a + n + (x - n) = a + x by omega] at this

/-- A sum over a row in which the mask leaves the keys up to `y`. -/
theorem sum_masked {R : Type} [AddCommMonoid R] (f : ℕ → R) {y n : ℕ} (hy : y < n) : ∑ x ∈ range n, (if x ≤ y then f x else 0) = ∑ x ∈ range (y + 1), f x := by
  rw [← sum_filter]
  exact sum_congr (by ext x; simp only [mem_filter, mem_range]; omega) fun _ _ => rfl

/-- The exponentials of later keys, moved to the new largest score. -/
theorem ex_move (s : ℕ → ℝ) (a n k x : ℕ) :
    Real.exp (mx s (a + n) k - mx s a (n + k)) * ex s (a + n) k x = ex s a (n + k) (n + x) := by
  rw [ex, ex, ← Real.exp_add, Nat.add_assoc]
  congr 1; ring

theorem zs_step (s : ℕ → ℝ) (a n k : ℕ) :
    Real.exp (mx s (a + n) k - mx s a (n + k)) * zs s (a + n) k + ∑ x ∈ range n, ex s a (n + k) x = zs s a (n + k) := by
  rw [zs, zs, mul_sum, Nat.add_assoc, sum_range_add (ex s a (n + k)) n (k + 1), add_comm]
  exact congrArg _ (sum_congr rfl fun x _ => ex_move s a n k x)

theorem av_step (s : ℕ → ℝ) (v : ℕ → EReal) (a n k : ℕ) :
    ((Real.exp (mx s (a + n) k - mx s a (n + k)) : ℝ) : EReal) * av s v (a + n) k + ∑ x ∈ range n, (ex s a (n + k) x : EReal) * v (a + x)
      = av s v a (n + k) := by
  rw [av, av, mul_sum_coe (Real.exp_pos _).le, Nat.add_assoc, sum_range_add (fun x => (ex s a (n + k) x : EReal) * v (a + x)) n (k + 1), add_comm]
  exact congrArg _ (sum_congr rfl fun x _ => by rw [← mul_assoc, ← EReal.coe_mul, ex_move, Nat.add_assoc])

/-! The sums over all of a query's keys. -/

theorem mx_all (Q K : ℕ → ℕ → ℝ) (i : ℕ) : mx (S Q K i) 0 i = M Q K i := by
  unfold mx M
  exact sup'_congr _ rfl fun x _ => by rw [Nat.zero_add]

theorem ex_all (Q K : ℕ → ℕ → ℝ) {i x : ℕ} (h : x ≤ i) : ex (S Q K i) 0 i x = E Q K i x := by
  rw [ex, mx_all, E, if_pos h, Nat.zero_add]

/-- The causal keys of a query are all the keys that count. -/
theorem sum_causal {R : Type} [AddCommMonoid R] (f : ℕ → R) {i : ℕ} (hi : i < 8192) (h : ∀ x, i < x → f x = 0) : ∑ x ∈ range (i + 1), f x = ∑ x ∈ range 8192, f x :=
  sum_subset (fun x hx => mem_range.mpr (by have := mem_range.mp hx; omega)) fun x _ hx =>
    h x (by have : ¬x < i + 1 := fun h => hx (mem_range.mpr h); omega)

theorem zs_all (Q K : ℕ → ℕ → ℝ) {i : ℕ} (hi : i < 8192) : zs (S Q K i) 0 i = Z Q K i := by
  rw [zs, Z, ← sum_causal (E Q K i) hi fun x hx => if_neg (by omega)]
  exact sum_congr rfl fun x hx => ex_all Q K (by have := mem_range.mp hx; omega)

/-- The weighted values over the exponentials are the head's output. -/
theorem av_all (Q K : ℕ → ℕ → ℝ) (V : ℕ → ℕ → EReal) (c : ℕ) {i : ℕ} (hi : i < 8192) :
    av (S Q K i) (fun j => V j c) 0 i * ((1 / zs (S Q K i) 0 i : ℝ) : EReal) = Out Q K V i c := by
  rw [zs_all Q K hi, Out, ← sum_causal _ hi fun x hx => by rw [E, if_neg (by omega), zero_div, EReal.coe_zero, mul_zero], av, mul_comm,
    mul_sum_coe (one_div_nonneg.mpr (Z_pos Q K hi).le)]
  refine sum_congr rfl fun x hx => ?_
  rw [ex_all Q K (by have := mem_range.mp hx; omega), Nat.zero_add, ← mul_assoc, ← EReal.coe_mul, one_div_mul_eq_div, mul_comm]

/-- The largest score plus the logarithm of the sum is the saved logarithm. -/
theorem lse_all (Q K : ℕ → ℕ → ℝ) {i : ℕ} (hi : i < 8192) :
    mx (S Q K i) 0 i + Real.log (zs (S Q K i) 0 i) = Lse Q K i := by
  rw [mx_all, zs_all Q K hi, Lse]

theorem zs_pos (s : ℕ → ℝ) (a n : ℕ) : 0 < zs s a n :=
  sum_pos (fun _ _ => Real.exp_pos _) ⟨0, by simp⟩

end Cert.Fwd

end
-- ==== Proof.FwdTile.lean ====
/-
One strip of the forward pass's body over the extended reals: 256 queries against `n` keys. The operations the body prints
for it, at a variable number of keys, and what they leave in the largest scores, the sums and the weighted values when the
row of scores is real or masked.
-/
module

public import proofs.«01_k».proof.Proof.DqTile
public import proofs.«01_k».proof.Proof.FwdModel
public import Idealize.ShloMosaic.Lib.ValueLayoutCasts
public import proofs.«01_k».proof.Proof.Gen.Kernel18Ideal.Frame

@[expose] public section

set_option maxRecDepth 16384

noncomputable section

namespace Cert.Fwd

open Finset Idealize.ShloMosaic Idealize.ShloMosaic.ValueIdx Idealize.ShloMosaic.TcCoe Idealize.ShloMosaic.Tactic
open Cert.Dkv (Blk S sum_fin_coe)
open Cert.Dq (Col2 scores scores_apply seen seen_apply)

/-- A number for each query of a strip. -/
abbrev Row1 : Shape := ⟨1, ![256]⟩

section Ops

variable {n : ℕ}

/-- The scores of a block on the diagonal. -/
def masked (w : ℕ) (h0 : (Blk 256 n).Iotas .tc 32 [0]) (h1 : (Blk 256 n).Iotas .tc 32 [1]) (q : Vec Ideal (Blk 256 256) .bf16)
    (k : Vec Ideal (Blk n 256) .bf16) : FVec Ideal (Blk 256 n) .f32 :=
  select (seen w h0 h1) (scores q k) (broadcast (Blk 256 n) (Named.named Cert.Kernel18Ideal.κ "mask" 0xF149F2CA#32 : Ideal .f32))

variable (hr : (Blk 256 n).Reduces [1] Row1) (hc : Row1.ShapeCasts Col2) (hb : Col2.Broadcasts (Blk 256 n))
  (ho : Col2.Broadcasts (Blk 256 128)) (h1 : Col2.ShapeCasts Col2) (h128 : (Blk 256 128).ShapeCasts (Blk 256 128))
  (hw : FTy.bf16.bits < FTy.f32.bits)
  (sc : FVec Ideal (Blk 256 n) .f32) (m l : Vec Ideal Col2 .f32) (acc : Vec Ideal (Blk 256 128) .f32) (v : Vec Ideal (Blk n 128) .bf16)

/-- The largest scores after the strip. -/
def maxs : FVec Ideal Col2 .f32 :=
  maximumf m (shapeCast Col2 (multiReduction .maximumf [1] Row1 sc 0xFF800000#32 hr (.inl rfl) rfl) hc)

/-- The strip's exponentials. -/
def exps : FVec Ideal (Blk 256 n) .f32 := exp (subf sc (broadcastTo (Blk 256 n) (maxs hr hc sc m) hb))

/-- What moves the earlier sums to the new largest scores. -/
def moves : FVec Ideal Col2 .f32 := exp (subf m (maxs hr hc sc m))

def mTile : FVec Ideal Col2 .f32 := shapeCast Col2 (maxs hr hc sc m) h1

def lTile : FVec Ideal Col2 .f32 :=
  shapeCast Col2 (addf (mulf (moves hr hc sc m) l)
    (shapeCast Col2 (multiReduction .add [1] Row1 (exps hr hc hb sc m) 0x00000000#32 hr (.inl rfl) rfl) hc)) h1

def aTile : FVec Ideal (Blk 256 128) .f32 :=
  shapeCast (Blk 256 128) (addf (mulf (broadcastTo (Blk 256 128) (moves hr hc sc m) ho) acc)
    (matmul (φ₁ := .bf16) (φ₂ := .bf16) (DotDims.plain 256 n 128) none (truncf .bf16 (exps hr hc hb sc m) hw) v
      (constant (Blk 256 128) .f32 0x00000000#32))) h128

end Ops

/-- One query's row of scores `σ` over an earlier largest score `μ`: the new largest, the exponentials, and the factor that
    moves the earlier sums. -/
structure Row {n : ℕ} (σ : Fin n → EReal) (μ : EReal) (ν : ℝ) (e : ℕ → ℝ) (al : ℝ) : Prop where
  max : max μ ((univ : Finset (Fin n)).fold max (⊥ : EReal) σ) = (ν : EReal)
  exps : ∀ x : Fin n, Ideal.exp (σ x - (ν : EReal)) = (e x : EReal)
  moves : Ideal.exp (μ - (ν : EReal)) = (al : EReal)

section Values

variable {n : ℕ}

/-- The scores of a masked row, from no earlier keys. -/
theorem row_masked (s : ℕ → ℝ) (a y : ℕ) (hy : y < n) :
    Row (fun x : Fin n => if x.val ≤ y then ((s (a + x.val) : ℝ) : EReal) else ⊥) ⊥ (mx s a y) (fun x => if x ≤ y then ex s a y x else 0) 0 where
  max := fold_masked s a y hy
  exps x := by
    split_ifs with h
    · rw [← EReal.coe_sub, Ideal.exp_coe, ex]
    · rw [EReal.bot_sub, Ideal.exp_bot, EReal.coe_zero]
  moves := by rw [EReal.bot_sub, Ideal.exp_bot, EReal.coe_zero]

/-- The scores of a whole row, from the later keys' largest. -/
theorem row_block (s : ℕ → ℝ) (a k : ℕ) {N : ℕ} (h : n = N) :
    Row (fun x : Fin n => ((s (a + x.val) : ℝ) : EReal)) (mx s (a + N) k : ℝ) (mx s a (N + k)) (ex s a (N + k))
      (Real.exp (mx s (a + N) k - mx s a (N + k))) where
  max := by subst h; exact fold_block s a n k
  exps x := by rw [← EReal.coe_sub, Ideal.exp_coe, ex]
  moves := by rw [← EReal.coe_sub, Ideal.exp_coe]

theorem lift_row (h : (Blk 256 n).Reduces [1] Row1) (r : Fin 256) (k : Fin n) : h.lift (ix1 r) k = ix2 r k := by
  funext c; apply Fin.ext
  fin_cases c <;> rfl

variable (hr : (Blk 256 n).Reduces [1] Row1) (hc : Row1.ShapeCasts Col2) (hb : Col2.Broadcasts (Blk 256 n))
  (ho : Col2.Broadcasts (Blk 256 128)) (h1 : Col2.ShapeCasts Col2) (h128 : (Blk 256 128).ShapeCasts (Blk 256 128))
  (hw : FTy.bf16.bits < FTy.f32.bits)
  {sc : FVec Ideal (Blk 256 n) .f32} {m l : Vec Ideal Col2 .f32} {acc : Vec Ideal (Blk 256 128) .f32} {v : Vec Ideal (Blk n 128) .bf16}
  {σ : Fin n → EReal} {μ : EReal} {ν : ℝ} {e : ℕ → ℝ} {al : ℝ} {r : Fin 256}

theorem maxs_apply (R : Row σ μ ν e al) (hs : ∀ x, sc (ix2 r x) = σ x) (hm : m (ix2 r (0 : Fin 1)) = μ) :
    maxs hr hc sc m (ix2 r (0 : Fin 1)) = (ν : EReal) := by
  rw [maxs, maximumf_apply, shapeCast_a_a1_apply, hm, ← R.max]
  refine congrArg (max μ) ((Ideal.multiReduction_maximumf_single sc 0xFF800000#32 hr (.inl rfl) rfl (ix1 r)).trans ?_)
  have hf : (sc ∘ hr.lift (ix1 r)) = σ := funext fun k => (congrArg sc (lift_row hr r k)).trans (hs k)
  have hb : (FloatOps.ofBits (F := Ideal) .f32 0xFF800000#32) = (⊥ : EReal) := by
    show Ideal.ofBits .f32 0xFF800000#32 = ⊥; simp [Ideal.ofBits, Ideal.ieee]
  rw [hb]
  exact congrArg (fun f => Finset.fold max (⊥ : EReal) f (univ : Finset (Fin n))) hf

theorem exps_apply (R : Row σ μ ν e al) (hs : ∀ x, sc (ix2 r x) = σ x) (hm : m (ix2 r (0 : Fin 1)) = μ) (x : Fin n) :
    exps hr hc hb sc m (ix2 r x) = (e x : EReal) := by
  have h := broadcastTo_apply (maxs hr hc sc m) hb (ix2 r x) (ix2 r (0 : Fin 1)) fun a => by
    match a with
    | ⟨0, _⟩ => exact (if_neg (show ¬(256 = 1) by decide)).symm
    | ⟨1, _⟩ => exact (if_pos (show 1 = 1 from rfl)).symm
  show Ideal.exp (sc (ix2 r x) - broadcastTo (Blk 256 n) (maxs hr hc sc m) hb (ix2 r x)) = _
  rw [h, maxs_apply hr hc R hs hm, hs, R.exps]

theorem moves_apply (R : Row σ μ ν e al) (hs : ∀ x, sc (ix2 r x) = σ x) (hm : m (ix2 r (0 : Fin 1)) = μ) :
    moves hr hc sc m (ix2 r (0 : Fin 1)) = (al : EReal) := by
  show Ideal.exp (m (ix2 r (0 : Fin 1)) - maxs hr hc sc m (ix2 r (0 : Fin 1))) = _
  rw [maxs_apply hr hc R hs hm, hm, R.moves]

theorem mTile_apply (R : Row σ μ ν e al) (hs : ∀ x, sc (ix2 r x) = σ x) (hm : m (ix2 r (0 : Fin 1)) = μ) :
    mTile hr hc h1 sc m (ix2 r (0 : Fin 1)) = (ν : EReal) := by
  rw [mTile, shapeCast_self, maxs_apply hr hc R hs hm]

theorem lTile_apply (R : Row σ μ ν e al) (hs : ∀ x, sc (ix2 r x) = σ x) (hm : m (ix2 r (0 : Fin 1)) = μ) {B : ℝ}
    (hl : l (ix2 r (0 : Fin 1)) = (B : EReal)) :
    lTile hr hc hb h1 sc m l (ix2 r (0 : Fin 1)) = ((al * B + ∑ x ∈ range n, e x : ℝ) : EReal) := by
  rw [lTile, shapeCast_self, addf_apply, mulf_apply, moves_apply hr hc R hs hm, hl, shapeCast_a_a1_apply, EReal.coe_add, EReal.coe_mul]
  refine congrArg (_ + ·) ((Ideal.multiReduction_add_single _ 0x00000000#32 hr (.inl rfl) rfl (ix1 r)).trans (sum_fin_coe _ e fun k => ?_))
  exact (congrArg _ (lift_row hr r k)).trans (exps_apply hr hc hb R hs hm k)

theorem aTile_apply (R : Row σ μ ν e al) (hs : ∀ x, sc (ix2 r x) = σ x) (hm : m (ix2 r (0 : Fin 1)) = μ) {A : EReal} {c : Fin 128}
    (ha : acc (ix2 r c) = A) {u : ℕ → EReal} (hv : ∀ x : Fin n, v (ix2 x c) = u x) :
    aTile hr hc hb ho h128 hw sc m acc v (ix2 r c) = (al : EReal) * A + ∑ x ∈ range n, (e x : EReal) * u x := by
  have h := broadcastTo_apply (moves hr hc sc m) ho (ix2 r c) (ix2 r (0 : Fin 1)) fun a => by
    match a with
    | ⟨0, _⟩ => exact (if_neg (show ¬(256 = 1) by decide)).symm
    | ⟨1, _⟩ => exact (if_pos (show 1 = 1 from rfl)).symm
  rw [aTile, shapeCast_self, addf_apply, mulf_apply, h, moves_apply hr hc R hs hm, ha, matmul, Ideal.matmul_plain_apply, constant_apply,
    Ideal.ofBits_zero_f32, zero_add, sum_range]
  refine congrArg (_ + ·) (sum_congr rfl fun k _ => ?_)
  rw [truncf_apply, exps_apply hr hc hb R hs hm, hv]

/-- A row of a block on the diagonal. -/
theorem masked_apply {Q K : ℕ → ℕ → ℝ} {i0 j0 : ℕ} (w : ℕ) (hw : w + 256 < 2 ^ 31) (hn : n < 2 ^ 31) (h0 : (Blk 256 n).Iotas .tc 32 [0])
    (h1 : (Blk 256 n).Iotas .tc 32 [1]) (q : Vec Ideal (Blk 256 256) .bf16) (k : Vec Ideal (Blk n 256) .bf16)
    (hq : ∀ (r d : Fin 256), q (ix2 r d) = (Q (i0 + r) d : EReal))
    (hk : ∀ (x : Fin n) (d : Fin 256), k (ix2 x d) = (K (j0 + x) d : EReal)) (r : Fin 256) (x : Fin n) :
    masked w h0 h1 q k (ix2 r x) = if x.val ≤ w + r.val then ((S Q K (i0 + r) (j0 + x.val) : ℝ) : EReal) else ⊥ := by
  show Scalar.select (seen w h0 h1 (ix2 r x)) (scores q k (ix2 r x)) (Named.named Cert.Kernel18Ideal.κ "mask" 0xF149F2CA#32 : Ideal .f32) = _
  rw [seen_apply w hw hn, scores_apply q k hq hk]
  have hm : (Named.named Cert.Kernel18Ideal.κ "mask" 0xF149F2CA#32 : Ideal .f32) = (⊥ : EReal) := rfl
  rw [hm]
  by_cases h : x.val ≤ w + r.val
  · rw [if_pos h, decide_eq_true h]; rfl
  · rw [if_neg h, decide_eq_false h]; rfl

end Values

end Cert.Fwd

end
-- ==== Proof.FwdStrips.lean ====
/-
What the forward pass's body leaves at every point: eight strips of 256 queries, stored one under the other in the largest
scores, the sums and the weighted values. On the diagonal they start afresh; below it, from what the point before left.
-/
module

public import proofs.«01_k».proof.Proof.FwdTile

@[expose] public section

set_option maxRecDepth 16384

noncomputable section

namespace Cert.Fwd

open Finset Idealize.ShloMosaic Idealize.ShloMosaic.ValueIdx Idealize.ShloMosaic.TcCoe Idealize.ShloMosaic.Tactic
open Cert.Dkv (Blk S ld_rows canon_rows tileAt_rows InbRows)
open Cert.Dq (Col2 scores scores_apply)
open Cert.Kernel18Ideal Cert.Kernel18Ideal.Gen

/-- A load of a whole memref's rectangle is the rectangle of its contents. -/
theorem readAt_unread_eq {κ : Kind} {sp : Space} {s : Shape} {e : EltTy} {m : Memref Kernel18Ideal.sig κ sp s e} (h : m.IsWhole)
    (X : s.Idx → Elt Ideal e) (R : Rect s) :
    View.readAt (Elt Ideal) m.view R.toLoadRect (h.unread X) = View.ld X R :=
  funext fun x => h.readAt_unread X R.toLoadRect x

/-- A load of the whole buffer, read back over junk, is what the stores left. -/
theorem readCov_whole {sp : Space} {M N : ℕ} {e : EltTy} {κ : Kind} (v : View Kernel18Ideal.sig κ sp ⟨2, ![M, N]⟩ e)
    (Ls : List (View.Piece (Elt Ideal) ⟨2, ![M, N]⟩ e))
    (inb : ∀ ax, (![0, 0] : Fin 2 → ℕ) ax + (![M, N] : Fin 2 → ℕ) ax ≤ (⟨2, ![M, N]⟩ : Shape).size ax) :
    v.readCov Ls (Rect.unit (s := ⟨2, ![M, N]⟩) ![0, 0] ![M, N] inb).toLoadRect = View.canon Ls := by
  rw [View.readCov_eq_canon']
  funext x
  refine congrArg (View.canon Ls) (funext fun ax => Fin.ext ?_)
  match ax with
  | ⟨0, _⟩ => show 0 + 1 * (x 0).val = (x 0).val; omega
  | ⟨1, _⟩ => show 0 + 1 * (x 1).val = (x 1).val; omega

/-- A strip: its first query `o` in the block, the number `n` of keys it meets, and that what it reads and stores fits. -/
structure Strip where
  o : ℕ
  n : ℕ
  h0 : (Blk 256 n).Iotas .tc 32 [0]
  h1 : (Blk 256 n).Iotas .tc 32 [1]
  hb : Col2.Broadcasts (Blk 256 n)
  hr : (Blk 256 n).Reduces [1] Row1
  bq : InbRows 2048 256 256 o
  bk : InbRows 2048 256 n 0
  bv : InbRows 2048 128 n 0
  ba : InbRows 2048 128 256 o
  bm : InbRows 2048 1 256 o

/-- The strips of a block on the diagonal, the last first: each meets the keys up to its last query. -/
def diag : List Strip :=
  [⟨1792, 2048, iota_S256x2048_d0_w32, iota_S256x2048_d1_w32, broadcasts_S256x1_S256x2048, reduces_S256x2048_S256, inb_S2048x256_S256x256_1792_0,
      inb_S2048x256_S2048x256_0_0, inb_S2048x128_S2048x128_0_0, inb_S2048x128_S256x128_1792_0, inb_S2048x1_S256x1_1792_0⟩,
    ⟨1536, 1792, iota_S256x1792_d0_w32, iota_S256x1792_d1_w32, broadcasts_S256x1_S256x1792, reduces_S256x1792_S256, inb_S2048x256_S256x256_1536_0,
      inb_S2048x256_S1792x256_0_0, inb_S2048x128_S1792x128_0_0, inb_S2048x128_S256x128_1536_0, inb_S2048x1_S256x1_1536_0⟩,
    ⟨1280, 1536, iota_S256x1536_d0_w32, iota_S256x1536_d1_w32, broadcasts_S256x1_S256x1536, reduces_S256x1536_S256, inb_S2048x256_S256x256_1280_0,
      inb_S2048x256_S1536x256_0_0, inb_S2048x128_S1536x128_0_0, inb_S2048x128_S256x128_1280_0, inb_S2048x1_S256x1_1280_0⟩,
    ⟨1024, 1280, iota_S256x1280_d0_w32, iota_S256x1280_d1_w32, broadcasts_S256x1_S256x1280, reduces_S256x1280_S256, inb_S2048x256_S256x256_1024_0,
      inb_S2048x256_S1280x256_0_0, inb_S2048x128_S1280x128_0_0, inb_S2048x128_S256x128_1024_0, inb_S2048x1_S256x1_1024_0⟩,
    ⟨768, 1024, iota_S256x1024_d0_w32, iota_S256x1024_d1_w32, broadcasts_S256x1_S256x1024, reduces_S256x1024_S256, inb_S2048x256_S256x256_768_0,
      inb_S2048x256_S1024x256_0_0, inb_S2048x128_S1024x128_0_0, inb_S2048x128_S256x128_768_0, inb_S2048x1_S256x1_768_0⟩,
    ⟨512, 768, iota_S256x768_d0_w32, iota_S256x768_d1_w32, broadcasts_S256x1_S256x768, reduces_S256x768_S256, inb_S2048x256_S256x256_512_0,
      inb_S2048x256_S768x256_0_0, inb_S2048x128_S768x128_0_0, inb_S2048x128_S256x128_512_0, inb_S2048x1_S256x1_512_0⟩,
    ⟨256, 512, iota_S256x512_d0_w32, iota_S256x512_d1_w32, broadcasts_S256x1_S256x512, reduces_S256x512_S256, inb_S2048x256_S256x256_256_0,
      inb_S2048x256_S512x256_0_0, inb_S2048x128_S512x128_0_0, inb_S2048x128_S256x128_256_0, inb_S2048x1_S256x1_256_0⟩,
    ⟨0, 256, iota_S256x256_d0_w32, iota_S256x256_d1_w32, broadcasts_S256x1_S256x256, reduces_S256x256_S256, inb_S2048x256_S256x256_0_0,
      inb_S2048x256_S256x256_0_0, inb_S2048x128_S256x128_0_0, inb_S2048x128_S256x128_0_0, inb_S2048x1_S256x1_0_0⟩]

/-- The strips of a block below the diagonal, the last first: each meets the whole block of keys. -/
def below : List Strip :=
  [⟨1792, 2048, iota_S256x2048_d0_w32, iota_S256x2048_d1_w32, broadcasts_S256x1_S256x2048, reduces_S256x2048_S256, inb_S2048x256_S256x256_1792_0,
      inb_S2048x256_S2048x256_0_0, inb_S2048x128_S2048x128_0_0, inb_S2048x128_S256x128_1792_0, inb_S2048x1_S256x1_1792_0⟩,
    ⟨1536, 2048, iota_S256x2048_d0_w32, iota_S256x2048_d1_w32, broadcasts_S256x1_S256x2048, reduces_S256x2048_S256, inb_S2048x256_S256x256_1536_0,
      inb_S2048x256_S2048x256_0_0, inb_S2048x128_S2048x128_0_0, inb_S2048x128_S256x128_1536_0, inb_S2048x1_S256x1_1536_0⟩,
    ⟨1280, 2048, iota_S256x2048_d0_w32, iota_S256x2048_d1_w32, broadcasts_S256x1_S256x2048, reduces_S256x2048_S256, inb_S2048x256_S256x256_1280_0,
      inb_S2048x256_S2048x256_0_0, inb_S2048x128_S2048x128_0_0, inb_S2048x128_S256x128_1280_0, inb_S2048x1_S256x1_1280_0⟩,
    ⟨1024, 2048, iota_S256x2048_d0_w32, iota_S256x2048_d1_w32, broadcasts_S256x1_S256x2048, reduces_S256x2048_S256, inb_S2048x256_S256x256_1024_0,
      inb_S2048x256_S2048x256_0_0, inb_S2048x128_S2048x128_0_0, inb_S2048x128_S256x128_1024_0, inb_S2048x1_S256x1_1024_0⟩,
    ⟨768, 2048, iota_S256x2048_d0_w32, iota_S256x2048_d1_w32, broadcasts_S256x1_S256x2048, reduces_S256x2048_S256, inb_S2048x256_S256x256_768_0,
      inb_S2048x256_S2048x256_0_0, inb_S2048x128_S2048x128_0_0, inb_S2048x128_S256x128_768_0, inb_S2048x1_S256x1_768_0⟩,
    ⟨512, 2048, iota_S256x2048_d0_w32, iota_S256x2048_d1_w32, broadcasts_S256x1_S256x2048, reduces_S256x2048_S256, inb_S2048x256_S256x256_512_0,
      inb_S2048x256_S2048x256_0_0, inb_S2048x128_S2048x128_0_0, inb_S2048x128_S256x128_512_0, inb_S2048x1_S256x1_512_0⟩,
    ⟨256, 2048, iota_S256x2048_d0_w32, iota_S256x2048_d1_w32, broadcasts_S256x1_S256x2048, reduces_S256x2048_S256, inb_S2048x256_S256x256_256_0,
      inb_S2048x256_S2048x256_0_0, inb_S2048x128_S2048x128_0_0, inb_S2048x128_S256x128_256_0, inb_S2048x1_S256x1_256_0⟩,
    ⟨0, 2048, iota_S256x2048_d0_w32, iota_S256x2048_d1_w32, broadcasts_S256x1_S256x2048, reduces_S256x2048_S256, inb_S2048x256_S256x256_0_0,
      inb_S2048x256_S2048x256_0_0, inb_S2048x128_S2048x128_0_0, inb_S2048x128_S256x128_0_0, inb_S2048x1_S256x1_0_0⟩]

/-- Strips that lie one on the other, the last first, down from row `h`. -/
def Stack : List Strip → ℕ → Prop
  | [], h => h = 0
  | t :: L, h => h = t.o + 256 ∧ Stack L t.o

theorem stack_diag : Stack diag 2048 := ⟨rfl, rfl, rfl, rfl, rfl, rfl, rfl, rfl, rfl⟩
theorem stack_below : Stack below 2048 := ⟨rfl, rfl, rfl, rfl, rfl, rfl, rfl, rfl, rfl⟩

theorem of_diag {t : Strip} (h : t ∈ diag) : t.n = t.o + 256 ∧ t.o + 256 ≤ 2048 := by
  simp only [diag, List.mem_cons, List.not_mem_nil, or_false] at h
  rcases h with rfl | rfl | rfl | rfl | rfl | rfl | rfl | rfl <;> decide

theorem of_below {t : Strip} (h : t ∈ below) : t.n = 2048 ∧ t.o + 256 ≤ 2048 := by
  simp only [below, List.mem_cons, List.not_mem_nil, or_false] at h
  rcases h with rfl | rfl | rfl | rfl | rfl | rfl | rfl | rfl <;> decide

/-- What a stack of strips stores, row by row. -/
theorem canon_stack {N : ℕ} {e : EltTy} (w : Strip → Vec Ideal ⟨2, ![256, N]⟩ e) (b : ∀ t : Strip, InbRows 2048 N 256 t.o)
    (Ls : List (View.Piece (Elt Ideal) (Blk 2048 N) e)) (y : Fin 2048) (c : Fin N) (v : Elt Ideal e) :
    ∀ (L : List Strip) (h : ℕ), Stack L h → y.val < h → (∀ t ∈ L, ∀ r : Fin 256, y.val = t.o + r.val → w t (ix2 r c) = v) →
      View.canon (L.map (fun t => (⟨Rect.unit ![t.o, 0] ![256, N] (b t), w t⟩ : View.Piece (Elt Ideal) (Blk 2048 N) e)) ++ Ls) (ix2 y c) = v
  | [], h, hs, hy, _ => absurd hy (by have : h = 0 := hs; omega)
  | t :: L, h, hs, hy, hw =>
    canon_rows (b t) (w t) _ v y c (by have := hs.1; omega) (tileAt_rows _ _ y c (hw t List.mem_cons_self)) fun hy' =>
      canon_stack w b Ls y c v L t.o hs.2 hy' fun t' ht' => hw t' (List.mem_cons_of_mem t ht')

variable (x0 x1 : Vec Ideal S2048x256 .bf16) (x2 : Vec Ideal S2048x128 .bf16) (m0 l0 : Vec Ideal S2048x1 .f32)
  (a0 : Vec Ideal S2048x128 .f32)

/-- A strip's scores on the diagonal. -/
def scM (t : Strip) : FVec Ideal (Blk 256 t.n) .f32 :=
  masked t.o t.h0 t.h1 (View.ld x0 (Rect.unit ![t.o, 0] ![256, 256] t.bq)) (View.ld x1 (Rect.unit ![0, 0] ![t.n, 256] t.bk))

/-- A strip's scores below the diagonal. -/
def scU (t : Strip) : FVec Ideal (Blk 256 t.n) .f32 :=
  scores (View.ld x0 (Rect.unit ![t.o, 0] ![256, 256] t.bq)) (View.ld x1 (Rect.unit ![0, 0] ![t.n, 256] t.bk))

variable (sc : (t : Strip) → FVec Ideal (Blk 256 t.n) .f32)

/-- A strip's largest scores, sums and weighted values, as they are stored. -/
def mW (t : Strip) : Vec Ideal (Blk 256 1) .f32 :=
  mTile t.hr shapeCasts_S256_S256x1 shapeCasts_S256x1_S256x1 (sc t) (View.ld m0 (Rect.unit ![t.o, 0] ![256, 1] t.bm))

def lW (t : Strip) : Vec Ideal (Blk 256 1) .f32 :=
  lTile t.hr shapeCasts_S256_S256x1 t.hb shapeCasts_S256x1_S256x1 (sc t) (View.ld m0 (Rect.unit ![t.o, 0] ![256, 1] t.bm))
    (View.ld l0 (Rect.unit ![t.o, 0] ![256, 1] t.bm))

def aW (t : Strip) : Vec Ideal (Blk 256 128) .f32 :=
  aTile t.hr shapeCasts_S256_S256x1 t.hb broadcasts_S256x1_S256x128 shapeCasts_S256x128_S256x128 bitsLt_bf16_f32 (sc t)
    (View.ld m0 (Rect.unit ![t.o, 0] ![256, 1] t.bm)) (View.ld a0 (Rect.unit ![t.o, 0] ![256, 128] t.ba))
    (View.ld x2 (Rect.unit ![0, 0] ![t.n, 128] t.bv))

def mPieces (L : List Strip) : List (View.Piece (Elt Ideal) (Blk 2048 1) .f32) :=
  L.map fun t => ⟨Rect.unit ![t.o, 0] ![256, 1] t.bm, mW m0 sc t⟩

def lPieces (L : List Strip) : List (View.Piece (Elt Ideal) (Blk 2048 1) .f32) :=
  L.map fun t => ⟨Rect.unit ![t.o, 0] ![256, 1] t.bm, lW m0 l0 sc t⟩

def aPieces (L : List Strip) : List (View.Piece (Elt Ideal) (Blk 2048 128) .f32) :=
  L.map fun t => ⟨Rect.unit ![t.o, 0] ![256, 128] t.ba, aW x2 m0 a0 sc t⟩

/-- What a point brings in: the block of queries from `i0` on and the block of keys from `j0` on, the queries and keys as
    real numbers. -/
structure Pt (Q K : ℕ → ℕ → ℝ) (V : ℕ → ℕ → EReal) (i0 j0 : ℕ) : Prop where
  q : ∀ (r : Fin 2048) (d : Fin 256), x0 (ix2 r d) = (Q (i0 + r) d : EReal)
  k : ∀ (x : Fin 2048) (d : Fin 256), x1 (ix2 x d) = (K (j0 + x) d : EReal)
  v : ∀ (x : Fin 2048) (c : Fin 128), x2 (ix2 x c) = V (j0 + x) c

variable {x0 x1 x2 m0 l0 a0 sc} {Q K : ℕ → ℕ → ℝ} {V : ℕ → ℕ → EReal} {i0 j0 : ℕ}

/-- The scores of a row on the diagonal. -/
theorem scM_apply (I : Pt x0 x1 x2 Q K V j0 j0) {t : Strip} (hn : t.n = t.o + 256) (ho : t.o + 256 ≤ 2048) (y : Fin 2048) (r : Fin 256)
    (hy : y.val = t.o + r.val) (x : Fin t.n) :
    scM x0 x1 t (ix2 r x) = if x.val ≤ y.val then ((S Q K (j0 + y) (j0 + x.val) : ℝ) : EReal) else ⊥ := by
  rw [scM, masked_apply (Q := Q) (K := K) (i0 := j0 + t.o) (j0 := j0) t.o (by omega) (by omega) t.h0 t.h1 _ _ (fun r d => ?_)
    (fun x d => ?_) r x, hy, Nat.add_assoc]
  · rw [ld_rows x0 t.bq r d (by omega), I.q, Nat.add_assoc]
  · rw [ld_rows x1 t.bk x d (by omega), I.k]; simp

/-- The scores of a row below the diagonal. -/
theorem scU_apply (I : Pt x0 x1 x2 Q K V i0 j0) {t : Strip} (hn : t.n = 2048) (ho : t.o + 256 ≤ 2048) (y : Fin 2048) (r : Fin 256)
    (hy : y.val = t.o + r.val) (x : Fin t.n) : scU x0 x1 t (ix2 r x) = ((S Q K (i0 + y) (j0 + x.val) : ℝ) : EReal) := by
  rw [scU, scores_apply (Q := Q) (K := K) (i0 := i0 + t.o) (j0 := j0) _ _ (fun r d => ?_) (fun x d => ?_) r x, hy, Nat.add_assoc]
  · rw [ld_rows x0 t.bq r d (by omega), I.q, Nat.add_assoc]
  · rw [ld_rows x1 t.bk x d (by omega), I.k]; simp

/-- A strip's rows of a buffer, read at their own row. -/
theorem ld_own {N : ℕ} {z : Vec Ideal (Blk 2048 N) .f32} {o : ℕ} (b : InbRows 2048 N 256 o) (y : Fin 2048) (c : Fin N) {v : EReal}
    (h : z (ix2 y c) = v) (r : Fin 256) (hr : y.val = o + r) :
    View.ld (Val := Elt Ideal) z (Rect.unit ![o, 0] ![256, N] b) (ix2 r c) = v := by
  rw [ld_rows z b r c (by omega), ← h]; exact congrArg z (congrArg (ix2 · c) (Fin.ext hr.symm))

/-- The values of a block's keys. -/
theorem ld_v {i0 : ℕ} (I : Pt x0 x1 x2 Q K V i0 j0) {t : Strip} (hn : t.n ≤ 2048) (c : Fin 128) (x : Fin t.n) :
    View.ld (Val := Elt Ideal) x2 (Rect.unit ![0, 0] ![t.n, 128] t.bv) (ix2 x c) = V (j0 + x.val) c := by
  rw [ld_rows x2 t.bv x c (by omega), I.v]; simp

section Diag

variable (I : Pt x0 x1 x2 Q K V j0 j0) (y : Fin 2048) (hm : m0 (ix2 y (0 : Fin 1)) = (⊥ : EReal))

include I hm

theorem canon_m_diag (Ls : List (View.Piece (Elt Ideal) (Blk 2048 1) .f32)) :
    View.canon (mPieces m0 (scM x0 x1) diag ++ Ls) (ix2 y (0 : Fin 1)) = ((mx (S Q K (j0 + y)) j0 y : ℝ) : EReal) := by
  refine canon_stack (N := 1) (mW m0 (scM x0 x1)) (fun t => t.bm) Ls y 0 _ diag 2048 stack_diag y.2 fun t ht r hr => ?_
  obtain ⟨hn, ho⟩ := of_diag ht
  exact mTile_apply t.hr _ _ (row_masked (S Q K (j0 + y)) j0 y (by omega)) (scM_apply I hn ho y r hr) (ld_own t.bm y 0 hm r hr)

theorem canon_l_diag (hl : l0 (ix2 y (0 : Fin 1)) = ((0 : ℝ) : EReal)) (Ls : List (View.Piece (Elt Ideal) (Blk 2048 1) .f32)) :
    View.canon (lPieces m0 l0 (scM x0 x1) diag ++ Ls) (ix2 y (0 : Fin 1)) = ((zs (S Q K (j0 + y)) j0 y : ℝ) : EReal) := by
  refine canon_stack (N := 1) (lW m0 l0 (scM x0 x1)) (fun t => t.bm) Ls y 0 _ diag 2048 stack_diag y.2 fun t ht r hr => ?_
  obtain ⟨hn, ho⟩ := of_diag ht
  refine (lTile_apply t.hr _ t.hb _ (row_masked (S Q K (j0 + y)) j0 y (by omega)) (scM_apply I hn ho y r hr) (ld_own t.bm y 0 hm r hr)
    (ld_own t.bm y 0 hl r hr)).trans (congrArg _ ?_)
  rw [mul_zero, zero_add, sum_masked _ (by omega), zs]

theorem canon_a_diag (c : Fin 128) (ha : a0 (ix2 y c) = ((0 : ℝ) : EReal)) (Ls : List (View.Piece (Elt Ideal) (Blk 2048 128) .f32)) :
    View.canon (aPieces x2 m0 a0 (scM x0 x1) diag ++ Ls) (ix2 y c)
      = av (S Q K (j0 + y)) (fun j => V j c) j0 y := by
  refine canon_stack (N := 128) (aW x2 m0 a0 (scM x0 x1)) (fun t => t.ba) Ls y c _ diag 2048 stack_diag y.2 fun t ht r hr => ?_
  obtain ⟨hn, ho⟩ := of_diag ht
  refine (aTile_apply t.hr _ t.hb _ _ _ (row_masked (S Q K (j0 + y)) j0 y (by omega)) (scM_apply I hn ho y r hr) (ld_own t.bm y 0 hm r hr)
    (ld_own t.ba y c ha r hr) (u := fun x => V (j0 + x) c) (ld_v I (by omega) c)).trans ?_
  rw [EReal.coe_zero, zero_mul, zero_add, av, ← sum_masked (fun x => (ex (S Q K (j0 + y)) j0 y x : EReal) * V (j0 + x) c) (show y.val < t.n by omega)]
  refine sum_congr rfl fun x _ => ?_
  split_ifs
  · rfl
  · rw [EReal.coe_zero, zero_mul]

end Diag

section Below

variable (I : Pt x0 x1 x2 Q K V i0 j0) (y : Fin 2048) {k : ℕ}
  (hm : m0 (ix2 y (0 : Fin 1)) = ((mx (S Q K (i0 + y)) (j0 + 2048) k : ℝ) : EReal))

include I hm

theorem canon_m_below : View.canon (mPieces m0 (scU x0 x1) below) (ix2 y (0 : Fin 1)) = ((mx (S Q K (i0 + y)) j0 (2048 + k) : ℝ) : EReal) := by
  have h := canon_stack (N := 1) (mW m0 (scU x0 x1)) (fun t => t.bm) [] y 0 ((mx (S Q K (i0 + y)) j0 (2048 + k) : ℝ) : EReal) below 2048
    stack_below y.2 fun t ht r hr => ?_
  · rwa [List.append_nil] at h
  obtain ⟨hn, ho⟩ := of_below ht
  exact mTile_apply t.hr _ _ (row_block (S Q K (i0 + y)) j0 k hn) (scU_apply I hn ho y r hr) (ld_own t.bm y 0 hm r hr)

theorem canon_l_below (hl : l0 (ix2 y (0 : Fin 1)) = ((zs (S Q K (i0 + y)) (j0 + 2048) k : ℝ) : EReal)) :
    View.canon (lPieces m0 l0 (scU x0 x1) below) (ix2 y (0 : Fin 1)) = ((zs (S Q K (i0 + y)) j0 (2048 + k) : ℝ) : EReal) := by
  have h := canon_stack (N := 1) (lW m0 l0 (scU x0 x1)) (fun t => t.bm) [] y 0 ((zs (S Q K (i0 + y)) j0 (2048 + k) : ℝ) : EReal) below 2048
    stack_below y.2 fun t ht r hr => ?_
  · rwa [List.append_nil] at h
  obtain ⟨hn, ho⟩ := of_below ht
  refine (lTile_apply t.hr _ t.hb _ (row_block (S Q K (i0 + y)) j0 k hn) (scU_apply I hn ho y r hr) (ld_own t.bm y 0 hm r hr)
    (ld_own t.bm y 0 hl r hr)).trans (congrArg _ ?_)
  rw [hn, zs_step]

theorem canon_a_below (c : Fin 128) (ha : a0 (ix2 y c) = av (S Q K (i0 + y)) (fun j => V j c) (j0 + 2048) k) :
    View.canon (aPieces x2 m0 a0 (scU x0 x1) below) (ix2 y c)
      = av (S Q K (i0 + y)) (fun j => V j c) j0 (2048 + k) := by
  have h := canon_stack (N := 128) (aW x2 m0 a0 (scU x0 x1)) (fun t => t.ba) [] y c
    (av (S Q K (i0 + y)) (fun j => V j c) j0 (2048 + k)) below 2048 stack_below y.2 fun t ht r hr => ?_
  · rwa [List.append_nil] at h
  obtain ⟨hn, ho⟩ := of_below ht
  refine (aTile_apply t.hr _ t.hb _ _ _ (row_block (S Q K (i0 + y)) j0 k hn) (scU_apply I hn ho y r hr) (ld_own t.bm y 0 hm r hr)
    (ld_own t.ba y c ha r hr) (u := fun x => V (j0 + x) c) (ld_v I (by omega) c)).trans ?_
  rw [hn]
  exact av_step (S Q K (i0 + y)) (fun j => V j c) j0 2048 k

end Below

end Cert.Fwd

end
-- ==== Proof.FwdCase.lean ====
/-
What the largest scores, the sums and the weighted values hold after a point of the forward pass, in each of the four cases of
the body, and what a query block's last point stores in the outputs.
-/
module

public import proofs.«01_k».proof.Proof.FwdStrips
public import proofs.«01_k».proof.Proof.Outs

@[expose] public section

set_option maxRecDepth 16384

noncomputable section

namespace Cert.Fwd

open Finset Idealize.ShloMosaic Idealize.ShloMosaic.ValueIdx Idealize.ShloMosaic.TcCoe Idealize.ShloMosaic.Tactic
open Cert.Dkv (Blk S canon_whole)
open Cert.Kernel18Ideal Cert.Kernel18Ideal.Gen

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole)
  (x0 : Vec Ideal S2048x256 .bf16) (x1 : Vec Ideal S2048x256 .bf16) (x2 : Vec Ideal S2048x128 .bf16) (xs0 xs1 : Vec Ideal S2048x1 .f32) (xs2 : Vec Ideal S2048x128 .f32)
  {Q K : ℕ → ℕ → ℝ} {V : ℕ → ℕ → EReal} {i0 j0 : ℕ}

/-- A store of a whole column, last, leaves what it stores. -/
theorem canon_col {N : ℕ} {e : EltTy} (w : Vec Ideal ⟨3, ![1, N, 1]⟩ e) (Ls : List (View.Piece (Elt Ideal) ⟨3, ![1, N, 1]⟩ e))
    (inb : ∀ ax, (![0, 0, 0] : Fin 3 → ℕ) ax + (![1, N, 1] : Fin 3 → ℕ) ax ≤ (⟨3, ![1, N, 1]⟩ : Shape).size ax) :
    View.canon ((⟨Rect.unit ![0, 0, 0] ![1, N, 1] inb, w⟩ : View.Piece (Elt Ideal) ⟨3, ![1, N, 1]⟩ e) :: Ls) = w :=
  View.canon_cons_unit_lit (S := ⟨3, ![1, N, 1]⟩) inb w Ls (fun ax => by match ax with | ⟨0, _⟩ => rfl | ⟨1, _⟩ => rfl | ⟨2, _⟩ => rfl)

/-- What the largest scores, the sums and the weighted values start from. -/
theorem start_m (y : Fin 2048) : k0_pay120 (F := Ideal) (ix2 y (0 : Fin 1)) = (⊥ : EReal) := by
  rw [k0_pay120, shapeCast_self]; rfl

theorem start_l (y : Fin 2048) : k0_pay121 (F := Ideal) (ix2 y (0 : Fin 1)) = ((0 : ℝ) : EReal) := by
  rw [k0_pay121, shapeCast_self]; exact Ideal.ofBits_zero_f32.trans EReal.coe_zero.symm

theorem start_a (y : Fin 2048) (d : Fin 128) : k0_pay122 (F := Ideal) (ix2 y d) = ((0 : ℝ) : EReal) := by
  rw [k0_pay122, shapeCast_self]; exact Ideal.ofBits_zero_f32.trans EReal.coe_zero.symm

set_option maxHeartbeats 1600000 in
theorem sout0_A_0_apply (hc0 : cond0_0 i) (hc1 : cond0_1 i) (hc2 : ¬cond0_2 i) (hc3 : cond0_3 i) (I : Pt x0 x1 x2 Q K V j0 j0) (y : Fin 2048) :
    sout0_A_0 c i arg2 harg2 arg3 harg3 arg4 harg4 arg5 harg5 arg6 harg6 arg7 harg7 arg8 harg8 arg9 harg9 hc0 hc1 hc2 hc3 x0 x1 x2 (ix2 y (0 : Fin 1))
      = ((mx (S Q K (j0 + y)) j0 y : ℝ) : EReal) := by
  unfold sout0_A_0
  rw [View.read_writes_junk_eq_canon]
  unfold kernelRun0_A
  dsimp only
  sl_unfold_words
  simp only [readAt_unread_eq]
  simp (disch := decide) only [↓View.readCov_skip, View.readCov_fill]
  exact canon_m_diag (m0 := k0_pay120 (F := Ideal)) I y (start_m y) _

set_option maxHeartbeats 1600000 in
theorem sout0_A_1_apply (hc0 : cond0_0 i) (hc1 : cond0_1 i) (hc2 : ¬cond0_2 i) (hc3 : cond0_3 i) (I : Pt x0 x1 x2 Q K V j0 j0) (y : Fin 2048) :
    sout0_A_1 c i arg2 harg2 arg3 harg3 arg4 harg4 arg5 harg5 arg6 harg6 arg7 harg7 arg8 harg8 arg9 harg9 hc0 hc1 hc2 hc3 x0 x1 x2 (ix2 y (0 : Fin 1))
      = ((zs (S Q K (j0 + y)) j0 y : ℝ) : EReal) := by
  unfold sout0_A_1
  rw [View.read_writes_junk_eq_canon]
  unfold kernelRun0_A
  dsimp only
  sl_unfold_words
  simp only [readAt_unread_eq]
  simp (disch := decide) only [↓View.readCov_skip, View.readCov_fill]
  exact canon_l_diag (m0 := k0_pay120 (F := Ideal)) (l0 := k0_pay121 (F := Ideal)) I y (start_m y) (start_l y) _

set_option maxHeartbeats 1600000 in
theorem sout0_A_2_apply (hc0 : cond0_0 i) (hc1 : cond0_1 i) (hc2 : ¬cond0_2 i) (hc3 : cond0_3 i) (I : Pt x0 x1 x2 Q K V j0 j0) (y : Fin 2048) (d : Fin 128) :
    sout0_A_2 c i arg2 harg2 arg3 harg3 arg4 harg4 arg5 harg5 arg6 harg6 arg7 harg7 arg8 harg8 arg9 harg9 hc0 hc1 hc2 hc3 x0 x1 x2 (ix2 y d)
      = av (S Q K (j0 + y)) (fun j => V j d) j0 y := by
  unfold sout0_A_2
  rw [View.read_writes_junk_eq_canon]
  unfold kernelRun0_A
  dsimp only
  sl_unfold_words
  simp only [readAt_unread_eq]
  simp (disch := decide) only [↓View.readCov_skip, View.readCov_fill]
  exact canon_a_diag (m0 := k0_pay120 (F := Ideal)) (a0 := k0_pay122 (F := Ideal)) I y (start_m y) d (start_a y d) _

set_option maxHeartbeats 1600000 in
theorem sout0_B_0_apply (hc0 : cond0_0 i) (hc1 : cond0_1 i) (hc2 : ¬cond0_2 i) (hc3 : ¬cond0_3 i) (I : Pt x0 x1 x2 Q K V j0 j0) (y : Fin 2048) :
    sout0_B_0 c i arg2 harg2 arg3 harg3 arg4 harg4 arg5 harg5 arg6 harg6 arg7 harg7 arg8 harg8 arg9 harg9 hc0 hc1 hc2 hc3 x0 x1 x2 (ix2 y (0 : Fin 1))
      = ((mx (S Q K (j0 + y)) j0 y : ℝ) : EReal) := by
  unfold sout0_B_0
  rw [View.read_writes_junk_eq_canon]
  unfold kernelRun0_B
  dsimp only
  sl_unfold_words
  simp only [readAt_unread_eq]
  simp (disch := decide) only [↓View.readCov_skip, View.readCov_fill]
  exact canon_m_diag (m0 := k0_pay120 (F := Ideal)) I y (start_m y) _

set_option maxHeartbeats 1600000 in
theorem sout0_B_1_apply (hc0 : cond0_0 i) (hc1 : cond0_1 i) (hc2 : ¬cond0_2 i) (hc3 : ¬cond0_3 i) (I : Pt x0 x1 x2 Q K V j0 j0) (y : Fin 2048) :
    sout0_B_1 c i arg2 harg2 arg3 harg3 arg4 harg4 arg5 harg5 arg6 harg6 arg7 harg7 arg8 harg8 arg9 harg9 hc0 hc1 hc2 hc3 x0 x1 x2 (ix2 y (0 : Fin 1))
      = ((zs (S Q K (j0 + y)) j0 y : ℝ) : EReal) := by
  unfold sout0_B_1
  rw [View.read_writes_junk_eq_canon]
  unfold kernelRun0_B
  dsimp only
  sl_unfold_words
  simp only [readAt_unread_eq]
  simp (disch := decide) only [↓View.readCov_skip, View.readCov_fill]
  exact canon_l_diag (m0 := k0_pay120 (F := Ideal)) (l0 := k0_pay121 (F := Ideal)) I y (start_m y) (start_l y) _

set_option maxHeartbeats 1600000 in
theorem sout0_B_2_apply (hc0 : cond0_0 i) (hc1 : cond0_1 i) (hc2 : ¬cond0_2 i) (hc3 : ¬cond0_3 i) (I : Pt x0 x1 x2 Q K V j0 j0) (y : Fin 2048) (d : Fin 128) :
    sout0_B_2 c i arg2 harg2 arg3 harg3 arg4 harg4 arg5 harg5 arg6 harg6 arg7 harg7 arg8 harg8 arg9 harg9 hc0 hc1 hc2 hc3 x0 x1 x2 (ix2 y d)
      = av (S Q K (j0 + y)) (fun j => V j d) j0 y := by
  unfold sout0_B_2
  rw [View.read_writes_junk_eq_canon]
  unfold kernelRun0_B
  dsimp only
  sl_unfold_words
  simp only [readAt_unread_eq]
  simp (disch := decide) only [↓View.readCov_skip, View.readCov_fill]
  exact canon_a_diag (m0 := k0_pay120 (F := Ideal)) (a0 := k0_pay122 (F := Ideal)) I y (start_m y) d (start_a y d) _

set_option maxHeartbeats 1600000 in
theorem sout0_C_0_apply (hc0 : ¬cond0_0 i) (hc1 : ¬cond0_1 i) (hc2 : cond0_2 i) (hc3 : cond0_3 i) (I : Pt x0 x1 x2 Q K V i0 j0) (y : Fin 2048) {k : ℕ}
    (hm : xs0 (ix2 y (0 : Fin 1)) = ((mx (S Q K (i0 + y)) (j0 + 2048) k : ℝ) : EReal)) :
    sout0_C_0 c i arg2 harg2 arg3 harg3 arg4 harg4 arg5 harg5 arg6 harg6 arg7 harg7 arg8 harg8 arg9 harg9 hc0 hc1 hc2 hc3 x0 x1 x2 xs0 xs1 xs2 (ix2 y (0 : Fin 1))
      = ((mx (S Q K (i0 + y)) j0 (2048 + k) : ℝ) : EReal) := by
  unfold sout0_C_0
  rw [View.read_writes_junk_eq_canon]
  unfold kernelRun0_C
  dsimp only
  sl_unfold_words
  simp only [readAt_unread_eq]
  exact canon_m_below (m0 := xs0) I y hm

set_option maxHeartbeats 1600000 in
theorem sout0_C_1_apply (hc0 : ¬cond0_0 i) (hc1 : ¬cond0_1 i) (hc2 : cond0_2 i) (hc3 : cond0_3 i) (I : Pt x0 x1 x2 Q K V i0 j0) (y : Fin 2048) {k : ℕ}
    (hm : xs0 (ix2 y (0 : Fin 1)) = ((mx (S Q K (i0 + y)) (j0 + 2048) k : ℝ) : EReal))
    (hl : xs1 (ix2 y (0 : Fin 1)) = ((zs (S Q K (i0 + y)) (j0 + 2048) k : ℝ) : EReal)) :
    sout0_C_1 c i arg2 harg2 arg3 harg3 arg4 harg4 arg5 harg5 arg6 harg6 arg7 harg7 arg8 harg8 arg9 harg9 hc0 hc1 hc2 hc3 x0 x1 x2 xs0 xs1 xs2 (ix2 y (0 : Fin 1))
      = ((zs (S Q K (i0 + y)) j0 (2048 + k) : ℝ) : EReal) := by
  unfold sout0_C_1
  rw [View.read_writes_junk_eq_canon]
  unfold kernelRun0_C
  dsimp only
  sl_unfold_words
  simp only [readAt_unread_eq]
  exact canon_l_below (m0 := xs0) (l0 := xs1) I y hm hl

set_option maxHeartbeats 1600000 in
theorem sout0_C_2_apply (hc0 : ¬cond0_0 i) (hc1 : ¬cond0_1 i) (hc2 : cond0_2 i) (hc3 : cond0_3 i) (I : Pt x0 x1 x2 Q K V i0 j0) (y : Fin 2048) (d : Fin 128) {k : ℕ}
    (hm : xs0 (ix2 y (0 : Fin 1)) = ((mx (S Q K (i0 + y)) (j0 + 2048) k : ℝ) : EReal))
    (ha : xs2 (ix2 y d) = av (S Q K (i0 + y)) (fun j => V j d) (j0 + 2048) k) :
    sout0_C_2 c i arg2 harg2 arg3 harg3 arg4 harg4 arg5 harg5 arg6 harg6 arg7 harg7 arg8 harg8 arg9 harg9 hc0 hc1 hc2 hc3 x0 x1 x2 xs0 xs1 xs2 (ix2 y d)
      = av (S Q K (i0 + y)) (fun j => V j d) j0 (2048 + k) := by
  unfold sout0_C_2
  rw [View.read_writes_junk_eq_canon]
  unfold kernelRun0_C
  dsimp only
  sl_unfold_words
  simp only [readAt_unread_eq]
  exact canon_a_below (m0 := xs0) (a0 := xs2) I y hm d ha

set_option maxHeartbeats 1600000 in
theorem sout0_D_0_apply (hc0 : ¬cond0_0 i) (hc1 : ¬cond0_1 i) (hc2 : cond0_2 i) (hc3 : ¬cond0_3 i) (I : Pt x0 x1 x2 Q K V i0 j0) (y : Fin 2048) {k : ℕ}
    (hm : xs0 (ix2 y (0 : Fin 1)) = ((mx (S Q K (i0 + y)) (j0 + 2048) k : ℝ) : EReal)) :
    sout0_D_0 c i arg2 harg2 arg3 harg3 arg4 harg4 arg5 harg5 arg6 harg6 arg7 harg7 arg8 harg8 arg9 harg9 hc0 hc1 hc2 hc3 x0 x1 x2 xs0 xs1 xs2 (ix2 y (0 : Fin 1))
      = ((mx (S Q K (i0 + y)) j0 (2048 + k) : ℝ) : EReal) := by
  unfold sout0_D_0
  rw [View.read_writes_junk_eq_canon]
  unfold kernelRun0_D
  dsimp only
  sl_unfold_words
  simp only [readAt_unread_eq]
  exact canon_m_below (m0 := xs0) I y hm

set_option maxHeartbeats 1600000 in
theorem sout0_D_1_apply (hc0 : ¬cond0_0 i) (hc1 : ¬cond0_1 i) (hc2 : cond0_2 i) (hc3 : ¬cond0_3 i) (I : Pt x0 x1 x2 Q K V i0 j0) (y : Fin 2048) {k : ℕ}
    (hm : xs0 (ix2 y (0 : Fin 1)) = ((mx (S Q K (i0 + y)) (j0 + 2048) k : ℝ) : EReal))
    (hl : xs1 (ix2 y (0 : Fin 1)) = ((zs (S Q K (i0 + y)) (j0 + 2048) k : ℝ) : EReal)) :
    sout0_D_1 c i arg2 harg2 arg3 harg3 arg4 harg4 arg5 harg5 arg6 harg6 arg7 harg7 arg8 harg8 arg9 harg9 hc0 hc1 hc2 hc3 x0 x1 x2 xs0 xs1 xs2 (ix2 y (0 : Fin 1))
      = ((zs (S Q K (i0 + y)) j0 (2048 + k) : ℝ) : EReal) := by
  unfold sout0_D_1
  rw [View.read_writes_junk_eq_canon]
  unfold kernelRun0_D
  dsimp only
  sl_unfold_words
  simp only [readAt_unread_eq]
  exact canon_l_below (m0 := xs0) (l0 := xs1) I y hm hl

set_option maxHeartbeats 1600000 in
theorem sout0_D_2_apply (hc0 : ¬cond0_0 i) (hc1 : ¬cond0_1 i) (hc2 : cond0_2 i) (hc3 : ¬cond0_3 i) (I : Pt x0 x1 x2 Q K V i0 j0) (y : Fin 2048) (d : Fin 128) {k : ℕ}
    (hm : xs0 (ix2 y (0 : Fin 1)) = ((mx (S Q K (i0 + y)) (j0 + 2048) k : ℝ) : EReal))
    (ha : xs2 (ix2 y d) = av (S Q K (i0 + y)) (fun j => V j d) (j0 + 2048) k) :
    sout0_D_2 c i arg2 harg2 arg3 harg3 arg4 harg4 arg5 harg5 arg6 harg6 arg7 harg7 arg8 harg8 arg9 harg9 hc0 hc1 hc2 hc3 x0 x1 x2 xs0 xs1 xs2 (ix2 y d)
      = av (S Q K (i0 + y)) (fun j => V j d) j0 (2048 + k) := by
  unfold sout0_D_2
  rw [View.read_writes_junk_eq_canon]
  unfold kernelRun0_D
  dsimp only
  sl_unfold_words
  simp only [readAt_unread_eq]
  exact canon_a_below (m0 := xs0) (a0 := xs2) I y hm d ha

set_option maxHeartbeats 1600000 in
theorem out0_A_3_eq (hc0 : cond0_0 i) (hc1 : cond0_1 i) (hc2 : ¬cond0_2 i) (hc3 : cond0_3 i) :
    out0_A_3 c i arg2 harg2 arg3 harg3 arg4 harg4 arg5 harg5 arg6 harg6 arg7 harg7 arg8 harg8 arg9 harg9 hc0 hc1 hc2 hc3 x0 x1 x2
      = k0_pay7 (sout0_A_2 c i arg2 harg2 arg3 harg3 arg4 harg4 arg5 harg5 arg6 harg6 arg7 harg7 arg8 harg8 arg9 harg9 hc0 hc1 hc2 hc3 x0 x1 x2) (sout0_A_1 c i arg2 harg2 arg3 harg3 arg4 harg4 arg5 harg5 arg6 harg6 arg7 harg7 arg8 harg8 arg9 harg9 hc0 hc1 hc2 hc3 x0 x1 x2) := by
  unfold out0_A_3 sout0_A_2 sout0_A_1
  rw [View.read_writes_junk_eq_canon, View.read_writes_junk_eq_canon, View.read_writes_junk_eq_canon]
  unfold kernelRun0_A
  dsimp only
  sl_unfold_words
  rw [canon_whole, readCov_whole, readCov_whole]

set_option maxHeartbeats 1600000 in
theorem out0_A_4_eq (hc0 : cond0_0 i) (hc1 : cond0_1 i) (hc2 : ¬cond0_2 i) (hc3 : cond0_3 i) :
    out0_A_4 c i arg2 harg2 arg3 harg3 arg4 harg4 arg5 harg5 arg6 harg6 arg7 harg7 arg8 harg8 arg9 harg9 hc0 hc1 hc2 hc3 x0 x1 x2
      = k0_pay8 (sout0_A_0 c i arg2 harg2 arg3 harg3 arg4 harg4 arg5 harg5 arg6 harg6 arg7 harg7 arg8 harg8 arg9 harg9 hc0 hc1 hc2 hc3 x0 x1 x2) (sout0_A_1 c i arg2 harg2 arg3 harg3 arg4 harg4 arg5 harg5 arg6 harg6 arg7 harg7 arg8 harg8 arg9 harg9 hc0 hc1 hc2 hc3 x0 x1 x2) := by
  unfold out0_A_4 sout0_A_0 sout0_A_1
  rw [View.read_writes_junk_eq_canon, View.read_writes_junk_eq_canon, View.read_writes_junk_eq_canon]
  unfold kernelRun0_A
  dsimp only
  sl_unfold_words
  rw [canon_col, readCov_whole, readCov_whole]

set_option maxHeartbeats 1600000 in
theorem out0_C_3_eq (hc0 : ¬cond0_0 i) (hc1 : ¬cond0_1 i) (hc2 : cond0_2 i) (hc3 : cond0_3 i) :
    out0_C_3 c i arg2 harg2 arg3 harg3 arg4 harg4 arg5 harg5 arg6 harg6 arg7 harg7 arg8 harg8 arg9 harg9 hc0 hc1 hc2 hc3 x0 x1 x2 xs0 xs1 xs2
      = k0_pay7 (sout0_C_2 c i arg2 harg2 arg3 harg3 arg4 harg4 arg5 harg5 arg6 harg6 arg7 harg7 arg8 harg8 arg9 harg9 hc0 hc1 hc2 hc3 x0 x1 x2 xs0 xs1 xs2) (sout0_C_1 c i arg2 harg2 arg3 harg3 arg4 harg4 arg5 harg5 arg6 harg6 arg7 harg7 arg8 harg8 arg9 harg9 hc0 hc1 hc2 hc3 x0 x1 x2 xs0 xs1 xs2) := by
  unfold out0_C_3 sout0_C_2 sout0_C_1
  rw [View.read_writes_junk_eq_canon, View.read_writes_junk_eq_canon, View.read_writes_junk_eq_canon]
  unfold kernelRun0_C
  dsimp only
  sl_unfold_words
  rw [canon_whole, readCov_whole, readCov_whole]

set_option maxHeartbeats 1600000 in
theorem out0_C_4_eq (hc0 : ¬cond0_0 i) (hc1 : ¬cond0_1 i) (hc2 : cond0_2 i) (hc3 : cond0_3 i) :
    out0_C_4 c i arg2 harg2 arg3 harg3 arg4 harg4 arg5 harg5 arg6 harg6 arg7 harg7 arg8 harg8 arg9 harg9 hc0 hc1 hc2 hc3 x0 x1 x2 xs0 xs1 xs2
      = k0_pay8 (sout0_C_0 c i arg2 harg2 arg3 harg3 arg4 harg4 arg5 harg5 arg6 harg6 arg7 harg7 arg8 harg8 arg9 harg9 hc0 hc1 hc2 hc3 x0 x1 x2 xs0 xs1 xs2) (sout0_C_1 c i arg2 harg2 arg3 harg3 arg4 harg4 arg5 harg5 arg6 harg6 arg7 harg7 arg8 harg8 arg9 harg9 hc0 hc1 hc2 hc3 x0 x1 x2 xs0 xs1 xs2) := by
  unfold out0_C_4 sout0_C_0 sout0_C_1
  rw [View.read_writes_junk_eq_canon, View.read_writes_junk_eq_canon, View.read_writes_junk_eq_canon]
  unfold kernelRun0_C
  dsimp only
  sl_unfold_words
  rw [canon_col, readCov_whole, readCov_whole]

end Cert.Fwd

end
-- ==== Proof.FwdFold.lean ====
/-
What the forward pass's three scratch arrays hold after every grid point, and its two output arrays after the run: a query
block meets the key blocks from its own down to the first, so at query block `qi t` and key block `kj t` the scratches hold
the largest score, the sum of exponentials and the weighted values over the keys from the start of the key block to the query.
-/
module

public import proofs.«01_k».proof.Proof.FwdCase
public import proofs.«01_k».proof.Proof.DqFold
public import proofs.«01_k».proof.Proof.RefVal
public import proofs.«01_k».proof.Proof.Gen.Kernel18Ideal.Value
public import Idealize.ShloMosaic.Lib.Pipeline.ValueKit

@[expose] public section

set_option maxRecDepth 16384

noncomputable section

namespace Cert.Fwd

open Idealize.ShloMosaic hiding ix0 ix1 ix2 ix3 ix4 ix5
open Finset Idealize.ShloMosaic.ValueIdx Idealize.ShloMosaic.TcCoe Idealize.ShloMosaic.Tactic
open Cert.Dkv (head S Lse)
open Cert.Dq (qi kj qi_lt kj_lt)
open Cert.Kernel18Ideal Cert.Kernel18Ideal.Gen

theorem idx0 : ∀ t : Fin cfg0.N, win0_0.index t = ![qi t.val, t.val / 10] :=
  (by decide +kernel : ∀ t : Fin grid0.N, win0_0.index t = ![qi t.val, t.val / 10])
theorem idx1 : ∀ t : Fin cfg0.N, win0_1.index t = ![kj t.val, t.val / 10] :=
  (by decide +kernel : ∀ t : Fin grid0.N, win0_1.index t = ![kj t.val, t.val / 10])
theorem idx2 : ∀ t : Fin cfg0.N, win0_2.index t = ![kj t.val, t.val / 10] :=
  (by decide +kernel : ∀ t : Fin grid0.N, win0_2.index t = ![kj t.val, t.val / 10])
theorem idx3 : ∀ t : Fin cfg0.N, win0_3.index t = ![qi t.val, t.val / 10] :=
  (by decide +kernel : ∀ t : Fin grid0.N, win0_3.index t = ![qi t.val, t.val / 10])
theorem idx4 : ∀ t : Fin cfg0.N, win0_4.index t = ![t.val / 10, qi t.val, 0] :=
  (by decide +kernel : ∀ t : Fin grid0.N, win0_4.index t = ![t.val / 10, qi t.val, 0])

theorem pt_lt (t : Fin cfg0.N) : t.val < 80 := lt_of_lt_of_eq t.isLt (show cfg0.N = 80 from N_0)

variable (m : (ℓ : Loc nD τ sig) → Buf (Elt Ideal) ℓ) (c : Dev nD)
  {Qa Ka : ℕ → ℕ → ℝ} {Va : ℕ → ℕ → EReal}

/-- What the launch finds in the three input arrays, the queries and keys as real numbers. -/
structure Ins (Qa Ka : ℕ → ℕ → ℝ) (Va : ℕ → ℕ → EReal) : Prop where
  q : ∀ (i : Fin 8192) (e : Fin 2048), V m c main_arg0 (ix2 i e) = (Qa i e : EReal)
  k : ∀ (i : Fin 8192) (e : Fin 2048), V m c main_arg1 (ix2 i e) = (Ka i e : EReal)
  v : ∀ (i : Fin 8192) (e : Fin 1024), V m c main_arg2 (ix2 i e) = Va i e

/-- Every point's blocks: the queries of block `qi t` and the keys and values of block `kj t` of head `t / 10`. -/
theorem pt (I : Ins m c Qa Ka Va) (t : Fin cfg0.N) :
    Pt (iblk m c 0 t) (iblk m c 1 t) (iblk m c 2 t)
      (head 256 Qa (t.val / 10)) (head 256 Ka (t.val / 10)) (headV Va (t.val / 10)) (qi t.val * 2048) (kj t.val * 2048) := by
  have ht := pt_lt t
  have hq := qi_lt t.val
  have hk := kj_lt t.val
  refine ⟨fun x d => ?_, fun x d => ?_, fun x d => ?_⟩
  · refine Eq.trans ?_ (I.q ⟨qi t.val * 2048 + x, by omega⟩ ⟨t.val / 10 * 256 + d, by omega⟩)
    unfold iblk
    generalize V m c = W
    blk_simp
    refine congrArg (W main_arg0) ?_
    funext ax
    match ax with
    | ⟨0, _⟩ => exact Fin.ext (by blk_simp [idx0])
    | ⟨1, _⟩ => exact Fin.ext (by blk_simp [idx0])
  · refine Eq.trans ?_ (I.k ⟨kj t.val * 2048 + x, by omega⟩ ⟨t.val / 10 * 256 + d, by omega⟩)
    unfold iblk
    generalize V m c = W
    blk_simp
    refine congrArg (W main_arg1) ?_
    funext ax
    match ax with
    | ⟨0, _⟩ => exact Fin.ext (by blk_simp [idx1])
    | ⟨1, _⟩ => exact Fin.ext (by blk_simp [idx1])
  · refine Eq.trans ?_ (I.v ⟨kj t.val * 2048 + x, by omega⟩ ⟨t.val / 10 * 128 + d, by omega⟩)
    unfold iblk
    generalize V m c = W
    blk_simp
    refine congrArg (W main_arg2) ?_
    funext ax
    match ax with
    | ⟨0, _⟩ => exact Fin.ext (by blk_simp [idx2])
    | ⟨1, _⟩ => exact Fin.ext (by blk_simp [idx2])

/-- What the three scratch arrays hold after a point, row by row: over the keys from `a` on, `n` past it being the last. -/
structure Held (Q K : ℕ → ℕ → ℝ) (V : ℕ → ℕ → EReal) (i a n : ℕ) (y : Fin 2048) (s0 s1 : Vec Ideal S2048x1 .f32)
    (s2 : Vec Ideal S2048x128 .f32) : Prop where
  m : s0 (ix2 y (0 : Fin 1)) = ((mx (S Q K i) a n : ℝ) : EReal)
  l : s1 (ix2 y (0 : Fin 1)) = ((zs (S Q K i) a n : ℝ) : EReal)
  a : ∀ d : Fin 128, s2 (ix2 y d) = av (S Q K i) (fun j => V j d) a n

/-- The scratch arrays after point `n`, over the keys from `a` on. -/
def At (Qa Ka : ℕ → ℕ → ℝ) (Va : ℕ → ℕ → EReal) (n : ℕ) (hn : n < cfg0.N) (h i a k : ℕ) (y : Fin 2048) : Prop :=
  Held (head 256 Qa h) (head 256 Ka h) (headV Va h) i a k y (outsAt0 m c n hn).2.2.1 (outsAt0 m c n hn).2.2.2.1 (outsAt0 m c n hn).2.2.2.2

set_option maxHeartbeats 3000000 in
/-- A point that starts a query block leaves what the key block on the diagonal gives. -/
theorem held_first (I : Ins m c Qa Ka Va) (t : Fin cfg0.N) (h0 : t.val % 10 = 0 ∨ t.val % 10 = 1 ∨ t.val % 10 = 3 ∨ t.val % 10 = 6)
    (y : Fin 2048) : At m c Qa Ka Va t.val t.isLt (t.val / 10) (qi t.val * 2048 + y) (kj t.val * 2048) y y := by
  have hqk : qi t.val = kj t.val := by unfold qi kj; split_ifs <;> omega
  have h1 := h0
  have h2 : ¬¬(t.val % 10 = 0 ∨ t.val % 10 = 1 ∨ t.val % 10 = 3 ∨ t.val % 10 = 6) := not_not_intro h0
  have p := pt m c I t
  rw [hqk] at p ⊢
  unfold At
  by_cases h3 : t.val % 10 = 0 ∨ t.val % 10 = 2 ∨ t.val % 10 = 5 ∨ t.val % 10 = 9
  · rw [outsAt0_A m c t h0 h1 h2 h3]
    exact ⟨sout0_A_0_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t)
        ((hcond0_0 t).mpr h0) ((hcond0_1 t).mpr h1) (fun h => h2 ((hcond0_2 t).mp h)) ((hcond0_3 t).mpr h3) p y,
      sout0_A_1_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t)
        ((hcond0_0 t).mpr h0) ((hcond0_1 t).mpr h1) (fun h => h2 ((hcond0_2 t).mp h)) ((hcond0_3 t).mpr h3) p y,
      fun d => sout0_A_2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t)
        ((hcond0_0 t).mpr h0) ((hcond0_1 t).mpr h1) (fun h => h2 ((hcond0_2 t).mp h)) ((hcond0_3 t).mpr h3) p y d⟩
  · rw [outsAt0_B m c t h0 h1 h2 h3]
    exact ⟨sout0_B_0_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t)
        ((hcond0_0 t).mpr h0) ((hcond0_1 t).mpr h1) (fun h => h2 ((hcond0_2 t).mp h)) (fun h => h3 ((hcond0_3 t).mp h)) p y,
      sout0_B_1_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t)
        ((hcond0_0 t).mpr h0) ((hcond0_1 t).mpr h1) (fun h => h2 ((hcond0_2 t).mp h)) (fun h => h3 ((hcond0_3 t).mp h)) p y,
      fun d => sout0_B_2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t)
        ((hcond0_0 t).mpr h0) ((hcond0_1 t).mpr h1) (fun h => h2 ((hcond0_2 t).mp h)) (fun h => h3 ((hcond0_3 t).mp h)) p y d⟩

set_option maxHeartbeats 3000000 in
/-- A later point of a query block takes its key block in. -/
theorem held_next (I : Ins m c Qa Ka Va) (t : Fin cfg0.N) (h0 : ¬(t.val % 10 = 0 ∨ t.val % 10 = 1 ∨ t.val % 10 = 3 ∨ t.val % 10 = 6))
    (y : Fin 2048) {k : ℕ}
    (H : At m c Qa Ka Va (t.val - 1) (Nat.lt_of_le_of_lt (Nat.sub_le _ _) t.isLt) (t.val / 10) (qi t.val * 2048 + y) (kj t.val * 2048 + 2048) k y) :
    At m c Qa Ka Va t.val t.isLt (t.val / 10) (qi t.val * 2048 + y) (kj t.val * 2048) (2048 + k) y := by
  have h1 := h0
  have h2 := h0
  have p := pt m c I t
  unfold At at H ⊢
  by_cases h3 : t.val % 10 = 0 ∨ t.val % 10 = 2 ∨ t.val % 10 = 5 ∨ t.val % 10 = 9
  · rw [outsAt0_C m c t h0 h1 h2 h3]
    generalize outsAt0 m c (t.val - 1) (Nat.lt_of_le_of_lt (Nat.sub_le _ _) t.isLt) = w at H ⊢
    exact ⟨sout0_C_0_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) w.2.2.1 w.2.2.2.1 w.2.2.2.2
        (fun h => h0 ((hcond0_0 t).mp h)) (fun h => h1 ((hcond0_1 t).mp h)) ((hcond0_2 t).mpr h2) ((hcond0_3 t).mpr h3) p y H.m,
      sout0_C_1_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) w.2.2.1 w.2.2.2.1 w.2.2.2.2
        (fun h => h0 ((hcond0_0 t).mp h)) (fun h => h1 ((hcond0_1 t).mp h)) ((hcond0_2 t).mpr h2) ((hcond0_3 t).mpr h3) p y H.m H.l,
      fun d => sout0_C_2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) w.2.2.1 w.2.2.2.1 w.2.2.2.2
        (fun h => h0 ((hcond0_0 t).mp h)) (fun h => h1 ((hcond0_1 t).mp h)) ((hcond0_2 t).mpr h2) ((hcond0_3 t).mpr h3) p y d H.m (H.a d)⟩
  · rw [outsAt0_D m c t h0 h1 h2 h3]
    generalize outsAt0 m c (t.val - 1) (Nat.lt_of_le_of_lt (Nat.sub_le _ _) t.isLt) = w at H ⊢
    exact ⟨sout0_D_0_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) w.2.2.1 w.2.2.2.1 w.2.2.2.2
        (fun h => h0 ((hcond0_0 t).mp h)) (fun h => h1 ((hcond0_1 t).mp h)) ((hcond0_2 t).mpr h2) (fun h => h3 ((hcond0_3 t).mp h)) p y H.m,
      sout0_D_1_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) w.2.2.1 w.2.2.2.1 w.2.2.2.2
        (fun h => h0 ((hcond0_0 t).mp h)) (fun h => h1 ((hcond0_1 t).mp h)) ((hcond0_2 t).mpr h2) (fun h => h3 ((hcond0_3 t).mp h)) p y H.m H.l,
      fun d => sout0_D_2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) w.2.2.1 w.2.2.2.1 w.2.2.2.2
        (fun h => h0 ((hcond0_0 t).mp h)) (fun h => h1 ((hcond0_1 t).mp h)) ((hcond0_2 t).mpr h2) (fun h => h3 ((hcond0_3 t).mp h)) p y d H.m (H.a d)⟩

/-- The scratch arrays after every point. -/
theorem held_at (I : Ins m c Qa Ka Va) : ∀ (n : ℕ) (hn : n < cfg0.N) (y : Fin 2048),
    At m c Qa Ka Va n hn (n / 10) (qi n * 2048 + y) (kj n * 2048) ((qi n - kj n) * 2048 + y) y := by
  intro n
  induction n with
  | zero =>
    intro hn y
    have e : (qi 0 - kj 0) * 2048 + y.val = y := by
      have : qi 0 - kj 0 = 0 := by decide
      rw [this]; omega
    rw [e]
    exact held_first m c I ⟨0, hn⟩ (Or.inl rfl) y
  | succ n ih =>
    intro hn y
    by_cases h0 : (n + 1) % 10 = 0 ∨ (n + 1) % 10 = 1 ∨ (n + 1) % 10 = 3 ∨ (n + 1) % 10 = 6
    · have hqk : qi (n + 1) - kj (n + 1) = 0 := by unfold qi kj; split_ifs <;> omega
      rw [hqk, Nat.zero_mul, Nat.zero_add]
      exact held_first m c I ⟨n + 1, hn⟩ h0 y
    · have e1 : (n + 1) / 10 = n / 10 := by omega
      have e2 : qi (n + 1) = qi n := by unfold qi; split_ifs <;> omega
      have e3 : kj n = kj (n + 1) + 1 := by unfold kj; split_ifs <;> omega
      have e4 : kj n ≤ qi n := by unfold qi kj; split_ifs <;> omega
      have e5 : (qi (n + 1) - kj (n + 1)) * 2048 + y.val = 2048 + ((qi n - kj n) * 2048 + y) := by omega
      have e6 : kj (n + 1) * 2048 + 2048 = kj n * 2048 := by omega
      rw [e5]
      refine held_next m c I ⟨n + 1, hn⟩ h0 y ?_
      show At m c Qa Ka Va n _ ((n + 1) / 10) (qi (n + 1) * 2048 + y) (kj (n + 1) * 2048 + 2048) _ y
      rw [e1, e2, e6]
      exact ih (by omega) y

theorem parts {α β γ δ ε : Type} {p : α × β × γ × δ × ε} {a : α} {b : β} {s : γ} {l : δ} {x : ε} (h : p = (a, b, s, l, x))
    {f : ε → δ → α} {g : γ → δ → β} (ea : a = f x l) (eb : b = g s l) : p.1 = f p.2.2.2.2 p.2.2.2.1 ∧ p.2.1 = g p.2.2.1 p.2.2.2.1 := by
  subst h; exact ⟨ea, eb⟩

/-- At a query block's last point the output blocks hold the quotient and the logarithm of what the scratches hold. -/
theorem outs (t : Fin cfg0.N) (h3 : t.val % 10 = 0 ∨ t.val % 10 = 2 ∨ t.val % 10 = 5 ∨ t.val % 10 = 9) :
    (outsAt0 m c t.val t.isLt).1 = k0_pay7 (outsAt0 m c t.val t.isLt).2.2.2.2 (outsAt0 m c t.val t.isLt).2.2.2.1
      ∧ (outsAt0 m c t.val t.isLt).2.1 = k0_pay8 (outsAt0 m c t.val t.isLt).2.2.1 (outsAt0 m c t.val t.isLt).2.2.2.1 := by
  by_cases h0 : t.val % 10 = 0 ∨ t.val % 10 = 1 ∨ t.val % 10 = 3 ∨ t.val % 10 = 6
  · have h1 := h0
    have h2 : ¬¬(t.val % 10 = 0 ∨ t.val % 10 = 1 ∨ t.val % 10 = 3 ∨ t.val % 10 = 6) := not_not_intro h0
    have e := outsAt0_A m c t h0 h1 h2 h3
    exact parts e (out0_A_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t)
        ((hcond0_0 t).mpr h0) ((hcond0_1 t).mpr h1) (fun h => h2 ((hcond0_2 t).mp h)) ((hcond0_3 t).mpr h3))
      (out0_A_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t)
        ((hcond0_0 t).mpr h0) ((hcond0_1 t).mpr h1) (fun h => h2 ((hcond0_2 t).mp h)) ((hcond0_3 t).mpr h3))
  · have h1 := h0
    have h2 := h0
    have e := outsAt0_C m c t h0 h1 h2 h3
    exact parts e (out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) _ _ _
        (fun h => h0 ((hcond0_0 t).mp h)) (fun h => h1 ((hcond0_1 t).mp h)) ((hcond0_2 t).mpr h2) ((hcond0_3 t).mpr h3))
      (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (iblk m c 0 t) (iblk m c 1 t) (iblk m c 2 t) _ _ _
        (fun h => h0 ((hcond0_0 t).mp h)) (fun h => h1 ((hcond0_1 t).mp h)) ((hcond0_2 t).mpr h2) ((hcond0_3 t).mpr h3))

/-- The points at which the output blocks are written back: the last of every query block. -/
theorem flush_o : ∀ t : Fin cfg0.N, (cfg0.win 3).flush t = true →
    (t.val % 10 = 0 ∨ t.val % 10 = 2 ∨ t.val % 10 = 5 ∨ t.val % 10 = 9) :=
  (by decide +kernel : ∀ t : Fin grid0.N, win0_3.flush t = true →
    (t.val % 10 = 0 ∨ t.val % 10 = 2 ∨ t.val % 10 = 5 ∨ t.val % 10 = 9))
theorem flush_l : ∀ t : Fin cfg0.N, (cfg0.win 4).flush t = true →
    (t.val % 10 = 0 ∨ t.val % 10 = 2 ∨ t.val % 10 = 5 ∨ t.val % 10 = 9) :=
  (by decide +kernel : ∀ t : Fin grid0.N, win0_4.flush t = true →
    (t.val % 10 = 0 ∨ t.val % 10 = 2 ∨ t.val % 10 = 5 ∨ t.val % 10 = 9))

/-- At a query block's last point the scratches have met every key up to the query. -/
theorem held_last (I : Ins m c Qa Ka Va) (t : Fin cfg0.N) (h3 : t.val % 10 = 0 ∨ t.val % 10 = 2 ∨ t.val % 10 = 5 ∨ t.val % 10 = 9)
    (y : Fin 2048) : At m c Qa Ka Va t.val t.isLt (t.val / 10) (qi t.val * 2048 + y) 0 (qi t.val * 2048 + y) y := by
  have H := held_at m c I t.val t.isLt y
  have e : kj t.val = 0 := by unfold kj; split_ifs <;> omega
  rw [e, Nat.zero_mul, Nat.sub_zero] at H
  exact H

/-- The quotient by a real number, row by row. -/
theorem pay7_apply {v44 : FVec Ideal S2048x128 .f32} {v45 : FVec Ideal S2048x1 .f32} {y : Fin 2048} {d : Fin 128} {A : EReal} {Z : ℝ}
    (ha : v44 (ix2 y d) = A) (hz : v45 (ix2 y (0 : Fin 1)) = (Z : EReal)) (h : Z ≠ 0) :
    k0_pay7 (F := Ideal) v44 v45 (ix2 y d) = A * ((1 / Z : ℝ) : EReal) := by
  show Ideal.div (v44 (ix2 y d)) (broadcastTo S2048x128 v45 broadcasts_S2048x1_S2048x128 (ix2 y d)) = _
  have e := broadcastTo_apply v45 broadcasts_S2048x1_S2048x128 (ix2 y d) (ix2 y (0 : Fin 1)) fun a => by
    match a with
    | ⟨0, _⟩ => rfl
    | ⟨1, _⟩ => rfl
  rw [e, ha, hz]
  exact Ideal.div_coe h A

/-- A row's largest score plus the logarithm of its sum. -/
theorem pay8_apply {v50 v51 : FVec Ideal S2048x1 .f32} {y : Fin 2048} {A Z : ℝ}
    (ha : v50 (ix2 y (0 : Fin 1)) = (A : EReal)) (hz : v51 (ix2 y (0 : Fin 1)) = (Z : EReal)) (h : 0 < Z) :
    k0_pay8 (F := Ideal) v50 v51 (ix3 (0 : Fin 1) y (0 : Fin 1)) = ((A + Real.log Z : ℝ) : EReal) := by
  rw [k0_pay8, shapeCast_ab_1ab_apply]
  show v50 (ix2 y (0 : Fin 1)) + Ideal.log (v51 (ix2 y (0 : Fin 1))) = _
  rw [ha, hz, Ideal.log_coe, if_neg (not_le.mpr h), EReal.coe_add]

/-- The output as one array, for every head. -/
def oArr (Qa Ka : ℕ → ℕ → ℝ) (Va : ℕ → ℕ → EReal) : S8192x1024.Idx → EReal := fun i =>
  Out (head 256 Qa ((i 1).val / 128)) (head 256 Ka ((i 1).val / 128)) (headV Va ((i 1).val / 128)) (i 0).val ((i 1).val % 128)
/-- The saved logarithms as one array, for every head. -/
def lArr (Qa Ka : ℕ → ℕ → ℝ) : S8x8192x1.Idx → EReal := fun i =>
  (Lse (head 256 Qa (i 0).val) (head 256 Ka (i 0).val) (i 1).val : ℝ)

/-- The output array after the run. -/
theorem final_o (I : Ins m c Qa Ka Va) : (dats m 0 c).arrAt 3 cfg0.N = oArr Qa Ka Va := by
  refine (dats m 0 c).arrAt_eq_of_covers 3 (oArr Qa Ka Va) (by decide +kernel) fun t hf y => ?_
  have h3 := flush_o t hf
  have ht := pt_lt t
  have hq := qi_lt t.val
  blk_simp
  rw [after0_3, (outs m c t h3).1]
  obtain ⟨a, b, rfl⟩ : ∃ (a : Fin 2048) (b : Fin 128), y = ix2 a b := ⟨y 0, y 1, Cert.Dkv.eq_ix2 y⟩
  have H := held_last m c I t h3 a
  refine (pay7_apply (H.a b) H.l (zs_pos _ _ _).ne').trans ?_
  have e0 : ((((win0_3.blk t).view.emb (ix2 a b)) 0 : Fin _) : ℕ) = qi t.val * 2048 + a := by blk_simp [idx3]; rfl
  have e1 : ((((win0_3.blk t).view.emb (ix2 a b)) 1 : Fin _) : ℕ) = t.val / 10 * 128 + b := by blk_simp [idx3]; rfl
  have e3 : (t.val / 10 * 128 + b.val) / 128 = t.val / 10 := by omega
  have e4 : (t.val / 10 * 128 + b.val) % 128 = b := by omega
  unfold oArr
  rw [e0, e1, e3, e4]
  exact av_all _ _ _ _ (by have := a.isLt; omega)

/-- The array of saved logarithms after the run. -/
theorem final_l (I : Ins m c Qa Ka Va) : (dats m 0 c).arrAt 4 cfg0.N = lArr Qa Ka := by
  refine (dats m 0 c).arrAt_eq_of_covers 4 (lArr Qa Ka) (by decide +kernel) fun t hf y => ?_
  have h3 := flush_l t hf
  have ht := pt_lt t
  have hq := qi_lt t.val
  blk_simp
  rw [after0_4, (outs m c t h3).2]
  obtain ⟨a, rfl⟩ : ∃ a : Fin 2048, y = ix3 (0 : Fin 1) a (0 : Fin 1) := ⟨y 1, by
    funext k
    match k with
    | ⟨0, _⟩ => exact Subsingleton.elim (α := Fin 1) _ _
    | ⟨1, _⟩ => rfl
    | ⟨2, _⟩ => exact Subsingleton.elim (α := Fin 1) _ _⟩
  have H := held_last m c I t h3 a
  refine (pay8_apply H.m H.l (zs_pos _ _ _)).trans ?_
  have e0 : ((((win0_4.blk t).view.emb (ix3 (0 : Fin 1) a (0 : Fin 1))) 0 : Fin _) : ℕ) = t.val / 10 := by blk_simp [idx4]
  have e1 : ((((win0_4.blk t).view.emb (ix3 (0 : Fin 1) a (0 : Fin 1))) 1 : Fin _) : ℕ) = qi t.val * 2048 + a := by blk_simp [idx4]; rfl
  unfold lArr
  rw [e0, e1]
  exact congrArg _ (lse_all _ _ (by have := a.isLt; omega))

end Cert.Fwd

end
-- ==== Proof.Reads.lean ====
/-
Arrays read at natural numbers, so that sums over blocks join without casts: an array's entry, or zero outside it.
-/
module

public import Idealize.ShloMosaic.PureOps.Ideal
public import Idealize.ShloMosaic.Lib.ValueIdx
public import Idealize.ShloMosaic.Lib.ValueLayout
public import Idealize.ShloMosaic.Lib.Pointwise.Contract
public import Idealize.ShloMosaic.Lib.IdealHost
public import Mathlib.Algebra.BigOperators.Intervals
public import Mathlib.Data.EReal.Operations

@[expose] public section

noncomputable section

namespace Cert.Ffn

open Idealize.ShloMosaic hiding ix0 ix1 ix2 ix3 ix4 ix5
open Finset Idealize.ShloMosaic.ValueIdx

variable {L M N : ℕ}

/-- A matrix's entry. -/
def rd2 (X : (⟨2, ![M, N]⟩ : Shape).Idx → EReal) (r c : ℕ) : EReal :=
  if h : r < M ∧ c < N then X (ix2 ⟨r, h.1⟩ ⟨c, h.2⟩) else 0

/-- A stack of matrices' entry. -/
def rd3 (X : (⟨3, ![L, M, N]⟩ : Shape).Idx → EReal) (j r c : ℕ) : EReal :=
  if h : j < L ∧ r < M ∧ c < N then X (ix3 ⟨j, h.1⟩ ⟨r, h.2.1⟩ ⟨c, h.2.2⟩) else 0

/-- An entry inside the matrix is the array's, at any index with these coordinates. -/
theorem rd2_of (X : (⟨2, ![M, N]⟩ : Shape).Idx → EReal) (i : (⟨2, ![M, N]⟩ : Shape).Idx) {r c : ℕ} (hr : (i 0).val = r)
    (hc : (i 1).val = c) : X i = rd2 X r c := by
  subst hr hc
  rw [rd2, dif_pos ⟨(i 0).isLt, (i 1).isLt⟩]
  refine congrArg X (funext fun a => ?_)
  match a with
  | ⟨0, _⟩ => rfl
  | ⟨1, _⟩ => rfl

/-- An entry inside the stack is the array's, at any index with these coordinates. -/
theorem rd3_of (X : (⟨3, ![L, M, N]⟩ : Shape).Idx → EReal) (i : (⟨3, ![L, M, N]⟩ : Shape).Idx) {j r c : ℕ}
    (hj : (i 0).val = j) (hr : (i 1).val = r) (hc : (i 2).val = c) : X i = rd3 X j r c := by
  subst hj hr hc
  rw [rd3, dif_pos ⟨(i 0).isLt, (i 1).isLt, (i 2).isLt⟩]
  refine congrArg X (funext fun a => ?_)
  match a with
  | ⟨0, _⟩ => rfl
  | ⟨1, _⟩ => rfl
  | ⟨2, _⟩ => rfl

/-- Every index of a matrix is its two coordinates. -/
theorem eq_ix2 (x : (⟨2, ![M, N]⟩ : Shape).Idx) : x = ix2 (x 0) (x 1) := by
  funext a
  match a with
  | ⟨0, _⟩ => rfl
  | ⟨1, _⟩ => rfl

/-- Every index of a stack is its three coordinates. -/
theorem eq_ix3 (x : (⟨3, ![L, M, N]⟩ : Shape).Idx) : x = ix3 (x 0) (x 1) (x 2) := by
  funext a
  match a with
  | ⟨0, _⟩ => rfl
  | ⟨1, _⟩ => rfl
  | ⟨2, _⟩ => rfl

/-- A sum over a block's rows, by the numbers of the rows. -/
theorem sum_fin (n : ℕ) (g : Fin n → EReal) (f : ℕ → EReal) (h : ∀ k : Fin n, g k = f k.val) : ∑ k : Fin n, g k = ∑ k ∈ range n, f k := by
  rw [Finset.sum_range]
  exact Finset.sum_congr rfl fun k _ => h k

/-- A sum over the columns of groups set side by side is the sum over the groups of the sums over their columns. -/
theorem sum_groups (f : ℕ → ℕ → EReal) (n : ℕ) : ∑ k ∈ range (n * 704), f (k / 704) (k % 704) = ∑ j ∈ range n, ∑ k ∈ range 704, f j k := by
  induction n with
  | zero => rw [Nat.zero_mul, Finset.sum_range_zero, Finset.sum_range_zero]
  | succ n ih =>
    rw [Nat.succ_mul, Finset.sum_range_add, ih, Finset.sum_range_succ (fun j => ∑ k ∈ range 704, f j k) n]
    refine congrArg ((∑ j ∈ range n, ∑ k ∈ range 704, f j k) + ·) (Finset.sum_congr rfl fun k hk => ?_)
    have h := Finset.mem_range.mp hk
    rw [show (n * 704 + k) / 704 = n by omega, show (n * 704 + k) % 704 = k by omega]

/-- One half, as the programs write it. -/
def half : EReal := Ideal.ofBits .f32 0x3F000000#32

theorem half_eq : half = ((1 / 2 : ℝ) : EReal) := by
  simp [half, Ideal.ofBits, Ideal.ieee, -EReal.coe_mul]; norm_num

/-- Half of a sum is the sum of the halves, infinite terms or not. -/
theorem half_sum (s : Finset ℕ) (f : ℕ → EReal) : half * ∑ k ∈ s, f k = ∑ k ∈ s, half * f k := by
  have h0 : (0 : EReal) ≤ half := by rw [half_eq]; exact_mod_cast (by norm_num : (0 : ℝ) ≤ 1 / 2)
  have h1 : half ≠ ⊤ := by rw [half_eq]; exact EReal.coe_ne_top _
  classical
  induction s using Finset.induction_on with
  | empty => rw [Finset.sum_empty, Finset.sum_empty, mul_zero]
  | insert a s ha ih =>
    rw [Finset.sum_insert ha, Finset.sum_insert ha, EReal.left_distrib_of_nonneg_of_ne_top h0 h1, ih]

end Cert.Ffn

end
-- ==== Proof.FwdRef.lean ====
/-
The textbook's attention and the logarithm of every row's sum of exponentials, over real queries and keys and any values, and
the kernel's two arrays as those.
-/
module

public import proofs.«01_k».proof.Proof.RefVal
public import proofs.«01_k».proof.Proof.FwdFold
public import proofs.«01_k».proof.Proof.Reads
public import proofs.«01_k».proof.Proof.Gen.Reference18Ideal.Read

@[expose] public section

set_option maxRecDepth 16384

noncomputable section

namespace Cert.Fwd

open Idealize.ShloMosaic hiding ix0 ix1 ix2 ix3 ix4 ix5
open Finset Idealize.ShloMosaic.ValueIdx Idealize.ShloMosaic.TcCoe
open Cert.Dkv (head S M E Z Z_pos Lse sum_fin_coe rv_p rv_ms zero_f32)
open Cert.Ffn (rd2 rd2_of)
open Cert.ReferenceIdeal Cert.ReferenceIdeal.Gen

variable {Qa Ka : ℕ → ℕ → ℝ}
variable {x0 x1 : (⟨S8192x2048, .bf16⟩ : BufTy).Contents (Elt Ideal)} {x2 : (⟨S8192x1024, .bf16⟩ : BufTy).Contents (Elt Ideal)}
variable (hq : ∀ i, x0 i = ((Qa (i 0).val (i 1).val : ℝ) : EReal)) (hk : ∀ i, x1 i = ((Ka (i 0).val (i 1).val : ℝ) : EReal))

/-- The heads' outputs are the same in the two references, and so are the masked scores. -/
theorem o_same : Cert.Reference18Ideal.Read.val_main_v27 (F := Ideal) x0 x1 x2 = Cert.ReferenceIdeal.Read.val_main_v44 (F := Ideal) x0 x1 x2 := rfl
theorem ms_same : Cert.Reference18Ideal.Read.val_main_v42 (F := Ideal) x0 x1 = Cert.ReferenceIdeal.Read.val_main_v14_0 (F := Ideal) x0 x1 := rfl

/-- The values, head by head. -/
theorem rv_v (i : S8192x8x128.Idx) :
    Cert.ReferenceIdeal.Read.val_main_v5 (F := Ideal) x2 i = headV (rd2 x2) (i 1).val (i 0).val (i 2).val := by
  rw [Cert.ReferenceIdeal.Read.val_main_v5_apply, Cert.ReferenceIdeal.Read.val_main_v4_apply]
  have a1 : (i 1).val < 8 := (i 1).isLt
  have a2 : (i 2).val < 128 := (i 2).isLt
  exact rd2_of x2 _ (show (((i 0).val * 8 + (i 1).val) * 128 + (i 2).val) / 1024 = (i 0).val by omega)
    (show (((i 0).val * 8 + (i 1).val) * 128 + (i 2).val) % 1024 = (i 1).val * 128 + (i 2).val by omega)

include hq hk in
/-- The heads' outputs. -/
theorem rv_out (i : S8192x8x128.Idx) :
    Cert.ReferenceIdeal.Read.val_main_v44 (F := Ideal) x0 x1 x2 i
      = Out (head 256 Qa (i 1).val) (head 256 Ka (i 1).val) (headV (rd2 x2) (i 1).val) (i 0).val (i 2).val := by
  rw [Cert.ReferenceIdeal.Read.val_main_v44_apply, Cert.ReferenceIdeal.Read.val_main_v43_apply, Out, sum_range]
  refine sum_congr rfl fun k _ => ?_
  rw [rv_v, rv_p hq hk]

include hq hk in
/-- The output: the kernel's array is the textbook's. -/
theorem o_eq : oArr Qa Ka (rd2 x2) = Cert.Reference18Ideal.Read.val_main_v29 (F := Ideal) x0 x1 x2 := by
  funext i
  have a0 : (i 0).val < 8192 := (i 0).isLt
  have a1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  rw [Cert.Reference18Ideal.Read.val_main_v29_apply, Cert.Reference18Ideal.Read.val_main_v28_apply, o_same, rv_out hq hk]
  show _ = Out (head 256 Qa (((i 0).val * 1024 + (i 1).val) / 128 % 8)) (head 256 Ka (((i 0).val * 1024 + (i 1).val) / 128 % 8))
    (headV (rd2 x2) (((i 0).val * 1024 + (i 1).val) / 128 % 8)) (((i 0).val * 1024 + (i 1).val) / 1024) (((i 0).val * 1024 + (i 1).val) % 128)
  rw [e0, e1, e2]
  rfl

/-- The exponential of a causal score, zero where the mask hides the key. -/
def X (Q K : ℕ → ℕ → ℝ) (i j : ℕ) : ℝ := if j ≤ i then Real.exp (S Q K i j) else 0

/-- The sum of the exponentials is the sum over the row's largest, scaled back. -/
theorem sum_X (Q K : ℕ → ℕ → ℝ) (i : ℕ) : ∑ j ∈ range 8192, X Q K i j = Real.exp (M Q K i) * Z Q K i := by
  unfold Z
  rw [mul_sum]
  refine sum_congr rfl fun j _ => ?_
  unfold X E
  split_ifs
  · rw [← Real.exp_add]; congr 1; ring
  · rw [mul_zero]

/-- Its logarithm is what the forward pass saves. -/
theorem log_sum_X (Q K : ℕ → ℕ → ℝ) {i : ℕ} (hi : i < 8192) : Real.log (∑ j ∈ range 8192, X Q K i j) = Lse Q K i := by
  rw [sum_X, Real.log_mul (Real.exp_pos _).ne' (Z_pos Q K hi).ne', Real.log_exp, Lse]

include hq hk in
/-- A row's sum of exponentials. -/
theorem rv_sum (i : S8x8192.Idx) :
    Cert.Reference18Ideal.Read.val_main_v44 (F := Ideal) x0 x1 i
      = ((∑ j ∈ range 8192, X (head 256 Qa (i 0).val) (head 256 Ka (i 0).val) (i 1).val j : ℝ) : EReal) := by
  rw [Cert.Reference18Ideal.Read.val_main_v44_apply, Cert.Reference18Ideal.Read.val_main_cst_4_apply, zero_f32]
  refine (zero_add _).trans ?_
  refine sum_fin_coe _ _ fun k => ?_
  rw [Cert.Reference18Ideal.Read.val_main_v43_apply, ms_same, rv_ms hq hk, Ideal.hostUnary_exp_def]
  unfold X
  by_cases h : k.val ≤ (i 1).val
  · exact (congrArg Ideal.exp (if_pos h)).trans ((Ideal.exp_coe _).trans (by rw [if_pos h]))
  · exact (congrArg Ideal.exp (if_neg h)).trans (Ideal.exp_bot.trans (by rw [if_neg h, EReal.coe_zero]))

include hq hk in
/-- The saved logarithms: the kernel's array is the textbook's. -/
theorem l_eq : lArr Qa Ka = Cert.Reference18Ideal.Read.val_main_v46 (F := Ideal) x0 x1 := by
  funext i
  have a1 : (i 1).val < 8192 := (i 1).isLt
  rw [Cert.Reference18Ideal.Read.val_main_v46_apply, Cert.Reference18Ideal.Read.val_main_v45_apply, rv_sum hq hk, Ideal.hostUnary_log_def,
    Ideal.log_coe]
  show ((Lse (head 256 Qa (i 0).val) (head 256 Ka (i 0).val) (i 1).val : ℝ) : EReal)
    = if ∑ j ∈ range 8192, X (head 256 Qa (i 0).val) (head 256 Ka (i 0).val) (i 1).val j ≤ 0 then ⊥
      else ((Real.log (∑ j ∈ range 8192, X (head 256 Qa (i 0).val) (head 256 Ka (i 0).val) (i 1).val j) : ℝ) : EReal)
  rw [log_sum_X _ _ a1, if_neg]
  rw [sum_X]
  exact not_le.mpr (mul_pos (Real.exp_pos _) (Z_pos _ _ a1))

end Cert.Fwd
end
-- ==== Proof.Finite.lean ====
/-
  What the precondition says: every entry of every argument is a real number.
-/
module

public import proofs.«01_k».proof.Pre_finite
public import proofs.«01_k».proof.Proof.Model
public import Idealize.ShloMosaic.PureOps.Ideal.Laws

@[expose] public section

set_option maxRecDepth 16384

noncomputable section

namespace Cert.Dkv

open Idealize.ShloMosaic

theorem preFacts : Cert.Pre_finite.Facts := ⟨by decide, by decide⟩

/-- A number whose absolute value compares below infinity is real. -/
theorem real_of_lt (x : Ideal .bf16) (h : FloatOps.cmpf .olt (FloatOps.hostAbsf x) (FloatOps.ofBits (F := Ideal) .bf16 0x7F80#16) = 1#1) :
    (x : EReal) = ((EReal.toReal x : ℝ) : EReal) := by
  have ht : (FloatOps.ofBits (F := Ideal) .bf16 0x7F80#16 : EReal) = ⊤ := by
    show Ideal.ofBits .bf16 0x7F80#16 = ⊤
    simp [Ideal.ofBits, Ideal.ieee]
  rw [ht, Ideal.cmpf_def, Ideal.hostAbsf_def, Ideal.absf_def] at h
  have h' : max (x : EReal) (-x) < ⊤ := by
    by_contra hn
    rw [Ideal.cmp, decide_eq_false hn] at h
    exact absurd h (by decide)
  refine (EReal.coe_toReal ?_ ?_).symm
  · rintro rfl; exact absurd h' (by simp)
  · rintro rfl; exact absurd h' (by simp)

variable {x0 x1 : FVec Ideal Cert.Pre_finite.S8192x2048 .bf16} {x2 x3 : FVec Ideal Cert.Pre_finite.S8192x1024 .bf16}

/-- An array's real entries, as a function of row and column. -/
def entries {a b : ℕ} (x : (⟨2, ![a, b]⟩ : Shape).Idx → EReal) (i j : ℕ) : ℝ :=
  if h : i < a ∧ j < b then EReal.toReal (x (fun k => match k with
    | ⟨0, _⟩ => ⟨i, h.1⟩
    | ⟨1, _⟩ => ⟨j, h.2⟩)) else 0

theorem entries_eq {a b : ℕ} (x : (⟨2, ![a, b]⟩ : Shape).Idx → EReal) (hx : ∀ i, x i = ((EReal.toReal (x i) : ℝ) : EReal))
    (i : (⟨2, ![a, b]⟩ : Shape).Idx) : x i = ((entries x (i 0).val (i 1).val : ℝ) : EReal) := by
  have h : (i 0).val < a ∧ (i 1).val < b := ⟨(i 0).isLt, (i 1).isLt⟩
  rw [entries, dif_pos h]
  have e : (fun k => match k with
    | ⟨0, _⟩ => ⟨(i 0).val, h.1⟩
    | ⟨1, _⟩ => ⟨(i 1).val, h.2⟩ : (⟨2, ![a, b]⟩ : Shape).Idx) = i := by
    funext k
    match k with
    | ⟨0, _⟩ => rfl
    | ⟨1, _⟩ => rfl
  rw [e]
  exact hx i

/-- The precondition's four masks all ones: the four arrays' entries are real. -/
theorem real_of_pre
    (h0 : (@Cert.Pre_finite.fn preFacts Ideal _ x0 x1 x2 x3).1 = fun _ => 1#1)
    (h1 : (@Cert.Pre_finite.fn preFacts Ideal _ x0 x1 x2 x3).2.1 = fun _ => 1#1)
    (h2 : (@Cert.Pre_finite.fn preFacts Ideal _ x0 x1 x2 x3).2.2.1 = fun _ => 1#1)
    (h3 : (@Cert.Pre_finite.fn preFacts Ideal _ x0 x1 x2 x3).2.2.2 = fun _ => 1#1) :
    (∀ i, (x0 i : EReal) = ((entries x0 (i 0).val (i 1).val : ℝ) : EReal)) ∧ (∀ i, (x1 i : EReal) = ((entries x1 (i 0).val (i 1).val : ℝ) : EReal))
      ∧ (∀ i, (x2 i : EReal) = ((entries x2 (i 0).val (i 1).val : ℝ) : EReal)) ∧ (∀ i, (x3 i : EReal) = ((entries x3 (i 0).val (i 1).val : ℝ) : EReal)) :=
  ⟨entries_eq _ fun i => real_of_lt _ (congrFun h0 i), entries_eq _ fun i => real_of_lt _ (congrFun h1 i),
    entries_eq _ fun i => real_of_lt _ (congrFun h2 i), entries_eq _ fun i => real_of_lt _ (congrFun h3 i)⟩

end Cert.Dkv
end
-- ==== Proof.FwdFinite.lean ====
/-
  What the forward pass's precondition says: every entry of the queries and keys is a real number.
-/
module

public import proofs.«01_k».proof.Pre_finite18
public import proofs.«01_k».proof.Proof.Finite

@[expose] public section

set_option maxRecDepth 16384

noncomputable section

namespace Cert.Fwd

open Idealize.ShloMosaic
open Cert.Dkv (entries entries_eq real_of_lt)

theorem preFacts18 : Cert.Pre_finite18.Facts := ⟨by decide, by decide⟩

variable {x0 x1 : FVec Ideal Cert.Pre_finite18.S8192x2048 .bf16} {x2 : FVec Ideal Cert.Pre_finite18.S8192x1024 .bf16}

/-- The precondition's two masks all ones: the two arrays' entries are real. -/
theorem real_of_pre
    (h0 : (@Cert.Pre_finite18.fn preFacts18 Ideal _ x0 x1 x2).1 = fun _ => 1#1)
    (h1 : (@Cert.Pre_finite18.fn preFacts18 Ideal _ x0 x1 x2).2 = fun _ => 1#1) :
    (∀ i, (x0 i : EReal) = ((entries x0 (i 0).val (i 1).val : ℝ) : EReal)) ∧ (∀ i, (x1 i : EReal) = ((entries x1 (i 0).val (i 1).val : ℝ) : EReal)) :=
  ⟨entries_eq _ fun i => real_of_lt _ (congrFun h0 i), entries_eq _ fun i => real_of_lt _ (congrFun h1 i)⟩

end Cert.Fwd
end
-- ==== Proof.Act.lean ====
/-
The gradients before the activation: from the output's gradient and the saved branches, point by point, over a product
of gradient and weight.
-/
module

public import proofs.«01_k».proof.Proof.Reads
public import proofs.«01_k».proof.Proof.Gen.Kernel2Ideal.Value
public import Idealize.ShloMosaic.Lib.Pipeline.ValueKit

@[expose] public section

set_option maxRecDepth 16384

noncomputable section

namespace Cert.Ffn.Act

open Idealize.ShloMosaic hiding ix0 ix1 ix2 ix3 ix4 ix5
open Finset Idealize.ShloMosaic.ValueIdx Idealize.ShloMosaic.TcCoe Idealize.ShloMosaic.Tactic
open Cert.Kernel2Ideal Cert.Kernel2Ideal.Gen

/-- The logistic function as both programs compute it. -/
def sg (a : EReal) : EReal := Ideal.div 1 (1 + Ideal.exp (-a))

/-- The gate branch's gradient as the kernel writes it. -/
def gateK (ds a b : EReal) : EReal := ds * b * sg a * (1 + a * (1 - sg a))

/-- The up branch's gradient as the kernel writes it. -/
def upK (ds a : EReal) : EReal := ds * a * sg a

theorem sg_coe (a : ℝ) : sg (a : EReal) = ((1 / (1 + Real.exp (-a)) : ℝ) : EReal) := by
  have h : (1 + Real.exp (-a) : ℝ) ≠ 0 := (add_pos one_pos (Real.exp_pos _)).ne'
  rw [sg, ← EReal.coe_neg, Ideal.exp_coe, ← EReal.coe_one, ← EReal.coe_add, Ideal.div_coe h, EReal.coe_one, one_mul]

theorem sg_top : sg ⊤ = 1 := by
  rw [sg, EReal.neg_top, Ideal.exp_bot, add_zero, ← EReal.coe_one, Ideal.div_coe one_ne_zero, ← EReal.coe_mul]
  norm_num

theorem sg_bot : sg ⊥ = 0 := by
  rw [sg, EReal.neg_bot, Ideal.exp_top, Ideal.div, EReal.add_top_of_ne_bot (by decide), if_neg (by decide), EReal.inv_top, mul_zero]

/-- For a finite gradient the kernel's form of the gate's gradient is the derivative of the product, term by term. -/
theorem gate_eq (g : ℝ) (a : EReal) :
    (g : EReal) * sg a * (1 + a * (1 - sg a)) = (g : EReal) * sg a + a * (g : EReal) * (sg a * (1 - sg a)) := by
  induction a with
  | bot => rw [sg_bot, mul_zero, zero_mul, zero_mul, mul_zero, add_zero]
  | top =>
    have h : (1 : EReal) - 1 = 0 := by rw [← EReal.coe_one, ← EReal.coe_sub, sub_self, EReal.coe_zero]
    rw [sg_top, h, mul_zero, mul_zero, mul_zero, add_zero, add_zero, mul_one]
  | coe a =>
    rw [sg_coe, ← EReal.coe_one]
    simp only [← EReal.coe_sub, ← EReal.coe_mul, ← EReal.coe_add]
    exact congrArg Real.toEReal (by ring)

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![t.val / 8, 0, 0] :=
  (by decide +kernel : ∀ t : Fin grid0.N, win0_1.index t = ![t.val / 8, 0, 0])
theorem idx2 : ∀ t : Fin cfg0.N, win0_2.index t = ![t.val / 8, t.val % 8, 0] :=
  (by decide +kernel : ∀ t : Fin grid0.N, win0_2.index t = ![t.val / 8, t.val % 8, 0])
theorem idx3 : ∀ t : Fin cfg0.N, win0_3.index t = ![t.val / 8, t.val % 8, 0] :=
  (by decide +kernel : ∀ t : Fin grid0.N, win0_3.index t = ![t.val / 8, t.val % 8, 0])
theorem idx4 : ∀ t : Fin cfg0.N, win0_4.index t = ![t.val / 8, t.val % 8, 0] :=
  (by decide +kernel : ∀ t : Fin grid0.N, win0_4.index t = ![t.val / 8, t.val % 8, 0])
theorem idx5 : ∀ t : Fin cfg0.N, win0_5.index t = ![t.val / 8, t.val % 8, 0] :=
  (by decide +kernel : ∀ t : Fin grid0.N, win0_5.index t = ![t.val / 8, t.val % 8, 0])
theorem pt_lt (t : Fin cfg0.N) : t.val < 64 := lt_of_lt_of_eq t.isLt (show cfg0.N = 64 from N_0)

/-- The product of gradient and weight, halved. -/
theorem pay2_apply (x0 : Vec Ideal S1024x2048 .bf16) (x1 : Vec Ideal S1x2048x704 .bf16) (y : Fin 1024) (f : Fin 704) :
    k0_pay2 x0 x1 (ix2 y f) = half * ∑ k : Fin 2048, x0 (ix2 y k) * x1 (ix3 (0 : Fin 1) k f) := by
  unfold k0_pay2
  refine congrArg (half * ·) ((Ideal.matmul_apply₁_of dot_S1024x2048_S2048x704_S1024x704_1_0_0_1_n_n rfl (K := 2048) rfl _ _ _ _
    (fun k => ix2 y k) (fun k => ix2 k f) ?_ ?_).trans ?_)
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]
    refine Finset.sum_congr rfl fun k _ => ?_
    rw [shapeCast_1ab_ab_apply]

theorem pay3_apply (x : Vec Ideal S1x1024x704 .bf16) (y : Fin 1024) (f : Fin 704) :
    k0_pay3 x (ix2 y f) = x (ix3 (0 : Fin 1) y f) := by
  unfold k0_pay3
  exact shapeCast_1ab_ab_apply _ _ _ _

theorem pay4_apply (x : Vec Ideal S1x1024x704 .bf16) (y : Fin 1024) (f : Fin 704) :
    k0_pay4 x (ix2 y f) = sg (x (ix3 (0 : Fin 1) y f)) := by
  unfold k0_pay4
  show Ideal.div (Ideal.ofBits .f32 0x3F800000#32) (Ideal.ofBits .f32 0x3F800000#32
    + Ideal.exp (Ideal.ofBits .f32 0x00000000#32 - k0_pay3 x (ix2 y f))) = _
  rw [Ideal.ofBits_one_f32, Ideal.ofBits_zero_f32, pay3_apply, zero_sub]
  rfl

/-- The row of a block's stored array is the row of the computed one. -/
theorem cast_out (v : FVec Ideal S1024x704 .bf16) (y : Fin 1024) (f : Fin 704) :
    shapeCast S1x1024x704 v shapeCasts_S1024x704_S1x1024x704 (ix3 (0 : Fin 1) y f) = v (ix2 y f) := by
  refine (shapeCast_apply _ _ (ix3 (0 : Fin 1) y f) (ix2 y f) ?_).trans rfl
  rw [Shape.rowMajor_val_two, Shape.rowMajor_val_three]
  show (y : ℕ) * 704 + f = (0 * 1024 + (y : ℕ)) * 704 + f
  omega

theorem pay5_apply (x0 : Vec Ideal S1024x2048 .bf16) (x1 : Vec Ideal S1x2048x704 .bf16) (x2 x3 : Vec Ideal S1x1024x704 .bf16)
    (y : Fin 1024) (f : Fin 704) :
    k0_pay5 x0 x1 x2 x3 (ix3 (0 : Fin 1) y f)
      = gateK (k0_pay2 x0 x1 (ix2 y f)) (x2 (ix3 (0 : Fin 1) y f)) (x3 (ix3 (0 : Fin 1) y f)) := by
  unfold k0_pay5
  refine (cast_out _ y f).trans ?_
  show k0_pay2 x0 x1 (ix2 y f) * shapeCast S1024x704 x3 shapeCasts_S1x1024x704_S1024x704 (ix2 y f) * k0_pay4 x2 (ix2 y f)
    * (Ideal.ofBits .f32 0x3F800000#32 + k0_pay3 x2 (ix2 y f) * (Ideal.ofBits .f32 0x3F800000#32 - k0_pay4 x2 (ix2 y f))) = _
  rw [Ideal.ofBits_one_f32, pay3_apply, pay4_apply, shapeCast_1ab_ab_apply]
  rfl

theorem pay6_apply (x0 : Vec Ideal S1024x2048 .bf16) (x1 : Vec Ideal S1x2048x704 .bf16) (x2 : Vec Ideal S1x1024x704 .bf16)
    (y : Fin 1024) (f : Fin 704) :
    k0_pay1 (k0_pay6 x0 x1 x2) (ix3 (0 : Fin 1) y f) = upK (k0_pay2 x0 x1 (ix2 y f)) (x2 (ix3 (0 : Fin 1) y f)) := by
  unfold k0_pay1
  refine (cast_out _ y f).trans ?_
  unfold k0_pay6
  show k0_pay2 x0 x1 (ix2 y f) * k0_pay3 x2 (ix2 y f) * k0_pay4 x2 (ix2 y f) = _
  rw [pay3_apply, pay4_apply]
  rfl

theorem out4 (x0 : Vec Ideal S1024x2048 .bf16) (x1 : Vec Ideal S1x2048x704 .bf16) (x2 x3 : Vec Ideal S1x1024x704 .bf16) :
    out0_4 x0 x1 x2 x3 = k0_pay5 x0 x1 x2 x3 := by
  unfold out0_4
  rw [View.canon_cons_unit_lit (S := S1x1024x704) inb_S1x1024x704_S1x1024x704_0_0_0 _ _ (by decide),
    View.ld_unit_lit (S := S1024x2048) inb_S1024x2048_S1024x2048_0_0 x0 (by decide),
    View.ld_unit_lit (S := S1x2048x704) inb_S1x2048x704_S1x2048x704_0_0_0 x1 (by decide),
    View.ld_unit_lit (S := S1x1024x704) inb_S1x1024x704_S1x1024x704_0_0_0 x2 (by decide),
    View.ld_unit_lit (S := S1x1024x704) inb_S1x1024x704_S1x1024x704_0_0_0 x3 (by decide)]

theorem out5 (x0 : Vec Ideal S1024x2048 .bf16) (x1 : Vec Ideal S1x2048x704 .bf16) (x2 x3 : Vec Ideal S1x1024x704 .bf16) :
    out0_5 x0 x1 x2 x3 = k0_pay1 (k0_pay6 x0 x1 x2) := by
  unfold out0_5
  rw [View.canon_cons_unit_lit (S := S1x1024x704) inb_S1x1024x704_S1x1024x704_0_0_0 _ _ (by decide),
    View.ld_unit_lit (S := S1024x2048) inb_S1024x2048_S1024x2048_0_0 x0 (by decide),
    View.ld_unit_lit (S := S1x2048x704) inb_S1x2048x704_S1x2048x704_0_0_0 x1 (by decide),
    View.ld_unit_lit (S := S1x1024x704) inb_S1x1024x704_S1x1024x704_0_0_0 x2 (by decide)]

variable (m : (ℓ : Loc nD τ sig) → Buf (Elt Ideal) ℓ) (c : Dev nD)

/-- The host's transposed weight. -/
theorem host_w (W : Valuation τ sig (Elt Ideal)) (j : Fin 8) (k : Fin 2048) (f : Fin 704) :
    (StableHlo.after hostOps0 W main_v0 : (⟨S8x2048x704, .bf16⟩ : BufTy).Contents (Elt Ideal)) (ix3 j k f)
      = (W main_arg1 : (⟨S8x704x2048, .bf16⟩ : BufTy).Contents (Elt Ideal)) (ix3 j f k) := by
  have e : (StableHlo.after hostOps0 W main_v0 : (⟨S8x2048x704, .bf16⟩ : BufTy).Contents (Elt Ideal))
      = transpose S8x2048x704 [0, 2, 1] (W main_arg1 : (⟨S8x704x2048, .bf16⟩ : BufTy).Contents (Elt Ideal)) transposes_S8x704x2048_S8x2048x704_0_2_1 := by
    after_results_simp
  rw [e]
  exact transpose_apply [0, 2, 1] _ transposes_S8x704x2048_S8x2048x704_0_2_1 _ (ix3 j f k) (fun b => match b with
    | ⟨0, _⟩ => rfl
    | ⟨1, _⟩ => rfl
    | ⟨2, _⟩ => rfl)

theorem blk0 (t : Fin cfg0.N) (y : Fin 1024) (k : Fin 2048) :
    iblk m c 0 t (ix2 y k) = rd2 (V m c main_arg0) (t.val % 8 * 1024 + y) k := by
  have ht := pt_lt t
  unfold iblk
  generalize V m c = W
  blk_simp
  exact rd2_of (W main_arg0) _ (by blk_simp [idx0]) (by blk_simp [idx0])

theorem blk1' (t : Fin cfg0.N) (k : Fin 2048) (f : Fin 704) :
    iblk m c 1 t (ix3 (0 : Fin 1) k f) = rd3 (V m c main_v0) (t.val / 8) k f := by
  have ht := pt_lt t
  unfold iblk
  generalize V m c = W
  blk_simp
  exact rd3_of (W main_v0) _ (by blk_simp [idx1]) (by blk_simp [idx1]) (by blk_simp [idx1])

theorem blk2 (t : Fin cfg0.N) (y : Fin 1024) (f : Fin 704) :
    iblk m c 2 t (ix3 (0 : Fin 1) y f) = rd3 (V m c main_arg2) (t.val / 8) (t.val % 8 * 1024 + y) f := by
  have ht := pt_lt t
  unfold iblk
  generalize V m c = W
  blk_simp
  exact rd3_of (W main_arg2) _ (by blk_simp [idx2]) (by blk_simp [idx2]) (by blk_simp [idx2])

theorem blk3 (t : Fin cfg0.N) (y : Fin 1024) (f : Fin 704) :
    iblk m c 3 t (ix3 (0 : Fin 1) y f) = rd3 (V m c main_arg3) (t.val / 8) (t.val % 8 * 1024 + y) f := by
  have ht := pt_lt t
  unfold iblk
  generalize V m c = W
  blk_simp
  exact rd3_of (W main_arg3) _ (by blk_simp [idx3]) (by blk_simp [idx3]) (by blk_simp [idx3])

/-- The weight's block, by the weight as given. -/
theorem blk1 (t : Fin cfg0.N) (k : Fin 2048) (f : Fin 704) :
    iblk m c 1 t (ix3 (0 : Fin 1) k f) = rd3 (m ((c : Thread nD τ).loc main_arg1)) (t.val / 8) f k := by
  have ht := pt_lt t
  have hj : t.val / 8 < 8 := by omega
  rw [blk1']
  refine (rd3_of (V m c main_v0) (ix3 ⟨t.val / 8, hj⟩ k f) rfl rfl rfl).symm.trans ?_
  exact (host_w (fun b => m (c, b)) ⟨t.val / 8, hj⟩ k f).trans (rd3_of (m ((c : Thread nD τ).loc main_arg1)) (ix3 ⟨t.val / 8, hj⟩ f k) rfl rfl rfl)

/-- The gradient after the activation, at row `r`, group `j`, column `f`. -/
def dsum (X : S8192x2048.Idx → EReal) (W : S8x704x2048.Idx → EReal) (j r f : ℕ) : EReal :=
  half * ∑ k ∈ range 2048, rd2 X r k * rd3 W j f k

/-- The gate branch's gradient as one array. -/
def gateArr (X : S8192x2048.Idx → EReal) (W : S8x704x2048.Idx → EReal) (A B : S8x8192x704.Idx → EReal) : S8x8192x704.Idx → EReal := fun i =>
  gateK (dsum X W (i 0).val (i 1).val (i 2).val) (rd3 A (i 0).val (i 1).val (i 2).val) (rd3 B (i 0).val (i 1).val (i 2).val)

/-- The up branch's gradient as one array. -/
def upArr (X : S8192x2048.Idx → EReal) (W : S8x704x2048.Idx → EReal) (A : S8x8192x704.Idx → EReal) : S8x8192x704.Idx → EReal := fun i =>
  upK (dsum X W (i 0).val (i 1).val (i 2).val) (rd3 A (i 0).val (i 1).val (i 2).val)

theorem pay2_blk (t : Fin cfg0.N) (y : Fin 1024) (f : Fin 704) :
    k0_pay2 (iblk m c 0 t) (iblk m c 1 t) (ix2 y f)
      = dsum (V m c main_arg0) (m ((c : Thread nD τ).loc main_arg1)) (t.val / 8) (t.val % 8 * 1024 + y) f := by
  rw [pay2_apply]
  exact congrArg (half * ·) (sum_fin _ _ _ fun k => by rw [blk0, blk1])

/-- The gate branch's array after the run. -/
theorem final_gate : (dats m 0 c).arrAt 4 cfg0.N
    = gateArr (V m c main_arg0) (m ((c : Thread nD τ).loc main_arg1)) (V m c main_arg2) (V m c main_arg3) := by
  refine (dats m 0 c).arrAt_eq_of_covers 4
    (gateArr (V m c main_arg0) (m ((c : Thread nD τ).loc main_arg1)) (V m c main_arg2) (V m c main_arg3)) (by decide +kernel) fun t hf y => ?_
  have ht := pt_lt t
  have P2 := pay2_blk m c t
  have B2 := blk2 m c t
  have B3 := blk3 m c t
  revert P2 B2 B3
  generalize V m c = W
  intro P2 B2 B3
  blk_simp
  rw [after0_4, out4]
  obtain ⟨a, b, rfl⟩ : ∃ (a : Fin 1024) (b : Fin 704), y = ix3 (0 : Fin 1) a b := ⟨y 1, y 2, by
    refine (eq_ix3 y).trans (congrArg (fun z => ix3 z (y 1) (y 2)) (Subsingleton.elim (α := Fin 1) _ _))⟩
  refine (pay5_apply _ _ _ _ a b).trans ?_
  have e0 : ((((win0_4.blk t).view.emb (ix3 (0 : Fin 1) a b)) 0 : Fin _) : ℕ) = t.val / 8 := by blk_simp [idx4]
  have e1 : ((((win0_4.blk t).view.emb (ix3 (0 : Fin 1) a b)) 1 : Fin _) : ℕ) = t.val % 8 * 1024 + a := by blk_simp [idx4]; rfl
  have e2 : ((((win0_4.blk t).view.emb (ix3 (0 : Fin 1) a b)) 2 : Fin _) : ℕ) = b := by blk_simp [idx4]; rfl
  unfold gateArr
  rw [e0, e1, e2, P2, B2, B3]

/-- The up branch's array after the run. -/
theorem final_up : (dats m 0 c).arrAt 5 cfg0.N
    = upArr (V m c main_arg0) (m ((c : Thread nD τ).loc main_arg1)) (V m c main_arg2) := by
  refine (dats m 0 c).arrAt_eq_of_covers 5
    (upArr (V m c main_arg0) (m ((c : Thread nD τ).loc main_arg1)) (V m c main_arg2)) (by decide +kernel) fun t hf y => ?_
  have ht := pt_lt t
  have P2 := pay2_blk m c t
  have B2 := blk2 m c t
  revert P2 B2
  generalize V m c = W
  intro P2 B2
  blk_simp
  rw [after0_5, out5]
  obtain ⟨a, b, rfl⟩ : ∃ (a : Fin 1024) (b : Fin 704), y = ix3 (0 : Fin 1) a b := ⟨y 1, y 2, by
    refine (eq_ix3 y).trans (congrArg (fun z => ix3 z (y 1) (y 2)) (Subsingleton.elim (α := Fin 1) _ _))⟩
  refine (pay6_apply _ _ _ a b).trans ?_
  have e0 : ((((win0_5.blk t).view.emb (ix3 (0 : Fin 1) a b)) 0 : Fin _) : ℕ) = t.val / 8 := by blk_simp [idx5]
  have e1 : ((((win0_5.blk t).view.emb (ix3 (0 : Fin 1) a b)) 1 : Fin _) : ℕ) = t.val % 8 * 1024 + a := by blk_simp [idx5]; rfl
  have e2 : ((((win0_5.blk t).view.emb (ix3 (0 : Fin 1) a b)) 2 : Fin _) : ℕ) = b := by blk_simp [idx5]; rfl
  unfold upArr
  rw [e0, e1, e2, P2, B2]

end Cert.Ffn.Act

end
-- ==== Proof.ActRef.lean ====
/-
The same gradients as the reference computes them: the derivative of the gated product over the groups side by side.
-/
module

public import proofs.«01_k».proof.Proof.Act
public import proofs.«01_k».proof.Proof.Finite
public import proofs.«01_k».proof.Pre_finite2
public import proofs.«01_k».proof.Proof.Gen.Reference2Ideal.Read

@[expose] public section

set_option maxRecDepth 16384

noncomputable section

namespace Cert.Ffn.Act

open Idealize.ShloMosaic hiding ix0 ix1 ix2 ix3 ix4 ix5
open Finset Idealize.ShloMosaic.ValueIdx Idealize.ShloMosaic.TcCoe
open Cert.Reference2Ideal Cert.Reference2Ideal.Read

/-- A finite number. -/
def IsReal (x : EReal) : Prop := ∃ r : ℝ, x = (r : EReal)

theorem IsReal.zero : IsReal 0 := ⟨0, EReal.coe_zero.symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sum (n : ℕ) {f : ℕ → EReal} (h : ∀ k, IsReal (f k)) : IsReal (∑ k ∈ range n, f k) := by
  induction n with
  | zero => rw [Finset.sum_range_zero]; exact IsReal.zero
  | succ n ih => rw [Finset.sum_range_succ]; exact ih.add (h n)
theorem IsReal.rd2 {a b : ℕ} {X : (⟨2, ![a, b]⟩ : Shape).Idx → EReal} (h : ∀ i, IsReal (X i)) (r c : ℕ) : IsReal (Ffn.rd2 X r c) := by
  unfold Ffn.rd2
  split
  · exact h _
  · exact IsReal.zero
theorem IsReal.rd3 {a b d : ℕ} {X : (⟨3, ![a, b, d]⟩ : Shape).Idx → EReal} (h : ∀ i, IsReal (X i)) (j r c : ℕ) : IsReal (Ffn.rd3 X j r c) := by
  unfold Ffn.rd3
  split
  · exact h _
  · exact IsReal.zero

section Pre
variable {x0 : FVec Ideal Cert.Pre_finite2.S8192x2048 .bf16} {x1 : FVec Ideal Cert.Pre_finite2.S8x704x2048 .bf16}
  {x2 x3 : FVec Ideal Cert.Pre_finite2.S8x8192x704 .bf16}

theorem preFacts2 : Cert.Pre_finite2.Facts := ⟨by decide, by decide, by decide⟩

/-- The precondition's three masks all ones: the entries of the three arrays are finite. -/
theorem fin_of_pre
    (h0 : (@Cert.Pre_finite2.fn preFacts2 Ideal _ x0 x1 x2 x3).1 = fun _ => 1#1)
    (h1 : (@Cert.Pre_finite2.fn preFacts2 Ideal _ x0 x1 x2 x3).2.1 = fun _ => 1#1)
    (h2 : (@Cert.Pre_finite2.fn preFacts2 Ideal _ x0 x1 x2 x3).2.2 = fun _ => 1#1) :
    (∀ i, IsReal (x0 i)) ∧ (∀ i, IsReal (x1 i)) ∧ (∀ i, IsReal (x3 i)) :=
  ⟨fun i => ⟨_, Cert.Dkv.real_of_lt _ (congrFun h0 i)⟩, fun i => ⟨_, Cert.Dkv.real_of_lt _ (congrFun h1 i)⟩,
    fun i => ⟨_, Cert.Dkv.real_of_lt _ (congrFun h2 i)⟩⟩
end Pre

variable (X : (⟨S8192x2048, .bf16⟩ : BufTy).Contents (Elt Ideal)) (W : (⟨S8x704x2048, .bf16⟩ : BufTy).Contents (Elt Ideal))
  (A B : (⟨S8x8192x704, .bf16⟩ : BufTy).Contents (Elt Ideal))

/-- The gate branch side by side, read at a column. -/
theorem wideA (i : S8192x5632.Idx) : val_main_v4 (F := Ideal) A i = rd3 A ((i 1).val / 704) (i 0).val ((i 1).val % 704) := by
  have h0 : (i 0).val < 8192 := (i 0).isLt
  have h1 : (i 1).val < 5632 := (i 1).isLt
  rw [val_main_v4_apply, val_main_v3_apply, val_main_v2_apply]
  refine rd3_of A _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The up branch side by side, read at a column. -/
theorem wideB (i : S8192x5632.Idx) : val_main_v7 (F := Ideal) B i = rd3 B ((i 1).val / 704) (i 0).val ((i 1).val % 704) := by
  have h0 : (i 0).val < 8192 := (i 0).isLt
  have h1 : (i 1).val < 5632 := (i 1).isLt
  rw [val_main_v7_apply, val_main_v6_apply, val_main_v5_apply]
  refine rd3_of B _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The logistic of the gate branch. -/
theorem wide_sg (i : S8192x5632.Idx) : val_main_v8_2 (F := Ideal) A i = sg (val_main_v4 (F := Ideal) A i) := by
  rw [val_main_v8_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-val_main_v4 (F := Ideal) A i)) = _
  rw [Ideal.ofBits_one_f32]
  rfl

/-- The gradient after the activation. -/
theorem wide_ds (i : S8192x5632.Idx) :
    val_main_v16 (F := Ideal) X W i = dsum X W ((i 1).val / 704) (i 0).val ((i 1).val % 704) := by
  have h1 : (i 1).val < 5632 := (i 1).isLt
  rw [dsum, half_sum]
  refine (val_main_v16_apply X W i).trans ?_
  refine sum_fin _ _ _ fun k => ?_
  have hk : k.val < 2048 := k.isLt
  rw [val_main_v15_apply, val_main_v14_apply, val_main_cst_0_apply, val_main_v13_apply, val_main_v1_apply, val_main_v0_apply, ← mul_assoc]
  refine congrArg₂ (fun p q : EReal => half * p * q) (rd2_of X _ rfl rfl) (rd3_of W _ ?_ ?_ ?_)
  · show ((i 1).val * 2048 + k.val) / 1441792 = (i 1).val / 704
    omega
  · show ((i 1).val * 2048 + k.val) / 2048 % 704 = (i 1).val % 704
    omega
  · show ((i 1).val * 2048 + k.val) % 2048 = k.val
    omega

/-- The reference's gate gradient is the kernel's, for a finite gradient of the gated branch. -/
theorem ref_gate (hX : ∀ i, IsReal (X i)) (hW : ∀ i, IsReal (W i)) (hB : ∀ i, IsReal (B i)) :
    val_main_v22 (F := Ideal) X W A B = gateArr X W A B := by
  funext i
  have h0 : (i 0).val < 8 := (i 0).isLt
  have h1 : (i 1).val < 8192 := (i 1).isLt
  have h2 : (i 2).val < 704 := (i 2).isLt
  rw [val_main_v22_apply, val_main_v21_apply, val_main_v20_apply]
  refine (val_main_v19_apply X W A B _).trans ?_
  rw [val_main_call1_v1_apply, val_main_call1_v2_apply, val_main_call1_v0_apply, val_main_v18_apply, val_main_v8_1_apply,
    val_main_call0_v7_apply, val_main_call0_v6_apply, val_main_call0_cst_1_apply, wide_sg, wide_ds, wideA, wideB]
  have e0 : (((i 1).val * 8 + (i 0).val) * 704 + (i 2).val) / 5632 = (i 1).val := by omega
  have e1 : (((i 1).val * 8 + (i 0).val) * 704 + (i 2).val) % 5632 / 704 = (i 0).val := by omega
  have e2 : (((i 1).val * 8 + (i 0).val) * 704 + (i 2).val) % 5632 % 704 = (i 2).val := by omega
  show dsum X W ((((i 1).val * 8 + (i 0).val) * 704 + (i 2).val) % 5632 / 704) ((((i 1).val * 8 + (i 0).val) * 704 + (i 2).val) / 5632)
        ((((i 1).val * 8 + (i 0).val) * 704 + (i 2).val) % 5632 % 704)
      * rd3 B ((((i 1).val * 8 + (i 0).val) * 704 + (i 2).val) % 5632 / 704) ((((i 1).val * 8 + (i 0).val) * 704 + (i 2).val) / 5632)
        ((((i 1).val * 8 + (i 0).val) * 704 + (i 2).val) % 5632 % 704)
      * sg (rd3 A ((((i 1).val * 8 + (i 0).val) * 704 + (i 2).val) % 5632 / 704) ((((i 1).val * 8 + (i 0).val) * 704 + (i 2).val) / 5632)
        ((((i 1).val * 8 + (i 0).val) * 704 + (i 2).val) % 5632 % 704))
      + rd3 A ((((i 1).val * 8 + (i 0).val) * 704 + (i 2).val) % 5632 / 704) ((((i 1).val * 8 + (i 0).val) * 704 + (i 2).val) / 5632)
        ((((i 1).val * 8 + (i 0).val) * 704 + (i 2).val) % 5632 % 704)
      * (dsum X W ((((i 1).val * 8 + (i 0).val) * 704 + (i 2).val) % 5632 / 704) ((((i 1).val * 8 + (i 0).val) * 704 + (i 2).val) / 5632)
        ((((i 1).val * 8 + (i 0).val) * 704 + (i 2).val) % 5632 % 704)
      * rd3 B ((((i 1).val * 8 + (i 0).val) * 704 + (i 2).val) % 5632 / 704) ((((i 1).val * 8 + (i 0).val) * 704 + (i 2).val) / 5632)
        ((((i 1).val * 8 + (i 0).val) * 704 + (i 2).val) % 5632 % 704))
      * (sg (rd3 A ((((i 1).val * 8 + (i 0).val) * 704 + (i 2).val) % 5632 / 704) ((((i 1).val * 8 + (i 0).val) * 704 + (i 2).val) / 5632)
        ((((i 1).val * 8 + (i 0).val) * 704 + (i 2).val) % 5632 % 704))
      * (Ideal.ofBits .f32 0x3F800000#32
        - sg (rd3 A ((((i 1).val * 8 + (i 0).val) * 704 + (i 2).val) % 5632 / 704) ((((i 1).val * 8 + (i 0).val) * 704 + (i 2).val) / 5632)
        ((((i 1).val * 8 + (i 0).val) * 704 + (i 2).val) % 5632 % 704)))) = _
  rw [e0, e1, e2, Ideal.ofBits_one_f32, gateArr, gateK]
  have hg : IsReal (dsum X W (i 0).val (i 1).val (i 2).val * rd3 B (i 0).val (i 1).val (i 2).val) :=
    (IsReal.mul ⟨_, half_eq⟩ (IsReal.sum _ fun k => (IsReal.rd2 hX _ _).mul (IsReal.rd3 hW _ _ _))).mul (IsReal.rd3 hB _ _ _)
  obtain ⟨g, hg⟩ := hg
  rw [hg]
  exact (gate_eq g _).symm

/-- The reference's up gradient is the kernel's. -/
theorem ref_up : val_main_v25 (F := Ideal) X W A = upArr X W A := by
  funext i
  have h0 : (i 0).val < 8 := (i 0).isLt
  have h1 : (i 1).val < 8192 := (i 1).isLt
  have h2 : (i 2).val < 704 := (i 2).isLt
  rw [val_main_v25_apply, val_main_v24_apply, val_main_v23_apply]
  refine (val_main_v17_apply X W A _).trans ?_
  rw [val_main_v8_0_apply, wide_sg, wide_ds, wideA]
  have e0 : (((i 1).val * 8 + (i 0).val) * 704 + (i 2).val) / 5632 = (i 1).val := by omega
  have e1 : (((i 1).val * 8 + (i 0).val) * 704 + (i 2).val) % 5632 / 704 = (i 0).val := by omega
  have e2 : (((i 1).val * 8 + (i 0).val) * 704 + (i 2).val) % 5632 % 704 = (i 2).val := by omega
  show rd3 A ((((i 1).val * 8 + (i 0).val) * 704 + (i 2).val) % 5632 / 704) ((((i 1).val * 8 + (i 0).val) * 704 + (i 2).val) / 5632)
        ((((i 1).val * 8 + (i 0).val) * 704 + (i 2).val) % 5632 % 704)
      * sg (rd3 A ((((i 1).val * 8 + (i 0).val) * 704 + (i 2).val) % 5632 / 704) ((((i 1).val * 8 + (i 0).val) * 704 + (i 2).val) / 5632)
        ((((i 1).val * 8 + (i 0).val) * 704 + (i 2).val) % 5632 % 704))
      * dsum X W ((((i 1).val * 8 + (i 0).val) * 704 + (i 2).val) % 5632 / 704) ((((i 1).val * 8 + (i 0).val) * 704 + (i 2).val) / 5632)
        ((((i 1).val * 8 + (i 0).val) * 704 + (i 2).val) % 5632 % 704) = _
  rw [e0, e1, e2, upArr, upK, mul_comm, ← mul_assoc]

end Cert.Ffn.Act

end
-- ==== Proof.Dw.lean ====
/-
The gradient of a feed-forward weight that widens (gate or up): the kernel's array is, group by group, the sum over all
rows of input times gradient, accumulated over four blocks of rows.
-/
module

public import proofs.«01_k».proof.Proof.Reads
public import proofs.«01_k».proof.Proof.Gen.Kernel3Ideal.Value
public import Idealize.ShloMosaic.Lib.Pipeline.ValueKit

@[expose] public section

set_option maxRecDepth 16384

noncomputable section

namespace Cert.Ffn.Dw

open Idealize.ShloMosaic hiding ix0 ix1 ix2 ix3 ix4 ix5
open Finset Idealize.ShloMosaic.ValueIdx Idealize.ShloMosaic.TcCoe Idealize.ShloMosaic.Tactic
open Cert.Kernel3Ideal Cert.Kernel3Ideal.Gen

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![t.val / 4, t.val % 4, 0] :=
  (by decide +kernel : ∀ t : Fin grid0.N, win0_1.index t = ![t.val / 4, t.val % 4, 0])
theorem idx2 : ∀ t : Fin cfg0.N, win0_2.index t = ![t.val / 4, 0, 0] :=
  (by decide +kernel : ∀ t : Fin grid0.N, win0_2.index t = ![t.val / 4, 0, 0])
theorem pt_lt (t : Fin cfg0.N) : t.val < 32 := lt_of_lt_of_eq t.isLt (show cfg0.N = 32 from N_0)

/-- One point's product: over the block's rows, input times gradient. -/
theorem pay1_apply (x0 : Vec Ideal S2048x2048 .bf16) (x1 : Vec Ideal S1x2048x704 .bf16) (d : Fin 2048) (f : Fin 704) :
    k0_pay1 x0 x1 (ix2 d f) = ∑ k : Fin 2048, x0 (ix2 k d) * x1 (ix3 (0 : Fin 1) k f) := by
  unfold k0_pay1
  refine (Ideal.matmul_apply₁_of dot_S2048x2048_S2048x704_S2048x704_0_0_1_1_n_n rfl (K := 2048) rfl _ _ _ _
    (fun k => ix2 k d) (fun k => ix2 k f) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]
    refine Finset.sum_congr rfl fun k _ => ?_
    rw [shapeCast_1ab_ab_apply]

variable (m : (ℓ : Loc nD τ sig) → Buf (Elt Ideal) ℓ) (c : Dev nD)

/-- One row's share of the weight's gradient. -/
def term (X : S8192x2048.Idx → EReal) (Y : S8x8192x704.Idx → EReal) (j d f r : ℕ) : EReal := rd2 X r d * rd3 Y j r f

theorem blk0 (t : Fin cfg0.N) (x d : Fin 2048) :
    iblk m c 0 t (ix2 x d) = rd2 (V m c main_arg0) (t.val % 4 * 2048 + x) d := by
  have ht := pt_lt t
  unfold iblk
  generalize V m c = W
  blk_simp
  exact rd2_of (W main_arg0) _ (by blk_simp [idx0]) (by blk_simp [idx0])

theorem blk1 (t : Fin cfg0.N) (x : Fin 2048) (f : Fin 704) :
    iblk m c 1 t (ix3 (0 : Fin 1) x f) = rd3 (V m c main_arg1) (t.val / 4) (t.val % 4 * 2048 + x) f := by
  have ht := pt_lt t
  unfold iblk
  generalize V m c = W
  blk_simp
  exact rd3_of (W main_arg1) _ (by blk_simp [idx1]) (by blk_simp [idx1]) (by blk_simp [idx1])

/-- The block's product, by the rows' numbers. -/
theorem pay1_blk (t : Fin cfg0.N) (d : Fin 2048) (f : Fin 704) :
    k0_pay1 (iblk m c 0 t) (iblk m c 1 t) (ix2 d f)
      = ∑ k ∈ range 2048, term (V m c main_arg0) (V m c main_arg1) (t.val / 4) d f (t.val % 4 * 2048 + k) := by
  rw [pay1_apply]
  exact sum_fin _ _ _ fun k => by rw [blk0, blk1]; rfl

theorem pay2_apply (x0 : Vec Ideal S2048x2048 .bf16) (x1 : Vec Ideal S1x2048x704 .bf16) (i : S2048x704.Idx) :
    k0_pay2 x0 x1 i = k0_pay1 x0 x1 i := by
  unfold k0_pay2
  exact shapeCast_apply _ _ i i rfl

theorem pay3_apply (x0 : Vec Ideal S2048x2048 .bf16) (x1 : Vec Ideal S1x2048x704 .bf16) (a : Vec Ideal S2048x704 .f32) (i : S2048x704.Idx) :
    k0_pay3 x0 x1 a i = a i + k0_pay1 x0 x1 i := by
  unfold k0_pay3
  exact shapeCast_apply _ _ i i rfl

theorem pay4_apply (a : Vec Ideal S2048x704 .f32) (d : Fin 2048) (f : Fin 704) :
    k0_pay4 a (ix3 (0 : Fin 1) d f) = a (ix2 d f) := by
  unfold k0_pay4
  refine (shapeCast_apply _ _ (ix3 (0 : Fin 1) d f) (ix2 d f) ?_).trans rfl
  rw [Shape.rowMajor_val_two, Shape.rowMajor_val_three]
  show (d : ℕ) * 704 + f = (0 * 2048 + (d : ℕ)) * 704 + f
  omega

/-- A group's first point leaves its own product in the accumulator. -/
theorem acc_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- Every other point adds its product to what the point before left. -/
theorem acc_next (t : Fin cfg0.N) (h0 : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg (k0_pay3 _ _) (Memref.IsWhole.read_unread (Memref.isWhole_whole _) _)
  · rw [outsAt0_B m c t h0 (by omega) h2]
    frame_out
    exact congrArg (k0_pay3 _ _) (Memref.IsWhole.read_unread (Memref.isWhole_whole _) _)

/-- The last point writes out what it leaves in the accumulator. -/
theorem out_last (t : Fin cfg0.N) (h2 : t.val % 4 = 3) :
    (outsAt0 m c t.val t.isLt).1 = k0_pay4 (outsAt0 m c t.val t.isLt).2 := by
  rw [acc_next m c t (by omega), outsAt0_C m c t (by omega) (by omega) h2]
  frame_out
  exact congrArg (fun a => k0_pay4 (k0_pay3 _ _ a)) (Memref.IsWhole.read_unread (Memref.isWhole_whole _) _)

/-- After any point the accumulator holds the sum over the rows met so far. -/
theorem acc_at : ∀ (n : ℕ) (h : n < cfg0.N) (d : Fin 2048) (f : Fin 704), (outsAt0 m c n h).2 (ix2 d f)
    = ∑ r ∈ range (n % 4 * 2048 + 2048), term (V m c main_arg0) (V m c main_arg1) (n / 4) d f r := by
  intro n
  induction n with
  | zero =>
    intro h d f
    refine (congrFun (acc_first m c ⟨0, h⟩ rfl) (ix2 d f)).trans ?_
    rw [pay2_apply, pay1_blk]
    refine Finset.sum_congr rfl fun k _ => ?_
    show term _ _ (0 / 4) d f (0 % 4 * 2048 + k) = _
    rw [Nat.zero_mod, Nat.zero_mul, Nat.zero_add]
  | succ n ih =>
    intro h d f
    by_cases h0 : (n + 1) % 4 = 0
    · refine (congrFun (acc_first m c ⟨n + 1, h⟩ h0) (ix2 d f)).trans ?_
      rw [pay2_apply, pay1_blk]
      show ∑ k ∈ range 2048, term _ _ ((n + 1) / 4) d f ((n + 1) % 4 * 2048 + k) = _
      rw [h0, Nat.zero_mul, Nat.zero_add]
      exact Finset.sum_congr rfl fun k _ => by rw [Nat.zero_add]
    · refine (congrFun (acc_next m c ⟨n + 1, h⟩ h0) (ix2 d f)).trans ?_
      rw [pay3_apply, pay1_blk]
      refine (congrArg (· + _) (ih (Nat.lt_of_succ_lt h) d f)).trans ?_
      have e1 : (n + 1) % 4 * 2048 = n % 4 * 2048 + 2048 := by omega
      have e2 : (n + 1) / 4 = n / 4 := by omega
      show _ + ∑ k ∈ range 2048, term _ _ ((n + 1) / 4) d f ((n + 1) % 4 * 2048 + k) = _
      rw [e1, e2, Finset.sum_range_add _ (n % 4 * 2048 + 2048) 2048]

/-- The weight's gradient as one array: every row summed, for every group. -/
def dwArr (X : S8192x2048.Idx → EReal) (Y : S8x8192x704.Idx → EReal) : S8x2048x704.Idx → EReal := fun i =>
  ∑ r ∈ range 8192, term X Y (i 0).val (i 1).val (i 2).val r

/-- The gradient's array after the run. -/
theorem final_dw : (dats m 0 c).arrAt 2 cfg0.N = dwArr (V m c main_arg0) (V m c main_arg1) := by
  refine (dats m 0 c).arrAt_eq_of_covers 2 (dwArr (V m c main_arg0) (V m c main_arg1)) (by decide +kernel) fun t hf y => ?_
  have h3 : t.val % 4 = 3 := (flush0_2 t).mp hf
  have ht := pt_lt t
  generalize hW : V m c = W
  blk_simp
  rw [after0_2, out_last m c t h3]
  obtain ⟨a, b, rfl⟩ : ∃ (a : Fin 2048) (b : Fin 704), y = ix3 (0 : Fin 1) a b := ⟨y 1, y 2, by
    refine (eq_ix3 y).trans (congrArg (fun z => ix3 z (y 1) (y 2)) (Subsingleton.elim (α := Fin 1) _ _))⟩
  refine (pay4_apply _ a b).trans ?_
  refine (acc_at m c t.val t.isLt a b).trans ?_
  have e0 : ((((win0_2.blk t).view.emb (ix3 (0 : Fin 1) a b)) 0 : Fin _) : ℕ) = t.val / 4 := by blk_simp [idx2]
  have e1 : ((((win0_2.blk t).view.emb (ix3 (0 : Fin 1) a b)) 1 : Fin _) : ℕ) = a := by blk_simp [idx2]; rfl
  have e2 : ((((win0_2.blk t).view.emb (ix3 (0 : Fin 1) a b)) 2 : Fin _) : ℕ) = b := by blk_simp [idx2]; rfl
  unfold dwArr
  rw [e0, e1, e2, h3, hW]

end Cert.Ffn.Dw

end
-- ==== Proof.DwRef.lean ====
/-
The same gradient as the reference computes it: one product over all rows of the widened groups, cut into groups again.
-/
module

public import proofs.«01_k».proof.Proof.Dw
public import proofs.«01_k».proof.Proof.Gen.Reference3Ideal.Read

@[expose] public section

set_option maxRecDepth 16384

noncomputable section

namespace Cert.Ffn.Dw

open Idealize.ShloMosaic hiding ix0 ix1 ix2 ix3 ix4 ix5
open Finset Idealize.ShloMosaic.ValueIdx Idealize.ShloMosaic.TcCoe
open Cert.Reference3Ideal Cert.Reference3Ideal.Read

/-- The groups side by side, read at a column. -/
theorem wide_apply (Y : (⟨S8x8192x704, .bf16⟩ : BufTy).Contents (Elt Ideal)) (i : S8192x5632.Idx) :
    val_main_v5 (F := Ideal) Y i = rd3 Y ((i 1).val / 704) (i 0).val ((i 1).val % 704) := by
  have h0 : (i 0).val < 8192 := (i 0).isLt
  have h1 : (i 1).val < 5632 := (i 1).isLt
  rw [val_main_v5_apply, val_main_v4_apply, val_main_v3_apply]
  refine rd3_of Y _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The reference's gradient is the same array. -/
theorem ref_eq (X : (⟨S8192x2048, .bf16⟩ : BufTy).Contents (Elt Ideal)) (Y : (⟨S8x8192x704, .bf16⟩ : BufTy).Contents (Elt Ideal)) :
    val_main_v10 (F := Ideal) X Y = dwArr X Y := by
  funext i
  have h0 : (i 0).val < 8 := (i 0).isLt
  have h1 : (i 1).val < 2048 := (i 1).isLt
  have h2 : (i 2).val < 704 := (i 2).isLt
  rw [val_main_v10_apply, val_main_v9_apply, val_main_v8_apply, val_main_v7_apply]
  refine (val_main_v6_apply X Y _).trans ?_
  refine sum_fin _ _ _ fun k => ?_
  have hk : k.val < 8192 := k.isLt
  rw [term, mul_comm, wide_apply, val_main_v0_apply]
  refine congrArg₂ (· * ·) (rd2_of X _ rfl ?_) ?_
  · show (((i 1).val * 8 + (i 0).val) * 704 + (i 2).val) / 5632 = (i 1).val
    omega
  · show rd3 Y ((((i 1).val * 8 + (i 0).val) * 704 + (i 2).val) % 5632 / 704) k.val
      ((((i 1).val * 8 + (i 0).val) * 704 + (i 2).val) % 5632 % 704) = _
    rw [show (((i 1).val * 8 + (i 0).val) * 704 + (i 2).val) % 5632 / 704 = (i 0).val by omega,
      show (((i 1).val * 8 + (i 0).val) * 704 + (i 2).val) % 5632 % 704 = (i 2).val by omega]

end Cert.Ffn.Dw

end
-- ==== Proof.Dwd.lean ====
/-
The gradient of the feed-forward weight that narrows (down): the kernel's array is, group by group, half the sum over all
rows of the gated hidden row times the arriving gradient, accumulated over four blocks of rows.
-/
module

public import proofs.«01_k».proof.Proof.Reads
public import proofs.«01_k».proof.Proof.Gen.Kernel4Ideal.Value
public import Idealize.ShloMosaic.Lib.Pipeline.ValueKit

@[expose] public section

set_option maxRecDepth 16384

noncomputable section

namespace Cert.Ffn.Dwd

open Idealize.ShloMosaic hiding ix0 ix1 ix2 ix3 ix4 ix5
open Finset Idealize.ShloMosaic.ValueIdx Idealize.ShloMosaic.TcCoe Idealize.ShloMosaic.Tactic
open Cert.Kernel4Ideal Cert.Kernel4Ideal.Gen

theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val % 4, 0] :=
  (by decide +kernel : ∀ t : Fin grid0.N, win0_1.index t = ![t.val % 4, 0])
theorem idx2 : ∀ t : Fin cfg0.N, win0_2.index t = ![t.val / 4, 0, 0] :=
  (by decide +kernel : ∀ t : Fin grid0.N, win0_2.index t = ![t.val / 4, 0, 0])
theorem pt_lt (t : Fin cfg0.N) : t.val < 32 := lt_of_lt_of_eq t.isLt (show cfg0.N = 32 from N_0)

/-- One point's product: over the block's rows, hidden row times gradient. -/
theorem pay1_apply (x0 : Vec Ideal S1x2048x704 .bf16) (x1 : Vec Ideal S2048x2048 .bf16) (f : Fin 704) (d : Fin 2048) :
    k0_pay1 x0 x1 (ix2 f d) = ∑ k : Fin 2048, x0 (ix3 (0 : Fin 1) k f) * x1 (ix2 k d) := by
  unfold k0_pay1
  refine (Ideal.matmul_apply₁_of dot_S2048x704_S2048x2048_S704x2048_0_0_1_1_n_n rfl (K := 2048) rfl _ _ _ _
    (fun k => ix2 k f) (fun k => ix2 k d) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]
    refine Finset.sum_congr rfl fun k _ => ?_
    rw [shapeCast_1ab_ab_apply]

variable (m : (ℓ : Loc nD τ sig) → Buf (Elt Ideal) ℓ) (c : Dev nD)

/-- One row's share of the weight's gradient, before it is halved. -/
def term (X : S8x8192x704.Idx → EReal) (Y : S8192x2048.Idx → EReal) (j f d r : ℕ) : EReal := rd3 X j r f * rd2 Y r d

theorem blk0 (t : Fin cfg0.N) (x : Fin 2048) (f : Fin 704) :
    iblk m c 0 t (ix3 (0 : Fin 1) x f) = rd3 (V m c main_arg0) (t.val / 4) (t.val % 4 * 2048 + x) f := by
  have ht := pt_lt t
  unfold iblk
  generalize V m c = W
  blk_simp
  exact rd3_of (W main_arg0) _ (by blk_simp [idx0]) (by blk_simp [idx0]) (by blk_simp [idx0])

theorem blk1 (t : Fin cfg0.N) (x d : Fin 2048) :
    iblk m c 1 t (ix2 x d) = rd2 (V m c main_arg1) (t.val % 4 * 2048 + x) d := by
  have ht := pt_lt t
  unfold iblk
  generalize V m c = W
  blk_simp
  exact rd2_of (W main_arg1) _ (by blk_simp [idx1]) (by blk_simp [idx1])

/-- The block's product, by the rows' numbers. -/
theorem pay1_blk (t : Fin cfg0.N) (f : Fin 704) (d : Fin 2048) :
    k0_pay1 (iblk m c 0 t) (iblk m c 1 t) (ix2 f d)
      = ∑ k ∈ range 2048, term (V m c main_arg0) (V m c main_arg1) (t.val / 4) f d (t.val % 4 * 2048 + k) := by
  rw [pay1_apply]
  exact sum_fin _ _ _ fun k => by rw [blk0, blk1]; rfl

theorem pay2_apply (x0 : Vec Ideal S1x2048x704 .bf16) (x1 : Vec Ideal S2048x2048 .bf16) (i : S704x2048.Idx) :
    k0_pay2 x0 x1 i = k0_pay1 x0 x1 i := by
  unfold k0_pay2
  exact shapeCast_apply _ _ i i rfl

theorem pay3_apply (x0 : Vec Ideal S1x2048x704 .bf16) (x1 : Vec Ideal S2048x2048 .bf16) (a : Vec Ideal S704x2048 .f32) (i : S704x2048.Idx) :
    k0_pay3 x0 x1 a i = a i + k0_pay1 x0 x1 i := by
  unfold k0_pay3
  exact shapeCast_apply _ _ i i rfl

theorem pay4_apply (a : Vec Ideal S704x2048 .f32) (f : Fin 704) (d : Fin 2048) :
    k0_pay4 a (ix3 (0 : Fin 1) f d) = half * a (ix2 f d) := by
  unfold k0_pay4
  refine (shapeCast_apply _ _ (ix3 (0 : Fin 1) f d) (ix2 f d) ?_).trans rfl
  rw [Shape.rowMajor_val_two, Shape.rowMajor_val_three]
  show (f : ℕ) * 2048 + d = (0 * 704 + (f : ℕ)) * 2048 + d
  omega

/-- A group's first point leaves its own product in the accumulator. -/
theorem acc_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- Every other point adds its product to what the point before left. -/
theorem acc_next (t : Fin cfg0.N) (h0 : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg (k0_pay3 _ _) (Memref.IsWhole.read_unread (Memref.isWhole_whole _) _)
  · rw [outsAt0_B m c t h0 (by omega) h2]
    frame_out
    exact congrArg (k0_pay3 _ _) (Memref.IsWhole.read_unread (Memref.isWhole_whole _) _)

/-- The last point writes out what it leaves in the accumulator. -/
theorem out_last (t : Fin cfg0.N) (h2 : t.val % 4 = 3) :
    (outsAt0 m c t.val t.isLt).1 = k0_pay4 (outsAt0 m c t.val t.isLt).2 := by
  rw [acc_next m c t (by omega), outsAt0_C m c t (by omega) (by omega) h2]
  frame_out
  exact congrArg (fun a => k0_pay4 (k0_pay3 _ _ a)) (Memref.IsWhole.read_unread (Memref.isWhole_whole _) _)

/-- After any point the accumulator holds the sum over the rows met so far. -/
theorem acc_at : ∀ (n : ℕ) (h : n < cfg0.N) (f : Fin 704) (d : Fin 2048), (outsAt0 m c n h).2 (ix2 f d)
    = ∑ r ∈ range (n % 4 * 2048 + 2048), term (V m c main_arg0) (V m c main_arg1) (n / 4) f d r := by
  intro n
  induction n with
  | zero =>
    intro h f d
    refine (congrFun (acc_first m c ⟨0, h⟩ rfl) (ix2 f d)).trans ?_
    rw [pay2_apply, pay1_blk]
    refine Finset.sum_congr rfl fun k _ => ?_
    show term _ _ (0 / 4) f d (0 % 4 * 2048 + k) = _
    rw [Nat.zero_mod, Nat.zero_mul, Nat.zero_add]
  | succ n ih =>
    intro h f d
    by_cases h0 : (n + 1) % 4 = 0
    · refine (congrFun (acc_first m c ⟨n + 1, h⟩ h0) (ix2 f d)).trans ?_
      rw [pay2_apply, pay1_blk]
      show ∑ k ∈ range 2048, term _ _ ((n + 1) / 4) f d ((n + 1) % 4 * 2048 + k) = _
      rw [h0, Nat.zero_mul, Nat.zero_add]
      exact Finset.sum_congr rfl fun k _ => by rw [Nat.zero_add]
    · refine (congrFun (acc_next m c ⟨n + 1, h⟩ h0) (ix2 f d)).trans ?_
      rw [pay3_apply, pay1_blk]
      refine (congrArg (· + _) (ih (Nat.lt_of_succ_lt h) f d)).trans ?_
      have e1 : (n + 1) % 4 * 2048 = n % 4 * 2048 + 2048 := by omega
      have e2 : (n + 1) / 4 = n / 4 := by omega
      show _ + ∑ k ∈ range 2048, term _ _ ((n + 1) / 4) f d ((n + 1) % 4 * 2048 + k) = _
      rw [e1, e2, Finset.sum_range_add _ (n % 4 * 2048 + 2048) 2048]

/-- The weight's gradient as one array: every row summed and the sum halved, for every group. -/
def dwdArr (X : S8x8192x704.Idx → EReal) (Y : S8192x2048.Idx → EReal) : S8x704x2048.Idx → EReal := fun i =>
  half * ∑ r ∈ range 8192, term X Y (i 0).val (i 1).val (i 2).val r

/-- The gradient's array after the run. -/
theorem final_dwd : (dats m 0 c).arrAt 2 cfg0.N = dwdArr (V m c main_arg0) (V m c main_arg1) := by
  refine (dats m 0 c).arrAt_eq_of_covers 2 (dwdArr (V m c main_arg0) (V m c main_arg1)) (by decide +kernel) fun t hf y => ?_
  have h3 : t.val % 4 = 3 := (flush0_2 t).mp hf
  have ht := pt_lt t
  generalize hW : V m c = W
  blk_simp
  rw [after0_2, out_last m c t h3]
  obtain ⟨a, b, rfl⟩ : ∃ (a : Fin 704) (b : Fin 2048), y = ix3 (0 : Fin 1) a b := ⟨y 1, y 2, by
    refine (eq_ix3 y).trans (congrArg (fun z => ix3 z (y 1) (y 2)) (Subsingleton.elim (α := Fin 1) _ _))⟩
  refine (pay4_apply _ a b).trans ?_
  refine (congrArg (half * ·) (acc_at m c t.val t.isLt a b)).trans ?_
  have e0 : ((((win0_2.blk t).view.emb (ix3 (0 : Fin 1) a b)) 0 : Fin _) : ℕ) = t.val / 4 := by blk_simp [idx2]
  have e1 : ((((win0_2.blk t).view.emb (ix3 (0 : Fin 1) a b)) 1 : Fin _) : ℕ) = a := by blk_simp [idx2]; rfl
  have e2 : ((((win0_2.blk t).view.emb (ix3 (0 : Fin 1) a b)) 2 : Fin _) : ℕ) = b := by blk_simp [idx2]; rfl
  unfold dwdArr
  rw [e0, e1, e2, h3, hW]

end Cert.Ffn.Dwd

end
-- ==== Proof.DwdRef.lean ====
/-
The same gradient as the reference computes it: one product over all rows of the widened groups, cut into groups again, the gradient halved
before the product.
-/
module

public import proofs.«01_k».proof.Proof.Dwd
public import proofs.«01_k».proof.Proof.Gen.Reference4Ideal.Read

@[expose] public section

set_option maxRecDepth 16384

noncomputable section

namespace Cert.Ffn.Dwd

open Idealize.ShloMosaic hiding ix0 ix1 ix2 ix3 ix4 ix5
open Finset Idealize.ShloMosaic.ValueIdx Idealize.ShloMosaic.TcCoe
open Cert.Reference4Ideal Cert.Reference4Ideal.Read

/-- The groups side by side, read at a column. -/
theorem wide_apply (Y : (⟨S8x8192x704, .bf16⟩ : BufTy).Contents (Elt Ideal)) (i : S8192x5632.Idx) :
    val_main_v2 (F := Ideal) Y i = rd3 Y ((i 1).val / 704) (i 0).val ((i 1).val % 704) := by
  have h0 : (i 0).val < 8192 := (i 0).isLt
  have h1 : (i 1).val < 5632 := (i 1).isLt
  rw [val_main_v2_apply, val_main_v1_apply, val_main_v0_apply]
  refine rd3_of Y _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The reference's gradient is the same array. -/
theorem ref_eq (X : (⟨S8x8192x704, .bf16⟩ : BufTy).Contents (Elt Ideal)) (Y : (⟨S8192x2048, .bf16⟩ : BufTy).Contents (Elt Ideal)) :
    val_main_v13 (F := Ideal) X Y = dwdArr X Y := by
  funext i
  have h0 : (i 0).val < 8 := (i 0).isLt
  have h1 : (i 1).val < 704 := (i 1).isLt
  have h2 : (i 2).val < 2048 := (i 2).isLt
  rw [val_main_v13_apply, val_main_v12_apply, val_main_v11_apply, dwdArr, half_sum]
  refine (val_main_v10_apply X Y _).trans ?_
  refine sum_fin _ _ _ fun k => ?_
  have hk : k.val < 8192 := k.isLt
  rw [wide_apply, val_main_v9_apply, val_main_v8_apply, val_main_v7_apply, val_main_cst_1_apply]
  show half * Y _ * rd3 X ((((i 0).val * 704 + (i 1).val) * 2048 + (i 2).val) / 2048 / 704) k.val
      ((((i 0).val * 704 + (i 1).val) * 2048 + (i 2).val) / 2048 % 704) = _
  rw [show (((i 0).val * 704 + (i 1).val) * 2048 + (i 2).val) / 2048 / 704 = (i 0).val by omega,
    show (((i 0).val * 704 + (i 1).val) * 2048 + (i 2).val) / 2048 % 704 = (i 1).val by omega, term, mul_assoc]
  refine congrArg (half * ·) ((mul_comm _ _).trans (congrArg (_ * ·) (rd2_of Y _ rfl ?_)))
  show (((i 0).val * 704 + (i 1).val) * 2048 + (i 2).val) % 2048 = (i 2).val
  omega

end Cert.Ffn.Dwd

end
-- ==== Proof.Dn.lean ====
/-
The gradient of the feed-forward block's input: at each row and column the kernel adds, group by group, the gate's and the
up branch's products over the group's hidden columns.
-/
module

public import proofs.«01_k».proof.Proof.Reads
public import proofs.«01_k».proof.Proof.Gen.Kernel5Ideal.Value
public import Idealize.ShloMosaic.Lib.Pipeline.ValueKit
public import Idealize.ShloMosaic.Lib.MatmulPlain

@[expose] public section

set_option maxRecDepth 16384

noncomputable section

namespace Cert.Ffn.Dn

open Idealize.ShloMosaic hiding ix0 ix1 ix2 ix3 ix4 ix5
open Finset Idealize.ShloMosaic.ValueIdx Idealize.ShloMosaic.TcCoe Idealize.ShloMosaic.Tactic
open Cert.Kernel5Ideal Cert.Kernel5Ideal.Gen

theorem idx0 : ∀ t : Fin cfg0.N, win0_0.index t = ![0, t.val / 8, 0] :=
  (by decide +kernel : ∀ t : Fin grid0.N, win0_0.index t = ![0, t.val / 8, 0])
theorem idx1 : ∀ t : Fin cfg0.N, win0_1.index t = ![0, t.val / 8, 0] :=
  (by decide +kernel : ∀ t : Fin grid0.N, win0_1.index t = ![0, t.val / 8, 0])
theorem idx2 : ∀ t : Fin cfg0.N, win0_2.index t = ![0, t.val % 8, 0] :=
  (by decide +kernel : ∀ t : Fin grid0.N, win0_2.index t = ![0, t.val % 8, 0])
theorem idx3 : ∀ t : Fin cfg0.N, win0_3.index t = ![0, t.val % 8, 0] :=
  (by decide +kernel : ∀ t : Fin grid0.N, win0_3.index t = ![0, t.val % 8, 0])
theorem idx4 : ∀ t : Fin cfg0.N, win0_4.index t = ![t.val / 8, t.val % 8] :=
  (by decide +kernel : ∀ t : Fin grid0.N, win0_4.index t = ![t.val / 8, t.val % 8])
theorem pt_lt (t : Fin cfg0.N) : t.val < 128 := lt_of_lt_of_eq t.isLt (show cfg0.N = 128 from N_0)

/-- One group's product, as the body computes it. -/
def prod (A : Vec Ideal S1x512x704 .bf16) (B : Vec Ideal S1x256x704 .bf16) : FVec Ideal S512x256 .f32 :=
  matmul (φ₁ := .bf16) (φ₂ := .bf16) dot_S512x704_S256x704_S512x256_1_1_0_0_n_n none (shapeCast S512x704 A shapeCasts_S1x512x704_S512x704)
    (shapeCast S256x704 B shapeCasts_S1x256x704_S256x704) (constant S512x256 .f32 0x00000000#32)

theorem prod_apply (A : Vec Ideal S1x512x704 .bf16) (B : Vec Ideal S1x256x704 .bf16) (y : Fin 512) (x : Fin 256) :
    prod A B (ix2 y x) = ∑ k : Fin 704, A (ix3 (0 : Fin 1) y k) * B (ix3 (0 : Fin 1) x k) := by
  unfold prod
  refine (Ideal.matmul_apply₁_of dot_S512x704_S256x704_S512x256_1_1_0_0_n_n rfl (K := 704) rfl _ _ _ _
    (fun k => ix2 y k) (fun k => ix2 x k) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]
    refine Finset.sum_congr rfl fun k _ => ?_
    rw [shapeCast_1ab_ab_apply, shapeCast_1ab_ab_apply]

/-- One group's product over the blocks. -/
theorem prod_ld (X : Vec Ideal S8x512x704 .bf16) (W : Vec Ideal S8x256x704 .bf16) (j : ℕ) (hj : j < 8)
    (i0 : ∀ ax, (![j, 0, 0] : Fin 3 → ℕ) ax + S1x512x704.size ax ≤ S8x512x704.size ax)
    (i1 : ∀ ax, (![j, 0, 0] : Fin 3 → ℕ) ax + S1x256x704.size ax ≤ S8x256x704.size ax) (y : Fin 512) (x : Fin 256) :
    prod (View.ld (Val := Elt Ideal) (S := S8x512x704) X (Rect.unit (s := S8x512x704) ![j, 0, 0] S1x512x704.size i0))
        (View.ld (Val := Elt Ideal) (S := S8x256x704) W (Rect.unit (s := S8x256x704) ![j, 0, 0] S1x256x704.size i1)) (ix2 y x)
      = ∑ k : Fin 704, X (ix3 ⟨j, hj⟩ y k) * W (ix3 ⟨j, hj⟩ x k) := by
  refine (prod_apply _ _ y x).trans (Finset.sum_congr rfl fun k _ => ?_)
  refine congrArg₂ (· * ·) (View.ld_unit_apply_of _ _ _ _ _ _ fun ax => ?_) (View.ld_unit_apply_of _ _ _ _ _ _ fun ax => ?_)
  · match ax with
    | ⟨0, _⟩ => rfl
    | ⟨1, _⟩ => exact (Nat.zero_add _).symm
    | ⟨2, _⟩ => exact (Nat.zero_add _).symm
  · match ax with
    | ⟨0, _⟩ => rfl
    | ⟨1, _⟩ => exact (Nat.zero_add _).symm
    | ⟨2, _⟩ => exact (Nat.zero_add _).symm

/-- Both branches' products of one group. -/
def both (x0 x1 : Vec Ideal S8x512x704 .bf16) (x2 x3 : Vec Ideal S8x256x704 .bf16) (y : Fin 512) (x : Fin 256) (j : Fin 8) : EReal :=
  (∑ k : Fin 704, x0 (ix3 j y k) * x2 (ix3 j x k)) + ∑ k : Fin 704, x1 (ix3 j y k) * x3 (ix3 j x k)

/-- What the body stores: the eight groups' products added up. -/
theorem out_apply (x0 x1 : Vec Ideal S8x512x704 .bf16) (x2 x3 : Vec Ideal S8x256x704 .bf16) (y : Fin 512) (x : Fin 256) :
    out0_4 x0 x1 x2 x3 (ix2 y x) = ∑ j : Fin 8, both x0 x1 x2 x3 y x j := by
  unfold out0_4
  rw [View.canon_cons_unit_lit (S := S512x256) inb_S512x256_S512x256_0_0 _ _ (by decide)]
  have e : ∀ (a0 b0 a1 b1 a2 b2 a3 b3 a4 b4 a5 b5 a6 b6 a7 b7 : Vec Ideal S1x512x704 .bf16)
      (c0 d0 c1 d1 c2 d2 c3 d3 c4 d4 c5 d5 c6 d6 c7 d7 : Vec Ideal S1x256x704 .bf16),
      k0_pay1 (k0_pay6 (k0_pay4 (k0_pay2 a0 c0 b0 d0 a1 c1 b1 d1) (k0_pay3 a2) c2 b2 d2 a3 c3 b3 d3) (k0_pay5 a4 c4) b4 d4 a5 c5 b5 d5)
        (k0_pay7 a6 c6) (k0_pay8 b6) (k0_pay9 d6) (constant S512x256 .f32 0x00000000#32) a7 c7 b7 d7 (ix2 y x)
      = (((((((prod a0 c0 (ix2 y x) + prod b0 d0 (ix2 y x)) + (prod a1 c1 (ix2 y x) + prod b1 d1 (ix2 y x)))
        + (prod a2 c2 (ix2 y x) + prod b2 d2 (ix2 y x))) + (prod a3 c3 (ix2 y x) + prod b3 d3 (ix2 y x)))
        + (prod a4 c4 (ix2 y x) + prod b4 d4 (ix2 y x))) + (prod a5 c5 (ix2 y x) + prod b5 d5 (ix2 y x)))
        + (prod a6 c6 (ix2 y x) + prod b6 d6 (ix2 y x))) + (prod a7 c7 (ix2 y x) + prod b7 d7 (ix2 y x)) := by
    intros
    unfold k0_pay1 k0_pay6 k0_pay4 k0_pay2 k0_pay3 k0_pay5 k0_pay7 k0_pay8 k0_pay9 prod
    rfl
  refine (e _ _ _ _ _ _ _ _ _ _ _ _ _ _ _ _ _ _ _ _ _ _ _ _ _ _ _ _ _ _ _ _).trans ?_
  rw [Fin.sum_univ_eight]
  unfold both
  rw [prod_ld x0 x2 0 (by decide), prod_ld x1 x3 0 (by decide), prod_ld x0 x2 1 (by decide), prod_ld x1 x3 1 (by decide),
    prod_ld x0 x2 2 (by decide), prod_ld x1 x3 2 (by decide), prod_ld x0 x2 3 (by decide), prod_ld x1 x3 3 (by decide),
    prod_ld x0 x2 4 (by decide), prod_ld x1 x3 4 (by decide), prod_ld x0 x2 5 (by decide), prod_ld x1 x3 5 (by decide),
    prod_ld x0 x2 6 (by decide), prod_ld x1 x3 6 (by decide), prod_ld x0 x2 7 (by decide), prod_ld x1 x3 7 (by decide)]
  rfl

variable (m : (ℓ : Loc nD τ sig) → Buf (Elt Ideal) ℓ) (c : Dev nD)

theorem blk0 (t : Fin cfg0.N) (j : Fin 8) (y : Fin 512) (k : Fin 704) :
    iblk m c 0 t (ix3 j y k) = rd3 (V m c main_arg0) j (t.val / 8 * 512 + y) k := by
  have ht := pt_lt t
  unfold iblk
  generalize V m c = W
  blk_simp
  exact rd3_of (W main_arg0) _ (by blk_simp [idx0]) (by blk_simp [idx0]) (by blk_simp [idx0])

theorem blk1 (t : Fin cfg0.N) (j : Fin 8) (y : Fin 512) (k : Fin 704) :
    iblk m c 1 t (ix3 j y k) = rd3 (V m c main_arg1) j (t.val / 8 * 512 + y) k := by
  have ht := pt_lt t
  unfold iblk
  generalize V m c = W
  blk_simp
  exact rd3_of (W main_arg1) _ (by blk_simp [idx1]) (by blk_simp [idx1]) (by blk_simp [idx1])

theorem blk2 (t : Fin cfg0.N) (j : Fin 8) (x : Fin 256) (k : Fin 704) :
    iblk m c 2 t (ix3 j x k) = rd3 (V m c main_arg2) j (t.val % 8 * 256 + x) k := by
  have ht := pt_lt t
  unfold iblk
  generalize V m c = W
  blk_simp
  exact rd3_of (W main_arg2) _ (by blk_simp [idx2]) (by blk_simp [idx2]) (by blk_simp [idx2])

theorem blk3 (t : Fin cfg0.N) (j : Fin 8) (x : Fin 256) (k : Fin 704) :
    iblk m c 3 t (ix3 j x k) = rd3 (V m c main_arg3) j (t.val % 8 * 256 + x) k := by
  have ht := pt_lt t
  unfold iblk
  generalize V m c = W
  blk_simp
  exact rd3_of (W main_arg3) _ (by blk_simp [idx3]) (by blk_simp [idx3]) (by blk_simp [idx3])

/-- One group's product at a row and a column of the whole arrays. -/
def grp (X : S8x8192x704.Idx → EReal) (W : S8x2048x704.Idx → EReal) (y x j : ℕ) : EReal :=
  ∑ k ∈ range 704, rd3 X j y k * rd3 W j x k

/-- The input's gradient as one array: all groups of both branches summed. -/
def dnArr (X0 X1 : S8x8192x704.Idx → EReal) (W0 W1 : S8x2048x704.Idx → EReal) : S8192x2048.Idx → EReal := fun i =>
  ∑ j ∈ range 8, (grp X0 W0 (i 0).val (i 1).val j + grp X1 W1 (i 0).val (i 1).val j)

/-- The gradient's array after the run. -/
theorem final_dn : (dats m 0 c).arrAt 4 cfg0.N
    = dnArr (V m c main_arg0) (V m c main_arg1) (V m c main_arg2) (V m c main_arg3) := by
  refine (dats m 0 c).arrAt_eq_of_covers 4 (dnArr (V m c main_arg0) (V m c main_arg1) (V m c main_arg2) (V m c main_arg3))
    (by decide +kernel) fun t hf y => ?_
  have ht := pt_lt t
  have B0 := blk0 m c t
  have B1 := blk1 m c t
  have B2 := blk2 m c t
  have B3 := blk3 m c t
  have hA := after0_4 m c t
  generalize V m c = W at B0 B1 B2 B3 ⊢
  blk_simp
  rw [hA]
  obtain ⟨a, b, rfl⟩ : ∃ (a : Fin 512) (b : Fin 256), y = ix2 a b := ⟨y 0, y 1, eq_ix2 y⟩
  refine (out_apply _ _ _ _ a b).trans ?_
  have e0 : ((((win0_4.blk t).view.emb (ix2 a b)) 0 : Fin _) : ℕ) = t.val / 8 * 512 + a := by blk_simp [idx4]; rfl
  have e1 : ((((win0_4.blk t).view.emb (ix2 a b)) 1 : Fin _) : ℕ) = t.val % 8 * 256 + b := by blk_simp [idx4]; rfl
  unfold dnArr
  rw [e0, e1]
  refine sum_fin _ _ _ fun j => ?_
  unfold both
  refine congrArg₂ (· + ·) (sum_fin _ _ _ fun k => ?_) (sum_fin _ _ _ fun k => ?_)
  · rw [B0, B2]
  · rw [B1, B3]

end Cert.Ffn.Dn

end
-- ==== Proof.DnRef.lean ====
/-
The same gradient as the reference computes it: one product per branch over all hidden columns, the groups side by side.
-/
module

public import proofs.«01_k».proof.Proof.Dn
public import proofs.«01_k».proof.Proof.Gen.Reference5Ideal.Read

@[expose] public section

set_option maxRecDepth 16384

noncomputable section

namespace Cert.Ffn.Dn

open Idealize.ShloMosaic hiding ix0 ix1 ix2 ix3 ix4 ix5
open Finset Idealize.ShloMosaic.ValueIdx Idealize.ShloMosaic.TcCoe
open Cert.Reference5Ideal Cert.Reference5Ideal.Read

/-- The gate gradient's groups side by side, read at a column. -/
theorem wide_da (Y : (⟨S8x8192x704, .bf16⟩ : BufTy).Contents (Elt Ideal)) (i : S8192x5632.Idx) :
    val_main_v11 (F := Ideal) Y i = rd3 Y ((i 1).val / 704) (i 0).val ((i 1).val % 704) := by
  have h0 : (i 0).val < 8192 := (i 0).isLt
  have h1 : (i 1).val < 5632 := (i 1).isLt
  rw [val_main_v11_apply, val_main_v10_apply, val_main_v9_apply]
  refine rd3_of Y _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The up gradient's groups side by side, read at a column. -/
theorem wide_db (Y : (⟨S8x8192x704, .bf16⟩ : BufTy).Contents (Elt Ideal)) (i : S8192x5632.Idx) :
    val_main_v14 (F := Ideal) Y i = rd3 Y ((i 1).val / 704) (i 0).val ((i 1).val % 704) := by
  have h0 : (i 0).val < 8192 := (i 0).isLt
  have h1 : (i 1).val < 5632 := (i 1).isLt
  rw [val_main_v14_apply, val_main_v13_apply, val_main_v12_apply]
  refine rd3_of Y _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The gate weight's groups side by side, read at a column. -/
theorem wide_wg (Y : (⟨S8x2048x704, .bf16⟩ : BufTy).Contents (Elt Ideal)) (i : S2048x5632.Idx) :
    val_main_v2 (F := Ideal) Y i = rd3 Y ((i 1).val / 704) (i 0).val ((i 1).val % 704) := by
  have h0 : (i 0).val < 2048 := (i 0).isLt
  have h1 : (i 1).val < 5632 := (i 1).isLt
  rw [val_main_v2_apply, val_main_v1_apply, val_main_v0_apply]
  refine rd3_of Y _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The up weight's groups side by side, read at a column. -/
theorem wide_wu (Y : (⟨S8x2048x704, .bf16⟩ : BufTy).Contents (Elt Ideal)) (i : S2048x5632.Idx) :
    val_main_v5 (F := Ideal) Y i = rd3 Y ((i 1).val / 704) (i 0).val ((i 1).val % 704) := by
  have h0 : (i 0).val < 2048 := (i 0).isLt
  have h1 : (i 1).val < 5632 := (i 1).isLt
  rw [val_main_v5_apply, val_main_v4_apply, val_main_v3_apply]
  refine rd3_of Y _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The reference's gradient is the same array. -/
theorem ref_eq (X0 X1 : (⟨S8x8192x704, .bf16⟩ : BufTy).Contents (Elt Ideal)) (W0 W1 : (⟨S8x2048x704, .bf16⟩ : BufTy).Contents (Elt Ideal)) :
    val_main_v17 (F := Ideal) X0 X1 W0 W1 = dnArr X0 X1 W0 W1 := by
  funext i
  rw [val_main_v17_apply, dnArr, Finset.sum_add_distrib]
  refine (add_comm (_ : EReal) _).trans (congrArg₂ (· + ·) ?_ ?_)
  · refine (val_main_v16_apply X0 W0 i).trans (Eq.trans (sum_fin _ _
      (fun k => rd3 X0 (k / 704) (i 0).val (k % 704) * rd3 W0 (k / 704) (i 1).val (k % 704)) fun k => ?_)
      (sum_groups (fun j k => rd3 X0 j (i 0).val k * rd3 W0 j (i 1).val k) 8))
    rw [wide_da, wide_wg]
  · refine (val_main_v15_apply X1 W1 i).trans (Eq.trans (sum_fin _ _
      (fun k => rd3 X1 (k / 704) (i 0).val (k % 704) * rd3 W1 (k / 704) (i 1).val (k % 704)) fun k => ?_)
      (sum_groups (fun j k => rd3 X1 j (i 0).val k * rd3 W1 j (i 1).val k) 8))
    rw [wide_db, wide_wu]

end Cert.Ffn.Dn

end
-- ==== Proof.Up.lean ====
/-
The feed-forward block's two branches and their gated product: each row of a group is the normed input's row times the
group's weight, and the product is taken entry by entry with the logistic of the gate.
-/
module

public import proofs.«01_k».proof.Proof.Act
public import proofs.«01_k».proof.Proof.Gen.Kernel6Ideal.Value
public import Idealize.ShloMosaic.Lib.Pipeline.ValueKit

@[expose] public section

set_option maxRecDepth 16384

noncomputable section

namespace Cert.Ffn.Up

open Idealize.ShloMosaic hiding ix0 ix1 ix2 ix3 ix4 ix5
open Finset Idealize.ShloMosaic.ValueIdx Idealize.ShloMosaic.TcCoe Idealize.ShloMosaic.Tactic
open Cert.Kernel6Ideal Cert.Kernel6Ideal.Gen
open Cert.Ffn.Act (sg)

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![t.val / 8, 0, 0] :=
  (by decide +kernel : ∀ t : Fin grid0.N, win0_1.index t = ![t.val / 8, 0, 0])
theorem idx2 : ∀ t : Fin cfg0.N, win0_2.index t = ![t.val / 8, 0, 0] :=
  (by decide +kernel : ∀ t : Fin grid0.N, win0_2.index t = ![t.val / 8, 0, 0])
theorem idx3 : ∀ t : Fin cfg0.N, win0_3.index t = ![t.val / 8, t.val % 8, 0] :=
  (by decide +kernel : ∀ t : Fin grid0.N, win0_3.index t = ![t.val / 8, t.val % 8, 0])
theorem idx4 : ∀ t : Fin cfg0.N, win0_4.index t = ![t.val / 8, t.val % 8, 0] :=
  (by decide +kernel : ∀ t : Fin grid0.N, win0_4.index t = ![t.val / 8, t.val % 8, 0])
theorem idx5 : ∀ t : Fin cfg0.N, win0_5.index t = ![t.val / 8, t.val % 8, 0] :=
  (by decide +kernel : ∀ t : Fin grid0.N, win0_5.index t = ![t.val / 8, t.val % 8, 0])
theorem pt_lt (t : Fin cfg0.N) : t.val < 64 := lt_of_lt_of_eq t.isLt (show cfg0.N = 64 from N_0)

/-- The gate branch of one block: its rows times the group's weight. -/
theorem pay1_apply (x0 : Vec Ideal S1024x2048 .bf16) (x1 : Vec Ideal S1x2048x704 .bf16) (y : Fin 1024) (f : Fin 704) :
    k0_pay1 x0 x1 (ix2 y f) = ∑ k : Fin 2048, x0 (ix2 y k) * x1 (ix3 (0 : Fin 1) k f) := by
  unfold k0_pay1
  refine (Ideal.matmul_apply₁_of dot_S1024x2048_S2048x704_S1024x704_1_0_0_1_n_n rfl (K := 2048) rfl _ _ _ _
    (fun k => ix2 y k) (fun k => ix2 k f) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]
    refine Finset.sum_congr rfl fun k _ => ?_
    rw [shapeCast_1ab_ab_apply]

/-- The up branch of one block: its rows times the group's weight. -/
theorem pay2_apply (x0 : Vec Ideal S1024x2048 .bf16) (x1 : Vec Ideal S1x2048x704 .bf16) (y : Fin 1024) (f : Fin 704) :
    k0_pay2 x0 x1 (ix2 y f) = ∑ k : Fin 2048, x0 (ix2 y k) * x1 (ix3 (0 : Fin 1) k f) := by
  unfold k0_pay2
  refine (Ideal.matmul_apply₁_of dot_S1024x2048_S2048x704_S1024x704_1_0_0_1_n_n rfl (K := 2048) rfl _ _ _ _
    (fun k => ix2 y k) (fun k => ix2 k f) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]
    refine Finset.sum_congr rfl fun k _ => ?_
    rw [shapeCast_1ab_ab_apply]

/-- The row of a block's stored array is the row of the computed one. -/
theorem cast_out (v : FVec Ideal S1024x704 .bf16) (y : Fin 1024) (f : Fin 704) :
    shapeCast S1x1024x704 v shapeCasts_S1024x704_S1x1024x704 (ix3 (0 : Fin 1) y f) = v (ix2 y f) := by
  refine (shapeCast_apply _ _ (ix3 (0 : Fin 1) y f) (ix2 y f) ?_).trans rfl
  rw [Shape.rowMajor_val_two, Shape.rowMajor_val_three]
  show (y : ℕ) * 704 + f = (0 * 1024 + (y : ℕ)) * 704 + f
  omega

theorem pay3_apply (x0 : Vec Ideal S1024x2048 .bf16) (x1 : Vec Ideal S1x2048x704 .bf16) (y : Fin 1024) (f : Fin 704) :
    k0_pay3 x0 x1 (ix3 (0 : Fin 1) y f) = k0_pay1 x0 x1 (ix2 y f) := by
  unfold k0_pay3
  exact cast_out _ y f

theorem pay4_apply (x0 : Vec Ideal S1024x2048 .bf16) (x1 : Vec Ideal S1x2048x704 .bf16) (y : Fin 1024) (f : Fin 704) :
    k0_pay4 x0 x1 (ix3 (0 : Fin 1) y f) = k0_pay2 x0 x1 (ix2 y f) := by
  unfold k0_pay4
  exact cast_out _ y f

/-- The gated product of two numbers. -/
def gated (a b : EReal) : EReal := a * sg a * b

theorem pay5_apply (x0 : Vec Ideal S1024x2048 .bf16) (x1 x2 : Vec Ideal S1x2048x704 .bf16) (y : Fin 1024) (f : Fin 704) :
    k0_pay5 x0 x1 x0 x2 (ix3 (0 : Fin 1) y f) = gated (k0_pay1 x0 x1 (ix2 y f)) (k0_pay2 x0 x2 (ix2 y f)) := by
  unfold k0_pay5
  refine (cast_out _ y f).trans ?_
  show k0_pay1 x0 x1 (ix2 y f) * Ideal.div (Ideal.ofBits .f32 0x3F800000#32) (Ideal.ofBits .f32 0x3F800000#32
    + Ideal.exp (Ideal.ofBits .f32 0x00000000#32 - k0_pay1 x0 x1 (ix2 y f))) * k0_pay2 x0 x2 (ix2 y f) = _
  rw [Ideal.ofBits_one_f32, Ideal.ofBits_zero_f32, zero_sub]
  rfl

theorem out3 (x0 : Vec Ideal S1024x2048 .bf16) (x1 x2 : Vec Ideal S1x2048x704 .bf16) :
    out0_3 x0 x1 x2 = k0_pay3 x0 x1 := by
  unfold out0_3
  rw [View.canon_cons_unit_lit (S := S1x1024x704) inb_S1x1024x704_S1x1024x704_0_0_0 _ _ (by decide),
    View.ld_unit_lit (S := S1024x2048) inb_S1024x2048_S1024x2048_0_0 x0 (by decide),
    View.ld_unit_lit (S := S1x2048x704) inb_S1x2048x704_S1x2048x704_0_0_0 x1 (by decide)]

theorem out4 (x0 : Vec Ideal S1024x2048 .bf16) (x1 x2 : Vec Ideal S1x2048x704 .bf16) :
    out0_4 x0 x1 x2 = k0_pay4 x0 x2 := by
  unfold out0_4
  rw [View.canon_cons_unit_lit (S := S1x1024x704) inb_S1x1024x704_S1x1024x704_0_0_0 _ _ (by decide),
    View.ld_unit_lit (S := S1024x2048) inb_S1024x2048_S1024x2048_0_0 x0 (by decide),
    View.ld_unit_lit (S := S1x2048x704) inb_S1x2048x704_S1x2048x704_0_0_0 x2 (by decide)]

theorem out5 (x0 : Vec Ideal S1024x2048 .bf16) (x1 x2 : Vec Ideal S1x2048x704 .bf16) :
    out0_5 x0 x1 x2 = k0_pay5 x0 x1 x0 x2 := by
  unfold out0_5
  rw [View.canon_cons_unit_lit (S := S1x1024x704) inb_S1x1024x704_S1x1024x704_0_0_0 _ _ (by decide),
    View.ld_unit_lit (S := S1024x2048) inb_S1024x2048_S1024x2048_0_0 x0 (by decide),
    View.ld_unit_lit (S := S1x2048x704) inb_S1x2048x704_S1x2048x704_0_0_0 x1 (by decide),
    View.ld_unit_lit (S := S1x2048x704) inb_S1x2048x704_S1x2048x704_0_0_0 x2 (by decide)]

variable (m : (ℓ : Loc nD τ sig) → Buf (Elt Ideal) ℓ) (c : Dev nD)

theorem blk0 (t : Fin cfg0.N) (y : Fin 1024) (k : Fin 2048) :
    iblk m c 0 t (ix2 y k) = rd2 (V m c main_arg0) (t.val % 8 * 1024 + y) k := by
  have ht := pt_lt t
  unfold iblk
  generalize V m c = W
  blk_simp
  exact rd2_of (W main_arg0) _ (by blk_simp [idx0]) (by blk_simp [idx0])

theorem blk1 (t : Fin cfg0.N) (k : Fin 2048) (f : Fin 704) :
    iblk m c 1 t (ix3 (0 : Fin 1) k f) = rd3 (V m c main_arg1) (t.val / 8) k f := by
  have ht := pt_lt t
  unfold iblk
  generalize V m c = W
  blk_simp
  exact rd3_of (W main_arg1) _ (by blk_simp [idx1]) (by blk_simp [idx1]) (by blk_simp [idx1])

theorem blk2 (t : Fin cfg0.N) (k : Fin 2048) (f : Fin 704) :
    iblk m c 2 t (ix3 (0 : Fin 1) k f) = rd3 (V m c main_arg2) (t.val / 8) k f := by
  have ht := pt_lt t
  unfold iblk
  generalize V m c = W
  blk_simp
  exact rd3_of (W main_arg2) _ (by blk_simp [idx2]) (by blk_simp [idx2]) (by blk_simp [idx2])

/-- A branch at group `j`, row `r`, column `f`. -/
def branch (X : S8192x2048.Idx → EReal) (W : S8x2048x704.Idx → EReal) (j r f : ℕ) : EReal :=
  ∑ k ∈ range 2048, rd2 X r k * rd3 W j k f

/-- A branch as one array. -/
def branchArr (X : S8192x2048.Idx → EReal) (W : S8x2048x704.Idx → EReal) : S8x8192x704.Idx → EReal := fun i =>
  branch X W (i 0).val (i 1).val (i 2).val

/-- The gated product as one array. -/
def gatedArr (X : S8192x2048.Idx → EReal) (W0 W1 : S8x2048x704.Idx → EReal) : S8x8192x704.Idx → EReal := fun i =>
  gated (branch X W0 (i 0).val (i 1).val (i 2).val) (branch X W1 (i 0).val (i 1).val (i 2).val)

theorem blkA (t : Fin cfg0.N) (y : Fin 1024) (f : Fin 704) :
    k0_pay1 (iblk m c 0 t) (iblk m c 1 t) (ix2 y f) = branch (V m c main_arg0) (V m c main_arg1) (t.val / 8) (t.val % 8 * 1024 + y) f := by
  rw [pay1_apply]
  exact sum_fin _ _ _ fun k => by rw [blk0, blk1]

theorem blkB (t : Fin cfg0.N) (y : Fin 1024) (f : Fin 704) :
    k0_pay2 (iblk m c 0 t) (iblk m c 2 t) (ix2 y f) = branch (V m c main_arg0) (V m c main_arg2) (t.val / 8) (t.val % 8 * 1024 + y) f := by
  rw [pay2_apply]
  exact sum_fin _ _ _ fun k => by rw [blk0, blk2]

/-- The array of the gate branch after the run. -/
theorem final3 : (dats m 0 c).arrAt 3 cfg0.N = branchArr (V m c main_arg0) (V m c main_arg1) := by
  refine (dats m 0 c).arrAt_eq_of_covers 3 (branchArr (V m c main_arg0) (V m c main_arg1)) (by decide +kernel) fun t hf y => ?_
  have ht := pt_lt t
  have P1 := blkA m c t
  have P2 := blkB m c t
  revert P1 P2
  generalize V m c = W
  intro P1 P2
  blk_simp
  rw [after0_3, out3]
  obtain ⟨a, b, rfl⟩ : ∃ (a : Fin 1024) (b : Fin 704), y = ix3 (0 : Fin 1) a b := ⟨y 1, y 2, by
    refine (eq_ix3 y).trans (congrArg (fun z => ix3 z (y 1) (y 2)) (Subsingleton.elim (α := Fin 1) _ _))⟩
  refine (pay3_apply _ _ a b).trans ?_
  have e0 : ((((win0_3.blk t).view.emb (ix3 (0 : Fin 1) a b)) 0 : Fin _) : ℕ) = t.val / 8 := by blk_simp [idx3]
  have e1 : ((((win0_3.blk t).view.emb (ix3 (0 : Fin 1) a b)) 1 : Fin _) : ℕ) = t.val % 8 * 1024 + a := by blk_simp [idx3]; rfl
  have e2 : ((((win0_3.blk t).view.emb (ix3 (0 : Fin 1) a b)) 2 : Fin _) : ℕ) = b := by blk_simp [idx3]; rfl
  unfold branchArr
  rw [e0, e1, e2, P1]

/-- The array of the up branch after the run. -/
theorem final4 : (dats m 0 c).arrAt 4 cfg0.N = branchArr (V m c main_arg0) (V m c main_arg2) := by
  refine (dats m 0 c).arrAt_eq_of_covers 4 (branchArr (V m c main_arg0) (V m c main_arg2)) (by decide +kernel) fun t hf y => ?_
  have ht := pt_lt t
  have P1 := blkA m c t
  have P2 := blkB m c t
  revert P1 P2
  generalize V m c = W
  intro P1 P2
  blk_simp
  rw [after0_4, out4]
  obtain ⟨a, b, rfl⟩ : ∃ (a : Fin 1024) (b : Fin 704), y = ix3 (0 : Fin 1) a b := ⟨y 1, y 2, by
    refine (eq_ix3 y).trans (congrArg (fun z => ix3 z (y 1) (y 2)) (Subsingleton.elim (α := Fin 1) _ _))⟩
  refine (pay4_apply _ _ a b).trans ?_
  have e0 : ((((win0_4.blk t).view.emb (ix3 (0 : Fin 1) a b)) 0 : Fin _) : ℕ) = t.val / 8 := by blk_simp [idx4]
  have e1 : ((((win0_4.blk t).view.emb (ix3 (0 : Fin 1) a b)) 1 : Fin _) : ℕ) = t.val % 8 * 1024 + a := by blk_simp [idx4]; rfl
  have e2 : ((((win0_4.blk t).view.emb (ix3 (0 : Fin 1) a b)) 2 : Fin _) : ℕ) = b := by blk_simp [idx4]; rfl
  unfold branchArr
  rw [e0, e1, e2, P2]

/-- The array of the gated product after the run. -/
theorem final5 : (dats m 0 c).arrAt 5 cfg0.N = gatedArr (V m c main_arg0) (V m c main_arg1) (V m c main_arg2) := by
  refine (dats m 0 c).arrAt_eq_of_covers 5 (gatedArr (V m c main_arg0) (V m c main_arg1) (V m c main_arg2)) (by decide +kernel) fun t hf y => ?_
  have ht := pt_lt t
  have P1 := blkA m c t
  have P2 := blkB m c t
  revert P1 P2
  generalize V m c = W
  intro P1 P2
  blk_simp
  rw [after0_5, out5]
  obtain ⟨a, b, rfl⟩ : ∃ (a : Fin 1024) (b : Fin 704), y = ix3 (0 : Fin 1) a b := ⟨y 1, y 2, by
    refine (eq_ix3 y).trans (congrArg (fun z => ix3 z (y 1) (y 2)) (Subsingleton.elim (α := Fin 1) _ _))⟩
  refine (pay5_apply _ _ _ a b).trans ?_
  have e0 : ((((win0_5.blk t).view.emb (ix3 (0 : Fin 1) a b)) 0 : Fin _) : ℕ) = t.val / 8 := by blk_simp [idx5]
  have e1 : ((((win0_5.blk t).view.emb (ix3 (0 : Fin 1) a b)) 1 : Fin _) : ℕ) = t.val % 8 * 1024 + a := by blk_simp [idx5]; rfl
  have e2 : ((((win0_5.blk t).view.emb (ix3 (0 : Fin 1) a b)) 2 : Fin _) : ℕ) = b := by blk_simp [idx5]; rfl
  unfold gatedArr
  rw [e0, e1, e2, P1, P2]

end Cert.Ffn.Up

end
-- ==== Proof.UpRef.lean ====
/-
The same branches as the reference computes them: two products over the groups side by side, cut into groups again.
-/
module

public import proofs.«01_k».proof.Proof.Up
public import proofs.«01_k».proof.Proof.Gen.Reference6Ideal.Read

@[expose] public section

set_option maxRecDepth 16384

noncomputable section

namespace Cert.Ffn.Up

open Idealize.ShloMosaic hiding ix0 ix1 ix2 ix3 ix4 ix5
open Finset Idealize.ShloMosaic.ValueIdx Idealize.ShloMosaic.TcCoe
open Cert.Reference6Ideal Cert.Reference6Ideal.Read
open Cert.Ffn.Act (sg)

variable (X : (⟨S8192x2048, .bf16⟩ : BufTy).Contents (Elt Ideal)) (W W0 W1 : (⟨S8x2048x704, .bf16⟩ : BufTy).Contents (Elt Ideal))

/-- The gate weight's groups side by side, read at a column. -/
theorem wide_gate (i : S2048x5632.Idx) : val_main_v3 (F := Ideal) W i = rd3 W ((i 1).val / 704) (i 0).val ((i 1).val % 704) := by
  have h0 : (i 0).val < 2048 := (i 0).isLt
  have h1 : (i 1).val < 5632 := (i 1).isLt
  rw [val_main_v3_apply, val_main_v2_apply, val_main_v1_apply]
  refine rd3_of W _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The up weight's groups side by side, read at a column. -/
theorem wide_up (i : S2048x5632.Idx) : val_main_v7 (F := Ideal) W i = rd3 W ((i 1).val / 704) (i 0).val ((i 1).val % 704) := by
  have h0 : (i 0).val < 2048 := (i 0).isLt
  have h1 : (i 1).val < 5632 := (i 1).isLt
  rw [val_main_v7_apply, val_main_v6_apply, val_main_v5_apply]
  refine rd3_of W _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The gate branch side by side is a product over the width. -/
theorem branch_gate (i : S8192x5632.Idx) : val_main_v4 (F := Ideal) X W i = branch X W ((i 1).val / 704) (i 0).val ((i 1).val % 704) := by
  refine (val_main_v4_apply X W i).trans ?_
  refine sum_fin _ _ _ fun k => ?_
  rw [wide_gate, val_main_v0_apply]
  exact congrArg (· * _) (rd2_of X _ rfl rfl)

/-- The up branch side by side is a product over the width. -/
theorem branch_up (i : S8192x5632.Idx) : val_main_v8 (F := Ideal) X W i = branch X W ((i 1).val / 704) (i 0).val ((i 1).val % 704) := by
  refine (val_main_v8_apply X W i).trans ?_
  refine sum_fin _ _ _ fun k => ?_
  rw [wide_up, val_main_v0_apply]
  exact congrArg (· * _) (rd2_of X _ rfl rfl)

/-- The reference's gate branch is the kernel's. -/
theorem ref_gate : val_main_v11 (F := Ideal) X W = branchArr X W := by
  funext i
  have h0 : (i 0).val < 8 := (i 0).isLt
  have h1 : (i 1).val < 8192 := (i 1).isLt
  have h2 : (i 2).val < 704 := (i 2).isLt
  rw [val_main_v11_apply, val_main_v10_apply, val_main_v9_apply, branch_gate]
  have e0 : (((i 1).val * 8 + (i 0).val) * 704 + (i 2).val) / 5632 = (i 1).val := by omega
  have e1 : (((i 1).val * 8 + (i 0).val) * 704 + (i 2).val) % 5632 / 704 = (i 0).val := by omega
  have e2 : (((i 1).val * 8 + (i 0).val) * 704 + (i 2).val) % 5632 % 704 = (i 2).val := by omega
  show branch X W ((((i 1).val * 8 + (i 0).val) * 704 + (i 2).val) % 5632 / 704) ((((i 1).val * 8 + (i 0).val) * 704 + (i 2).val) / 5632)
    ((((i 1).val * 8 + (i 0).val) * 704 + (i 2).val) % 5632 % 704) = _
  rw [e0, e1, e2, branchArr]

/-- The reference's up branch is the kernel's. -/
theorem ref_up : val_main_v14 (F := Ideal) X W = branchArr X W := by
  funext i
  have h0 : (i 0).val < 8 := (i 0).isLt
  have h1 : (i 1).val < 8192 := (i 1).isLt
  have h2 : (i 2).val < 704 := (i 2).isLt
  rw [val_main_v14_apply, val_main_v13_apply, val_main_v12_apply, branch_up]
  have e0 : (((i 1).val * 8 + (i 0).val) * 704 + (i 2).val) / 5632 = (i 1).val := by omega
  have e1 : (((i 1).val * 8 + (i 0).val) * 704 + (i 2).val) % 5632 / 704 = (i 0).val := by omega
  have e2 : (((i 1).val * 8 + (i 0).val) * 704 + (i 2).val) % 5632 % 704 = (i 2).val := by omega
  show branch X W ((((i 1).val * 8 + (i 0).val) * 704 + (i 2).val) % 5632 / 704) ((((i 1).val * 8 + (i 0).val) * 704 + (i 2).val) / 5632)
    ((((i 1).val * 8 + (i 0).val) * 704 + (i 2).val) % 5632 % 704) = _
  rw [e0, e1, e2, branchArr]

/-- The reference's gated product is the kernel's. -/
theorem ref_gated : val_main_v19 (F := Ideal) X W0 W1 = gatedArr X W0 W1 := by
  funext i
  have h0 : (i 0).val < 8 := (i 0).isLt
  have h1 : (i 1).val < 8192 := (i 1).isLt
  have h2 : (i 2).val < 704 := (i 2).isLt
  rw [val_main_v19_apply, val_main_v18_apply, val_main_v17_apply, val_main_v16_apply, val_main_v15_apply, val_main_call0_v5_apply,
    val_main_call0_v4_apply, val_main_call0_cst_0_apply, val_main_call0_v3_apply, val_main_call0_v2_apply, val_main_call0_cst_apply,
    val_main_call0_v1_apply, val_main_call0_v0_apply, branch_gate, branch_up]
  have e0 : (((i 1).val * 8 + (i 0).val) * 704 + (i 2).val) / 5632 = (i 1).val := by omega
  have e1 : (((i 1).val * 8 + (i 0).val) * 704 + (i 2).val) % 5632 / 704 = (i 0).val := by omega
  have e2 : (((i 1).val * 8 + (i 0).val) * 704 + (i 2).val) % 5632 % 704 = (i 2).val := by omega
  show branch X W0 ((((i 1).val * 8 + (i 0).val) * 704 + (i 2).val) % 5632 / 704) ((((i 1).val * 8 + (i 0).val) * 704 + (i 2).val) / 5632)
    ((((i 1).val * 8 + (i 0).val) * 704 + (i 2).val) % 5632 % 704)
    * Ideal.div (Ideal.ofBits .f32 0x3F800000#32) (Ideal.ofBits .f32 0x3F800000#32 + Ideal.exp (-branch X W0 ((((i 1).val * 8 + (i 0).val) * 704 + (i 2).val) % 5632 / 704) ((((i 1).val * 8 + (i 0).val) * 704 + (i 2).val) / 5632)
    ((((i 1).val * 8 + (i 0).val) * 704 + (i 2).val) % 5632 % 704)))
    * branch X W1 ((((i 1).val * 8 + (i 0).val) * 704 + (i 2).val) % 5632 / 704) ((((i 1).val * 8 + (i 0).val) * 704 + (i 2).val) / 5632)
    ((((i 1).val * 8 + (i 0).val) * 704 + (i 2).val) % 5632 % 704) = _
  rw [e0, e1, e2, Ideal.ofBits_one_f32, gatedArr, gated]
  rfl

end Cert.Ffn.Up

end
-- ==== Proof.Down.lean ====
/-
The feed-forward block's output: at each row and column the kernel adds, group by group, the gated product's row times
the weight's column, halves the sum and adds the block's input.
-/
module

public import proofs.«01_k».proof.Proof.Reads
public import proofs.«01_k».proof.Proof.Gen.Kernel7Ideal.Value
public import Idealize.ShloMosaic.Lib.Pipeline.ValueKit
public import Idealize.ShloMosaic.Lib.MatmulPlain

@[expose] public section

set_option maxRecDepth 16384

noncomputable section

namespace Cert.Ffn.Down

open Idealize.ShloMosaic hiding ix0 ix1 ix2 ix3 ix4 ix5
open Finset Idealize.ShloMosaic.ValueIdx Idealize.ShloMosaic.TcCoe Idealize.ShloMosaic.Tactic
open Cert.Kernel7Ideal Cert.Kernel7Ideal.Gen

theorem idx0 : ∀ t : Fin cfg0.N, win0_0.index t = ![0, t.val / 4, 0] :=
  (by decide +kernel : ∀ t : Fin grid0.N, win0_0.index t = ![0, t.val / 4, 0])
theorem idx1 : ∀ t : Fin cfg0.N, win0_1.index t = ![0, 0, t.val % 4] :=
  (by decide +kernel : ∀ t : Fin grid0.N, win0_1.index t = ![0, 0, t.val % 4])
theorem idx2 : ∀ t : Fin cfg0.N, win0_2.index t = ![t.val / 4, t.val % 4] :=
  (by decide +kernel : ∀ t : Fin grid0.N, win0_2.index t = ![t.val / 4, t.val % 4])
theorem idx3 : ∀ t : Fin cfg0.N, win0_3.index t = ![t.val / 4, t.val % 4] :=
  (by decide +kernel : ∀ t : Fin grid0.N, win0_3.index t = ![t.val / 4, t.val % 4])
theorem pt_lt (t : Fin cfg0.N) : t.val < 64 := lt_of_lt_of_eq t.isLt (show cfg0.N = 64 from N_0)

/-- One group's product, as the body computes it. -/
def prod (A : Vec Ideal S1x512x704 .bf16) (B : Vec Ideal S1x704x512 .bf16) : FVec Ideal S512x512 .f32 :=
  matmul (φ₁ := .bf16) (φ₂ := .bf16) dot_S512x704_S704x512_S512x512_1_0_0_1_n_n none (shapeCast S512x704 A shapeCasts_S1x512x704_S512x704)
    (shapeCast S704x512 B shapeCasts_S1x704x512_S704x512) (constant S512x512 .f32 0x00000000#32)

theorem prod_apply (A : Vec Ideal S1x512x704 .bf16) (B : Vec Ideal S1x704x512 .bf16) (y x : Fin 512) :
    prod A B (ix2 y x) = ∑ k : Fin 704, A (ix3 (0 : Fin 1) y k) * B (ix3 (0 : Fin 1) k x) := by
  unfold prod
  refine (Ideal.matmul_apply₁_of dot_S512x704_S704x512_S512x512_1_0_0_1_n_n rfl (K := 704) rfl _ _ _ _
    (fun k => ix2 y k) (fun k => ix2 k x) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]
    refine Finset.sum_congr rfl fun k _ => ?_
    rw [shapeCast_1ab_ab_apply, shapeCast_1ab_ab_apply]

/-- One group's product over the blocks. -/
theorem prod_ld (X : Vec Ideal S8x512x704 .bf16) (W : Vec Ideal S8x704x512 .bf16) (j : ℕ) (hj : j < 8)
    (i0 : ∀ ax, (![j, 0, 0] : Fin 3 → ℕ) ax + S1x512x704.size ax ≤ S8x512x704.size ax)
    (i1 : ∀ ax, (![j, 0, 0] : Fin 3 → ℕ) ax + S1x704x512.size ax ≤ S8x704x512.size ax) (y x : Fin 512) :
    prod (View.ld (Val := Elt Ideal) (S := S8x512x704) X (Rect.unit (s := S8x512x704) ![j, 0, 0] S1x512x704.size i0))
        (View.ld (Val := Elt Ideal) (S := S8x704x512) W (Rect.unit (s := S8x704x512) ![j, 0, 0] S1x704x512.size i1)) (ix2 y x)
      = ∑ k : Fin 704, X (ix3 ⟨j, hj⟩ y k) * W (ix3 ⟨j, hj⟩ k x) := by
  refine (prod_apply _ _ y x).trans (Finset.sum_congr rfl fun k _ => ?_)
  refine congrArg₂ (· * ·) (View.ld_unit_apply_of _ _ _ _ _ _ fun ax => ?_) (View.ld_unit_apply_of _ _ _ _ _ _ fun ax => ?_)
  · match ax with
    | ⟨0, _⟩ => rfl
    | ⟨1, _⟩ => exact (Nat.zero_add _).symm
    | ⟨2, _⟩ => exact (Nat.zero_add _).symm
  · match ax with
    | ⟨0, _⟩ => rfl
    | ⟨1, _⟩ => exact (Nat.zero_add _).symm
    | ⟨2, _⟩ => exact (Nat.zero_add _).symm

/-- One group's product at a row and a column of the blocks. -/
def one (x0 : Vec Ideal S8x512x704 .bf16) (x1 : Vec Ideal S8x704x512 .bf16) (y x : Fin 512) (j : Fin 8) : EReal :=
  ∑ k : Fin 704, x0 (ix3 j y k) * x1 (ix3 j k x)

/-- What the body stores: the block's input and half of the eight groups' products. -/
theorem out_apply (x0 : Vec Ideal S8x512x704 .bf16) (x1 : Vec Ideal S8x704x512 .bf16) (x2 : Vec Ideal S512x512 .f32) (y x : Fin 512) :
    out0_3 x0 x1 x2 (ix2 y x) = x2 (ix2 y x) + half * ∑ j : Fin 8, one x0 x1 y x j := by
  unfold out0_3
  rw [View.canon_cons_unit_lit (S := S512x512) inb_S512x512_S512x512_0_0 _ _ (by decide),
    View.ld_unit_lit (S := S512x512) inb_S512x512_S512x512_0_0 x2 (by decide)]
  have e : ∀ (a0 a1 a2 a3 a4 a5 a6 a7 : Vec Ideal S1x512x704 .bf16) (c0 c1 c2 c3 c4 c5 c6 c7 : Vec Ideal S1x704x512 .bf16),
      k0_pay1 (k0_pay2 a0 c0 a1 c1 a2 c2 a3 c3) (k0_pay3 a4) c4 a5 c5 a6 c6 a7 c7 x2 (ix2 y x)
      = x2 (ix2 y x) + half * (((((((prod a0 c0 (ix2 y x) + prod a1 c1 (ix2 y x)) + prod a2 c2 (ix2 y x)) + prod a3 c3 (ix2 y x))
        + prod a4 c4 (ix2 y x)) + prod a5 c5 (ix2 y x)) + prod a6 c6 (ix2 y x)) + prod a7 c7 (ix2 y x)) := by
    intros
    unfold k0_pay1 k0_pay2 k0_pay3 prod
    rfl
  refine (e _ _ _ _ _ _ _ _ _ _ _ _ _ _ _ _).trans ?_
  rw [Fin.sum_univ_eight]
  unfold one
  rw [prod_ld x0 x1 0 (by decide), prod_ld x0 x1 1 (by decide), prod_ld x0 x1 2 (by decide), prod_ld x0 x1 3 (by decide),
    prod_ld x0 x1 4 (by decide), prod_ld x0 x1 5 (by decide), prod_ld x0 x1 6 (by decide), prod_ld x0 x1 7 (by decide)]
  rfl

variable (m : (ℓ : Loc nD τ sig) → Buf (Elt Ideal) ℓ) (c : Dev nD)

theorem blk0 (t : Fin cfg0.N) (j : Fin 8) (y : Fin 512) (k : Fin 704) :
    iblk m c 0 t (ix3 j y k) = rd3 (V m c main_arg0) j (t.val / 4 * 512 + y) k := by
  have ht := pt_lt t
  unfold iblk
  generalize V m c = W
  blk_simp
  exact rd3_of (W main_arg0) _ (by blk_simp [idx0]) (by blk_simp [idx0]) (by blk_simp [idx0])

theorem blk1 (t : Fin cfg0.N) (j : Fin 8) (k : Fin 704) (x : Fin 512) :
    iblk m c 1 t (ix3 j k x) = rd3 (V m c main_arg1) j k (t.val % 4 * 512 + x) := by
  have ht := pt_lt t
  unfold iblk
  generalize V m c = W
  blk_simp
  exact rd3_of (W main_arg1) _ (by blk_simp [idx1]) (by blk_simp [idx1]) (by blk_simp [idx1])

theorem blk2 (t : Fin cfg0.N) (y x : Fin 512) :
    iblk m c 2 t (ix2 y x) = rd2 (V m c main_arg2) (t.val / 4 * 512 + y) (t.val % 4 * 512 + x) := by
  have ht := pt_lt t
  unfold iblk
  generalize V m c = W
  blk_simp
  exact rd2_of (W main_arg2) _ (by blk_simp [idx2]) (by blk_simp [idx2])

/-- One group's product at a row and a column of the whole arrays. -/
def grp (S : S8x8192x704.Idx → EReal) (W : S8x704x2048.Idx → EReal) (y x j : ℕ) : EReal :=
  ∑ k ∈ range 704, rd3 S j y k * rd3 W j k x

/-- The block's output as one array. -/
def downArr (S : S8x8192x704.Idx → EReal) (W : S8x704x2048.Idx → EReal) (X : S8192x2048.Idx → EReal) : S8192x2048.Idx → EReal := fun i =>
  rd2 X (i 0).val (i 1).val + half * ∑ j ∈ range 8, grp S W (i 0).val (i 1).val j

/-- The output's array after the run. -/
theorem final_down : (dats m 0 c).arrAt 3 cfg0.N = downArr (V m c main_arg0) (V m c main_arg1) (V m c main_arg2) := by
  refine (dats m 0 c).arrAt_eq_of_covers 3 (downArr (V m c main_arg0) (V m c main_arg1) (V m c main_arg2))
    (by decide +kernel) fun t hf y => ?_
  have ht := pt_lt t
  have B0 := blk0 m c t
  have B1 := blk1 m c t
  have B2 := blk2 m c t
  have hA := after0_3 m c t
  generalize V m c = W at B0 B1 B2 ⊢
  blk_simp
  rw [hA]
  obtain ⟨a, b, rfl⟩ : ∃ (a b : Fin 512), y = ix2 a b := ⟨y 0, y 1, eq_ix2 y⟩
  refine (out_apply _ _ _ a b).trans ?_
  have e0 : ((((win0_3.blk t).view.emb (ix2 a b)) 0 : Fin _) : ℕ) = t.val / 4 * 512 + a := by blk_simp [idx3]; rfl
  have e1 : ((((win0_3.blk t).view.emb (ix2 a b)) 1 : Fin _) : ℕ) = t.val % 4 * 512 + b := by blk_simp [idx3]; rfl
  unfold downArr
  rw [e0, e1, B2]
  refine congrArg (fun z => _ + half * z) (sum_fin _ _ _ fun j => ?_)
  unfold one
  exact sum_fin _ _ _ fun k => by rw [B0, B1]

end Cert.Ffn.Down

end
-- ==== Proof.DownRef.lean ====
/-
The same output as the reference computes it: one product over all hidden columns, halved and added to the input.
-/
module

public import proofs.«01_k».proof.Proof.Down
public import proofs.«01_k».proof.Proof.Gen.Reference7Ideal.Read

@[expose] public section

set_option maxRecDepth 16384

noncomputable section

namespace Cert.Ffn.Down

open Idealize.ShloMosaic hiding ix0 ix1 ix2 ix3 ix4 ix5
open Finset Idealize.ShloMosaic.ValueIdx Idealize.ShloMosaic.TcCoe
open Cert.Reference7Ideal Cert.Reference7Ideal.Read

/-- The gated product's groups side by side, read at a column. -/
theorem wide_s (Y : (⟨S8x8192x704, .bf16⟩ : BufTy).Contents (Elt Ideal)) (i : S8192x5632.Idx) :
    val_main_v2 (F := Ideal) Y i = rd3 Y ((i 1).val / 704) (i 0).val ((i 1).val % 704) := by
  have h0 : (i 0).val < 8192 := (i 0).isLt
  have h1 : (i 1).val < 5632 := (i 1).isLt
  rw [val_main_v2_apply, val_main_v1_apply, val_main_v0_apply]
  refine rd3_of Y _ ?_ ?_ ?_
  · show ((i 0).val * 5632 + (i 1).val) / 704 % 8 = (i 1).val / 704
    omega
  · show ((i 0).val * 5632 + (i 1).val) / 5632 = (i 0).val
    omega
  · show ((i 0).val * 5632 + (i 1).val) % 704 = (i 1).val % 704
    omega

/-- The weight's groups below one another, read at a row. -/
theorem wide_w (Y : (⟨S8x704x2048, .bf16⟩ : BufTy).Contents (Elt Ideal)) (i : S5632x2048.Idx) :
    val_main_v4 (F := Ideal) Y i = rd3 Y ((i 0).val / 704) ((i 0).val % 704) (i 1).val := by
  have h0 : (i 0).val < 5632 := (i 0).isLt
  have h1 : (i 1).val < 2048 := (i 1).isLt
  rw [val_main_v4_apply, val_main_v3_apply]
  refine rd3_of Y _ ?_ ?_ ?_
  · show ((i 0).val * 2048 + (i 1).val) / 1441792 = (i 0).val / 704
    omega
  · show ((i 0).val * 2048 + (i 1).val) / 2048 % 704 = (i 0).val % 704
    omega
  · show ((i 0).val * 2048 + (i 1).val) % 2048 = (i 1).val
    omega

/-- The reference's output is the same array. -/
theorem ref_eq (S : (⟨S8x8192x704, .bf16⟩ : BufTy).Contents (Elt Ideal)) (W : (⟨S8x704x2048, .bf16⟩ : BufTy).Contents (Elt Ideal))
    (X : (⟨S8192x2048, .f32⟩ : BufTy).Contents (Elt Ideal)) : val_main_v8 (F := Ideal) S W X = downArr S W X := by
  funext i
  rw [val_main_v8_apply, val_main_v7_apply, val_main_v6_apply, val_main_cst_apply, downArr]
  refine congrArg₂ (fun p q : EReal => p + half * q) (rd2_of X i rfl rfl) ?_
  refine (val_main_v5_apply S W i).trans (Eq.trans (sum_fin _ _
    (fun k => rd3 S (k / 704) (i 0).val (k % 704) * rd3 W (k / 704) (k % 704) (i 1).val) fun k => ?_)
    (sum_groups (fun j k => rd3 S j (i 0).val k * rd3 W j k (i 1).val) 8))
  rw [wide_s, wide_w]

end Cert.Ffn.Down

end
-- ==== Proof.Plain.lean ====
/-
Plain products of matrices read at natural numbers: the three ways the factors can lie, the array of a rule, and a sum
gathered over blocks.
-/
module

public import proofs.«01_k».proof.Proof.Reads
public import Idealize.ShloMosaic.Lib.MatmulPlain
public import Idealize.ShloMosaic.Lib.Pipeline.Value

@[expose] public section

set_option maxRecDepth 16384

noncomputable section

namespace Cert.Plain

open Idealize.ShloMosaic hiding ix0 ix1 ix2 ix3 ix4 ix5
open Finset Idealize.ShloMosaic.ValueIdx Idealize.ShloMosaic.TcCoe
open Cert.Ffn

variable {M K N : ℕ}

/-- An entry of the product of two matrices. -/
def nn (X : (⟨2, ![M, K]⟩ : Shape).Idx → EReal) (Y : (⟨2, ![K, N]⟩ : Shape).Idx → EReal) (r c : ℕ) : EReal :=
  ∑ k ∈ range K, rd2 X r k * rd2 Y k c

/-- An entry of the product with the second matrix transposed. -/
def nt (X : (⟨2, ![M, K]⟩ : Shape).Idx → EReal) (Y : (⟨2, ![N, K]⟩ : Shape).Idx → EReal) (r c : ℕ) : EReal :=
  ∑ k ∈ range K, rd2 X r k * rd2 Y c k

/-- An entry of the product with the first matrix transposed. -/
def tn (X : (⟨2, ![K, M]⟩ : Shape).Idx → EReal) (Y : (⟨2, ![K, N]⟩ : Shape).Idx → EReal) (r c : ℕ) : EReal :=
  ∑ k ∈ range K, rd2 X k r * rd2 Y k c

/-- The matrix with these entries. -/
def mat (f : ℕ → ℕ → EReal) : (⟨2, ![M, N]⟩ : Shape).Idx → EReal := fun i => f (i 0).val (i 1).val

/-- A product accumulated onto zero, entry by entry. -/
theorem mm_nn (d : DotDims ⟨2, ![M, K]⟩ ⟨2, ![K, N]⟩ ⟨2, ![M, N]⟩) (hd : d = DotDims.plain M K N)
    (X : FVec Ideal ⟨2, ![M, K]⟩ .bf16) (Y : FVec Ideal ⟨2, ![K, N]⟩ .bf16) (r : Fin M) (c : Fin N) :
    matmul (φ₁ := .bf16) (φ₂ := .bf16) d none X Y (constant ⟨2, ![M, N]⟩ .f32 0x00000000#32) (ix2 r c) = ∑ k : Fin K, X (ix2 r k) * Y (ix2 k c) := by
  subst hd
  refine (Ideal.matmul_plain_apply none X Y _ r c).trans ?_
  rw [constant_apply, Ideal.ofBits_zero_f32, zero_add]

/-- A product with the second matrix transposed, accumulated onto zero, entry by entry. -/
theorem mm_nt (d : DotDims ⟨2, ![M, K]⟩ ⟨2, ![N, K]⟩ ⟨2, ![M, N]⟩) (hd : d = DotDims.transposedRhs M K N)
    (X : FVec Ideal ⟨2, ![M, K]⟩ .bf16) (Y : FVec Ideal ⟨2, ![N, K]⟩ .bf16) (r : Fin M) (c : Fin N) :
    matmul (φ₁ := .bf16) (φ₂ := .bf16) d none X Y (constant ⟨2, ![M, N]⟩ .f32 0x00000000#32) (ix2 r c) = ∑ k : Fin K, X (ix2 r k) * Y (ix2 c k) := by
  subst hd
  refine (Ideal.matmul_transposedRhs_apply none X Y _ r c).trans ?_
  rw [constant_apply, Ideal.ofBits_zero_f32, zero_add]

/-- A block's product, when the factors' blocks are read from two whole matrices. -/
theorem blk_nn {M' N' : ℕ} (d : DotDims ⟨2, ![M, K]⟩ ⟨2, ![K, N]⟩ ⟨2, ![M, N]⟩) (hd : d = DotDims.plain M K N)
    (X : FVec Ideal ⟨2, ![M, K]⟩ .bf16) (Y : FVec Ideal ⟨2, ![K, N]⟩ .bf16) (a : Fin M) (b : Fin N)
    (A : (⟨2, ![M', K]⟩ : Shape).Idx → EReal) (B : (⟨2, ![K, N']⟩ : Shape).Idx → EReal) (r c : ℕ)
    (hX : ∀ k : Fin K, X (ix2 a k) = rd2 A r k) (hY : ∀ k : Fin K, Y (ix2 k b) = rd2 B k c) :
    matmul (φ₁ := .bf16) (φ₂ := .bf16) d none X Y (constant ⟨2, ![M, N]⟩ .f32 0x00000000#32) (ix2 a b) = nn A B r c :=
  (mm_nn d hd X Y a b).trans (sum_fin _ _ _ fun k => by rw [hX, hY])

/-- A block's product with the second matrix transposed, when the factors' blocks are read from two whole matrices. -/
theorem blk_nt {M' N' : ℕ} (d : DotDims ⟨2, ![M, K]⟩ ⟨2, ![N, K]⟩ ⟨2, ![M, N]⟩) (hd : d = DotDims.transposedRhs M K N)
    (X : FVec Ideal ⟨2, ![M, K]⟩ .bf16) (Y : FVec Ideal ⟨2, ![N, K]⟩ .bf16) (a : Fin M) (b : Fin N)
    (A : (⟨2, ![M', K]⟩ : Shape).Idx → EReal) (B : (⟨2, ![N', K]⟩ : Shape).Idx → EReal) (r c : ℕ)
    (hX : ∀ k : Fin K, X (ix2 a k) = rd2 A r k) (hY : ∀ k : Fin K, Y (ix2 b k) = rd2 B c k) :
    matmul (φ₁ := .bf16) (φ₂ := .bf16) d none X Y (constant ⟨2, ![M, N]⟩ .f32 0x00000000#32) (ix2 a b) = nt A B r c :=
  (mm_nt d hd X Y a b).trans (sum_fin _ _ _ fun k => by rw [hX, hY])

/-- A quantity that starts afresh at every fourth step and otherwise adds a block's sum is the sum over the blocks met. -/
theorem gather (n B : ℕ) (a : (k : ℕ) → k < n → EReal) (f : ℕ → ℕ → EReal)
    (first : ∀ k h, k % 4 = 0 → a k h = ∑ r ∈ range B, f (k / 4) (k % 4 * B + r))
    (next : ∀ k h, ¬k % 4 = 0 → a k h = a (k - 1) (Nat.lt_of_le_of_lt (Nat.sub_le _ _) h) + ∑ r ∈ range B, f (k / 4) (k % 4 * B + r)) :
    ∀ k h, a k h = ∑ r ∈ range (k % 4 * B + B), f (k / 4) r := by
  intro k
  induction k with
  | zero =>
    intro h
    rw [first 0 h rfl, Nat.zero_mod, Nat.zero_mul, Nat.zero_add]
    exact Finset.sum_congr rfl fun r _ => by rw [Nat.zero_add]
  | succ k ih =>
    intro h
    by_cases h0 : (k + 1) % 4 = 0
    · rw [first _ h h0, h0, Nat.zero_mul, Nat.zero_add]
      exact Finset.sum_congr rfl fun r _ => by rw [Nat.zero_add]
    · have e1 : (k + 1) % 4 = k % 4 + 1 := by omega
      have e2 : (k + 1) / 4 = k / 4 := by omega
      rw [next _ h h0, e1, e2, Nat.succ_mul, Finset.sum_range_add _ (k % 4 * B + B) B]
      exact congrArg (· + _) (ih (Nat.lt_of_succ_lt h))

/-- Matrices side by side, read at a column of one of them: the columns before it are skipped. -/
theorem beside {A : ℕ} (xs : List ((s : Shape) × (s.Idx → EReal))) (h : Shape.Concatenates (xs.map (·.1)) ⟨2, ![M, N]⟩ 1)
    (j : ℕ) (hj : j < xs.length) (X : (⟨2, ![M, A]⟩ : Shape).Idx → EReal) (hX : xs[j] = ⟨⟨2, ![M, A]⟩, X⟩)
    (pre : ℕ) (hpre : (((xs.take j).map (·.1)).map fun s => if h : s.rank = 2 then s.size ((1 : Fin 2).cast h.symm) else 0).sum = pre)
    (y : (⟨2, ![M, N]⟩ : Shape).Idx) (k : ℕ) (hk : k < A) (e : pre + k = (y 1).val) :
    concatenate ⟨2, ![M, N]⟩ 1 xs h y = rd2 X (y 0).val k := by
  refine (concatenate_apply_piece 1 xs h y j hj _ X hX rfl pre hpre (ix2 (y 0) ⟨k, hk⟩) ?_ e).trans (rd2_of X _ rfl rfl)
  intro b hb
  match b, hb with
  | ⟨0, _⟩, _ => rfl
  | ⟨1, _⟩, hb => exact absurd rfl hb

/-- A sum over two equal stretches. -/
theorem two (n : ℕ) (f g : ℕ → EReal) :
    ∑ k ∈ range (n + n), (if k < n then f k else g (k - n)) = ∑ k ∈ range n, f k + ∑ k ∈ range n, g k := by
  rw [Finset.sum_range_add]
  refine congrArg₂ (· + ·) (Finset.sum_congr rfl fun k hk => if_pos (Finset.mem_range.mp hk)) (Finset.sum_congr rfl fun k _ => ?_)
  rw [if_neg (by omega), Nat.add_sub_cancel_left]

/-- A sum over three equal stretches. -/
theorem three (n : ℕ) (f g h : ℕ → EReal) :
    ∑ k ∈ range (n + n + n), (if k < n + n then if k < n then f k else g (k - n) else h (k - (n + n)))
      = ∑ k ∈ range n, f k + ∑ k ∈ range n, g k + ∑ k ∈ range n, h k := by
  rw [Finset.sum_range_add]
  refine congrArg₂ (· + ·) ((Finset.sum_congr rfl fun k hk => if_pos (Finset.mem_range.mp hk)).trans (two n f g)) (Finset.sum_congr rfl fun k _ => ?_)
  rw [if_neg (by omega), Nat.add_sub_cancel_left]

/-- A pointwise image read at natural numbers. -/
theorem rd2_map (f : EReal → EReal) (X Y : (⟨2, ![M, N]⟩ : Shape).Idx → EReal) (h : ∀ i, X i = f (Y i)) (r c : ℕ) (hr : r < M) (hc : c < N) :
    rd2 X r c = f (rd2 Y r c) := by
  refine (rd2_of X (ix2 ⟨r, hr⟩ ⟨c, hc⟩) rfl rfl).symm.trans ((h _).trans (congrArg f ?_))
  exact rd2_of Y (ix2 ⟨r, hr⟩ ⟨c, hc⟩) rfl rfl

end Cert.Plain

end
-- ==== Proof.Dwdil.lean ====
/-
The gradient of a dilated projection's weight: every row's input times gradient, accumulated over four blocks of rows.
-/
module

public import proofs.«01_k».proof.Proof.Plain
public import proofs.«01_k».proof.Proof.Gen.Kernel8Ideal.Value
public import Idealize.ShloMosaic.Lib.Pipeline.ValueKit
public import proofs.«01_k».proof.Proof.Gen.Reference8Ideal.Read

@[expose] public section

set_option maxRecDepth 16384

noncomputable section

namespace Cert.Plain.Dwdil

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel8Ideal Cert.Kernel8Ideal.Gen

theorem idx0 : ∀ t : Fin cfg0.N, win0_0.index t = ![t.val % 4, t.val / 12] :=
  (by decide +kernel : ∀ t : Fin grid0.N, win0_0.index t = ![t.val % 4, t.val / 12])
theorem idx1 : ∀ t : Fin cfg0.N, win0_1.index t = ![t.val % 4, t.val / 4 % 3] :=
  (by decide +kernel : ∀ t : Fin grid0.N, win0_1.index t = ![t.val % 4, t.val / 4 % 3])
theorem idx2 : ∀ t : Fin cfg0.N, win0_2.index t = ![t.val / 12, t.val / 4 % 3] :=
  (by decide +kernel : ∀ t : Fin grid0.N, win0_2.index t = ![t.val / 12, t.val / 4 % 3])
theorem pt_lt (t : Fin cfg0.N) : t.val < 24 := lt_of_lt_of_eq t.isLt (show cfg0.N = 24 from N_0)

/-- One point's product: over the block's rows, left times right. -/
theorem pay1_apply (x0 x1 : Vec Ideal S2048x1024 .bf16) (d f : Fin 1024) :
    k0_pay1 x0 x1 (ix2 d f) = ∑ k : Fin 2048, x0 (ix2 k d) * x1 (ix2 k f) := by
  unfold k0_pay1
  refine (Ideal.matmul_apply₁_of dot_S2048x1024_S2048x1024_S1024x1024_0_0_1_1_n_n rfl (K := 2048) rfl _ _ _ _
    (fun k => ix2 k d) (fun k => ix2 k f) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]

theorem pay2_apply (x0 x1 : Vec Ideal S2048x1024 .bf16) (i : S1024x1024.Idx) : k0_pay2 x0 x1 i = k0_pay1 x0 x1 i := by
  unfold k0_pay2
  exact shapeCast_apply _ _ i i rfl

theorem pay3_apply (x0 x1 : Vec Ideal S2048x1024 .bf16) (a : Vec Ideal S1024x1024 .f32) (i : S1024x1024.Idx) :
    k0_pay3 x0 x1 a i = a i + k0_pay1 x0 x1 i := by
  unfold k0_pay3
  exact shapeCast_apply _ _ i i rfl

variable (m : (ℓ : Loc nD τ sig) → Buf (Elt Ideal) ℓ) (c : Dev nD)

theorem blk0 (t : Fin cfg0.N) (a : Fin 2048) (b : Fin 1024) :
    iblk m c 0 t (ix2 a b) = rd2 (V m c main_arg0) (t.val % 4 * 2048 + a) (t.val / 12 * 1024 + b) := by
  have ht := pt_lt t
  unfold iblk
  generalize V m c = W
  blk_simp
  exact rd2_of (W main_arg0) _ (by blk_simp [idx0]) (by blk_simp [idx0])

theorem blk1 (t : Fin cfg0.N) (a : Fin 2048) (b : Fin 1024) :
    iblk m c 1 t (ix2 a b) = rd2 (V m c main_arg1) (t.val % 4 * 2048 + a) (t.val / 4 % 3 * 1024 + b) := by
  have ht := pt_lt t
  unfold iblk
  generalize V m c = W
  blk_simp
  exact rd2_of (W main_arg1) _ (by blk_simp [idx1]) (by blk_simp [idx1])

/-- One row's share of an entry that a run of four points gathers. -/
def term (X : S8192x2048.Idx → EReal) (Y : S8192x3072.Idx → EReal) (d f : ℕ) (q r : ℕ) : EReal :=
  rd2 X r (q / 3 * 1024 + d) * rd2 Y r (q % 3 * 1024 + f)

/-- The block's product, by the rows' numbers. -/
theorem pay1_blk (t : Fin cfg0.N) (d f : Fin 1024) : k0_pay1 (iblk m c 0 t) (iblk m c 1 t) (ix2 d f)
    = ∑ r ∈ range 2048, term (V m c main_arg0) (V m c main_arg1) d f (t.val / 4) (t.val % 4 * 2048 + r) := by
  rw [pay1_apply]
  refine sum_fin _ _ _ fun k => ?_
  rw [blk0, blk1, term, Nat.div_div_eq_div_mul]

/-- A run's first point leaves its own product in the accumulator. -/
theorem acc_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- Every other point adds its product to what the point before left. -/
theorem acc_next (t : Fin cfg0.N) (h0 : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg (k0_pay3 _ _) (Memref.IsWhole.read_unread (Memref.isWhole_whole _) _)
  · rw [outsAt0_B m c t h0 (by omega) h2]
    frame_out
    exact congrArg (k0_pay3 _ _) (Memref.IsWhole.read_unread (Memref.isWhole_whole _) _)

/-- The last point writes out what it leaves in the accumulator. -/
theorem out_last (t : Fin cfg0.N) (h2 : t.val % 4 = 3) :
    (outsAt0 m c t.val t.isLt).1 = k0_pay4 (outsAt0 m c t.val t.isLt).2 := by
  rw [acc_next m c t (by omega), outsAt0_C m c t (by omega) (by omega) h2]
  frame_out
  exact congrArg (fun a => k0_pay4 (k0_pay3 _ _ a)) (Memref.IsWhole.read_unread (Memref.isWhole_whole _) _)

/-- After any point the accumulator holds the sum over the rows met so far. -/
theorem acc_at (d f : Fin 1024) : ∀ (k : ℕ) (h : k < cfg0.N), (outsAt0 m c k h).2 (ix2 d f)
    = ∑ r ∈ range (k % 4 * 2048 + 2048), term (V m c main_arg0) (V m c main_arg1) d f (k / 4) r :=
  gather cfg0.N 2048 (fun k h => (outsAt0 m c k h).2 (ix2 d f)) _
    (fun k h h0 => (congrFun (acc_first m c ⟨k, h⟩ h0) (ix2 d f)).trans ((pay2_apply _ _ _).trans (pay1_blk m c ⟨k, h⟩ d f)))
    (fun k h h0 => (congrFun (acc_next m c ⟨k, h⟩ h0) (ix2 d f)).trans ((pay3_apply _ _ _ _).trans
      (congrArg (_ + ·) (pay1_blk m c ⟨k, h⟩ d f))))

/-- The last point's block, entry by entry: every row summed. -/
theorem point (t : Fin cfg0.N) (h3 : t.val % 4 = 3) (a b : Fin 1024) : k0_pay4 (outsAt0 m c t.val t.isLt).2 (ix2 a b)
    = tn (V m c main_arg0) (V m c main_arg1) (t.val / 12 * 1024 + a) (t.val / 4 % 3 * 1024 + b) := by
  refine (acc_at m c a b t.val t.isLt).trans ?_
  rw [h3]
  refine Finset.sum_congr rfl fun r _ => ?_
  rw [term, Nat.div_div_eq_div_mul]

/-- The gradient's array after the run. -/
theorem final : (dats m 0 c).arrAt 2 cfg0.N = mat (tn (V m c main_arg0) (V m c main_arg1)) := by
  refine (dats m 0 c).arrAt_eq_of_covers 2 (mat (tn (V m c main_arg0) (V m c main_arg1))) (by decide +kernel) fun t hf y => ?_
  have ht := pt_lt t
  have h3 : t.val % 4 = 3 := (flush0_2 t).mp hf
  have P := point m c t h3
  revert P
  generalize V m c = W
  intro P
  blk_simp
  rw [after0_2, out_last m c t h3]
  obtain ⟨a, b, rfl⟩ : ∃ (a : Fin 1024) (b : Fin 1024), y = ix2 a b := ⟨y 0, y 1, Cert.Ffn.eq_ix2 y⟩
  refine (P a b).trans ?_
  have e0 : ((((win0_2.blk t).view.emb (ix2 a b)) 0 : Fin _) : ℕ) = t.val / 12 * 1024 + a := by blk_simp [idx2]; rfl
  have e1 : ((((win0_2.blk t).view.emb (ix2 a b)) 1 : Fin _) : ℕ) = t.val / 4 % 3 * 1024 + b := by blk_simp [idx2]; rfl
  rw [mat, e0, e1]

end Kernel

section Reference
open Cert.Reference8Ideal Cert.Reference8Ideal.Read

/-- The reference's gradient is the same array. -/
theorem ref_eq (X : (⟨S8192x2048, .bf16⟩ : BufTy).Contents (Elt Ideal)) (Y : (⟨S8192x3072, .bf16⟩ : BufTy).Contents (Elt Ideal)) :
    val_main_v6 (F := Ideal) X Y = mat (tn X Y) := by
  funext i
  unfold mat tn
  rw [val_main_v6_apply, val_main_v5_apply]
  refine (val_main_v4_apply X Y _).trans (sum_fin _ _ _ fun k => ?_)
  rw [val_main_v3_apply, val_main_v0_apply]
  exact (mul_comm _ _).trans (congrArg₂ (· * ·) (rd2_of X _ rfl rfl) (rd2_of Y _ rfl rfl))

end Reference

end Cert.Plain.Dwdil

end
-- ==== Proof.Dwsq.lean ====
/-
The gradient of a square weight: every row's input times gradient, accumulated over four blocks of rows.
-/
module

public import proofs.«01_k».proof.Proof.Plain
public import proofs.«01_k».proof.Proof.Gen.Kernel9Ideal.Value
public import Idealize.ShloMosaic.Lib.Pipeline.ValueKit
public import proofs.«01_k».proof.Proof.Gen.Reference9Ideal.Read

@[expose] public section

set_option maxRecDepth 16384

noncomputable section

namespace Cert.Plain.Dwsq

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel9Ideal Cert.Kernel9Ideal.Gen

theorem idx0 : ∀ t : Fin cfg0.N, win0_0.index t = ![t.val % 4, t.val / 8] :=
  (by decide +kernel : ∀ t : Fin grid0.N, win0_0.index t = ![t.val % 4, t.val / 8])
theorem idx1 : ∀ t : Fin cfg0.N, win0_1.index t = ![t.val % 4, t.val / 4 % 2] :=
  (by decide +kernel : ∀ t : Fin grid0.N, win0_1.index t = ![t.val % 4, t.val / 4 % 2])
theorem idx2 : ∀ t : Fin cfg0.N, win0_2.index t = ![t.val / 8, t.val / 4 % 2] :=
  (by decide +kernel : ∀ t : Fin grid0.N, win0_2.index t = ![t.val / 8, t.val / 4 % 2])
theorem pt_lt (t : Fin cfg0.N) : t.val < 16 := lt_of_lt_of_eq t.isLt (show cfg0.N = 16 from N_0)

/-- One point's product: over the block's rows, left times right. -/
theorem pay1_apply (x0 x1 : Vec Ideal S2048x1024 .bf16) (d f : Fin 1024) :
    k0_pay1 x0 x1 (ix2 d f) = ∑ k : Fin 2048, x0 (ix2 k d) * x1 (ix2 k f) := by
  unfold k0_pay1
  refine (Ideal.matmul_apply₁_of dot_S2048x1024_S2048x1024_S1024x1024_0_0_1_1_n_n rfl (K := 2048) rfl _ _ _ _
    (fun k => ix2 k d) (fun k => ix2 k f) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]

theorem pay2_apply (x0 x1 : Vec Ideal S2048x1024 .bf16) (i : S1024x1024.Idx) : k0_pay2 x0 x1 i = k0_pay1 x0 x1 i := by
  unfold k0_pay2
  exact shapeCast_apply _ _ i i rfl

theorem pay3_apply (x0 x1 : Vec Ideal S2048x1024 .bf16) (a : Vec Ideal S1024x1024 .f32) (i : S1024x1024.Idx) :
    k0_pay3 x0 x1 a i = a i + k0_pay1 x0 x1 i := by
  unfold k0_pay3
  exact shapeCast_apply _ _ i i rfl

variable (m : (ℓ : Loc nD τ sig) → Buf (Elt Ideal) ℓ) (c : Dev nD)

theorem blk0 (t : Fin cfg0.N) (a : Fin 2048) (b : Fin 1024) :
    iblk m c 0 t (ix2 a b) = rd2 (V m c main_arg0) (t.val % 4 * 2048 + a) (t.val / 8 * 1024 + b) := by
  have ht := pt_lt t
  unfold iblk
  generalize V m c = W
  blk_simp
  exact rd2_of (W main_arg0) _ (by blk_simp [idx0]) (by blk_simp [idx0])

theorem blk1 (t : Fin cfg0.N) (a : Fin 2048) (b : Fin 1024) :
    iblk m c 1 t (ix2 a b) = rd2 (V m c main_arg1) (t.val % 4 * 2048 + a) (t.val / 4 % 2 * 1024 + b) := by
  have ht := pt_lt t
  unfold iblk
  generalize V m c = W
  blk_simp
  exact rd2_of (W main_arg1) _ (by blk_simp [idx1]) (by blk_simp [idx1])

/-- One row's share of an entry that a run of four points gathers. -/
def term (X : S8192x2048.Idx → EReal) (Y : S8192x2048.Idx → EReal) (d f : ℕ) (q r : ℕ) : EReal :=
  rd2 X r (q / 2 * 1024 + d) * rd2 Y r (q % 2 * 1024 + f)

/-- The block's product, by the rows' numbers. -/
theorem pay1_blk (t : Fin cfg0.N) (d f : Fin 1024) : k0_pay1 (iblk m c 0 t) (iblk m c 1 t) (ix2 d f)
    = ∑ r ∈ range 2048, term (V m c main_arg0) (V m c main_arg1) d f (t.val / 4) (t.val % 4 * 2048 + r) := by
  rw [pay1_apply]
  refine sum_fin _ _ _ fun k => ?_
  rw [blk0, blk1, term, Nat.div_div_eq_div_mul]

/-- A run's first point leaves its own product in the accumulator. -/
theorem acc_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- Every other point adds its product to what the point before left. -/
theorem acc_next (t : Fin cfg0.N) (h0 : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg (k0_pay3 _ _) (Memref.IsWhole.read_unread (Memref.isWhole_whole _) _)
  · rw [outsAt0_B m c t h0 (by omega) h2]
    frame_out
    exact congrArg (k0_pay3 _ _) (Memref.IsWhole.read_unread (Memref.isWhole_whole _) _)

/-- The last point writes out what it leaves in the accumulator. -/
theorem out_last (t : Fin cfg0.N) (h2 : t.val % 4 = 3) :
    (outsAt0 m c t.val t.isLt).1 = k0_pay4 (outsAt0 m c t.val t.isLt).2 := by
  rw [acc_next m c t (by omega), outsAt0_C m c t (by omega) (by omega) h2]
  frame_out
  exact congrArg (fun a => k0_pay4 (k0_pay3 _ _ a)) (Memref.IsWhole.read_unread (Memref.isWhole_whole _) _)

/-- After any point the accumulator holds the sum over the rows met so far. -/
theorem acc_at (d f : Fin 1024) : ∀ (k : ℕ) (h : k < cfg0.N), (outsAt0 m c k h).2 (ix2 d f)
    = ∑ r ∈ range (k % 4 * 2048 + 2048), term (V m c main_arg0) (V m c main_arg1) d f (k / 4) r :=
  gather cfg0.N 2048 (fun k h => (outsAt0 m c k h).2 (ix2 d f)) _
    (fun k h h0 => (congrFun (acc_first m c ⟨k, h⟩ h0) (ix2 d f)).trans ((pay2_apply _ _ _).trans (pay1_blk m c ⟨k, h⟩ d f)))
    (fun k h h0 => (congrFun (acc_next m c ⟨k, h⟩ h0) (ix2 d f)).trans ((pay3_apply _ _ _ _).trans
      (congrArg (_ + ·) (pay1_blk m c ⟨k, h⟩ d f))))

/-- The last point's block, entry by entry: every row summed. -/
theorem point (t : Fin cfg0.N) (h3 : t.val % 4 = 3) (a b : Fin 1024) : k0_pay4 (outsAt0 m c t.val t.isLt).2 (ix2 a b)
    = tn (V m c main_arg0) (V m c main_arg1) (t.val / 8 * 1024 + a) (t.val / 4 % 2 * 1024 + b) := by
  refine (acc_at m c a b t.val t.isLt).trans ?_
  rw [h3]
  refine Finset.sum_congr rfl fun r _ => ?_
  rw [term, Nat.div_div_eq_div_mul]

/-- The gradient's array after the run. -/
theorem final : (dats m 0 c).arrAt 2 cfg0.N = mat (tn (V m c main_arg0) (V m c main_arg1)) := by
  refine (dats m 0 c).arrAt_eq_of_covers 2 (mat (tn (V m c main_arg0) (V m c main_arg1))) (by decide +kernel) fun t hf y => ?_
  have ht := pt_lt t
  have h3 : t.val % 4 = 3 := (flush0_2 t).mp hf
  have P := point m c t h3
  revert P
  generalize V m c = W
  intro P
  blk_simp
  rw [after0_2, out_last m c t h3]
  obtain ⟨a, b, rfl⟩ : ∃ (a : Fin 1024) (b : Fin 1024), y = ix2 a b := ⟨y 0, y 1, Cert.Ffn.eq_ix2 y⟩
  refine (P a b).trans ?_
  have e0 : ((((win0_2.blk t).view.emb (ix2 a b)) 0 : Fin _) : ℕ) = t.val / 8 * 1024 + a := by blk_simp [idx2]; rfl
  have e1 : ((((win0_2.blk t).view.emb (ix2 a b)) 1 : Fin _) : ℕ) = t.val / 4 % 2 * 1024 + b := by blk_simp [idx2]; rfl
  rw [mat, e0, e1]

end Kernel

section Reference
open Cert.Reference9Ideal Cert.Reference9Ideal.Read

/-- The reference's gradient is the same array. -/
theorem ref_eq (X : (⟨S8192x2048, .bf16⟩ : BufTy).Contents (Elt Ideal)) (Y : (⟨S8192x2048, .bf16⟩ : BufTy).Contents (Elt Ideal)) :
    val_main_v6 (F := Ideal) X Y = mat (tn X Y) := by
  funext i
  unfold mat tn
  rw [val_main_v6_apply, val_main_v5_apply]
  refine (val_main_v4_apply X Y _).trans (sum_fin _ _ _ fun k => ?_)
  rw [val_main_v3_apply, val_main_v0_apply]
  exact (mul_comm _ _).trans (congrArg₂ (· * ·) (rd2_of X _ rfl rfl) (rd2_of Y _ rfl rfl))

end Reference

end Cert.Plain.Dwsq

end
-- ==== Proof.Dwbr.lean ====
/-
The gradient of the weight of a branch's own projection: every row's branch output times gradient, accumulated over
four blocks of rows. A point's product is the square weight's.
-/
module

public import proofs.«01_k».proof.Proof.Dwsq
public import proofs.«01_k».proof.Proof.Gen.Kernel20Ideal.Value
public import proofs.«01_k».proof.Proof.Gen.Reference20Ideal.Read

@[expose] public section

set_option maxRecDepth 16384

noncomputable section

namespace Cert.Plain.Dwbr

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel20Ideal Cert.Kernel20Ideal.Gen

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![t.val % 4, t.val / 4] :=
  (by decide +kernel : ∀ t : Fin grid0.N, win0_1.index t = ![t.val % 4, t.val / 4])
theorem idx2 : ∀ t : Fin cfg0.N, win0_2.index t = ![0, t.val / 4] :=
  (by decide +kernel : ∀ t : Fin grid0.N, win0_2.index t = ![0, t.val / 4])
theorem pt_lt (t : Fin cfg0.N) : t.val < 8 := lt_of_lt_of_eq t.isLt (show cfg0.N = 8 from N_0)

variable (m : (ℓ : Loc nD τ sig) → Buf (Elt Ideal) ℓ) (c : Dev nD)

theorem blk0 (t : Fin cfg0.N) (a : Fin 2048) (b : Fin 1024) :
    iblk m c 0 t (ix2 a b) = rd2 (V m c main_arg0) (t.val % 4 * 2048 + a) b := by
  have ht := pt_lt t
  unfold iblk
  generalize V m c = W
  blk_simp
  exact rd2_of (W main_arg0) _ (by blk_simp [idx0]) (by blk_simp [idx0])

theorem blk1 (t : Fin cfg0.N) (a : Fin 2048) (b : Fin 1024) :
    iblk m c 1 t (ix2 a b) = rd2 (V m c main_arg1) (t.val % 4 * 2048 + a) (t.val / 4 * 1024 + b) := by
  have ht := pt_lt t
  unfold iblk
  generalize V m c = W
  blk_simp
  exact rd2_of (W main_arg1) _ (by blk_simp [idx1]) (by blk_simp [idx1])

/-- One row's share of an entry that a run of four points gathers. -/
def term (X : S8192x1024.Idx → EReal) (Y : S8192x2048.Idx → EReal) (d f : ℕ) (q r : ℕ) : EReal :=
  rd2 X r d * rd2 Y r (q * 1024 + f)

/-- The block's product, by the rows' numbers. -/
theorem pay1_blk (t : Fin cfg0.N) (d f : Fin 1024) : k0_pay1 (iblk m c 0 t) (iblk m c 1 t) (ix2 d f)
    = ∑ r ∈ range 2048, term (V m c main_arg0) (V m c main_arg1) d f (t.val / 4) (t.val % 4 * 2048 + r) :=
  (Dwsq.pay1_apply (iblk m c 0 t) (iblk m c 1 t) d f).trans (sum_fin _ _ _ fun k => by rw [blk0, blk1, term])

/-- A run's first point leaves its own product in the accumulator. -/
theorem acc_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- Every other point adds its product to what the point before left. -/
theorem acc_next (t : Fin cfg0.N) (h0 : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg (k0_pay3 _ _) (Memref.IsWhole.read_unread (Memref.isWhole_whole _) _)
  · rw [outsAt0_B m c t h0 (by omega) h2]
    frame_out
    exact congrArg (k0_pay3 _ _) (Memref.IsWhole.read_unread (Memref.isWhole_whole _) _)

/-- The last point writes out what it leaves in the accumulator. -/
theorem out_last (t : Fin cfg0.N) (h2 : t.val % 4 = 3) :
    (outsAt0 m c t.val t.isLt).1 = k0_pay4 (outsAt0 m c t.val t.isLt).2 := by
  rw [acc_next m c t (by omega), outsAt0_C m c t (by omega) (by omega) h2]
  frame_out
  exact congrArg (fun a => k0_pay4 (k0_pay3 _ _ a)) (Memref.IsWhole.read_unread (Memref.isWhole_whole _) _)

/-- After any point the accumulator holds the sum over the rows met so far. -/
theorem acc_at (d f : Fin 1024) : ∀ (k : ℕ) (h : k < cfg0.N), (outsAt0 m c k h).2 (ix2 d f)
    = ∑ r ∈ range (k % 4 * 2048 + 2048), term (V m c main_arg0) (V m c main_arg1) d f (k / 4) r :=
  gather cfg0.N 2048 (fun k h => (outsAt0 m c k h).2 (ix2 d f)) _
    (fun k h h0 => (congrFun (acc_first m c ⟨k, h⟩ h0) (ix2 d f)).trans
      ((Dwsq.pay2_apply _ _ _).trans (pay1_blk m c ⟨k, h⟩ d f)))
    (fun k h h0 => (congrFun (acc_next m c ⟨k, h⟩ h0) (ix2 d f)).trans ((Dwsq.pay3_apply _ _ _ _).trans
      (congrArg (_ + ·) (pay1_blk m c ⟨k, h⟩ d f))))

/-- The last point's block, entry by entry: every row summed. -/
theorem point (t : Fin cfg0.N) (h3 : t.val % 4 = 3) (a b : Fin 1024) : k0_pay4 (outsAt0 m c t.val t.isLt).2 (ix2 a b)
    = tn (V m c main_arg0) (V m c main_arg1) a (t.val / 4 * 1024 + b) := by
  refine (acc_at m c a b t.val t.isLt).trans ?_
  rw [h3]
  rfl

/-- The gradient's array after the run. -/
theorem final : (dats m 0 c).arrAt 2 cfg0.N = mat (tn (V m c main_arg0) (V m c main_arg1)) := by
  refine (dats m 0 c).arrAt_eq_of_covers 2 (mat (tn (V m c main_arg0) (V m c main_arg1))) (by decide +kernel) fun t hf y => ?_
  have ht := pt_lt t
  have h3 : t.val % 4 = 3 := (flush0_2 t).mp hf
  have P := point m c t h3
  revert P
  generalize V m c = W
  intro P
  blk_simp
  rw [after0_2, out_last m c t h3]
  obtain ⟨a, b, rfl⟩ : ∃ (a : Fin 1024) (b : Fin 1024), y = ix2 a b := ⟨y 0, y 1, Cert.Ffn.eq_ix2 y⟩
  refine (P a b).trans ?_
  have e0 : ((((win0_2.blk t).view.emb (ix2 a b)) 0 : Fin _) : ℕ) = a := by blk_simp [idx2]; rfl
  have e1 : ((((win0_2.blk t).view.emb (ix2 a b)) 1 : Fin _) : ℕ) = t.val / 4 * 1024 + b := by blk_simp [idx2]; rfl
  rw [mat, e0, e1]

end Kernel

section Reference
open Cert.Reference20Ideal Cert.Reference20Ideal.Read

/-- The reference's gradient is the same array. -/
theorem ref_eq (X : (⟨S8192x1024, .bf16⟩ : BufTy).Contents (Elt Ideal)) (Y : (⟨S8192x2048, .bf16⟩ : BufTy).Contents (Elt Ideal)) :
    val_main_v6 (F := Ideal) X Y = mat (tn X Y) := by
  funext i
  unfold mat tn
  rw [val_main_v6_apply, val_main_v5_apply]
  refine (val_main_v4_apply X Y _).trans (sum_fin _ _ _ fun k => ?_)
  rw [val_main_v3_apply, val_main_v0_apply]
  exact (mul_comm _ _).trans (congrArg₂ (· * ·) (rd2_of X _ rfl rfl) (rd2_of Y _ rfl rfl))

end Reference

end Cert.Plain.Dwbr

end
-- ==== Proof.Dobr.lean ====
/-
The gradient of a branch's output: one product with the transposed weight of the branch's own projection.
-/
module

public import proofs.«01_k».proof.Proof.Plain
public import proofs.«01_k».proof.Proof.Gen.Kernel21Ideal.Value
public import Idealize.ShloMosaic.Lib.Pipeline.ValueKit
public import proofs.«01_k».proof.Proof.Gen.Reference21Ideal.Read

@[expose] public section

set_option maxRecDepth 16384

noncomputable section

namespace Cert.Plain.Dobr

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel21Ideal Cert.Kernel21Ideal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem pt_lt (t : Fin cfg0.N) : t.val < 16 := lt_of_lt_of_eq t.isLt (show cfg0.N = 16 from N_0)

theorem out2 (x0 : Vec Ideal S512x2048 .bf16) (x1 : Vec Ideal S1024x2048 .bf16) : out0_2 x0 x1 = k0_pay1 x0 x1 := by
  unfold out0_2
  rw [View.canon_cons_unit_lit (S := S512x1024) inb_S512x1024_S512x1024_0_0 _ _ (by decide),
    View.ld_unit_lit (S := S512x2048) inb_S512x2048_S512x2048_0_0 x0 (by decide),
    View.ld_unit_lit (S := S1024x2048) inb_S1024x2048_S1024x2048_0_0 x1 (by decide)]

variable (m : (ℓ : Loc nD τ sig) → Buf (Elt Ideal) ℓ) (c : Dev nD)

theorem blk0 (t : Fin cfg0.N) (a : Fin 512) (b : Fin 2048) :
    iblk m c 0 t (ix2 a b) = rd2 (V m c main_arg0) (t.val * 512 + a) b := by
  have ht := pt_lt t
  unfold iblk
  generalize V m c = W
  blk_simp
  exact rd2_of (W main_arg0) _ (by blk_simp [idx0]) (by blk_simp [idx0])

/-- Every point reads the whole weight. -/
theorem blk1 (t : Fin cfg0.N) (a : Fin 1024) (b : Fin 2048) : iblk m c 1 t (ix2 a b) = rd2 (V m c main_arg1) a b := by
  have ht := pt_lt t
  unfold iblk
  generalize V m c = W
  blk_simp
  exact rd2_of (W main_arg1) _ (by blk_simp [idx1]) (by blk_simp [idx1])

theorem point (t : Fin cfg0.N) (a : Fin 512) (b : Fin 1024) : k0_pay1 (iblk m c 0 t) (iblk m c 1 t) (ix2 a b)
    = nt (V m c main_arg0) (V m c main_arg1) (t.val * 512 + a) b := by
  unfold k0_pay1
  exact blk_nt _ rfl _ _ a b _ _ _ _ (blk0 m c t a) (blk1 m c t b)

/-- The gradient's array after the run. -/
theorem final : (dats m 0 c).arrAt 2 cfg0.N = mat (nt (V m c main_arg0) (V m c main_arg1)) := by
  refine (dats m 0 c).arrAt_eq_of_covers 2 (mat (nt (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 512) (b : Fin 1024), y = ix2 a b := ⟨y 0, y 1, Cert.Ffn.eq_ix2 y⟩
  refine (P a b).trans ?_
  have e0 : ((((win0_2.blk t).view.emb (ix2 a b)) 0 : Fin _) : ℕ) = t.val * 512 + a := by blk_simp [idx2]; rfl
  have e1 : ((((win0_2.blk t).view.emb (ix2 a b)) 1 : Fin _) : ℕ) = b := by blk_simp [idx2]; rfl
  rw [mat, e0, e1]

end Kernel

section Reference
open Cert.Reference21Ideal Cert.Reference21Ideal.Read

/-- The reference's gradient is the same array. -/
theorem ref_eq (X : (⟨S8192x2048, .bf16⟩ : BufTy).Contents (Elt Ideal)) (Y : (⟨S1024x2048, .bf16⟩ : BufTy).Contents (Elt Ideal)) :
    val_main_v5 (F := Ideal) X Y = mat (nt X Y) := by
  funext i
  unfold mat nt
  refine (val_main_v5_apply X Y i).trans ((val_main_v4_apply X Y i).trans (sum_fin _ _ _ fun k => ?_))
  rw [val_main_v3_apply, val_main_v0_apply]
  exact congrArg₂ (· * ·) (rd2_of X _ rfl rfl) (rd2_of Y _ rfl rfl)

end Reference

end Cert.Plain.Dobr

end
-- ==== Proof.MergeFwd.lean ====
/-
The two branches' own projections and their gated sum: each row of a branch is its output's row times its weight, and
the sum takes each projection entry by entry with its gate.
-/
module

public import proofs.«01_k».proof.Proof.Plain
public import proofs.«01_k».proof.Proof.Gen.Kernel19Ideal.Value
public import Idealize.ShloMosaic.Lib.Pipeline.ValueKit
public import proofs.«01_k».proof.Proof.Gen.Reference19Ideal.Read

@[expose] public section

set_option maxRecDepth 16384

noncomputable section

namespace Cert.Plain.MergeFwd

open Idealize.ShloMosaic hiding ix0 ix1 ix2 ix3 ix4 ix5
open Finset Idealize.ShloMosaic.ValueIdx Idealize.ShloMosaic.TcCoe Idealize.ShloMosaic.Tactic
open Cert.Ffn

/-- The gated sum of two projections, entry by entry. -/
def merged {M K N : ℕ} (A : (⟨2, ![M, K]⟩ : Shape).Idx → EReal) (U : (⟨2, ![K, N]⟩ : Shape).Idx → EReal)
    (B : (⟨2, ![M, K]⟩ : Shape).Idx → EReal) (W : (⟨2, ![K, N]⟩ : Shape).Idx → EReal)
    (G H : (⟨2, ![M, N]⟩ : Shape).Idx → EReal) (r c : ℕ) : EReal :=
  rd2 G r c * nn A U r c + rd2 H r c * nn B W r c

section Kernel
open Cert.Kernel19Ideal Cert.Kernel19Ideal.Gen

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val / 4, 0] :=
  (by decide +kernel : ∀ t : Fin grid0.N, win0_2.index t = ![t.val / 4, 0])
theorem idx3 : ∀ t : Fin cfg0.N, win0_3.index t = ![0, t.val % 4] :=
  (by decide +kernel : ∀ t : Fin grid0.N, win0_3.index t = ![0, t.val % 4])
theorem idx4 : ∀ t : Fin cfg0.N, win0_4.index t = ![t.val / 4, t.val % 4] :=
  (by decide +kernel : ∀ t : Fin grid0.N, win0_4.index t = ![t.val / 4, t.val % 4])
theorem idx5 : ∀ t : Fin cfg0.N, win0_5.index t = ![t.val / 4, t.val % 4] :=
  (by decide +kernel : ∀ t : Fin grid0.N, win0_5.index t = ![t.val / 4, t.val % 4])
theorem idx6 : ∀ t : Fin cfg0.N, win0_6.index t = ![t.val / 4, t.val % 4] :=
  (by decide +kernel : ∀ t : Fin grid0.N, win0_6.index t = ![t.val / 4, t.val % 4])
theorem idx7 : ∀ t : Fin cfg0.N, win0_7.index t = ![t.val / 4, t.val % 4] :=
  (by decide +kernel : ∀ t : Fin grid0.N, win0_7.index t = ![t.val / 4, t.val % 4])
theorem idx8 : ∀ t : Fin cfg0.N, win0_8.index t = ![t.val / 4, t.val % 4] :=
  (by decide +kernel : ∀ t : Fin grid0.N, win0_8.index t = ![t.val / 4, t.val % 4])
theorem pt_lt (t : Fin cfg0.N) : t.val < 64 := lt_of_lt_of_eq t.isLt (show cfg0.N = 64 from N_0)

section Outs
variable (x0 x2 : Vec Ideal S512x1024 .bf16) (x1 x3 : Vec Ideal S1024x512 .bf16) (x4 x5 : Vec Ideal S512x512 .bf16)

theorem ldA (x : Vec Ideal S512x1024 .bf16) : View.ld x r0_0 = x :=
  View.ld_unit_lit (S := S512x1024) inb_S512x1024_S512x1024_0_0 x (by decide)
theorem ldW (x : Vec Ideal S1024x512 .bf16) : View.ld x r0_1 = x :=
  View.ld_unit_lit (S := S1024x512) inb_S1024x512_S1024x512_0_0 x (by decide)
theorem ldG (x : Vec Ideal S512x512 .bf16) : View.ld x r0_2 = x :=
  View.ld_unit_lit (S := S512x512) inb_S512x512_S512x512_0_0 x (by decide)
theorem stG (x : Vec Ideal S512x512 .bf16) : View.canon [⟨r0_2, x⟩] = x :=
  View.canon_cons_unit_lit (S := S512x512) inb_S512x512_S512x512_0_0 _ _ (by decide)

theorem out6 : out0_6 x0 x1 x2 x3 x4 x5 = k0_pay3 x0 x1 := by
  unfold out0_6
  rw [ldA, ldW, stG]
theorem out7 : out0_7 x0 x1 x2 x3 x4 x5 = k0_pay4 x2 x3 := by
  unfold out0_7
  rw [ldA, ldW, stG]
theorem out8 : out0_8 x0 x1 x2 x3 x4 x5 = k0_pay5 x0 x1 x2 x3 x4 x5 := by
  unfold out0_8
  rw [ldA, ldA, ldW, ldW, ldG, ldG, stG]

/-- The stored sum, entry by entry: each gate times its projection. -/
theorem pay5_apply (i : S512x512.Idx) : k0_pay5 x0 x1 x2 x3 x4 x5 i = x4 i * k0_pay1 x0 x1 i + x5 i * k0_pay2 x2 x3 i := rfl

end Outs

variable (m : (ℓ : Loc nD τ sig) → Buf (Elt Ideal) ℓ) (c : Dev nD)

theorem blk0 (t : Fin cfg0.N) (a : Fin 512) (b : Fin 1024) :
    iblk m c 0 t (ix2 a b) = rd2 (V m c main_arg0) (t.val / 4 * 512 + a) b := by
  have ht := pt_lt t
  unfold iblk
  generalize V m c = W
  blk_simp
  exact rd2_of (W main_arg0) _ (by blk_simp [idx0]) (by blk_simp [idx0])

theorem blk1 (t : Fin cfg0.N) (a : Fin 1024) (b : Fin 512) :
    iblk m c 1 t (ix2 a b) = rd2 (V m c main_arg1) a (t.val % 4 * 512 + b) := by
  have ht := pt_lt t
  unfold iblk
  generalize V m c = W
  blk_simp
  exact rd2_of (W main_arg1) _ (by blk_simp [idx1]) (by blk_simp [idx1])

theorem blk2 (t : Fin cfg0.N) (a : Fin 512) (b : Fin 1024) :
    iblk m c 2 t (ix2 a b) = rd2 (V m c main_arg2) (t.val / 4 * 512 + a) b := by
  have ht := pt_lt t
  unfold iblk
  generalize V m c = W
  blk_simp
  exact rd2_of (W main_arg2) _ (by blk_simp [idx2]) (by blk_simp [idx2])

theorem blk3 (t : Fin cfg0.N) (a : Fin 1024) (b : Fin 512) :
    iblk m c 3 t (ix2 a b) = rd2 (V m c main_arg3) a (t.val % 4 * 512 + b) := by
  have ht := pt_lt t
  unfold iblk
  generalize V m c = W
  blk_simp
  exact rd2_of (W main_arg3) _ (by blk_simp [idx3]) (by blk_simp [idx3])

theorem blk4 (t : Fin cfg0.N) (a b : Fin 512) :
    iblk m c 4 t (ix2 a b) = rd2 (V m c main_arg4) (t.val / 4 * 512 + a) (t.val % 4 * 512 + b) := by
  have ht := pt_lt t
  unfold iblk
  generalize V m c = W
  blk_simp
  exact rd2_of (W main_arg4) _ (by blk_simp [idx4]) (by blk_simp [idx4])

theorem blk5 (t : Fin cfg0.N) (a b : Fin 512) :
    iblk m c 5 t (ix2 a b) = rd2 (V m c main_arg5) (t.val / 4 * 512 + a) (t.val % 4 * 512 + b) := by
  have ht := pt_lt t
  unfold iblk
  generalize V m c = W
  blk_simp
  exact rd2_of (W main_arg5) _ (by blk_simp [idx5]) (by blk_simp [idx5])

theorem point1 (t : Fin cfg0.N) (a b : Fin 512) : k0_pay1 (iblk m c 0 t) (iblk m c 1 t) (ix2 a b)
    = nn (V m c main_arg0) (V m c main_arg1) (t.val / 4 * 512 + a) (t.val % 4 * 512 + b) := by
  unfold k0_pay1
  exact blk_nn _ rfl _ _ a b _ _ _ _ (blk0 m c t a) (fun k => blk1 m c t k b)

theorem point2 (t : Fin cfg0.N) (a b : Fin 512) : k0_pay2 (iblk m c 2 t) (iblk m c 3 t) (ix2 a b)
    = nn (V m c main_arg2) (V m c main_arg3) (t.val / 4 * 512 + a) (t.val % 4 * 512 + b) := by
  unfold k0_pay2
  exact blk_nn _ rfl _ _ a b _ _ _ _ (blk2 m c t a) (fun k => blk3 m c t k b)

/-- A point's block of the gated sum. -/
theorem point3 (t : Fin cfg0.N) (a b : Fin 512) :
    k0_pay5 (iblk m c 0 t) (iblk m c 1 t) (iblk m c 2 t) (iblk m c 3 t) (iblk m c 4 t) (iblk m c 5 t) (ix2 a b)
    = merged (V m c main_arg0) (V m c main_arg1) (V m c main_arg2) (V m c main_arg3) (V m c main_arg4) (V m c main_arg5)
      (t.val / 4 * 512 + a) (t.val % 4 * 512 + b) := by
  rw [pay5_apply, blk4, blk5, point1, point2, merged]

/-- The first branch's projection after the run. -/
theorem final6 : (dats m 0 c).arrAt 6 cfg0.N = mat (nn (V m c main_arg0) (V m c main_arg1)) := by
  refine (dats m 0 c).arrAt_eq_of_covers 6 (mat (nn (V m c main_arg0) (V m c main_arg1))) (by decide +kernel) fun t hf y => ?_
  have ht := pt_lt t
  have P := point1 m c t
  revert P
  generalize V m c = W
  intro P
  blk_simp
  rw [after0_6, out6]
  obtain ⟨a, b, rfl⟩ : ∃ (a : Fin 512) (b : Fin 512), y = ix2 a b := ⟨y 0, y 1, Cert.Ffn.eq_ix2 y⟩
  refine (P a b).trans ?_
  have e0 : ((((win0_6.blk t).view.emb (ix2 a b)) 0 : Fin _) : ℕ) = t.val / 4 * 512 + a := by blk_simp [idx6]; rfl
  have e1 : ((((win0_6.blk t).view.emb (ix2 a b)) 1 : Fin _) : ℕ) = t.val % 4 * 512 + b := by blk_simp [idx6]; rfl
  rw [mat, e0, e1]

/-- The second branch's projection after the run. -/
theorem final7 : (dats m 0 c).arrAt 7 cfg0.N = mat (nn (V m c main_arg2) (V m c main_arg3)) := by
  refine (dats m 0 c).arrAt_eq_of_covers 7 (mat (nn (V m c main_arg2) (V m c main_arg3))) (by decide +kernel) fun t hf y => ?_
  have ht := pt_lt t
  have P := point2 m c t
  revert P
  generalize V m c = W
  intro P
  blk_simp
  rw [after0_7, out7]
  obtain ⟨a, b, rfl⟩ : ∃ (a : Fin 512) (b : Fin 512), y = ix2 a b := ⟨y 0, y 1, Cert.Ffn.eq_ix2 y⟩
  refine (P a b).trans ?_
  have e0 : ((((win0_7.blk t).view.emb (ix2 a b)) 0 : Fin _) : ℕ) = t.val / 4 * 512 + a := by blk_simp [idx7]; rfl
  have e1 : ((((win0_7.blk t).view.emb (ix2 a b)) 1 : Fin _) : ℕ) = t.val % 4 * 512 + b := by blk_simp [idx7]; rfl
  rw [mat, e0, e1]

/-- The gated sum after the run. -/
theorem final8 : (dats m 0 c).arrAt 8 cfg0.N = mat (merged (V m c main_arg0) (V m c main_arg1) (V m c main_arg2)
    (V m c main_arg3) (V m c main_arg4) (V m c main_arg5)) := by
  refine (dats m 0 c).arrAt_eq_of_covers 8 (mat (merged (V m c main_arg0) (V m c main_arg1) (V m c main_arg2)
    (V m c main_arg3) (V m c main_arg4) (V m c main_arg5))) (by decide +kernel) fun t hf y => ?_
  have ht := pt_lt t
  have P := point3 m c t
  revert P
  generalize V m c = W
  intro P
  blk_simp
  rw [after0_8, out8]
  obtain ⟨a, b, rfl⟩ : ∃ (a : Fin 512) (b : Fin 512), y = ix2 a b := ⟨y 0, y 1, Cert.Ffn.eq_ix2 y⟩
  refine (P a b).trans ?_
  have e0 : ((((win0_8.blk t).view.emb (ix2 a b)) 0 : Fin _) : ℕ) = t.val / 4 * 512 + a := by blk_simp [idx8]; rfl
  have e1 : ((((win0_8.blk t).view.emb (ix2 a b)) 1 : Fin _) : ℕ) = t.val % 4 * 512 + b := by blk_simp [idx8]; rfl
  rw [mat, e0, e1]

end Kernel

section Reference
open Cert.Reference19Ideal Cert.Reference19Ideal.Read

variable (A : (⟨S8192x1024, .bf16⟩ : BufTy).Contents (Elt Ideal)) (U : (⟨S1024x2048, .bf16⟩ : BufTy).Contents (Elt Ideal))
  (B : (⟨S8192x1024, .bf16⟩ : BufTy).Contents (Elt Ideal)) (W : (⟨S1024x2048, .bf16⟩ : BufTy).Contents (Elt Ideal))
  (G H : (⟨S8192x2048, .bf16⟩ : BufTy).Contents (Elt Ideal))

theorem ref_first (i : S8192x2048.Idx) : val_main_v2 (F := Ideal) A U i = nn A U (i 0).val (i 1).val := by
  refine (val_main_v2_apply A U i).trans (sum_fin _ _ _ fun k => ?_)
  rw [val_main_v0_apply, val_main_v1_apply]
  exact congrArg₂ (· * ·) (rd2_of A _ rfl rfl) (rd2_of U _ rfl rfl)

theorem ref_second (i : S8192x2048.Idx) : val_main_v5 (F := Ideal) B W i = nn B W (i 0).val (i 1).val := by
  refine (val_main_v5_apply B W i).trans (sum_fin _ _ _ fun k => ?_)
  rw [val_main_v3_apply, val_main_v4_apply]
  exact congrArg₂ (· * ·) (rd2_of B _ rfl rfl) (rd2_of W _ rfl rfl)

/-- The reference's three results are the same arrays. -/
theorem ref_eq11 : val_main_v11 (F := Ideal) A U = mat (nn A U) :=
  funext fun i => (val_main_v11_apply A U i).trans (ref_first A U i)

theorem ref_eq12 : val_main_v12 (F := Ideal) B W = mat (nn B W) :=
  funext fun i => (val_main_v12_apply B W i).trans (ref_second B W i)

theorem ref_eq13 : val_main_v13 (F := Ideal) A U B W G H = mat (merged A U B W G H) := by
  funext i
  rw [val_main_v13_apply]
  refine (val_main_v10_apply A U B W G H i).trans ?_
  rw [val_main_v7_apply, val_main_v9_apply, val_main_v6_apply, val_main_v8_apply]
  exact congrArg₂ (· + ·) (congrArg₂ (· * ·) (rd2_of G _ rfl rfl) (ref_first A U i))
    (congrArg₂ (· * ·) (rd2_of H _ rfl rfl) (ref_second B W i))

end Reference

end Cert.Plain.MergeFwd

end
-- ==== Proof.Latent.lean ====
/-
The latents' columns of the input projection: the product itself, and its part of the input's gradient.
-/
module

public import proofs.«01_k».proof.Proof.Plain
public import proofs.«01_k».proof.Proof.Gen.Kernel22Ideal.Value
public import proofs.«01_k».proof.Proof.Gen.Kernel24Ideal.Value
public import Idealize.ShloMosaic.Lib.Pipeline.ValueKit
public import proofs.«01_k».proof.Proof.Gen.Reference22Ideal.Read
public import proofs.«01_k».proof.Proof.Gen.Reference24Ideal.Read

@[expose] public section

set_option maxRecDepth 16384

noncomputable section

open Idealize.ShloMosaic hiding ix0 ix1 ix2 ix3 ix4 ix5
open Finset Idealize.ShloMosaic.ValueIdx Idealize.ShloMosaic.TcCoe Idealize.ShloMosaic.Tactic
open Cert.Ffn

namespace Cert.Plain.Latent.Fwd

section Kernel
open Cert.Kernel22Ideal Cert.Kernel22Ideal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem pt_lt (t : Fin cfg0.N) : t.val < 16 := lt_of_lt_of_eq t.isLt (show cfg0.N = 16 from N_0)

theorem out2 (x0 : Vec Ideal S512x2048 .bf16) (x1 : Vec Ideal S2048x896 .bf16) : out0_2 x0 x1 = k0_pay1 x0 x1 := by
  unfold out0_2
  rw [View.canon_cons_unit_lit (S := S512x896) inb_S512x896_S512x896_0_0 _ _ (by decide),
    View.ld_unit_lit (S := S512x2048) inb_S512x2048_S512x2048_0_0 x0 (by decide),
    View.ld_unit_lit (S := S2048x896) inb_S2048x896_S2048x896_0_0 x1 (by decide)]

variable (m : (ℓ : Loc nD τ sig) → Buf (Elt Ideal) ℓ) (c : Dev nD)

theorem blk0 (t : Fin cfg0.N) (a : Fin 512) (b : Fin 2048) :
    iblk m c 0 t (ix2 a b) = rd2 (V m c main_arg0) (t.val * 512 + a) b := by
  have ht := pt_lt t
  unfold iblk
  generalize V m c = W
  blk_simp
  exact rd2_of (W main_arg0) _ (by blk_simp [idx0]) (by blk_simp [idx0])

/-- Every point reads the whole weight. -/
theorem blk1 (t : Fin cfg0.N) (a : Fin 2048) (b : Fin 896) : iblk m c 1 t (ix2 a b) = rd2 (V m c main_arg1) a b := by
  have ht := pt_lt t
  unfold iblk
  generalize V m c = W
  blk_simp
  exact rd2_of (W main_arg1) _ (by blk_simp [idx1]) (by blk_simp [idx1])

theorem point (t : Fin cfg0.N) (a : Fin 512) (b : Fin 896) : k0_pay1 (iblk m c 0 t) (iblk m c 1 t) (ix2 a b)
    = nn (V m c main_arg0) (V m c main_arg1) (t.val * 512 + a) b := by
  unfold k0_pay1
  exact blk_nn _ rfl _ _ a b _ _ _ _ (blk0 m c t a) (fun k => blk1 m c t k b)

/-- The projection's array after the run. -/
theorem final : (dats m 0 c).arrAt 2 cfg0.N = mat (nn (V m c main_arg0) (V m c main_arg1)) := by
  refine (dats m 0 c).arrAt_eq_of_covers 2 (mat (nn (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 512) (b : Fin 896), y = ix2 a b := ⟨y 0, y 1, Cert.Ffn.eq_ix2 y⟩
  refine (P a b).trans ?_
  have e0 : ((((win0_2.blk t).view.emb (ix2 a b)) 0 : Fin _) : ℕ) = t.val * 512 + a := by blk_simp [idx2]; rfl
  have e1 : ((((win0_2.blk t).view.emb (ix2 a b)) 1 : Fin _) : ℕ) = b := by blk_simp [idx2]; rfl
  rw [mat, e0, e1]

end Kernel

section Reference
open Cert.Reference22Ideal Cert.Reference22Ideal.Read

/-- The reference's projection is the same array. -/
theorem ref_eq (X : (⟨S8192x2048, .bf16⟩ : BufTy).Contents (Elt Ideal)) (Y : (⟨S2048x896, .bf16⟩ : BufTy).Contents (Elt Ideal)) :
    val_main_v2 (F := Ideal) X Y = mat (nn X Y) := by
  funext i
  unfold mat nn
  refine (val_main_v2_apply X Y i).trans (sum_fin _ _ _ fun k => ?_)
  rw [val_main_v0_apply, val_main_v1_apply]
  exact congrArg₂ (· * ·) (rd2_of X _ rfl rfl) (rd2_of Y _ rfl rfl)

end Reference

end Cert.Plain.Latent.Fwd

namespace Cert.Plain.Latent.Dh

section Kernel
open Cert.Kernel24Ideal Cert.Kernel24Ideal.Gen

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![t.val % 2, 0] :=
  (by decide +kernel : ∀ t : Fin grid0.N, win0_1.index t = ![t.val % 2, 0])
theorem idx2 : ∀ t : Fin cfg0.N, win0_2.index t = ![t.val / 2, t.val % 2] :=
  (by decide +kernel : ∀ t : Fin grid0.N, win0_2.index t = ![t.val / 2, t.val % 2])
theorem pt_lt (t : Fin cfg0.N) : t.val < 32 := lt_of_lt_of_eq t.isLt (show cfg0.N = 32 from N_0)

theorem out2 (x0 : Vec Ideal S512x896 .bf16) (x1 : Vec Ideal S1024x896 .bf16) : out0_2 x0 x1 = k0_pay1 x0 x1 := by
  unfold out0_2
  rw [View.canon_cons_unit_lit (S := S512x1024) inb_S512x1024_S512x1024_0_0 _ _ (by decide),
    View.ld_unit_lit (S := S512x896) inb_S512x896_S512x896_0_0 x0 (by decide),
    View.ld_unit_lit (S := S1024x896) inb_S1024x896_S1024x896_0_0 x1 (by decide)]

variable (m : (ℓ : Loc nD τ sig) → Buf (Elt Ideal) ℓ) (c : Dev nD)

theorem blk0 (t : Fin cfg0.N) (a : Fin 512) (b : Fin 896) :
    iblk m c 0 t (ix2 a b) = rd2 (V m c main_arg0) (t.val / 2 * 512 + a) b := by
  have ht := pt_lt t
  unfold iblk
  generalize V m c = W
  blk_simp
  exact rd2_of (W main_arg0) _ (by blk_simp [idx0]) (by blk_simp [idx0])

theorem blk1 (t : Fin cfg0.N) (a : Fin 1024) (b : Fin 896) :
    iblk m c 1 t (ix2 a b) = rd2 (V m c main_arg1) (t.val % 2 * 1024 + a) b := by
  have ht := pt_lt t
  unfold iblk
  generalize V m c = W
  blk_simp
  exact rd2_of (W main_arg1) _ (by blk_simp [idx1]) (by blk_simp [idx1])

theorem point (t : Fin cfg0.N) (a : Fin 512) (b : Fin 1024) : k0_pay1 (iblk m c 0 t) (iblk m c 1 t) (ix2 a b)
    = nt (V m c main_arg0) (V m c main_arg1) (t.val / 2 * 512 + a) (t.val % 2 * 1024 + b) := by
  unfold k0_pay1
  exact blk_nt _ rfl _ _ a b _ _ _ _ (blk0 m c t a) (blk1 m c t b)

/-- The gradient's array after the run. -/
theorem final : (dats m 0 c).arrAt 2 cfg0.N = mat (nt (V m c main_arg0) (V m c main_arg1)) := by
  refine (dats m 0 c).arrAt_eq_of_covers 2 (mat (nt (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 512) (b : Fin 1024), y = ix2 a b := ⟨y 0, y 1, Cert.Ffn.eq_ix2 y⟩
  refine (P a b).trans ?_
  have e0 : ((((win0_2.blk t).view.emb (ix2 a b)) 0 : Fin _) : ℕ) = t.val / 2 * 512 + a := by blk_simp [idx2]; rfl
  have e1 : ((((win0_2.blk t).view.emb (ix2 a b)) 1 : Fin _) : ℕ) = t.val % 2 * 1024 + b := by blk_simp [idx2]; rfl
  rw [mat, e0, e1]

end Kernel

section Reference
open Cert.Reference24Ideal Cert.Reference24Ideal.Read

/-- The reference's gradient is the same array. -/
theorem ref_eq (X : (⟨S8192x896, .bf16⟩ : BufTy).Contents (Elt Ideal)) (Y : (⟨S2048x896, .bf16⟩ : BufTy).Contents (Elt Ideal)) :
    val_main_v4 (F := Ideal) X Y = mat (nt X Y) := by
  funext i
  unfold mat nt
  refine (val_main_v4_apply X Y i).trans (sum_fin _ _ _ fun k => ?_)
  rw [val_main_v3_apply, val_main_v0_apply]
  exact congrArg₂ (· * ·) (rd2_of X _ rfl rfl) (rd2_of Y _ rfl rfl)

end Reference

end Cert.Plain.Latent.Dh

end
-- ==== Proof.Loss.lean ====
/-
The per-layer embedding added to the stream, the error against the target, and the gradients the loss starts from: the
stream's, the gate's before the logistic function, and the projection's; with each row's squared errors summed.
-/
module

public import proofs.«01_k».proof.Proof.Plain
public import proofs.«01_k».proof.Proof.Act
public import proofs.«01_k».proof.Proof.Gen.Kernel25Ideal.Value
public import Idealize.ShloMosaic.Lib.Pipeline.ValueKit
public import Idealize.ShloMosaic.Lib.ValueLayoutCasts
public import proofs.«01_k».proof.Proof.Gen.Reference25Ideal.Read

@[expose] public section

set_option maxRecDepth 16384

noncomputable section

namespace Cert.Plain.Loss

open Idealize.ShloMosaic hiding ix0 ix1 ix2 ix3 ix4 ix5
open Finset Idealize.ShloMosaic.ValueIdx Idealize.ShloMosaic.TcCoe Idealize.ShloMosaic.Tactic
open Cert.Ffn
open Cert.Ffn.Act (sg)

/-- One over the number of columns, as the kernel writes it. -/
def inv : EReal := Ideal.ofBits .f32 0x3A000000#32

theorem inv_eq : inv = ((1 / 2048 : ℝ) : EReal) := by
  simp [inv, Ideal.ofBits, Ideal.ieee, -EReal.coe_mul]; norm_num

section Entries
variable (N : (⟨2, ![8192, 2048]⟩ : Shape).Idx → EReal) (G : (⟨2, ![2048, 2048]⟩ : Shape).Idx → EReal)
  (P : (⟨2, ![8192, 256]⟩ : Shape).Idx → EReal) (W : (⟨2, ![256, 2048]⟩ : Shape).Idx → EReal)
  (X T : (⟨2, ![8192, 2048]⟩ : Shape).Idx → EReal) (r c : ℕ)

/-- The gate. -/
def pg : EReal := sg (nn N G r c)

/-- The error: the stream and the gated projection, less the target. -/
def err : EReal := rd2 X r c + pg N G r c * nn P W r c - rd2 T r c

/-- The stream's gradient. -/
def dy : EReal := err N G P W X T r c * inv

/-- The gradient before the logistic function. -/
def dz : EReal := dy N G P W X T r c * nn P W r c * pg N G r c * (1 - pg N G r c)

/-- The projection's gradient. -/
def dproj : EReal := dy N G P W X T r c * pg N G r c

/-- An entry's squared error. -/
def sq : EReal := err N G P W X T r c * err N G P W X T r c

/-- A row's squared errors summed. -/
def rows : EReal := ∑ k ∈ range 2048, sq N G P W X T r k

end Entries

section Kernel
open Cert.Kernel25Ideal Cert.Kernel25Ideal.Gen

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![0, t.val % 4] :=
  (by decide +kernel : ∀ t : Fin grid0.N, win0_1.index t = ![0, t.val % 4])
theorem idx2 : ∀ t : Fin cfg0.N, win0_2.index t = ![t.val / 4, 0] :=
  (by decide +kernel : ∀ t : Fin grid0.N, win0_2.index t = ![t.val / 4, 0])
theorem idx3 : ∀ t : Fin cfg0.N, win0_3.index t = ![0, t.val % 4] :=
  (by decide +kernel : ∀ t : Fin grid0.N, win0_3.index t = ![0, t.val % 4])
theorem idx4 : ∀ t : Fin cfg0.N, win0_4.index t = ![t.val / 4, t.val % 4] :=
  (by decide +kernel : ∀ t : Fin grid0.N, win0_4.index t = ![t.val / 4, t.val % 4])
theorem idx5 : ∀ t : Fin cfg0.N, win0_5.index t = ![t.val / 4, t.val % 4] :=
  (by decide +kernel : ∀ t : Fin grid0.N, win0_5.index t = ![t.val / 4, t.val % 4])
theorem idx6 : ∀ t : Fin cfg0.N, win0_6.index t = ![t.val / 4, t.val % 4] :=
  (by decide +kernel : ∀ t : Fin grid0.N, win0_6.index t = ![t.val / 4, t.val % 4])
theorem idx7 : ∀ t : Fin cfg0.N, win0_7.index t = ![t.val / 4, t.val % 4] :=
  (by decide +kernel : ∀ t : Fin grid0.N, win0_7.index t = ![t.val / 4, t.val % 4])
theorem idx8 : ∀ t : Fin cfg0.N, win0_8.index t = ![t.val / 4, t.val % 4] :=
  (by decide +kernel : ∀ t : Fin grid0.N, win0_8.index t = ![t.val / 4, t.val % 4])
theorem idx9 : ∀ t : Fin cfg0.N, win0_9.index t = ![t.val / 4, 0] :=
  (by decide +kernel : ∀ t : Fin grid0.N, win0_9.index t = ![t.val / 4, 0])
theorem pt_lt (t : Fin cfg0.N) : t.val < 64 := lt_of_lt_of_eq t.isLt (show cfg0.N = 64 from N_0)

section Payloads
variable (x0 : Vec Ideal S512x2048 .bf16) (x1 : Vec Ideal S2048x512 .bf16) (x2 : Vec Ideal S512x256 .f32)
  (x3 : Vec Ideal S256x512 .bf16) (x4 x5 : Vec Ideal S512x512 .f32) (i : S512x512.Idx)

theorem pay5_apply : k0_pay5 x0 x1 x2 x3 x4 x5 i = x4 i + k0_pay4 x0 x1 i * k0_pay3 x2 x3 i - x5 i := rfl

theorem pay6_apply : k0_pay6 x0 x1 x2 x3 x4 x5 i = k0_pay5 x0 x1 x2 x3 x4 x5 i * inv := rfl

theorem pay7_apply : k0_pay7 x0 x1 x2 x3 x4 x5 i
    = k0_pay6 x0 x1 x2 x3 x4 x5 i * k0_pay3 x2 x3 i * k0_pay4 x0 x1 i * (1 - k0_pay4 x0 x1 i) := by
  show _ * (Ideal.ofBits .f32 0x3F800000#32 - _) = _
  rw [Ideal.ofBits_one_f32]
  rfl

theorem pay8_apply : k0_pay8 x0 x1 x2 x3 x4 x5 i = k0_pay6 x0 x1 x2 x3 x4 x5 i * k0_pay4 x0 x1 i := rfl

theorem lift_row (h : S512x512.Reduces [1] S512) (r : Fin 512) (k : Fin 512) : h.lift (ix1 r) k = ix2 r k := by
  funext a; apply Fin.ext
  fin_cases a <;> rfl

/-- The rows' sums after a point: what was there, and each row's squares over the block. -/
theorem pay2_apply (e : FVec Ideal S512x512 .f32) (s : Vec Ideal S512x1 .f32) (a : Fin 512) :
    k0_pay2 e s (ix2 a (0 : Fin 1)) = s (ix2 a (0 : Fin 1)) + ∑ k : Fin 512, e (ix2 a k) * e (ix2 a k) := by
  unfold k0_pay2
  dsimp only
  rw [addf_apply]
  refine congrArg₂ (fun p q : EReal => p + q) (shapeCast_apply _ _ _ _ rfl) ?_
  refine (shapeCast_a_a1_apply _ _ a 0).trans ((Ideal.multiReduction_add_single _ 0x00000000#32 _ (.inl rfl) rfl (ix1 a)).trans ?_)
  exact Finset.sum_congr rfl fun k _ => congrArg (mulf e e) (lift_row _ a k)

theorem pay1_apply (i : S512x1.Idx) : (k0_pay1 (F := Ideal)) i = (0 : EReal) := Ideal.ofBits_zero_f32

end Payloads

variable (m : (ℓ : Loc nD τ sig) → Buf (Elt Ideal) ℓ) (c : Dev nD)

theorem blk0 (t : Fin cfg0.N) (a : Fin 512) (b : Fin 2048) :
    iblk m c 0 t (ix2 a b) = rd2 (V m c main_arg0) (t.val / 4 * 512 + a) b := by
  have ht := pt_lt t
  unfold iblk
  generalize V m c = W
  blk_simp
  exact rd2_of (W main_arg0) _ (by blk_simp [idx0]) (by blk_simp [idx0])

theorem blk1 (t : Fin cfg0.N) (a : Fin 2048) (b : Fin 512) :
    iblk m c 1 t (ix2 a b) = rd2 (V m c main_arg1) a (t.val % 4 * 512 + b) := by
  have ht := pt_lt t
  unfold iblk
  generalize V m c = W
  blk_simp
  exact rd2_of (W main_arg1) _ (by blk_simp [idx1]) (by blk_simp [idx1])

theorem blk2 (t : Fin cfg0.N) (a : Fin 512) (b : Fin 256) :
    iblk m c 2 t (ix2 a b) = rd2 (V m c main_arg2) (t.val / 4 * 512 + a) b := by
  have ht := pt_lt t
  unfold iblk
  generalize V m c = W
  blk_simp
  exact rd2_of (W main_arg2) _ (by blk_simp [idx2]) (by blk_simp [idx2])

theorem blk3 (t : Fin cfg0.N) (a : Fin 256) (b : Fin 512) :
    iblk m c 3 t (ix2 a b) = rd2 (V m c main_arg3) a (t.val % 4 * 512 + b) := by
  have ht := pt_lt t
  unfold iblk
  generalize V m c = W
  blk_simp
  exact rd2_of (W main_arg3) _ (by blk_simp [idx3]) (by blk_simp [idx3])

theorem blk4 (t : Fin cfg0.N) (a b : Fin 512) :
    iblk m c 4 t (ix2 a b) = rd2 (V m c main_arg4) (t.val / 4 * 512 + a) (t.val % 4 * 512 + b) := by
  have ht := pt_lt t
  unfold iblk
  generalize V m c = W
  blk_simp
  exact rd2_of (W main_arg4) _ (by blk_simp [idx4]) (by blk_simp [idx4])

theorem blk5 (t : Fin cfg0.N) (a b : Fin 512) :
    iblk m c 5 t (ix2 a b) = rd2 (V m c main_arg5) (t.val / 4 * 512 + a) (t.val % 4 * 512 + b) := by
  have ht := pt_lt t
  unfold iblk
  generalize V m c = W
  blk_simp
  exact rd2_of (W main_arg5) _ (by blk_simp [idx5]) (by blk_simp [idx5])

/-- A block's entries of the projection, the gate and the error. -/
theorem at3 (t : Fin cfg0.N) (a b : Fin 512) : k0_pay3 (iblk m c 2 t) (iblk m c 3 t) (ix2 a b)
    = nn (V m c main_arg2) (V m c main_arg3) (t.val / 4 * 512 + a) (t.val % 4 * 512 + b) := by
  unfold k0_pay3
  exact blk_nn _ rfl _ _ a b _ _ _ _ (blk2 m c t a) (fun k => blk3 m c t k b)

theorem at4 (t : Fin cfg0.N) (a b : Fin 512) : k0_pay4 (iblk m c 0 t) (iblk m c 1 t) (ix2 a b)
    = pg (V m c main_arg0) (V m c main_arg1) (t.val / 4 * 512 + a) (t.val % 4 * 512 + b) := by
  have h := blk_nn dot_S512x2048_S2048x512_S512x512_1_0_0_1_n_n rfl _ _ a b _ _ _ _ (blk0 m c t a) (fun k => blk1 m c t k b)
  unfold k0_pay4 pg
  refine Eq.trans ?_ (congrArg sg h)
  show Ideal.div (Ideal.ofBits .f32 0x3F800000#32) (Ideal.ofBits .f32 0x3F800000#32
    + Ideal.exp (Ideal.ofBits .f32 0x00000000#32 - _)) = _
  rw [Ideal.ofBits_one_f32, Ideal.ofBits_zero_f32, zero_sub]
  rfl

theorem at5 (t : Fin cfg0.N) (a b : Fin 512) :
    k0_pay5 (iblk m c 0 t) (iblk m c 1 t) (iblk m c 2 t) (iblk m c 3 t) (iblk m c 4 t) (iblk m c 5 t) (ix2 a b)
    = err (V m c main_arg0) (V m c main_arg1) (V m c main_arg2) (V m c main_arg3) (V m c main_arg4) (V m c main_arg5)
      (t.val / 4 * 512 + a) (t.val % 4 * 512 + b) := by
  rw [pay5_apply, blk4, blk5, at3, at4, err]

theorem at6 (t : Fin cfg0.N) (a b : Fin 512) :
    k0_pay6 (iblk m c 0 t) (iblk m c 1 t) (iblk m c 2 t) (iblk m c 3 t) (iblk m c 4 t) (iblk m c 5 t) (ix2 a b)
    = dy (V m c main_arg0) (V m c main_arg1) (V m c main_arg2) (V m c main_arg3) (V m c main_arg4) (V m c main_arg5)
      (t.val / 4 * 512 + a) (t.val % 4 * 512 + b) := by
  rw [pay6_apply, at5, dy]

theorem at7 (t : Fin cfg0.N) (a b : Fin 512) :
    k0_pay7 (iblk m c 0 t) (iblk m c 1 t) (iblk m c 2 t) (iblk m c 3 t) (iblk m c 4 t) (iblk m c 5 t) (ix2 a b)
    = dz (V m c main_arg0) (V m c main_arg1) (V m c main_arg2) (V m c main_arg3) (V m c main_arg4) (V m c main_arg5)
      (t.val / 4 * 512 + a) (t.val % 4 * 512 + b) := by
  rw [pay7_apply, at6, at3, at4, dz]

theorem at8 (t : Fin cfg0.N) (a b : Fin 512) :
    k0_pay8 (iblk m c 0 t) (iblk m c 1 t) (iblk m c 2 t) (iblk m c 3 t) (iblk m c 4 t) (iblk m c 5 t) (ix2 a b)
    = dproj (V m c main_arg0) (V m c main_arg1) (V m c main_arg2) (V m c main_arg3) (V m c main_arg4) (V m c main_arg5)
      (t.val / 4 * 512 + a) (t.val % 4 * 512 + b) := by
  rw [pay8_apply, at6, at4, dproj]

/-- What a point leaves in the three outputs that each point fills. -/
theorem out6 (t : Fin cfg0.N) : (outsAt0 m c t.val t.isLt).1
    = k0_pay6 (iblk m c 0 t) (iblk m c 1 t) (iblk m c 2 t) (iblk m c 3 t) (iblk m c 4 t) (iblk m c 5 t) := by
  by_cases h0 : t.val % 4 = 0
  · rw [outsAt0_A m c t h0]
    frame_out
  · rw [outsAt0_B m c t h0]
    frame_out

theorem out7 (t : Fin cfg0.N) : (outsAt0 m c t.val t.isLt).2.1
    = k0_pay7 (iblk m c 0 t) (iblk m c 1 t) (iblk m c 2 t) (iblk m c 3 t) (iblk m c 4 t) (iblk m c 5 t) := by
  by_cases h0 : t.val % 4 = 0
  · rw [outsAt0_A m c t h0]
    frame_out
  · rw [outsAt0_B m c t h0]
    frame_out

theorem out8 (t : Fin cfg0.N) : (outsAt0 m c t.val t.isLt).2.2.1
    = k0_pay8 (iblk m c 0 t) (iblk m c 1 t) (iblk m c 2 t) (iblk m c 3 t) (iblk m c 4 t) (iblk m c 5 t) := by
  by_cases h0 : t.val % 4 = 0
  · rw [outsAt0_A m c t h0]
    frame_out
  · rw [outsAt0_B m c t h0]
    frame_out

/-- The rows' sums start from zero at a row block's first point. -/
theorem rows_first (t : Fin cfg0.N) (h0 : t.val % 4 = 0) : (outsAt0 m c t.val t.isLt).2.2.2
    = k0_pay2 (k0_pay5 (iblk m c 0 t) (iblk m c 1 t) (iblk m c 2 t) (iblk m c 3 t) (iblk m c 4 t) (iblk m c 5 t)) (k0_pay1 (F := Ideal)) := by
  rw [outsAt0_A m c t h0]
  frame_out

/-- Every other point adds to what the point before left. -/
theorem rows_next (t : Fin cfg0.N) (h0 : ¬t.val % 4 = 0) : (outsAt0 m c t.val t.isLt).2.2.2
    = k0_pay2 (k0_pay5 (iblk m c 0 t) (iblk m c 1 t) (iblk m c 2 t) (iblk m c 3 t) (iblk m c 4 t) (iblk m c 5 t))
      (outsAt0 m c (t.val - 1) (Nat.lt_of_le_of_lt (Nat.sub_le _ _) t.isLt)).2.2.2 := by
  rw [outsAt0_B m c t h0]
  frame_out

/-- An output that every point fills holds, after the run, what the points' blocks hold. -/
theorem final6 : (dats m 0 c).arrAt 6 cfg0.N = mat (dy (V m c main_arg0) (V m c main_arg1) (V m c main_arg2)
    (V m c main_arg3) (V m c main_arg4) (V m c main_arg5)) := by
  have P := at6 m c
  revert P
  generalize dy (V m c main_arg0) (V m c main_arg1) (V m c main_arg2) (V m c main_arg3) (V m c main_arg4) (V m c main_arg5) = f
  intro P
  refine (dats m 0 c).arrAt_eq_of_covers 6 (mat f) (by decide +kernel) fun t hf y => ?_
  have ht := pt_lt t
  blk_simp
  rw [after0_6, out6]
  obtain ⟨a, b, rfl⟩ : ∃ (a : Fin 512) (b : Fin 512), y = ix2 a b := ⟨y 0, y 1, Cert.Ffn.eq_ix2 y⟩
  refine (P t a b).trans ?_
  have e0 : ((((win0_6.blk t).view.emb (ix2 a b)) 0 : Fin _) : ℕ) = t.val / 4 * 512 + a := by blk_simp [idx6]; rfl
  have e1 : ((((win0_6.blk t).view.emb (ix2 a b)) 1 : Fin _) : ℕ) = t.val % 4 * 512 + b := by blk_simp [idx6]; rfl
  rw [mat, e0, e1]

theorem final7 : (dats m 0 c).arrAt 7 cfg0.N = mat (dz (V m c main_arg0) (V m c main_arg1) (V m c main_arg2)
    (V m c main_arg3) (V m c main_arg4) (V m c main_arg5)) := by
  have P := at7 m c
  revert P
  generalize dz (V m c main_arg0) (V m c main_arg1) (V m c main_arg2) (V m c main_arg3) (V m c main_arg4) (V m c main_arg5) = f
  intro P
  refine (dats m 0 c).arrAt_eq_of_covers 7 (mat f) (by decide +kernel) fun t hf y => ?_
  have ht := pt_lt t
  blk_simp
  rw [after0_7, out7]
  obtain ⟨a, b, rfl⟩ : ∃ (a : Fin 512) (b : Fin 512), y = ix2 a b := ⟨y 0, y 1, Cert.Ffn.eq_ix2 y⟩
  refine (P t a b).trans ?_
  have e0 : ((((win0_7.blk t).view.emb (ix2 a b)) 0 : Fin _) : ℕ) = t.val / 4 * 512 + a := by blk_simp [idx7]; rfl
  have e1 : ((((win0_7.blk t).view.emb (ix2 a b)) 1 : Fin _) : ℕ) = t.val % 4 * 512 + b := by blk_simp [idx7]; rfl
  rw [mat, e0, e1]

theorem final8 : (dats m 0 c).arrAt 8 cfg0.N = mat (dproj (V m c main_arg0) (V m c main_arg1) (V m c main_arg2)
    (V m c main_arg3) (V m c main_arg4) (V m c main_arg5)) := by
  have P := at8 m c
  revert P
  generalize dproj (V m c main_arg0) (V m c main_arg1) (V m c main_arg2) (V m c main_arg3) (V m c main_arg4) (V m c main_arg5) = f
  intro P
  refine (dats m 0 c).arrAt_eq_of_covers 8 (mat f) (by decide +kernel) fun t hf y => ?_
  have ht := pt_lt t
  blk_simp
  rw [after0_8, out8]
  obtain ⟨a, b, rfl⟩ : ∃ (a : Fin 512) (b : Fin 512), y = ix2 a b := ⟨y 0, y 1, Cert.Ffn.eq_ix2 y⟩
  refine (P t a b).trans ?_
  have e0 : ((((win0_8.blk t).view.emb (ix2 a b)) 0 : Fin _) : ℕ) = t.val / 4 * 512 + a := by blk_simp [idx8]; rfl
  have e1 : ((((win0_8.blk t).view.emb (ix2 a b)) 1 : Fin _) : ℕ) = t.val % 4 * 512 + b := by blk_simp [idx8]; rfl
  rw [mat, e0, e1]

/-- After any point a row's sum is over the columns met so far. -/
theorem rows_at (a : Fin 512) : ∀ (k : ℕ) (h : k < cfg0.N), (outsAt0 m c k h).2.2.2 (ix2 a (0 : Fin 1))
    = ∑ r ∈ range (k % 4 * 512 + 512), sq (V m c main_arg0) (V m c main_arg1) (V m c main_arg2) (V m c main_arg3)
      (V m c main_arg4) (V m c main_arg5) (k / 4 * 512 + a) r := by
  have S : ∀ t : Fin cfg0.N, ∑ b : Fin 512,
      k0_pay5 (iblk m c 0 t) (iblk m c 1 t) (iblk m c 2 t) (iblk m c 3 t) (iblk m c 4 t) (iblk m c 5 t) (ix2 a b)
      * k0_pay5 (iblk m c 0 t) (iblk m c 1 t) (iblk m c 2 t) (iblk m c 3 t) (iblk m c 4 t) (iblk m c 5 t) (ix2 a b)
      = ∑ r ∈ range 512, sq (V m c main_arg0) (V m c main_arg1) (V m c main_arg2) (V m c main_arg3)
        (V m c main_arg4) (V m c main_arg5) (t.val / 4 * 512 + a) (t.val % 4 * 512 + r) :=
    fun t => sum_fin _ _ _ fun b => by rw [at5, sq]
  exact gather cfg0.N 512 (fun k h => (outsAt0 m c k h).2.2.2 (ix2 a (0 : Fin 1)))
    (fun q r => sq (V m c main_arg0) (V m c main_arg1) (V m c main_arg2) (V m c main_arg3)
      (V m c main_arg4) (V m c main_arg5) (q * 512 + a) r)
    (fun k h h0 => (congrFun (rows_first m c ⟨k, h⟩ h0) (ix2 a (0 : Fin 1))).trans ((pay2_apply _ _ a).trans (by
      rw [pay1_apply, zero_add]; exact S ⟨k, h⟩)))
    (fun k h h0 => (congrFun (rows_next m c ⟨k, h⟩ h0) (ix2 a (0 : Fin 1))).trans ((pay2_apply _ _ a).trans
      (congrArg (_ + ·) (S ⟨k, h⟩))))

/-- The rows' sums after the run. -/
theorem final9 : (dats m 0 c).arrAt 9 cfg0.N = mat (fun r _ => rows (V m c main_arg0) (V m c main_arg1) (V m c main_arg2)
    (V m c main_arg3) (V m c main_arg4) (V m c main_arg5) r) := by
  have P : ∀ (t : Fin cfg0.N), t.val % 4 = 3 → ∀ a : Fin 512, (outsAt0 m c t.val t.isLt).2.2.2 (ix2 a (0 : Fin 1))
      = rows (V m c main_arg0) (V m c main_arg1) (V m c main_arg2) (V m c main_arg3) (V m c main_arg4) (V m c main_arg5)
        (t.val / 4 * 512 + a) := fun t h3 a => by
    refine (rows_at m c a t.val t.isLt).trans ?_
    rw [h3]
    rfl
  revert P
  generalize rows (V m c main_arg0) (V m c main_arg1) (V m c main_arg2) (V m c main_arg3) (V m c main_arg4) (V m c main_arg5) = f
  intro P
  refine (dats m 0 c).arrAt_eq_of_covers 9 (mat (fun r _ => f r)) (by decide +kernel) fun t hf y => ?_
  have ht := pt_lt t
  have h3 : t.val % 4 = 3 := (flush0_9 t).mp hf
  blk_simp
  rw [after0_9]
  obtain ⟨a, b, rfl⟩ : ∃ (a : Fin 512) (b : Fin 1), y = ix2 a b := ⟨y 0, y 1, Cert.Ffn.eq_ix2 y⟩
  obtain rfl : b = 0 := Subsingleton.elim _ _
  refine (P t h3 a).trans ?_
  have e0 : ((((win0_9.blk t).view.emb (ix2 a (0 : Fin 1))) 0 : Fin _) : ℕ) = t.val / 4 * 512 + a := by blk_simp [idx9]; rfl
  rw [mat, e0]

end Kernel

section Reference
open Cert.Reference25Ideal Cert.Reference25Ideal.Read

variable (N : (⟨S8192x2048, .bf16⟩ : BufTy).Contents (Elt Ideal)) (G : (⟨S2048x2048, .bf16⟩ : BufTy).Contents (Elt Ideal))
  (P : (⟨S8192x256, .f32⟩ : BufTy).Contents (Elt Ideal)) (W : (⟨S256x2048, .bf16⟩ : BufTy).Contents (Elt Ideal))
  (X T : (⟨S8192x2048, .f32⟩ : BufTy).Contents (Elt Ideal)) (i : S8192x2048.Idx)

theorem ref_z : val_main_v2 (F := Ideal) N G i = nn N G (i 0).val (i 1).val := by
  refine (val_main_v2_apply N G i).trans (sum_fin _ _ _ fun k => ?_)
  rw [val_main_v0_apply, val_main_v1_apply]
  exact congrArg₂ (· * ·) (rd2_of N _ rfl rfl) (rd2_of G _ rfl rfl)

theorem ref_proj : val_main_v4 (F := Ideal) P W i = nn P W (i 0).val (i 1).val := by
  refine (val_main_v4_apply P W i).trans (sum_fin _ _ _ fun k => ?_)
  rw [val_main_v3_apply]
  exact congrArg₂ (· * ·) (rd2_of P _ rfl rfl) (rd2_of W _ rfl rfl)

/-- The reference's gate, and the one it computes again for the rows. -/
theorem ref_pg : val_main_v10 (F := Ideal) N G i = pg N G (i 0).val (i 1).val := by
  rw [pg, ← ref_z]
  show Ideal.div (Ideal.ofBits .f32 0x3F800000#32) (Ideal.ofBits .f32 0x3F800000#32 + Ideal.exp (-val_main_v2 (F := Ideal) N G i)) = _
  rw [Ideal.ofBits_one_f32]
  rfl

theorem ref_err : val_main_v16 (F := Ideal) N G P W X T i = err N G P W X T (i 0).val (i 1).val := by
  rw [err, ← ref_pg, ← ref_proj, ← rd2_of X i rfl rfl, ← rd2_of T i rfl rfl]
  rfl

theorem ref_again : val_main_v44 (F := Ideal) N G P W X T i = val_main_v16 (F := Ideal) N G P W X T i := rfl

/-- Half the mean's derivative at an entry, times the square's two, is one over the number of columns. -/
theorem scale : Ideal.div (Ideal.ofBits .f32 0x3F000000#32 * Ideal.ofBits .f32 0x3F800000#32) (Ideal.ofBits .f32 0x45000000#32)
    * Ideal.ofBits .f32 0x40000000#32 = inv := by
  have h2048 : Ideal.ofBits .f32 0x45000000#32 = ((2048 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hh : Ideal.ofBits .f32 0x3F000000#32 = ((1 / 2 : ℝ) : EReal) := half_eq
  rw [h2048, h2, hh, Ideal.ofBits_one_f32, mul_one, inv_eq, Ideal.div, if_neg (by norm_num), ← EReal.coe_inv, ← EReal.coe_mul,
    ← EReal.coe_mul]
  norm_num

theorem ref_dy : val_main_v30 (F := Ideal) N G P W X T i = dy N G P W X T (i 0).val (i 1).val := by
  rw [dy, ← ref_err, ← scale, val_main_v30_apply, val_main_v29_apply, val_main_v28_apply, val_main_v26_apply, val_main_v27_apply]
  exact (mul_assoc _ _ _).symm.trans (mul_comm _ _)

/-- The reference's four results are the same arrays. -/
theorem ref_eq30 : val_main_v30 (F := Ideal) N G P W X T = mat (dy N G P W X T) := funext fun i => ref_dy N G P W X T i

theorem ref_eq34 : val_main_v34 (F := Ideal) N G P W X T = mat (dz N G P W X T) := by
  funext i
  rw [mat, dz, ← ref_dy, ← ref_pg, ← ref_proj, mul_assoc, ← Ideal.ofBits_one_f32]
  rfl

theorem ref_eq35 : val_main_v35 (F := Ideal) N G P W X T = mat (dproj N G P W X T) := by
  funext i
  rw [mat, dproj, ← ref_dy, ← ref_pg]
  exact mul_comm _ _

theorem ref_eq47 : val_main_v47 (F := Ideal) N G P W X T = mat (fun r _ => rows N G P W X T r) := by
  funext i
  rw [val_main_v47_apply, val_main_v46_apply]
  refine (congrArg (· + _) Ideal.ofBits_zero_f32).trans ((zero_add _).trans ?_)
  refine sum_fin _ _ _ fun k => ?_
  rw [val_main_v45_apply, ref_again, ref_err]
  rfl

end Reference

end Cert.Plain.Loss

end
-- ==== Proof.LatentUp.lean ====
/-
The projections up from the two latents, and the gradients they send back: a latent times its weight, and the projection's
gradient times the transposed weight.
-/
module

public import proofs.«01_k».proof.Proof.Plain
public import proofs.«01_k».proof.Proof.Gen.Kernel26Ideal.Value
public import proofs.«01_k».proof.Proof.Gen.Kernel27Ideal.Value
public import proofs.«01_k».proof.Proof.Gen.Kernel30Ideal.Value
public import proofs.«01_k».proof.Proof.Gen.Kernel31Ideal.Value
public import Idealize.ShloMosaic.Lib.Pipeline.ValueKit
public import proofs.«01_k».proof.Proof.Gen.Reference26Ideal.Read
public import proofs.«01_k».proof.Proof.Gen.Reference27Ideal.Read
public import proofs.«01_k».proof.Proof.Gen.Reference30Ideal.Read
public import proofs.«01_k».proof.Proof.Gen.Reference31Ideal.Read

@[expose] public section

set_option maxRecDepth 16384

noncomputable section

open Idealize.ShloMosaic hiding ix0 ix1 ix2 ix3 ix4 ix5
open Finset Idealize.ShloMosaic.ValueIdx Idealize.ShloMosaic.TcCoe Idealize.ShloMosaic.Tactic
open Cert.Ffn

namespace Cert.Plain.Up.Q

section Kernel
open Cert.Kernel26Ideal Cert.Kernel26Ideal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem pt_lt (t : Fin cfg0.N) : t.val < 16 := lt_of_lt_of_eq t.isLt (show cfg0.N = 16 from N_0)

theorem out2 (x0 : Vec Ideal S512x512 .bf16) (x1 : Vec Ideal S512x2048 .bf16) : out0_2 x0 x1 = k0_pay1 x0 x1 := by
  unfold out0_2
  rw [View.canon_cons_unit_lit (S := S512x2048) inb_S512x2048_S512x2048_0_0 _ _ (by decide),
    View.ld_unit_lit (S := S512x512) inb_S512x512_S512x512_0_0 x0 (by decide),
    View.ld_unit_lit (S := S512x2048) inb_S512x2048_S512x2048_0_0 x1 (by decide)]

variable (m : (ℓ : Loc nD τ sig) → Buf (Elt Ideal) ℓ) (c : Dev nD)

theorem blk0 (t : Fin cfg0.N) (a : Fin 512) (b : Fin 512) :
    iblk m c 0 t (ix2 a b) = rd2 (V m c main_arg0) (t.val * 512 + a) b := by
  have ht := pt_lt t
  unfold iblk
  generalize V m c = W
  blk_simp
  exact rd2_of (W main_arg0) _ (by blk_simp [idx0]) (by blk_simp [idx0])

/-- Every point reads the whole weight. -/
theorem blk1 (t : Fin cfg0.N) (a : Fin 512) (b : Fin 2048) : iblk m c 1 t (ix2 a b) = rd2 (V m c main_arg1) a b := by
  have ht := pt_lt t
  unfold iblk
  generalize V m c = W
  blk_simp
  exact rd2_of (W main_arg1) _ (by blk_simp [idx1]) (by blk_simp [idx1])

theorem point (t : Fin cfg0.N) (a : Fin 512) (b : Fin 2048) : k0_pay1 (iblk m c 0 t) (iblk m c 1 t) (ix2 a b)
    = nn (V m c main_arg0) (V m c main_arg1) (t.val * 512 + a) b := by
  unfold k0_pay1
  exact blk_nn _ rfl _ _ a b _ _ _ _ (blk0 m c t a) (fun k => blk1 m c t k b)

/-- The projection's array after the run. -/
theorem final : (dats m 0 c).arrAt 2 cfg0.N = mat (nn (V m c main_arg0) (V m c main_arg1)) := by
  refine (dats m 0 c).arrAt_eq_of_covers 2 (mat (nn (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 512) (b : Fin 2048), y = ix2 a b := ⟨y 0, y 1, Cert.Ffn.eq_ix2 y⟩
  refine (P a b).trans ?_
  have e0 : ((((win0_2.blk t).view.emb (ix2 a b)) 0 : Fin _) : ℕ) = t.val * 512 + a := by blk_simp [idx2]; rfl
  have e1 : ((((win0_2.blk t).view.emb (ix2 a b)) 1 : Fin _) : ℕ) = b := by blk_simp [idx2]; rfl
  rw [mat, e0, e1]

end Kernel

section Reference
open Cert.Reference26Ideal Cert.Reference26Ideal.Read

/-- The reference's projection is the same array. -/
theorem ref_eq (X : (⟨S8192x512, .bf16⟩ : BufTy).Contents (Elt Ideal)) (Y : (⟨S512x2048, .bf16⟩ : BufTy).Contents (Elt Ideal)) :
    val_main_v2 (F := Ideal) X Y = mat (nn X Y) := by
  funext i
  unfold mat nn
  refine (val_main_v2_apply X Y i).trans (sum_fin _ _ _ fun k => ?_)
  rw [val_main_v0_apply, val_main_v1_apply]
  exact congrArg₂ (· * ·) (rd2_of X _ rfl rfl) (rd2_of Y _ rfl rfl)

end Reference

end Cert.Plain.Up.Q

namespace Cert.Plain.Up.Kv

section Kernel
open Cert.Kernel27Ideal Cert.Kernel27Ideal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem pt_lt (t : Fin cfg0.N) : t.val < 16 := lt_of_lt_of_eq t.isLt (show cfg0.N = 16 from N_0)

theorem out2 (x0 : Vec Ideal S512x256 .bf16) (x1 : Vec Ideal S256x2048 .bf16) : out0_2 x0 x1 = k0_pay1 x0 x1 := by
  unfold out0_2
  rw [View.canon_cons_unit_lit (S := S512x2048) inb_S512x2048_S512x2048_0_0 _ _ (by decide),
    View.ld_unit_lit (S := S512x256) inb_S512x256_S512x256_0_0 x0 (by decide),
    View.ld_unit_lit (S := S256x2048) inb_S256x2048_S256x2048_0_0 x1 (by decide)]

variable (m : (ℓ : Loc nD τ sig) → Buf (Elt Ideal) ℓ) (c : Dev nD)

theorem blk0 (t : Fin cfg0.N) (a : Fin 512) (b : Fin 256) :
    iblk m c 0 t (ix2 a b) = rd2 (V m c main_arg0) (t.val * 512 + a) b := by
  have ht := pt_lt t
  unfold iblk
  generalize V m c = W
  blk_simp
  exact rd2_of (W main_arg0) _ (by blk_simp [idx0]) (by blk_simp [idx0])

/-- Every point reads the whole weight. -/
theorem blk1 (t : Fin cfg0.N) (a : Fin 256) (b : Fin 2048) : iblk m c 1 t (ix2 a b) = rd2 (V m c main_arg1) a b := by
  have ht := pt_lt t
  unfold iblk
  generalize V m c = W
  blk_simp
  exact rd2_of (W main_arg1) _ (by blk_simp [idx1]) (by blk_simp [idx1])

theorem point (t : Fin cfg0.N) (a : Fin 512) (b : Fin 2048) : k0_pay1 (iblk m c 0 t) (iblk m c 1 t) (ix2 a b)
    = nn (V m c main_arg0) (V m c main_arg1) (t.val * 512 + a) b := by
  unfold k0_pay1
  exact blk_nn _ rfl _ _ a b _ _ _ _ (blk0 m c t a) (fun k => blk1 m c t k b)

/-- The projection's array after the run. -/
theorem final : (dats m 0 c).arrAt 2 cfg0.N = mat (nn (V m c main_arg0) (V m c main_arg1)) := by
  refine (dats m 0 c).arrAt_eq_of_covers 2 (mat (nn (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 512) (b : Fin 2048), y = ix2 a b := ⟨y 0, y 1, Cert.Ffn.eq_ix2 y⟩
  refine (P a b).trans ?_
  have e0 : ((((win0_2.blk t).view.emb (ix2 a b)) 0 : Fin _) : ℕ) = t.val * 512 + a := by blk_simp [idx2]; rfl
  have e1 : ((((win0_2.blk t).view.emb (ix2 a b)) 1 : Fin _) : ℕ) = b := by blk_simp [idx2]; rfl
  rw [mat, e0, e1]

end Kernel

section Reference
open Cert.Reference27Ideal Cert.Reference27Ideal.Read

/-- The reference's projection is the same array. -/
theorem ref_eq (X : (⟨S8192x256, .bf16⟩ : BufTy).Contents (Elt Ideal)) (Y : (⟨S256x2048, .bf16⟩ : BufTy).Contents (Elt Ideal)) :
    val_main_v2 (F := Ideal) X Y = mat (nn X Y) := by
  funext i
  unfold mat nn
  refine (val_main_v2_apply X Y i).trans (sum_fin _ _ _ fun k => ?_)
  rw [val_main_v0_apply, val_main_v1_apply]
  exact congrArg₂ (· * ·) (rd2_of X _ rfl rfl) (rd2_of Y _ rfl rfl)

end Reference

end Cert.Plain.Up.Kv

namespace Cert.Plain.Up.Dq

section Kernel
open Cert.Kernel30Ideal Cert.Kernel30Ideal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem pt_lt (t : Fin cfg0.N) : t.val < 16 := lt_of_lt_of_eq t.isLt (show cfg0.N = 16 from N_0)

theorem out2 (x0 : Vec Ideal S512x2048 .bf16) (x1 : Vec Ideal S512x2048 .bf16) : out0_2 x0 x1 = k0_pay1 x0 x1 := by
  unfold out0_2
  rw [View.canon_cons_unit_lit (S := S512x512) inb_S512x512_S512x512_0_0 _ _ (by decide),
    View.ld_unit_lit (S := S512x2048) inb_S512x2048_S512x2048_0_0 x0 (by decide),
    View.ld_unit_lit (S := S512x2048) inb_S512x2048_S512x2048_0_0 x1 (by decide)]

variable (m : (ℓ : Loc nD τ sig) → Buf (Elt Ideal) ℓ) (c : Dev nD)

theorem blk0 (t : Fin cfg0.N) (a : Fin 512) (b : Fin 2048) :
    iblk m c 0 t (ix2 a b) = rd2 (V m c main_arg0) (t.val * 512 + a) b := by
  have ht := pt_lt t
  unfold iblk
  generalize V m c = W
  blk_simp
  exact rd2_of (W main_arg0) _ (by blk_simp [idx0]) (by blk_simp [idx0])

/-- Every point reads the whole weight. -/
theorem blk1 (t : Fin cfg0.N) (a : Fin 512) (b : Fin 2048) : iblk m c 1 t (ix2 a b) = rd2 (V m c main_arg1) a b := by
  have ht := pt_lt t
  unfold iblk
  generalize V m c = W
  blk_simp
  exact rd2_of (W main_arg1) _ (by blk_simp [idx1]) (by blk_simp [idx1])

theorem point (t : Fin cfg0.N) (a : Fin 512) (b : Fin 512) : k0_pay1 (iblk m c 0 t) (iblk m c 1 t) (ix2 a b)
    = nt (V m c main_arg0) (V m c main_arg1) (t.val * 512 + a) b := by
  unfold k0_pay1
  exact blk_nt _ rfl _ _ a b _ _ _ _ (blk0 m c t a) (blk1 m c t b)

/-- The gradient's array after the run. -/
theorem final : (dats m 0 c).arrAt 2 cfg0.N = mat (nt (V m c main_arg0) (V m c main_arg1)) := by
  refine (dats m 0 c).arrAt_eq_of_covers 2 (mat (nt (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 512) (b : Fin 512), y = ix2 a b := ⟨y 0, y 1, Cert.Ffn.eq_ix2 y⟩
  refine (P a b).trans ?_
  have e0 : ((((win0_2.blk t).view.emb (ix2 a b)) 0 : Fin _) : ℕ) = t.val * 512 + a := by blk_simp [idx2]; rfl
  have e1 : ((((win0_2.blk t).view.emb (ix2 a b)) 1 : Fin _) : ℕ) = b := by blk_simp [idx2]; rfl
  rw [mat, e0, e1]

end Kernel

section Reference
open Cert.Reference30Ideal Cert.Reference30Ideal.Read

/-- The reference's gradient is the same array. -/
theorem ref_eq (X : (⟨S8192x2048, .bf16⟩ : BufTy).Contents (Elt Ideal)) (Y : (⟨S512x2048, .bf16⟩ : BufTy).Contents (Elt Ideal)) :
    val_main_v4 (F := Ideal) X Y = mat (nt X Y) := by
  funext i
  unfold mat nt
  refine (val_main_v4_apply X Y i).trans (sum_fin _ _ _ fun k => ?_)
  rw [val_main_v3_apply, val_main_v0_apply]
  exact congrArg₂ (· * ·) (rd2_of X _ rfl rfl) (rd2_of Y _ rfl rfl)

end Reference

end Cert.Plain.Up.Dq

namespace Cert.Plain.Up.Dkv

section Kernel
open Cert.Kernel31Ideal Cert.Kernel31Ideal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem pt_lt (t : Fin cfg0.N) : t.val < 16 := lt_of_lt_of_eq t.isLt (show cfg0.N = 16 from N_0)

theorem out2 (x0 : Vec Ideal S512x2048 .bf16) (x1 : Vec Ideal S256x2048 .bf16) : out0_2 x0 x1 = k0_pay1 x0 x1 := by
  unfold out0_2
  rw [View.canon_cons_unit_lit (S := S512x256) inb_S512x256_S512x256_0_0 _ _ (by decide),
    View.ld_unit_lit (S := S512x2048) inb_S512x2048_S512x2048_0_0 x0 (by decide),
    View.ld_unit_lit (S := S256x2048) inb_S256x2048_S256x2048_0_0 x1 (by decide)]

variable (m : (ℓ : Loc nD τ sig) → Buf (Elt Ideal) ℓ) (c : Dev nD)

theorem blk0 (t : Fin cfg0.N) (a : Fin 512) (b : Fin 2048) :
    iblk m c 0 t (ix2 a b) = rd2 (V m c main_arg0) (t.val * 512 + a) b := by
  have ht := pt_lt t
  unfold iblk
  generalize V m c = W
  blk_simp
  exact rd2_of (W main_arg0) _ (by blk_simp [idx0]) (by blk_simp [idx0])

/-- Every point reads the whole weight. -/
theorem blk1 (t : Fin cfg0.N) (a : Fin 256) (b : Fin 2048) : iblk m c 1 t (ix2 a b) = rd2 (V m c main_arg1) a b := by
  have ht := pt_lt t
  unfold iblk
  generalize V m c = W
  blk_simp
  exact rd2_of (W main_arg1) _ (by blk_simp [idx1]) (by blk_simp [idx1])

theorem point (t : Fin cfg0.N) (a : Fin 512) (b : Fin 256) : k0_pay1 (iblk m c 0 t) (iblk m c 1 t) (ix2 a b)
    = nt (V m c main_arg0) (V m c main_arg1) (t.val * 512 + a) b := by
  unfold k0_pay1
  exact blk_nt _ rfl _ _ a b _ _ _ _ (blk0 m c t a) (blk1 m c t b)

/-- The gradient's array after the run. -/
theorem final : (dats m 0 c).arrAt 2 cfg0.N = mat (nt (V m c main_arg0) (V m c main_arg1)) := by
  refine (dats m 0 c).arrAt_eq_of_covers 2 (mat (nt (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 512) (b : Fin 256), y = ix2 a b := ⟨y 0, y 1, Cert.Ffn.eq_ix2 y⟩
  refine (P a b).trans ?_
  have e0 : ((((win0_2.blk t).view.emb (ix2 a b)) 0 : Fin _) : ℕ) = t.val * 512 + a := by blk_simp [idx2]; rfl
  have e1 : ((((win0_2.blk t).view.emb (ix2 a b)) 1 : Fin _) : ℕ) = b := by blk_simp [idx2]; rfl
  rw [mat, e0, e1]

end Kernel

section Reference
open Cert.Reference31Ideal Cert.Reference31Ideal.Read

/-- The reference's gradient is the same array. -/
theorem ref_eq (X : (⟨S8192x2048, .bf16⟩ : BufTy).Contents (Elt Ideal)) (Y : (⟨S256x2048, .bf16⟩ : BufTy).Contents (Elt Ideal)) :
    val_main_v4 (F := Ideal) X Y = mat (nt X Y) := by
  funext i
  unfold mat nt
  refine (val_main_v4_apply X Y i).trans (sum_fin _ _ _ fun k => ?_)
  rw [val_main_v3_apply, val_main_v0_apply]
  exact congrArg₂ (· * ·) (rd2_of X _ rfl rfl) (rd2_of Y _ rfl rfl)

end Reference

end Cert.Plain.Up.Dkv

end
-- ==== Proof.Dup.lean ====
/-
The gradients of the two weights up from the latents and of the per-layer embedding's: every row's input times gradient,
accumulated over four blocks of rows.
-/
module

public import proofs.«01_k».proof.Proof.Plain
public import proofs.«01_k».proof.Proof.Gen.Kernel28Ideal.Value
public import proofs.«01_k».proof.Proof.Gen.Kernel29Ideal.Value
public import proofs.«01_k».proof.Proof.Gen.Kernel32Ideal.Value
public import Idealize.ShloMosaic.Lib.Pipeline.ValueKit
public import proofs.«01_k».proof.Proof.Gen.Reference28Ideal.Read
public import proofs.«01_k».proof.Proof.Gen.Reference29Ideal.Read
public import proofs.«01_k».proof.Proof.Gen.Reference32Ideal.Read

@[expose] public section

set_option maxRecDepth 16384

noncomputable section

open Idealize.ShloMosaic hiding ix0 ix1 ix2 ix3 ix4 ix5
open Finset Idealize.ShloMosaic.ValueIdx Idealize.ShloMosaic.TcCoe Idealize.ShloMosaic.Tactic
open Cert.Ffn

namespace Cert.Plain.Dup.Q

section Kernel
open Cert.Kernel28Ideal Cert.Kernel28Ideal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem pt_lt (t : Fin cfg0.N) : t.val < 4 := lt_of_lt_of_eq t.isLt (show cfg0.N = 4 from N_0)

/-- One point's product: over the block's rows, left times right. -/
theorem pay1_apply (x0 : Vec Ideal S2048x512 .bf16) (x1 : Vec Ideal S2048x2048 .bf16) (d : Fin 512) (f : Fin 2048) :
    k0_pay1 x0 x1 (ix2 d f) = ∑ k : Fin 2048, x0 (ix2 k d) * x1 (ix2 k f) := by
  unfold k0_pay1
  refine (Ideal.matmul_apply₁_of dot_S2048x512_S2048x2048_S512x2048_0_0_1_1_n_n rfl (K := 2048) rfl _ _ _ _
    (fun k => ix2 k d) (fun k => ix2 k f) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]

theorem pay2_apply (x0 : Vec Ideal S2048x512 .bf16) (x1 : Vec Ideal S2048x2048 .bf16) (i : S512x2048.Idx) :
    k0_pay2 x0 x1 i = k0_pay1 x0 x1 i := by
  unfold k0_pay2
  exact shapeCast_apply _ _ i i rfl

theorem pay3_apply (x0 : Vec Ideal S2048x512 .bf16) (x1 : Vec Ideal S2048x2048 .bf16) (a : Vec Ideal S512x2048 .f32)
    (i : S512x2048.Idx) : k0_pay3 x0 x1 a i = a i + k0_pay1 x0 x1 i := by
  unfold k0_pay3
  exact shapeCast_apply _ _ i i rfl

variable (m : (ℓ : Loc nD τ sig) → Buf (Elt Ideal) ℓ) (c : Dev nD)

theorem blk0 (t : Fin cfg0.N) (a : Fin 2048) (b : Fin 512) :
    iblk m c 0 t (ix2 a b) = rd2 (V m c main_arg0) (t.val * 2048 + a) b := by
  have ht := pt_lt t
  unfold iblk
  generalize V m c = W
  blk_simp
  exact rd2_of (W main_arg0) _ (by blk_simp [idx0]) (by blk_simp [idx0])

theorem blk1 (t : Fin cfg0.N) (a : Fin 2048) (b : Fin 2048) :
    iblk m c 1 t (ix2 a b) = rd2 (V m c main_arg1) (t.val * 2048 + a) b := by
  have ht := pt_lt t
  unfold iblk
  generalize V m c = W
  blk_simp
  exact rd2_of (W main_arg1) _ (by blk_simp [idx1]) (by blk_simp [idx1])

/-- One row's share of an entry that a run of four points gathers. -/
def term (X : S8192x512.Idx → EReal) (Y : S8192x2048.Idx → EReal) (d f : ℕ) (q r : ℕ) : EReal :=
  rd2 X r d * rd2 Y r f

/-- The block's product, by the rows' numbers. -/
theorem pay1_blk (t : Fin cfg0.N) (d : Fin 512) (f : Fin 2048) : k0_pay1 (iblk m c 0 t) (iblk m c 1 t) (ix2 d f)
    = ∑ r ∈ range 2048, term (V m c main_arg0) (V m c main_arg1) d f (t.val / 4) (t.val % 4 * 2048 + r) := by
  rw [pay1_apply]
  exact sum_fin _ _ _ fun k => by rw [blk0, blk1, term, Nat.mod_eq_of_lt (pt_lt t)]

/-- A run's first point leaves its own product in the accumulator. -/
theorem acc_first (t : Fin cfg0.N) (h0 : t.val % 4 = 0) :
    (outsAt0 m c t.val t.isLt).2 = k0_pay2 (iblk m c 0 t) (iblk m c 1 t) := by
  rw [outsAt0_A m c t h0 (by have := pt_lt t; omega) (by omega)]
  frame_out

/-- Every other point adds its product to what the point before left. -/
theorem acc_next (t : Fin cfg0.N) (h0 : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg (k0_pay3 _ _) (Memref.IsWhole.read_unread (Memref.isWhole_whole _) _)
  · rw [outsAt0_B m c t h0 (by omega) h2]
    frame_out
    exact congrArg (k0_pay3 _ _) (Memref.IsWhole.read_unread (Memref.isWhole_whole _) _)

/-- The last point writes out what it leaves in the accumulator. -/
theorem out_last (t : Fin cfg0.N) (h2 : t.val % 4 = 3) :
    (outsAt0 m c t.val t.isLt).1 = k0_pay4 (outsAt0 m c t.val t.isLt).2 := by
  rw [acc_next m c t (by omega), outsAt0_C m c t (by omega) (by omega) h2]
  frame_out
  exact congrArg (fun a => k0_pay4 (k0_pay3 _ _ a)) (Memref.IsWhole.read_unread (Memref.isWhole_whole _) _)

/-- After any point the accumulator holds the sum over the rows met so far. -/
theorem acc_at (d : Fin 512) (f : Fin 2048) : ∀ (k : ℕ) (h : k < cfg0.N), (outsAt0 m c k h).2 (ix2 d f)
    = ∑ r ∈ range (k % 4 * 2048 + 2048), term (V m c main_arg0) (V m c main_arg1) d f (k / 4) r :=
  gather cfg0.N 2048 (fun k h => (outsAt0 m c k h).2 (ix2 d f)) _
    (fun k h h0 => (congrFun (acc_first m c ⟨k, h⟩ h0) (ix2 d f)).trans ((pay2_apply _ _ _).trans (pay1_blk m c ⟨k, h⟩ d f)))
    (fun k h h0 => (congrFun (acc_next m c ⟨k, h⟩ h0) (ix2 d f)).trans ((pay3_apply _ _ _ _).trans
      (congrArg (_ + ·) (pay1_blk m c ⟨k, h⟩ d f))))

/-- The last point's block, entry by entry: every row summed. -/
theorem point (t : Fin cfg0.N) (h3 : t.val % 4 = 3) (a : Fin 512) (b : Fin 2048) :
    k0_pay4 (outsAt0 m c t.val t.isLt).2 (ix2 a b) = tn (V m c main_arg0) (V m c main_arg1) a b := by
  refine (acc_at m c a b t.val t.isLt).trans ?_
  rw [h3]
  rfl

/-- The gradient's array after the run. -/
theorem final : (dats m 0 c).arrAt 2 cfg0.N = mat (tn (V m c main_arg0) (V m c main_arg1)) := by
  refine (dats m 0 c).arrAt_eq_of_covers 2 (mat (tn (V m c main_arg0) (V m c main_arg1))) (by decide +kernel) fun t hf y => ?_
  have ht := pt_lt t
  have h3 : t.val % 4 = 3 := (flush0_2 t).mp hf
  have P := point m c t h3
  revert P
  generalize V m c = W
  intro P
  blk_simp
  rw [after0_2, out_last m c t h3]
  obtain ⟨a, b, rfl⟩ : ∃ (a : Fin 512) (b : Fin 2048), y = ix2 a b := ⟨y 0, y 1, Cert.Ffn.eq_ix2 y⟩
  refine (P a b).trans ?_
  have e0 : ((((win0_2.blk t).view.emb (ix2 a b)) 0 : Fin _) : ℕ) = a := by blk_simp [idx2]; rfl
  have e1 : ((((win0_2.blk t).view.emb (ix2 a b)) 1 : Fin _) : ℕ) = b := by blk_simp [idx2]; rfl
  rw [mat, e0, e1]

end Kernel

section Reference
open Cert.Reference28Ideal Cert.Reference28Ideal.Read

/-- The reference's gradient is the same array. -/
theorem ref_eq (X : (⟨S8192x512, .bf16⟩ : BufTy).Contents (Elt Ideal)) (Y : (⟨S8192x2048, .bf16⟩ : BufTy).Contents (Elt Ideal)) :
    val_main_v6 (F := Ideal) X Y = mat (tn X Y) := by
  funext i
  unfold mat tn
  rw [val_main_v6_apply, val_main_v5_apply]
  refine (val_main_v4_apply X Y _).trans (sum_fin _ _ _ fun k => ?_)
  rw [val_main_v3_apply, val_main_v0_apply]
  exact (mul_comm _ _).trans (congrArg₂ (· * ·) (rd2_of X _ rfl rfl) (rd2_of Y _ rfl rfl))

end Reference

end Cert.Plain.Dup.Q

namespace Cert.Plain.Dup.Kv

section Kernel
open Cert.Kernel29Ideal Cert.Kernel29Ideal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem pt_lt (t : Fin cfg0.N) : t.val < 4 := lt_of_lt_of_eq t.isLt (show cfg0.N = 4 from N_0)

/-- One point's product: over the block's rows, left times right. -/
theorem pay1_apply (x0 : Vec Ideal S2048x256 .bf16) (x1 : Vec Ideal S2048x2048 .bf16) (d : Fin 256) (f : Fin 2048) :
    k0_pay1 x0 x1 (ix2 d f) = ∑ k : Fin 2048, x0 (ix2 k d) * x1 (ix2 k f) := by
  unfold k0_pay1
  refine (Ideal.matmul_apply₁_of dot_S2048x256_S2048x2048_S256x2048_0_0_1_1_n_n rfl (K := 2048) rfl _ _ _ _
    (fun k => ix2 k d) (fun k => ix2 k f) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]

theorem pay2_apply (x0 : Vec Ideal S2048x256 .bf16) (x1 : Vec Ideal S2048x2048 .bf16) (i : S256x2048.Idx) :
    k0_pay2 x0 x1 i = k0_pay1 x0 x1 i := by
  unfold k0_pay2
  exact shapeCast_apply _ _ i i rfl

theorem pay3_apply (x0 : Vec Ideal S2048x256 .bf16) (x1 : Vec Ideal S2048x2048 .bf16) (a : Vec Ideal S256x2048 .f32)
    (i : S256x2048.Idx) : k0_pay3 x0 x1 a i = a i + k0_pay1 x0 x1 i := by
  unfold k0_pay3
  exact shapeCast_apply _ _ i i rfl

variable (m : (ℓ : Loc nD τ sig) → Buf (Elt Ideal) ℓ) (c : Dev nD)

theorem blk0 (t : Fin cfg0.N) (a : Fin 2048) (b : Fin 256) :
    iblk m c 0 t (ix2 a b) = rd2 (V m c main_arg0) (t.val * 2048 + a) b := by
  have ht := pt_lt t
  unfold iblk
  generalize V m c = W
  blk_simp
  exact rd2_of (W main_arg0) _ (by blk_simp [idx0]) (by blk_simp [idx0])

theorem blk1 (t : Fin cfg0.N) (a : Fin 2048) (b : Fin 2048) :
    iblk m c 1 t (ix2 a b) = rd2 (V m c main_arg1) (t.val * 2048 + a) b := by
  have ht := pt_lt t
  unfold iblk
  generalize V m c = W
  blk_simp
  exact rd2_of (W main_arg1) _ (by blk_simp [idx1]) (by blk_simp [idx1])

/-- One row's share of an entry that a run of four points gathers. -/
def term (X : S8192x256.Idx → EReal) (Y : S8192x2048.Idx → EReal) (d f : ℕ) (q r : ℕ) : EReal :=
  rd2 X r d * rd2 Y r f

/-- The block's product, by the rows' numbers. -/
theorem pay1_blk (t : Fin cfg0.N) (d : Fin 256) (f : Fin 2048) : k0_pay1 (iblk m c 0 t) (iblk m c 1 t) (ix2 d f)
    = ∑ r ∈ range 2048, term (V m c main_arg0) (V m c main_arg1) d f (t.val / 4) (t.val % 4 * 2048 + r) := by
  rw [pay1_apply]
  exact sum_fin _ _ _ fun k => by rw [blk0, blk1, term, Nat.mod_eq_of_lt (pt_lt t)]

/-- A run's first point leaves its own product in the accumulator. -/
theorem acc_first (t : Fin cfg0.N) (h0 : t.val % 4 = 0) :
    (outsAt0 m c t.val t.isLt).2 = k0_pay2 (iblk m c 0 t) (iblk m c 1 t) := by
  rw [outsAt0_A m c t h0 (by have := pt_lt t; omega) (by omega)]
  frame_out

/-- Every other point adds its product to what the point before left. -/
theorem acc_next (t : Fin cfg0.N) (h0 : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg (k0_pay3 _ _) (Memref.IsWhole.read_unread (Memref.isWhole_whole _) _)
  · rw [outsAt0_B m c t h0 (by omega) h2]
    frame_out
    exact congrArg (k0_pay3 _ _) (Memref.IsWhole.read_unread (Memref.isWhole_whole _) _)

/-- The last point writes out what it leaves in the accumulator. -/
theorem out_last (t : Fin cfg0.N) (h2 : t.val % 4 = 3) :
    (outsAt0 m c t.val t.isLt).1 = k0_pay4 (outsAt0 m c t.val t.isLt).2 := by
  rw [acc_next m c t (by omega), outsAt0_C m c t (by omega) (by omega) h2]
  frame_out
  exact congrArg (fun a => k0_pay4 (k0_pay3 _ _ a)) (Memref.IsWhole.read_unread (Memref.isWhole_whole _) _)

/-- After any point the accumulator holds the sum over the rows met so far. -/
theorem acc_at (d : Fin 256) (f : Fin 2048) : ∀ (k : ℕ) (h : k < cfg0.N), (outsAt0 m c k h).2 (ix2 d f)
    = ∑ r ∈ range (k % 4 * 2048 + 2048), term (V m c main_arg0) (V m c main_arg1) d f (k / 4) r :=
  gather cfg0.N 2048 (fun k h => (outsAt0 m c k h).2 (ix2 d f)) _
    (fun k h h0 => (congrFun (acc_first m c ⟨k, h⟩ h0) (ix2 d f)).trans ((pay2_apply _ _ _).trans (pay1_blk m c ⟨k, h⟩ d f)))
    (fun k h h0 => (congrFun (acc_next m c ⟨k, h⟩ h0) (ix2 d f)).trans ((pay3_apply _ _ _ _).trans
      (congrArg (_ + ·) (pay1_blk m c ⟨k, h⟩ d f))))

/-- The last point's block, entry by entry: every row summed. -/
theorem point (t : Fin cfg0.N) (h3 : t.val % 4 = 3) (a : Fin 256) (b : Fin 2048) :
    k0_pay4 (outsAt0 m c t.val t.isLt).2 (ix2 a b) = tn (V m c main_arg0) (V m c main_arg1) a b := by
  refine (acc_at m c a b t.val t.isLt).trans ?_
  rw [h3]
  rfl

/-- The gradient's array after the run. -/
theorem final : (dats m 0 c).arrAt 2 cfg0.N = mat (tn (V m c main_arg0) (V m c main_arg1)) := by
  refine (dats m 0 c).arrAt_eq_of_covers 2 (mat (tn (V m c main_arg0) (V m c main_arg1))) (by decide +kernel) fun t hf y => ?_
  have ht := pt_lt t
  have h3 : t.val % 4 = 3 := (flush0_2 t).mp hf
  have P := point m c t h3
  revert P
  generalize V m c = W
  intro P
  blk_simp
  rw [after0_2, out_last m c t h3]
  obtain ⟨a, b, rfl⟩ : ∃ (a : Fin 256) (b : Fin 2048), y = ix2 a b := ⟨y 0, y 1, Cert.Ffn.eq_ix2 y⟩
  refine (P a b).trans ?_
  have e0 : ((((win0_2.blk t).view.emb (ix2 a b)) 0 : Fin _) : ℕ) = a := by blk_simp [idx2]; rfl
  have e1 : ((((win0_2.blk t).view.emb (ix2 a b)) 1 : Fin _) : ℕ) = b := by blk_simp [idx2]; rfl
  rw [mat, e0, e1]

end Kernel

section Reference
open Cert.Reference29Ideal Cert.Reference29Ideal.Read

/-- The reference's gradient is the same array. -/
theorem ref_eq (X : (⟨S8192x256, .bf16⟩ : BufTy).Contents (Elt Ideal)) (Y : (⟨S8192x2048, .bf16⟩ : BufTy).Contents (Elt Ideal)) :
    val_main_v6 (F := Ideal) X Y = mat (tn X Y) := by
  funext i
  unfold mat tn
  rw [val_main_v6_apply, val_main_v5_apply]
  refine (val_main_v4_apply X Y _).trans (sum_fin _ _ _ fun k => ?_)
  rw [val_main_v3_apply, val_main_v0_apply]
  exact (mul_comm _ _).trans (congrArg₂ (· * ·) (rd2_of X _ rfl rfl) (rd2_of Y _ rfl rfl))

end Reference

end Cert.Plain.Dup.Kv

namespace Cert.Plain.Dup.Pp

section Kernel
open Cert.Kernel32Ideal Cert.Kernel32Ideal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem pt_lt (t : Fin cfg0.N) : t.val < 4 := lt_of_lt_of_eq t.isLt (show cfg0.N = 4 from N_0)

/-- One point's product is the one before's: a block rounded is the block. -/
theorem pay1_apply (x0 : Vec Ideal S2048x256 .f32) (x1 : Vec Ideal S2048x2048 .bf16) (d : Fin 256) (f : Fin 2048) :
    k0_pay1 x0 x1 (ix2 d f) = ∑ k : Fin 2048, x0 (ix2 k d) * x1 (ix2 k f) :=
  Kv.pay1_apply x0 x1 d f

theorem pay2_apply (x0 : Vec Ideal S2048x256 .f32) (x1 : Vec Ideal S2048x2048 .bf16) (i : S256x2048.Idx) :
    k0_pay2 x0 x1 i = k0_pay1 x0 x1 i := by
  unfold k0_pay2
  exact shapeCast_apply _ _ i i rfl

theorem pay3_apply (x0 : Vec Ideal S2048x256 .f32) (x1 : Vec Ideal S2048x2048 .bf16) (a : Vec Ideal S256x2048 .f32)
    (i : S256x2048.Idx) : k0_pay3 x0 x1 a i = a i + k0_pay1 x0 x1 i := by
  unfold k0_pay3
  exact shapeCast_apply _ _ i i rfl

variable (m : (ℓ : Loc nD τ sig) → Buf (Elt Ideal) ℓ) (c : Dev nD)

theorem blk0 (t : Fin cfg0.N) (a : Fin 2048) (b : Fin 256) :
    iblk m c 0 t (ix2 a b) = rd2 (V m c main_arg0) (t.val * 2048 + a) b := by
  have ht := pt_lt t
  unfold iblk
  generalize V m c = W
  blk_simp
  exact rd2_of (W main_arg0) _ (by blk_simp [idx0]) (by blk_simp [idx0])

theorem blk1 (t : Fin cfg0.N) (a : Fin 2048) (b : Fin 2048) :
    iblk m c 1 t (ix2 a b) = rd2 (V m c main_arg1) (t.val * 2048 + a) b := by
  have ht := pt_lt t
  unfold iblk
  generalize V m c = W
  blk_simp
  exact rd2_of (W main_arg1) _ (by blk_simp [idx1]) (by blk_simp [idx1])

/-- One row's share of an entry that a run of four points gathers. -/
def term (X : S8192x256.Idx → EReal) (Y : S8192x2048.Idx → EReal) (d f : ℕ) (q r : ℕ) : EReal :=
  rd2 X r d * rd2 Y r f

/-- The block's product, by the rows' numbers. -/
theorem pay1_blk (t : Fin cfg0.N) (d : Fin 256) (f : Fin 2048) : k0_pay1 (iblk m c 0 t) (iblk m c 1 t) (ix2 d f)
    = ∑ r ∈ range 2048, term (V m c main_arg0) (V m c main_arg1) d f (t.val / 4) (t.val % 4 * 2048 + r) := by
  rw [pay1_apply]
  exact sum_fin _ _ _ fun k => by rw [blk0, blk1, term, Nat.mod_eq_of_lt (pt_lt t)]

/-- A run's first point leaves its own product in the accumulator. -/
theorem acc_first (t : Fin cfg0.N) (h0 : t.val % 4 = 0) :
    (outsAt0 m c t.val t.isLt).2 = k0_pay2 (iblk m c 0 t) (iblk m c 1 t) := by
  rw [outsAt0_A m c t h0 (by have := pt_lt t; omega) (by omega)]
  frame_out

/-- Every other point adds its product to what the point before left. -/
theorem acc_next (t : Fin cfg0.N) (h0 : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg (k0_pay3 _ _) (Memref.IsWhole.read_unread (Memref.isWhole_whole _) _)
  · rw [outsAt0_B m c t h0 (by omega) h2]
    frame_out
    exact congrArg (k0_pay3 _ _) (Memref.IsWhole.read_unread (Memref.isWhole_whole _) _)

/-- The last point writes out what it leaves in the accumulator. -/
theorem out_last (t : Fin cfg0.N) (h2 : t.val % 4 = 3) :
    (outsAt0 m c t.val t.isLt).1 = k0_pay4 (outsAt0 m c t.val t.isLt).2 := by
  rw [acc_next m c t (by omega), outsAt0_C m c t (by omega) (by omega) h2]
  frame_out
  exact congrArg (fun a => k0_pay4 (k0_pay3 _ _ a)) (Memref.IsWhole.read_unread (Memref.isWhole_whole _) _)

/-- After any point the accumulator holds the sum over the rows met so far. -/
theorem acc_at (d : Fin 256) (f : Fin 2048) : ∀ (k : ℕ) (h : k < cfg0.N), (outsAt0 m c k h).2 (ix2 d f)
    = ∑ r ∈ range (k % 4 * 2048 + 2048), term (V m c main_arg0) (V m c main_arg1) d f (k / 4) r :=
  gather cfg0.N 2048 (fun k h => (outsAt0 m c k h).2 (ix2 d f)) _
    (fun k h h0 => (congrFun (acc_first m c ⟨k, h⟩ h0) (ix2 d f)).trans ((pay2_apply _ _ _).trans (pay1_blk m c ⟨k, h⟩ d f)))
    (fun k h h0 => (congrFun (acc_next m c ⟨k, h⟩ h0) (ix2 d f)).trans ((pay3_apply _ _ _ _).trans
      (congrArg (_ + ·) (pay1_blk m c ⟨k, h⟩ d f))))

/-- The last point's block, entry by entry: every row summed. -/
theorem point (t : Fin cfg0.N) (h3 : t.val % 4 = 3) (a : Fin 256) (b : Fin 2048) :
    k0_pay4 (outsAt0 m c t.val t.isLt).2 (ix2 a b) = tn (V m c main_arg0) (V m c main_arg1) a b := by
  refine (acc_at m c a b t.val t.isLt).trans ?_
  rw [h3]
  rfl

/-- The gradient's array after the run. -/
theorem final : (dats m 0 c).arrAt 2 cfg0.N = mat (tn (V m c main_arg0) (V m c main_arg1)) := by
  refine (dats m 0 c).arrAt_eq_of_covers 2 (mat (tn (V m c main_arg0) (V m c main_arg1))) (by decide +kernel) fun t hf y => ?_
  have ht := pt_lt t
  have h3 : t.val % 4 = 3 := (flush0_2 t).mp hf
  have P := point m c t h3
  revert P
  generalize V m c = W
  intro P
  blk_simp
  rw [after0_2, out_last m c t h3]
  obtain ⟨a, b, rfl⟩ : ∃ (a : Fin 256) (b : Fin 2048), y = ix2 a b := ⟨y 0, y 1, Cert.Ffn.eq_ix2 y⟩
  refine (P a b).trans ?_
  have e0 : ((((win0_2.blk t).view.emb (ix2 a b)) 0 : Fin _) : ℕ) = a := by blk_simp [idx2]; rfl
  have e1 : ((((win0_2.blk t).view.emb (ix2 a b)) 1 : Fin _) : ℕ) = b := by blk_simp [idx2]; rfl
  rw [mat, e0, e1]

end Kernel

section Reference
open Cert.Reference32Ideal Cert.Reference32Ideal.Read

/-- The reference's gradient is the same array. -/
theorem ref_eq (X : (⟨S8192x256, .f32⟩ : BufTy).Contents (Elt Ideal)) (Y : (⟨S8192x2048, .bf16⟩ : BufTy).Contents (Elt Ideal)) :
    val_main_v5 (F := Ideal) X Y = mat (tn X Y) := by
  funext i
  unfold mat tn
  rw [val_main_v5_apply, val_main_v4_apply]
  refine (val_main_v3_apply X Y _).trans (sum_fin _ _ _ fun k => ?_)
  rw [val_main_v2_apply]
  exact (mul_comm _ _).trans (congrArg₂ (· * ·) (rd2_of X _ rfl rfl) (rd2_of Y _ rfl rfl))

end Reference

end Cert.Plain.Dup.Pp

end
-- ==== Proof.Dwa.lean ====
/-
The gradient of the latents' columns of the input projection's weight: every row's input times gradient, accumulated
over four blocks of rows.
-/
module

public import proofs.«01_k».proof.Proof.Plain
public import proofs.«01_k».proof.Proof.Gen.Kernel23Ideal.Value
public import Idealize.ShloMosaic.Lib.Pipeline.ValueKit
public import proofs.«01_k».proof.Proof.Gen.Reference23Ideal.Read

@[expose] public section

set_option maxRecDepth 16384

noncomputable section

namespace Cert.Plain.Dwa

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel23Ideal Cert.Kernel23Ideal.Gen

theorem idx0 : ∀ t : Fin cfg0.N, win0_0.index t = ![t.val % 4, t.val / 4] :=
  (by decide +kernel : ∀ t : Fin grid0.N, win0_0.index t = ![t.val % 4, t.val / 4])
theorem idx1 : ∀ t : Fin cfg0.N, win0_1.index t = ![t.val % 4, 0] :=
  (by decide +kernel : ∀ t : Fin grid0.N, win0_1.index t = ![t.val % 4, 0])
theorem idx2 : ∀ t : Fin cfg0.N, win0_2.index t = ![t.val / 4, 0] :=
  (by decide +kernel : ∀ t : Fin grid0.N, win0_2.index t = ![t.val / 4, 0])
theorem pt_lt (t : Fin cfg0.N) : t.val < 8 := lt_of_lt_of_eq t.isLt (show cfg0.N = 8 from N_0)

/-- One point's product: over the block's rows, left times right. -/
theorem pay1_apply (x0 : Vec Ideal S2048x1024 .bf16) (x1 : Vec Ideal S2048x896 .bf16) (d : Fin 1024) (f : Fin 896) :
    k0_pay1 x0 x1 (ix2 d f) = ∑ k : Fin 2048, x0 (ix2 k d) * x1 (ix2 k f) := by
  unfold k0_pay1
  refine (Ideal.matmul_apply₁_of dot_S2048x1024_S2048x896_S1024x896_0_0_1_1_n_n rfl (K := 2048) rfl _ _ _ _
    (fun k => ix2 k d) (fun k => ix2 k f) ?_ ?_).trans ?_
  · intro k; funext a
    match a with
    | ⟨0, _⟩ => rfl
    | ⟨1, _⟩ => rfl
  · intro k; funext a
    match a with
    | ⟨0, _⟩ => rfl
    | ⟨1, _⟩ => rfl
  · rw [constant_apply, Ideal.ofBits_zero_f32, zero_add]

theorem pay2_apply (x0 : Vec Ideal S2048x1024 .bf16) (x1 : Vec Ideal S2048x896 .bf16) (i : S1024x896.Idx) :
    k0_pay2 x0 x1 i = k0_pay1 x0 x1 i := by
  unfold k0_pay2
  exact shapeCast_apply _ _ i i rfl

theorem pay3_apply (x0 : Vec Ideal S2048x1024 .bf16) (x1 : Vec Ideal S2048x896 .bf16) (a : Vec Ideal S1024x896 .f32)
    (i : S1024x896.Idx) : k0_pay3 x0 x1 a i = a i + k0_pay1 x0 x1 i := by
  unfold k0_pay3
  exact shapeCast_apply _ _ i i rfl

variable (m : (ℓ : Loc nD τ sig) → Buf (Elt Ideal) ℓ) (c : Dev nD)

theorem blk0 (t : Fin cfg0.N) (a : Fin 2048) (b : Fin 1024) :
    iblk m c 0 t (ix2 a b) = rd2 (V m c main_arg0) (t.val % 4 * 2048 + a) (t.val / 4 * 1024 + b) := by
  have ht := pt_lt t
  unfold iblk
  generalize V m c = W
  blk_simp
  exact rd2_of (W main_arg0) _ (by blk_simp [idx0]) (by blk_simp [idx0])

theorem blk1 (t : Fin cfg0.N) (a : Fin 2048) (b : Fin 896) :
    iblk m c 1 t (ix2 a b) = rd2 (V m c main_arg1) (t.val % 4 * 2048 + a) b := by
  have ht := pt_lt t
  unfold iblk
  generalize V m c = W
  blk_simp
  exact rd2_of (W main_arg1) _ (by blk_simp [idx1]) (by blk_simp [idx1])

/-- One row's share of an entry that a run of four points gathers. -/
def term (X : S8192x2048.Idx → EReal) (Y : S8192x896.Idx → EReal) (d f : ℕ) (q r : ℕ) : EReal :=
  rd2 X r (q * 1024 + d) * rd2 Y r f

/-- The block's product, by the rows' numbers. -/
theorem pay1_blk (t : Fin cfg0.N) (d : Fin 1024) (f : Fin 896) : k0_pay1 (iblk m c 0 t) (iblk m c 1 t) (ix2 d f)
    = ∑ r ∈ range 2048, term (V m c main_arg0) (V m c main_arg1) d f (t.val / 4) (t.val % 4 * 2048 + r) := by
  rw [pay1_apply]
  exact sum_fin _ _ _ fun k => by rw [blk0, blk1, term]

/-- A run's first point leaves its own product in the accumulator. -/
theorem acc_first (t : Fin cfg0.N) (h0 : t.val % 4 = 0) :
    (outsAt0 m c t.val t.isLt).2 = k0_pay2 (iblk m c 0 t) (iblk m c 1 t) := by
  rw [outsAt0_A m c t h0 (by omega) (by omega)]
  frame_out

/-- Every other point adds its product to what the point before left. -/
theorem acc_next (t : Fin cfg0.N) (h0 : ¬t.val % 4 = 0) :
    (outsAt0 m c t.val t.isLt).2 = k0_pay3 (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg (k0_pay3 _ _) (Memref.IsWhole.read_unread (Memref.isWhole_whole _) _)
  · rw [outsAt0_B m c t h0 (by omega) h2]
    frame_out
    exact congrArg (k0_pay3 _ _) (Memref.IsWhole.read_unread (Memref.isWhole_whole _) _)

/-- The last point writes out what it leaves in the accumulator. -/
theorem out_last (t : Fin cfg0.N) (h2 : t.val % 4 = 3) :
    (outsAt0 m c t.val t.isLt).1 = k0_pay4 (outsAt0 m c t.val t.isLt).2 := by
  rw [acc_next m c t (by omega), outsAt0_C m c t (by omega) (by omega) h2]
  frame_out
  exact congrArg (fun a => k0_pay4 (k0_pay3 _ _ a)) (Memref.IsWhole.read_unread (Memref.isWhole_whole _) _)

/-- After any point the accumulator holds the sum over the rows met so far. -/
theorem acc_at (d : Fin 1024) (f : Fin 896) : ∀ (k : ℕ) (h : k < cfg0.N), (outsAt0 m c k h).2 (ix2 d f)
    = ∑ r ∈ range (k % 4 * 2048 + 2048), term (V m c main_arg0) (V m c main_arg1) d f (k / 4) r :=
  gather cfg0.N 2048 (fun k h => (outsAt0 m c k h).2 (ix2 d f)) _
    (fun k h h0 => (congrFun (acc_first m c ⟨k, h⟩ h0) (ix2 d f)).trans ((pay2_apply _ _ _).trans (pay1_blk m c ⟨k, h⟩ d f)))
    (fun k h h0 => (congrFun (acc_next m c ⟨k, h⟩ h0) (ix2 d f)).trans ((pay3_apply _ _ _ _).trans
      (congrArg (_ + ·) (pay1_blk m c ⟨k, h⟩ d f))))

/-- The last point's block, entry by entry: every row summed. -/
theorem point (t : Fin cfg0.N) (h3 : t.val % 4 = 3) (a : Fin 1024) (b : Fin 896) :
    k0_pay4 (outsAt0 m c t.val t.isLt).2 (ix2 a b) = tn (V m c main_arg0) (V m c main_arg1) (t.val / 4 * 1024 + a) b := by
  refine (acc_at m c a b t.val t.isLt).trans ?_
  rw [h3]
  rfl

/-- The gradient's array after the run. -/
theorem final : (dats m 0 c).arrAt 2 cfg0.N = mat (tn (V m c main_arg0) (V m c main_arg1)) := by
  refine (dats m 0 c).arrAt_eq_of_covers 2 (mat (tn (V m c main_arg0) (V m c main_arg1))) (by decide +kernel) fun t hf y => ?_
  have ht := pt_lt t
  have h3 : t.val % 4 = 3 := (flush0_2 t).mp hf
  have P := point m c t h3
  revert P
  generalize V m c = W
  intro P
  blk_simp
  rw [after0_2, out_last m c t h3]
  obtain ⟨a, b, rfl⟩ : ∃ (a : Fin 1024) (b : Fin 896), y = ix2 a b := ⟨y 0, y 1, Cert.Ffn.eq_ix2 y⟩
  refine (P a b).trans ?_
  have e0 : ((((win0_2.blk t).view.emb (ix2 a b)) 0 : Fin _) : ℕ) = t.val / 4 * 1024 + a := by blk_simp [idx2]; rfl
  have e1 : ((((win0_2.blk t).view.emb (ix2 a b)) 1 : Fin _) : ℕ) = b := by blk_simp [idx2]; rfl
  rw [mat, e0, e1]

end Kernel

section Reference
open Cert.Reference23Ideal Cert.Reference23Ideal.Read

/-- The reference's gradient is the same array. -/
theorem ref_eq (X : (⟨S8192x2048, .bf16⟩ : BufTy).Contents (Elt Ideal)) (Y : (⟨S8192x896, .bf16⟩ : BufTy).Contents (Elt Ideal)) :
    val_main_v6 (F := Ideal) X Y = mat (tn X Y) := by
  funext i
  unfold mat tn
  rw [val_main_v6_apply, val_main_v5_apply]
  refine (val_main_v4_apply X Y _).trans (sum_fin _ _ _ fun k => ?_)
  rw [val_main_v3_apply, val_main_v0_apply]
  exact (mul_comm _ _).trans (congrArg₂ (· * ·) (rd2_of X _ rfl rfl) (rd2_of Y _ rfl rfl))

end Reference

end Cert.Plain.Dwa

end
-- ==== Proof.DhDil.lean ====
/-
The gradient of the dilated branch's input: three products with transposed weights, added to what the other branches gave.
-/
module

public import proofs.«01_k».proof.Proof.Plain
public import proofs.«01_k».proof.Proof.Gen.Kernel10Ideal.Value
public import Idealize.ShloMosaic.Lib.Pipeline.ValueKit
public import proofs.«01_k».proof.Proof.Gen.Reference10Ideal.Read

@[expose] public section

set_option maxRecDepth 16384

noncomputable section

namespace Cert.Plain.DhDil

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel10Ideal Cert.Kernel10Ideal.Gen

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![t.val % 4, 0] :=
  (by decide +kernel : ∀ t : Fin grid0.N, win0_1.index t = ![t.val % 4, 0])
theorem idx2 : ∀ t : Fin cfg0.N, win0_2.index t = ![t.val / 4, 0] :=
  (by decide +kernel : ∀ t : Fin grid0.N, win0_2.index t = ![t.val / 4, 0])
theorem idx3 : ∀ t : Fin cfg0.N, win0_3.index t = ![t.val % 4, 0] :=
  (by decide +kernel : ∀ t : Fin grid0.N, win0_3.index t = ![t.val % 4, 0])
theorem idx4 : ∀ t : Fin cfg0.N, win0_4.index t = ![t.val / 4, 0] :=
  (by decide +kernel : ∀ t : Fin grid0.N, win0_4.index t = ![t.val / 4, 0])
theorem idx5 : ∀ t : Fin cfg0.N, win0_5.index t = ![t.val % 4, 0] :=
  (by decide +kernel : ∀ t : Fin grid0.N, win0_5.index t = ![t.val % 4, 0])
theorem idx6 : ∀ t : Fin cfg0.N, win0_6.index t = ![t.val / 4, t.val % 4] :=
  (by decide +kernel : ∀ t : Fin grid0.N, win0_6.index t = ![t.val / 4, t.val % 4])
theorem idx7 : ∀ t : Fin cfg0.N, win0_7.index t = ![t.val / 4, t.val % 4] :=
  (by decide +kernel : ∀ t : Fin grid0.N, win0_7.index t = ![t.val / 4, t.val % 4])
theorem pt_lt (t : Fin cfg0.N) : t.val < 64 := lt_of_lt_of_eq t.isLt (show cfg0.N = 64 from N_0)

theorem out7 (x0 : Vec Ideal S512x3072 .bf16) (x1 : Vec Ideal S512x3072 .bf16) (x2 : Vec Ideal S512x3072 .bf16) (x3 : Vec Ideal S512x3072 .bf16) (x4 : Vec Ideal S512x3072 .bf16) (x5 : Vec Ideal S512x3072 .bf16) (x6 : Vec Ideal S512x512 .f32) : out0_7 x0 x1 x2 x3 x4 x5 x6 = k0_pay1 x0 x1 x2 x3 x4 x5 x6 := by
  unfold out0_7
  rw [View.canon_cons_unit_lit (S := S512x512) inb_S512x512_S512x512_0_0 _ _ (by decide),
    View.ld_unit_lit (S := S512x3072) inb_S512x3072_S512x3072_0_0 x0 (by decide),
    View.ld_unit_lit (S := S512x3072) inb_S512x3072_S512x3072_0_0 x1 (by decide),
    View.ld_unit_lit (S := S512x3072) inb_S512x3072_S512x3072_0_0 x2 (by decide),
    View.ld_unit_lit (S := S512x3072) inb_S512x3072_S512x3072_0_0 x3 (by decide),
    View.ld_unit_lit (S := S512x3072) inb_S512x3072_S512x3072_0_0 x4 (by decide),
    View.ld_unit_lit (S := S512x3072) inb_S512x3072_S512x3072_0_0 x5 (by decide),
    View.ld_unit_lit (S := S512x512) inb_S512x512_S512x512_0_0 x6 (by decide)]

variable (m : (ℓ : Loc nD τ sig) → Buf (Elt Ideal) ℓ) (c : Dev nD)

theorem blk0 (t : Fin cfg0.N) (a : Fin 512) (b : Fin 3072) :
    iblk m c 0 t (ix2 a b) = rd2 (V m c main_arg0) (t.val / 4 * 512 + a) (b) := by
  have ht := pt_lt t
  unfold iblk
  generalize V m c = W
  blk_simp
  exact rd2_of (W main_arg0) _ (by blk_simp [idx0]) (by blk_simp [idx0])

theorem blk1 (t : Fin cfg0.N) (a : Fin 512) (b : Fin 3072) :
    iblk m c 1 t (ix2 a b) = rd2 (V m c main_arg3) (t.val % 4 * 512 + a) (b) := by
  have ht := pt_lt t
  unfold iblk
  generalize V m c = W
  blk_simp
  exact rd2_of (W main_arg3) _ (by blk_simp [idx1]) (by blk_simp [idx1])

theorem blk2 (t : Fin cfg0.N) (a : Fin 512) (b : Fin 3072) :
    iblk m c 2 t (ix2 a b) = rd2 (V m c main_arg1) (t.val / 4 * 512 + a) (b) := by
  have ht := pt_lt t
  unfold iblk
  generalize V m c = W
  blk_simp
  exact rd2_of (W main_arg1) _ (by blk_simp [idx2]) (by blk_simp [idx2])

theorem blk3 (t : Fin cfg0.N) (a : Fin 512) (b : Fin 3072) :
    iblk m c 3 t (ix2 a b) = rd2 (V m c main_arg4) (t.val % 4 * 512 + a) (b) := by
  have ht := pt_lt t
  unfold iblk
  generalize V m c = W
  blk_simp
  exact rd2_of (W main_arg4) _ (by blk_simp [idx3]) (by blk_simp [idx3])

theorem blk4 (t : Fin cfg0.N) (a : Fin 512) (b : Fin 3072) :
    iblk m c 4 t (ix2 a b) = rd2 (V m c main_arg2) (t.val / 4 * 512 + a) (b) := by
  have ht := pt_lt t
  unfold iblk
  generalize V m c = W
  blk_simp
  exact rd2_of (W main_arg2) _ (by blk_simp [idx4]) (by blk_simp [idx4])

theorem blk5 (t : Fin cfg0.N) (a : Fin 512) (b : Fin 3072) :
    iblk m c 5 t (ix2 a b) = rd2 (V m c main_arg5) (t.val % 4 * 512 + a) (b) := by
  have ht := pt_lt t
  unfold iblk
  generalize V m c = W
  blk_simp
  exact rd2_of (W main_arg5) _ (by blk_simp [idx5]) (by blk_simp [idx5])

theorem blk6 (t : Fin cfg0.N) (a : Fin 512) (b : Fin 512) :
    iblk m c 6 t (ix2 a b) = rd2 (V m c main_arg6) (t.val / 4 * 512 + a) (t.val % 4 * 512 + b) := by
  have ht := pt_lt t
  unfold iblk
  generalize V m c = W
  blk_simp
  exact rd2_of (W main_arg6) _ (by blk_simp [idx6]) (by blk_simp [idx6])

/-- An entry of the gradient: the branches' products, then what was there. -/
def tot (X0 X1 X2 : S8192x3072.Idx → EReal) (W0 W1 W2 : S2048x3072.Idx → EReal) (Z : S8192x2048.Idx → EReal) (r c : ℕ) : EReal :=
  nt X0 W0 r c + nt X1 W1 r c + nt X2 W2 r c + rd2 Z r c

theorem point (t : Fin cfg0.N) (a : Fin 512) (b : Fin 512) :
    k0_pay1 (iblk m c 0 t) (iblk m c 1 t) (iblk m c 2 t) (iblk m c 3 t) (iblk m c 4 t) (iblk m c 5 t) (iblk m c 6 t) (ix2 a b)
      = tot (V m c main_arg0) (V m c main_arg1) (V m c main_arg2) (V m c main_arg3) (V m c main_arg4) (V m c main_arg5) (V m c main_arg6)
          (t.val / 4 * 512 + a) (t.val % 4 * 512 + b) := by
  unfold k0_pay1
  exact congrArg₂ (· + ·) (congrArg₂ (· + ·) (congrArg₂ (· + ·) (blk_nt _ rfl _ _ a b _ _ _ _ (blk0 m c t a) (blk1 m c t b))
    (blk_nt _ rfl _ _ a b _ _ _ _ (blk2 m c t a) (blk3 m c t b)))
    (blk_nt _ rfl _ _ a b _ _ _ _ (blk4 m c t a) (blk5 m c t b)))
    (blk6 m c t a b)

/-- The gradient's array after the run. -/
theorem final : (dats m 0 c).arrAt 7 cfg0.N = mat (tot (V m c main_arg0) (V m c main_arg1) (V m c main_arg2) (V m c main_arg3) (V m c main_arg4) (V m c main_arg5) (V m c main_arg6)) := by
  refine (dats m 0 c).arrAt_eq_of_covers 7 (mat (tot (V m c main_arg0) (V m c main_arg1) (V m c main_arg2) (V m c main_arg3) (V m c main_arg4) (V m c main_arg5) (V m c main_arg6))) (by decide +kernel) fun t hf y => ?_
  have ht := pt_lt t
  have P := point m c t
  revert P
  generalize V m c = W
  intro P
  blk_simp
  rw [after0_7, out7]
  obtain ⟨a, b, rfl⟩ : ∃ (a : Fin 512) (b : Fin 512), y = ix2 a b := ⟨y 0, y 1, Cert.Ffn.eq_ix2 y⟩
  refine (P a b).trans ?_
  have e0 : ((((win0_7.blk t).view.emb (ix2 a b)) 0 : Fin _) : ℕ) = t.val / 4 * 512 + a := by blk_simp [idx7]; rfl
  have e1 : ((((win0_7.blk t).view.emb (ix2 a b)) 1 : Fin _) : ℕ) = t.val % 4 * 512 + b := by blk_simp [idx7]; rfl
  rw [mat, e0, e1]

end Kernel

section Reference
open Cert.Reference10Ideal Cert.Reference10Ideal.Read

/-- The weights side by side. -/
theorem cat_w (W0 W1 W2 : (⟨S2048x3072, .bf16⟩ : BufTy).Contents (Elt Ideal)) (y : S2048x9216.Idx) :
    val_main_v0 (F := Ideal) W0 W1 W2 y = if (y 1).val < 3072 + 3072 then if (y 1).val < 3072 then rd2 W0 (y 0).val (y 1).val else rd2 W1 (y 0).val ((y 1).val - 3072)
      else rd2 W2 (y 0).val ((y 1).val - (3072 + 3072)) := by
  have hy : (y 1).val < 9216 := (y 1).isLt
  unfold val_main_v0
  split_ifs with h g
  · exact beside _ _ 0 (by simp) W0 rfl 0 rfl y _ g (Nat.zero_add _)
  · exact beside _ _ 1 (by simp) W1 rfl 3072 rfl y _ (by omega) (by omega)
  · exact beside _ _ 2 (by simp) W2 rfl (3072 + 3072) rfl y _ (by omega) (by omega)

/-- The gradients side by side. -/
theorem cat_x (X0 X1 X2 : (⟨S8192x3072, .bf16⟩ : BufTy).Contents (Elt Ideal)) (y : S8192x9216.Idx) :
    val_main_v2 (F := Ideal) X0 X1 X2 y = if (y 1).val < 3072 + 3072 then if (y 1).val < 3072 then rd2 X0 (y 0).val (y 1).val else rd2 X1 (y 0).val ((y 1).val - 3072)
      else rd2 X2 (y 0).val ((y 1).val - (3072 + 3072)) := by
  have hy : (y 1).val < 9216 := (y 1).isLt
  unfold val_main_v2
  split_ifs with h g
  · exact beside _ _ 0 (by simp) X0 rfl 0 rfl y _ g (Nat.zero_add _)
  · exact beside _ _ 1 (by simp) X1 rfl 3072 rfl y _ (by omega) (by omega)
  · exact beside _ _ 2 (by simp) X2 rfl (3072 + 3072) rfl y _ (by omega) (by omega)

/-- The reference's gradient is the same array. -/
theorem ref_eq (X0 X1 X2 : (⟨S8192x3072, .bf16⟩ : BufTy).Contents (Elt Ideal)) (W0 W1 W2 : (⟨S2048x3072, .bf16⟩ : BufTy).Contents (Elt Ideal))
    (Z : (⟨S8192x2048, .f32⟩ : BufTy).Contents (Elt Ideal)) :
    val_main_v7 (F := Ideal) X0 X1 X2 W0 W1 W2 Z = mat (tot X0 X1 X2 W0 W1 W2 Z) := by
  funext i
  unfold mat tot nt
  rw [val_main_v7_apply]
  refine (add_comm (Z i) (val_main_v6 (F := Ideal) X0 X1 X2 W0 W1 W2 i)).trans (congrArg₂ (· + ·) ?_ (rd2_of Z i rfl rfl))
  refine Eq.trans ?_ (three 3072 (fun k => rd2 X0 (i 0).val k * rd2 W0 (i 1).val k) (fun k => rd2 X1 (i 0).val k * rd2 W1 (i 1).val k) (fun k => rd2 X2 (i 0).val k * rd2 W2 (i 1).val k))
  refine (val_main_v6_apply X0 X1 X2 W0 W1 W2 i).trans (sum_fin _ _ _ fun k => ?_)
  rw [val_main_v3_apply, val_main_v1_apply]
  refine (congrArg₂ (· * ·) (cat_x X0 X1 X2 _) (cat_w W0 W1 W2 _)).trans ?_
  show (if k.val < 3072 + 3072 then if k.val < 3072 then _ else _ else _) * (if k.val < 3072 + 3072 then if k.val < 3072 then _ else _ else _) = _
  split_ifs <;> rfl

end Reference

end Cert.Plain.DhDil

end
-- ==== Proof.DhGates.lean ====
/-
The gradient of the gates' input: two products with transposed weights, added to what the other branches gave.
-/
module

public import proofs.«01_k».proof.Proof.Plain
public import proofs.«01_k».proof.Proof.Gen.Kernel11Ideal.Value
public import Idealize.ShloMosaic.Lib.Pipeline.ValueKit
public import proofs.«01_k».proof.Proof.Gen.Reference11Ideal.Read

@[expose] public section

set_option maxRecDepth 16384

noncomputable section

namespace Cert.Plain.DhGates

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel11Ideal Cert.Kernel11Ideal.Gen

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![t.val % 2, 0] :=
  (by decide +kernel : ∀ t : Fin grid0.N, win0_1.index t = ![t.val % 2, 0])
theorem idx2 : ∀ t : Fin cfg0.N, win0_2.index t = ![t.val / 2, 0] :=
  (by decide +kernel : ∀ t : Fin grid0.N, win0_2.index t = ![t.val / 2, 0])
theorem idx3 : ∀ t : Fin cfg0.N, win0_3.index t = ![t.val % 2, 0] :=
  (by decide +kernel : ∀ t : Fin grid0.N, win0_3.index t = ![t.val % 2, 0])
theorem idx4 : ∀ t : Fin cfg0.N, win0_4.index t = ![t.val / 2, t.val % 2] :=
  (by decide +kernel : ∀ t : Fin grid0.N, win0_4.index t = ![t.val / 2, t.val % 2])
theorem idx5 : ∀ t : Fin cfg0.N, win0_5.index t = ![t.val / 2, t.val % 2] :=
  (by decide +kernel : ∀ t : Fin grid0.N, win0_5.index t = ![t.val / 2, t.val % 2])
theorem pt_lt (t : Fin cfg0.N) : t.val < 32 := lt_of_lt_of_eq t.isLt (show cfg0.N = 32 from N_0)

theorem out5 (x0 : Vec Ideal S512x2048 .bf16) (x1 : Vec Ideal S1024x2048 .bf16) (x2 : Vec Ideal S512x2048 .bf16) (x3 : Vec Ideal S1024x2048 .bf16) (x4 : Vec Ideal S512x1024 .f32) : out0_5 x0 x1 x2 x3 x4 = k0_pay1 x0 x1 x2 x3 x4 := by
  unfold out0_5
  rw [View.canon_cons_unit_lit (S := S512x1024) inb_S512x1024_S512x1024_0_0 _ _ (by decide),
    View.ld_unit_lit (S := S512x2048) inb_S512x2048_S512x2048_0_0 x0 (by decide),
    View.ld_unit_lit (S := S1024x2048) inb_S1024x2048_S1024x2048_0_0 x1 (by decide),
    View.ld_unit_lit (S := S512x2048) inb_S512x2048_S512x2048_0_0 x2 (by decide),
    View.ld_unit_lit (S := S1024x2048) inb_S1024x2048_S1024x2048_0_0 x3 (by decide),
    View.ld_unit_lit (S := S512x1024) inb_S512x1024_S512x1024_0_0 x4 (by decide)]

variable (m : (ℓ : Loc nD τ sig) → Buf (Elt Ideal) ℓ) (c : Dev nD)

theorem blk0 (t : Fin cfg0.N) (a : Fin 512) (b : Fin 2048) :
    iblk m c 0 t (ix2 a b) = rd2 (V m c main_arg0) (t.val / 2 * 512 + a) (b) := by
  have ht := pt_lt t
  unfold iblk
  generalize V m c = W
  blk_simp
  exact rd2_of (W main_arg0) _ (by blk_simp [idx0]) (by blk_simp [idx0])

theorem blk1 (t : Fin cfg0.N) (a : Fin 1024) (b : Fin 2048) :
    iblk m c 1 t (ix2 a b) = rd2 (V m c main_arg2) (t.val % 2 * 1024 + a) (b) := by
  have ht := pt_lt t
  unfold iblk
  generalize V m c = W
  blk_simp
  exact rd2_of (W main_arg2) _ (by blk_simp [idx1]) (by blk_simp [idx1])

theorem blk2 (t : Fin cfg0.N) (a : Fin 512) (b : Fin 2048) :
    iblk m c 2 t (ix2 a b) = rd2 (V m c main_arg1) (t.val / 2 * 512 + a) (b) := by
  have ht := pt_lt t
  unfold iblk
  generalize V m c = W
  blk_simp
  exact rd2_of (W main_arg1) _ (by blk_simp [idx2]) (by blk_simp [idx2])

theorem blk3 (t : Fin cfg0.N) (a : Fin 1024) (b : Fin 2048) :
    iblk m c 3 t (ix2 a b) = rd2 (V m c main_arg3) (t.val % 2 * 1024 + a) (b) := by
  have ht := pt_lt t
  unfold iblk
  generalize V m c = W
  blk_simp
  exact rd2_of (W main_arg3) _ (by blk_simp [idx3]) (by blk_simp [idx3])

theorem blk4 (t : Fin cfg0.N) (a : Fin 512) (b : Fin 1024) :
    iblk m c 4 t (ix2 a b) = rd2 (V m c main_arg4) (t.val / 2 * 512 + a) (t.val % 2 * 1024 + b) := by
  have ht := pt_lt t
  unfold iblk
  generalize V m c = W
  blk_simp
  exact rd2_of (W main_arg4) _ (by blk_simp [idx4]) (by blk_simp [idx4])

/-- An entry of the gradient: the branches' products, then what was there. -/
def tot (X0 X1 : S8192x2048.Idx → EReal) (W0 W1 : S2048x2048.Idx → EReal) (Z : S8192x2048.Idx → EReal) (r c : ℕ) : EReal :=
  nt X0 W0 r c + nt X1 W1 r c + rd2 Z r c

theorem point (t : Fin cfg0.N) (a : Fin 512) (b : Fin 1024) :
    k0_pay1 (iblk m c 0 t) (iblk m c 1 t) (iblk m c 2 t) (iblk m c 3 t) (iblk m c 4 t) (ix2 a b)
      = tot (V m c main_arg0) (V m c main_arg1) (V m c main_arg2) (V m c main_arg3) (V m c main_arg4)
          (t.val / 2 * 512 + a) (t.val % 2 * 1024 + b) := by
  unfold k0_pay1
  exact congrArg₂ (· + ·) (congrArg₂ (· + ·) (blk_nt _ rfl _ _ a b _ _ _ _ (blk0 m c t a) (blk1 m c t b))
    (blk_nt _ rfl _ _ a b _ _ _ _ (blk2 m c t a) (blk3 m c t b)))
    (blk4 m c t a b)

/-- The gradient's array after the run. -/
theorem final : (dats m 0 c).arrAt 5 cfg0.N = mat (tot (V m c main_arg0) (V m c main_arg1) (V m c main_arg2) (V m c main_arg3) (V m c main_arg4)) := by
  refine (dats m 0 c).arrAt_eq_of_covers 5 (mat (tot (V m c main_arg0) (V m c main_arg1) (V m c main_arg2) (V m c main_arg3) (V m c main_arg4))) (by decide +kernel) fun t hf y => ?_
  have ht := pt_lt t
  have P := point m c t
  revert P
  generalize V m c = W
  intro P
  blk_simp
  rw [after0_5, out5]
  obtain ⟨a, b, rfl⟩ : ∃ (a : Fin 512) (b : Fin 1024), y = ix2 a b := ⟨y 0, y 1, Cert.Ffn.eq_ix2 y⟩
  refine (P a b).trans ?_
  have e0 : ((((win0_5.blk t).view.emb (ix2 a b)) 0 : Fin _) : ℕ) = t.val / 2 * 512 + a := by blk_simp [idx5]; rfl
  have e1 : ((((win0_5.blk t).view.emb (ix2 a b)) 1 : Fin _) : ℕ) = t.val % 2 * 1024 + b := by blk_simp [idx5]; rfl
  rw [mat, e0, e1]

end Kernel

section Reference
open Cert.Reference11Ideal Cert.Reference11Ideal.Read

/-- The weights side by side. -/
theorem cat_w (W0 W1 : (⟨S2048x2048, .bf16⟩ : BufTy).Contents (Elt Ideal)) (y : S2048x4096.Idx) :
    val_main_v0 (F := Ideal) W0 W1 y = if (y 1).val < 2048 then rd2 W0 (y 0).val (y 1).val else rd2 W1 (y 0).val ((y 1).val - 2048) := by
  have hy : (y 1).val < 4096 := (y 1).isLt
  unfold val_main_v0
  split_ifs with h
  · exact beside _ _ 0 (by simp) W0 rfl 0 rfl y _ h (Nat.zero_add _)
  · exact beside _ _ 1 (by simp) W1 rfl 2048 rfl y _ (by omega) (by omega)

/-- The gradients side by side. -/
theorem cat_x (X0 X1 : (⟨S8192x2048, .bf16⟩ : BufTy).Contents (Elt Ideal)) (y : S8192x4096.Idx) :
    val_main_v2 (F := Ideal) X0 X1 y = if (y 1).val < 2048 then rd2 X0 (y 0).val (y 1).val else rd2 X1 (y 0).val ((y 1).val - 2048) := by
  have hy : (y 1).val < 4096 := (y 1).isLt
  unfold val_main_v2
  split_ifs with h
  · exact beside _ _ 0 (by simp) X0 rfl 0 rfl y _ h (Nat.zero_add _)
  · exact beside _ _ 1 (by simp) X1 rfl 2048 rfl y _ (by omega) (by omega)

/-- The reference's gradient is the same array. -/
theorem ref_eq (X0 X1 : (⟨S8192x2048, .bf16⟩ : BufTy).Contents (Elt Ideal)) (W0 W1 : (⟨S2048x2048, .bf16⟩ : BufTy).Contents (Elt Ideal))
    (Z : (⟨S8192x2048, .f32⟩ : BufTy).Contents (Elt Ideal)) :
    val_main_v7 (F := Ideal) X0 X1 W0 W1 Z = mat (tot X0 X1 W0 W1 Z) := by
  funext i
  unfold mat tot nt
  rw [val_main_v7_apply]
  refine (add_comm (Z i) (val_main_v6 (F := Ideal) X0 X1 W0 W1 i)).trans (congrArg₂ (· + ·) ?_ (rd2_of Z i rfl rfl))
  refine Eq.trans ?_ (two 2048 (fun k => rd2 X0 (i 0).val k * rd2 W0 (i 1).val k) (fun k => rd2 X1 (i 0).val k * rd2 W1 (i 1).val k))
  refine (val_main_v6_apply X0 X1 W0 W1 i).trans (sum_fin _ _ _ fun k => ?_)
  rw [val_main_v3_apply, val_main_v1_apply]
  refine (congrArg₂ (· * ·) (cat_x X0 X1 _) (cat_w W0 W1 _)).trans ?_
  show (if k.val < 2048 then _ else _) * (if k.val < 2048 then _ else _) = _
  split_ifs <;> rfl

end Reference

end Cert.Plain.DhGates

end
-- ==== Proof.Merge.lean ====
/-
The gradient of the merge: the output's gradient through the transposed weight, times each gate for the branches, times
each branch and the gate's slope for the gates.
-/
module

public import proofs.«01_k».proof.Proof.Plain
public import proofs.«01_k».proof.Proof.Act
public import proofs.«01_k».proof.Proof.Gen.Kernel12Ideal.Value
public import Idealize.ShloMosaic.Lib.Pipeline.ValueKit
public import proofs.«01_k».proof.Proof.Gen.Reference12Ideal.Read

@[expose] public section

set_option maxRecDepth 16384

noncomputable section

namespace Cert.Plain.Merge

open Idealize.ShloMosaic hiding ix0 ix1 ix2 ix3 ix4 ix5
open Finset Idealize.ShloMosaic.ValueIdx Idealize.ShloMosaic.TcCoe Idealize.ShloMosaic.Tactic
open Cert.Ffn
open Cert.Ffn.Act (sg)

section Kernel
open Cert.Kernel12Ideal Cert.Kernel12Ideal.Gen

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![t.val % 2, 0] :=
  (by decide +kernel : ∀ t : Fin grid0.N, win0_1.index t = ![t.val % 2, 0])
theorem idx2 : ∀ t : Fin cfg0.N, win0_2.index t = ![t.val / 2, t.val % 2] :=
  (by decide +kernel : ∀ t : Fin grid0.N, win0_2.index t = ![t.val / 2, t.val % 2])
theorem idx3 : ∀ t : Fin cfg0.N, win0_3.index t = ![t.val / 2, t.val % 2] :=
  (by decide +kernel : ∀ t : Fin grid0.N, win0_3.index t = ![t.val / 2, t.val % 2])
theorem idx4 : ∀ t : Fin cfg0.N, win0_4.index t = ![t.val / 2, t.val % 2] :=
  (by decide +kernel : ∀ t : Fin grid0.N, win0_4.index t = ![t.val / 2, t.val % 2])
theorem idx5 : ∀ t : Fin cfg0.N, win0_5.index t = ![t.val / 2, t.val % 2] :=
  (by decide +kernel : ∀ t : Fin grid0.N, win0_5.index t = ![t.val / 2, t.val % 2])
theorem idx6 : ∀ t : Fin cfg0.N, win0_6.index t = ![t.val / 2, t.val % 2] :=
  (by decide +kernel : ∀ t : Fin grid0.N, win0_6.index t = ![t.val / 2, t.val % 2])
theorem idx7 : ∀ t : Fin cfg0.N, win0_7.index t = ![t.val / 2, t.val % 2] :=
  (by decide +kernel : ∀ t : Fin grid0.N, win0_7.index t = ![t.val / 2, t.val % 2])
theorem idx8 : ∀ t : Fin cfg0.N, win0_8.index t = ![t.val / 2, t.val % 2] :=
  (by decide +kernel : ∀ t : Fin grid0.N, win0_8.index t = ![t.val / 2, t.val % 2])
theorem idx9 : ∀ t : Fin cfg0.N, win0_9.index t = ![t.val / 2, t.val % 2] :=
  (by decide +kernel : ∀ t : Fin grid0.N, win0_9.index t = ![t.val / 2, t.val % 2])
theorem pt_lt (t : Fin cfg0.N) : t.val < 32 := lt_of_lt_of_eq t.isLt (show cfg0.N = 32 from N_0)

theorem out6 (x0 : Vec Ideal S512x2048 .bf16) (x1 : Vec Ideal S1024x2048 .bf16) (x2 : Vec Ideal S512x1024 .bf16) (x3 : Vec Ideal S512x1024 .bf16) (x4 : Vec Ideal S512x1024 .bf16) (x5 : Vec Ideal S512x1024 .bf16) : out0_6 x0 x1 x2 x3 x4 x5 = k0_pay4 x0 x1 x4 := by
  unfold out0_6
  rw [View.canon_cons_unit_lit (S := S512x1024) inb_S512x1024_S512x1024_0_0 _ _ (by decide),
    View.ld_unit_lit (S := S512x2048) inb_S512x2048_S512x2048_0_0 x0 (by decide),
    View.ld_unit_lit (S := S1024x2048) inb_S1024x2048_S1024x2048_0_0 x1 (by decide),
    View.ld_unit_lit (S := S512x1024) inb_S512x1024_S512x1024_0_0 x4 (by decide)]

theorem out7 (x0 : Vec Ideal S512x2048 .bf16) (x1 : Vec Ideal S1024x2048 .bf16) (x2 : Vec Ideal S512x1024 .bf16) (x3 : Vec Ideal S512x1024 .bf16) (x4 : Vec Ideal S512x1024 .bf16) (x5 : Vec Ideal S512x1024 .bf16) : out0_7 x0 x1 x2 x3 x4 x5 = k0_pay5 x0 x1 x5 := by
  unfold out0_7
  rw [View.canon_cons_unit_lit (S := S512x1024) inb_S512x1024_S512x1024_0_0 _ _ (by decide),
    View.ld_unit_lit (S := S512x2048) inb_S512x2048_S512x2048_0_0 x0 (by decide),
    View.ld_unit_lit (S := S1024x2048) inb_S1024x2048_S1024x2048_0_0 x1 (by decide),
    View.ld_unit_lit (S := S512x1024) inb_S512x1024_S512x1024_0_0 x5 (by decide)]

theorem out8 (x0 : Vec Ideal S512x2048 .bf16) (x1 : Vec Ideal S1024x2048 .bf16) (x2 : Vec Ideal S512x1024 .bf16) (x3 : Vec Ideal S512x1024 .bf16) (x4 : Vec Ideal S512x1024 .bf16) (x5 : Vec Ideal S512x1024 .bf16) : out0_8 x0 x1 x2 x3 x4 x5 = k0_pay6 x0 x1 x2 x4 := by
  unfold out0_8
  rw [View.canon_cons_unit_lit (S := S512x1024) inb_S512x1024_S512x1024_0_0 _ _ (by decide),
    View.ld_unit_lit (S := S512x2048) inb_S512x2048_S512x2048_0_0 x0 (by decide),
    View.ld_unit_lit (S := S1024x2048) inb_S1024x2048_S1024x2048_0_0 x1 (by decide),
    View.ld_unit_lit (S := S512x1024) inb_S512x1024_S512x1024_0_0 x2 (by decide),
    View.ld_unit_lit (S := S512x1024) inb_S512x1024_S512x1024_0_0 x4 (by decide)]

theorem out9 (x0 : Vec Ideal S512x2048 .bf16) (x1 : Vec Ideal S1024x2048 .bf16) (x2 : Vec Ideal S512x1024 .bf16) (x3 : Vec Ideal S512x1024 .bf16) (x4 : Vec Ideal S512x1024 .bf16) (x5 : Vec Ideal S512x1024 .bf16) : out0_9 x0 x1 x2 x3 x4 x5 = k0_pay7 x0 x1 x3 x5 := by
  unfold out0_9
  rw [View.canon_cons_unit_lit (S := S512x1024) inb_S512x1024_S512x1024_0_0 _ _ (by decide),
    View.ld_unit_lit (S := S512x2048) inb_S512x2048_S512x2048_0_0 x0 (by decide),
    View.ld_unit_lit (S := S1024x2048) inb_S1024x2048_S1024x2048_0_0 x1 (by decide),
    View.ld_unit_lit (S := S512x1024) inb_S512x1024_S512x1024_0_0 x3 (by decide),
    View.ld_unit_lit (S := S512x1024) inb_S512x1024_S512x1024_0_0 x5 (by decide)]

theorem pay2_apply (x : Vec Ideal S512x1024 .bf16) (i : S512x1024.Idx) : k0_pay2 x i = x i := by
  unfold k0_pay2
  exact shapeCast_apply _ _ i i rfl

theorem pay3_apply (x : Vec Ideal S512x1024 .bf16) (i : S512x1024.Idx) : k0_pay3 x i = x i := by
  unfold k0_pay3
  exact shapeCast_apply _ _ i i rfl

theorem pay4_apply (x0 : Vec Ideal S512x2048 .bf16) (x1 : Vec Ideal S1024x2048 .bf16) (g : Vec Ideal S512x1024 .bf16) (i : S512x1024.Idx) :
    k0_pay4 x0 x1 g i = k0_pay1 x0 x1 i * g i := by
  unfold k0_pay4
  exact congrArg (k0_pay1 x0 x1 i * ·) (pay2_apply g i)

theorem pay5_apply (x0 : Vec Ideal S512x2048 .bf16) (x1 : Vec Ideal S1024x2048 .bf16) (g : Vec Ideal S512x1024 .bf16) (i : S512x1024.Idx) :
    k0_pay5 x0 x1 g i = k0_pay1 x0 x1 i * g i := by
  unfold k0_pay5
  exact congrArg (k0_pay1 x0 x1 i * ·) (pay3_apply g i)

theorem pay6_apply (x0 : Vec Ideal S512x2048 .bf16) (x1 : Vec Ideal S1024x2048 .bf16) (p g : Vec Ideal S512x1024 .bf16) (i : S512x1024.Idx) :
    k0_pay6 x0 x1 p g i = k0_pay1 x0 x1 i * p i * g i * (1 - g i) := by
  unfold k0_pay6
  show k0_pay1 x0 x1 i * p i * k0_pay2 g i * (Ideal.ofBits .f32 0x3F800000#32 - k0_pay2 g i) = _
  rw [pay2_apply, Ideal.ofBits_one_f32]

theorem pay7_apply (x0 : Vec Ideal S512x2048 .bf16) (x1 : Vec Ideal S1024x2048 .bf16) (p g : Vec Ideal S512x1024 .bf16) (i : S512x1024.Idx) :
    k0_pay7 x0 x1 p g i = k0_pay1 x0 x1 i * p i * g i * (1 - g i) := by
  unfold k0_pay7
  show k0_pay1 x0 x1 i * p i * k0_pay3 g i * (Ideal.ofBits .f32 0x3F800000#32 - k0_pay3 g i) = _
  rw [pay3_apply, Ideal.ofBits_one_f32]

/-- A branch's gradient, entry by entry. -/
def branch (X : S8192x2048.Idx → EReal) (Y : S2048x2048.Idx → EReal) (Z : S8192x2048.Idx → EReal) (r c : ℕ) : EReal :=
  nt X Y r c * sg (rd2 Z r c)

/-- The gradient before a gate's logistic function, entry by entry. -/
def before (X : S8192x2048.Idx → EReal) (Y : S2048x2048.Idx → EReal) (B Z : S8192x2048.Idx → EReal) (r c : ℕ) : EReal :=
  nt X Y r c * rd2 B r c * sg (rd2 Z r c) * (1 - sg (rd2 Z r c))

/-- The first gate the host computes. -/
theorem host_g4 (W : Valuation τ sig (Elt Ideal)) (i : S8192x2048.Idx) :
    (StableHlo.after hostOps0 W main_v7 : (⟨S8192x2048, .bf16⟩ : BufTy).Contents (Elt Ideal)) i
      = sg ((W main_arg4 : (⟨S8192x2048, .bf16⟩ : BufTy).Contents (Elt Ideal)) i) := by
  have e : (StableHlo.after hostOps0 W main_v7 : (⟨S8192x2048, .bf16⟩ : BufTy).Contents (Elt Ideal))
      = truncf (F := Ideal) .bf16 (Host.divf (broadcastInDim S8192x2048 ![] bcast_S_S8192x2048 (constant S_ .f32 0x3F800000#32))
          (addf (broadcastInDim S8192x2048 ![] bcast_S_S8192x2048 (constant S_ .f32 0x3F800000#32))
            (Host.exp (Host.negf (extf .f32 (W main_arg4 : (⟨S8192x2048, .bf16⟩ : BufTy).Contents (Elt Ideal)) bitsLt_bf16_f32))))) bitsLt_bf16_f32 := by
    after_results_simp
  rw [e]
  show Ideal.div (Ideal.ofBits .f32 0x3F800000#32) (Ideal.ofBits .f32 0x3F800000#32
    + Ideal.exp (@Neg.neg EReal _ ((W main_arg4 : (⟨S8192x2048, .bf16⟩ : BufTy).Contents (Elt Ideal)) i))) = _
  rw [Ideal.ofBits_one_f32]
  rfl

/-- The second gate the host computes. -/
theorem host_g5 (W : Valuation τ sig (Elt Ideal)) (i : S8192x2048.Idx) :
    (StableHlo.after hostOps0 W main_v15 : (⟨S8192x2048, .bf16⟩ : BufTy).Contents (Elt Ideal)) i
      = sg ((W main_arg5 : (⟨S8192x2048, .bf16⟩ : BufTy).Contents (Elt Ideal)) i) := by
  have e : (StableHlo.after hostOps0 W main_v15 : (⟨S8192x2048, .bf16⟩ : BufTy).Contents (Elt Ideal))
      = truncf (F := Ideal) .bf16 (Host.divf (broadcastInDim S8192x2048 ![] bcast_S_S8192x2048 (constant S_ .f32 0x3F800000#32))
          (addf (broadcastInDim S8192x2048 ![] bcast_S_S8192x2048 (constant S_ .f32 0x3F800000#32))
            (Host.exp (Host.negf (extf .f32 (W main_arg5 : (⟨S8192x2048, .bf16⟩ : BufTy).Contents (Elt Ideal)) bitsLt_bf16_f32))))) bitsLt_bf16_f32 := by
    after_results_simp
  rw [e]
  show Ideal.div (Ideal.ofBits .f32 0x3F800000#32) (Ideal.ofBits .f32 0x3F800000#32
    + Ideal.exp (@Neg.neg EReal _ ((W main_arg5 : (⟨S8192x2048, .bf16⟩ : BufTy).Contents (Elt Ideal)) i))) = _
  rw [Ideal.ofBits_one_f32]
  rfl

variable (m : (ℓ : Loc nD τ sig) → Buf (Elt Ideal) ℓ) (c : Dev nD)

theorem blk0 (t : Fin cfg0.N) (a : Fin 512) (b : Fin 2048) :
    iblk m c 0 t (ix2 a b) = rd2 (V m c main_arg0) (t.val / 2 * 512 + a) (b) := by
  have ht := pt_lt t
  unfold iblk
  generalize V m c = W
  blk_simp
  exact rd2_of (W main_arg0) _ (by blk_simp [idx0]) (by blk_simp [idx0])

theorem blk1 (t : Fin cfg0.N) (a : Fin 1024) (b : Fin 2048) :
    iblk m c 1 t (ix2 a b) = rd2 (V m c main_arg1) (t.val % 2 * 1024 + a) (b) := by
  have ht := pt_lt t
  unfold iblk
  generalize V m c = W
  blk_simp
  exact rd2_of (W main_arg1) _ (by blk_simp [idx1]) (by blk_simp [idx1])

theorem blk2 (t : Fin cfg0.N) (a : Fin 512) (b : Fin 1024) :
    iblk m c 2 t (ix2 a b) = rd2 (V m c main_arg2) (t.val / 2 * 512 + a) (t.val % 2 * 1024 + b) := by
  have ht := pt_lt t
  unfold iblk
  generalize V m c = W
  blk_simp
  exact rd2_of (W main_arg2) _ (by blk_simp [idx2]) (by blk_simp [idx2])

theorem blk3 (t : Fin cfg0.N) (a : Fin 512) (b : Fin 1024) :
    iblk m c 3 t (ix2 a b) = rd2 (V m c main_arg3) (t.val / 2 * 512 + a) (t.val % 2 * 1024 + b) := by
  have ht := pt_lt t
  unfold iblk
  generalize V m c = W
  blk_simp
  exact rd2_of (W main_arg3) _ (by blk_simp [idx3]) (by blk_simp [idx3])

theorem blk4' (t : Fin cfg0.N) (a : Fin 512) (b : Fin 1024) :
    iblk m c 4 t (ix2 a b) = rd2 (V m c main_v7) (t.val / 2 * 512 + a) (t.val % 2 * 1024 + b) := by
  have ht := pt_lt t
  unfold iblk
  generalize V m c = W
  blk_simp
  exact rd2_of (W main_v7) _ (by blk_simp [idx4]) (by blk_simp [idx4])

/-- A gate's block, by what it was computed from. -/
theorem blk4 (t : Fin cfg0.N) (a : Fin 512) (b : Fin 1024) :
    iblk m c 4 t (ix2 a b) = sg (rd2 (m ((c : Thread nD τ).loc main_arg4)) (t.val / 2 * 512 + a) (t.val % 2 * 1024 + b)) := by
  have ht := pt_lt t
  rw [blk4']
  exact rd2_map sg (V m c main_v7) (m ((c : Thread nD τ).loc main_arg4)) (host_g4 (fun b => m (c, b))) _ _ (by omega) (by omega)

theorem blk5' (t : Fin cfg0.N) (a : Fin 512) (b : Fin 1024) :
    iblk m c 5 t (ix2 a b) = rd2 (V m c main_v15) (t.val / 2 * 512 + a) (t.val % 2 * 1024 + b) := by
  have ht := pt_lt t
  unfold iblk
  generalize V m c = W
  blk_simp
  exact rd2_of (W main_v15) _ (by blk_simp [idx5]) (by blk_simp [idx5])

/-- A gate's block, by what it was computed from. -/
theorem blk5 (t : Fin cfg0.N) (a : Fin 512) (b : Fin 1024) :
    iblk m c 5 t (ix2 a b) = sg (rd2 (m ((c : Thread nD τ).loc main_arg5)) (t.val / 2 * 512 + a) (t.val % 2 * 1024 + b)) := by
  have ht := pt_lt t
  rw [blk5']
  exact rd2_map sg (V m c main_v15) (m ((c : Thread nD τ).loc main_arg5)) (host_g5 (fun b => m (c, b))) _ _ (by omega) (by omega)

theorem prod (t : Fin cfg0.N) (a : Fin 512) (b : Fin 1024) : k0_pay1 (iblk m c 0 t) (iblk m c 1 t) (ix2 a b)
    = nt (V m c main_arg0) (V m c main_arg1) (t.val / 2 * 512 + a) (t.val % 2 * 1024 + b) := by
  unfold k0_pay1
  exact blk_nt _ rfl _ _ a b _ _ _ _ (blk0 m c t a) (blk1 m c t b)

theorem point6 (t : Fin cfg0.N) (a : Fin 512) (b : Fin 1024) : k0_pay4 (iblk m c 0 t) (iblk m c 1 t) (iblk m c 4 t) (ix2 a b)
    = branch (V m c main_arg0) (V m c main_arg1) (m ((c : Thread nD τ).loc main_arg4)) (t.val / 2 * 512 + a) (t.val % 2 * 1024 + b) := by
  rw [pay4_apply, prod, blk4, branch]

theorem point7 (t : Fin cfg0.N) (a : Fin 512) (b : Fin 1024) : k0_pay5 (iblk m c 0 t) (iblk m c 1 t) (iblk m c 5 t) (ix2 a b)
    = branch (V m c main_arg0) (V m c main_arg1) (m ((c : Thread nD τ).loc main_arg5)) (t.val / 2 * 512 + a) (t.val % 2 * 1024 + b) := by
  rw [pay5_apply, prod, blk5, branch]

theorem point8 (t : Fin cfg0.N) (a : Fin 512) (b : Fin 1024) : k0_pay6 (iblk m c 0 t) (iblk m c 1 t) (iblk m c 2 t) (iblk m c 4 t) (ix2 a b)
    = before (V m c main_arg0) (V m c main_arg1) (V m c main_arg2) (m ((c : Thread nD τ).loc main_arg4)) (t.val / 2 * 512 + a) (t.val % 2 * 1024 + b) := by
  rw [pay6_apply, prod, blk2, blk4, before]

theorem point9 (t : Fin cfg0.N) (a : Fin 512) (b : Fin 1024) : k0_pay7 (iblk m c 0 t) (iblk m c 1 t) (iblk m c 3 t) (iblk m c 5 t) (ix2 a b)
    = before (V m c main_arg0) (V m c main_arg1) (V m c main_arg3) (m ((c : Thread nD τ).loc main_arg5)) (t.val / 2 * 512 + a) (t.val % 2 * 1024 + b) := by
  rw [pay7_apply, prod, blk3, blk5, before]

/-- The first branch's gradient after the run. -/
theorem final6 : (dats m 0 c).arrAt 6 cfg0.N = mat (branch (V m c main_arg0) (V m c main_arg1) (m ((c : Thread nD τ).loc main_arg4))) := by
  refine (dats m 0 c).arrAt_eq_of_covers 6 (mat (branch (V m c main_arg0) (V m c main_arg1) (m ((c : Thread nD τ).loc main_arg4)))) (by decide +kernel) fun t hf y => ?_
  have ht := pt_lt t
  have P := point6 m c t
  revert P
  generalize V m c = W
  intro P
  blk_simp
  rw [after0_6, out6]
  obtain ⟨a, b, rfl⟩ : ∃ (a : Fin 512) (b : Fin 1024), y = ix2 a b := ⟨y 0, y 1, Cert.Ffn.eq_ix2 y⟩
  refine (P a b).trans ?_
  have e0 : ((((win0_6.blk t).view.emb (ix2 a b)) 0 : Fin _) : ℕ) = t.val / 2 * 512 + a := by blk_simp [idx6]; rfl
  have e1 : ((((win0_6.blk t).view.emb (ix2 a b)) 1 : Fin _) : ℕ) = t.val % 2 * 1024 + b := by blk_simp [idx6]; rfl
  rw [mat, e0, e1]

/-- The second branch's gradient after the run. -/
theorem final7 : (dats m 0 c).arrAt 7 cfg0.N = mat (branch (V m c main_arg0) (V m c main_arg1) (m ((c : Thread nD τ).loc main_arg5))) := by
  refine (dats m 0 c).arrAt_eq_of_covers 7 (mat (branch (V m c main_arg0) (V m c main_arg1) (m ((c : Thread nD τ).loc main_arg5)))) (by decide +kernel) fun t hf y => ?_
  have ht := pt_lt t
  have P := point7 m c t
  revert P
  generalize V m c = W
  intro P
  blk_simp
  rw [after0_7, out7]
  obtain ⟨a, b, rfl⟩ : ∃ (a : Fin 512) (b : Fin 1024), y = ix2 a b := ⟨y 0, y 1, Cert.Ffn.eq_ix2 y⟩
  refine (P a b).trans ?_
  have e0 : ((((win0_7.blk t).view.emb (ix2 a b)) 0 : Fin _) : ℕ) = t.val / 2 * 512 + a := by blk_simp [idx7]; rfl
  have e1 : ((((win0_7.blk t).view.emb (ix2 a b)) 1 : Fin _) : ℕ) = t.val % 2 * 1024 + b := by blk_simp [idx7]; rfl
  rw [mat, e0, e1]

/-- The gradient before the first gate after the run. -/
theorem final8 : (dats m 0 c).arrAt 8 cfg0.N = mat (before (V m c main_arg0) (V m c main_arg1) (V m c main_arg2) (m ((c : Thread nD τ).loc main_arg4))) := by
  refine (dats m 0 c).arrAt_eq_of_covers 8 (mat (before (V m c main_arg0) (V m c main_arg1) (V m c main_arg2) (m ((c : Thread nD τ).loc main_arg4)))) (by decide +kernel) fun t hf y => ?_
  have ht := pt_lt t
  have P := point8 m c t
  revert P
  generalize V m c = W
  intro P
  blk_simp
  rw [after0_8, out8]
  obtain ⟨a, b, rfl⟩ : ∃ (a : Fin 512) (b : Fin 1024), y = ix2 a b := ⟨y 0, y 1, Cert.Ffn.eq_ix2 y⟩
  refine (P a b).trans ?_
  have e0 : ((((win0_8.blk t).view.emb (ix2 a b)) 0 : Fin _) : ℕ) = t.val / 2 * 512 + a := by blk_simp [idx8]; rfl
  have e1 : ((((win0_8.blk t).view.emb (ix2 a b)) 1 : Fin _) : ℕ) = t.val % 2 * 1024 + b := by blk_simp [idx8]; rfl
  rw [mat, e0, e1]

/-- The gradient before the second gate after the run. -/
theorem final9 : (dats m 0 c).arrAt 9 cfg0.N = mat (before (V m c main_arg0) (V m c main_arg1) (V m c main_arg3) (m ((c : Thread nD τ).loc main_arg5))) := by
  refine (dats m 0 c).arrAt_eq_of_covers 9 (mat (before (V m c main_arg0) (V m c main_arg1) (V m c main_arg3) (m ((c : Thread nD τ).loc main_arg5)))) (by decide +kernel) fun t hf y => ?_
  have ht := pt_lt t
  have P := point9 m c t
  revert P
  generalize V m c = W
  intro P
  blk_simp
  rw [after0_9, out9]
  obtain ⟨a, b, rfl⟩ : ∃ (a : Fin 512) (b : Fin 1024), y = ix2 a b := ⟨y 0, y 1, Cert.Ffn.eq_ix2 y⟩
  refine (P a b).trans ?_
  have e0 : ((((win0_9.blk t).view.emb (ix2 a b)) 0 : Fin _) : ℕ) = t.val / 2 * 512 + a := by blk_simp [idx9]; rfl
  have e1 : ((((win0_9.blk t).view.emb (ix2 a b)) 1 : Fin _) : ℕ) = t.val % 2 * 1024 + b := by blk_simp [idx9]; rfl
  rw [mat, e0, e1]

end Kernel

section Reference
open Cert.Reference12Ideal Cert.Reference12Ideal.Read

theorem ref_prod (X : (⟨S8192x2048, .bf16⟩ : BufTy).Contents (Elt Ideal)) (Y : (⟨S2048x2048, .bf16⟩ : BufTy).Contents (Elt Ideal)) (i : S8192x2048.Idx) :
    val_main_v28 (F := Ideal) X Y i = nt X Y (i 0).val (i 1).val := by
  unfold nt
  refine (val_main_v28_apply X Y i).trans (sum_fin _ _ _ fun k => ?_)
  rw [val_main_v27_apply, val_main_v0_apply]
  exact congrArg₂ (· * ·) (rd2_of X _ rfl rfl) (rd2_of Y _ rfl rfl)

theorem ref_g10 (Z : (⟨S8192x2048, .bf16⟩ : BufTy).Contents (Elt Ideal)) (i : S8192x2048.Idx) : val_main_v10 (F := Ideal) Z i = sg (rd2 Z (i 0).val (i 1).val) := by
  show Ideal.div (Ideal.ofBits .f32 0x3F800000#32) (Ideal.ofBits .f32 0x3F800000#32 + Ideal.exp (-Z i)) = _
  rw [Ideal.ofBits_one_f32, rd2_of Z i rfl rfl]
  rfl

theorem ref_g13 (Z : (⟨S8192x2048, .bf16⟩ : BufTy).Contents (Elt Ideal)) (i : S8192x2048.Idx) :
    val_main_v13 (F := Ideal) Z i = sg (rd2 Z (i 0).val (i 1).val) * (1 - sg (rd2 Z (i 0).val (i 1).val)) := by
  show val_main_v10 (F := Ideal) Z i * (Ideal.ofBits .f32 0x3F800000#32 - val_main_v10 (F := Ideal) Z i) = _
  rw [ref_g10, Ideal.ofBits_one_f32]

theorem ref_g20 (Z : (⟨S8192x2048, .bf16⟩ : BufTy).Contents (Elt Ideal)) (i : S8192x2048.Idx) : val_main_v20 (F := Ideal) Z i = sg (rd2 Z (i 0).val (i 1).val) := by
  show Ideal.div (Ideal.ofBits .f32 0x3F800000#32) (Ideal.ofBits .f32 0x3F800000#32 + Ideal.exp (-Z i)) = _
  rw [Ideal.ofBits_one_f32, rd2_of Z i rfl rfl]
  rfl

theorem ref_g23 (Z : (⟨S8192x2048, .bf16⟩ : BufTy).Contents (Elt Ideal)) (i : S8192x2048.Idx) :
    val_main_v23 (F := Ideal) Z i = sg (rd2 Z (i 0).val (i 1).val) * (1 - sg (rd2 Z (i 0).val (i 1).val)) := by
  show val_main_v20 (F := Ideal) Z i * (Ideal.ofBits .f32 0x3F800000#32 - val_main_v20 (F := Ideal) Z i) = _
  rw [ref_g20, Ideal.ofBits_one_f32]

/-- The reference's gradient of the first branch. -/
theorem ref_eq35 (X : (⟨S8192x2048, .bf16⟩ : BufTy).Contents (Elt Ideal)) (Y : (⟨S2048x2048, .bf16⟩ : BufTy).Contents (Elt Ideal)) (Z : (⟨S8192x2048, .bf16⟩ : BufTy).Contents (Elt Ideal)) :
    val_main_v35 (F := Ideal) X Y Z = mat (branch X Y Z) := by
  funext i
  show val_main_v10 (F := Ideal) Z i * val_main_v28 (F := Ideal) X Y i = _
  rw [ref_g10, ref_prod, mul_comm]
  rfl

/-- The reference's gradient of the second branch. -/
theorem ref_eq36 (X : (⟨S8192x2048, .bf16⟩ : BufTy).Contents (Elt Ideal)) (Y : (⟨S2048x2048, .bf16⟩ : BufTy).Contents (Elt Ideal)) (Z : (⟨S8192x2048, .bf16⟩ : BufTy).Contents (Elt Ideal)) :
    val_main_v36 (F := Ideal) X Y Z = mat (branch X Y Z) := by
  funext i
  show val_main_v20 (F := Ideal) Z i * val_main_v28 (F := Ideal) X Y i = _
  rw [ref_g20, ref_prod, mul_comm]
  rfl

/-- The reference's gradient before the first gate. -/
theorem ref_eq37 (X : (⟨S8192x2048, .bf16⟩ : BufTy).Contents (Elt Ideal)) (Y : (⟨S2048x2048, .bf16⟩ : BufTy).Contents (Elt Ideal)) (B Z : (⟨S8192x2048, .bf16⟩ : BufTy).Contents (Elt Ideal)) :
    val_main_v37 (F := Ideal) X Y B Z = mat (before X Y B Z) := by
  funext i
  show val_main_v28 (F := Ideal) X Y i * B i * val_main_v13 (F := Ideal) Z i = _
  rw [ref_g13, ref_prod, rd2_of B i rfl rfl, ← mul_assoc]
  rfl

/-- The reference's gradient before the second gate. -/
theorem ref_eq38 (X : (⟨S8192x2048, .bf16⟩ : BufTy).Contents (Elt Ideal)) (Y : (⟨S2048x2048, .bf16⟩ : BufTy).Contents (Elt Ideal)) (B Z : (⟨S8192x2048, .bf16⟩ : BufTy).Contents (Elt Ideal)) :
    val_main_v38 (F := Ideal) X Y B Z = mat (before X Y B Z) := by
  funext i
  show val_main_v28 (F := Ideal) X Y i * B i * val_main_v23 (F := Ideal) Z i = _
  rw [ref_g23, ref_prod, rd2_of B i rfl rfl, ← mul_assoc]
  rfl

end Reference

end Cert.Plain.Merge

end
-- ==== Proof.Dn4.lean ====
/-
The gradient of a square product's left factor: one product with the weight transposed.
-/
module

public import proofs.«01_k».proof.Proof.Plain
public import proofs.«01_k».proof.Proof.Gen.Kernel13Ideal.Value
public import Idealize.ShloMosaic.Lib.Pipeline.ValueKit
public import proofs.«01_k».proof.Proof.Gen.Reference13Ideal.Read

@[expose] public section

set_option maxRecDepth 16384

noncomputable section

namespace Cert.Plain.Dn4

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel13Ideal Cert.Kernel13Ideal.Gen

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![t.val % 2, 0] :=
  (by decide +kernel : ∀ t : Fin grid0.N, win0_1.index t = ![t.val % 2, 0])
theorem idx2 : ∀ t : Fin cfg0.N, win0_2.index t = ![t.val / 2, t.val % 2] :=
  (by decide +kernel : ∀ t : Fin grid0.N, win0_2.index t = ![t.val / 2, t.val % 2])
theorem pt_lt (t : Fin cfg0.N) : t.val < 32 := lt_of_lt_of_eq t.isLt (show cfg0.N = 32 from N_0)

theorem out2 (x0 : Vec Ideal S512x2048 .bf16) (x1 : Vec Ideal S1024x2048 .bf16) : out0_2 x0 x1 = k0_pay1 x0 x1 := by
  unfold out0_2
  rw [View.canon_cons_unit_lit (S := S512x1024) inb_S512x1024_S512x1024_0_0 _ _ (by decide),
    View.ld_unit_lit (S := S512x2048) inb_S512x2048_S512x2048_0_0 x0 (by decide),
    View.ld_unit_lit (S := S1024x2048) inb_S1024x2048_S1024x2048_0_0 x1 (by decide)]

variable (m : (ℓ : Loc nD τ sig) → Buf (Elt Ideal) ℓ) (c : Dev nD)

theorem blk0 (t : Fin cfg0.N) (a : Fin 512) (b : Fin 2048) :
    iblk m c 0 t (ix2 a b) = rd2 (V m c main_arg0) (t.val / 2 * 512 + a) (b) := by
  have ht := pt_lt t
  unfold iblk
  generalize V m c = W
  blk_simp
  exact rd2_of (W main_arg0) _ (by blk_simp [idx0]) (by blk_simp [idx0])

theorem blk1 (t : Fin cfg0.N) (a : Fin 1024) (b : Fin 2048) :
    iblk m c 1 t (ix2 a b) = rd2 (V m c main_arg1) (t.val % 2 * 1024 + a) (b) := by
  have ht := pt_lt t
  unfold iblk
  generalize V m c = W
  blk_simp
  exact rd2_of (W main_arg1) _ (by blk_simp [idx1]) (by blk_simp [idx1])

theorem point (t : Fin cfg0.N) (a : Fin 512) (b : Fin 1024) : k0_pay1 (iblk m c 0 t) (iblk m c 1 t) (ix2 a b)
    = nt (V m c main_arg0) (V m c main_arg1) (t.val / 2 * 512 + a) (t.val % 2 * 1024 + b) := by
  unfold k0_pay1
  exact blk_nt _ rfl _ _ a b _ _ _ _ (blk0 m c t a) (blk1 m c t b)

/-- The gradient's array after the run. -/
theorem final : (dats m 0 c).arrAt 2 cfg0.N = mat (nt (V m c main_arg0) (V m c main_arg1)) := by
  refine (dats m 0 c).arrAt_eq_of_covers 2 (mat (nt (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 512) (b : Fin 1024), y = ix2 a b := ⟨y 0, y 1, Cert.Ffn.eq_ix2 y⟩
  refine (P a b).trans ?_
  have e0 : ((((win0_2.blk t).view.emb (ix2 a b)) 0 : Fin _) : ℕ) = t.val / 2 * 512 + a := by blk_simp [idx2]; rfl
  have e1 : ((((win0_2.blk t).view.emb (ix2 a b)) 1 : Fin _) : ℕ) = t.val % 2 * 1024 + b := by blk_simp [idx2]; rfl
  rw [mat, e0, e1]

end Kernel

section Reference
open Cert.Reference13Ideal Cert.Reference13Ideal.Read

/-- The reference's gradient is the same array. -/
theorem ref_eq (X : (⟨S8192x2048, .bf16⟩ : BufTy).Contents (Elt Ideal)) (Y : (⟨S2048x2048, .bf16⟩ : BufTy).Contents (Elt Ideal)) :
    val_main_v4 (F := Ideal) X Y = mat (nt X Y) := by
  funext i
  unfold mat nt
  refine (val_main_v4_apply X Y i).trans (sum_fin _ _ _ fun k => ?_)
  rw [val_main_v3_apply, val_main_v0_apply]
  exact congrArg₂ (· * ·) (rd2_of X _ rfl rfl) (rd2_of Y _ rfl rfl)

end Reference

end Cert.Plain.Dn4

end
-- ==== Proof.ProjDil.lean ====
/-
The dilated branch's projections: one product per block.
-/
module

public import proofs.«01_k».proof.Proof.Plain
public import proofs.«01_k».proof.Proof.Gen.Kernel14Ideal.Value
public import Idealize.ShloMosaic.Lib.Pipeline.ValueKit
public import proofs.«01_k».proof.Proof.Gen.Reference14Ideal.Read

@[expose] public section

set_option maxRecDepth 16384

noncomputable section

namespace Cert.Plain.ProjDil

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel14Ideal Cert.Kernel14Ideal.Gen

theorem idx0 : ∀ t : Fin cfg0.N, win0_0.index t = ![t.val / 3, 0] :=
  (by decide +kernel : ∀ t : Fin grid0.N, win0_0.index t = ![t.val / 3, 0])
theorem idx1 : ∀ t : Fin cfg0.N, win0_1.index t = ![0, t.val % 3] :=
  (by decide +kernel : ∀ t : Fin grid0.N, win0_1.index t = ![0, t.val % 3])
theorem idx2 : ∀ t : Fin cfg0.N, win0_2.index t = ![t.val / 3, t.val % 3] :=
  (by decide +kernel : ∀ t : Fin grid0.N, win0_2.index t = ![t.val / 3, t.val % 3])
theorem pt_lt (t : Fin cfg0.N) : t.val < 24 := lt_of_lt_of_eq t.isLt (show cfg0.N = 24 from N_0)

theorem out2 (x0 : Vec Ideal S1024x2048 .bf16) (x1 : Vec Ideal S2048x1024 .bf16) : out0_2 x0 x1 = k0_pay1 x0 x1 := by
  unfold out0_2
  rw [View.canon_cons_unit_lit (S := S1024x1024) inb_S1024x1024_S1024x1024_0_0 _ _ (by decide),
    View.ld_unit_lit (S := S1024x2048) inb_S1024x2048_S1024x2048_0_0 x0 (by decide),
    View.ld_unit_lit (S := S2048x1024) inb_S2048x1024_S2048x1024_0_0 x1 (by decide)]

variable (m : (ℓ : Loc nD τ sig) → Buf (Elt Ideal) ℓ) (c : Dev nD)

theorem blk0 (t : Fin cfg0.N) (a : Fin 1024) (b : Fin 2048) :
    iblk m c 0 t (ix2 a b) = rd2 (V m c main_arg0) (t.val / 3 * 1024 + a) (b) := by
  have ht := pt_lt t
  unfold iblk
  generalize V m c = W
  blk_simp
  exact rd2_of (W main_arg0) _ (by blk_simp [idx0]) (by blk_simp [idx0])

theorem blk1 (t : Fin cfg0.N) (a : Fin 2048) (b : Fin 1024) :
    iblk m c 1 t (ix2 a b) = rd2 (V m c main_arg1) (a) (t.val % 3 * 1024 + b) := by
  have ht := pt_lt t
  unfold iblk
  generalize V m c = W
  blk_simp
  exact rd2_of (W main_arg1) _ (by blk_simp [idx1]) (by blk_simp [idx1])

theorem point (t : Fin cfg0.N) (a b : Fin 1024) : k0_pay1 (iblk m c 0 t) (iblk m c 1 t) (ix2 a b)
    = nn (V m c main_arg0) (V m c main_arg1) (t.val / 3 * 1024 + a) (t.val % 3 * 1024 + b) := by
  unfold k0_pay1
  exact blk_nn _ rfl _ _ a b _ _ _ _ (blk0 m c t a) (fun k => blk1 m c t k b)

/-- The projection's array after the run. -/
theorem final : (dats m 0 c).arrAt 2 cfg0.N = mat (nn (V m c main_arg0) (V m c main_arg1)) := by
  refine (dats m 0 c).arrAt_eq_of_covers 2 (mat (nn (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 1024) (b : Fin 1024), y = ix2 a b := ⟨y 0, y 1, Cert.Ffn.eq_ix2 y⟩
  refine (P a b).trans ?_
  have e0 : ((((win0_2.blk t).view.emb (ix2 a b)) 0 : Fin _) : ℕ) = t.val / 3 * 1024 + a := by blk_simp [idx2]; rfl
  have e1 : ((((win0_2.blk t).view.emb (ix2 a b)) 1 : Fin _) : ℕ) = t.val % 3 * 1024 + b := by blk_simp [idx2]; rfl
  rw [mat, e0, e1]

end Kernel

section Reference
open Cert.Reference14Ideal Cert.Reference14Ideal.Read

/-- The reference's projection is the same array. -/
theorem ref_eq (X : (⟨S8192x2048, .bf16⟩ : BufTy).Contents (Elt Ideal)) (Y : (⟨S2048x3072, .bf16⟩ : BufTy).Contents (Elt Ideal)) :
    val_main_v3 (F := Ideal) X Y = mat (nn X Y) := by
  funext i
  unfold mat nn
  refine (val_main_v3_apply X Y i).trans ((val_main_v2_apply X Y i).trans (sum_fin _ _ _ fun k => ?_))
  rw [val_main_v0_apply, val_main_v1_apply]
  exact congrArg₂ (· * ·) (rd2_of X _ rfl rfl) (rd2_of Y _ rfl rfl)

end Reference

end Cert.Plain.ProjDil

end
-- ==== Proof.Gate.lean ====
/-
A gate: the logistic function of a product.
-/
module

public import proofs.«01_k».proof.Proof.Plain
public import proofs.«01_k».proof.Proof.Act
public import proofs.«01_k».proof.Proof.Gen.Kernel15Ideal.Value
public import Idealize.ShloMosaic.Lib.Pipeline.ValueKit
public import proofs.«01_k».proof.Proof.Gen.Reference15Ideal.Read

@[expose] public section

set_option maxRecDepth 16384

noncomputable section

namespace Cert.Plain.Gate

open Idealize.ShloMosaic hiding ix0 ix1 ix2 ix3 ix4 ix5
open Finset Idealize.ShloMosaic.ValueIdx Idealize.ShloMosaic.TcCoe Idealize.ShloMosaic.Tactic
open Cert.Ffn
open Cert.Ffn.Act (sg)

section Kernel
open Cert.Kernel15Ideal Cert.Kernel15Ideal.Gen

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![0, t.val % 2] :=
  (by decide +kernel : ∀ t : Fin grid0.N, win0_1.index t = ![0, t.val % 2])
theorem idx2 : ∀ t : Fin cfg0.N, win0_2.index t = ![t.val / 2, t.val % 2] :=
  (by decide +kernel : ∀ t : Fin grid0.N, win0_2.index t = ![t.val / 2, t.val % 2])
theorem pt_lt (t : Fin cfg0.N) : t.val < 16 := lt_of_lt_of_eq t.isLt (show cfg0.N = 16 from N_0)

theorem out2 (x0 : Vec Ideal S1024x2048 .bf16) (x1 : Vec Ideal S2048x1024 .bf16) : out0_2 x0 x1 = k0_pay1 x0 x1 := by
  unfold out0_2
  rw [View.canon_cons_unit_lit (S := S1024x1024) inb_S1024x1024_S1024x1024_0_0 _ _ (by decide),
    View.ld_unit_lit (S := S1024x2048) inb_S1024x2048_S1024x2048_0_0 x0 (by decide),
    View.ld_unit_lit (S := S2048x1024) inb_S2048x1024_S2048x1024_0_0 x1 (by decide)]

variable (m : (ℓ : Loc nD τ sig) → Buf (Elt Ideal) ℓ) (c : Dev nD)

theorem blk0 (t : Fin cfg0.N) (a : Fin 1024) (b : Fin 2048) :
    iblk m c 0 t (ix2 a b) = rd2 (V m c main_arg0) (t.val / 2 * 1024 + a) (b) := by
  have ht := pt_lt t
  unfold iblk
  generalize V m c = W
  blk_simp
  exact rd2_of (W main_arg0) _ (by blk_simp [idx0]) (by blk_simp [idx0])

theorem blk1 (t : Fin cfg0.N) (a : Fin 2048) (b : Fin 1024) :
    iblk m c 1 t (ix2 a b) = rd2 (V m c main_arg1) (a) (t.val % 2 * 1024 + b) := by
  have ht := pt_lt t
  unfold iblk
  generalize V m c = W
  blk_simp
  exact rd2_of (W main_arg1) _ (by blk_simp [idx1]) (by blk_simp [idx1])

/-- An entry of the gate. -/
def gate (X : S8192x2048.Idx → EReal) (Y : S2048x2048.Idx → EReal) (r c : ℕ) : EReal := sg (nn X Y r c)

theorem point (t : Fin cfg0.N) (a b : Fin 1024) : k0_pay1 (iblk m c 0 t) (iblk m c 1 t) (ix2 a b)
    = gate (V m c main_arg0) (V m c main_arg1) (t.val / 2 * 1024 + a) (t.val % 2 * 1024 + b) := by
  have h := blk_nn dot_S1024x2048_S2048x1024_S1024x1024_1_0_0_1_n_n rfl _ _ a b _ _ _ _ (blk0 m c t a) (fun k => blk1 m c t k b)
  unfold k0_pay1 gate
  refine Eq.trans ?_ (congrArg sg h)
  show Ideal.div (Ideal.ofBits .f32 0x3F800000#32) (Ideal.ofBits .f32 0x3F800000#32
    + Ideal.exp (Ideal.ofBits .f32 0x00000000#32 - _)) = _
  rw [Ideal.ofBits_one_f32, Ideal.ofBits_zero_f32, zero_sub]
  rfl

/-- The gate's array after the run. -/
theorem final : (dats m 0 c).arrAt 2 cfg0.N = mat (gate (V m c main_arg0) (V m c main_arg1)) := by
  refine (dats m 0 c).arrAt_eq_of_covers 2 (mat (gate (V m c main_arg0) (V m c main_arg1))) (by decide +kernel) fun t hf y => ?_
  have ht := pt_lt t
  have P := point m c t
  revert P
  generalize V m c = W
  intro P
  blk_simp
  rw [after0_2, out2]
  obtain ⟨a, b, rfl⟩ : ∃ (a : Fin 1024) (b : Fin 1024), y = ix2 a b := ⟨y 0, y 1, Cert.Ffn.eq_ix2 y⟩
  refine (P a b).trans ?_
  have e0 : ((((win0_2.blk t).view.emb (ix2 a b)) 0 : Fin _) : ℕ) = t.val / 2 * 1024 + a := by blk_simp [idx2]; rfl
  have e1 : ((((win0_2.blk t).view.emb (ix2 a b)) 1 : Fin _) : ℕ) = t.val % 2 * 1024 + b := by blk_simp [idx2]; rfl
  rw [mat, e0, e1]

end Kernel

section Reference
open Cert.Reference15Ideal Cert.Reference15Ideal.Read

theorem prod_eq (X : (⟨S8192x2048, .bf16⟩ : BufTy).Contents (Elt Ideal)) (Y : (⟨S2048x2048, .bf16⟩ : BufTy).Contents (Elt Ideal)) (i : S8192x2048.Idx) :
    val_main_v2 (F := Ideal) X Y i = nn X Y (i 0).val (i 1).val := by
  unfold nn
  refine (val_main_v2_apply X Y i).trans (sum_fin _ _ _ fun k => ?_)
  rw [val_main_v0_apply, val_main_v1_apply]
  exact congrArg₂ (· * ·) (rd2_of X _ rfl rfl) (rd2_of Y _ rfl rfl)

/-- The reference's gate is the same array. -/
theorem ref_eq (X : (⟨S8192x2048, .bf16⟩ : BufTy).Contents (Elt Ideal)) (Y : (⟨S2048x2048, .bf16⟩ : BufTy).Contents (Elt Ideal)) :
    val_main_v9 (F := Ideal) X Y = mat (gate X Y) := by
  funext i
  rw [mat, gate, ← prod_eq]
  show Ideal.div (Ideal.ofBits .f32 0x3F800000#32) (Ideal.ofBits .f32 0x3F800000#32 + Ideal.exp (-val_main_v2 (F := Ideal) X Y i)) = _
  rw [Ideal.ofBits_one_f32]
  rfl

end Reference

end Cert.Plain.Gate

end
-- ==== Proof.OutProj.lean ====
/-
The output projection: a product added to the residual.
-/
module

public import proofs.«01_k».proof.Proof.Plain
public import proofs.«01_k».proof.Proof.Gen.Kernel16Ideal.Value
public import Idealize.ShloMosaic.Lib.Pipeline.ValueKit
public import proofs.«01_k».proof.Proof.Gen.Reference16Ideal.Read

@[expose] public section

set_option maxRecDepth 16384

noncomputable section

namespace Cert.Plain.OutProj

open Idealize.ShloMosaic hiding ix0 ix1 ix2 ix3 ix4 ix5
open Finset Idealize.ShloMosaic.ValueIdx Idealize.ShloMosaic.TcCoe Idealize.ShloMosaic.Tactic
open Cert.Ffn

section Kernel
open Cert.Kernel16Ideal Cert.Kernel16Ideal.Gen

theorem idx0 : ∀ t : Fin cfg0.N, win0_0.index t = ![t.val / 2, 0] :=
  (by decide +kernel : ∀ t : Fin grid0.N, win0_0.index t = ![t.val / 2, 0])
theorem idx1 : ∀ t : Fin cfg0.N, win0_1.index t = ![0, t.val % 2] :=
  (by decide +kernel : ∀ t : Fin grid0.N, win0_1.index t = ![0, t.val % 2])
theorem idx2 : ∀ t : Fin cfg0.N, win0_2.index t = ![t.val / 2, t.val % 2] :=
  (by decide +kernel : ∀ t : Fin grid0.N, win0_2.index t = ![t.val / 2, t.val % 2])
theorem idx3 : ∀ t : Fin cfg0.N, win0_3.index t = ![t.val / 2, t.val % 2] :=
  (by decide +kernel : ∀ t : Fin grid0.N, win0_3.index t = ![t.val / 2, t.val % 2])
theorem pt_lt (t : Fin cfg0.N) : t.val < 32 := lt_of_lt_of_eq t.isLt (show cfg0.N = 32 from N_0)

theorem out3 (x0 : Vec Ideal S512x2048 .bf16) (x1 : Vec Ideal S2048x1024 .bf16) (x2 : Vec Ideal S512x1024 .f32) : out0_3 x0 x1 x2 = k0_pay1 x0 x1 x2 := by
  unfold out0_3
  rw [View.canon_cons_unit_lit (S := S512x1024) inb_S512x1024_S512x1024_0_0 _ _ (by decide),
    View.ld_unit_lit (S := S512x2048) inb_S512x2048_S512x2048_0_0 x0 (by decide),
    View.ld_unit_lit (S := S2048x1024) inb_S2048x1024_S2048x1024_0_0 x1 (by decide),
    View.ld_unit_lit (S := S512x1024) inb_S512x1024_S512x1024_0_0 x2 (by decide)]

variable (m : (ℓ : Loc nD τ sig) → Buf (Elt Ideal) ℓ) (c : Dev nD)

theorem blk0 (t : Fin cfg0.N) (a : Fin 512) (b : Fin 2048) :
    iblk m c 0 t (ix2 a b) = rd2 (V m c main_arg0) (t.val / 2 * 512 + a) (b) := by
  have ht := pt_lt t
  unfold iblk
  generalize V m c = W
  blk_simp
  exact rd2_of (W main_arg0) _ (by blk_simp [idx0]) (by blk_simp [idx0])

theorem blk1 (t : Fin cfg0.N) (a : Fin 2048) (b : Fin 1024) :
    iblk m c 1 t (ix2 a b) = rd2 (V m c main_arg1) (a) (t.val % 2 * 1024 + b) := by
  have ht := pt_lt t
  unfold iblk
  generalize V m c = W
  blk_simp
  exact rd2_of (W main_arg1) _ (by blk_simp [idx1]) (by blk_simp [idx1])

theorem blk2 (t : Fin cfg0.N) (a : Fin 512) (b : Fin 1024) :
    iblk m c 2 t (ix2 a b) = rd2 (V m c main_arg2) (t.val / 2 * 512 + a) (t.val % 2 * 1024 + b) := by
  have ht := pt_lt t
  unfold iblk
  generalize V m c = W
  blk_simp
  exact rd2_of (W main_arg2) _ (by blk_simp [idx2]) (by blk_simp [idx2])

/-- An entry of the new residual. -/
def step (X : S8192x2048.Idx → EReal) (Y : S2048x2048.Idx → EReal) (Z : S8192x2048.Idx → EReal) (r c : ℕ) : EReal := nn X Y r c + rd2 Z r c

theorem point (t : Fin cfg0.N) (a : Fin 512) (b : Fin 1024) : k0_pay1 (iblk m c 0 t) (iblk m c 1 t) (iblk m c 2 t) (ix2 a b)
    = step (V m c main_arg0) (V m c main_arg1) (V m c main_arg2) (t.val / 2 * 512 + a) (t.val % 2 * 1024 + b) := by
  unfold k0_pay1
  exact congrArg₂ (· + ·) (blk_nn _ rfl _ _ a b _ _ _ _ (blk0 m c t a) (fun k => blk1 m c t k b)) (blk2 m c t a b)

/-- The residual's array after the run. -/
theorem final : (dats m 0 c).arrAt 3 cfg0.N = mat (step (V m c main_arg0) (V m c main_arg1) (V m c main_arg2)) := by
  refine (dats m 0 c).arrAt_eq_of_covers 3 (mat (step (V m c main_arg0) (V m c main_arg1) (V m c main_arg2))) (by decide +kernel) fun t hf y => ?_
  have ht := pt_lt t
  have P := point m c t
  revert P
  generalize V m c = W
  intro P
  blk_simp
  rw [after0_3, out3]
  obtain ⟨a, b, rfl⟩ : ∃ (a : Fin 512) (b : Fin 1024), y = ix2 a b := ⟨y 0, y 1, Cert.Ffn.eq_ix2 y⟩
  refine (P a b).trans ?_
  have e0 : ((((win0_3.blk t).view.emb (ix2 a b)) 0 : Fin _) : ℕ) = t.val / 2 * 512 + a := by blk_simp [idx3]; rfl
  have e1 : ((((win0_3.blk t).view.emb (ix2 a b)) 1 : Fin _) : ℕ) = t.val % 2 * 1024 + b := by blk_simp [idx3]; rfl
  rw [mat, e0, e1]

end Kernel

section Reference
open Cert.Reference16Ideal Cert.Reference16Ideal.Read

/-- The reference's residual is the same array. -/
theorem ref_eq (X : (⟨S8192x2048, .bf16⟩ : BufTy).Contents (Elt Ideal)) (Y : (⟨S2048x2048, .bf16⟩ : BufTy).Contents (Elt Ideal)) (Z : (⟨S8192x2048, .f32⟩ : BufTy).Contents (Elt Ideal)) :
    val_main_v3 (F := Ideal) X Y Z = mat (step X Y Z) := by
  funext i
  unfold mat step nn
  rw [val_main_v3_apply]
  refine (add_comm (Z i) (val_main_v2 (F := Ideal) X Y i)).trans (congrArg₂ (· + ·) ?_ (rd2_of Z i rfl rfl))
  refine (val_main_v2_apply X Y i).trans (sum_fin _ _ _ fun k => ?_)
  rw [val_main_v0_apply, val_main_v1_apply]
  exact congrArg₂ (· * ·) (rd2_of X _ rfl rfl) (rd2_of Y _ rfl rfl)

end Reference

end Cert.Plain.OutProj

end
-- ==== Proof.lean ====
/- Every claim of `Cert.Claim`: the latent attention and the gradient of its queries, keys and values, the feed-forward block, the mixer's
projections, and the loss's rows and first gradients. -/
module

public import proofs.«01_k».proof.Defs
public import proofs.«01_k».proof.Proof.Gen.Kernel.Frame
public import proofs.«01_k».proof.Proof.Equal
public import proofs.«01_k».proof.Proof.DqRef
public import proofs.«01_k».proof.Proof.DqHost
public import proofs.«01_k».proof.Proof.FwdRef
public import proofs.«01_k».proof.Proof.FwdFinite
public import proofs.«01_k».proof.Proof.Finite
public import proofs.«01_k».proof.Proof.ActRef
public import proofs.«01_k».proof.Proof.DwRef
public import proofs.«01_k».proof.Proof.DwdRef
public import proofs.«01_k».proof.Proof.DnRef
public import proofs.«01_k».proof.Proof.UpRef
public import proofs.«01_k».proof.Proof.DownRef
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Dwdil
public import proofs.«01_k».proof.Proof.Dwsq
public import proofs.«01_k».proof.Proof.Dwbr
public import proofs.«01_k».proof.Proof.Dobr
public import proofs.«01_k».proof.Proof.MergeFwd
public import proofs.«01_k».proof.Proof.Latent
public import proofs.«01_k».proof.Proof.Loss
public import proofs.«01_k».proof.Proof.LatentUp
public import proofs.«01_k».proof.Proof.Dup
public import proofs.«01_k».proof.Proof.Dwa
public import proofs.«01_k».proof.Proof.DhDil
public import proofs.«01_k».proof.Proof.DhGates
public import proofs.«01_k».proof.Proof.Merge
public import proofs.«01_k».proof.Proof.Dn4
public import proofs.«01_k».proof.Proof.ProjDil
public import proofs.«01_k».proof.Proof.Gate
public import proofs.«01_k».proof.Proof.OutProj
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import Idealize.ShloMosaic.Adequacy
public import Idealize.ShloMosaic.Init

@[expose] public section

noncomputable section

namespace Cert.Proof

open Idealize.ShloMosaic Idealize.SL.Sem

/-- The kernel's key and value gradients are the textbook's, over real arguments. -/
theorem algebraic : algebraic_KernelIdeal_ReferenceIdeal_pre_finite (hKernelIdeal := KernelIdeal.Gen.facts)
    (hReferenceIdeal := ReferenceIdeal.Gen.facts) (hPre_finite := Dkv.preFacts) := by
  intro m g m' g' hpre hag
  refine ⟨fun c => ReferenceIdeal.Value.res_main_v68 m' c, fun c => ReferenceIdeal.Value.res_main_v69 m' c, ?_, ReferenceIdeal.Value.run m' g'⟩
  refine (θ_run _ _ _).mono (fun r h c => ?_) (KernelIdeal.Value.run_blocks m g)
  obtain ⟨p0, p1, p2, p3⟩ := hpre c
  obtain ⟨hq, hk, hv, hd⟩ := Dkv.real_of_pre p0 p1 p2 p3
  obtain ⟨a0, a1, a2, a3⟩ := hag c
  have I := Dkv.ins (m := m) (c := c) hq hk hv hd
  obtain ⟨r6, r7, keep⟩ := h c
  refine ⟨r6.trans ?_, r7.trans ?_, keep⟩
  · refine (Dkv.final_dk m c I).trans ((Dkv.dk_eq hq hk hv hd).trans ?_)
    refine Eq.trans ?_ (ReferenceIdeal.Read.val_main_v68_eq m' c).symm
    rw [a0, a1, a2, a3]
  · refine (Dkv.final_dv m c I).trans ((Dkv.dv_eq hq hk hd).trans ?_)
    refine Eq.trans ?_ (ReferenceIdeal.Read.val_main_v69_eq m' c).symm
    rw [a0, a1, a3]

/-- The kernel's gradients of both branches are the reference's, where cotangent, weight and up branch are finite. -/
theorem algebraic2 : algebraic_Kernel2Ideal_Reference2Ideal_pre_finite2 (hKernel2Ideal := Kernel2Ideal.Gen.facts) (hReference2Ideal := Reference2Ideal.Gen.facts)
    (hPre_finite2 := Ffn.Act.preFacts2) := by
  intro m g m' g' hpre hag
  refine ⟨fun c => Reference2Ideal.Read.val_main_v22 (F := Ideal) (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)) (m' ((c.tc : Thread Reference2Ideal.nD Reference2Ideal.τ).loc Reference2Ideal.main_arg3)),
    fun c => Reference2Ideal.Read.val_main_v25 (F := Ideal) (m' ((c.tc : Thread Reference2Ideal.nD Reference2Ideal.τ).loc Reference2Ideal.main_arg0)) (m' ((c.tc : Thread Reference2Ideal.nD Reference2Ideal.τ).loc Reference2Ideal.main_arg1)) (m' ((c.tc : Thread Reference2Ideal.nD Reference2Ideal.τ).loc Reference2Ideal.main_arg2)), ?_,
    (θ_run _ _ _).mono (fun r h c => ⟨(h c).1.trans (Reference2Ideal.Read.val_main_v22_eq _ _ _ _),
      (h c).2.1.trans (Reference2Ideal.Read.val_main_v25_eq _ _ _), (h c).2.2⟩) (Reference2Ideal.Value.run m' g')⟩
  refine (θ_run _ _ _).mono (fun r h c => ?_) (Kernel2Ideal.Value.run_blocks m g)
  obtain ⟨p0, p1, p2⟩ := hpre c
  obtain ⟨hx, hw, hb⟩ := Ffn.Act.fin_of_pre p0 p1 p2
  obtain ⟨a0, a1, a2, a3⟩ := hag c
  obtain ⟨e0, e1, keep⟩ := h c
  refine ⟨e0.trans ((Ffn.Act.final_gate m c).trans ?_), e1.trans ((Ffn.Act.final_up m c).trans ?_), keep⟩
  · rw [Kernel2Ideal.Gen.V_main_arg0 m c, Kernel2Ideal.Gen.V_main_arg2 m c, Kernel2Ideal.Gen.V_main_arg3 m c]
    refine (Ffn.Act.ref_gate _ _ _ _ hx hw hb).symm.trans ?_
    dsimp only
    rw [a0, a1, a2, a3]
  · rw [Kernel2Ideal.Gen.V_main_arg0 m c, Kernel2Ideal.Gen.V_main_arg2 m c]
    refine (Ffn.Act.ref_up _ _ _).symm.trans ?_
    dsimp only
    rw [a0, a1, a2]

/-- The kernel's gradient of a widening weight is the reference's. -/
theorem algebraic3 : algebraic_Kernel3Ideal_Reference3Ideal (hKernel3Ideal := Kernel3Ideal.Gen.facts) (hReference3Ideal := Reference3Ideal.Gen.facts) := by
  intro m g m' g' _ hag
  refine ⟨fun c => _, ?_, Reference3Ideal.Value.run m' g'⟩
  refine (θ_run _ _ _).mono (fun r h c => ?_) (Kernel3Ideal.Value.run_blocks m g)
  obtain ⟨a0, a1⟩ := hag c
  refine ⟨(h c).1.trans ((Ffn.Dw.final_dw m c).trans ?_), (h c).2⟩
  rw [Kernel3Ideal.Gen.V_main_arg0, Kernel3Ideal.Gen.V_main_arg1, ← a0, ← a1]
  exact (Ffn.Dw.ref_eq _ _).symm.trans (Reference3Ideal.Read.val_main_v10_eq _ _).symm

/-- The kernel's gradient of the narrowing weight is the reference's. -/
theorem algebraic4 : algebraic_Kernel4Ideal_Reference4Ideal (hKernel4Ideal := Kernel4Ideal.Gen.facts) (hReference4Ideal := Reference4Ideal.Gen.facts) := by
  intro m g m' g' _ hag
  refine ⟨fun c => _, ?_, Reference4Ideal.Value.run m' g'⟩
  refine (θ_run _ _ _).mono (fun r h c => ?_) (Kernel4Ideal.Value.run_blocks m g)
  obtain ⟨a0, a1⟩ := hag c
  refine ⟨(h c).1.trans ((Ffn.Dwd.final_dwd m c).trans ?_), (h c).2⟩
  rw [Kernel4Ideal.Gen.V_main_arg0, Kernel4Ideal.Gen.V_main_arg1, ← a0, ← a1]
  exact (Ffn.Dwd.ref_eq _ _).symm.trans (Reference4Ideal.Read.val_main_v13_eq _ _).symm

/-- The kernel's gradient of the feed-forward's input is the reference's. -/
theorem algebraic5 : algebraic_Kernel5Ideal_Reference5Ideal (hKernel5Ideal := Kernel5Ideal.Gen.facts) (hReference5Ideal := Reference5Ideal.Gen.facts) := by
  intro m g m' g' _ hag
  refine ⟨fun c => _, ?_, Reference5Ideal.Value.run m' g'⟩
  refine (θ_run _ _ _).mono (fun r h c => ?_) (Kernel5Ideal.Value.run_blocks m g)
  obtain ⟨a0, a1, a2, a3⟩ := hag c
  refine ⟨(h c).1.trans ((Ffn.Dn.final_dn m c).trans ?_), (h c).2⟩
  rw [Kernel5Ideal.Gen.V_main_arg0, Kernel5Ideal.Gen.V_main_arg1, Kernel5Ideal.Gen.V_main_arg2, Kernel5Ideal.Gen.V_main_arg3, ← a0, ← a1, ← a2, ← a3]
  exact (Ffn.Dn.ref_eq _ _ _ _).symm.trans (Reference5Ideal.Read.val_main_v17_eq _ _ _ _).symm

/-- The kernel's branches and gated product are the reference's. -/
theorem algebraic6 : algebraic_Kernel6Ideal_Reference6Ideal (hKernel6Ideal := Kernel6Ideal.Gen.facts) (hReference6Ideal := Reference6Ideal.Gen.facts) := by
  intro m g m' g' _ hag
  refine ⟨fun c => _, fun c => _, fun c => _, ?_, Reference6Ideal.Value.run m' g'⟩
  refine (θ_run _ _ _).mono (fun r h c => ?_) (Kernel6Ideal.Value.run_blocks m g)
  obtain ⟨a0, a1, a2⟩ := hag c
  refine ⟨(h c).1.trans ((Ffn.Up.final3 m c).trans ?_),
    (h c).2.1.trans ((Ffn.Up.final4 m c).trans ?_),
    (h c).2.2.1.trans ((Ffn.Up.final5 m c).trans ?_), (h c).2.2.2⟩
  · rw [Kernel6Ideal.Gen.V_main_arg0, Kernel6Ideal.Gen.V_main_arg1, ← a0, ← a1]
    exact (Ffn.Up.ref_gate _ _).symm.trans (Reference6Ideal.Read.val_main_v11_eq _ _).symm
  · rw [Kernel6Ideal.Gen.V_main_arg0, Kernel6Ideal.Gen.V_main_arg2, ← a0, ← a2]
    exact (Ffn.Up.ref_up _ _).symm.trans (Reference6Ideal.Read.val_main_v14_eq _ _).symm
  · rw [Kernel6Ideal.Gen.V_main_arg0, Kernel6Ideal.Gen.V_main_arg1, Kernel6Ideal.Gen.V_main_arg2, ← a0, ← a1, ← a2]
    exact (Ffn.Up.ref_gated _ _ _).symm.trans (Reference6Ideal.Read.val_main_v19_eq _ _ _).symm

/-- The kernel's output of the feed-forward block is the reference's. -/
theorem algebraic7 : algebraic_Kernel7Ideal_Reference7Ideal (hKernel7Ideal := Kernel7Ideal.Gen.facts) (hReference7Ideal := Reference7Ideal.Gen.facts) := by
  intro m g m' g' _ hag
  refine ⟨fun c => _, ?_, Reference7Ideal.Value.run m' g'⟩
  refine (θ_run _ _ _).mono (fun r h c => ?_) (Kernel7Ideal.Value.run_blocks m g)
  obtain ⟨a0, a1, a2⟩ := hag c
  refine ⟨(h c).1.trans ((Ffn.Down.final_down m c).trans ?_), (h c).2⟩
  rw [Kernel7Ideal.Gen.V_main_arg0, Kernel7Ideal.Gen.V_main_arg1, Kernel7Ideal.Gen.V_main_arg2, ← a0, ← a1, ← a2]
  exact (Ffn.Down.ref_eq _ _ _).symm.trans (Reference7Ideal.Read.val_main_v8_eq _ _ _).symm

/-- The kernel's gradient of a dilated projection's weight is the reference's. -/
theorem algebraic8 : algebraic_Kernel8Ideal_Reference8Ideal (hKernel8Ideal := Kernel8Ideal.Gen.facts) (hReference8Ideal := Reference8Ideal.Gen.facts) := by
  intro m g m' g' _ hag
  refine ⟨fun c => _, ?_, Reference8Ideal.Value.run m' g'⟩
  refine (θ_run _ _ _).mono (fun r h c => ?_) (Kernel8Ideal.Value.run_blocks m g)
  obtain ⟨a0, a1⟩ := hag c
  refine ⟨(h c).1.trans ((Plain.Dwdil.final m c).trans ?_), (h c).2⟩
  rw [Kernel8Ideal.Gen.V_main_arg0, Kernel8Ideal.Gen.V_main_arg1, ← a0, ← a1]
  exact (Plain.Dwdil.ref_eq _ _).symm.trans (Reference8Ideal.Read.val_main_v6_eq _ _).symm

/-- The kernel's gradient of a square weight is the reference's. -/
theorem algebraic9 : algebraic_Kernel9Ideal_Reference9Ideal (hKernel9Ideal := Kernel9Ideal.Gen.facts) (hReference9Ideal := Reference9Ideal.Gen.facts) := by
  intro m g m' g' _ hag
  refine ⟨fun c => _, ?_, Reference9Ideal.Value.run m' g'⟩
  refine (θ_run _ _ _).mono (fun r h c => ?_) (Kernel9Ideal.Value.run_blocks m g)
  obtain ⟨a0, a1⟩ := hag c
  refine ⟨(h c).1.trans ((Plain.Dwsq.final m c).trans ?_), (h c).2⟩
  rw [Kernel9Ideal.Gen.V_main_arg0, Kernel9Ideal.Gen.V_main_arg1, ← a0, ← a1]
  exact (Plain.Dwsq.ref_eq _ _).symm.trans (Reference9Ideal.Read.val_main_v6_eq _ _).symm

/-- The kernel's gradient of the dilated projections' input is the reference's. -/
theorem algebraic10 : algebraic_Kernel10Ideal_Reference10Ideal (hKernel10Ideal := Kernel10Ideal.Gen.facts) (hReference10Ideal := Reference10Ideal.Gen.facts) := by
  intro m g m' g' _ hag
  refine ⟨fun c => _, ?_, Reference10Ideal.Value.run m' g'⟩
  refine (θ_run _ _ _).mono (fun r h c => ?_) (Kernel10Ideal.Value.run_blocks m g)
  obtain ⟨a0, a1, a2, a3, a4, a5, a6⟩ := hag c
  refine ⟨(h c).1.trans ((Plain.DhDil.final m c).trans ?_), (h c).2⟩
  rw [Kernel10Ideal.Gen.V_main_arg0, Kernel10Ideal.Gen.V_main_arg1, Kernel10Ideal.Gen.V_main_arg2, Kernel10Ideal.Gen.V_main_arg3, Kernel10Ideal.Gen.V_main_arg4, Kernel10Ideal.Gen.V_main_arg5, Kernel10Ideal.Gen.V_main_arg6, ← a0, ← a1, ← a2, ← a3, ← a4, ← a5, ← a6]
  exact (Plain.DhDil.ref_eq _ _ _ _ _ _ _).symm.trans (Reference10Ideal.Read.val_main_v7_eq _ _ _ _ _ _ _).symm

/-- The kernel's gradient of the gates' input is the reference's. -/
theorem algebraic11 : algebraic_Kernel11Ideal_Reference11Ideal (hKernel11Ideal := Kernel11Ideal.Gen.facts) (hReference11Ideal := Reference11Ideal.Gen.facts) := by
  intro m g m' g' _ hag
  refine ⟨fun c => _, ?_, Reference11Ideal.Value.run m' g'⟩
  refine (θ_run _ _ _).mono (fun r h c => ?_) (Kernel11Ideal.Value.run_blocks m g)
  obtain ⟨a0, a1, a2, a3, a4⟩ := hag c
  refine ⟨(h c).1.trans ((Plain.DhGates.final m c).trans ?_), (h c).2⟩
  rw [Kernel11Ideal.Gen.V_main_arg0, Kernel11Ideal.Gen.V_main_arg1, Kernel11Ideal.Gen.V_main_arg2, Kernel11Ideal.Gen.V_main_arg3, Kernel11Ideal.Gen.V_main_arg4, ← a0, ← a1, ← a2, ← a3, ← a4]
  exact (Plain.DhGates.ref_eq _ _ _ _ _).symm.trans (Reference11Ideal.Read.val_main_v7_eq _ _ _ _ _).symm

/-- The kernel's gradients of the merged branches and of their gates are the reference's. -/
theorem algebraic12 : algebraic_Kernel12Ideal_Reference12Ideal (hKernel12Ideal := Kernel12Ideal.Gen.facts) (hReference12Ideal := Reference12Ideal.Gen.facts) := by
  intro m g m' g' _ hag
  refine ⟨fun c => _, fun c => _, fun c => _, fun c => _, ?_, Reference12Ideal.Value.run m' g'⟩
  refine (θ_run _ _ _).mono (fun r h c => ?_) (Kernel12Ideal.Value.run_blocks m g)
  obtain ⟨a0, a1, a2, a3, a4, a5⟩ := hag c
  refine ⟨(h c).1.trans ((Plain.Merge.final6 m c).trans ?_),
    (h c).2.1.trans ((Plain.Merge.final7 m c).trans ?_),
    (h c).2.2.1.trans ((Plain.Merge.final8 m c).trans ?_),
    (h c).2.2.2.1.trans ((Plain.Merge.final9 m c).trans ?_), (h c).2.2.2.2⟩
  · rw [Kernel12Ideal.Gen.V_main_arg0, Kernel12Ideal.Gen.V_main_arg1, ← a0, ← a1, ← a4]
    exact (Plain.Merge.ref_eq35 _ _ _).symm.trans (Reference12Ideal.Read.val_main_v35_eq _ _ _).symm
  · rw [Kernel12Ideal.Gen.V_main_arg0, Kernel12Ideal.Gen.V_main_arg1, ← a0, ← a1, ← a5]
    exact (Plain.Merge.ref_eq36 _ _ _).symm.trans (Reference12Ideal.Read.val_main_v36_eq _ _ _).symm
  · rw [Kernel12Ideal.Gen.V_main_arg0, Kernel12Ideal.Gen.V_main_arg1, Kernel12Ideal.Gen.V_main_arg2, ← a0, ← a1, ← a2, ← a4]
    exact (Plain.Merge.ref_eq37 _ _ _ _).symm.trans (Reference12Ideal.Read.val_main_v37_eq _ _ _ _).symm
  · rw [Kernel12Ideal.Gen.V_main_arg0, Kernel12Ideal.Gen.V_main_arg1, Kernel12Ideal.Gen.V_main_arg3, ← a0, ← a1, ← a3, ← a5]
    exact (Plain.Merge.ref_eq38 _ _ _ _).symm.trans (Reference12Ideal.Read.val_main_v38_eq _ _ _ _).symm

/-- The kernel's gradient of a square product's left factor is the reference's. -/
theorem algebraic13 : algebraic_Kernel13Ideal_Reference13Ideal (hKernel13Ideal := Kernel13Ideal.Gen.facts) (hReference13Ideal := Reference13Ideal.Gen.facts) := by
  intro m g m' g' _ hag
  refine ⟨fun c => _, ?_, Reference13Ideal.Value.run m' g'⟩
  refine (θ_run _ _ _).mono (fun r h c => ?_) (Kernel13Ideal.Value.run_blocks m g)
  obtain ⟨a0, a1⟩ := hag c
  refine ⟨(h c).1.trans ((Plain.Dn4.final m c).trans ?_), (h c).2⟩
  rw [Kernel13Ideal.Gen.V_main_arg0, Kernel13Ideal.Gen.V_main_arg1, ← a0, ← a1]
  exact (Plain.Dn4.ref_eq _ _).symm.trans (Reference13Ideal.Read.val_main_v4_eq _ _).symm

/-- The kernel's dilated projection is the reference's. -/
theorem algebraic14 : algebraic_Kernel14Ideal_Reference14Ideal (hKernel14Ideal := Kernel14Ideal.Gen.facts) (hReference14Ideal := Reference14Ideal.Gen.facts) := by
  intro m g m' g' _ hag
  refine ⟨fun c => _, ?_, Reference14Ideal.Value.run m' g'⟩
  refine (θ_run _ _ _).mono (fun r h c => ?_) (Kernel14Ideal.Value.run_blocks m g)
  obtain ⟨a0, a1⟩ := hag c
  refine ⟨(h c).1.trans ((Plain.ProjDil.final m c).trans ?_), (h c).2⟩
  rw [Kernel14Ideal.Gen.V_main_arg0, Kernel14Ideal.Gen.V_main_arg1, ← a0, ← a1]
  exact (Plain.ProjDil.ref_eq _ _).symm.trans (Reference14Ideal.Read.val_main_v3_eq _ _).symm

/-- The kernel's gate is the reference's. -/
theorem algebraic15 : algebraic_Kernel15Ideal_Reference15Ideal (hKernel15Ideal := Kernel15Ideal.Gen.facts) (hReference15Ideal := Reference15Ideal.Gen.facts) := by
  intro m g m' g' _ hag
  refine ⟨fun c => _, ?_, Reference15Ideal.Value.run m' g'⟩
  refine (θ_run _ _ _).mono (fun r h c => ?_) (Kernel15Ideal.Value.run_blocks m g)
  obtain ⟨a0, a1⟩ := hag c
  refine ⟨(h c).1.trans ((Plain.Gate.final m c).trans ?_), (h c).2⟩
  rw [Kernel15Ideal.Gen.V_main_arg0, Kernel15Ideal.Gen.V_main_arg1, ← a0, ← a1]
  exact (Plain.Gate.ref_eq _ _).symm.trans (Reference15Ideal.Read.val_main_v9_eq _ _).symm

/-- The kernel's residual after the output projection is the reference's. -/
theorem algebraic16 : algebraic_Kernel16Ideal_Reference16Ideal (hKernel16Ideal := Kernel16Ideal.Gen.facts) (hReference16Ideal := Reference16Ideal.Gen.facts) := by
  intro m g m' g' _ hag
  refine ⟨fun c => _, ?_, Reference16Ideal.Value.run m' g'⟩
  refine (θ_run _ _ _).mono (fun r h c => ?_) (Kernel16Ideal.Value.run_blocks m g)
  obtain ⟨a0, a1, a2⟩ := hag c
  refine ⟨(h c).1.trans ((Plain.OutProj.final m c).trans ?_), (h c).2⟩
  rw [Kernel16Ideal.Gen.V_main_arg0, Kernel16Ideal.Gen.V_main_arg1, Kernel16Ideal.Gen.V_main_arg2, ← a0, ← a1, ← a2]
  exact (Plain.OutProj.ref_eq _ _ _).symm.trans (Reference16Ideal.Read.val_main_v3_eq _ _ _).symm

/-- The kernel's query gradient is the textbook's, over real arguments. -/
theorem algebraic17 : algebraic_Kernel17Ideal_Reference17Ideal_pre_finite (hKernel17Ideal := Kernel17Ideal.Gen.facts)
    (hReference17Ideal := Reference17Ideal.Gen.facts) (hPre_finite := Dkv.preFacts) := by
  intro m g m' g' hpre hag
  refine ⟨fun c => Reference17Ideal.Value.res_main_v68 m' c, ?_, Reference17Ideal.Value.run m' g'⟩
  refine (θ_run _ _ _).mono (fun r h c => ?_) (Kernel17Ideal.Value.run_blocks m g)
  obtain ⟨p0, p1, p2, p3⟩ := hpre c
  obtain ⟨hq, hk, hv, hd⟩ := Dkv.real_of_pre p0 p1 p2 p3
  obtain ⟨a0, a1, a2, a3⟩ := hag c
  have I := Dq.ins (m := m) (c := c) hq hk hv hd
  obtain ⟨r6, keep⟩ := h c
  refine ⟨r6.trans ?_, keep⟩
  refine (Dq.final_dq m c I).trans ((Dq.dq_eq hq hk hv hd).trans ?_)
  refine Eq.trans ?_ (Reference17Ideal.Read.val_main_v68_eq m' c).symm
  rw [a0, a1, a2, a3]

/-- The kernel's attention and its rows' saved logarithms are the textbook's, over real queries and keys. -/
theorem algebraic18 : algebraic_Kernel18Ideal_Reference18Ideal_pre_finite18 (hKernel18Ideal := Kernel18Ideal.Gen.facts)
    (hReference18Ideal := Reference18Ideal.Gen.facts) (hPre_finite18 := Fwd.preFacts18) := by
  intro m g m' g' hpre hag
  refine ⟨fun c => Reference18Ideal.Value.res_main_v29 m' c, fun c => Reference18Ideal.Read.val_main_v46 (F := Ideal)
      (m' ((c.tc : Thread Reference18Ideal.nD Reference18Ideal.τ).loc Reference18Ideal.main_arg0))
      (m' ((c.tc : Thread Reference18Ideal.nD Reference18Ideal.τ).loc Reference18Ideal.main_arg1)), ?_,
    Reference18Ideal.Value.run m' g'⟩
  refine (θ_run _ _ _).mono (fun r h c => ?_) (Kernel18Ideal.Value.run_blocks m g)
  obtain ⟨p0, p1⟩ := hpre c
  obtain ⟨hq, hk⟩ := Fwd.real_of_pre p0 p1
  obtain ⟨a0, a1, a2⟩ := hag c
  have I : Fwd.Ins m c _ _ _ := ⟨fun i e => hq (ValueIdx.ix2 i e), fun i e => hk (ValueIdx.ix2 i e), fun i e => Ffn.rd2_of _ (ValueIdx.ix2 i e) rfl rfl⟩
  obtain ⟨r3, r4, keep⟩ := h c
  refine ⟨r3.trans ?_, r4.trans ?_, keep⟩
  · refine (Fwd.final_o m c I).trans ((Fwd.o_eq hq hk).trans ?_)
    refine Eq.trans ?_ (Reference18Ideal.Read.val_main_v29_eq m' c).symm
    rw [a0, a1, a2]
  · refine (Fwd.final_l m c I).trans ((Fwd.l_eq hq hk).trans ?_)
    dsimp only
    rw [a0, a1]

theorem algebraic19 : algebraic_Kernel19Ideal_Reference19Ideal (hKernel19Ideal := Kernel19Ideal.Gen.facts) (hReference19Ideal := Reference19Ideal.Gen.facts) := by
  intro m g m' g' _ hag
  refine ⟨fun c => _, fun c => _, fun c => _, ?_, Reference19Ideal.Value.run m' g'⟩
  refine (θ_run _ _ _).mono (fun r h c => ?_) (Kernel19Ideal.Value.run_blocks m g)
  obtain ⟨a0, a1, a2, a3, a4, a5⟩ := hag c
  refine ⟨(h c).1.trans ((Plain.MergeFwd.final6 m c).trans ?_),
    (h c).2.1.trans ((Plain.MergeFwd.final7 m c).trans ?_),
    (h c).2.2.1.trans ((Plain.MergeFwd.final8 m c).trans ?_), (h c).2.2.2⟩
  · rw [Kernel19Ideal.Gen.V_main_arg0, Kernel19Ideal.Gen.V_main_arg1, ← a0, ← a1]
    exact (Plain.MergeFwd.ref_eq11 _ _).symm.trans (Reference19Ideal.Read.val_main_v11_eq _ _).symm
  · rw [Kernel19Ideal.Gen.V_main_arg2, Kernel19Ideal.Gen.V_main_arg3, ← a2, ← a3]
    exact (Plain.MergeFwd.ref_eq12 _ _).symm.trans (Reference19Ideal.Read.val_main_v12_eq _ _).symm
  · rw [Kernel19Ideal.Gen.V_main_arg0, Kernel19Ideal.Gen.V_main_arg1, Kernel19Ideal.Gen.V_main_arg2, Kernel19Ideal.Gen.V_main_arg3, Kernel19Ideal.Gen.V_main_arg4, Kernel19Ideal.Gen.V_main_arg5, ← a0, ← a1, ← a2, ← a3, ← a4, ← a5]
    exact (Plain.MergeFwd.ref_eq13 _ _ _ _ _ _).symm.trans (Reference19Ideal.Read.val_main_v13_eq _ _ _ _ _ _).symm

theorem algebraic20 : algebraic_Kernel20Ideal_Reference20Ideal (hKernel20Ideal := Kernel20Ideal.Gen.facts) (hReference20Ideal := Reference20Ideal.Gen.facts) := by
  intro m g m' g' _ hag
  refine ⟨fun c => _, ?_, Reference20Ideal.Value.run m' g'⟩
  refine (θ_run _ _ _).mono (fun r h c => ?_) (Kernel20Ideal.Value.run_blocks m g)
  obtain ⟨a0, a1⟩ := hag c
  refine ⟨(h c).1.trans ((Plain.Dwbr.final m c).trans ?_), (h c).2⟩
  rw [Kernel20Ideal.Gen.V_main_arg0, Kernel20Ideal.Gen.V_main_arg1, ← a0, ← a1]
  exact (Plain.Dwbr.ref_eq _ _).symm.trans (Reference20Ideal.Read.val_main_v6_eq _ _).symm

theorem algebraic21 : algebraic_Kernel21Ideal_Reference21Ideal (hKernel21Ideal := Kernel21Ideal.Gen.facts) (hReference21Ideal := Reference21Ideal.Gen.facts) := by
  intro m g m' g' _ hag
  refine ⟨fun c => _, ?_, Reference21Ideal.Value.run m' g'⟩
  refine (θ_run _ _ _).mono (fun r h c => ?_) (Kernel21Ideal.Value.run_blocks m g)
  obtain ⟨a0, a1⟩ := hag c
  refine ⟨(h c).1.trans ((Plain.Dobr.final m c).trans ?_), (h c).2⟩
  rw [Kernel21Ideal.Gen.V_main_arg0, Kernel21Ideal.Gen.V_main_arg1, ← a0, ← a1]
  exact (Plain.Dobr.ref_eq _ _).symm.trans (Reference21Ideal.Read.val_main_v5_eq _ _).symm

theorem algebraic22 : algebraic_Kernel22Ideal_Reference22Ideal (hKernel22Ideal := Kernel22Ideal.Gen.facts) (hReference22Ideal := Reference22Ideal.Gen.facts) := by
  intro m g m' g' _ hag
  refine ⟨fun c => _, ?_, Reference22Ideal.Value.run m' g'⟩
  refine (θ_run _ _ _).mono (fun r h c => ?_) (Kernel22Ideal.Value.run_blocks m g)
  obtain ⟨a0, a1⟩ := hag c
  refine ⟨(h c).1.trans ((Plain.Latent.Fwd.final m c).trans ?_), (h c).2⟩
  rw [Kernel22Ideal.Gen.V_main_arg0, Kernel22Ideal.Gen.V_main_arg1, ← a0, ← a1]
  exact (Plain.Latent.Fwd.ref_eq _ _).symm.trans (Reference22Ideal.Read.val_main_v2_eq _ _).symm

theorem algebraic23 : algebraic_Kernel23Ideal_Reference23Ideal (hKernel23Ideal := Kernel23Ideal.Gen.facts) (hReference23Ideal := Reference23Ideal.Gen.facts) := by
  intro m g m' g' _ hag
  refine ⟨fun c => _, ?_, Reference23Ideal.Value.run m' g'⟩
  refine (θ_run _ _ _).mono (fun r h c => ?_) (Kernel23Ideal.Value.run_blocks m g)
  obtain ⟨a0, a1⟩ := hag c
  refine ⟨(h c).1.trans ((Plain.Dwa.final m c).trans ?_), (h c).2⟩
  rw [Kernel23Ideal.Gen.V_main_arg0, Kernel23Ideal.Gen.V_main_arg1, ← a0, ← a1]
  exact (Plain.Dwa.ref_eq _ _).symm.trans (Reference23Ideal.Read.val_main_v6_eq _ _).symm

theorem algebraic24 : algebraic_Kernel24Ideal_Reference24Ideal (hKernel24Ideal := Kernel24Ideal.Gen.facts) (hReference24Ideal := Reference24Ideal.Gen.facts) := by
  intro m g m' g' _ hag
  refine ⟨fun c => _, ?_, Reference24Ideal.Value.run m' g'⟩
  refine (θ_run _ _ _).mono (fun r h c => ?_) (Kernel24Ideal.Value.run_blocks m g)
  obtain ⟨a0, a1⟩ := hag c
  refine ⟨(h c).1.trans ((Plain.Latent.Dh.final m c).trans ?_), (h c).2⟩
  rw [Kernel24Ideal.Gen.V_main_arg0, Kernel24Ideal.Gen.V_main_arg1, ← a0, ← a1]
  exact (Plain.Latent.Dh.ref_eq _ _).symm.trans (Reference24Ideal.Read.val_main_v4_eq _ _).symm

theorem algebraic25 : algebraic_Kernel25Ideal_Reference25Ideal (hKernel25Ideal := Kernel25Ideal.Gen.facts) (hReference25Ideal := Reference25Ideal.Gen.facts) := by
  intro m g m' g' _ hag
  refine ⟨fun c => _, fun c => _, fun c => _, fun c => _, ?_, Reference25Ideal.Value.run m' g'⟩
  refine (θ_run _ _ _).mono (fun r h c => ?_) (Kernel25Ideal.Value.run_blocks m g)
  obtain ⟨a0, a1, a2, a3, a4, a5⟩ := hag c
  refine ⟨(h c).1.trans ((Plain.Loss.final6 m c).trans ?_),
    (h c).2.1.trans ((Plain.Loss.final7 m c).trans ?_),
    (h c).2.2.1.trans ((Plain.Loss.final8 m c).trans ?_),
    (h c).2.2.2.1.trans ((Plain.Loss.final9 m c).trans ?_), (h c).2.2.2.2⟩
  · rw [Kernel25Ideal.Gen.V_main_arg0, Kernel25Ideal.Gen.V_main_arg1, Kernel25Ideal.Gen.V_main_arg2, Kernel25Ideal.Gen.V_main_arg3, Kernel25Ideal.Gen.V_main_arg4, Kernel25Ideal.Gen.V_main_arg5, ← a0, ← a1, ← a2, ← a3, ← a4, ← a5]
    exact (Plain.Loss.ref_eq30 _ _ _ _ _ _).symm.trans (Reference25Ideal.Read.val_main_v30_eq _ _ _ _ _ _).symm
  · rw [Kernel25Ideal.Gen.V_main_arg0, Kernel25Ideal.Gen.V_main_arg1, Kernel25Ideal.Gen.V_main_arg2, Kernel25Ideal.Gen.V_main_arg3, Kernel25Ideal.Gen.V_main_arg4, Kernel25Ideal.Gen.V_main_arg5, ← a0, ← a1, ← a2, ← a3, ← a4, ← a5]
    exact (Plain.Loss.ref_eq34 _ _ _ _ _ _).symm.trans (Reference25Ideal.Read.val_main_v34_eq _ _ _ _ _ _).symm
  · rw [Kernel25Ideal.Gen.V_main_arg0, Kernel25Ideal.Gen.V_main_arg1, Kernel25Ideal.Gen.V_main_arg2, Kernel25Ideal.Gen.V_main_arg3, Kernel25Ideal.Gen.V_main_arg4, Kernel25Ideal.Gen.V_main_arg5, ← a0, ← a1, ← a2, ← a3, ← a4, ← a5]
    exact (Plain.Loss.ref_eq35 _ _ _ _ _ _).symm.trans (Reference25Ideal.Read.val_main_v35_eq _ _ _ _ _ _).symm
  · rw [Kernel25Ideal.Gen.V_main_arg0, Kernel25Ideal.Gen.V_main_arg1, Kernel25Ideal.Gen.V_main_arg2, Kernel25Ideal.Gen.V_main_arg3, Kernel25Ideal.Gen.V_main_arg4, Kernel25Ideal.Gen.V_main_arg5, ← a0, ← a1, ← a2, ← a3, ← a4, ← a5]
    exact (Plain.Loss.ref_eq47 _ _ _ _ _ _).symm.trans (Reference25Ideal.Read.val_main_v47_eq _ _ _ _ _ _).symm

theorem algebraic26 : algebraic_Kernel26Ideal_Reference26Ideal (hKernel26Ideal := Kernel26Ideal.Gen.facts) (hReference26Ideal := Reference26Ideal.Gen.facts) := by
  intro m g m' g' _ hag
  refine ⟨fun c => _, ?_, Reference26Ideal.Value.run m' g'⟩
  refine (θ_run _ _ _).mono (fun r h c => ?_) (Kernel26Ideal.Value.run_blocks m g)
  obtain ⟨a0, a1⟩ := hag c
  refine ⟨(h c).1.trans ((Plain.Up.Q.final m c).trans ?_), (h c).2⟩
  rw [Kernel26Ideal.Gen.V_main_arg0, Kernel26Ideal.Gen.V_main_arg1, ← a0, ← a1]
  exact (Plain.Up.Q.ref_eq _ _).symm.trans (Reference26Ideal.Read.val_main_v2_eq _ _).symm

theorem algebraic27 : algebraic_Kernel27Ideal_Reference27Ideal (hKernel27Ideal := Kernel27Ideal.Gen.facts) (hReference27Ideal := Reference27Ideal.Gen.facts) := by
  intro m g m' g' _ hag
  refine ⟨fun c => _, ?_, Reference27Ideal.Value.run m' g'⟩
  refine (θ_run _ _ _).mono (fun r h c => ?_) (Kernel27Ideal.Value.run_blocks m g)
  obtain ⟨a0, a1⟩ := hag c
  refine ⟨(h c).1.trans ((Plain.Up.Kv.final m c).trans ?_), (h c).2⟩
  rw [Kernel27Ideal.Gen.V_main_arg0, Kernel27Ideal.Gen.V_main_arg1, ← a0, ← a1]
  exact (Plain.Up.Kv.ref_eq _ _).symm.trans (Reference27Ideal.Read.val_main_v2_eq _ _).symm

theorem algebraic28 : algebraic_Kernel28Ideal_Reference28Ideal (hKernel28Ideal := Kernel28Ideal.Gen.facts) (hReference28Ideal := Reference28Ideal.Gen.facts) := by
  intro m g m' g' _ hag
  refine ⟨fun c => _, ?_, Reference28Ideal.Value.run m' g'⟩
  refine (θ_run _ _ _).mono (fun r h c => ?_) (Kernel28Ideal.Value.run_blocks m g)
  obtain ⟨a0, a1⟩ := hag c
  refine ⟨(h c).1.trans ((Plain.Dup.Q.final m c).trans ?_), (h c).2⟩
  rw [Kernel28Ideal.Gen.V_main_arg0, Kernel28Ideal.Gen.V_main_arg1, ← a0, ← a1]
  exact (Plain.Dup.Q.ref_eq _ _).symm.trans (Reference28Ideal.Read.val_main_v6_eq _ _).symm

theorem algebraic29 : algebraic_Kernel29Ideal_Reference29Ideal (hKernel29Ideal := Kernel29Ideal.Gen.facts) (hReference29Ideal := Reference29Ideal.Gen.facts) := by
  intro m g m' g' _ hag
  refine ⟨fun c => _, ?_, Reference29Ideal.Value.run m' g'⟩
  refine (θ_run _ _ _).mono (fun r h c => ?_) (Kernel29Ideal.Value.run_blocks m g)
  obtain ⟨a0, a1⟩ := hag c
  refine ⟨(h c).1.trans ((Plain.Dup.Kv.final m c).trans ?_), (h c).2⟩
  rw [Kernel29Ideal.Gen.V_main_arg0, Kernel29Ideal.Gen.V_main_arg1, ← a0, ← a1]
  exact (Plain.Dup.Kv.ref_eq _ _).symm.trans (Reference29Ideal.Read.val_main_v6_eq _ _).symm

theorem algebraic30 : algebraic_Kernel30Ideal_Reference30Ideal (hKernel30Ideal := Kernel30Ideal.Gen.facts) (hReference30Ideal := Reference30Ideal.Gen.facts) := by
  intro m g m' g' _ hag
  refine ⟨fun c => _, ?_, Reference30Ideal.Value.run m' g'⟩
  refine (θ_run _ _ _).mono (fun r h c => ?_) (Kernel30Ideal.Value.run_blocks m g)
  obtain ⟨a0, a1⟩ := hag c
  refine ⟨(h c).1.trans ((Plain.Up.Dq.final m c).trans ?_), (h c).2⟩
  rw [Kernel30Ideal.Gen.V_main_arg0, Kernel30Ideal.Gen.V_main_arg1, ← a0, ← a1]
  exact (Plain.Up.Dq.ref_eq _ _).symm.trans (Reference30Ideal.Read.val_main_v4_eq _ _).symm

theorem algebraic31 : algebraic_Kernel31Ideal_Reference31Ideal (hKernel31Ideal := Kernel31Ideal.Gen.facts) (hReference31Ideal := Reference31Ideal.Gen.facts) := by
  intro m g m' g' _ hag
  refine ⟨fun c => _, ?_, Reference31Ideal.Value.run m' g'⟩
  refine (θ_run _ _ _).mono (fun r h c => ?_) (Kernel31Ideal.Value.run_blocks m g)
  obtain ⟨a0, a1⟩ := hag c
  refine ⟨(h c).1.trans ((Plain.Up.Dkv.final m c).trans ?_), (h c).2⟩
  rw [Kernel31Ideal.Gen.V_main_arg0, Kernel31Ideal.Gen.V_main_arg1, ← a0, ← a1]
  exact (Plain.Up.Dkv.ref_eq _ _).symm.trans (Reference31Ideal.Read.val_main_v4_eq _ _).symm

theorem algebraic32 : algebraic_Kernel32Ideal_Reference32Ideal (hKernel32Ideal := Kernel32Ideal.Gen.facts) (hReference32Ideal := Reference32Ideal.Gen.facts) := by
  intro m g m' g' _ hag
  refine ⟨fun c => _, ?_, Reference32Ideal.Value.run m' g'⟩
  refine (θ_run _ _ _).mono (fun r h c => ?_) (Kernel32Ideal.Value.run_blocks m g)
  obtain ⟨a0, a1⟩ := hag c
  refine ⟨(h c).1.trans ((Plain.Dup.Pp.final m c).trans ?_), (h c).2⟩
  rw [Kernel32Ideal.Gen.V_main_arg0, Kernel32Ideal.Gen.V_main_arg1, ← a0, ← a1]
  exact (Plain.Dup.Pp.ref_eq _ _).symm.trans (Reference32Ideal.Read.val_main_v5_eq _ _).symm

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Kernel29.Gen.facts, Kernel29Ideal.Gen.facts, Reference29Ideal.Gen.facts,
    Kernel30.Gen.facts, Kernel30Ideal.Gen.facts, Reference30Ideal.Gen.facts,
    Kernel31.Gen.facts, Kernel31Ideal.Gen.facts, Reference31Ideal.Gen.facts,
    Kernel32.Gen.facts, Kernel32Ideal.Gen.facts, Reference32Ideal.Gen.facts,
    Dkv.preFacts, Ffn.Act.preFacts2, Fwd.preFacts18,
    fun m g _ => Kernel.Gen.frame m g, fun m g _ => KernelIdeal.Gen.frame m g, fun m g _ => KernelIdeal.Gen.frame m g,
    fun m g _ => (θ_run _ _ _).mono (fun r h => ⟨fun c => (h c).2.2, sem_eq_zero_of_no_sems (by decide) r.2⟩) (ReferenceIdeal.Value.run m g),
    fun m g _ => (θ_run _ _ _).mono (fun r h => ⟨fun c => (h c).2.2, sem_eq_zero_of_no_sems (by decide) r.2⟩) (ReferenceIdeal.Value.run m g),
    fun m g _ => Kernel2.Gen.frame m g, fun m g _ => Kernel2Ideal.Gen.frame m g, fun m g _ => Kernel2Ideal.Gen.frame m g,
    fun m g _ => (θ_run _ _ _).mono (fun r h => ⟨fun c => (h c).2.2, sem_eq_zero_of_no_sems (by decide) r.2⟩) (Reference2Ideal.Value.run m g),
    fun m g _ => (θ_run _ _ _).mono (fun r h => ⟨fun c => (h c).2.2, sem_eq_zero_of_no_sems (by decide) r.2⟩) (Reference2Ideal.Value.run m g),
    fun m g _ => Kernel3.Gen.frame m g, fun m g _ => Kernel3Ideal.Gen.frame m g,
    fun m g _ => (θ_run _ _ _).mono (fun r h => ⟨fun c => (h c).2, sem_eq_zero_of_no_sems (by decide) r.2⟩) (Reference3Ideal.Value.run m g),
    fun m g _ => Kernel4.Gen.frame m g, fun m g _ => Kernel4Ideal.Gen.frame m g,
    fun m g _ => (θ_run _ _ _).mono (fun r h => ⟨fun c => (h c).2, sem_eq_zero_of_no_sems (by decide) r.2⟩) (Reference4Ideal.Value.run m g),
    fun m g _ => Kernel5.Gen.frame m g, fun m g _ => Kernel5Ideal.Gen.frame m g,
    fun m g _ => (θ_run _ _ _).mono (fun r h => ⟨fun c => (h c).2, sem_eq_zero_of_no_sems (by decide) r.2⟩) (Reference5Ideal.Value.run m g),
    fun m g _ => Kernel6.Gen.frame m g, fun m g _ => Kernel6Ideal.Gen.frame m g,
    fun m g _ => (θ_run _ _ _).mono (fun r h => ⟨fun c => (h c).2.2.2, sem_eq_zero_of_no_sems (by decide) r.2⟩) (Reference6Ideal.Value.run m g),
    fun m g _ => Kernel7.Gen.frame m g, fun m g _ => Kernel7Ideal.Gen.frame m g,
    fun m g _ => (θ_run _ _ _).mono (fun r h => ⟨fun c => (h c).2, sem_eq_zero_of_no_sems (by decide) r.2⟩) (Reference7Ideal.Value.run m g),
    fun m g _ => Kernel8.Gen.frame m g, fun m g _ => Kernel8Ideal.Gen.frame m g,
    fun m g _ => (θ_run _ _ _).mono (fun r h => ⟨fun c => (h c).2, sem_eq_zero_of_no_sems (by decide) r.2⟩) (Reference8Ideal.Value.run m g),
    fun m g _ => Kernel9.Gen.frame m g, fun m g _ => Kernel9Ideal.Gen.frame m g,
    fun m g _ => (θ_run _ _ _).mono (fun r h => ⟨fun c => (h c).2, sem_eq_zero_of_no_sems (by decide) r.2⟩) (Reference9Ideal.Value.run m g),
    fun m g _ => Kernel10.Gen.frame m g, fun m g _ => Kernel10Ideal.Gen.frame m g,
    fun m g _ => (θ_run _ _ _).mono (fun r h => ⟨fun c => (h c).2, sem_eq_zero_of_no_sems (by decide) r.2⟩) (Reference10Ideal.Value.run m g),
    fun m g _ => Kernel11.Gen.frame m g, fun m g _ => Kernel11Ideal.Gen.frame m g,
    fun m g _ => (θ_run _ _ _).mono (fun r h => ⟨fun c => (h c).2, sem_eq_zero_of_no_sems (by decide) r.2⟩) (Reference11Ideal.Value.run m g),
    fun m g _ => Kernel12.Gen.frame m g, fun m g _ => Kernel12Ideal.Gen.frame m g,
    fun m g _ => (θ_run _ _ _).mono (fun r h => ⟨fun c => (h c).2.2.2.2, sem_eq_zero_of_no_sems (by decide) r.2⟩) (Reference12Ideal.Value.run m g),
    fun m g _ => Kernel13.Gen.frame m g, fun m g _ => Kernel13Ideal.Gen.frame m g,
    fun m g _ => (θ_run _ _ _).mono (fun r h => ⟨fun c => (h c).2, sem_eq_zero_of_no_sems (by decide) r.2⟩) (Reference13Ideal.Value.run m g),
    fun m g _ => Kernel14.Gen.frame m g, fun m g _ => Kernel14Ideal.Gen.frame m g,
    fun m g _ => (θ_run _ _ _).mono (fun r h => ⟨fun c => (h c).2, sem_eq_zero_of_no_sems (by decide) r.2⟩) (Reference14Ideal.Value.run m g),
    fun m g _ => Kernel15.Gen.frame m g, fun m g _ => Kernel15Ideal.Gen.frame m g,
    fun m g _ => (θ_run _ _ _).mono (fun r h => ⟨fun c => (h c).2, sem_eq_zero_of_no_sems (by decide) r.2⟩) (Reference15Ideal.Value.run m g),
    fun m g _ => Kernel16.Gen.frame m g, fun m g _ => Kernel16Ideal.Gen.frame m g,
    fun m g _ => (θ_run _ _ _).mono (fun r h => ⟨fun c => (h c).2, sem_eq_zero_of_no_sems (by decide) r.2⟩) (Reference16Ideal.Value.run m g),
    fun m g _ => Kernel17.Gen.frame m g, fun m g _ => Kernel17Ideal.Gen.frame m g, fun m g _ => Kernel17Ideal.Gen.frame m g,
    fun m g _ => (θ_run _ _ _).mono (fun r h => ⟨fun c => (h c).2, sem_eq_zero_of_no_sems (by decide) r.2⟩) (Reference17Ideal.Value.run m g),
    fun m g _ => (θ_run _ _ _).mono (fun r h => ⟨fun c => (h c).2, sem_eq_zero_of_no_sems (by decide) r.2⟩) (Reference17Ideal.Value.run m g),
    fun m g _ => Kernel18.Gen.frame m g, fun m g _ => Kernel18Ideal.Gen.frame m g, fun m g _ => Kernel18Ideal.Gen.frame m g,
    fun m g _ => (θ_run _ _ _).mono (fun r h => ⟨fun c => (h c).2.2, sem_eq_zero_of_no_sems (by decide) r.2⟩) (Reference18Ideal.Value.run m g),
    fun m g _ => (θ_run _ _ _).mono (fun r h => ⟨fun c => (h c).2.2, sem_eq_zero_of_no_sems (by decide) r.2⟩) (Reference18Ideal.Value.run m g),
    fun m g _ => Kernel19.Gen.frame m g, fun m g _ => Kernel19Ideal.Gen.frame m g,
    fun m g _ => (θ_run _ _ _).mono (fun r h => ⟨fun c => (h c).2.2.2, sem_eq_zero_of_no_sems (by decide) r.2⟩) (Reference19Ideal.Value.run m g),
    fun m g _ => Kernel20.Gen.frame m g, fun m g _ => Kernel20Ideal.Gen.frame m g,
    fun m g _ => (θ_run _ _ _).mono (fun r h => ⟨fun c => (h c).2, sem_eq_zero_of_no_sems (by decide) r.2⟩) (Reference20Ideal.Value.run m g),
    fun m g _ => Kernel21.Gen.frame m g, fun m g _ => Kernel21Ideal.Gen.frame m g,
    fun m g _ => (θ_run _ _ _).mono (fun r h => ⟨fun c => (h c).2, sem_eq_zero_of_no_sems (by decide) r.2⟩) (Reference21Ideal.Value.run m g),
    fun m g _ => Kernel22.Gen.frame m g, fun m g _ => Kernel22Ideal.Gen.frame m g,
    fun m g _ => (θ_run _ _ _).mono (fun r h => ⟨fun c => (h c).2, sem_eq_zero_of_no_sems (by decide) r.2⟩) (Reference22Ideal.Value.run m g),
    fun m g _ => Kernel23.Gen.frame m g, fun m g _ => Kernel23Ideal.Gen.frame m g,
    fun m g _ => (θ_run _ _ _).mono (fun r h => ⟨fun c => (h c).2, sem_eq_zero_of_no_sems (by decide) r.2⟩) (Reference23Ideal.Value.run m g),
    fun m g _ => Kernel24.Gen.frame m g, fun m g _ => Kernel24Ideal.Gen.frame m g,
    fun m g _ => (θ_run _ _ _).mono (fun r h => ⟨fun c => (h c).2, sem_eq_zero_of_no_sems (by decide) r.2⟩) (Reference24Ideal.Value.run m g),
    fun m g _ => Kernel25.Gen.frame m g, fun m g _ => Kernel25Ideal.Gen.frame m g,
    fun m g _ => (θ_run _ _ _).mono (fun r h => ⟨fun c => (h c).2.2.2.2, sem_eq_zero_of_no_sems (by decide) r.2⟩) (Reference25Ideal.Value.run m g),
    fun m g _ => Kernel26.Gen.frame m g, fun m g _ => Kernel26Ideal.Gen.frame m g,
    fun m g _ => (θ_run _ _ _).mono (fun r h => ⟨fun c => (h c).2, sem_eq_zero_of_no_sems (by decide) r.2⟩) (Reference26Ideal.Value.run m g),
    fun m g _ => Kernel27.Gen.frame m g, fun m g _ => Kernel27Ideal.Gen.frame m g,
    fun m g _ => (θ_run _ _ _).mono (fun r h => ⟨fun c => (h c).2, sem_eq_zero_of_no_sems (by decide) r.2⟩) (Reference27Ideal.Value.run m g),
    fun m g _ => Kernel28.Gen.frame m g, fun m g _ => Kernel28Ideal.Gen.frame m g,
    fun m g _ => (θ_run _ _ _).mono (fun r h => ⟨fun c => (h c).2, sem_eq_zero_of_no_sems (by decide) r.2⟩) (Reference28Ideal.Value.run m g),
    fun m g _ => Kernel29.Gen.frame m g, fun m g _ => Kernel29Ideal.Gen.frame m g,
    fun m g _ => (θ_run _ _ _).mono (fun r h => ⟨fun c => (h c).2, sem_eq_zero_of_no_sems (by decide) r.2⟩) (Reference29Ideal.Value.run m g),
    fun m g _ => Kernel30.Gen.frame m g, fun m g _ => Kernel30Ideal.Gen.frame m g,
    fun m g _ => (θ_run _ _ _).mono (fun r h => ⟨fun c => (h c).2, sem_eq_zero_of_no_sems (by decide) r.2⟩) (Reference30Ideal.Value.run m g),
    fun m g _ => Kernel31.Gen.frame m g, fun m g _ => Kernel31Ideal.Gen.frame m g,
    fun m g _ => (θ_run _ _ _).mono (fun r h => ⟨fun c => (h c).2, sem_eq_zero_of_no_sems (by decide) r.2⟩) (Reference31Ideal.Value.run m g),
    fun m g _ => Kernel32.Gen.frame m g, fun m g _ => Kernel32Ideal.Gen.frame m g,
    fun m g _ => (θ_run _ _ _).mono (fun r h => ⟨fun c => (h c).2, sem_eq_zero_of_no_sems (by decide) r.2⟩) (Reference32Ideal.Value.run m g),
    IdealRules.named_const.statement KernelIdeal.κ "mask" .f32 0xF149F2CA#32 ⊥ rfl,
    algebraic, trivial, algebraic2, trivial, algebraic3, trivial, algebraic4, trivial, algebraic5, trivial, algebraic6, trivial, algebraic7,
    trivial, algebraic8, trivial, algebraic9, trivial, algebraic10, trivial, algebraic11, trivial, algebraic12, trivial, algebraic13, trivial, algebraic14, trivial, algebraic15, trivial, algebraic16,
    IdealRules.named_const.statement Kernel17Ideal.κ "mask" .f32 0xF149F2CA#32 ⊥ rfl, algebraic17,
    IdealRules.named_const.statement Kernel18Ideal.κ "mask" .f32 0xF149F2CA#32 ⊥ rfl, algebraic18,
    trivial, algebraic19, trivial, algebraic20, trivial, algebraic21,
    trivial, algebraic22, trivial, algebraic23, trivial, algebraic24,
    trivial, algebraic25, trivial, algebraic26, trivial, algebraic27, trivial, algebraic28, trivial, algebraic29, trivial, algebraic30, trivial, algebraic31, trivial, algebraic32⟩

end Cert.Proof

end
